-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite_tokens [hPre_finite_tokens : Cert.Pre_finite_tokens.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite_tokens.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite_tokens [hPre_finite_tokens : Cert.Pre_finite_tokens.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite_tokens.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2))) = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite_gates [hPre_finite_gates : Cert.Pre_finite_gates.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite_gates.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1))) = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite_gates [hPre_finite_gates : Cert.Pre_finite_gates.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite_gates.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1))) = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_finite_latent_gates [hPre_finite_latent_gates : Cert.Pre_finite_latent_gates.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_finite_latent_gates.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1))) = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_finite_latent_gates [hPre_finite_latent_gates : Cert.Pre_finite_latent_gates.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_finite_latent_gates.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1))) = (fun _ => 1#1)

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel11Ideal_finite_decays [hPre_finite_decays : Cert.Pre_finite_decays.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_finite_decays.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1))) = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_finite_decays [hPre_finite_decays : Cert.Pre_finite_decays.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_finite_decays.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Kernel8Ideal_pre_finite_tokens [hKernel8Ideal : Cert.Kernel8Ideal.Facts] [hPre_finite_tokens : Cert.Pre_finite_tokens.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite_tokens m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Reference8Ideal_pre_finite_tokens [hReference8Ideal : Cert.Reference8Ideal.Facts] [hPre_finite_tokens : Cert.Pre_finite_tokens.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite_tokens m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Kernel9Ideal_pre_finite_gates [hKernel9Ideal : Cert.Kernel9Ideal.Facts] [hPre_finite_gates : Cert.Pre_finite_gates.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite_gates m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Reference9Ideal_pre_finite_gates [hReference9Ideal : Cert.Reference9Ideal.Facts] [hPre_finite_gates : Cert.Pre_finite_gates.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite_gates m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Kernel10Ideal_pre_finite_latent_gates [hKernel10Ideal : Cert.Kernel10Ideal.Facts] [hPre_finite_latent_gates : Cert.Pre_finite_latent_gates.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_finite_latent_gates m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Reference10Ideal_pre_finite_latent_gates [hReference10Ideal : Cert.Reference10Ideal.Facts] [hPre_finite_latent_gates : Cert.Pre_finite_latent_gates.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_finite_latent_gates m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Kernel11Ideal_pre_finite_decays [hKernel11Ideal : Cert.Kernel11Ideal.Facts] [hPre_finite_decays : Cert.Pre_finite_decays.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal_finite_decays m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Reference11Ideal_pre_finite_decays [hReference11Ideal : Cert.Reference11Ideal.Facts] [hPre_finite_decays : Cert.Pre_finite_decays.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_finite_decays m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def preserves_Kernel_KernelIdeal : Prop :=
  IdealRules.named_const.Statement Cert.KernelIdeal.κ "gelu_cubic" .bf16 0x3D37#16 ((12003091 / 268435456 : ℝ) : EReal)
  ∧ IdealRules.named_const.Statement Cert.KernelIdeal.κ "gelu_scale" .bf16 0x3F4C#16 ((6693141 / 8388608 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v20_0)) (v1 : (c : Dev Cert.Kernel2Ideal.nD) → Buf (Elt Ideal) ((c.tc : Thread Cert.Kernel2Ideal.nD Cert.Kernel2Ideal.τ).loc Cert.Kernel2Ideal.main_v20_1)) (v2 : (c : Dev Cert.Kernel2Ideal.nD) → Buf (Elt Ideal) ((c.tc : Thread Cert.Kernel2Ideal.nD Cert.Kernel2Ideal.τ).loc Cert.Kernel2Ideal.main_v20_2)) (v3 : (c : Dev Cert.Kernel2Ideal.nD) → Buf (Elt Ideal) ((c.tc : Thread Cert.Kernel2Ideal.nD Cert.Kernel2Ideal.τ).loc Cert.Kernel2Ideal.main_v20_3)) (v4 : (c : Dev Cert.Kernel2Ideal.nD) → Buf (Elt Ideal) ((c.tc : Thread Cert.Kernel2Ideal.nD Cert.Kernel2Ideal.τ).loc Cert.Kernel2Ideal.main_v20_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v20_0) = v0 c
          ∧ r.2.mem ((c.tc : Thread Cert.Kernel2Ideal.nD Cert.Kernel2Ideal.τ).loc Cert.Kernel2Ideal.main_v20_1) = v1 c
          ∧ r.2.mem ((c.tc : Thread Cert.Kernel2Ideal.nD Cert.Kernel2Ideal.τ).loc Cert.Kernel2Ideal.main_v20_2) = v2 c
          ∧ r.2.mem ((c.tc : Thread Cert.Kernel2Ideal.nD Cert.Kernel2Ideal.τ).loc Cert.Kernel2Ideal.main_v20_3) = v3 c
          ∧ r.2.mem ((c.tc : Thread Cert.Kernel2Ideal.nD Cert.Kernel2Ideal.τ).loc Cert.Kernel2Ideal.main_v20_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v58) = v0 c
          ∧ r.2.mem ((c.tc : Thread Cert.Reference2Ideal.nD Cert.Reference2Ideal.τ).loc Cert.Reference2Ideal.main_v59) = v1 c
          ∧ r.2.mem ((c.tc : Thread Cert.Reference2Ideal.nD Cert.Reference2Ideal.τ).loc Cert.Reference2Ideal.main_v61) = v2 c
          ∧ r.2.mem ((c.tc : Thread Cert.Reference2Ideal.nD Cert.Reference2Ideal.τ).loc Cert.Reference2Ideal.main_v62) = v3 c
          ∧ r.2.mem ((c.tc : Thread Cert.Reference2Ideal.nD Cert.Reference2Ideal.τ).loc Cert.Reference2Ideal.main_v63) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v17_0)) (v1 : (c : Dev Cert.Kernel3Ideal.nD) → Buf (Elt Ideal) ((c.tc : Thread Cert.Kernel3Ideal.nD Cert.Kernel3Ideal.τ).loc Cert.Kernel3Ideal.main_v17_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v17_0) = v0 c
          ∧ r.2.mem ((c.tc : Thread Cert.Kernel3Ideal.nD Cert.Kernel3Ideal.τ).loc Cert.Kernel3Ideal.main_v17_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v71) = v0 c
          ∧ r.2.mem ((c.tc : Thread Cert.Reference3Ideal.nD Cert.Reference3Ideal.τ).loc Cert.Reference3Ideal.main_v74) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v28_0)) (v1 : (c : Dev Cert.Kernel4Ideal.nD) → Buf (Elt Ideal) ((c.tc : Thread Cert.Kernel4Ideal.nD Cert.Kernel4Ideal.τ).loc Cert.Kernel4Ideal.main_v28_1)) (v2 : (c : Dev Cert.Kernel4Ideal.nD) → Buf (Elt Ideal) ((c.tc : Thread Cert.Kernel4Ideal.nD Cert.Kernel4Ideal.τ).loc Cert.Kernel4Ideal.main_v28_2)) (v3 : (c : Dev Cert.Kernel4Ideal.nD) → Buf (Elt Ideal) ((c.tc : Thread Cert.Kernel4Ideal.nD Cert.Kernel4Ideal.τ).loc Cert.Kernel4Ideal.main_v28_3)) (v4 : (c : Dev Cert.Kernel4Ideal.nD) → Buf (Elt Ideal) ((c.tc : Thread Cert.Kernel4Ideal.nD Cert.Kernel4Ideal.τ).loc Cert.Kernel4Ideal.main_v28_4)) (v5 : (c : Dev Cert.Kernel4Ideal.nD) → Buf (Elt Ideal) ((c.tc : Thread Cert.Kernel4Ideal.nD Cert.Kernel4Ideal.τ).loc Cert.Kernel4Ideal.main_v28_5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v28_0) = v0 c
          ∧ r.2.mem ((c.tc : Thread Cert.Kernel4Ideal.nD Cert.Kernel4Ideal.τ).loc Cert.Kernel4Ideal.main_v28_1) = v1 c
          ∧ r.2.mem ((c.tc : Thread Cert.Kernel4Ideal.nD Cert.Kernel4Ideal.τ).loc Cert.Kernel4Ideal.main_v28_2) = v2 c
          ∧ r.2.mem ((c.tc : Thread Cert.Kernel4Ideal.nD Cert.Kernel4Ideal.τ).loc Cert.Kernel4Ideal.main_v28_3) = v3 c
          ∧ r.2.mem ((c.tc : Thread Cert.Kernel4Ideal.nD Cert.Kernel4Ideal.τ).loc Cert.Kernel4Ideal.main_v28_4) = v4 c
          ∧ r.2.mem ((c.tc : Thread Cert.Kernel4Ideal.nD Cert.Kernel4Ideal.τ).loc Cert.Kernel4Ideal.main_v28_5) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v39) = v0 c
          ∧ r.2.mem ((c.tc : Thread Cert.Reference4Ideal.nD Cert.Reference4Ideal.τ).loc Cert.Reference4Ideal.main_v42) = v1 c
          ∧ r.2.mem ((c.tc : Thread Cert.Reference4Ideal.nD Cert.Reference4Ideal.τ).loc Cert.Reference4Ideal.main_v33) = v2 c
          ∧ r.2.mem ((c.tc : Thread Cert.Reference4Ideal.nD Cert.Reference4Ideal.τ).loc Cert.Reference4Ideal.main_v35) = v3 c
          ∧ r.2.mem ((c.tc : Thread Cert.Reference4Ideal.nD Cert.Reference4Ideal.τ).loc Cert.Reference4Ideal.main_v36) = v4 c
          ∧ r.2.mem ((c.tc : Thread Cert.Reference4Ideal.nD Cert.Reference4Ideal.τ).loc Cert.Reference4Ideal.main_v43) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v17_0)) (v1 : (c : Dev Cert.Kernel5Ideal.nD) → Buf (Elt Ideal) ((c.tc : Thread Cert.Kernel5Ideal.nD Cert.Kernel5Ideal.τ).loc Cert.Kernel5Ideal.main_v17_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v17_0) = v0 c
          ∧ r.2.mem ((c.tc : Thread Cert.Kernel5Ideal.nD Cert.Kernel5Ideal.τ).loc Cert.Kernel5Ideal.main_v17_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v36) = v0 c
          ∧ r.2.mem ((c.tc : Thread Cert.Reference5Ideal.nD Cert.Reference5Ideal.τ).loc Cert.Reference5Ideal.main_v38) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v26_0)) (v1 : (c : Dev Cert.Kernel6Ideal.nD) → Buf (Elt Ideal) ((c.tc : Thread Cert.Kernel6Ideal.nD Cert.Kernel6Ideal.τ).loc Cert.Kernel6Ideal.main_v26_1)) (v2 : (c : Dev Cert.Kernel6Ideal.nD) → Buf (Elt Ideal) ((c.tc : Thread Cert.Kernel6Ideal.nD Cert.Kernel6Ideal.τ).loc Cert.Kernel6Ideal.main_v26_2)) (v3 : (c : Dev Cert.Kernel6Ideal.nD) → Buf (Elt Ideal) ((c.tc : Thread Cert.Kernel6Ideal.nD Cert.Kernel6Ideal.τ).loc Cert.Kernel6Ideal.main_v26_3)) (v4 : (c : Dev Cert.Kernel6Ideal.nD) → Buf (Elt Ideal) ((c.tc : Thread Cert.Kernel6Ideal.nD Cert.Kernel6Ideal.τ).loc Cert.Kernel6Ideal.main_v26_4)) (v5 : (c : Dev Cert.Kernel6Ideal.nD) → Buf (Elt Ideal) ((c.tc : Thread Cert.Kernel6Ideal.nD Cert.Kernel6Ideal.τ).loc Cert.Kernel6Ideal.main_v26_5)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v26_0) = v0 c
          ∧ r.2.mem ((c.tc : Thread Cert.Kernel6Ideal.nD Cert.Kernel6Ideal.τ).loc Cert.Kernel6Ideal.main_v26_1) = v1 c
          ∧ r.2.mem ((c.tc : Thread Cert.Kernel6Ideal.nD Cert.Kernel6Ideal.τ).loc Cert.Kernel6Ideal.main_v26_2) = v2 c
          ∧ r.2.mem ((c.tc : Thread Cert.Kernel6Ideal.nD Cert.Kernel6Ideal.τ).loc Cert.Kernel6Ideal.main_v26_3) = v3 c
          ∧ r.2.mem ((c.tc : Thread Cert.Kernel6Ideal.nD Cert.Kernel6Ideal.τ).loc Cert.Kernel6Ideal.main_v26_4) = v4 c
          ∧ r.2.mem ((c.tc : Thread Cert.Kernel6Ideal.nD Cert.Kernel6Ideal.τ).loc Cert.Kernel6Ideal.main_v26_5) = v5 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v39) = v0 c
          ∧ r.2.mem ((c.tc : Thread Cert.Reference6Ideal.nD Cert.Reference6Ideal.τ).loc Cert.Reference6Ideal.main_v42) = v1 c
          ∧ r.2.mem ((c.tc : Thread Cert.Reference6Ideal.nD Cert.Reference6Ideal.τ).loc Cert.Reference6Ideal.main_v33) = v2 c
          ∧ r.2.mem ((c.tc : Thread Cert.Reference6Ideal.nD Cert.Reference6Ideal.τ).loc Cert.Reference6Ideal.main_v35) = v3 c
          ∧ r.2.mem ((c.tc : Thread Cert.Reference6Ideal.nD Cert.Reference6Ideal.τ).loc Cert.Reference6Ideal.main_v36) = v4 c
          ∧ r.2.mem ((c.tc : Thread Cert.Reference6Ideal.nD Cert.Reference6Ideal.τ).loc Cert.Reference6Ideal.main_v43) = v5 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v6)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v6) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v7) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal_pre_finite_tokens [hKernel8Ideal : Cert.Kernel8Ideal.Facts] [hReference8Ideal : Cert.Reference8Ideal.Facts] [hPre_finite_tokens : Cert.Pre_finite_tokens.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite_tokens m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v156) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal_pre_finite_gates [hKernel9Ideal : Cert.Kernel9Ideal.Facts] [hReference9Ideal : Cert.Reference9Ideal.Facts] [hPre_finite_gates : Cert.Pre_finite_gates.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite_gates m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v38) = v0 c
          ∧ r.2.mem ((c.tc : Thread Cert.Reference9Ideal.nD Cert.Reference9Ideal.τ).loc Cert.Reference9Ideal.main_v41) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal_pre_finite_latent_gates [hKernel10Ideal : Cert.Kernel10Ideal.Facts] [hReference10Ideal : Cert.Reference10Ideal.Facts] [hPre_finite_latent_gates : Cert.Pre_finite_latent_gates.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_finite_latent_gates m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v38) = v0 c
          ∧ r.2.mem ((c.tc : Thread Cert.Reference10Ideal.nD Cert.Reference10Ideal.τ).loc Cert.Reference10Ideal.main_v41) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal_pre_finite_decays [hKernel11Ideal : Cert.Kernel11Ideal.Facts] [hReference11Ideal : Cert.Reference11Ideal.Facts] [hPre_finite_decays : Cert.Pre_finite_decays.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal_finite_decays m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v45) = v0 c
          ∧ r.2.mem ((c.tc : Thread Cert.Reference11Ideal.nD Cert.Reference11Ideal.τ).loc Cert.Reference11Ideal.main_v48) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_finite_tokens : Cert.Pre_finite_tokens.Facts) (hPre_finite_gates : Cert.Pre_finite_gates.Facts) (hPre_finite_latent_gates : Cert.Pre_finite_latent_gates.Facts) (hPre_finite_decays : Cert.Pre_finite_decays.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_finite_tokens (hKernel8Ideal := hKernel8Ideal) (hPre_finite_tokens := hPre_finite_tokens)
    ∧ quiescent_Reference8Ideal (hReference8Ideal := hReference8Ideal)
    ∧ quiescent_Reference8Ideal_pre_finite_tokens (hReference8Ideal := hReference8Ideal) (hPre_finite_tokens := hPre_finite_tokens)
    ∧ quiescent_Kernel9 (hKernel9 := hKernel9)
    ∧ quiescent_Kernel9Ideal (hKernel9Ideal := hKernel9Ideal)
    ∧ quiescent_Kernel9Ideal_pre_finite_gates (hKernel9Ideal := hKernel9Ideal) (hPre_finite_gates := hPre_finite_gates)
    ∧ quiescent_Reference9Ideal (hReference9Ideal := hReference9Ideal)
    ∧ quiescent_Reference9Ideal_pre_finite_gates (hReference9Ideal := hReference9Ideal) (hPre_finite_gates := hPre_finite_gates)
    ∧ quiescent_Kernel10 (hKernel10 := hKernel10)
    ∧ quiescent_Kernel10Ideal (hKernel10Ideal := hKernel10Ideal)
    ∧ quiescent_Kernel10Ideal_pre_finite_latent_gates (hKernel10Ideal := hKernel10Ideal) (hPre_finite_latent_gates := hPre_finite_latent_gates)
    ∧ quiescent_Reference10Ideal (hReference10Ideal := hReference10Ideal)
    ∧ quiescent_Reference10Ideal_pre_finite_latent_gates (hReference10Ideal := hReference10Ideal) (hPre_finite_latent_gates := hPre_finite_latent_gates)
    ∧ quiescent_Kernel11 (hKernel11 := hKernel11)
    ∧ quiescent_Kernel11Ideal (hKernel11Ideal := hKernel11Ideal)
    ∧ quiescent_Kernel11Ideal_pre_finite_decays (hKernel11Ideal := hKernel11Ideal) (hPre_finite_decays := hPre_finite_decays)
    ∧ quiescent_Reference11Ideal (hReference11Ideal := hReference11Ideal)
    ∧ quiescent_Reference11Ideal_pre_finite_decays (hReference11Ideal := hReference11Ideal) (hPre_finite_decays := hPre_finite_decays)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_finite_tokens (hKernel8Ideal := hKernel8Ideal) (hReference8Ideal := hReference8Ideal) (hPre_finite_tokens := hPre_finite_tokens)
    ∧ preserves_Kernel9_Kernel9Ideal
    ∧ algebraic_Kernel9Ideal_Reference9Ideal_pre_finite_gates (hKernel9Ideal := hKernel9Ideal) (hReference9Ideal := hReference9Ideal) (hPre_finite_gates := hPre_finite_gates)
    ∧ preserves_Kernel10_Kernel10Ideal
    ∧ algebraic_Kernel10Ideal_Reference10Ideal_pre_finite_latent_gates (hKernel10Ideal := hKernel10Ideal) (hReference10Ideal := hReference10Ideal) (hPre_finite_latent_gates := hPre_finite_latent_gates)
    ∧ preserves_Kernel11_Kernel11Ideal
    ∧ algebraic_Kernel11Ideal_Reference11Ideal_pre_finite_decays (hKernel11Ideal := hKernel11Ideal) (hReference11Ideal := hReference11Ideal) (hPre_finite_decays := hPre_finite_decays)
-- ==== Pre_finite_decays.lean ====
abbrev S16x2304x128 : Shape := ⟨3, ![16, 2304, 128]⟩
abbrev S8x128 : Shape := ⟨2, ![8, 128]⟩
abbrev S1x8 : Shape := ⟨2, ![1, 8]⟩
abbrev S8 : Shape := ⟨1, ![8]⟩
abbrev S16x2304x8 : Shape := ⟨3, ![16, 2304, 8]⟩
abbrev S1x1x8 : Shape := ⟨3, ![1, 1, 8]⟩
abbrev S_ : Shape := ⟨0, ![]⟩

class Facts : Prop where
  slices_S8x128_S1x8_0_0 : S8x128.Slices ![0, 0] S1x8
  shapeCasts_S1x8_S8 : S1x8.ShapeCasts S8
  slices_S16x2304x128_S16x2304x8_0_0_0 : S16x2304x128.Slices ![0, 0, 0] S16x2304x8
  slices_S8x128_S1x8_1_0 : S8x128.Slices ![1, 0] S1x8
  bcast_S8_S1x1x8_2 : S8.BroadcastsInDim S1x1x8 (![2] : Fin 1 → Fin S1x1x8.rank)
  bcast_S1x1x8_S16x2304x8_0_1_2 : S1x1x8.BroadcastsInDim S16x2304x8 (![0, 1, 2] : Fin 3 → Fin S16x2304x8.rank)
  bcast_S_S16x2304x8 : S_.BroadcastsInDim S16x2304x8 (![] : Fin 0 → Fin S16x2304x8.rank)

variable [Facts]

def fn_softplus {F : FTy → Type} [FloatOps F] (arg0 : FVec F S16x2304x8 .f32) : FVec F S16x2304x8 .f32 :=
  let cst : FVec F S_ .f32 := constant S_ .f32 0x00000000#32
  let v0 : FVec F S16x2304x8 .f32 := broadcastInDim S16x2304x8 ![] bcast_S_S16x2304x8 cst
  let v1 : FVec F S16x2304x8 .f32 := maximumf arg0 v0
  let v2 : FVec F S16x2304x8 .f32 := broadcastInDim S16x2304x8 ![] bcast_S_S16x2304x8 cst
  let v3 : FVec F S16x2304x8 .f32 := subf arg0 v2
  let v4 : IVec S16x2304x8 1 := cmpf .une v3 v3
  let v5 : FVec F S16x2304x8 .f32 := broadcastInDim S16x2304x8 ![] bcast_S_S16x2304x8 cst
  let v6 : FVec F S16x2304x8 .f32 := addf arg0 v5
  let v7 : FVec F S16x2304x8 .f32 := Host.absf v3
  let v8 : FVec F S16x2304x8 .f32 := Host.negf v7
  let v9 : FVec F S16x2304x8 .f32 := Host.exp v8
  let v10 : FVec F S16x2304x8 .f32 := Host.log1p v9
  let v11 : FVec F S16x2304x8 .f32 := addf v1 v10
  let v12 : FVec F S16x2304x8 .f32 := select v4 v6 v11
  v12

def fn {F : FTy → Type} [FloatOps F] (main_arg0 : FVec F S16x2304x128 .f32) (main_arg1 : FVec F S8x128 .f32) : IVec S16x2304x8 1 :=
  let main_v0 : FVec F S1x8 .f32 := (extractStridedSlice S1x8 ![0, 0] · slices_S8x128_S1x8_0_0) main_arg1
  let main_v1 : FVec F S8 .f32 := shapeCast S8 main_v0 shapeCasts_S1x8_S8
  let main_v2 : FVec F S8 .f32 := Host.exp main_v1
  let main_v3 : FVec F S16x2304x8 .f32 := (extractStridedSlice S16x2304x8 ![0, 0, 0] · slices_S16x2304x128_S16x2304x8_0_0_0) main_arg0
  let main_v4 : FVec F S1x8 .f32 := (extractStridedSlice S1x8 ![1, 0] · slices_S8x128_S1x8_1_0) main_arg1
  let main_v5 : FVec F S8 .f32 := shapeCast S8 main_v4 shapeCasts_S1x8_S8
  let main_v6 : FVec F S1x1x8 .f32 := broadcastInDim S1x1x8 ![2] bcast_S8_S1x1x8_2 main_v5
  let main_v7 : FVec F S16x2304x8 .f32 := broadcastInDim S16x2304x8 ![0, 1, 2] bcast_S1x1x8_S16x2304x8_0_1_2 main_v6
  let main_v8 : FVec F S16x2304x8 .f32 := addf main_v3 main_v7
  let main_v9 : FVec F S16x2304x8 .f32 := fn_softplus (F := F) main_v8
  let main_v10 : FVec F S1x1x8 .f32 := broadcastInDim S1x1x8 ![2] bcast_S8_S1x1x8_2 main_v2
  let main_v11 : FVec F S16x2304x8 .f32 := broadcastInDim S16x2304x8 ![0, 1, 2] bcast_S1x1x8_S16x2304x8_0_1_2 main_v10
  let main_v12 : FVec F S16x2304x8 .f32 := mulf main_v11 main_v9
  let main_v13 : FVec F S16x2304x8 .f32 := Host.absf main_v12
  let main_cst : FVec F S_ .f32 := constant S_ .f32 0x7F800000#32
  let main_v14 : FVec F S16x2304x8 .f32 := broadcastInDim S16x2304x8 ![] bcast_S_S16x2304x8 main_cst
  let main_v15 : IVec S16x2304x8 1 := cmpf .olt main_v13 main_v14
  main_v15
-- ==== Pre_finite_gates.lean ====
abbrev S16x256x128 : Shape := ⟨3, ![16, 256, 128]⟩
abbrev S8x128 : Shape := ⟨2, ![8, 128]⟩
abbrev S16x256x8 : Shape := ⟨3, ![16, 256, 8]⟩
abbrev S1x8 : Shape := ⟨2, ![1, 8]⟩
abbrev S8 : Shape := ⟨1, ![8]⟩
abbrev S1x1x8 : Shape := ⟨3, ![1, 1, 8]⟩
abbrev S_ : Shape := ⟨0, ![]⟩

class Facts : Prop where
  slices_S16x256x128_S16x256x8_0_0_0 : S16x256x128.Slices ![0, 0, 0] S16x256x8
  slices_S8x128_S1x8_0_0 : S8x128.Slices ![0, 0] S1x8
  shapeCasts_S1x8_S8 : S1x8.ShapeCasts S8
  bcast_S8_S1x1x8_2 : S8.BroadcastsInDim S1x1x8 (![2] : Fin 1 → Fin S1x1x8.rank)
  bcast_S1x1x8_S16x256x8_0_1_2 : S1x1x8.BroadcastsInDim S16x256x8 (![0, 1, 2] : Fin 3 → Fin S16x256x8.rank)
  bcast_S_S16x256x8 : S_.BroadcastsInDim S16x256x8 (![] : Fin 0 → Fin S16x256x8.rank)
  slices_S16x256x128_S16x256x8_0_0_8 : S16x256x128.Slices ![0, 0, 8] S16x256x8
  slices_S8x128_S1x8_1_8 : S8x128.Slices ![1, 8] S1x8

variable [Facts]

def fn {F : FTy → Type} [FloatOps F] (main_arg0 : FVec F S16x256x128 .f32) (main_arg1 : FVec F S8x128 .f32) : IVec S16x256x8 1 :=
  let main_v0 : FVec F S16x256x8 .f32 := (extractStridedSlice S16x256x8 ![0, 0, 0] · slices_S16x256x128_S16x256x8_0_0_0) main_arg0
  let main_v1 : FVec F S1x8 .f32 := (extractStridedSlice S1x8 ![0, 0] · slices_S8x128_S1x8_0_0) main_arg1
  let main_v2 : FVec F S8 .f32 := shapeCast S8 main_v1 shapeCasts_S1x8_S8
  let main_v3 : FVec F S1x1x8 .f32 := broadcastInDim S1x1x8 ![2] bcast_S8_S1x1x8_2 main_v2
  let main_v4 : FVec F S16x256x8 .f32 := broadcastInDim S16x256x8 ![0, 1, 2] bcast_S1x1x8_S16x256x8_0_1_2 main_v3
  let main_v5 : FVec F S16x256x8 .f32 := addf main_v0 main_v4
  let main_v6 : FVec F S16x256x8 .f32 := Host.absf main_v5
  let main_cst : FVec F S_ .f32 := constant S_ .f32 0x7F800000#32
  let main_v7 : FVec F S16x256x8 .f32 := broadcastInDim S16x256x8 ![] bcast_S_S16x256x8 main_cst
  let main_v8 : IVec S16x256x8 1 := cmpf .olt main_v6 main_v7
  let main_v9 : FVec F S16x256x8 .f32 := (extractStridedSlice S16x256x8 ![0, 0, 8] · slices_S16x256x128_S16x256x8_0_0_8) main_arg0
  let main_v10 : FVec F S1x8 .f32 := (extractStridedSlice S1x8 ![1, 8] · slices_S8x128_S1x8_1_8) main_arg1
  let main_v11 : FVec F S8 .f32 := shapeCast S8 main_v10 shapeCasts_S1x8_S8
  let main_v12 : FVec F S1x1x8 .f32 := broadcastInDim S1x1x8 ![2] bcast_S8_S1x1x8_2 main_v11
  let main_v13 : FVec F S16x256x8 .f32 := broadcastInDim S16x256x8 ![0, 1, 2] bcast_S1x1x8_S16x256x8_0_1_2 main_v12
  let main_v14 : FVec F S16x256x8 .f32 := addf main_v9 main_v13
  let main_v15 : FVec F S16x256x8 .f32 := Host.absf main_v14
  let main_cst_0 : FVec F S_ .f32 := constant S_ .f32 0x7F800000#32
  let main_v16 : FVec F S16x256x8 .f32 := broadcastInDim S16x256x8 ![] bcast_S_S16x256x8 main_cst_0
  let main_v17 : IVec S16x256x8 1 := cmpf .olt main_v15 main_v16
  let main_v18 : IVec S16x256x8 1 := andi main_v8 main_v17
  main_v18
-- ==== Pre_finite_latent_gates.lean ====
abbrev S16x2048x128 : Shape := ⟨3, ![16, 2048, 128]⟩
abbrev S8x128 : Shape := ⟨2, ![8, 128]⟩
abbrev S16x2048x8 : Shape := ⟨3, ![16, 2048, 8]⟩
abbrev S1x8 : Shape := ⟨2, ![1, 8]⟩
abbrev S8 : Shape := ⟨1, ![8]⟩
abbrev S1x1x8 : Shape := ⟨3, ![1, 1, 8]⟩
abbrev S_ : Shape := ⟨0, ![]⟩

class Facts : Prop where
  slices_S16x2048x128_S16x2048x8_0_0_0 : S16x2048x128.Slices ![0, 0, 0] S16x2048x8
  slices_S8x128_S1x8_0_0 : S8x128.Slices ![0, 0] S1x8
  shapeCasts_S1x8_S8 : S1x8.ShapeCasts S8
  bcast_S8_S1x1x8_2 : S8.BroadcastsInDim S1x1x8 (![2] : Fin 1 → Fin S1x1x8.rank)
  bcast_S1x1x8_S16x2048x8_0_1_2 : S1x1x8.BroadcastsInDim S16x2048x8 (![0, 1, 2] : Fin 3 → Fin S16x2048x8.rank)
  bcast_S_S16x2048x8 : S_.BroadcastsInDim S16x2048x8 (![] : Fin 0 → Fin S16x2048x8.rank)
  slices_S16x2048x128_S16x2048x8_0_0_8 : S16x2048x128.Slices ![0, 0, 8] S16x2048x8
  slices_S8x128_S1x8_1_8 : S8x128.Slices ![1, 8] S1x8

variable [Facts]

def fn {F : FTy → Type} [FloatOps F] (main_arg0 : FVec F S16x2048x128 .f32) (main_arg1 : FVec F S8x128 .f32) : IVec S16x2048x8 1 :=
  let main_v0 : FVec F S16x2048x8 .f32 := (extractStridedSlice S16x2048x8 ![0, 0, 0] · slices_S16x2048x128_S16x2048x8_0_0_0) main_arg0
  let main_v1 : FVec F S1x8 .f32 := (extractStridedSlice S1x8 ![0, 0] · slices_S8x128_S1x8_0_0) main_arg1
  let main_v2 : FVec F S8 .f32 := shapeCast S8 main_v1 shapeCasts_S1x8_S8
  let main_v3 : FVec F S1x1x8 .f32 := broadcastInDim S1x1x8 ![2] bcast_S8_S1x1x8_2 main_v2
  let main_v4 : FVec F S16x2048x8 .f32 := broadcastInDim S16x2048x8 ![0, 1, 2] bcast_S1x1x8_S16x2048x8_0_1_2 main_v3
  let main_v5 : FVec F S16x2048x8 .f32 := addf main_v0 main_v4
  let main_v6 : FVec F S16x2048x8 .f32 := Host.absf main_v5
  let main_cst : FVec F S_ .f32 := constant S_ .f32 0x7F800000#32
  let main_v7 : FVec F S16x2048x8 .f32 := broadcastInDim S16x2048x8 ![] bcast_S_S16x2048x8 main_cst
  let main_v8 : IVec S16x2048x8 1 := cmpf .olt main_v6 main_v7
  let main_v9 : FVec F S16x2048x8 .f32 := (extractStridedSlice S16x2048x8 ![0, 0, 8] · slices_S16x2048x128_S16x2048x8_0_0_8) main_arg0
  let main_v10 : FVec F S1x8 .f32 := (extractStridedSlice S1x8 ![1, 8] · slices_S8x128_S1x8_1_8) main_arg1
  let main_v11 : FVec F S8 .f32 := shapeCast S8 main_v10 shapeCasts_S1x8_S8
  let main_v12 : FVec F S1x1x8 .f32 := broadcastInDim S1x1x8 ![2] bcast_S8_S1x1x8_2 main_v11
  let main_v13 : FVec F S16x2048x8 .f32 := broadcastInDim S16x2048x8 ![0, 1, 2] bcast_S1x1x8_S16x2048x8_0_1_2 main_v12
  let main_v14 : FVec F S16x2048x8 .f32 := addf main_v9 main_v13
  let main_v15 : FVec F S16x2048x8 .f32 := Host.absf main_v14
  let main_cst_0 : FVec F S_ .f32 := constant S_ .f32 0x7F800000#32
  let main_v16 : FVec F S16x2048x8 .f32 := broadcastInDim S16x2048x8 ![] bcast_S_S16x2048x8 main_cst_0
  let main_v17 : IVec S16x2048x8 1 := cmpf .olt main_v15 main_v16
  let main_v18 : IVec S16x2048x8 1 := andi main_v8 main_v17
  main_v18
-- ==== Pre_finite_tokens.lean ====
abbrev S32768x512 : Shape := ⟨2, ![32768, 512]⟩
abbrev S4x128x128 : Shape := ⟨3, ![4, 128, 128]⟩
abbrev S512 : Shape := ⟨1, ![512]⟩
abbrev S_ : Shape := ⟨0, ![]⟩

class Facts : Prop where
  bcast_S_S32768x512 : S_.BroadcastsInDim S32768x512 (![] : Fin 0 → Fin S32768x512.rank)

variable [Facts]

def fn {F : FTy → Type} [FloatOps F] (main_arg0 : FVec F S32768x512 .f32) (main_arg1 : FVec F S4x128x128 .f32) (main_arg2 : FVec F S512 .f32) : IVec S32768x512 1 :=
  let main_v0 : FVec F S32768x512 .f32 := Host.absf main_arg0
  let main_cst : FVec F S_ .f32 := constant S_ .f32 0x7F800000#32
  let main_v1 : FVec F S32768x512 .f32 := broadcastInDim S32768x512 ![] bcast_S_S32768x512 main_cst
  let main_v2 : IVec S32768x512 1 := cmpf .olt main_v0 main_v1
  main_v2
-- ==== Kernel.lean ====
abbrev S32768x1024 : Shape := ⟨2, ![32768, 1024]⟩
abbrev S16384x1024 : Shape := ⟨2, ![16384, 1024]⟩
abbrev S8x128x32768 : Shape := ⟨3, ![8, 128, 32768]⟩
abbrev S24x6144 : Shape := ⟨2, ![24, 6144]⟩
abbrev S1024 : Shape := ⟨1, ![1024]⟩
abbrev S24x6x1024 : Shape := ⟨3, ![24, 6, 1024]⟩
abbrev S1x6x1024 : Shape := ⟨3, ![1, 6, 1024]⟩
abbrev S6x1024 : Shape := ⟨2, ![6, 1024]⟩
abbrev S16x6x1024 : Shape := ⟨3, ![16, 6, 1024]⟩
abbrev S16x1x6x1024 : Shape := ⟨4, ![16, 1, 6, 1024]⟩
abbrev S16x2x6x1024 : Shape := ⟨4, ![16, 2, 6, 1024]⟩
abbrev S192x1x1024 : Shape := ⟨3, ![192, 1, 1024]⟩
abbrev S8x2048x1024 : Shape := ⟨3, ![8, 2048, 1024]⟩
abbrev S8x1024x2048 : Shape := ⟨3, ![8, 1024, 2048]⟩
abbrev S1x1024 : Shape := ⟨2, ![1, 1024]⟩
abbrev S512x1024 : Shape := ⟨2, ![512, 1024]⟩
abbrev S8x128x512 : Shape := ⟨3, ![8, 128, 512]⟩
abbrev S1x1x1024 : Shape := ⟨3, ![1, 1, 1024]⟩
abbrev S1024x512 : Shape := ⟨2, ![1024, 512]⟩
abbrev S2x2048x512 : Shape := ⟨3, ![2, 2048, 512]⟩
abbrev S3x2048x1024 : Shape := ⟨3, ![3, 2048, 1024]⟩
abbrev S3x1024x2048 : Shape := ⟨3, ![3, 1024, 2048]⟩
abbrev S3 : Shape := ⟨1, ![3]⟩
abbrev S1 : Shape := ⟨1, ![1]⟩
abbrev S_ : Shape := ⟨0, ![]⟩
abbrev S1x2048x1024 : Shape := ⟨3, ![1, 2048, 1024]⟩
abbrev S2048x1024 : Shape := ⟨2, ![2048, 1024]⟩
abbrev S1x1024x2048 : Shape := ⟨3, ![1, 1024, 2048]⟩
abbrev S1024x2048 : Shape := ⟨2, ![1024, 2048]⟩
abbrev S1x256x1024 : Shape := ⟨3, ![1, 256, 1024]⟩
abbrev S256x1024 : Shape := ⟨2, ![256, 1024]⟩
abbrev S256x512 : Shape := ⟨2, ![256, 512]⟩
abbrev S1x16x512 : Shape := ⟨3, ![1, 16, 512]⟩
abbrev S16x512 : Shape := ⟨2, ![16, 512]⟩
abbrev S1x512 : Shape := ⟨2, ![1, 512]⟩
abbrev S128x512 : Shape := ⟨2, ![128, 512]⟩
abbrev S1x128x512 : Shape := ⟨3, ![1, 128, 512]⟩
abbrev S1x2048x512 : Shape := ⟨3, ![1, 2048, 512]⟩
abbrev S2048x512 : Shape := ⟨2, ![2048, 512]⟩
abbrev S1024x256 : Shape := ⟨2, ![1024, 256]⟩
abbrev S256 : Shape := ⟨1, ![256]⟩
abbrev S256x1 : Shape := ⟨2, ![256, 1]⟩

abbrev nBuf : Space → Nat
  | .hbm => 25
  | .vmem => 23
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .f32⟩
  | .hbm, ⟨2, _⟩ => ⟨S16384x1024, .f32⟩
  | .hbm, ⟨3, _⟩ => ⟨S16384x1024, .f32⟩
  | .hbm, ⟨4, _⟩ => ⟨S8x128x32768, .bf16⟩
  | .hbm, ⟨5, _⟩ => ⟨S8x128x32768, .bf16⟩
  | .hbm, ⟨6, _⟩ => ⟨S8x128x32768, .f32⟩
  | .hbm, ⟨7, _⟩ => ⟨S8x128x32768, .f32⟩
  | .hbm, ⟨8, _⟩ => ⟨S24x6144, .f32⟩
  | .hbm, ⟨9, _⟩ => ⟨S1024, .f32⟩
  | .hbm, ⟨10, _⟩ => ⟨S24x6x1024, .f32⟩
  | .hbm, ⟨11, _⟩ => ⟨S1x6x1024, .f32⟩
  | .hbm, ⟨12, _⟩ => ⟨S6x1024, .f32⟩
  | .hbm, ⟨13, _⟩ => ⟨S16x6x1024, .f32⟩
  | .hbm, ⟨14, _⟩ => ⟨S16x6x1024, .f32⟩
  | .hbm, ⟨15, _⟩ => ⟨S16x1x6x1024, .f32⟩
  | .hbm, ⟨16, _⟩ => ⟨S16x1x6x1024, .f32⟩
  | .hbm, ⟨17, _⟩ => ⟨S16x2x6x1024, .f32⟩
  | .hbm, ⟨18, _⟩ => ⟨S192x1x1024, .f32⟩
  | .hbm, ⟨19, _⟩ => ⟨S8x2048x1024, .f32⟩
  | .hbm, ⟨20, _⟩ => ⟨S8x1024x2048, .f32⟩
  | .hbm, ⟨21, _⟩ => ⟨S8x1024x2048, .bf16⟩
  | .hbm, ⟨22, _⟩ => ⟨S16384x1024, .bf16⟩
  | .hbm, ⟨23, _⟩ => ⟨S1x1024, .f32⟩
  | .hbm, ⟨24, _⟩ => ⟨S32768x1024, .f32⟩
  | .local _ .vmem, ⟨0, _⟩ => ⟨S512x1024, .bf16⟩
  | .local _ .vmem, ⟨1, _⟩ => ⟨S512x1024, .bf16⟩
  | .local _ .vmem, ⟨2, _⟩ => ⟨S8x128x512, .bf16⟩
  | .local _ .vmem, ⟨3, _⟩ => ⟨S8x128x512, .bf16⟩
  | .local _ .vmem, ⟨4, _⟩ => ⟨S8x128x512, .bf16⟩
  | .local _ .vmem, ⟨5, _⟩ => ⟨S8x128x512, .bf16⟩
  | .local _ .vmem, ⟨6, _⟩ => ⟨S8x128x512, .f32⟩
  | .local _ .vmem, ⟨7, _⟩ => ⟨S8x128x512, .f32⟩
  | .local _ .vmem, ⟨8, _⟩ => ⟨S8x128x512, .f32⟩
  | .local _ .vmem, ⟨9, _⟩ => ⟨S8x128x512, .f32⟩
  | .local _ .vmem, ⟨10, _⟩ => ⟨S512x1024, .f32⟩
  | .local _ .vmem, ⟨11, _⟩ => ⟨S512x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1024, .f32⟩
  | .local _ .vmem, ⟨17, _⟩ => ⟨S512x1024, .f32⟩
  | .local _ .vmem, ⟨18, _⟩ => ⟨S512x1024, .f32⟩
  | .local _ .vmem, ⟨19, _⟩ => ⟨S1024x512, .f32⟩
  | .local _ .vmem, ⟨20, _⟩ => ⟨S2x2048x512, .bf16⟩
  | .local _ .vmem, ⟨21, _⟩ => ⟨S3x2048x1024, .bf16⟩
  | .local _ .vmem, ⟨22, _⟩ => ⟨S3x1024x2048, .bf16⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![64, 9], ![false, false]⟩

def k0_cond1 (i : grid0.Coords) : BitVec 1 :=
  let arg0 : BitVec 32 := BitVec.ofNat 32 (i 0).val
  let c0_i32 : BitVec 32 := 0#32
  let v2 : BitVec 1 := Scalar.cmpi .eq arg0 c0_i32
  let arg1 : BitVec 32 := BitVec.ofNat 32 (i 1).val
  let c0_i32_1 : BitVec 32 := 0#32
  let v3 : BitVec 1 := Scalar.cmpi .eq arg1 c0_i32_1
  let v4 : BitVec 1 := Scalar.andi v2 v3
  let v5 : BitVec 32 := Scalar.extui v4
  let c0_i32_2 : BitVec 32 := 0#32
  let v6 : BitVec 1 := Scalar.cmpi .ne v5 c0_i32_2
  v6

def k0_off1 (c0_i32_20 : BitVec 32) : Fin 1 → Nat :=
  let c3_i32_21 : BitVec 32 := 3#32
  let v33 : BitVec 32 := Scalar.remsi c0_i32_20 c3_i32_21
  ![v33.toNat]
def k0_off2 (c0_i32_20 : BitVec 32) : Fin 3 → Nat :=
  let c3_i32_21 : BitVec 32 := 3#32
  let v33 : BitVec 32 := Scalar.remsi c0_i32_20 c3_i32_21
  let c0_i32_22 : BitVec 32 := 0#32
  let c0_i32_23 : BitVec 32 := 0#32
  ![v33.toNat, 0, 0]
def k0_off3 (c0_i32_18 : BitVec 32) : Fin 2 → Nat :=
  let c8_i32_19 : BitVec 32 := 8#32
  let v32 : BitVec 32 := Scalar.remsi c0_i32_18 c8_i32_19
  let c2048_i32 : BitVec 32 := 2048#32
  let v34 : BitVec 32 := Scalar.muli v32 c2048_i32
  let c0_i32_24 : BitVec 32 := 0#32
  ![v34.toNat, 0]
def k0_off4 (c0_i32_25 : BitVec 32) : Fin 3 → Nat :=
  let c3_i32_26 : BitVec 32 := 3#32
  let v40 : BitVec 32 := Scalar.remsi c0_i32_25 c3_i32_26
  let c0_i32_29 : BitVec 32 := 0#32
  let c0_i32_30 : BitVec 32 := 0#32
  ![v40.toNat, 0, 0]
def k0_off5 (c0_i32_27 : BitVec 32) : Fin 3 → Nat :=
  let c8_i32_28 : BitVec 32 := 8#32
  let v41 : BitVec 32 := Scalar.remsi c0_i32_27 c8_i32_28
  let c0_i32_31 : BitVec 32 := 0#32
  let c0_i32_32 : BitVec 32 := 0#32
  ![v41.toNat, 0, 0]
def k0_cond2 (i : grid0.Coords) : BitVec 1 :=
  let arg1 : BitVec 32 := BitVec.ofNat 32 (i 1).val
  let c8_i32_5 : BitVec 32 := 8#32
  let v12 : BitVec 1 := Scalar.cmpi .slt arg1 c8_i32_5
  let v13 : BitVec 32 := Scalar.extui v12
  let c0_i32_6 : BitVec 32 := 0#32
  let v14 : BitVec 1 := Scalar.cmpi .ne v13 c0_i32_6
  v14

def k0_off6 (i : grid0.Coords) : Fin 1 → Nat :=
  let arg0 : BitVec 32 := BitVec.ofNat 32 (i 0).val
  let c8_i32 : BitVec 32 := 8#32
  let v7 : BitVec 32 := Scalar.muli arg0 c8_i32
  let arg1 : BitVec 32 := BitVec.ofNat 32 (i 1).val
  let v8 : BitVec 32 := Scalar.addi v7 arg1
  let c3_i32_19 : BitVec 32 := 3#32
  let v33 : BitVec 32 := Scalar.remsi v8 c3_i32_19
  ![v33.toNat]
def k0_off7 (i : grid0.Coords) : Fin 3 → Nat :=
  let arg0 : BitVec 32 := BitVec.ofNat 32 (i 0).val
  let c8_i32 : BitVec 32 := 8#32
  let v7 : BitVec 32 := Scalar.muli arg0 c8_i32
  let arg1 : BitVec 32 := BitVec.ofNat 32 (i 1).val
  let v8 : BitVec 32 := Scalar.addi v7 arg1
  let c3_i32_19 : BitVec 32 := 3#32
  let v33 : BitVec 32 := Scalar.remsi v8 c3_i32_19
  let c0_i32_20 : BitVec 32 := 0#32
  let c0_i32_21 : BitVec 32 := 0#32
  ![v33.toNat, 0, 0]
def k0_off8 (i : grid0.Coords) : Fin 2 → Nat :=
  let arg0 : BitVec 32 := BitVec.ofNat 32 (i 0).val
  let c8_i32 : BitVec 32 := 8#32
  let v7 : BitVec 32 := Scalar.muli arg0 c8_i32
  let arg1 : BitVec 32 := BitVec.ofNat 32 (i 1).val
  let v8 : BitVec 32 := Scalar.addi v7 arg1
  let c8_i32_18 : BitVec 32 := 8#32
  let v32 : BitVec 32 := Scalar.remsi v8 c8_i32_18
  let c2048_i32 : BitVec 32 := 2048#32
  let v34 : BitVec 32 := Scalar.muli v32 c2048_i32
  let c0_i32_22 : BitVec 32 := 0#32
  ![v34.toNat, 0]
def k0_cond3 (i : grid0.Coords) : BitVec 1 :=
  let arg0 : BitVec 32 := BitVec.ofNat 32 (i 0).val
  let c8_i32 : BitVec 32 := 8#32
  let v7 : BitVec 32 := Scalar.muli arg0 c8_i32
  let arg1 : BitVec 32 := BitVec.ofNat 32 (i 1).val
  let v8 : BitVec 32 := Scalar.addi v7 arg1
  let c2_i32 : BitVec 32 := 2#32
  let v40 : BitVec 32 := Scalar.addi v8 c2_i32
  let c512_i32 : BitVec 32 := 512#32
  let v41 : BitVec 1 := Scalar.cmpi .slt v40 c512_i32
  let v42 : BitVec 32 := Scalar.extui v41
  let c0_i32_23 : BitVec 32 := 0#32
  let v43 : BitVec 1 := Scalar.cmpi .ne v42 c0_i32_23
  v43

def k0_off9 (i : grid0.Coords) : Fin 1 → Nat :=
  let arg0 : BitVec 32 := BitVec.ofNat 32 (i 0).val
  let c8_i32 : BitVec 32 := 8#32
  let v7 : BitVec 32 := Scalar.muli arg0 c8_i32
  let arg1 : BitVec 32 := BitVec.ofNat 32 (i 1).val
  let v8 : BitVec 32 := Scalar.addi v7 arg1
  let c2_i32_24 : BitVec 32 := 2#32
  let v44 : BitVec 32 := Scalar.addi v8 c2_i32_24
  let c3_i32_26 : BitVec 32 := 3#32
  let v46 : BitVec 32 := Scalar.remsi v44 c3_i32_26
  ![v46.toNat]
def k0_off10 (i : grid0.Coords) : Fin 3 → Nat :=
  let arg0 : BitVec 32 := BitVec.ofNat 32 (i 0).val
  let c8_i32 : BitVec 32 := 8#32
  let v7 : BitVec 32 := Scalar.muli arg0 c8_i32
  let arg1 : BitVec 32 := BitVec.ofNat 32 (i 1).val
  let v8 : BitVec 32 := Scalar.addi v7 arg1
  let c2_i32_24 : BitVec 32 := 2#32
  let v44 : BitVec 32 := Scalar.addi v8 c2_i32_24
  let c3_i32_26 : BitVec 32 := 3#32
  let v46 : BitVec 32 := Scalar.remsi v44 c3_i32_26
  let c0_i32_28 : BitVec 32 := 0#32
  let c0_i32_29 : BitVec 32 := 0#32
  ![v46.toNat, 0, 0]
def k0_off11 (i : grid0.Coords) : Fin 2 → Nat :=
  let arg0 : BitVec 32 := BitVec.ofNat 32 (i 0).val
  let c8_i32 : BitVec 32 := 8#32
  let v7 : BitVec 32 := Scalar.muli arg0 c8_i32
  let arg1 : BitVec 32 := BitVec.ofNat 32 (i 1).val
  let v8 : BitVec 32 := Scalar.addi v7 arg1
  let c2_i32_24 : BitVec 32 := 2#32
  let v44 : BitVec 32 := Scalar.addi v8 c2_i32_24
  let c8_i32_25 : BitVec 32 := 8#32
  let v45 : BitVec 32 := Scalar.remsi v44 c8_i32_25
  let c2048_i32_27 : BitVec 32 := 2048#32
  let v47 : BitVec 32 := Scalar.muli v45 c2048_i32_27
  let c0_i32_30 : BitVec 32 := 0#32
  ![v47.toNat, 0]
def k0_cond4 (i : grid0.Coords) : BitVec 1 :=
  let arg1 : BitVec 32 := BitVec.ofNat 32 (i 1).val
  let c1_i32_7 : BitVec 32 := 1#32
  let v15 : BitVec 1 := Scalar.cmpi .sge arg1 c1_i32_7
  let v16 : BitVec 32 := Scalar.extui v15
  let c0_i32_8 : BitVec 32 := 0#32
  let v17 : BitVec 1 := Scalar.cmpi .ne v16 c0_i32_8
  v17

def k0_off12 (i : grid0.Coords) : Fin 1 → Nat :=
  let arg0 : BitVec 32 := BitVec.ofNat 32 (i 0).val
  let c8_i32_3 : BitVec 32 := 8#32
  let v9 : BitVec 32 := Scalar.muli arg0 c8_i32_3
  let arg1 : BitVec 32 := BitVec.ofNat 32 (i 1).val
  let v10 : BitVec 32 := Scalar.addi v9 arg1
  let c1_i32_4 : BitVec 32 := 1#32
  let v11 : BitVec 32 := Scalar.subi v10 c1_i32_4
  let c3_i32_18 : BitVec 32 := 3#32
  let v32 : BitVec 32 := Scalar.remsi v11 c3_i32_18
  ![v32.toNat]
def k0_off13 (i : grid0.Coords) : Fin 3 → Nat :=
  let arg0 : BitVec 32 := BitVec.ofNat 32 (i 0).val
  let c8_i32_3 : BitVec 32 := 8#32
  let v9 : BitVec 32 := Scalar.muli arg0 c8_i32_3
  let arg1 : BitVec 32 := BitVec.ofNat 32 (i 1).val
  let v10 : BitVec 32 := Scalar.addi v9 arg1
  let c1_i32_4 : BitVec 32 := 1#32
  let v11 : BitVec 32 := Scalar.subi v10 c1_i32_4
  let c3_i32_18 : BitVec 32 := 3#32
  let v32 : BitVec 32 := Scalar.remsi v11 c3_i32_18
  let c0_i32_20 : BitVec 32 := 0#32
  let c0_i32_21 : BitVec 32 := 0#32
  ![v32.toNat, 0, 0]
def k0_off14 (i : grid0.Coords) : Fin 3 → Nat :=
  let arg0 : BitVec 32 := BitVec.ofNat 32 (i 0).val
  let c8_i32_3 : BitVec 32 := 8#32
  let v9 : BitVec 32 := Scalar.muli arg0 c8_i32_3
  let arg1 : BitVec 32 := BitVec.ofNat 32 (i 1).val
  let v10 : BitVec 32 := Scalar.addi v9 arg1
  let c1_i32_4 : BitVec 32 := 1#32
  let v11 : BitVec 32 := Scalar.subi v10 c1_i32_4
  let c8_i32_19 : BitVec 32 := 8#32
  let v33 : BitVec 32 := Scalar.remsi v11 c8_i32_19
  let c0_i32_22 : BitVec 32 := 0#32
  let c0_i32_23 : BitVec 32 := 0#32
  ![v33.toNat, 0, 0]
def k0_cond5 (i : grid0.Coords) : BitVec 1 :=
  let arg0 : BitVec 32 := BitVec.ofNat 32 (i 0).val
  let c8_i32_3 : BitVec 32 := 8#32
  let v9 : BitVec 32 := Scalar.muli arg0 c8_i32_3
  let arg1 : BitVec 32 := BitVec.ofNat 32 (i 1).val
  let v10 : BitVec 32 := Scalar.addi v9 arg1
  let c1_i32_4 : BitVec 32 := 1#32
  let v11 : BitVec 32 := Scalar.subi v10 c1_i32_4
  let c2_i32 : BitVec 32 := 2#32
  let v40 : BitVec 32 := Scalar.addi v11 c2_i32
  let c512_i32 : BitVec 32 := 512#32
  let v41 : BitVec 1 := Scalar.cmpi .slt v40 c512_i32
  let v42 : BitVec 32 := Scalar.extui v41
  let c0_i32_24 : BitVec 32 := 0#32
  let v43 : BitVec 1 := Scalar.cmpi .ne v42 c0_i32_24
  v43

def k0_off15 (i : grid0.Coords) : Fin 1 → Nat :=
  let arg0 : BitVec 32 := BitVec.ofNat 32 (i 0).val
  let c8_i32_3 : BitVec 32 := 8#32
  let v9 : BitVec 32 := Scalar.muli arg0 c8_i32_3
  let arg1 : BitVec 32 := BitVec.ofNat 32 (i 1).val
  let v10 : BitVec 32 := Scalar.addi v9 arg1
  let c1_i32_4 : BitVec 32 := 1#32
  let v11 : BitVec 32 := Scalar.subi v10 c1_i32_4
  let c2_i32_25 : BitVec 32 := 2#32
  let v44 : BitVec 32 := Scalar.addi v11 c2_i32_25
  let c3_i32_26 : BitVec 32 := 3#32
  let v45 : BitVec 32 := Scalar.remsi v44 c3_i32_26
  ![v45.toNat]
def k0_off16 (i : grid0.Coords) : Fin 3 → Nat :=
  let arg0 : BitVec 32 := BitVec.ofNat 32 (i 0).val
  let c8_i32_3 : BitVec 32 := 8#32
  let v9 : BitVec 32 := Scalar.muli arg0 c8_i32_3
  let arg1 : BitVec 32 := BitVec.ofNat 32 (i 1).val
  let v10 : BitVec 32 := Scalar.addi v9 arg1
  let c1_i32_4 : BitVec 32 := 1#32
  let v11 : BitVec 32 := Scalar.subi v10 c1_i32_4
  let c2_i32_25 : BitVec 32 := 2#32
  let v44 : BitVec 32 := Scalar.addi v11 c2_i32_25
  let c3_i32_26 : BitVec 32 := 3#32
  let v45 : BitVec 32 := Scalar.remsi v44 c3_i32_26
  let c0_i32_28 : BitVec 32 := 0#32
  let c0_i32_29 : BitVec 32 := 0#32
  ![v45.toNat, 0, 0]
def k0_off17 (i : grid0.Coords) : Fin 3 → Nat :=
  let arg0 : BitVec 32 := BitVec.ofNat 32 (i 0).val
  let c8_i32_3 : BitVec 32 := 8#32
  let v9 : BitVec 32 := Scalar.muli arg0 c8_i32_3
  let arg1 : BitVec 32 := BitVec.ofNat 32 (i 1).val
  let v10 : BitVec 32 := Scalar.addi v9 arg1
  let c1_i32_4 : BitVec 32 := 1#32
  let v11 : BitVec 32 := Scalar.subi v10 c1_i32_4
  let c2_i32_25 : BitVec 32 := 2#32
  let v44 : BitVec 32 := Scalar.addi v11 c2_i32_25
  let c8_i32_27 : BitVec 32 := 8#32
  let v46 : BitVec 32 := Scalar.remsi v44 c8_i32_27
  let c0_i32_30 : BitVec 32 := 0#32
  let c0_i32_31 : BitVec 32 := 0#32
  ![v46.toNat, 0, 0]
def k0_cond6 (i : grid0.Coords) : BitVec 1 :=
  let arg1 : BitVec 32 := BitVec.ofNat 32 (i 1).val
  let c0_i32_11 : BitVec 32 := 0#32
  let v21 : BitVec 1 := Scalar.cmpi .eq arg1 c0_i32_11
  let v22 : BitVec 32 := Scalar.extui v21
  let c0_i32_12 : BitVec 32 := 0#32
  let v23 : BitVec 1 := Scalar.cmpi .ne v22 c0_i32_12
  v23

def k0_off18 (i : grid0.Coords) : Fin 3 → Nat :=
  let arg0 : BitVec 32 := BitVec.ofNat 32 (i 0).val
  let c8_i32 : BitVec 32 := 8#32
  let v7 : BitVec 32 := Scalar.muli arg0 c8_i32
  let arg1 : BitVec 32 := BitVec.ofNat 32 (i 1).val
  let v8 : BitVec 32 := Scalar.addi v7 arg1
  let c3_i32 : BitVec 32 := 3#32
  let v18 : BitVec 32 := Scalar.remsi v8 c3_i32
  let v33 : Index := Scalar.indexCast v18
  let c0_19 : Index := 0#32
  let c0_20 : Index := 0#32
  ![v33.toNat, 0, 0]
def k0_off19 (i : grid0.Coords) : Fin 3 → Nat :=
  let arg0 : BitVec 32 := BitVec.ofNat 32 (i 0).val
  let c8_i32 : BitVec 32 := 8#32
  let v7 : BitVec 32 := Scalar.muli arg0 c8_i32
  let arg1 : BitVec 32 := BitVec.ofNat 32 (i 1).val
  let v8 : BitVec 32 := Scalar.addi v7 arg1
  let c3_i32 : BitVec 32 := 3#32
  let v18 : BitVec 32 := Scalar.remsi v8 c3_i32
  let v37 : Index := Scalar.indexCast v18
  let c256 : Index := 256#32
  let c0_21 : Index := 0#32
  ![v37.toNat, 256, 0]
def k0_off20 (i : grid0.Coords) : Fin 3 → Nat :=
  let arg0 : BitVec 32 := BitVec.ofNat 32 (i 0).val
  let c8_i32 : BitVec 32 := 8#32
  let v7 : BitVec 32 := Scalar.muli arg0 c8_i32
  let arg1 : BitVec 32 := BitVec.ofNat 32 (i 1).val
  let v8 : BitVec 32 := Scalar.addi v7 arg1
  let c3_i32 : BitVec 32 := 3#32
  let v18 : BitVec 32 := Scalar.remsi v8 c3_i32
  let v41 : Index := Scalar.indexCast v18
  let c512 : Index := 512#32
  let c0_23 : Index := 0#32
  ![v41.toNat, 512, 0]
def k0_off21 (i : grid0.Coords) : Fin 3 → Nat :=
  let arg0 : BitVec 32 := BitVec.ofNat 32 (i 0).val
  let c8_i32 : BitVec 32 := 8#32
  let v7 : BitVec 32 := Scalar.muli arg0 c8_i32
  let arg1 : BitVec 32 := BitVec.ofNat 32 (i 1).val
  let v8 : BitVec 32 := Scalar.addi v7 arg1
  let c3_i32 : BitVec 32 := 3#32
  let v18 : BitVec 32 := Scalar.remsi v8 c3_i32
  let v45 : Index := Scalar.indexCast v18
  let c768 : Index := 768#32
  let c0_25 : Index := 0#32
  ![v45.toNat, 768, 0]
def k0_off22 (i : grid0.Coords) : Fin 3 → Nat :=
  let arg0 : BitVec 32 := BitVec.ofNat 32 (i 0).val
  let c8_i32 : BitVec 32 := 8#32
  let v7 : BitVec 32 := Scalar.muli arg0 c8_i32
  let arg1 : BitVec 32 := BitVec.ofNat 32 (i 1).val
  let v8 : BitVec 32 := Scalar.addi v7 arg1
  let c3_i32 : BitVec 32 := 3#32
  let v18 : BitVec 32 := Scalar.remsi v8 c3_i32
  let v49 : Index := Scalar.indexCast v18
  let c1024 : Index := 1024#32
  let c0_27 : Index := 0#32
  ![v49.toNat, 1024, 0]
def k0_off23 (i : grid0.Coords) : Fin 3 → Nat :=
  let arg0 : BitVec 32 := BitVec.ofNat 32 (i 0).val
  let c8_i32 : BitVec 32 := 8#32
  let v7 : BitVec 32 := Scalar.muli arg0 c8_i32
  let arg1 : BitVec 32 := BitVec.ofNat 32 (i 1).val
  let v8 : BitVec 32 := Scalar.addi v7 arg1
  let c3_i32 : BitVec 32 := 3#32
  let v18 : BitVec 32 := Scalar.remsi v8 c3_i32
  let v53 : Index := Scalar.indexCast v18
  let c1280 : Index := 1280#32
  let c0_29 : Index := 0#32
  ![v53.toNat, 1280, 0]
def k0_off24 (i : grid0.Coords) : Fin 3 → Nat :=
  let arg0 : BitVec 32 := BitVec.ofNat 32 (i 0).val
  let c8_i32 : BitVec 32 := 8#32
  let v7 : BitVec 32 := Scalar.muli arg0 c8_i32
  let arg1 : BitVec 32 := BitVec.ofNat 32 (i 1).val
  let v8 : BitVec 32 := Scalar.addi v7 arg1
  let c3_i32 : BitVec 32 := 3#32
  let v18 : BitVec 32 := Scalar.remsi v8 c3_i32
  let v57 : Index := Scalar.indexCast v18
  let c1536 : Index := 1536#32
  let c0_31 : Index := 0#32
  ![v57.toNat, 1536, 0]
def k0_off25 (i : grid0.Coords) : Fin 3 → Nat :=
  let arg0 : BitVec 32 := BitVec.ofNat 32 (i 0).val
  let c8_i32 : BitVec 32 := 8#32
  let v7 : BitVec 32 := Scalar.muli arg0 c8_i32
  let arg1 : BitVec 32 := BitVec.ofNat 32 (i 1).val
  let v8 : BitVec 32 := Scalar.addi v7 arg1
  let c3_i32 : BitVec 32 := 3#32
  let v18 : BitVec 32 := Scalar.remsi v8 c3_i32
  let v61 : Index := Scalar.indexCast v18
  let c1792 : Index := 1792#32
  let c0_33 : Index := 0#32
  ![v61.toNat, 1792, 0]
def k0_mult1 (i : grid0.Coords) : BitVec 32 :=
  let arg1 : BitVec 32 := BitVec.ofNat 32 (i 1).val
  let c16_i32 : BitVec 32 := 16#32
  let v65 : BitVec 32 := Scalar.muli arg1 c16_i32
  v65
def k0_off26 (i : grid0.Coords) : Fin 3 → Nat :=
  let c0_35 : Index := 0#32
  let arg1 : BitVec 32 := BitVec.ofNat 32 (i 1).val
  let c16_i32 : BitVec 32 := 16#32
  let v65 : BitVec 32 := Scalar.muli arg1 c16_i32
  let v66 : BitVec 32 := v65
  let v67 : Index := Scalar.indexCast v66
  let c0_36 : Index := 0#32
  ![0, v67.toNat, 0]
def k0_off27 (i : grid0.Coords) : Fin 3 → Nat :=
  let c1 : Index := 1#32
  let arg1 : BitVec 32 := BitVec.ofNat 32 (i 1).val
  let c16_i32 : BitVec 32 := 16#32
  let v65 : BitVec 32 := Scalar.muli arg1 c16_i32
  let v66 : BitVec 32 := v65
  let v70 : Index := Scalar.indexCast v66
  let c0_37 : Index := 0#32
  ![1, v70.toNat, 0]
def k0_off28 (i : grid0.Coords) : Fin 3 → Nat :=
  let c2 : Index := 2#32
  let arg1 : BitVec 32 := BitVec.ofNat 32 (i 1).val
  let c16_i32 : BitVec 32 := 16#32
  let v65 : BitVec 32 := Scalar.muli arg1 c16_i32
  let v66 : BitVec 32 := v65
  let v73 : Index := Scalar.indexCast v66
  let c0_38 : Index := 0#32
  ![2, v73.toNat, 0]
def k0_off29 (i : grid0.Coords) : Fin 3 → Nat :=
  let c3 : Index := 3#32
  let arg1 : BitVec 32 := BitVec.ofNat 32 (i 1).val
  let c16_i32 : BitVec 32 := 16#32
  let v65 : BitVec 32 := Scalar.muli arg1 c16_i32
  let v66 : BitVec 32 := v65
  let v76 : Index := Scalar.indexCast v66
  let c0_39 : Index := 0#32
  ![3, v76.toNat, 0]
def k0_off30 (i : grid0.Coords) : Fin 3 → Nat :=
  let c4 : Index := 4#32
  let arg1 : BitVec 32 := BitVec.ofNat 32 (i 1).val
  let c16_i32 : BitVec 32 := 16#32
  let v65 : BitVec 32 := Scalar.muli arg1 c16_i32
  let v66 : BitVec 32 := v65
  let v79 : Index := Scalar.indexCast v66
  let c0_40 : Index := 0#32
  ![4, v79.toNat, 0]
def k0_off31 (i : grid0.Coords) : Fin 3 → Nat :=
  let c5 : Index := 5#32
  let arg1 : BitVec 32 := BitVec.ofNat 32 (i 1).val
  let c16_i32 : BitVec 32 := 16#32
  let v65 : BitVec 32 := Scalar.muli arg1 c16_i32
  let v66 : BitVec 32 := v65
  let v82 : Index := Scalar.indexCast v66
  let c0_41 : Index := 0#32
  ![5, v82.toNat, 0]
def k0_off32 (i : grid0.Coords) : Fin 3 → Nat :=
  let c6 : Index := 6#32
  let arg1 : BitVec 32 := BitVec.ofNat 32 (i 1).val
  let c16_i32 : BitVec 32 := 16#32
  let v65 : BitVec 32 := Scalar.muli arg1 c16_i32
  let v66 : BitVec 32 := v65
  let v85 : Index := Scalar.indexCast v66
  let c0_42 : Index := 0#32
  ![6, v85.toNat, 0]
def k0_off33 (i : grid0.Coords) : Fin 3 → Nat :=
  let c7 : Index := 7#32
  let arg1 : BitVec 32 := BitVec.ofNat 32 (i 1).val
  let c16_i32 : BitVec 32 := 16#32
  let v65 : BitVec 32 := Scalar.muli arg1 c16_i32
  let v66 : BitVec 32 := v65
  let v88 : Index := Scalar.indexCast v66
  let c0_43 : Index := 0#32
  ![7, v88.toNat, 0]
def k0_off34 (i : grid0.Coords) : Fin 3 → Nat :=
  let arg1 : BitVec 32 := BitVec.ofNat 32 (i 1).val
  let c1_i32 : BitVec 32 := 1#32
  let v0 : BitVec 32 := Scalar.andi arg1 c1_i32
  let v266 : Index := Scalar.indexCast v0
  let c0_120 : Index := 0#32
  let c0_121 : Index := 0#32
  ![v266.toNat, 0, 0]
def k0_off35 (i : grid0.Coords) : Fin 3 → Nat :=
  let arg1 : BitVec 32 := BitVec.ofNat 32 (i 1).val
  let c1_i32 : BitVec 32 := 1#32
  let v0 : BitVec 32 := Scalar.andi arg1 c1_i32
  let v421 : Index := Scalar.indexCast v0
  let c128 : Index := 128#32
  let c0_182 : Index := 0#32
  ![v421.toNat, 128, 0]
def k0_off36 (i : grid0.Coords) : Fin 3 → Nat :=
  let arg1 : BitVec 32 := BitVec.ofNat 32 (i 1).val
  let c1_i32 : BitVec 32 := 1#32
  let v0 : BitVec 32 := Scalar.andi arg1 c1_i32
  let v576 : Index := Scalar.indexCast v0
  let c256_243 : Index := 256#32
  let c0_244 : Index := 0#32
  ![v576.toNat, 256, 0]
def k0_off37 (i : grid0.Coords) : Fin 3 → Nat :=
  let arg1 : BitVec 32 := BitVec.ofNat 32 (i 1).val
  let c1_i32 : BitVec 32 := 1#32
  let v0 : BitVec 32 := Scalar.andi arg1 c1_i32
  let v731 : Index := Scalar.indexCast v0
  let c384 : Index := 384#32
  let c0_305 : Index := 0#32
  ![v731.toNat, 384, 0]
def k0_off38 (i : grid0.Coords) : Fin 3 → Nat :=
  let arg1 : BitVec 32 := BitVec.ofNat 32 (i 1).val
  let c1_i32 : BitVec 32 := 1#32
  let v0 : BitVec 32 := Scalar.andi arg1 c1_i32
  let v886 : Index := Scalar.indexCast v0
  let c512_366 : Index := 512#32
  let c0_367 : Index := 0#32
  ![v886.toNat, 512, 0]
def k0_off39 (i : grid0.Coords) : Fin 3 → Nat :=
  let arg1 : BitVec 32 := BitVec.ofNat 32 (i 1).val
  let c1_i32 : BitVec 32 := 1#32
  let v0 : BitVec 32 := Scalar.andi arg1 c1_i32
  let v1041 : Index := Scalar.indexCast v0
  let c640 : Index := 640#32
  let c0_428 : Index := 0#32
  ![v1041.toNat, 640, 0]
def k0_off40 (i : grid0.Coords) : Fin 3 → Nat :=
  let arg1 : BitVec 32 := BitVec.ofNat 32 (i 1).val
  let c1_i32 : BitVec 32 := 1#32
  let v0 : BitVec 32 := Scalar.andi arg1 c1_i32
  let v1196 : Index := Scalar.indexCast v0
  let c768_489 : Index := 768#32
  let c0_490 : Index := 0#32
  ![v1196.toNat, 768, 0]
def k0_off41 (i : grid0.Coords) : Fin 3 → Nat :=
  let arg1 : BitVec 32 := BitVec.ofNat 32 (i 1).val
  let c1_i32 : BitVec 32 := 1#32
  let v0 : BitVec 32 := Scalar.andi arg1 c1_i32
  let v1351 : Index := Scalar.indexCast v0
  let c896 : Index := 896#32
  let c0_551 : Index := 0#32
  ![v1351.toNat, 896, 0]
def k0_off42 (i : grid0.Coords) : Fin 3 → Nat :=
  let arg1 : BitVec 32 := BitVec.ofNat 32 (i 1).val
  let c1_i32 : BitVec 32 := 1#32
  let v0 : BitVec 32 := Scalar.andi arg1 c1_i32
  let v1506 : Index := Scalar.indexCast v0
  let c1024_612 : Index := 1024#32
  let c0_613 : Index := 0#32
  ![v1506.toNat, 1024, 0]
def k0_off43 (i : grid0.Coords) : Fin 3 → Nat :=
  let arg1 : BitVec 32 := BitVec.ofNat 32 (i 1).val
  let c1_i32 : BitVec 32 := 1#32
  let v0 : BitVec 32 := Scalar.andi arg1 c1_i32
  let v1661 : Index := Scalar.indexCast v0
  let c1152 : Index := 1152#32
  let c0_674 : Index := 0#32
  ![v1661.toNat, 1152, 0]
def k0_off44 (i : grid0.Coords) : Fin 3 → Nat :=
  let arg1 : BitVec 32 := BitVec.ofNat 32 (i 1).val
  let c1_i32 : BitVec 32 := 1#32
  let v0 : BitVec 32 := Scalar.andi arg1 c1_i32
  let v1816 : Index := Scalar.indexCast v0
  let c1280_735 : Index := 1280#32
  let c0_736 : Index := 0#32
  ![v1816.toNat, 1280, 0]
def k0_off45 (i : grid0.Coords) : Fin 3 → Nat :=
  let arg1 : BitVec 32 := BitVec.ofNat 32 (i 1).val
  let c1_i32 : BitVec 32 := 1#32
  let v0 : BitVec 32 := Scalar.andi arg1 c1_i32
  let v1971 : Index := Scalar.indexCast v0
  let c1408 : Index := 1408#32
  let c0_797 : Index := 0#32
  ![v1971.toNat, 1408, 0]
def k0_off46 (i : grid0.Coords) : Fin 3 → Nat :=
  let arg1 : BitVec 32 := BitVec.ofNat 32 (i 1).val
  let c1_i32 : BitVec 32 := 1#32
  let v0 : BitVec 32 := Scalar.andi arg1 c1_i32
  let v2126 : Index := Scalar.indexCast v0
  let c1536_858 : Index := 1536#32
  let c0_859 : Index := 0#32
  ![v2126.toNat, 1536, 0]
def k0_off47 (i : grid0.Coords) : Fin 3 → Nat :=
  let arg1 : BitVec 32 := BitVec.ofNat 32 (i 1).val
  let c1_i32 : BitVec 32 := 1#32
  let v0 : BitVec 32 := Scalar.andi arg1 c1_i32
  let v2281 : Index := Scalar.indexCast v0
  let c1664 : Index := 1664#32
  let c0_920 : Index := 0#32
  ![v2281.toNat, 1664, 0]
def k0_off48 (i : grid0.Coords) : Fin 3 → Nat :=
  let arg1 : BitVec 32 := BitVec.ofNat 32 (i 1).val
  let c1_i32 : BitVec 32 := 1#32
  let v0 : BitVec 32 := Scalar.andi arg1 c1_i32
  let v2436 : Index := Scalar.indexCast v0
  let c1792_981 : Index := 1792#32
  let c0_982 : Index := 0#32
  ![v2436.toNat, 1792, 0]
def k0_off49 (i : grid0.Coords) : Fin 3 → Nat :=
  let arg1 : BitVec 32 := BitVec.ofNat 32 (i 1).val
  let c1_i32 : BitVec 32 := 1#32
  let v0 : BitVec 32 := Scalar.andi arg1 c1_i32
  let v2591 : Index := Scalar.indexCast v0
  let c1920 : Index := 1920#32
  let c0_1043 : Index := 0#32
  ![v2591.toNat, 1920, 0]
def k0_cond7 (i : grid0.Coords) : BitVec 1 :=
  let arg1 : BitVec 32 := BitVec.ofNat 32 (i 1).val
  let c0_i32_13 : BitVec 32 := 0#32
  let v24 : BitVec 1 := Scalar.cmpi .sgt arg1 c0_i32_13
  let c8_i32_14 : BitVec 32 := 8#32
  let v25 : BitVec 1 := Scalar.cmpi .slt arg1 c8_i32_14
  let v26 : BitVec 1 := Scalar.andi v24 v25
  let v27 : BitVec 32 := Scalar.extui v26
  let c0_i32_15 : BitVec 32 := 0#32
  let v28 : BitVec 1 := Scalar.cmpi .ne v27 c0_i32_15
  v28

def k0_off50 (i : grid0.Coords) : Fin 3 → Nat :=
  let arg0 : BitVec 32 := BitVec.ofNat 32 (i 0).val
  let c8_i32 : BitVec 32 := 8#32
  let v7 : BitVec 32 := Scalar.muli arg0 c8_i32
  let arg1 : BitVec 32 := BitVec.ofNat 32 (i 1).val
  let v8 : BitVec 32 := Scalar.addi v7 arg1
  let c3_i32 : BitVec 32 := 3#32
  let v18 : BitVec 32 := Scalar.remsi v8 c3_i32
  let v33 : Index := Scalar.indexCast v18
  let c0_19 : Index := 0#32
  let c0_20 : Index := 0#32
  ![v33.toNat, 0, 0]
def k0_off51 (i : grid0.Coords) : Fin 3 → Nat :=
  let arg0 : BitVec 32 := BitVec.ofNat 32 (i 0).val
  let c8_i32 : BitVec 32 := 8#32
  let v7 : BitVec 32 := Scalar.muli arg0 c8_i32
  let arg1 : BitVec 32 := BitVec.ofNat 32 (i 1).val
  let v8 : BitVec 32 := Scalar.addi v7 arg1
  let c3_i32 : BitVec 32 := 3#32
  let v18 : BitVec 32 := Scalar.remsi v8 c3_i32
  let v37 : Index := Scalar.indexCast v18
  let c256 : Index := 256#32
  let c0_21 : Index := 0#32
  ![v37.toNat, 256, 0]
def k0_off52 (i : grid0.Coords) : Fin 3 → Nat :=
  let arg0 : BitVec 32 := BitVec.ofNat 32 (i 0).val
  let c8_i32 : BitVec 32 := 8#32
  let v7 : BitVec 32 := Scalar.muli arg0 c8_i32
  let arg1 : BitVec 32 := BitVec.ofNat 32 (i 1).val
  let v8 : BitVec 32 := Scalar.addi v7 arg1
  let c3_i32 : BitVec 32 := 3#32
  let v18 : BitVec 32 := Scalar.remsi v8 c3_i32
  let v41 : Index := Scalar.indexCast v18
  let c512 : Index := 512#32
  let c0_23 : Index := 0#32
  ![v41.toNat, 512, 0]
def k0_off53 (i : grid0.Coords) : Fin 3 → Nat :=
  let arg0 : BitVec 32 := BitVec.ofNat 32 (i 0).val
  let c8_i32 : BitVec 32 := 8#32
  let v7 : BitVec 32 := Scalar.muli arg0 c8_i32
  let arg1 : BitVec 32 := BitVec.ofNat 32 (i 1).val
  let v8 : BitVec 32 := Scalar.addi v7 arg1
  let c3_i32 : BitVec 32 := 3#32
  let v18 : BitVec 32 := Scalar.remsi v8 c3_i32
  let v45 : Index := Scalar.indexCast v18
  let c768 : Index := 768#32
  let c0_25 : Index := 0#32
  ![v45.toNat, 768, 0]
def k0_off54 (i : grid0.Coords) : Fin 3 → Nat :=
  let arg0 : BitVec 32 := BitVec.ofNat 32 (i 0).val
  let c8_i32 : BitVec 32 := 8#32
  let v7 : BitVec 32 := Scalar.muli arg0 c8_i32
  let arg1 : BitVec 32 := BitVec.ofNat 32 (i 1).val
  let v8 : BitVec 32 := Scalar.addi v7 arg1
  let c3_i32 : BitVec 32 := 3#32
  let v18 : BitVec 32 := Scalar.remsi v8 c3_i32
  let v49 : Index := Scalar.indexCast v18
  let c1024 : Index := 1024#32
  let c0_27 : Index := 0#32
  ![v49.toNat, 1024, 0]
def k0_off55 (i : grid0.Coords) : Fin 3 → Nat :=
  let arg0 : BitVec 32 := BitVec.ofNat 32 (i 0).val
  let c8_i32 : BitVec 32 := 8#32
  let v7 : BitVec 32 := Scalar.muli arg0 c8_i32
  let arg1 : BitVec 32 := BitVec.ofNat 32 (i 1).val
  let v8 : BitVec 32 := Scalar.addi v7 arg1
  let c3_i32 : BitVec 32 := 3#32
  let v18 : BitVec 32 := Scalar.remsi v8 c3_i32
  let v53 : Index := Scalar.indexCast v18
  let c1280 : Index := 1280#32
  let c0_29 : Index := 0#32
  ![v53.toNat, 1280, 0]
def k0_off56 (i : grid0.Coords) : Fin 3 → Nat :=
  let arg0 : BitVec 32 := BitVec.ofNat 32 (i 0).val
  let c8_i32 : BitVec 32 := 8#32
  let v7 : BitVec 32 := Scalar.muli arg0 c8_i32
  let arg1 : BitVec 32 := BitVec.ofNat 32 (i 1).val
  let v8 : BitVec 32 := Scalar.addi v7 arg1
  let c3_i32 : BitVec 32 := 3#32
  let v18 : BitVec 32 := Scalar.remsi v8 c3_i32
  let v57 : Index := Scalar.indexCast v18
  let c1536 : Index := 1536#32
  let c0_31 : Index := 0#32
  ![v57.toNat, 1536, 0]
def k0_off57 (i : grid0.Coords) : Fin 3 → Nat :=
  let arg0 : BitVec 32 := BitVec.ofNat 32 (i 0).val
  let c8_i32 : BitVec 32 := 8#32
  let v7 : BitVec 32 := Scalar.muli arg0 c8_i32
  let arg1 : BitVec 32 := BitVec.ofNat 32 (i 1).val
  let v8 : BitVec 32 := Scalar.addi v7 arg1
  let c3_i32 : BitVec 32 := 3#32
  let v18 : BitVec 32 := Scalar.remsi v8 c3_i32
  let v61 : Index := Scalar.indexCast v18
  let c1792 : Index := 1792#32
  let c0_33 : Index := 0#32
  ![v61.toNat, 1792, 0]
def k0_off58 (i : grid0.Coords) : Fin 3 → Nat :=
  let arg0 : BitVec 32 := BitVec.ofNat 32 (i 0).val
  let c8_i32_3 : BitVec 32 := 8#32
  let v9 : BitVec 32 := Scalar.muli arg0 c8_i32_3
  let arg1 : BitVec 32 := BitVec.ofNat 32 (i 1).val
  let v10 : BitVec 32 := Scalar.addi v9 arg1
  let c1_i32_4 : BitVec 32 := 1#32
  let v11 : BitVec 32 := Scalar.subi v10 c1_i32_4
  let c0_i32_9 : BitVec 32 := 0#32
  let v19 : BitVec 32 := Scalar.maxsi v11 c0_i32_9
  let c3_i32_10 : BitVec 32 := 3#32
  let v20 : BitVec 32 := Scalar.remsi v19 c3_i32_10
  let v65 : Index := Scalar.indexCast v20
  let c0_35 : Index := 0#32
  let c0_36 : Index := 0#32
  ![v65.toNat, 0, 0]
def k0_off59 (i : grid0.Coords) : Fin 3 → Nat :=
  let c1_i32_0 : BitVec 32 := 1#32
  let arg1 : BitVec 32 := BitVec.ofNat 32 (i 1).val
  let c1_i32 : BitVec 32 := 1#32
  let v0 : BitVec 32 := Scalar.andi arg1 c1_i32
  let v1 : BitVec 32 := Scalar.subi c1_i32_0 v0
  let v68 : Index := Scalar.indexCast v1
  let c0_37 : Index := 0#32
  let c0_38 : Index := 0#32
  ![v68.toNat, 0, 0]
def k0_mult2 (i : grid0.Coords) : BitVec 32 :=
  let arg1 : BitVec 32 := BitVec.ofNat 32 (i 1).val
  let c16_i32 : BitVec 32 := 16#32
  let v72 : BitVec 32 := Scalar.muli arg1 c16_i32
  v72
def k0_off60 (i : grid0.Coords) : Fin 3 → Nat :=
  let c0_40 : Index := 0#32
  let arg1 : BitVec 32 := BitVec.ofNat 32 (i 1).val
  let c16_i32 : BitVec 32 := 16#32
  let v72 : BitVec 32 := Scalar.muli arg1 c16_i32
  let v73 : BitVec 32 := v72
  let v74 : Index := Scalar.indexCast v73
  let c0_41 : Index := 0#32
  ![0, v74.toNat, 0]
def k0_off61 (i : grid0.Coords) : Fin 3 → Nat :=
  let c1 : Index := 1#32
  let arg1 : BitVec 32 := BitVec.ofNat 32 (i 1).val
  let c16_i32 : BitVec 32 := 16#32
  let v72 : BitVec 32 := Scalar.muli arg1 c16_i32
  let v73 : BitVec 32 := v72
  let v77 : Index := Scalar.indexCast v73
  let c0_42 : Index := 0#32
  ![1, v77.toNat, 0]
def k0_off62 (i : grid0.Coords) : Fin 3 → Nat :=
  let c2 : Index := 2#32
  let arg1 : BitVec 32 := BitVec.ofNat 32 (i 1).val
  let c16_i32 : BitVec 32 := 16#32
  let v72 : BitVec 32 := Scalar.muli arg1 c16_i32
  let v73 : BitVec 32 := v72
  let v80 : Index := Scalar.indexCast v73
  let c0_43 : Index := 0#32
  ![2, v80.toNat, 0]
def k0_off63 (i : grid0.Coords) : Fin 3 → Nat :=
  let c3 : Index := 3#32
  let arg1 : BitVec 32 := BitVec.ofNat 32 (i 1).val
  let c16_i32 : BitVec 32 := 16#32
  let v72 : BitVec 32 := Scalar.muli arg1 c16_i32
  let v73 : BitVec 32 := v72
  let v83 : Index := Scalar.indexCast v73
  let c0_44 : Index := 0#32
  ![3, v83.toNat, 0]
def k0_off64 (i : grid0.Coords) : Fin 3 → Nat :=
  let c4 : Index := 4#32
  let arg1 : BitVec 32 := BitVec.ofNat 32 (i 1).val
  let c16_i32 : BitVec 32 := 16#32
  let v72 : BitVec 32 := Scalar.muli arg1 c16_i32
  let v73 : BitVec 32 := v72
  let v86 : Index := Scalar.indexCast v73
  let c0_45 : Index := 0#32
  ![4, v86.toNat, 0]
def k0_off65 (i : grid0.Coords) : Fin 3 → Nat :=
  let c5 : Index := 5#32
  let arg1 : BitVec 32 := BitVec.ofNat 32 (i 1).val
  let c16_i32 : BitVec 32 := 16#32
  let v72 : BitVec 32 := Scalar.muli arg1 c16_i32
  let v73 : BitVec 32 := v72
  let v89 : Index := Scalar.indexCast v73
  let c0_46 : Index := 0#32
  ![5, v89.toNat, 0]
def k0_off66 (i : grid0.Coords) : Fin 3 → Nat :=
  let c6 : Index := 6#32
  let arg1 : BitVec 32 := BitVec.ofNat 32 (i 1).val
  let c16_i32 : BitVec 32 := 16#32
  let v72 : BitVec 32 := Scalar.muli arg1 c16_i32
  let v73 : BitVec 32 := v72
  let v92 : Index := Scalar.indexCast v73
  let c0_47 : Index := 0#32
  ![6, v92.toNat, 0]
def k0_off67 (i : grid0.Coords) : Fin 3 → Nat :=
  let c7 : Index := 7#32
  let arg1 : BitVec 32 := BitVec.ofNat 32 (i 1).val
  let c16_i32 : BitVec 32 := 16#32
  let v72 : BitVec 32 := Scalar.muli arg1 c16_i32
  let v73 : BitVec 32 := v72
  let v95 : Index := Scalar.indexCast v73
  let c0_48 : Index := 0#32
  ![7, v95.toNat, 0]
def k0_off68 (i : grid0.Coords) : Fin 3 → Nat :=
  let arg1 : BitVec 32 := BitVec.ofNat 32 (i 1).val
  let c1_i32 : BitVec 32 := 1#32
  let v0 : BitVec 32 := Scalar.andi arg1 c1_i32
  let v273 : Index := Scalar.indexCast v0
  let c0_125 : Index := 0#32
  let c0_126 : Index := 0#32
  ![v273.toNat, 0, 0]
def k0_off69 (i : grid0.Coords) : Fin 3 → Nat :=
  let arg1 : BitVec 32 := BitVec.ofNat 32 (i 1).val
  let c1_i32 : BitVec 32 := 1#32
  let v0 : BitVec 32 := Scalar.andi arg1 c1_i32
  let v428 : Index := Scalar.indexCast v0
  let c128 : Index := 128#32
  let c0_187 : Index := 0#32
  ![v428.toNat, 128, 0]
def k0_off70 (i : grid0.Coords) : Fin 3 → Nat :=
  let arg1 : BitVec 32 := BitVec.ofNat 32 (i 1).val
  let c1_i32 : BitVec 32 := 1#32
  let v0 : BitVec 32 := Scalar.andi arg1 c1_i32
  let v583 : Index := Scalar.indexCast v0
  let c256_248 : Index := 256#32
  let c0_249 : Index := 0#32
  ![v583.toNat, 256, 0]
def k0_off71 (i : grid0.Coords) : Fin 3 → Nat :=
  let arg1 : BitVec 32 := BitVec.ofNat 32 (i 1).val
  let c1_i32 : BitVec 32 := 1#32
  let v0 : BitVec 32 := Scalar.andi arg1 c1_i32
  let v738 : Index := Scalar.indexCast v0
  let c384 : Index := 384#32
  let c0_310 : Index := 0#32
  ![v738.toNat, 384, 0]
def k0_off72 (i : grid0.Coords) : Fin 3 → Nat :=
  let arg1 : BitVec 32 := BitVec.ofNat 32 (i 1).val
  let c1_i32 : BitVec 32 := 1#32
  let v0 : BitVec 32 := Scalar.andi arg1 c1_i32
  let v893 : Index := Scalar.indexCast v0
  let c512_371 : Index := 512#32
  let c0_372 : Index := 0#32
  ![v893.toNat, 512, 0]
def k0_off73 (i : grid0.Coords) : Fin 3 → Nat :=
  let arg1 : BitVec 32 := BitVec.ofNat 32 (i 1).val
  let c1_i32 : BitVec 32 := 1#32
  let v0 : BitVec 32 := Scalar.andi arg1 c1_i32
  let v1048 : Index := Scalar.indexCast v0
  let c640 : Index := 640#32
  let c0_433 : Index := 0#32
  ![v1048.toNat, 640, 0]
def k0_off74 (i : grid0.Coords) : Fin 3 → Nat :=
  let arg1 : BitVec 32 := BitVec.ofNat 32 (i 1).val
  let c1_i32 : BitVec 32 := 1#32
  let v0 : BitVec 32 := Scalar.andi arg1 c1_i32
  let v1203 : Index := Scalar.indexCast v0
  let c768_494 : Index := 768#32
  let c0_495 : Index := 0#32
  ![v1203.toNat, 768, 0]
def k0_off75 (i : grid0.Coords) : Fin 3 → Nat :=
  let arg1 : BitVec 32 := BitVec.ofNat 32 (i 1).val
  let c1_i32 : BitVec 32 := 1#32
  let v0 : BitVec 32 := Scalar.andi arg1 c1_i32
  let v1358 : Index := Scalar.indexCast v0
  let c896 : Index := 896#32
  let c0_556 : Index := 0#32
  ![v1358.toNat, 896, 0]
def k0_off76 (i : grid0.Coords) : Fin 3 → Nat :=
  let arg1 : BitVec 32 := BitVec.ofNat 32 (i 1).val
  let c1_i32 : BitVec 32 := 1#32
  let v0 : BitVec 32 := Scalar.andi arg1 c1_i32
  let v1513 : Index := Scalar.indexCast v0
  let c1024_617 : Index := 1024#32
  let c0_618 : Index := 0#32
  ![v1513.toNat, 1024, 0]
def k0_off77 (i : grid0.Coords) : Fin 3 → Nat :=
  let arg1 : BitVec 32 := BitVec.ofNat 32 (i 1).val
  let c1_i32 : BitVec 32 := 1#32
  let v0 : BitVec 32 := Scalar.andi arg1 c1_i32
  let v1668 : Index := Scalar.indexCast v0
  let c1152 : Index := 1152#32
  let c0_679 : Index := 0#32
  ![v1668.toNat, 1152, 0]
def k0_off78 (i : grid0.Coords) : Fin 3 → Nat :=
  let arg1 : BitVec 32 := BitVec.ofNat 32 (i 1).val
  let c1_i32 : BitVec 32 := 1#32
  let v0 : BitVec 32 := Scalar.andi arg1 c1_i32
  let v1823 : Index := Scalar.indexCast v0
  let c1280_740 : Index := 1280#32
  let c0_741 : Index := 0#32
  ![v1823.toNat, 1280, 0]
def k0_off79 (i : grid0.Coords) : Fin 3 → Nat :=
  let arg1 : BitVec 32 := BitVec.ofNat 32 (i 1).val
  let c1_i32 : BitVec 32 := 1#32
  let v0 : BitVec 32 := Scalar.andi arg1 c1_i32
  let v1978 : Index := Scalar.indexCast v0
  let c1408 : Index := 1408#32
  let c0_802 : Index := 0#32
  ![v1978.toNat, 1408, 0]
def k0_off80 (i : grid0.Coords) : Fin 3 → Nat :=
  let arg1 : BitVec 32 := BitVec.ofNat 32 (i 1).val
  let c1_i32 : BitVec 32 := 1#32
  let v0 : BitVec 32 := Scalar.andi arg1 c1_i32
  let v2133 : Index := Scalar.indexCast v0
  let c1536_863 : Index := 1536#32
  let c0_864 : Index := 0#32
  ![v2133.toNat, 1536, 0]
def k0_off81 (i : grid0.Coords) : Fin 3 → Nat :=
  let arg1 : BitVec 32 := BitVec.ofNat 32 (i 1).val
  let c1_i32 : BitVec 32 := 1#32
  let v0 : BitVec 32 := Scalar.andi arg1 c1_i32
  let v2288 : Index := Scalar.indexCast v0
  let c1664 : Index := 1664#32
  let c0_925 : Index := 0#32
  ![v2288.toNat, 1664, 0]
def k0_off82 (i : grid0.Coords) : Fin 3 → Nat :=
  let arg1 : BitVec 32 := BitVec.ofNat 32 (i 1).val
  let c1_i32 : BitVec 32 := 1#32
  let v0 : BitVec 32 := Scalar.andi arg1 c1_i32
  let v2443 : Index := Scalar.indexCast v0
  let c1792_986 : Index := 1792#32
  let c0_987 : Index := 0#32
  ![v2443.toNat, 1792, 0]
def k0_off83 (i : grid0.Coords) : Fin 3 → Nat :=
  let arg1 : BitVec 32 := BitVec.ofNat 32 (i 1).val
  let c1_i32 : BitVec 32 := 1#32
  let v0 : BitVec 32 := Scalar.andi arg1 c1_i32
  let v2598 : Index := Scalar.indexCast v0
  let c1920 : Index := 1920#32
  let c0_1048 : Index := 0#32
  ![v2598.toNat, 1920, 0]
def k0_cond8 (i : grid0.Coords) : BitVec 1 :=
  let arg1 : BitVec 32 := BitVec.ofNat 32 (i 1).val
  let c8_i32_16 : BitVec 32 := 8#32
  let v29 : BitVec 1 := Scalar.cmpi .eq arg1 c8_i32_16
  let v30 : BitVec 32 := Scalar.extui v29
  let c0_i32_17 : BitVec 32 := 0#32
  let v31 : BitVec 1 := Scalar.cmpi .ne v30 c0_i32_17
  v31

def k0_off84 (i : grid0.Coords) : Fin 3 → Nat :=
  let arg0 : BitVec 32 := BitVec.ofNat 32 (i 0).val
  let c8_i32_3 : BitVec 32 := 8#32
  let v9 : BitVec 32 := Scalar.muli arg0 c8_i32_3
  let arg1 : BitVec 32 := BitVec.ofNat 32 (i 1).val
  let v10 : BitVec 32 := Scalar.addi v9 arg1
  let c1_i32_4 : BitVec 32 := 1#32
  let v11 : BitVec 32 := Scalar.subi v10 c1_i32_4
  let c0_i32_9 : BitVec 32 := 0#32
  let v19 : BitVec 32 := Scalar.maxsi v11 c0_i32_9
  let c3_i32_10 : BitVec 32 := 3#32
  let v20 : BitVec 32 := Scalar.remsi v19 c3_i32_10
  let v33 : Index := Scalar.indexCast v20
  let c0_19 : Index := 0#32
  let c0_20 : Index := 0#32
  ![v33.toNat, 0, 0]
def k0_off85 (i : grid0.Coords) : Fin 3 → Nat :=
  let c1_i32_0 : BitVec 32 := 1#32
  let arg1 : BitVec 32 := BitVec.ofNat 32 (i 1).val
  let c1_i32 : BitVec 32 := 1#32
  let v0 : BitVec 32 := Scalar.andi arg1 c1_i32
  let v1 : BitVec 32 := Scalar.subi c1_i32_0 v0
  let v36 : Index := Scalar.indexCast v1
  let c0_21 : Index := 0#32
  let c0_22 : Index := 0#32
  ![v36.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0_i32 : BitVec 32 := 0#32
  let v1 : BitVec 32 := Scalar.addi v0 c0_i32
  let c8_i32 : BitVec 32 := 8#32
  let v2 : BitVec 32 := Scalar.divsi v1 c8_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c2_i32_5 : BitVec 32 := 2#32
  let v19 : BitVec 32 := Scalar.muli v18 c2_i32_5
  let c1_i32_6 : BitVec 32 := 1#32
  let v20 : BitVec 32 := Scalar.addi v19 c1_i32_6
  let c6_i32 : BitVec 32 := 6#32
  let v21 : BitVec 32 := Scalar.muli v20 c6_i32
  let c5_i32 : BitVec 32 := 5#32
  let v22 : BitVec 32 := Scalar.addi v21 c5_i32
  let c0_i32_7 : BitVec 32 := 0#32
  let c0_i32_8 : BitVec 32 := 0#32
  let c0_i32_9 : BitVec 32 := 0#32
  ![v22.toNat, c0_i32_7.toNat, c0_i32_8.toNat]

def cc0_transform_9 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c1_i32 : BitVec 32 := 1#32
  let v1 : BitVec 32 := Scalar.addi v0 c1_i32
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c2_i32_5 : BitVec 32 := 2#32
  let v19 : BitVec 32 := Scalar.muli v18 c2_i32_5
  let c1_i32_6 : BitVec 32 := 1#32
  let v20 : BitVec 32 := Scalar.addi v19 c1_i32_6
  let c6_i32 : BitVec 32 := 6#32
  let v21 : BitVec 32 := Scalar.muli v20 c6_i32
  let c5_i32 : BitVec 32 := 5#32
  let v22 : BitVec 32 := Scalar.addi v21 c5_i32
  let c0_i32_7 : BitVec 32 := 0#32
  let c0_i32_8 : BitVec 32 := 0#32
  let c0_i32_9 : BitVec 32 := 0#32
  ![v22.toNat, c0_i32_7.toNat, c0_i32_8.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== KernelIdeal.lean ====
variable {F : FTy → Type} [FloatOps F] [Named F]
def κ : String → Option EReal := fun
  | "gelu_cubic" => some ((12003091 / 268435456 : ℝ) : EReal)
  | "gelu_scale" => some ((6693141 / 8388608 : ℝ) : EReal)
  | _ => none
-- ==== ReferenceIdeal.lean ====
abbrev S32768x1024 : Shape := ⟨2, ![32768, 1024]⟩
abbrev S16384x1024 : Shape := ⟨2, ![16384, 1024]⟩
abbrev S8x128x32768 : Shape := ⟨3, ![8, 128, 32768]⟩
abbrev S24x6144 : Shape := ⟨2, ![24, 6144]⟩
abbrev S1024 : Shape := ⟨1, ![1024]⟩
abbrev S8x1x128x32768 : Shape := ⟨4, ![8, 1, 128, 32768]⟩
abbrev S8x128x1x32768 : Shape := ⟨4, ![8, 128, 1, 32768]⟩
abbrev S8x128x128x32768 : Shape := ⟨4, ![8, 128, 128, 32768]⟩
abbrev S_ : Shape := ⟨0, ![]⟩
abbrev S128x128x32768 : Shape := ⟨3, ![128, 128, 32768]⟩
abbrev S16384x32768 : Shape := ⟨2, ![16384, 32768]⟩
abbrev S16x6144 : Shape := ⟨2, ![16, 6144]⟩
abbrev S16x1024 : Shape := ⟨2, ![16, 1024]⟩
abbrev S16x1x1024 : Shape := ⟨3, ![16, 1, 1024]⟩
abbrev S16x2048x1024 : Shape := ⟨3, ![16, 2048, 1024]⟩
abbrev S32768 : Shape := ⟨1, ![32768]⟩
abbrev S32768x1 : Shape := ⟨2, ![32768, 1]⟩
abbrev S1x1024 : Shape := ⟨2, ![1, 1024]⟩

abbrev nBuf : Space → Nat
  | .hbm => 79
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .f32⟩
  | .hbm, ⟨2, _⟩ => ⟨S16384x1024, .f32⟩
  | .hbm, ⟨3, _⟩ => ⟨S16384x1024, .f32⟩
  | .hbm, ⟨4, _⟩ => ⟨S8x128x32768, .bf16⟩
  | .hbm, ⟨5, _⟩ => ⟨S8x128x32768, .bf16⟩
  | .hbm, ⟨6, _⟩ => ⟨S8x128x32768, .f32⟩
  | .hbm, ⟨7, _⟩ => ⟨S8x128x32768, .f32⟩
  | .hbm, ⟨8, _⟩ => ⟨S24x6144, .f32⟩
  | .hbm, ⟨9, _⟩ => ⟨S1024, .f32⟩
  | .hbm, ⟨10, _⟩ => ⟨S32768x1024, .f32⟩
  | .hbm, ⟨11, _⟩ => ⟨S8x128x32768, .f32⟩
  | .hbm, ⟨12, _⟩ => ⟨S8x128x32768, .f32⟩
  | .hbm, ⟨13, _⟩ => ⟨S8x1x128x32768, .f32⟩
  | .hbm, ⟨14, _⟩ => ⟨S8x128x1x32768, .f32⟩
  | .hbm, ⟨15, _⟩ => ⟨S8x128x128x32768, .f32⟩
  | .hbm, ⟨16, _⟩ => ⟨S8x128x128x32768, .f32⟩
  | .hbm, ⟨17, _⟩ => ⟨S8x128x128x32768, .i1⟩
  | .hbm, ⟨18, _⟩ => ⟨S8x1x128x32768, .f32⟩
  | .hbm, ⟨19, _⟩ => ⟨S_, .f32⟩
  | .hbm, ⟨20, _⟩ => ⟨S_, .f32⟩
  | .hbm, ⟨21, _⟩ => ⟨S8x128x128x32768, .f32⟩
  | .hbm, ⟨22, _⟩ => ⟨S8x128x128x32768, .f32⟩
  | .hbm, ⟨23, _⟩ => ⟨S8x128x128x32768, .f32⟩
  | .hbm, ⟨24, _⟩ => ⟨S8x128x1x32768, .f32⟩
  | .hbm, ⟨25, _⟩ => ⟨S8x128x128x32768, .f32⟩
  | .hbm, ⟨26, _⟩ => ⟨S8x128x128x32768, .f32⟩
  | .hbm, ⟨27, _⟩ => ⟨S_, .f32⟩
  | .hbm, ⟨28, _⟩ => ⟨S128x128x32768, .f32⟩
  | .hbm, ⟨29, _⟩ => ⟨S16384x32768, .f32⟩
  | .hbm, ⟨30, _⟩ => ⟨S16384x32768, .f32⟩
  | .hbm, ⟨31, _⟩ => ⟨S16384x32768, .f32⟩
  | .hbm, ⟨32, _⟩ => ⟨S16384x32768, .f32⟩
  | .hbm, ⟨33, _⟩ => ⟨S_, .f32⟩
  | .hbm, ⟨34, _⟩ => ⟨S16384x32768, .f32⟩
  | .hbm, ⟨35, _⟩ => ⟨S16384x32768, .f32⟩
  | .hbm, ⟨36, _⟩ => ⟨S16384x32768, .f32⟩
  | .hbm, ⟨37, _⟩ => ⟨S_, .f32⟩
  | .hbm, ⟨38, _⟩ => ⟨S16384x32768, .f32⟩
  | .hbm, ⟨39, _⟩ => ⟨S16384x32768, .f32⟩
  | .hbm, ⟨40, _⟩ => ⟨S16384x32768, .f32⟩
  | .hbm, ⟨41, _⟩ => ⟨S_, .f32⟩
  | .hbm, ⟨42, _⟩ => ⟨S16384x32768, .f32⟩
  | .hbm, ⟨43, _⟩ => ⟨S16384x32768, .f32⟩
  | .hbm, ⟨44, _⟩ => ⟨S_, .f32⟩
  | .hbm, ⟨45, _⟩ => ⟨S16384x32768, .f32⟩
  | .hbm, ⟨46, _⟩ => ⟨S16384x32768, .f32⟩
  | .hbm, ⟨47, _⟩ => ⟨S16384x32768, .f32⟩
  | .hbm, ⟨48, _⟩ => ⟨S16384x32768, .f32⟩
  | .hbm, ⟨49, _⟩ => ⟨S32768x1024, .f32⟩
  | .hbm, ⟨50, _⟩ => ⟨S16x6144, .f32⟩
  | .hbm, ⟨51, _⟩ => ⟨S16x1024, .f32⟩
  | .hbm, ⟨52, _⟩ => ⟨S16x1024, .f32⟩
  | .hbm, ⟨53, _⟩ => ⟨S16x1024, .f32⟩
  | .hbm, ⟨54, _⟩ => ⟨S16x1024, .f32⟩
  | .hbm, ⟨55, _⟩ => ⟨S16x1024, .f32⟩
  | .hbm, ⟨56, _⟩ => ⟨S16x1024, .f32⟩
  | .hbm, ⟨57, _⟩ => ⟨S16x1x1024, .f32⟩
  | .hbm, ⟨58, _⟩ => ⟨S16x2048x1024, .f32⟩
  | .hbm, ⟨59, _⟩ => ⟨S16x2048x1024, .f32⟩
  | .hbm, ⟨60, _⟩ => ⟨S16x2048x1024, .f32⟩
  | .hbm, ⟨61, _⟩ => ⟨S32768x1024, .f32⟩
  | .hbm, ⟨62, _⟩ => ⟨S32768x1024, .f32⟩
  | .hbm, ⟨63, _⟩ => ⟨S32768x1024, .f32⟩
  | .hbm, ⟨64, _⟩ => ⟨S_, .f32⟩
  | .hbm, ⟨65, _⟩ => ⟨S32768, .f32⟩
  | .hbm, ⟨66, _⟩ => ⟨S32768x1, .f32⟩
  | .hbm, ⟨67, _⟩ => ⟨S_, .f32⟩
  | .hbm, ⟨68, _⟩ => ⟨S32768x1, .f32⟩
  | .hbm, ⟨69, _⟩ => ⟨S32768x1, .f32⟩
  | .hbm, ⟨70, _⟩ => ⟨S_, .f32⟩
  | .hbm, ⟨71, _⟩ => ⟨S32768x1, .f32⟩
  | .hbm, ⟨72, _⟩ => ⟨S32768x1, .f32⟩
  | .hbm, ⟨73, _⟩ => ⟨S32768x1, .f32⟩
  | .hbm, ⟨74, _⟩ => ⟨S32768x1024, .f32⟩
  | .hbm, ⟨75, _⟩ => ⟨S32768x1024, .f32⟩
  | .hbm, ⟨76, _⟩ => ⟨S1x1024, .f32⟩
  | .hbm, ⟨77, _⟩ => ⟨S32768x1024, .f32⟩
  | .hbm, ⟨78, _⟩ => ⟨S32768x1024, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_0 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_1 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_2 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_3 : Ref sig .tc := ⟨.hbm, 41, rfl⟩
abbrev main_v24 : Ref sig .tc := ⟨.hbm, 42, rfl⟩
abbrev main_v25 : Ref sig .tc := ⟨.hbm, 43, rfl⟩
abbrev main_cst_4 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_5 : Ref sig .tc := ⟨.hbm, 64, rfl⟩
abbrev main_v45 : Ref sig .tc := ⟨.hbm, 65, rfl⟩
abbrev main_v46 : Ref sig .tc := ⟨.hbm, 66, rfl⟩
abbrev main_cst_6 : Ref sig .tc := ⟨.hbm, 67, rfl⟩
abbrev main_v47 : Ref sig .tc := ⟨.hbm, 68, rfl⟩
abbrev main_v48 : Ref sig .tc := ⟨.hbm, 69, rfl⟩
abbrev main_cst_7 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩

abbrev nD : Nat := 1
abbrev τ : Topo := Topo.v7x

variable {F : FTy → Type} [FloatOps F]
-- ==== Kernel2.lean ====
abbrev S16x2048x1024 : Shape := ⟨3, ![16, 2048, 1024]⟩
abbrev S16x256x1024 : Shape := ⟨3, ![16, 256, 1024]⟩
abbrev S1024 : Shape := ⟨1, ![1024]⟩
abbrev S24x6144 : Shape := ⟨2, ![24, 6144]⟩
abbrev S1024x3088 : Shape := ⟨2, ![1024, 3088]⟩
abbrev S24x6x1024 : Shape := ⟨3, ![24, 6, 1024]⟩
abbrev S1x6x1024 : Shape := ⟨3, ![1, 6, 1024]⟩
abbrev S6x1024 : Shape := ⟨2, ![6, 1024]⟩
abbrev S16x6x1024 : Shape := ⟨3, ![16, 6, 1024]⟩
abbrev S16x1x6x1024 : Shape := ⟨4, ![16, 1, 6, 1024]⟩
abbrev S16x2x6x1024 : Shape := ⟨4, ![16, 2, 6, 1024]⟩
abbrev S192x1x1024 : Shape := ⟨3, ![192, 1, 1024]⟩
abbrev S16x2304x1024 : Shape := ⟨3, ![16, 2304, 1024]⟩
abbrev S36864x1024 : Shape := ⟨2, ![36864, 1024]⟩
abbrev S1024x16 : Shape := ⟨2, ![1024, 16]⟩
abbrev S_ : Shape := ⟨0, ![]⟩
abbrev S1024x128 : Shape := ⟨2, ![1024, 128]⟩
abbrev S1024x1536 : Shape := ⟨2, ![1024, 1536]⟩
abbrev S1024x512 : Shape := ⟨2, ![1024, 512]⟩
abbrev S1024x3200 : Shape := ⟨2, ![1024, 3200]⟩
abbrev S1x1024 : Shape := ⟨2, ![1, 1024]⟩
abbrev S36864x1536 : Shape := ⟨2, ![36864, 1536]⟩
abbrev S36864x512 : Shape := ⟨2, ![36864, 512]⟩
abbrev S36864x128 : Shape := ⟨2, ![36864, 128]⟩
abbrev S256x1024 : Shape := ⟨2, ![256, 1024]⟩
abbrev S1x1x1024 : Shape := ⟨3, ![1, 1, 1024]⟩
abbrev S256x1536 : Shape := ⟨2, ![256, 1536]⟩
abbrev S256x512 : Shape := ⟨2, ![256, 512]⟩
abbrev S256x128 : Shape := ⟨2, ![256, 128]⟩
abbrev S256 : Shape := ⟨1, ![256]⟩
abbrev S256x1 : Shape := ⟨2, ![256, 1]⟩

abbrev nBuf : Space → Nat
  | .hbm => 32
  | .vmem => 18
  | .smem => 0
  | _ => 0

abbrev bufTy : (tb : Table) → Fin (tcTables nBuf tb) → BufTy
  | .hbm, ⟨0, _⟩ => ⟨S16x2048x1024, .f32⟩
  | .hbm, ⟨1, _⟩ => ⟨S16x256x1024, .f32⟩
  | .hbm, ⟨2, _⟩ => ⟨S1024, .f32⟩
  | .hbm, ⟨3, _⟩ => ⟨S24x6144, .f32⟩
  | .hbm, ⟨4, _⟩ => ⟨S1024x3088, .f32⟩
  | .hbm, ⟨5, _⟩ => ⟨S24x6x1024, .f32⟩
  | .hbm, ⟨6, _⟩ => ⟨S1x6x1024, .f32⟩
  | .hbm, ⟨7, _⟩ => ⟨S6x1024, .f32⟩
  | .hbm, ⟨8, _⟩ => ⟨S16x6x1024, .f32⟩
  | .hbm, ⟨9, _⟩ => ⟨S16x6x1024, .f32⟩
  | .hbm, ⟨10, _⟩ => ⟨S16x1x6x1024, .f32⟩
  | .hbm, ⟨11, _⟩ => ⟨S16x1x6x1024, .f32⟩
  | .hbm, ⟨12, _⟩ => ⟨S16x2x6x1024, .f32⟩
  | .hbm, ⟨13, _⟩ => ⟨S192x1x1024, .f32⟩
  | .hbm, ⟨14, _⟩ => ⟨S16x2304x1024, .f32⟩
  | .hbm, ⟨15, _⟩ => ⟨S36864x1024, .f32⟩
  | .hbm, ⟨16, _⟩ => ⟨S1024x16, .f32⟩
  | .hbm, ⟨17, _⟩ => ⟨S_, .i32⟩
  | .hbm, ⟨18, _⟩ => ⟨S_, .f32⟩
  | .hbm, ⟨19, _⟩ => ⟨S1024x128, .f32⟩
  | .hbm, ⟨20, _⟩ => ⟨S1024x1536, .f32⟩
  | .hbm, ⟨21, _⟩ => ⟨S1024x512, .f32⟩
  | .hbm, ⟨22, _⟩ => ⟨S1024x512, .f32⟩
  | .hbm, ⟨23, _⟩ => ⟨S1024x512, .f32⟩
  | .hbm, ⟨24, _⟩ => ⟨S1024x3200, .f32⟩
  | .hbm, ⟨25, _⟩ => ⟨S1024x3200, .bf16⟩
  | .hbm, ⟨26, _⟩ => ⟨S1x1024, .f32⟩
  | .hbm, ⟨27, _⟩ => ⟨S36864x1536, .f32⟩
  | .hbm, ⟨28, _⟩ => ⟨S36864x512, .f32⟩
  | .hbm, ⟨29, _⟩ => ⟨S36864x512, .f32⟩
  | .hbm, ⟨30, _⟩ => ⟨S36864x512, .f32⟩
  | .hbm, ⟨31, _⟩ => ⟨S36864x128, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x3200, .bf16⟩
  | .local _ .vmem, ⟨8, _⟩ => ⟨S256x1536, .f32⟩
  | .local _ .vmem, ⟨9, _⟩ => ⟨S256x1536, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x128, .f32⟩
  | .local _ .vmem, ⟨17, _⟩ => ⟨S256x128, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_call0_v0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20_0 : Ref sig .tc := ⟨.hbm, 27, rfl⟩
abbrev main_v20_1 : Ref sig .tc := ⟨.hbm, 28, rfl⟩
abbrev main_v20_2 : Ref sig .tc := ⟨.hbm, 29, rfl⟩
abbrev main_v20_3 : Ref sig .tc := ⟨.hbm, 30, rfl⟩
abbrev main_v20_4 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![144], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c9_i32 : BitVec 32 := 9#32
  let v0 : BitVec 32 := Scalar.divsi arg0 c9_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c9_i32 c0_i32_1
  let v7 : BitVec 32 := Scalar.extui v6
  let c0_i32_2 : BitVec 32 := 0#32
  let v8 : BitVec 1 := Scalar.cmpi .slt c9_i32 c0_i32_2
  let v9 : BitVec 32 := Scalar.extui v8
  let v10 : BitVec 32 := Scalar.subi v7 v9
  let v11 : BitVec 1 := Scalar.cmpi .ne v5 v10
  let v12 : BitVec 32 := Scalar.remsi arg0 c9_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.muli v16 c2_i32
  let c9_i32_4 : BitVec 32 := 9#32
  let c0_i32_5 : BitVec 32 := 0#32
  let v18 : BitVec 1 := Scalar.cmpi .eq c9_i32_4 c0_i32_5
  let c1_i32_6 : BitVec 32 := 1#32
  let v19 : BitVec 32 := Scalar.select v18 c1_i32_6 c9_i32_4
  let v20 : BitVec 32 := Scalar.remsi arg0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c1_i32_10 : BitVec 32 := 1#32
  let v28 : BitVec 32 := Scalar.minsi v27 c1_i32_10
  let v29 : BitVec 32 := Scalar.addi v17 v28
  let c6_i32 : BitVec 32 := 6#32
  let v30 : BitVec 32 := Scalar.muli v29 c6_i32
  let c0_i32_11 : BitVec 32 := 0#32
  let c0_i32_12 : BitVec 32 := 0#32
  let c0_i32_13 : BitVec 32 := 0#32
  ![v30.toNat, c0_i32_11.toNat, c0_i32_12.toNat]

def cc0_transform_3 (i : grid0.Coords) : Fin 3 → Nat :=
  let arg0 : BitVec 32 := BitVec.ofNat 32 (i 0).val
  let c9_i32 : BitVec 32 := 9#32
  let v0 : BitVec 32 := Scalar.divsi arg0 c9_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c9_i32 c0_i32_1
  let v7 : BitVec 32 := Scalar.extui v6
  let c0_i32_2 : BitVec 32 := 0#32
  let v8 : BitVec 1 := Scalar.cmpi .slt c9_i32 c0_i32_2
  let v9 : BitVec 32 := Scalar.extui v8
  let v10 : BitVec 32 := Scalar.subi v7 v9
  let v11 : BitVec 1 := Scalar.cmpi .ne v5 v10
  let v12 : BitVec 32 := Scalar.remsi arg0 c9_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.muli v16 c2_i32
  let c9_i32_4 : BitVec 32 := 9#32
  let c0_i32_5 : BitVec 32 := 0#32
  let v18 : BitVec 1 := Scalar.cmpi .eq c9_i32_4 c0_i32_5
  let c1_i32_6 : BitVec 32 := 1#32
  let v19 : BitVec 32 := Scalar.select v18 c1_i32_6 c9_i32_4
  let v20 : BitVec 32 := Scalar.remsi arg0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c1_i32_10 : BitVec 32 := 1#32
  let v28 : BitVec 32 := Scalar.minsi v27 c1_i32_10
  let v29 : BitVec 32 := Scalar.addi v17 v28
  let c6_i32 : BitVec 32 := 6#32
  let v30 : BitVec 32 := Scalar.muli v29 c6_i32
  let c1_i32_11 : BitVec 32 := 1#32
  let v31 : BitVec 32 := Scalar.addi v30 c1_i32_11
  let c0_i32_12 : BitVec 32 := 0#32
  let c0_i32_13 : BitVec 32 := 0#32
  let c0_i32_14 : BitVec 32 := 0#32
  ![v31.toNat, c0_i32_12.toNat, c0_i32_13.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x3200 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference2Ideal.lean ====
abbrev S16x2048x1024 : Shape := ⟨3, ![16, 2048, 1024]⟩
abbrev S16x256x1024 : Shape := ⟨3, ![16, 256, 1024]⟩
abbrev S1024 : Shape := ⟨1, ![1024]⟩
abbrev S24x6144 : Shape := ⟨2, ![24, 6144]⟩
abbrev S1024x3088 : Shape := ⟨2, ![1024, 3088]⟩
abbrev S24x1024 : Shape := ⟨2, ![24, 1024]⟩
abbrev S1x1024 : Shape := ⟨2, ![1, 1024]⟩
abbrev S_ : Shape := ⟨0, ![]⟩
abbrev S16x256 : Shape := ⟨2, ![16, 256]⟩
abbrev S16x256x1 : Shape := ⟨3, ![16, 256, 1]⟩
abbrev S1x1x1024 : Shape := ⟨3, ![1, 1, 1024]⟩
abbrev S16x256x3088 : Shape := ⟨3, ![16, 256, 3088]⟩
abbrev S16x1024 : Shape := ⟨2, ![16, 1024]⟩
abbrev S16x1x1024 : Shape := ⟨3, ![16, 1, 1024]⟩
abbrev S16x2048 : Shape := ⟨2, ![16, 2048]⟩
abbrev S16x2048x1 : Shape := ⟨3, ![16, 2048, 1]⟩
abbrev S16x2048x3088 : Shape := ⟨3, ![16, 2048, 3088]⟩
abbrev S16x2304x3088 : Shape := ⟨3, ![16, 2304, 3088]⟩
abbrev S36864x3088 : Shape := ⟨2, ![36864, 3088]⟩
abbrev S36864x1536 : Shape := ⟨2, ![36864, 1536]⟩
abbrev S36864x512 : Shape := ⟨2, ![36864, 512]⟩
abbrev S36864x16 : Shape := ⟨2, ![36864, 16]⟩
abbrev S36864x128 : Shape := ⟨2, ![36864, 128]⟩

abbrev nBuf : Space → Nat
  | .hbm => 79
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x256x1024, .f32⟩
  | .hbm, ⟨2, _⟩ => ⟨S1024, .f32⟩
  | .hbm, ⟨3, _⟩ => ⟨S24x6144, .f32⟩
  | .hbm, ⟨4, _⟩ => ⟨S1024x3088, .f32⟩
  | .hbm, ⟨5, _⟩ => ⟨S24x1024, .f32⟩
  | .hbm, ⟨6, _⟩ => ⟨S24x1024, .f32⟩
  | .hbm, ⟨7, _⟩ => ⟨S24x1024, .f32⟩
  | .hbm, ⟨8, _⟩ => ⟨S24x1024, .f32⟩
  | .hbm, ⟨9, _⟩ => ⟨S24x1024, .f32⟩
  | .hbm, ⟨10, _⟩ => ⟨S24x1024, .f32⟩
  | .hbm, ⟨11, _⟩ => ⟨S1x1024, .f32⟩
  | .hbm, ⟨12, _⟩ => ⟨S1024, .f32⟩
  | .hbm, ⟨13, _⟩ => ⟨S1x1024, .f32⟩
  | .hbm, ⟨14, _⟩ => ⟨S1024, .f32⟩
  | .hbm, ⟨15, _⟩ => ⟨S16x256x1024, .f32⟩
  | .hbm, ⟨16, _⟩ => ⟨S_, .f32⟩
  | .hbm, ⟨17, _⟩ => ⟨S16x256, .f32⟩
  | .hbm, ⟨18, _⟩ => ⟨S16x256x1, .f32⟩
  | .hbm, ⟨19, _⟩ => ⟨S_, .f32⟩
  | .hbm, ⟨20, _⟩ => ⟨S16x256x1, .f32⟩
  | .hbm, ⟨21, _⟩ => ⟨S16x256x1, .f32⟩
  | .hbm, ⟨22, _⟩ => ⟨S_, .f32⟩
  | .hbm, ⟨23, _⟩ => ⟨S16x256x1, .f32⟩
  | .hbm, ⟨24, _⟩ => ⟨S16x256x1, .f32⟩
  | .hbm, ⟨25, _⟩ => ⟨S16x256x1, .f32⟩
  | .hbm, ⟨26, _⟩ => ⟨S16x256x1024, .f32⟩
  | .hbm, ⟨27, _⟩ => ⟨S16x256x1024, .f32⟩
  | .hbm, ⟨28, _⟩ => ⟨S1x1x1024, .f32⟩
  | .hbm, ⟨29, _⟩ => ⟨S16x256x1024, .f32⟩
  | .hbm, ⟨30, _⟩ => ⟨S16x256x1024, .f32⟩
  | .hbm, ⟨31, _⟩ => ⟨S_, .f32⟩
  | .hbm, ⟨32, _⟩ => ⟨S1024, .f32⟩
  | .hbm, ⟨33, _⟩ => ⟨S1024, .f32⟩
  | .hbm, ⟨34, _⟩ => ⟨S1x1x1024, .f32⟩
  | .hbm, ⟨35, _⟩ => ⟨S16x256x1024, .f32⟩
  | .hbm, ⟨36, _⟩ => ⟨S16x256x1024, .f32⟩
  | .hbm, ⟨37, _⟩ => ⟨S1x1x1024, .f32⟩
  | .hbm, ⟨38, _⟩ => ⟨S16x256x1024, .f32⟩
  | .hbm, ⟨39, _⟩ => ⟨S16x256x1024, .f32⟩
  | .hbm, ⟨40, _⟩ => ⟨S16x256x3088, .f32⟩
  | .hbm, ⟨41, _⟩ => ⟨S16x1024, .f32⟩
  | .hbm, ⟨42, _⟩ => ⟨S16x1x1024, .f32⟩
  | .hbm, ⟨43, _⟩ => ⟨S16x1024, .f32⟩
  | .hbm, ⟨44, _⟩ => ⟨S16x1x1024, .f32⟩
  | .hbm, ⟨45, _⟩ => ⟨S16x2048x1024, .f32⟩
  | .hbm, ⟨46, _⟩ => ⟨S_, .f32⟩
  | .hbm, ⟨47, _⟩ => ⟨S16x2048, .f32⟩
  | .hbm, ⟨48, _⟩ => ⟨S16x2048x1, .f32⟩
  | .hbm, ⟨49, _⟩ => ⟨S_, .f32⟩
  | .hbm, ⟨50, _⟩ => ⟨S16x2048x1, .f32⟩
  | .hbm, ⟨51, _⟩ => ⟨S16x2048x1, .f32⟩
  | .hbm, ⟨52, _⟩ => ⟨S_, .f32⟩
  | .hbm, ⟨53, _⟩ => ⟨S16x2048x1, .f32⟩
  | .hbm, ⟨54, _⟩ => ⟨S16x2048x1, .f32⟩
  | .hbm, ⟨55, _⟩ => ⟨S16x2048x1, .f32⟩
  | .hbm, ⟨56, _⟩ => ⟨S16x2048x1024, .f32⟩
  | .hbm, ⟨57, _⟩ => ⟨S16x2048x1024, .f32⟩
  | .hbm, ⟨58, _⟩ => ⟨S1x1x1024, .f32⟩
  | .hbm, ⟨59, _⟩ => ⟨S16x2048x1024, .f32⟩
  | .hbm, ⟨60, _⟩ => ⟨S16x2048x1024, .f32⟩
  | .hbm, ⟨61, _⟩ => ⟨S_, .f32⟩
  | .hbm, ⟨62, _⟩ => ⟨S16x1x1024, .f32⟩
  | .hbm, ⟨63, _⟩ => ⟨S16x1x1024, .f32⟩
  | .hbm, ⟨64, _⟩ => ⟨S16x2048x1024, .f32⟩
  | .hbm, ⟨65, _⟩ => ⟨S16x2048x1024, .f32⟩
  | .hbm, ⟨66, _⟩ => ⟨S16x2048x1024, .f32⟩
  | .hbm, ⟨67, _⟩ => ⟨S16x2048x1024, .f32⟩
  | .hbm, ⟨68, _⟩ => ⟨S16x2048x3088, .f32⟩
  | .hbm, ⟨69, _⟩ => ⟨S16x2304x3088, .f32⟩
  | .hbm, ⟨70, _⟩ => ⟨S36864x3088, .f32⟩
  | .hbm, ⟨71, _⟩ => ⟨S36864x1536, .f32⟩
  | .hbm, ⟨72, _⟩ => ⟨S36864x512, .f32⟩
  | .hbm, ⟨73, _⟩ => ⟨S36864x16, .f32⟩
  | .hbm, ⟨74, _⟩ => ⟨S36864x512, .f32⟩
  | .hbm, ⟨75, _⟩ => ⟨S36864x512, .f32⟩
  | .hbm, ⟨76, _⟩ => ⟨S_, .i32⟩
  | .hbm, ⟨77, _⟩ => ⟨S_, .f32⟩
  | .hbm, ⟨78, _⟩ => ⟨S36864x128, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_3 : Ref sig .tc := ⟨.hbm, 46, rfl⟩
abbrev main_v37 : Ref sig .tc := ⟨.hbm, 47, rfl⟩
abbrev main_v38 : Ref sig .tc := ⟨.hbm, 48, rfl⟩
abbrev main_cst_4 : Ref sig .tc := ⟨.hbm, 49, rfl⟩
abbrev main_v39 : Ref sig .tc := ⟨.hbm, 50, rfl⟩
abbrev main_v40 : Ref sig .tc := ⟨.hbm, 51, rfl⟩
abbrev main_cst_5 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_cst_6 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_c : Ref sig .tc := ⟨.hbm, 76, rfl⟩
abbrev main_call0_v0 : Ref sig .tc := ⟨.hbm, 77, rfl⟩
abbrev main_v63 : Ref sig .tc := ⟨.hbm, 78, rfl⟩

abbrev nD : Nat := 1
abbrev τ : Topo := Topo.v7x

variable {F : FTy → Type} [FloatOps F]
-- ==== Kernel3.lean ====
abbrev S16x2048x1024 : Shape := ⟨3, ![16, 2048, 1024]⟩
abbrev S16x256x1024 : Shape := ⟨3, ![16, 256, 1024]⟩
abbrev S16x2304x512 : Shape := ⟨3, ![16, 2304, 512]⟩
abbrev S1024x1024 : Shape := ⟨2, ![1024, 1024]⟩
abbrev S1024 : Shape := ⟨1, ![1024]⟩
abbrev S24x6144 : Shape := ⟨2, ![24, 6144]⟩
abbrev S24x6x1024 : Shape := ⟨3, ![24, 6, 1024]⟩
abbrev S1x6x1024 : Shape := ⟨3, ![1, 6, 1024]⟩
abbrev S6x1024 : Shape := ⟨2, ![6, 1024]⟩
abbrev S16x6x1024 : Shape := ⟨3, ![16, 6, 1024]⟩
abbrev S16x1x6x1024 : Shape := ⟨4, ![16, 1, 6, 1024]⟩
abbrev S16x2x6x1024 : Shape := ⟨4, ![16, 2, 6, 1024]⟩
abbrev S192x1x1024 : Shape := ⟨3, ![192, 1, 1024]⟩
abbrev S16x2304x1024 : Shape := ⟨3, ![16, 2304, 1024]⟩
abbrev S36864x1024 : Shape := ⟨2, ![36864, 1024]⟩
abbrev S36864x512 : Shape := ⟨2, ![36864, 512]⟩
abbrev S512x1024 : Shape := ⟨2, ![512, 1024]⟩
abbrev S1x1024 : Shape := ⟨2, ![1, 1024]⟩
abbrev S256x1024 : Shape := ⟨2, ![256, 1024]⟩
abbrev S256x512 : Shape := ⟨2, ![256, 512]⟩
abbrev S1x1x1024 : Shape := ⟨3, ![1, 1, 1024]⟩
abbrev S256 : Shape := ⟨1, ![256]⟩
abbrev S256x1 : Shape := ⟨2, ![256, 1]⟩

abbrev nBuf : Space → Nat
  | .hbm => 26
  | .vmem => 19
  | .smem => 0
  | _ => 0

abbrev bufTy : (tb : Table) → Fin (tcTables nBuf tb) → BufTy
  | .hbm, ⟨0, _⟩ => ⟨S16x2048x1024, .f32⟩
  | .hbm, ⟨1, _⟩ => ⟨S16x256x1024, .f32⟩
  | .hbm, ⟨2, _⟩ => ⟨S16x2304x512, .f32⟩
  | .hbm, ⟨3, _⟩ => ⟨S16x2304x512, .f32⟩
  | .hbm, ⟨4, _⟩ => ⟨S1024x1024, .f32⟩
  | .hbm, ⟨5, _⟩ => ⟨S1024, .f32⟩
  | .hbm, ⟨6, _⟩ => ⟨S24x6144, .f32⟩
  | .hbm, ⟨7, _⟩ => ⟨S24x6x1024, .f32⟩
  | .hbm, ⟨8, _⟩ => ⟨S1x6x1024, .f32⟩
  | .hbm, ⟨9, _⟩ => ⟨S6x1024, .f32⟩
  | .hbm, ⟨10, _⟩ => ⟨S16x6x1024, .f32⟩
  | .hbm, ⟨11, _⟩ => ⟨S16x6x1024, .f32⟩
  | .hbm, ⟨12, _⟩ => ⟨S16x1x6x1024, .f32⟩
  | .hbm, ⟨13, _⟩ => ⟨S16x1x6x1024, .f32⟩
  | .hbm, ⟨14, _⟩ => ⟨S16x2x6x1024, .f32⟩
  | .hbm, ⟨15, _⟩ => ⟨S192x1x1024, .f32⟩
  | .hbm, ⟨16, _⟩ => ⟨S16x2304x1024, .f32⟩
  | .hbm, ⟨17, _⟩ => ⟨S36864x1024, .f32⟩
  | .hbm, ⟨18, _⟩ => ⟨S36864x512, .f32⟩
  | .hbm, ⟨19, _⟩ => ⟨S36864x512, .f32⟩
  | .hbm, ⟨20, _⟩ => ⟨S1024x1024, .bf16⟩
  | .hbm, ⟨21, _⟩ => ⟨S512x1024, .bf16⟩
  | .hbm, ⟨22, _⟩ => ⟨S512x1024, .bf16⟩
  | .hbm, ⟨23, _⟩ => ⟨S1x1024, .f32⟩
  | .hbm, ⟨24, _⟩ => ⟨S36864x1024, .f32⟩
  | .hbm, ⟨25, _⟩ => ⟨S36864x1024, .bf16⟩
  | .local _ .vmem, ⟨0, _⟩ => ⟨S256x1024, .f32⟩
  | .local _ .vmem, ⟨1, _⟩ => ⟨S256x1024, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S512x1024, .bf16⟩
  | .local _ .vmem, ⟨7, _⟩ => ⟨S512x1024, .bf16⟩
  | .local _ .vmem, ⟨8, _⟩ => ⟨S1x1x1024, .f32⟩
  | .local _ .vmem, ⟨9, _⟩ => ⟨S1x1x1024, .f32⟩
  | .local _ .vmem, ⟨10, _⟩ => ⟨S1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .bf16⟩
  | .local _ .vmem, ⟨18, _⟩ => ⟨S256x1024, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17_0 : Ref sig .tc := ⟨.hbm, 24, rfl⟩
abbrev main_v17_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![144], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c9_i32 : BitVec 32 := 9#32
  let v0 : BitVec 32 := Scalar.divsi arg0 c9_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c9_i32 c0_i32_1
  let v7 : BitVec 32 := Scalar.extui v6
  let c0_i32_2 : BitVec 32 := 0#32
  let v8 : BitVec 1 := Scalar.cmpi .slt c9_i32 c0_i32_2
  let v9 : BitVec 32 := Scalar.extui v8
  let v10 : BitVec 32 := Scalar.subi v7 v9
  let v11 : BitVec 1 := Scalar.cmpi .ne v5 v10
  let v12 : BitVec 32 := Scalar.remsi arg0 c9_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.muli v16 c2_i32
  let c9_i32_4 : BitVec 32 := 9#32
  let c0_i32_5 : BitVec 32 := 0#32
  let v18 : BitVec 1 := Scalar.cmpi .eq c9_i32_4 c0_i32_5
  let c1_i32_6 : BitVec 32 := 1#32
  let v19 : BitVec 32 := Scalar.select v18 c1_i32_6 c9_i32_4
  let v20 : BitVec 32 := Scalar.remsi arg0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c1_i32_10 : BitVec 32 := 1#32
  let v28 : BitVec 32 := Scalar.minsi v27 c1_i32_10
  let v29 : BitVec 32 := Scalar.addi v17 v28
  let c6_i32 : BitVec 32 := 6#32
  let v30 : BitVec 32 := Scalar.muli v29 c6_i32
  let c2_i32_11 : BitVec 32 := 2#32
  let v31 : BitVec 32 := Scalar.addi v30 c2_i32_11
  let c0_i32_12 : BitVec 32 := 0#32
  let c0_i32_13 : BitVec 32 := 0#32
  let c0_i32_14 : BitVec 32 := 0#32
  ![v31.toNat, c0_i32_12.toNat, c0_i32_13.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c9_i32 : BitVec 32 := 9#32
  let v0 : BitVec 32 := Scalar.divsi arg0 c9_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c9_i32 c0_i32_1
  let v7 : BitVec 32 := Scalar.extui v6
  let c0_i32_2 : BitVec 32 := 0#32
  let v8 : BitVec 1 := Scalar.cmpi .slt c9_i32 c0_i32_2
  let v9 : BitVec 32 := Scalar.extui v8
  let v10 : BitVec 32 := Scalar.subi v7 v9
  let v11 : BitVec 1 := Scalar.cmpi .ne v5 v10
  let v12 : BitVec 32 := Scalar.remsi arg0 c9_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.muli v16 c2_i32
  let c9_i32_4 : BitVec 32 := 9#32
  let c0_i32_5 : BitVec 32 := 0#32
  let v18 : BitVec 1 := Scalar.cmpi .eq c9_i32_4 c0_i32_5
  let c1_i32_6 : BitVec 32 := 1#32
  let v19 : BitVec 32 := Scalar.select v18 c1_i32_6 c9_i32_4
  let v20 : BitVec 32 := Scalar.remsi arg0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c1_i32_10 : BitVec 32 := 1#32
  let v28 : BitVec 32 := Scalar.minsi v27 c1_i32_10
  let v29 : BitVec 32 := Scalar.addi v17 v28
  let c6_i32 : BitVec 32 := 6#32
  let v30 : BitVec 32 := Scalar.muli v29 c6_i32
  let c3_i32 : BitVec 32 := 3#32
  let v31 : BitVec 32 := Scalar.addi v30 c3_i32
  let c0_i32_11 : BitVec 32 := 0#32
  let c0_i32_12 : BitVec 32 := 0#32
  let c0_i32_13 : BitVec 32 := 0#32
  ![v31.toNat, c0_i32_11.toNat, c0_i32_12.toNat]

def cc0_transform_8 (i : grid0.Coords) : Fin 3 → Nat :=
  let arg0 : BitVec 32 := BitVec.ofNat 32 (i 0).val
  let c9_i32 : BitVec 32 := 9#32
  let v0 : BitVec 32 := Scalar.divsi arg0 c9_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c9_i32 c0_i32_1
  let v7 : BitVec 32 := Scalar.extui v6
  let c0_i32_2 : BitVec 32 := 0#32
  let v8 : BitVec 1 := Scalar.cmpi .slt c9_i32 c0_i32_2
  let v9 : BitVec 32 := Scalar.extui v8
  let v10 : BitVec 32 := Scalar.subi v7 v9
  let v11 : BitVec 1 := Scalar.cmpi .ne v5 v10
  let v12 : BitVec 32 := Scalar.remsi arg0 c9_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.muli v16 c2_i32
  let c9_i32_4 : BitVec 32 := 9#32
  let c0_i32_5 : BitVec 32 := 0#32
  let v18 : BitVec 1 := Scalar.cmpi .eq c9_i32_4 c0_i32_5
  let c1_i32_6 : BitVec 32 := 1#32
  let v19 : BitVec 32 := Scalar.select v18 c1_i32_6 c9_i32_4
  let v20 : BitVec 32 := Scalar.remsi arg0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c1_i32_10 : BitVec 32 := 1#32
  let v28 : BitVec 32 := Scalar.minsi v27 c1_i32_10
  let v29 : BitVec 32 := Scalar.addi v17 v28
  let c6_i32 : BitVec 32 := 6#32
  let v30 : BitVec 32 := Scalar.muli v29 c6_i32
  let c4_i32 : BitVec 32 := 4#32
  let v31 : BitVec 32 := Scalar.addi v30 c4_i32
  let c0_i32_11 : BitVec 32 := 0#32
  let c0_i32_12 : BitVec 32 := 0#32
  let c0_i32_13 : BitVec 32 := 0#32
  ![v31.toNat, c0_i32_11.toNat, c0_i32_12.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference3Ideal.lean ====
abbrev S16x2048x1024 : Shape := ⟨3, ![16, 2048, 1024]⟩
abbrev S16x256x1024 : Shape := ⟨3, ![16, 256, 1024]⟩
abbrev S16x2304x512 : Shape := ⟨3, ![16, 2304, 512]⟩
abbrev S1024x1024 : Shape := ⟨2, ![1024, 1024]⟩
abbrev S1024 : Shape := ⟨1, ![1024]⟩
abbrev S24x6144 : Shape := ⟨2, ![24, 6144]⟩
abbrev S24x1024 : Shape := ⟨2, ![24, 1024]⟩
abbrev S16x2304x1024 : Shape := ⟨3, ![16, 2304, 1024]⟩
abbrev S1x1024 : Shape := ⟨2, ![1, 1024]⟩
abbrev S1x1x1024 : Shape := ⟨3, ![1, 1, 1024]⟩
abbrev S_ : Shape := ⟨0, ![]⟩
abbrev S16x256 : Shape := ⟨2, ![16, 256]⟩
abbrev S16x256x1 : Shape := ⟨3, ![16, 256, 1]⟩
abbrev S16x1024 : Shape := ⟨2, ![16, 1024]⟩
abbrev S16x1x1024 : Shape := ⟨3, ![16, 1, 1024]⟩
abbrev S16x2048 : Shape := ⟨2, ![16, 2048]⟩
abbrev S16x2048x1 : Shape := ⟨3, ![16, 2048, 1]⟩
abbrev S36864x1024 : Shape := ⟨2, ![36864, 1024]⟩

abbrev nBuf : Space → Nat
  | .hbm => 90
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x256x1024, .f32⟩
  | .hbm, ⟨2, _⟩ => ⟨S16x2304x512, .f32⟩
  | .hbm, ⟨3, _⟩ => ⟨S16x2304x512, .f32⟩
  | .hbm, ⟨4, _⟩ => ⟨S1024x1024, .f32⟩
  | .hbm, ⟨5, _⟩ => ⟨S1024, .f32⟩
  | .hbm, ⟨6, _⟩ => ⟨S24x6144, .f32⟩
  | .hbm, ⟨7, _⟩ => ⟨S24x1024, .f32⟩
  | .hbm, ⟨8, _⟩ => ⟨S24x1024, .f32⟩
  | .hbm, ⟨9, _⟩ => ⟨S24x1024, .f32⟩
  | .hbm, ⟨10, _⟩ => ⟨S24x1024, .f32⟩
  | .hbm, ⟨11, _⟩ => ⟨S24x1024, .f32⟩
  | .hbm, ⟨12, _⟩ => ⟨S24x1024, .f32⟩
  | .hbm, ⟨13, _⟩ => ⟨S16x2304x1024, .f32⟩
  | .hbm, ⟨14, _⟩ => ⟨S16x256x1024, .f32⟩
  | .hbm, ⟨15, _⟩ => ⟨S1x1024, .f32⟩
  | .hbm, ⟨16, _⟩ => ⟨S1024, .f32⟩
  | .hbm, ⟨17, _⟩ => ⟨S1x1024, .f32⟩
  | .hbm, ⟨18, _⟩ => ⟨S1024, .f32⟩
  | .hbm, ⟨19, _⟩ => ⟨S1x1024, .f32⟩
  | .hbm, ⟨20, _⟩ => ⟨S1024, .f32⟩
  | .hbm, ⟨21, _⟩ => ⟨S16x256x1024, .f32⟩
  | .hbm, ⟨22, _⟩ => ⟨S1x1x1024, .f32⟩
  | .hbm, ⟨23, _⟩ => ⟨S16x256x1024, .f32⟩
  | .hbm, ⟨24, _⟩ => ⟨S16x256x1024, .f32⟩
  | .hbm, ⟨25, _⟩ => ⟨S16x256x1024, .f32⟩
  | .hbm, ⟨26, _⟩ => ⟨S16x256x1024, .f32⟩
  | .hbm, ⟨27, _⟩ => ⟨S_, .f32⟩
  | .hbm, ⟨28, _⟩ => ⟨S16x256, .f32⟩
  | .hbm, ⟨29, _⟩ => ⟨S16x256x1, .f32⟩
  | .hbm, ⟨30, _⟩ => ⟨S_, .f32⟩
  | .hbm, ⟨31, _⟩ => ⟨S16x256x1, .f32⟩
  | .hbm, ⟨32, _⟩ => ⟨S16x256x1, .f32⟩
  | .hbm, ⟨33, _⟩ => ⟨S_, .f32⟩
  | .hbm, ⟨34, _⟩ => ⟨S16x256x1, .f32⟩
  | .hbm, ⟨35, _⟩ => ⟨S16x256x1, .f32⟩
  | .hbm, ⟨36, _⟩ => ⟨S16x256x1, .f32⟩
  | .hbm, ⟨37, _⟩ => ⟨S16x256x1024, .f32⟩
  | .hbm, ⟨38, _⟩ => ⟨S16x256x1024, .f32⟩
  | .hbm, ⟨39, _⟩ => ⟨S1x1x1024, .f32⟩
  | .hbm, ⟨40, _⟩ => ⟨S16x256x1024, .f32⟩
  | .hbm, ⟨41, _⟩ => ⟨S16x256x1024, .f32⟩
  | .hbm, ⟨42, _⟩ => ⟨S_, .f32⟩
  | .hbm, ⟨43, _⟩ => ⟨S1024, .f32⟩
  | .hbm, ⟨44, _⟩ => ⟨S1024, .f32⟩
  | .hbm, ⟨45, _⟩ => ⟨S1x1x1024, .f32⟩
  | .hbm, ⟨46, _⟩ => ⟨S16x256x1024, .f32⟩
  | .hbm, ⟨47, _⟩ => ⟨S16x256x1024, .f32⟩
  | .hbm, ⟨48, _⟩ => ⟨S1x1x1024, .f32⟩
  | .hbm, ⟨49, _⟩ => ⟨S16x256x1024, .f32⟩
  | .hbm, ⟨50, _⟩ => ⟨S16x256x1024, .f32⟩
  | .hbm, ⟨51, _⟩ => ⟨S16x2048x1024, .f32⟩
  | .hbm, ⟨52, _⟩ => ⟨S16x1024, .f32⟩
  | .hbm, ⟨53, _⟩ => ⟨S16x1x1024, .f32⟩
  | .hbm, ⟨54, _⟩ => ⟨S16x1024, .f32⟩
  | .hbm, ⟨55, _⟩ => ⟨S16x1x1024, .f32⟩
  | .hbm, ⟨56, _⟩ => ⟨S16x1024, .f32⟩
  | .hbm, ⟨57, _⟩ => ⟨S16x1x1024, .f32⟩
  | .hbm, ⟨58, _⟩ => ⟨S16x2048x1024, .f32⟩
  | .hbm, ⟨59, _⟩ => ⟨S16x2048x1024, .f32⟩
  | .hbm, ⟨60, _⟩ => ⟨S16x2048x1024, .f32⟩
  | .hbm, ⟨61, _⟩ => ⟨S16x2048x1024, .f32⟩
  | .hbm, ⟨62, _⟩ => ⟨S16x2048x1024, .f32⟩
  | .hbm, ⟨63, _⟩ => ⟨S_, .f32⟩
  | .hbm, ⟨64, _⟩ => ⟨S16x2048, .f32⟩
  | .hbm, ⟨65, _⟩ => ⟨S16x2048x1, .f32⟩
  | .hbm, ⟨66, _⟩ => ⟨S_, .f32⟩
  | .hbm, ⟨67, _⟩ => ⟨S16x2048x1, .f32⟩
  | .hbm, ⟨68, _⟩ => ⟨S16x2048x1, .f32⟩
  | .hbm, ⟨69, _⟩ => ⟨S_, .f32⟩
  | .hbm, ⟨70, _⟩ => ⟨S16x2048x1, .f32⟩
  | .hbm, ⟨71, _⟩ => ⟨S16x2048x1, .f32⟩
  | .hbm, ⟨72, _⟩ => ⟨S16x2048x1, .f32⟩
  | .hbm, ⟨73, _⟩ => ⟨S16x2048x1024, .f32⟩
  | .hbm, ⟨74, _⟩ => ⟨S16x2048x1024, .f32⟩
  | .hbm, ⟨75, _⟩ => ⟨S1x1x1024, .f32⟩
  | .hbm, ⟨76, _⟩ => ⟨S16x2048x1024, .f32⟩
  | .hbm, ⟨77, _⟩ => ⟨S16x2048x1024, .f32⟩
  | .hbm, ⟨78, _⟩ => ⟨S_, .f32⟩
  | .hbm, ⟨79, _⟩ => ⟨S16x1x1024, .f32⟩
  | .hbm, ⟨80, _⟩ => ⟨S16x1x1024, .f32⟩
  | .hbm, ⟨81, _⟩ => ⟨S16x2048x1024, .f32⟩
  | .hbm, ⟨82, _⟩ => ⟨S16x2048x1024, .f32⟩
  | .hbm, ⟨83, _⟩ => ⟨S16x2048x1024, .f32⟩
  | .hbm, ⟨84, _⟩ => ⟨S16x2048x1024, .f32⟩
  | .hbm, ⟨85, _⟩ => ⟨S16x2304x1024, .f32⟩
  | .hbm, ⟨86, _⟩ => ⟨S36864x1024, .f32⟩
  | .hbm, ⟨87, _⟩ => ⟨S16x2304x1024, .f32⟩
  | .hbm, ⟨88, _⟩ => ⟨S36864x1024, .f32⟩
  | .hbm, ⟨89, _⟩ => ⟨S36864x1024, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst : Ref sig .tc := ⟨.hbm, 27, rfl⟩
abbrev main_v20 : Ref sig .tc := ⟨.hbm, 28, rfl⟩
abbrev main_v21 : Ref sig .tc := ⟨.hbm, 29, rfl⟩
abbrev main_cst_0 : Ref sig .tc := ⟨.hbm, 30, rfl⟩
abbrev main_v22 : Ref sig .tc := ⟨.hbm, 31, rfl⟩
abbrev main_v23 : Ref sig .tc := ⟨.hbm, 32, rfl⟩
abbrev main_cst_1 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_2 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_cst_3 : Ref sig .tc := ⟨.hbm, 63, rfl⟩
abbrev main_v52 : Ref sig .tc := ⟨.hbm, 64, rfl⟩
abbrev main_v53 : Ref sig .tc := ⟨.hbm, 65, rfl⟩
abbrev main_cst_4 : Ref sig .tc := ⟨.hbm, 66, rfl⟩
abbrev main_v54 : Ref sig .tc := ⟨.hbm, 67, rfl⟩
abbrev main_v55 : Ref sig .tc := ⟨.hbm, 68, rfl⟩
abbrev main_cst_5 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_cst_6 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩

abbrev nD : Nat := 1
abbrev τ : Topo := Topo.v7x

variable {F : FTy → Type} [FloatOps F]
-- ==== Kernel4.lean ====
abbrev S16x2048x1024 : Shape := ⟨3, ![16, 2048, 1024]⟩
abbrev S1024 : Shape := ⟨1, ![1024]⟩
abbrev S24x6144 : Shape := ⟨2, ![24, 6144]⟩
abbrev S1024x2064 : Shape := ⟨2, ![1024, 2064]⟩
abbrev S24x6x1024 : Shape := ⟨3, ![24, 6, 1024]⟩
abbrev S1x6x1024 : Shape := ⟨3, ![1, 6, 1024]⟩
abbrev S6x1024 : Shape := ⟨2, ![6, 1024]⟩
abbrev S16x6x1024 : Shape := ⟨3, ![16, 6, 1024]⟩
abbrev S16x1x6x1024 : Shape := ⟨4, ![16, 1, 6, 1024]⟩
abbrev S16x2x6x1024 : Shape := ⟨4, ![16, 2, 6, 1024]⟩
abbrev S192x1x1024 : Shape := ⟨3, ![192, 1, 1024]⟩
abbrev S16x32x64x1024 : Shape := ⟨4, ![16, 32, 64, 1024]⟩
abbrev S16x64x32x1024 : Shape := ⟨4, ![16, 64, 32, 1024]⟩
abbrev S32768x1024 : Shape := ⟨2, ![32768, 1024]⟩
abbrev S1024x16 : Shape := ⟨2, ![1024, 16]⟩
abbrev S_ : Shape := ⟨0, ![]⟩
abbrev S1024x128 : Shape := ⟨2, ![1024, 128]⟩
abbrev S1024x256 : Shape := ⟨2, ![1024, 256]⟩
abbrev S1024x4x64 : Shape := ⟨3, ![1024, 4, 64]⟩
abbrev S1024x4x128 : Shape := ⟨3, ![1024, 4, 128]⟩
abbrev S1024x512 : Shape := ⟨2, ![1024, 512]⟩
abbrev S1024x2688 : Shape := ⟨2, ![1024, 2688]⟩
abbrev S1x1024 : Shape := ⟨2, ![1, 1024]⟩
abbrev S32768x512 : Shape := ⟨2, ![32768, 512]⟩
abbrev S32768x128 : Shape := ⟨2, ![32768, 128]⟩
abbrev S256x1024 : Shape := ⟨2, ![256, 1024]⟩
abbrev S1x1x1024 : Shape := ⟨3, ![1, 1, 1024]⟩
abbrev S256x512 : Shape := ⟨2, ![256, 512]⟩
abbrev S256x128 : Shape := ⟨2, ![256, 128]⟩
abbrev S256 : Shape := ⟨1, ![256]⟩
abbrev S256x1 : Shape := ⟨2, ![256, 1]⟩

abbrev nBuf : Space → Nat
  | .hbm => 44
  | .vmem => 20
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S24x6144, .f32⟩
  | .hbm, ⟨3, _⟩ => ⟨S1024x2064, .f32⟩
  | .hbm, ⟨4, _⟩ => ⟨S24x6x1024, .f32⟩
  | .hbm, ⟨5, _⟩ => ⟨S1x6x1024, .f32⟩
  | .hbm, ⟨6, _⟩ => ⟨S6x1024, .f32⟩
  | .hbm, ⟨7, _⟩ => ⟨S16x6x1024, .f32⟩
  | .hbm, ⟨8, _⟩ => ⟨S16x6x1024, .f32⟩
  | .hbm, ⟨9, _⟩ => ⟨S16x1x6x1024, .f32⟩
  | .hbm, ⟨10, _⟩ => ⟨S16x1x6x1024, .f32⟩
  | .hbm, ⟨11, _⟩ => ⟨S16x2x6x1024, .f32⟩
  | .hbm, ⟨12, _⟩ => ⟨S192x1x1024, .f32⟩
  | .hbm, ⟨13, _⟩ => ⟨S16x32x64x1024, .f32⟩
  | .hbm, ⟨14, _⟩ => ⟨S16x64x32x1024, .f32⟩
  | .hbm, ⟨15, _⟩ => ⟨S32768x1024, .f32⟩
  | .hbm, ⟨16, _⟩ => ⟨S1024x16, .f32⟩
  | .hbm, ⟨17, _⟩ => ⟨S_, .i32⟩
  | .hbm, ⟨18, _⟩ => ⟨S_, .f32⟩
  | .hbm, ⟨19, _⟩ => ⟨S1024x128, .f32⟩
  | .hbm, ⟨20, _⟩ => ⟨S1024x256, .f32⟩
  | .hbm, ⟨21, _⟩ => ⟨S1024x4x64, .f32⟩
  | .hbm, ⟨22, _⟩ => ⟨S_, .i32⟩
  | .hbm, ⟨23, _⟩ => ⟨S_, .f32⟩
  | .hbm, ⟨24, _⟩ => ⟨S1024x4x128, .f32⟩
  | .hbm, ⟨25, _⟩ => ⟨S1024x512, .f32⟩
  | .hbm, ⟨26, _⟩ => ⟨S1024x256, .f32⟩
  | .hbm, ⟨27, _⟩ => ⟨S1024x4x64, .f32⟩
  | .hbm, ⟨28, _⟩ => ⟨S_, .i32⟩
  | .hbm, ⟨29, _⟩ => ⟨S_, .f32⟩
  | .hbm, ⟨30, _⟩ => ⟨S1024x4x128, .f32⟩
  | .hbm, ⟨31, _⟩ => ⟨S1024x512, .f32⟩
  | .hbm, ⟨32, _⟩ => ⟨S1024x512, .f32⟩
  | .hbm, ⟨33, _⟩ => ⟨S1024x512, .f32⟩
  | .hbm, ⟨34, _⟩ => ⟨S1024x512, .f32⟩
  | .hbm, ⟨35, _⟩ => ⟨S1024x2688, .f32⟩
  | .hbm, ⟨36, _⟩ => ⟨S1024x2688, .bf16⟩
  | .hbm, ⟨37, _⟩ => ⟨S1x1024, .f32⟩
  | .hbm, ⟨38, _⟩ => ⟨S32768x512, .f32⟩
  | .hbm, ⟨39, _⟩ => ⟨S32768x512, .f32⟩
  | .hbm, ⟨40, _⟩ => ⟨S32768x512, .f32⟩
  | .hbm, ⟨41, _⟩ => ⟨S32768x512, .f32⟩
  | .hbm, ⟨42, _⟩ => ⟨S32768x512, .f32⟩
  | .hbm, ⟨43, _⟩ => ⟨S32768x128, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x2688, .bf16⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S256x128, .f32⟩
  | .local _ .vmem, ⟨19, _⟩ => ⟨S256x128, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_c : Ref sig .tc := ⟨.hbm, 17, rfl⟩
abbrev main_call0_v0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c_0 : Ref sig .tc := ⟨.hbm, 22, rfl⟩
abbrev main_call1_v0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_1 : Ref sig .tc := ⟨.hbm, 28, rfl⟩
abbrev main_call2_v0 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28_0 : Ref sig .tc := ⟨.hbm, 38, rfl⟩
abbrev main_v28_1 : Ref sig .tc := ⟨.hbm, 39, rfl⟩
abbrev main_v28_2 : Ref sig .tc := ⟨.hbm, 40, rfl⟩
abbrev main_v28_3 : Ref sig .tc := ⟨.hbm, 41, rfl⟩
abbrev main_v28_4 : Ref sig .tc := ⟨.hbm, 42, rfl⟩
abbrev main_v28_5 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.muli v16 c2_i32
  let c1_i32_4 : BitVec 32 := 1#32
  let v18 : BitVec 32 := Scalar.addi v17 c1_i32_4
  let c6_i32 : BitVec 32 := 6#32
  let v19 : BitVec 32 := Scalar.muli v18 c6_i32
  let c0_i32_5 : BitVec 32 := 0#32
  let c0_i32_6 : BitVec 32 := 0#32
  let c0_i32_7 : BitVec 32 := 0#32
  ![v19.toNat, c0_i32_5.toNat, c0_i32_6.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.muli v16 c2_i32
  let c1_i32_4 : BitVec 32 := 1#32
  let v18 : BitVec 32 := Scalar.addi v17 c1_i32_4
  let c6_i32 : BitVec 32 := 6#32
  let v19 : BitVec 32 := Scalar.muli v18 c6_i32
  let c1_i32_5 : BitVec 32 := 1#32
  let v20 : BitVec 32 := Scalar.addi v19 c1_i32_5
  let c0_i32_6 : BitVec 32 := 0#32
  let c0_i32_7 : BitVec 32 := 0#32
  let c0_i32_8 : BitVec 32 := 0#32
  ![v20.toNat, c0_i32_6.toNat, c0_i32_7.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x2688 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference4Ideal.lean ====
abbrev S16x2048x1024 : Shape := ⟨3, ![16, 2048, 1024]⟩
abbrev S1024 : Shape := ⟨1, ![1024]⟩
abbrev S24x6144 : Shape := ⟨2, ![24, 6144]⟩
abbrev S1024x2064 : Shape := ⟨2, ![1024, 2064]⟩
abbrev S16x6144 : Shape := ⟨2, ![16, 6144]⟩
abbrev S16x1x6144 : Shape := ⟨3, ![16, 1, 6144]⟩
abbrev S16x1x1024 : Shape := ⟨3, ![16, 1, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x32x64x1024 : Shape := ⟨4, ![16, 32, 64, 1024]⟩
abbrev S16x64x32x1024 : Shape := ⟨4, ![16, 64, 32, 1024]⟩
abbrev S32768x1024 : Shape := ⟨2, ![32768, 1024]⟩
abbrev S32768x2064 : Shape := ⟨2, ![32768, 2064]⟩
abbrev S32768x256 : Shape := ⟨2, ![32768, 256]⟩
abbrev S32768x512 : Shape := ⟨2, ![32768, 512]⟩
abbrev S32768x16 : Shape := ⟨2, ![32768, 16]⟩
abbrev S32768x4x64 : Shape := ⟨3, ![32768, 4, 64]⟩
abbrev S32768x4x128 : Shape := ⟨3, ![32768, 4, 128]⟩
abbrev S32768x128 : Shape := ⟨2, ![32768, 128]⟩

abbrev nBuf : Space → Nat
  | .hbm => 58
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S24x6144, .f32⟩
  | .hbm, ⟨3, _⟩ => ⟨S1024x2064, .f32⟩
  | .hbm, ⟨4, _⟩ => ⟨S16x6144, .f32⟩
  | .hbm, ⟨5, _⟩ => ⟨S16x1x6144, .f32⟩
  | .hbm, ⟨6, _⟩ => ⟨S16x1x1024, .f32⟩
  | .hbm, ⟨7, _⟩ => ⟨S16x1x1024, .f32⟩
  | .hbm, ⟨8, _⟩ => ⟨S16x1x1024, .f32⟩
  | .hbm, ⟨9, _⟩ => ⟨S16x1x1024, .f32⟩
  | .hbm, ⟨10, _⟩ => ⟨S16x1x1024, .f32⟩
  | .hbm, ⟨11, _⟩ => ⟨S16x1x1024, .f32⟩
  | .hbm, ⟨12, _⟩ => ⟨S16x2048x1024, .f32⟩
  | .hbm, ⟨13, _⟩ => ⟨S_, .f32⟩
  | .hbm, ⟨14, _⟩ => ⟨S16x2048, .f32⟩
  | .hbm, ⟨15, _⟩ => ⟨S16x2048x1, .f32⟩
  | .hbm, ⟨16, _⟩ => ⟨S_, .f32⟩
  | .hbm, ⟨17, _⟩ => ⟨S16x2048x1, .f32⟩
  | .hbm, ⟨18, _⟩ => ⟨S16x2048x1, .f32⟩
  | .hbm, ⟨19, _⟩ => ⟨S_, .f32⟩
  | .hbm, ⟨20, _⟩ => ⟨S16x2048x1, .f32⟩
  | .hbm, ⟨21, _⟩ => ⟨S16x2048x1, .f32⟩
  | .hbm, ⟨22, _⟩ => ⟨S16x2048x1, .f32⟩
  | .hbm, ⟨23, _⟩ => ⟨S16x2048x1024, .f32⟩
  | .hbm, ⟨24, _⟩ => ⟨S16x2048x1024, .f32⟩
  | .hbm, ⟨25, _⟩ => ⟨S1x1x1024, .f32⟩
  | .hbm, ⟨26, _⟩ => ⟨S16x2048x1024, .f32⟩
  | .hbm, ⟨27, _⟩ => ⟨S16x2048x1024, .f32⟩
  | .hbm, ⟨28, _⟩ => ⟨S_, .f32⟩
  | .hbm, ⟨29, _⟩ => ⟨S16x1x1024, .f32⟩
  | .hbm, ⟨30, _⟩ => ⟨S16x1x1024, .f32⟩
  | .hbm, ⟨31, _⟩ => ⟨S16x2048x1024, .f32⟩
  | .hbm, ⟨32, _⟩ => ⟨S16x2048x1024, .f32⟩
  | .hbm, ⟨33, _⟩ => ⟨S16x2048x1024, .f32⟩
  | .hbm, ⟨34, _⟩ => ⟨S16x2048x1024, .f32⟩
  | .hbm, ⟨35, _⟩ => ⟨S16x32x64x1024, .f32⟩
  | .hbm, ⟨36, _⟩ => ⟨S16x64x32x1024, .f32⟩
  | .hbm, ⟨37, _⟩ => ⟨S32768x1024, .f32⟩
  | .hbm, ⟨38, _⟩ => ⟨S32768x2064, .f32⟩
  | .hbm, ⟨39, _⟩ => ⟨S32768x256, .f32⟩
  | .hbm, ⟨40, _⟩ => ⟨S32768x256, .f32⟩
  | .hbm, ⟨41, _⟩ => ⟨S32768x512, .f32⟩
  | .hbm, ⟨42, _⟩ => ⟨S32768x16, .f32⟩
  | .hbm, ⟨43, _⟩ => ⟨S32768x512, .f32⟩
  | .hbm, ⟨44, _⟩ => ⟨S32768x512, .f32⟩
  | .hbm, ⟨45, _⟩ => ⟨S32768x4x64, .f32⟩
  | .hbm, ⟨46, _⟩ => ⟨S_, .i32⟩
  | .hbm, ⟨47, _⟩ => ⟨S_, .f32⟩
  | .hbm, ⟨48, _⟩ => ⟨S32768x4x128, .f32⟩
  | .hbm, ⟨49, _⟩ => ⟨S32768x512, .f32⟩
  | .hbm, ⟨50, _⟩ => ⟨S32768x4x64, .f32⟩
  | .hbm, ⟨51, _⟩ => ⟨S_, .i32⟩
  | .hbm, ⟨52, _⟩ => ⟨S_, .f32⟩
  | .hbm, ⟨53, _⟩ => ⟨S32768x4x128, .f32⟩
  | .hbm, ⟨54, _⟩ => ⟨S32768x512, .f32⟩
  | .hbm, ⟨55, _⟩ => ⟨S_, .i32⟩
  | .hbm, ⟨56, _⟩ => ⟨S_, .f32⟩
  | .hbm, ⟨57, _⟩ => ⟨S32768x128, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_c : Ref sig .tc := ⟨.hbm, 46, rfl⟩
abbrev main_call0_v0 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_c_3 : Ref sig .tc := ⟨.hbm, 51, rfl⟩
abbrev main_call1_v0 : Ref sig .tc := ⟨.hbm, 52, rfl⟩
abbrev main_v41 : Ref sig .tc := ⟨.hbm, 53, rfl⟩
abbrev main_v42 : Ref sig .tc := ⟨.hbm, 54, rfl⟩
abbrev main_c_4 : Ref sig .tc := ⟨.hbm, 55, rfl⟩
abbrev main_call2_v0 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== Kernel5.lean ====
abbrev S16x2048x1024 : Shape := ⟨3, ![16, 2048, 1024]⟩
abbrev S16x2048x512 : Shape := ⟨3, ![16, 2048, 512]⟩
abbrev S32768x512 : Shape := ⟨2, ![32768, 512]⟩
abbrev S1024x1024 : Shape := ⟨2, ![1024, 1024]⟩
abbrev S1024 : Shape := ⟨1, ![1024]⟩
abbrev S24x6144 : Shape := ⟨2, ![24, 6144]⟩
abbrev S24x6x1024 : Shape := ⟨3, ![24, 6, 1024]⟩
abbrev S1x6x1024 : Shape := ⟨3, ![1, 6, 1024]⟩
abbrev S6x1024 : Shape := ⟨2, ![6, 1024]⟩
abbrev S16x6x1024 : Shape := ⟨3, ![16, 6, 1024]⟩
abbrev S16x1x6x1024 : Shape := ⟨4, ![16, 1, 6, 1024]⟩
abbrev S16x2x6x1024 : Shape := ⟨4, ![16, 2, 6, 1024]⟩
abbrev S192x1x1024 : Shape := ⟨3, ![192, 1, 1024]⟩
abbrev S16x32x64x1024 : Shape := ⟨4, ![16, 32, 64, 1024]⟩
abbrev S16x64x32x1024 : Shape := ⟨4, ![16, 64, 32, 1024]⟩
abbrev S32768x1024 : Shape := ⟨2, ![32768, 1024]⟩
abbrev S512x1024 : Shape := ⟨2, ![512, 1024]⟩
abbrev S1x1024 : Shape := ⟨2, ![1, 1024]⟩
abbrev S256x1024 : Shape := ⟨2, ![256, 1024]⟩
abbrev S256x512 : Shape := ⟨2, ![256, 512]⟩
abbrev S1x1x1024 : Shape := ⟨3, ![1, 1, 1024]⟩
abbrev S256 : Shape := ⟨1, ![256]⟩
abbrev S256x1 : Shape := ⟨2, ![256, 1]⟩

abbrev nBuf : Space → Nat
  | .hbm => 25
  | .vmem => 19
  | .smem => 0
  | _ => 0

abbrev bufTy : (tb : Table) → Fin (tcTables nBuf tb) → BufTy
  | .hbm, ⟨0, _⟩ => ⟨S16x2048x1024, .f32⟩
  | .hbm, ⟨1, _⟩ => ⟨S16x2048x512, .f32⟩
  | .hbm, ⟨2, _⟩ => ⟨S32768x512, .f32⟩
  | .hbm, ⟨3, _⟩ => ⟨S1024x1024, .f32⟩
  | .hbm, ⟨4, _⟩ => ⟨S1024, .f32⟩
  | .hbm, ⟨5, _⟩ => ⟨S24x6144, .f32⟩
  | .hbm, ⟨6, _⟩ => ⟨S24x6x1024, .f32⟩
  | .hbm, ⟨7, _⟩ => ⟨S1x6x1024, .f32⟩
  | .hbm, ⟨8, _⟩ => ⟨S6x1024, .f32⟩
  | .hbm, ⟨9, _⟩ => ⟨S16x6x1024, .f32⟩
  | .hbm, ⟨10, _⟩ => ⟨S16x6x1024, .f32⟩
  | .hbm, ⟨11, _⟩ => ⟨S16x1x6x1024, .f32⟩
  | .hbm, ⟨12, _⟩ => ⟨S16x1x6x1024, .f32⟩
  | .hbm, ⟨13, _⟩ => ⟨S16x2x6x1024, .f32⟩
  | .hbm, ⟨14, _⟩ => ⟨S192x1x1024, .f32⟩
  | .hbm, ⟨15, _⟩ => ⟨S16x32x64x1024, .f32⟩
  | .hbm, ⟨16, _⟩ => ⟨S16x64x32x1024, .f32⟩
  | .hbm, ⟨17, _⟩ => ⟨S32768x1024, .f32⟩
  | .hbm, ⟨18, _⟩ => ⟨S32768x512, .f32⟩
  | .hbm, ⟨19, _⟩ => ⟨S1024x1024, .bf16⟩
  | .hbm, ⟨20, _⟩ => ⟨S512x1024, .bf16⟩
  | .hbm, ⟨21, _⟩ => ⟨S512x1024, .bf16⟩
  | .hbm, ⟨22, _⟩ => ⟨S1x1024, .f32⟩
  | .hbm, ⟨23, _⟩ => ⟨S32768x1024, .f32⟩
  | .hbm, ⟨24, _⟩ => ⟨S32768x1024, .bf16⟩
  | .local _ .vmem, ⟨0, _⟩ => ⟨S256x1024, .f32⟩
  | .local _ .vmem, ⟨1, _⟩ => ⟨S256x1024, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S512x1024, .bf16⟩
  | .local _ .vmem, ⟨7, _⟩ => ⟨S512x1024, .bf16⟩
  | .local _ .vmem, ⟨8, _⟩ => ⟨S1x1x1024, .f32⟩
  | .local _ .vmem, ⟨9, _⟩ => ⟨S1x1x1024, .f32⟩
  | .local _ .vmem, ⟨10, _⟩ => ⟨S1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .bf16⟩
  | .local _ .vmem, ⟨18, _⟩ => ⟨S256x1024, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17_0 : Ref sig .tc := ⟨.hbm, 23, rfl⟩
abbrev main_v17_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.muli v16 c2_i32
  let c1_i32_4 : BitVec 32 := 1#32
  let v18 : BitVec 32 := Scalar.addi v17 c1_i32_4
  let c6_i32 : BitVec 32 := 6#32
  let v19 : BitVec 32 := Scalar.muli v18 c6_i32
  let c2_i32_5 : BitVec 32 := 2#32
  let v20 : BitVec 32 := Scalar.addi v19 c2_i32_5
  let c0_i32_6 : BitVec 32 := 0#32
  let c0_i32_7 : BitVec 32 := 0#32
  let c0_i32_8 : BitVec 32 := 0#32
  ![v20.toNat, c0_i32_6.toNat, c0_i32_7.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.muli v16 c2_i32
  let c1_i32_4 : BitVec 32 := 1#32
  let v18 : BitVec 32 := Scalar.addi v17 c1_i32_4
  let c6_i32 : BitVec 32 := 6#32
  let v19 : BitVec 32 := Scalar.muli v18 c6_i32
  let c3_i32 : BitVec 32 := 3#32
  let v20 : BitVec 32 := Scalar.addi v19 c3_i32
  let c0_i32_5 : BitVec 32 := 0#32
  let c0_i32_6 : BitVec 32 := 0#32
  let c0_i32_7 : BitVec 32 := 0#32
  ![v20.toNat, c0_i32_5.toNat, c0_i32_6.toNat]

def cc0_transform_8 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.muli v16 c2_i32
  let c1_i32_4 : BitVec 32 := 1#32
  let v18 : BitVec 32 := Scalar.addi v17 c1_i32_4
  let c6_i32 : BitVec 32 := 6#32
  let v19 : BitVec 32 := Scalar.muli v18 c6_i32
  let c4_i32 : BitVec 32 := 4#32
  let v20 : BitVec 32 := Scalar.addi v19 c4_i32
  let c0_i32_5 : BitVec 32 := 0#32
  let c0_i32_6 : BitVec 32 := 0#32
  let c0_i32_7 : BitVec 32 := 0#32
  ![v20.toNat, c0_i32_5.toNat, c0_i32_6.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference5Ideal.lean ====
abbrev S16x2048x1024 : Shape := ⟨3, ![16, 2048, 1024]⟩
abbrev S16x2048x512 : Shape := ⟨3, ![16, 2048, 512]⟩
abbrev S32768x512 : Shape := ⟨2, ![32768, 512]⟩
abbrev S1024x1024 : Shape := ⟨2, ![1024, 1024]⟩
abbrev S1024 : Shape := ⟨1, ![1024]⟩
abbrev S24x6144 : Shape := ⟨2, ![24, 6144]⟩
abbrev S16x6144 : Shape := ⟨2, ![16, 6144]⟩
abbrev S16x1x6144 : Shape := ⟨3, ![16, 1, 6144]⟩
abbrev S16x1x1024 : Shape := ⟨3, ![16, 1, 1024]⟩
abbrev S16x32x64x1024 : Shape := ⟨4, ![16, 32, 64, 1024]⟩
abbrev S16x64x32x1024 : Shape := ⟨4, ![16, 64, 32, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S32768x1024 : Shape := ⟨2, ![32768, 1024]⟩

abbrev nBuf : Space → Nat
  | .hbm => 49
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x512, .f32⟩
  | .hbm, ⟨2, _⟩ => ⟨S32768x512, .f32⟩
  | .hbm, ⟨3, _⟩ => ⟨S1024x1024, .f32⟩
  | .hbm, ⟨4, _⟩ => ⟨S1024, .f32⟩
  | .hbm, ⟨5, _⟩ => ⟨S24x6144, .f32⟩
  | .hbm, ⟨6, _⟩ => ⟨S16x6144, .f32⟩
  | .hbm, ⟨7, _⟩ => ⟨S16x1x6144, .f32⟩
  | .hbm, ⟨8, _⟩ => ⟨S16x1x1024, .f32⟩
  | .hbm, ⟨9, _⟩ => ⟨S16x1x1024, .f32⟩
  | .hbm, ⟨10, _⟩ => ⟨S16x1x1024, .f32⟩
  | .hbm, ⟨11, _⟩ => ⟨S16x1x1024, .f32⟩
  | .hbm, ⟨12, _⟩ => ⟨S16x1x1024, .f32⟩
  | .hbm, ⟨13, _⟩ => ⟨S16x1x1024, .f32⟩
  | .hbm, ⟨14, _⟩ => ⟨S16x32x64x1024, .f32⟩
  | .hbm, ⟨15, _⟩ => ⟨S16x64x32x1024, .f32⟩
  | .hbm, ⟨16, _⟩ => ⟨S16x2048x1024, .f32⟩
  | .hbm, ⟨17, _⟩ => ⟨S16x2048x512, .f32⟩
  | .hbm, ⟨18, _⟩ => ⟨S16x2048x1024, .f32⟩
  | .hbm, ⟨19, _⟩ => ⟨S16x2048x1024, .f32⟩
  | .hbm, ⟨20, _⟩ => ⟨S16x2048x1024, .f32⟩
  | .hbm, ⟨21, _⟩ => ⟨S16x2048x1024, .f32⟩
  | .hbm, ⟨22, _⟩ => ⟨S16x2048x1024, .f32⟩
  | .hbm, ⟨23, _⟩ => ⟨S16x2048x1024, .f32⟩
  | .hbm, ⟨24, _⟩ => ⟨S_, .f32⟩
  | .hbm, ⟨25, _⟩ => ⟨S16x2048, .f32⟩
  | .hbm, ⟨26, _⟩ => ⟨S16x2048x1, .f32⟩
  | .hbm, ⟨27, _⟩ => ⟨S_, .f32⟩
  | .hbm, ⟨28, _⟩ => ⟨S16x2048x1, .f32⟩
  | .hbm, ⟨29, _⟩ => ⟨S16x2048x1, .f32⟩
  | .hbm, ⟨30, _⟩ => ⟨S_, .f32⟩
  | .hbm, ⟨31, _⟩ => ⟨S16x2048x1, .f32⟩
  | .hbm, ⟨32, _⟩ => ⟨S16x2048x1, .f32⟩
  | .hbm, ⟨33, _⟩ => ⟨S16x2048x1, .f32⟩
  | .hbm, ⟨34, _⟩ => ⟨S16x2048x1024, .f32⟩
  | .hbm, ⟨35, _⟩ => ⟨S16x2048x1024, .f32⟩
  | .hbm, ⟨36, _⟩ => ⟨S1x1x1024, .f32⟩
  | .hbm, ⟨37, _⟩ => ⟨S16x2048x1024, .f32⟩
  | .hbm, ⟨38, _⟩ => ⟨S16x2048x1024, .f32⟩
  | .hbm, ⟨39, _⟩ => ⟨S_, .f32⟩
  | .hbm, ⟨40, _⟩ => ⟨S16x1x1024, .f32⟩
  | .hbm, ⟨41, _⟩ => ⟨S16x1x1024, .f32⟩
  | .hbm, ⟨42, _⟩ => ⟨S16x2048x1024, .f32⟩
  | .hbm, ⟨43, _⟩ => ⟨S16x2048x1024, .f32⟩
  | .hbm, ⟨44, _⟩ => ⟨S16x2048x1024, .f32⟩
  | .hbm, ⟨45, _⟩ => ⟨S16x2048x1024, .f32⟩
  | .hbm, ⟨46, _⟩ => ⟨S32768x1024, .f32⟩
  | .hbm, ⟨47, _⟩ => ⟨S32768x1024, .f32⟩
  | .hbm, ⟨48, _⟩ => ⟨S32768x1024, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst : Ref sig .tc := ⟨.hbm, 24, rfl⟩
abbrev main_v18 : Ref sig .tc := ⟨.hbm, 25, rfl⟩
abbrev main_v19 : Ref sig .tc := ⟨.hbm, 26, rfl⟩
abbrev main_cst_0 : Ref sig .tc := ⟨.hbm, 27, rfl⟩
abbrev main_v20 : Ref sig .tc := ⟨.hbm, 28, rfl⟩
abbrev main_v21 : Ref sig .tc := ⟨.hbm, 29, rfl⟩
abbrev main_cst_1 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_2 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩

abbrev nD : Nat := 1
abbrev τ : Topo := Topo.v7x

variable {F : FTy → Type} [FloatOps F]
-- ==== Kernel6.lean ====
abbrev S16x256x1024 : Shape := ⟨3, ![16, 256, 1024]⟩
abbrev S1024 : Shape := ⟨1, ![1024]⟩
abbrev S24x6144 : Shape := ⟨2, ![24, 6144]⟩
abbrev S1024x2064 : Shape := ⟨2, ![1024, 2064]⟩
abbrev S24x6x1024 : Shape := ⟨3, ![24, 6, 1024]⟩
abbrev S1x6x1024 : Shape := ⟨3, ![1, 6, 1024]⟩
abbrev S6x1024 : Shape := ⟨2, ![6, 1024]⟩
abbrev S16x6x1024 : Shape := ⟨3, ![16, 6, 1024]⟩
abbrev S16x1x6x1024 : Shape := ⟨4, ![16, 1, 6, 1024]⟩
abbrev S16x2x6x1024 : Shape := ⟨4, ![16, 2, 6, 1024]⟩
abbrev S192x1x1024 : Shape := ⟨3, ![192, 1, 1024]⟩
abbrev S4096x1024 : Shape := ⟨2, ![4096, 1024]⟩
abbrev S1024x16 : Shape := ⟨2, ![1024, 16]⟩
abbrev S_ : Shape := ⟨0, ![]⟩
abbrev S1024x128 : Shape := ⟨2, ![1024, 128]⟩
abbrev S1024x256 : Shape := ⟨2, ![1024, 256]⟩
abbrev S1024x4x64 : Shape := ⟨3, ![1024, 4, 64]⟩
abbrev S1024x4x128 : Shape := ⟨3, ![1024, 4, 128]⟩
abbrev S1024x512 : Shape := ⟨2, ![1024, 512]⟩
abbrev S1024x2688 : Shape := ⟨2, ![1024, 2688]⟩
abbrev S1x1024 : Shape := ⟨2, ![1, 1024]⟩
abbrev S4096x512 : Shape := ⟨2, ![4096, 512]⟩
abbrev S4096x128 : Shape := ⟨2, ![4096, 128]⟩
abbrev S256x1024 : Shape := ⟨2, ![256, 1024]⟩
abbrev S1x1x1024 : Shape := ⟨3, ![1, 1, 1024]⟩
abbrev S256x512 : Shape := ⟨2, ![256, 512]⟩
abbrev S256x128 : Shape := ⟨2, ![256, 128]⟩
abbrev S256 : Shape := ⟨1, ![256]⟩
abbrev S256x1 : Shape := ⟨2, ![256, 1]⟩

abbrev nBuf : Space → Nat
  | .hbm => 42
  | .vmem => 20
  | .smem => 0
  | _ => 0

abbrev bufTy : (tb : Table) → Fin (tcTables nBuf tb) → BufTy
  | .hbm, ⟨0, _⟩ => ⟨S16x256x1024, .f32⟩
  | .hbm, ⟨1, _⟩ => ⟨S1024, .f32⟩
  | .hbm, ⟨2, _⟩ => ⟨S24x6144, .f32⟩
  | .hbm, ⟨3, _⟩ => ⟨S1024x2064, .f32⟩
  | .hbm, ⟨4, _⟩ => ⟨S24x6x1024, .f32⟩
  | .hbm, ⟨5, _⟩ => ⟨S1x6x1024, .f32⟩
  | .hbm, ⟨6, _⟩ => ⟨S6x1024, .f32⟩
  | .hbm, ⟨7, _⟩ => ⟨S16x6x1024, .f32⟩
  | .hbm, ⟨8, _⟩ => ⟨S16x6x1024, .f32⟩
  | .hbm, ⟨9, _⟩ => ⟨S16x1x6x1024, .f32⟩
  | .hbm, ⟨10, _⟩ => ⟨S16x1x6x1024, .f32⟩
  | .hbm, ⟨11, _⟩ => ⟨S16x2x6x1024, .f32⟩
  | .hbm, ⟨12, _⟩ => ⟨S192x1x1024, .f32⟩
  | .hbm, ⟨13, _⟩ => ⟨S4096x1024, .f32⟩
  | .hbm, ⟨14, _⟩ => ⟨S1024x16, .f32⟩
  | .hbm, ⟨15, _⟩ => ⟨S_, .i32⟩
  | .hbm, ⟨16, _⟩ => ⟨S_, .f32⟩
  | .hbm, ⟨17, _⟩ => ⟨S1024x128, .f32⟩
  | .hbm, ⟨18, _⟩ => ⟨S1024x256, .f32⟩
  | .hbm, ⟨19, _⟩ => ⟨S1024x4x64, .f32⟩
  | .hbm, ⟨20, _⟩ => ⟨S_, .i32⟩
  | .hbm, ⟨21, _⟩ => ⟨S_, .f32⟩
  | .hbm, ⟨22, _⟩ => ⟨S1024x4x128, .f32⟩
  | .hbm, ⟨23, _⟩ => ⟨S1024x512, .f32⟩
  | .hbm, ⟨24, _⟩ => ⟨S1024x256, .f32⟩
  | .hbm, ⟨25, _⟩ => ⟨S1024x4x64, .f32⟩
  | .hbm, ⟨26, _⟩ => ⟨S_, .i32⟩
  | .hbm, ⟨27, _⟩ => ⟨S_, .f32⟩
  | .hbm, ⟨28, _⟩ => ⟨S1024x4x128, .f32⟩
  | .hbm, ⟨29, _⟩ => ⟨S1024x512, .f32⟩
  | .hbm, ⟨30, _⟩ => ⟨S1024x512, .f32⟩
  | .hbm, ⟨31, _⟩ => ⟨S1024x512, .f32⟩
  | .hbm, ⟨32, _⟩ => ⟨S1024x512, .f32⟩
  | .hbm, ⟨33, _⟩ => ⟨S1024x2688, .f32⟩
  | .hbm, ⟨34, _⟩ => ⟨S1024x2688, .bf16⟩
  | .hbm, ⟨35, _⟩ => ⟨S1x1024, .f32⟩
  | .hbm, ⟨36, _⟩ => ⟨S4096x512, .f32⟩
  | .hbm, ⟨37, _⟩ => ⟨S4096x512, .f32⟩
  | .hbm, ⟨38, _⟩ => ⟨S4096x512, .f32⟩
  | .hbm, ⟨39, _⟩ => ⟨S4096x512, .f32⟩
  | .hbm, ⟨40, _⟩ => ⟨S4096x512, .f32⟩
  | .hbm, ⟨41, _⟩ => ⟨S4096x128, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x2688, .bf16⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S256x128, .f32⟩
  | .local _ .vmem, ⟨19, _⟩ => ⟨S256x128, .f32⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c : Ref sig .tc := ⟨.hbm, 15, rfl⟩
abbrev main_call0_v0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c_0 : Ref sig .tc := ⟨.hbm, 20, rfl⟩
abbrev main_call1_v0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c_1 : Ref sig .tc := ⟨.hbm, 26, rfl⟩
abbrev main_call2_v0 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26_0 : Ref sig .tc := ⟨.hbm, 36, rfl⟩
abbrev main_v26_1 : Ref sig .tc := ⟨.hbm, 37, rfl⟩
abbrev main_v26_2 : Ref sig .tc := ⟨.hbm, 38, rfl⟩
abbrev main_v26_3 : Ref sig .tc := ⟨.hbm, 39, rfl⟩
abbrev main_v26_4 : Ref sig .tc := ⟨.hbm, 40, rfl⟩
abbrev main_v26_5 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let v17 : BitVec 32 := Scalar.muli v16 c2_i32
  let c6_i32 : BitVec 32 := 6#32
  let v18 : BitVec 32 := Scalar.muli v17 c6_i32
  let c0_i32_5 : BitVec 32 := 0#32
  let c0_i32_6 : BitVec 32 := 0#32
  let c0_i32_7 : BitVec 32 := 0#32
  ![v18.toNat, c0_i32_5.toNat, c0_i32_6.toNat]

def cc0_transform_3 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let v17 : BitVec 32 := Scalar.muli v16 c2_i32
  let c6_i32 : BitVec 32 := 6#32
  let v18 : BitVec 32 := Scalar.muli v17 c6_i32
  let c1_i32_5 : BitVec 32 := 1#32
  let v19 : BitVec 32 := Scalar.addi v18 c1_i32_5
  let c0_i32_6 : BitVec 32 := 0#32
  let c0_i32_7 : BitVec 32 := 0#32
  let c0_i32_8 : BitVec 32 := 0#32
  ![v19.toNat, c0_i32_6.toNat, c0_i32_7.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x2688 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference6Ideal.lean ====
abbrev S16x256x1024 : Shape := ⟨3, ![16, 256, 1024]⟩
abbrev S1024 : Shape := ⟨1, ![1024]⟩
abbrev S24x6144 : Shape := ⟨2, ![24, 6144]⟩
abbrev S1024x2064 : Shape := ⟨2, ![1024, 2064]⟩
abbrev S1x6144 : Shape := ⟨2, ![1, 6144]⟩
abbrev S6144 : Shape := ⟨1, ![6144]⟩
abbrev S_ : Shape := ⟨0, ![]⟩
abbrev S16x256 : Shape := ⟨2, ![16, 256]⟩
abbrev S16x256x1 : Shape := ⟨3, ![16, 256, 1]⟩
abbrev S1x1x1024 : Shape := ⟨3, ![1, 1, 1024]⟩
abbrev S4096x1024 : Shape := ⟨2, ![4096, 1024]⟩
abbrev S4096x2064 : Shape := ⟨2, ![4096, 2064]⟩
abbrev S4096x256 : Shape := ⟨2, ![4096, 256]⟩
abbrev S4096x512 : Shape := ⟨2, ![4096, 512]⟩
abbrev S4096x16 : Shape := ⟨2, ![4096, 16]⟩
abbrev S4096x4x64 : Shape := ⟨3, ![4096, 4, 64]⟩
abbrev S4096x4x128 : Shape := ⟨3, ![4096, 4, 128]⟩
abbrev S4096x128 : Shape := ⟨2, ![4096, 128]⟩

abbrev nBuf : Space → Nat
  | .hbm => 58
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S1024, .f32⟩
  | .hbm, ⟨2, _⟩ => ⟨S24x6144, .f32⟩
  | .hbm, ⟨3, _⟩ => ⟨S1024x2064, .f32⟩
  | .hbm, ⟨4, _⟩ => ⟨S1x6144, .f32⟩
  | .hbm, ⟨5, _⟩ => ⟨S6144, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S16x256x1024, .f32⟩
  | .hbm, ⟨13, _⟩ => ⟨S_, .f32⟩
  | .hbm, ⟨14, _⟩ => ⟨S16x256, .f32⟩
  | .hbm, ⟨15, _⟩ => ⟨S16x256x1, .f32⟩
  | .hbm, ⟨16, _⟩ => ⟨S_, .f32⟩
  | .hbm, ⟨17, _⟩ => ⟨S16x256x1, .f32⟩
  | .hbm, ⟨18, _⟩ => ⟨S16x256x1, .f32⟩
  | .hbm, ⟨19, _⟩ => ⟨S_, .f32⟩
  | .hbm, ⟨20, _⟩ => ⟨S16x256x1, .f32⟩
  | .hbm, ⟨21, _⟩ => ⟨S16x256x1, .f32⟩
  | .hbm, ⟨22, _⟩ => ⟨S16x256x1, .f32⟩
  | .hbm, ⟨23, _⟩ => ⟨S16x256x1024, .f32⟩
  | .hbm, ⟨24, _⟩ => ⟨S16x256x1024, .f32⟩
  | .hbm, ⟨25, _⟩ => ⟨S1x1x1024, .f32⟩
  | .hbm, ⟨26, _⟩ => ⟨S16x256x1024, .f32⟩
  | .hbm, ⟨27, _⟩ => ⟨S16x256x1024, .f32⟩
  | .hbm, ⟨28, _⟩ => ⟨S_, .f32⟩
  | .hbm, ⟨29, _⟩ => ⟨S1024, .f32⟩
  | .hbm, ⟨30, _⟩ => ⟨S1024, .f32⟩
  | .hbm, ⟨31, _⟩ => ⟨S1x1x1024, .f32⟩
  | .hbm, ⟨32, _⟩ => ⟨S16x256x1024, .f32⟩
  | .hbm, ⟨33, _⟩ => ⟨S16x256x1024, .f32⟩
  | .hbm, ⟨34, _⟩ => ⟨S1x1x1024, .f32⟩
  | .hbm, ⟨35, _⟩ => ⟨S16x256x1024, .f32⟩
  | .hbm, ⟨36, _⟩ => ⟨S16x256x1024, .f32⟩
  | .hbm, ⟨37, _⟩ => ⟨S4096x1024, .f32⟩
  | .hbm, ⟨38, _⟩ => ⟨S4096x2064, .f32⟩
  | .hbm, ⟨39, _⟩ => ⟨S4096x256, .f32⟩
  | .hbm, ⟨40, _⟩ => ⟨S4096x256, .f32⟩
  | .hbm, ⟨41, _⟩ => ⟨S4096x512, .f32⟩
  | .hbm, ⟨42, _⟩ => ⟨S4096x16, .f32⟩
  | .hbm, ⟨43, _⟩ => ⟨S4096x512, .f32⟩
  | .hbm, ⟨44, _⟩ => ⟨S4096x512, .f32⟩
  | .hbm, ⟨45, _⟩ => ⟨S4096x4x64, .f32⟩
  | .hbm, ⟨46, _⟩ => ⟨S_, .i32⟩
  | .hbm, ⟨47, _⟩ => ⟨S_, .f32⟩
  | .hbm, ⟨48, _⟩ => ⟨S4096x4x128, .f32⟩
  | .hbm, ⟨49, _⟩ => ⟨S4096x512, .f32⟩
  | .hbm, ⟨50, _⟩ => ⟨S4096x4x64, .f32⟩
  | .hbm, ⟨51, _⟩ => ⟨S_, .i32⟩
  | .hbm, ⟨52, _⟩ => ⟨S_, .f32⟩
  | .hbm, ⟨53, _⟩ => ⟨S4096x4x128, .f32⟩
  | .hbm, ⟨54, _⟩ => ⟨S4096x512, .f32⟩
  | .hbm, ⟨55, _⟩ => ⟨S_, .i32⟩
  | .hbm, ⟨56, _⟩ => ⟨S_, .f32⟩
  | .hbm, ⟨57, _⟩ => ⟨S4096x128, .f32⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_c : Ref sig .tc := ⟨.hbm, 46, rfl⟩
abbrev main_call0_v0 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_c_3 : Ref sig .tc := ⟨.hbm, 51, rfl⟩
abbrev main_call1_v0 : Ref sig .tc := ⟨.hbm, 52, rfl⟩
abbrev main_v41 : Ref sig .tc := ⟨.hbm, 53, rfl⟩
abbrev main_v42 : Ref sig .tc := ⟨.hbm, 54, rfl⟩
abbrev main_c_4 : Ref sig .tc := ⟨.hbm, 55, rfl⟩
abbrev main_call2_v0 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== Kernel7.lean ====
abbrev S16x1024 : Shape := ⟨2, ![16, 1024]⟩
abbrev S1024 : Shape := ⟨1, ![1024]⟩
abbrev S1024x6144 : Shape := ⟨2, ![1024, 6144]⟩
abbrev S6144 : Shape := ⟨1, ![6144]⟩
abbrev S_ : Shape := ⟨0, ![]⟩
abbrev S24x1024 : Shape := ⟨2, ![24, 1024]⟩
abbrev S1 : Shape := ⟨1, ![1]⟩
abbrev S1x6144 : Shape := ⟨2, ![1, 6144]⟩
abbrev S24x6144 : Shape := ⟨2, ![24, 6144]⟩
abbrev S1024x1536 : Shape := ⟨2, ![1024, 1536]⟩
abbrev S1x1536 : Shape := ⟨2, ![1, 1536]⟩
abbrev S24x1536 : Shape := ⟨2, ![24, 1536]⟩

abbrev nBuf : Space → Nat
  | .hbm => 14
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S1024, .f32⟩
  | .hbm, ⟨2, _⟩ => ⟨S1024x6144, .f32⟩
  | .hbm, ⟨3, _⟩ => ⟨S6144, .f32⟩
  | .hbm, ⟨4, _⟩ => ⟨S_, .f32⟩
  | .hbm, ⟨5, _⟩ => ⟨S24x1024, .f32⟩
  | .hbm, ⟨6, _⟩ => ⟨S_, .i32⟩
  | .hbm, ⟨7, _⟩ => ⟨S1, .i32⟩
  | .hbm, ⟨8, _⟩ => ⟨S24x1024, .f32⟩
  | .hbm, ⟨9, _⟩ => ⟨S_, .i32⟩
  | .hbm, ⟨10, _⟩ => ⟨S1, .i32⟩
  | .hbm, ⟨11, _⟩ => ⟨S24x1024, .f32⟩
  | .hbm, ⟨12, _⟩ => ⟨S1x6144, .f32⟩
  | .hbm, ⟨13, _⟩ => ⟨S24x6144, .f32⟩
  | .local _ .vmem, ⟨0, _⟩ => ⟨S24x1024, .f32⟩
  | .local _ .vmem, ⟨1, _⟩ => ⟨S1024x1536, .f32⟩
  | .local _ .vmem, ⟨2, _⟩ => ⟨S1024x1536, .f32⟩
  | .local _ .vmem, ⟨3, _⟩ => ⟨S1x1536, .f32⟩
  | .local _ .vmem, ⟨4, _⟩ => ⟨S1x1536, .f32⟩
  | .local _ .vmem, ⟨5, _⟩ => ⟨S24x1536, .f32⟩
  | .local _ .vmem, ⟨6, _⟩ => ⟨S24x1536, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S24x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S24x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference7Ideal.lean ====
abbrev S16x1024 : Shape := ⟨2, ![16, 1024]⟩
abbrev S1024 : Shape := ⟨1, ![1024]⟩
abbrev S1024x6144 : Shape := ⟨2, ![1024, 6144]⟩
abbrev S6144 : Shape := ⟨1, ![6144]⟩
abbrev S1x1024 : Shape := ⟨2, ![1, 1024]⟩
abbrev S_ : Shape := ⟨0, ![]⟩
abbrev S7x1024 : Shape := ⟨2, ![7, 1024]⟩
abbrev S24x1024 : Shape := ⟨2, ![24, 1024]⟩
abbrev S24x6144 : Shape := ⟨2, ![24, 6144]⟩
abbrev S1x6144 : Shape := ⟨2, ![1, 6144]⟩

abbrev nBuf : Space → Nat
  | .hbm => 21
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S1024, .f32⟩
  | .hbm, ⟨2, _⟩ => ⟨S1024x6144, .f32⟩
  | .hbm, ⟨3, _⟩ => ⟨S6144, .f32⟩
  | .hbm, ⟨4, _⟩ => ⟨S1x1024, .f32⟩
  | .hbm, ⟨5, _⟩ => ⟨S_, .f32⟩
  | .hbm, ⟨6, _⟩ => ⟨S7x1024, .f32⟩
  | .hbm, ⟨7, _⟩ => ⟨S24x1024, .f32⟩
  | .hbm, ⟨8, _⟩ => ⟨S24x1024, .f32⟩
  | .hbm, ⟨9, _⟩ => ⟨S24x1024, .f32⟩
  | .hbm, ⟨10, _⟩ => ⟨S_, .f32⟩
  | .hbm, ⟨11, _⟩ => ⟨S24x1024, .f32⟩
  | .hbm, ⟨12, _⟩ => ⟨S24x1024, .f32⟩
  | .hbm, ⟨13, _⟩ => ⟨S_, .f32⟩
  | .hbm, ⟨14, _⟩ => ⟨S24x1024, .f32⟩
  | .hbm, ⟨15, _⟩ => ⟨S24x1024, .f32⟩
  | .hbm, ⟨16, _⟩ => ⟨S24x1024, .f32⟩
  | .hbm, ⟨17, _⟩ => ⟨S24x6144, .f32⟩
  | .hbm, ⟨18, _⟩ => ⟨S1x6144, .f32⟩
  | .hbm, ⟨19, _⟩ => ⟨S24x6144, .f32⟩
  | .hbm, ⟨20, _⟩ => ⟨S24x6144, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩

abbrev nD : Nat := 1
abbrev τ : Topo := Topo.v7x

variable {F : FTy → Type} [FloatOps F]
-- ==== Kernel8.lean ====
abbrev S32768x512 : Shape := ⟨2, ![32768, 512]⟩
abbrev S4x128x128 : Shape := ⟨3, ![4, 128, 128]⟩
abbrev S512 : Shape := ⟨1, ![512]⟩
abbrev S1x512 : Shape := ⟨2, ![1, 512]⟩
abbrev S256x512 : Shape := ⟨2, ![256, 512]⟩
abbrev S256x256 : Shape := ⟨2, ![256, 256]⟩
abbrev S256x128 : Shape := ⟨2, ![256, 128]⟩
abbrev S1x128x128 : Shape := ⟨3, ![1, 128, 128]⟩
abbrev S128x128 : Shape := ⟨2, ![128, 128]⟩
abbrev S1x128 : Shape := ⟨2, ![1, 128]⟩

abbrev nBuf : Space → Nat
  | .hbm => 5
  | .vmem => 6
  | .smem => 0
  | _ => 0

abbrev bufTy : (tb : Table) → Fin (tcTables nBuf tb) → BufTy
  | .hbm, ⟨0, _⟩ => ⟨S32768x512, .f32⟩
  | .hbm, ⟨1, _⟩ => ⟨S4x128x128, .f32⟩
  | .hbm, ⟨2, _⟩ => ⟨S512, .f32⟩
  | .hbm, ⟨3, _⟩ => ⟨S1x512, .f32⟩
  | .hbm, ⟨4, _⟩ => ⟨S32768x512, .f32⟩
  | .local _ .vmem, ⟨0, _⟩ => ⟨S256x512, .f32⟩
  | .local _ .vmem, ⟨1, _⟩ => ⟨S256x512, .f32⟩
  | .local _ .vmem, ⟨2, _⟩ => ⟨S4x128x128, .f32⟩
  | .local _ .vmem, ⟨3, _⟩ => ⟨S1x512, .f32⟩
  | .local _ .vmem, ⟨4, _⟩ => ⟨S256x512, .f32⟩
  | .local _ .vmem, ⟨5, _⟩ => ⟨S256x512, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference8Ideal.lean ====
abbrev S32768x512 : Shape := ⟨2, ![32768, 512]⟩
abbrev S4x128x128 : Shape := ⟨3, ![4, 128, 128]⟩
abbrev S512 : Shape := ⟨1, ![512]⟩
abbrev S1024x32x4x128 : Shape := ⟨4, ![1024, 32, 4, 128]⟩
abbrev S32 : Shape := ⟨1, ![32]⟩
abbrev S_ : Shape := ⟨0, ![]⟩
abbrev S1x32 : Shape := ⟨2, ![1, 32]⟩
abbrev S32x1 : Shape := ⟨2, ![32, 1]⟩
abbrev S32x32 : Shape := ⟨2, ![32, 32]⟩
abbrev S1x32x32x1 : Shape := ⟨4, ![1, 32, 32, 1]⟩
abbrev S1024x32x1x128 : Shape := ⟨4, ![1024, 32, 1, 128]⟩
abbrev S1024x32x128 : Shape := ⟨3, ![1024, 32, 128]⟩
abbrev S1024x1x32x128 : Shape := ⟨4, ![1024, 1, 32, 128]⟩
abbrev S1024x32x32x128 : Shape := ⟨4, ![1024, 32, 32, 128]⟩
abbrev S1x32x1 : Shape := ⟨3, ![1, 32, 1]⟩
abbrev S4x128x1024x32 : Shape := ⟨4, ![4, 128, 1024, 32]⟩
abbrev S1x512 : Shape := ⟨2, ![1, 512]⟩

abbrev nBuf : Space → Nat
  | .hbm => 204
  | .vmem => 0
  | .smem => 0
  | _ => 0

abbrev hbmTy0_0 (i : Nat) : BufTy := match i % 128 with
  | 0 => ⟨S32768x512, .f32⟩
  | 1 => ⟨S4x128x128, .f32⟩
  | 2 => ⟨S512, .f32⟩
  | 3 => ⟨S1024x32x4x128, .f32⟩
  | 4 => ⟨S32, .i32⟩
  | 5 => ⟨S_, .i32⟩
  | 6 => ⟨S32, .i32⟩
  | 7 => ⟨S32, .i32⟩
  | 8 => ⟨S_, .i32⟩
  | 9 => ⟨S32, .i32⟩
  | 10 => ⟨S32, .i32⟩
  | 11 => ⟨S_, .i32⟩
  | 12 => ⟨S32, .i32⟩
  | 13 => ⟨S32, .i32⟩
  | 14 => ⟨S_, .i32⟩
  | 15 => ⟨S32, .i32⟩
  | 16 => ⟨S32, .i32⟩
  | 17 => ⟨S_, .i32⟩
  | 18 => ⟨S32, .i32⟩
  | 19 => ⟨S32, .i32⟩
  | 20 => ⟨S1x32, .i32⟩
  | 21 => ⟨S32x1, .i32⟩
  | 22 => ⟨S32x32, .i32⟩
  | 23 => ⟨S32x32, .i32⟩
  | 24 => ⟨S32x32, .i1⟩
  | 25 => ⟨S1x32, .i32⟩
  | 26 => ⟨S32x1, .i32⟩
  | 27 => ⟨S32x32, .i32⟩
  | 28 => ⟨S32x32, .i32⟩
  | 29 => ⟨S32x32, .i1⟩
  | 30 => ⟨S32x32, .i1⟩
  | 31 => ⟨S1x32x32x1, .i1⟩
  | 32 => ⟨S1024x32x1x128, .f32⟩
  | 33 => ⟨S1024x32x128, .f32⟩
  | 34 => ⟨S1024x1x32x128, .f32⟩
  | 35 => ⟨S_, .f32⟩
  | 36 => ⟨S_, .f32⟩
  | 37 => ⟨S1024x32x32x128, .i1⟩
  | 38 => ⟨S1024x32x32x128, .f32⟩
  | 39 => ⟨S1024x32x32x128, .f32⟩
  | 40 => ⟨S1024x32x32x128, .f32⟩
  | 41 => ⟨S_, .f32⟩
  | 42 => ⟨S1024x32x128, .f32⟩
  | 43 => ⟨S32, .i32⟩
  | 44 => ⟨S32, .f32⟩
  | 45 => ⟨S32x1, .f32⟩
  | 46 => ⟨S1x32x1, .f32⟩
  | 47 => ⟨S1024x32x128, .f32⟩
  | 48 => ⟨S1024x32x128, .f32⟩
  | 49 => ⟨S1024x32x1x128, .f32⟩
  | 50 => ⟨S1024x32x128, .f32⟩
  | 51 => ⟨S1024x32x128, .f32⟩
  | 52 => ⟨S_, .i32⟩
  | 53 => ⟨S32, .i32⟩
  | 54 => ⟨S32, .i32⟩
  | 55 => ⟨S_, .i32⟩
  | 56 => ⟨S32, .i32⟩
  | 57 => ⟨S32, .i32⟩
  | 58 => ⟨S_, .i32⟩
  | 59 => ⟨S32, .i32⟩
  | 60 => ⟨S32, .i32⟩
  | 61 => ⟨S_, .i32⟩
  | 62 => ⟨S32, .i32⟩
  | 63 => ⟨S32, .i32⟩
  | 64 => ⟨S_, .i32⟩
  | 65 => ⟨S32, .i32⟩
  | 66 => ⟨S32, .i32⟩
  | 67 => ⟨S1x32, .i32⟩
  | 68 => ⟨S32x1, .i32⟩
  | 69 => ⟨S32x32, .i32⟩
  | 70 => ⟨S32x32, .i32⟩
  | 71 => ⟨S32x32, .i1⟩
  | 72 => ⟨S1x32, .i32⟩
  | 73 => ⟨S32x1, .i32⟩
  | 74 => ⟨S32x32, .i32⟩
  | 75 => ⟨S32x32, .i32⟩
  | 76 => ⟨S32x32, .i1⟩
  | 77 => ⟨S32x32, .i1⟩
  | 78 => ⟨S1x32x32x1, .i1⟩
  | 79 => ⟨S1024x32x1x128, .f32⟩
  | 80 => ⟨S1024x32x128, .f32⟩
  | 81 => ⟨S1024x1x32x128, .f32⟩
  | 82 => ⟨S_, .f32⟩
  | 83 => ⟨S_, .f32⟩
  | 84 => ⟨S1024x32x32x128, .i1⟩
  | 85 => ⟨S1024x32x32x128, .f32⟩
  | 86 => ⟨S1024x32x32x128, .f32⟩
  | 87 => ⟨S1024x32x32x128, .f32⟩
  | 88 => ⟨S_, .f32⟩
  | 89 => ⟨S1024x32x128, .f32⟩
  | 90 => ⟨S32, .i32⟩
  | 91 => ⟨S32, .f32⟩
  | 92 => ⟨S32x1, .f32⟩
  | 93 => ⟨S1x32x1, .f32⟩
  | 94 => ⟨S1024x32x128, .f32⟩
  | 95 => ⟨S1024x32x128, .f32⟩
  | 96 => ⟨S1024x32x1x128, .f32⟩
  | 97 => ⟨S1024x32x128, .f32⟩
  | 98 => ⟨S1024x32x128, .f32⟩
  | 99 => ⟨S_, .i32⟩
  | 100 => ⟨S32, .i32⟩
  | 101 => ⟨S32, .i32⟩
  | 102 => ⟨S_, .i32⟩
  | 103 => ⟨S32, .i32⟩
  | 104 => ⟨S32, .i32⟩
  | 105 => ⟨S_, .i32⟩
  | 106 => ⟨S32, .i32⟩
  | 107 => ⟨S32, .i32⟩
  | 108 => ⟨S_, .i32⟩
  | 109 => ⟨S32, .i32⟩
  | 110 => ⟨S32, .i32⟩
  | 111 => ⟨S_, .i32⟩
  | 112 => ⟨S32, .i32⟩
  | 113 => ⟨S32, .i32⟩
  | 114 => ⟨S1x32, .i32⟩
  | 115 => ⟨S32x1, .i32⟩
  | 116 => ⟨S32x32, .i32⟩
  | 117 => ⟨S32x32, .i32⟩
  | 118 => ⟨S32x32, .i1⟩
  | 119 => ⟨S1x32, .i32⟩
  | 120 => ⟨S32x1, .i32⟩
  | 121 => ⟨S32x32, .i32⟩
  | 122 => ⟨S32x32, .i32⟩
  | 123 => ⟨S32x32, .i1⟩
  | 124 => ⟨S32x32, .i1⟩
  | 125 => ⟨S1x32x32x1, .i1⟩
  | 126 => ⟨S1024x32x1x128, .f32⟩
  | 127 => ⟨S1024x32x128, .f32⟩
  | _ => ⟨S32768x512, .f32⟩

abbrev hbmTy0_1 (i : Nat) : BufTy := match i % 128 with
  | 0 => ⟨S1024x1x32x128, .f32⟩
  | 1 => ⟨S_, .f32⟩
  | 2 => ⟨S_, .f32⟩
  | 3 => ⟨S1024x32x32x128, .i1⟩
  | 4 => ⟨S1024x32x32x128, .f32⟩
  | 5 => ⟨S1024x32x32x128, .f32⟩
  | 6 => ⟨S1024x32x32x128, .f32⟩
  | 7 => ⟨S_, .f32⟩
  | 8 => ⟨S1024x32x128, .f32⟩
  | 9 => ⟨S32, .i32⟩
  | 10 => ⟨S32, .f32⟩
  | 11 => ⟨S32x1, .f32⟩
  | 12 => ⟨S1x32x1, .f32⟩
  | 13 => ⟨S1024x32x128, .f32⟩
  | 14 => ⟨S1024x32x128, .f32⟩
  | 15 => ⟨S1024x32x1x128, .f32⟩
  | 16 => ⟨S1024x32x128, .f32⟩
  | 17 => ⟨S1024x32x128, .f32⟩
  | 18 => ⟨S_, .i32⟩
  | 19 => ⟨S32, .i32⟩
  | 20 => ⟨S32, .i32⟩
  | 21 => ⟨S_, .i32⟩
  | 22 => ⟨S32, .i32⟩
  | 23 => ⟨S32, .i32⟩
  | 24 => ⟨S_, .i32⟩
  | 25 => ⟨S32, .i32⟩
  | 26 => ⟨S32, .i32⟩
  | 27 => ⟨S_, .i32⟩
  | 28 => ⟨S32, .i32⟩
  | 29 => ⟨S32, .i32⟩
  | 30 => ⟨S_, .i32⟩
  | 31 => ⟨S32, .i32⟩
  | 32 => ⟨S32, .i32⟩
  | 33 => ⟨S1x32, .i32⟩
  | 34 => ⟨S32x1, .i32⟩
  | 35 => ⟨S32x32, .i32⟩
  | 36 => ⟨S32x32, .i32⟩
  | 37 => ⟨S32x32, .i1⟩
  | 38 => ⟨S1x32, .i32⟩
  | 39 => ⟨S32x1, .i32⟩
  | 40 => ⟨S32x32, .i32⟩
  | 41 => ⟨S32x32, .i32⟩
  | 42 => ⟨S32x32, .i1⟩
  | 43 => ⟨S32x32, .i1⟩
  | 44 => ⟨S1x32x32x1, .i1⟩
  | 45 => ⟨S1024x32x1x128, .f32⟩
  | 46 => ⟨S1024x32x128, .f32⟩
  | 47 => ⟨S1024x1x32x128, .f32⟩
  | 48 => ⟨S_, .f32⟩
  | 49 => ⟨S_, .f32⟩
  | 50 => ⟨S1024x32x32x128, .i1⟩
  | 51 => ⟨S1024x32x32x128, .f32⟩
  | 52 => ⟨S1024x32x32x128, .f32⟩
  | 53 => ⟨S1024x32x32x128, .f32⟩
  | 54 => ⟨S_, .f32⟩
  | 55 => ⟨S1024x32x128, .f32⟩
  | 56 => ⟨S32, .i32⟩
  | 57 => ⟨S32, .f32⟩
  | 58 => ⟨S32x1, .f32⟩
  | 59 => ⟨S1x32x1, .f32⟩
  | 60 => ⟨S1024x32x128, .f32⟩
  | 61 => ⟨S1024x32x128, .f32⟩
  | 62 => ⟨S1024x32x1x128, .f32⟩
  | 63 => ⟨S1024x32x128, .f32⟩
  | 64 => ⟨S1024x32x128, .f32⟩
  | 65 => ⟨S1024x32x1x128, .f32⟩
  | 66 => ⟨S1024x32x1x128, .f32⟩
  | 67 => ⟨S1024x32x1x128, .f32⟩
  | 68 => ⟨S1024x32x1x128, .f32⟩
  | 69 => ⟨S1024x32x4x128, .f32⟩
  | 70 => ⟨S4x128x1024x32, .f32⟩
  | 71 => ⟨S1024x32x4x128, .f32⟩
  | 72 => ⟨S32768x512, .f32⟩
  | 73 => ⟨S1x512, .f32⟩
  | 74 => ⟨S32768x512, .f32⟩
  | 75 => ⟨S32768x512, .f32⟩
  | _ => ⟨S32768x512, .f32⟩

abbrev hbmTy (i : Nat) : BufTy := match i / 128 with
  | 0 => hbmTy0_0 i
  | 1 => hbmTy0_1 i
  | _ => ⟨S32768x512, .f32⟩

abbrev bufTy : (tb : Table) → Fin (tcTables nBuf tb) → BufTy
  | .hbm, ⟨i, _⟩ => hbmTy i
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_c_1 : Ref sig .tc := ⟨.hbm, 11, rfl⟩
abbrev main_v6 : Ref sig .tc := ⟨.hbm, 12, rfl⟩
abbrev main_v7 : Ref sig .tc := ⟨.hbm, 13, rfl⟩
abbrev main_c_2 : Ref sig .tc := ⟨.hbm, 14, rfl⟩
abbrev main_v8 : Ref sig .tc := ⟨.hbm, 15, rfl⟩
abbrev main_v9 : Ref sig .tc := ⟨.hbm, 16, rfl⟩
abbrev main_c_3 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_c_5 : Ref sig .tc := ⟨.hbm, 52, rfl⟩
abbrev main_v38 : Ref sig .tc := ⟨.hbm, 53, rfl⟩
abbrev main_v39 : Ref sig .tc := ⟨.hbm, 54, rfl⟩
abbrev main_c_6 : Ref sig .tc := ⟨.hbm, 55, rfl⟩
abbrev main_v40 : Ref sig .tc := ⟨.hbm, 56, rfl⟩
abbrev main_v41 : Ref sig .tc := ⟨.hbm, 57, rfl⟩
abbrev main_c_7 : Ref sig .tc := ⟨.hbm, 58, rfl⟩
abbrev main_v42 : Ref sig .tc := ⟨.hbm, 59, rfl⟩
abbrev main_v43 : Ref sig .tc := ⟨.hbm, 60, rfl⟩
abbrev main_c_8 : Ref sig .tc := ⟨.hbm, 61, rfl⟩
abbrev main_v44 : Ref sig .tc := ⟨.hbm, 62, rfl⟩
abbrev main_v45 : Ref sig .tc := ⟨.hbm, 63, rfl⟩
abbrev main_c_9 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_cst_10 : Ref sig .tc := ⟨.hbm, 82, rfl⟩
abbrev main_call1_v0 : Ref sig .tc := ⟨.hbm, 83, rfl⟩
abbrev main_call1_v1 : Ref sig .tc := ⟨.hbm, 84, rfl⟩
abbrev main_call1_v2 : Ref sig .tc := ⟨.hbm, 85, rfl⟩
abbrev main_call1_v3 : Ref sig .tc := ⟨.hbm, 86, rfl⟩
abbrev main_v63 : Ref sig .tc := ⟨.hbm, 87, rfl⟩
abbrev main_cst_11 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_c_12 : Ref sig .tc := ⟨.hbm, 99, rfl⟩
abbrev main_v74 : Ref sig .tc := ⟨.hbm, 100, rfl⟩
abbrev main_v75 : Ref sig .tc := ⟨.hbm, 101, rfl⟩
abbrev main_c_13 : Ref sig .tc := ⟨.hbm, 102, rfl⟩
abbrev main_v76 : Ref sig .tc := ⟨.hbm, 103, rfl⟩
abbrev main_v77 : Ref sig .tc := ⟨.hbm, 104, rfl⟩
abbrev main_c_14 : Ref sig .tc := ⟨.hbm, 105, rfl⟩
abbrev main_v78 : Ref sig .tc := ⟨.hbm, 106, rfl⟩
abbrev main_v79 : Ref sig .tc := ⟨.hbm, 107, rfl⟩
abbrev main_c_15 : Ref sig .tc := ⟨.hbm, 108, rfl⟩
abbrev main_v80 : Ref sig .tc := ⟨.hbm, 109, rfl⟩
abbrev main_v81 : Ref sig .tc := ⟨.hbm, 110, rfl⟩
abbrev main_c_16 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_cst_17 : Ref sig .tc := ⟨.hbm, 129, rfl⟩
abbrev main_call2_v0 : Ref sig .tc := ⟨.hbm, 130, rfl⟩
abbrev main_call2_v1 : Ref sig .tc := ⟨.hbm, 131, rfl⟩
abbrev main_call2_v2 : Ref sig .tc := ⟨.hbm, 132, rfl⟩
abbrev main_call2_v3 : Ref sig .tc := ⟨.hbm, 133, rfl⟩
abbrev main_v99 : Ref sig .tc := ⟨.hbm, 134, rfl⟩
abbrev main_cst_18 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_c_19 : Ref sig .tc := ⟨.hbm, 146, rfl⟩
abbrev main_v110 : Ref sig .tc := ⟨.hbm, 147, rfl⟩
abbrev main_v111 : Ref sig .tc := ⟨.hbm, 148, rfl⟩
abbrev main_c_20 : Ref sig .tc := ⟨.hbm, 149, rfl⟩
abbrev main_v112 : Ref sig .tc := ⟨.hbm, 150, rfl⟩
abbrev main_v113 : Ref sig .tc := ⟨.hbm, 151, rfl⟩
abbrev main_c_21 : Ref sig .tc := ⟨.hbm, 152, rfl⟩
abbrev main_v114 : Ref sig .tc := ⟨.hbm, 153, rfl⟩
abbrev main_v115 : Ref sig .tc := ⟨.hbm, 154, rfl⟩
abbrev main_c_22 : Ref sig .tc := ⟨.hbm, 155, rfl⟩
abbrev main_v116 : Ref sig .tc := ⟨.hbm, 156, rfl⟩
abbrev main_v117 : Ref sig .tc := ⟨.hbm, 157, rfl⟩
abbrev main_c_23 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_cst_24 : Ref sig .tc := ⟨.hbm, 176, rfl⟩
abbrev main_call3_v0 : Ref sig .tc := ⟨.hbm, 177, rfl⟩
abbrev main_call3_v1 : Ref sig .tc := ⟨.hbm, 178, rfl⟩
abbrev main_call3_v2 : Ref sig .tc := ⟨.hbm, 179, rfl⟩
abbrev main_call3_v3 : Ref sig .tc := ⟨.hbm, 180, rfl⟩
abbrev main_v135 : Ref sig .tc := ⟨.hbm, 181, rfl⟩
abbrev main_cst_25 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_v153 : Ref sig .tc := ⟨.hbm, 200, rfl⟩
abbrev main_v154 : Ref sig .tc := ⟨.hbm, 201, rfl⟩
abbrev main_v155 : Ref sig .tc := ⟨.hbm, 202, rfl⟩
abbrev main_v156 : Ref sig .tc := ⟨.hbm, 203, rfl⟩

abbrev nD : Nat := 1
abbrev τ : Topo := Topo.v7x

variable {F : FTy → Type} [FloatOps F]
-- ==== Kernel9.lean ====
abbrev S16x256x128 : Shape := ⟨3, ![16, 256, 128]⟩
abbrev S8x128 : Shape := ⟨2, ![8, 128]⟩
abbrev S16x4x16x64 : Shape := ⟨4, ![16, 4, 16, 64]⟩
abbrev S1x256x128 : Shape := ⟨3, ![1, 256, 128]⟩
abbrev S1x4x16x64 : Shape := ⟨4, ![1, 4, 16, 64]⟩
abbrev S64x64 : Shape := ⟨2, ![64, 64]⟩
abbrev S64x128 : Shape := ⟨2, ![64, 128]⟩
abbrev S128x64 : Shape := ⟨2, ![128, 64]⟩
abbrev S1x128 : Shape := ⟨2, ![1, 128]⟩
abbrev S1x64x128 : Shape := ⟨3, ![1, 64, 128]⟩
abbrev S16x64 : Shape := ⟨2, ![16, 64]⟩
abbrev S1x1x16x64 : Shape := ⟨4, ![1, 1, 16, 64]⟩

abbrev nBuf : Space → Nat
  | .hbm => 4
  | .vmem => 7
  | .smem => 0
  | _ => 0

abbrev bufTy : (tb : Table) → Fin (tcTables nBuf tb) → BufTy
  | .hbm, ⟨0, _⟩ => ⟨S16x256x128, .f32⟩
  | .hbm, ⟨1, _⟩ => ⟨S8x128, .f32⟩
  | .hbm, ⟨2, _⟩ => ⟨S16x256x128, .f32⟩
  | .hbm, ⟨3, _⟩ => ⟨S16x4x16x64, .f32⟩
  | .local _ .vmem, ⟨0, _⟩ => ⟨S1x256x128, .f32⟩
  | .local _ .vmem, ⟨1, _⟩ => ⟨S1x256x128, .f32⟩
  | .local _ .vmem, ⟨2, _⟩ => ⟨S8x128, .f32⟩
  | .local _ .vmem, ⟨3, _⟩ => ⟨S1x256x128, .f32⟩
  | .local _ .vmem, ⟨4, _⟩ => ⟨S1x256x128, .f32⟩
  | .local _ .vmem, ⟨5, _⟩ => ⟨S1x4x16x64, .f32⟩
  | .local _ .vmem, ⟨6, _⟩ => ⟨S1x4x16x64, .f32⟩
  | _, _ => ⟨S16x256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c4_i32 : BitVec 32 := 4#32
  let v18 : BitVec 32 := Scalar.addi c0_i32 c4_i32
  let c1_i32 : BitVec 32 := 1#32
  ⟨c0_i32, v18, c1_i32⟩
def k0_mult1 (k0_t1 : Fin k0_t1_loop.trips) : BitVec 32 :=
  let c0_i32 : BitVec 32 := 0#32
  let c1_i32 : BitVec 32 := 1#32
  let arg5 : BitVec 32 := Scf.iv c0_i32 c1_i32 k0_t1
  let c64_i32 : BitVec 32 := 64#32
  let v19 : BitVec 32 := Scalar.muli arg5 c64_i32
  v19
def k0_off1 (k0_t1 : Fin k0_t1_loop.trips) : Fin 3 → Nat :=
  let c0_3 : Index := 0#32
  let c0_i32 : BitVec 32 := 0#32
  let c1_i32 : BitVec 32 := 1#32
  let arg5 : BitVec 32 := Scf.iv c0_i32 c1_i32 k0_t1
  let c64_i32 : BitVec 32 := 64#32
  let v19 : BitVec 32 := Scalar.muli arg5 c64_i32
  let v20 : BitVec 32 := v19
  let v21 : Index := Scalar.indexCast v20
  let c0_4 : Index := 0#32
  ![0, v21.toNat, 0]
def k0_off2 (k0_t1 : Fin k0_t1_loop.trips) : Fin 4 → Nat :=
  let c0_31 : Index := 0#32
  let c0_i32 : BitVec 32 := 0#32
  let c1_i32 : BitVec 32 := 1#32
  let arg5 : BitVec 32 := Scf.iv c0_i32 c1_i32 k0_t1
  let v132 : Index := Scalar.indexCast arg5
  let c0_32 : Index := 0#32
  let c0_33 : Index := 0#32
  ![0, v132.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4x16x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference9Ideal.lean ====
abbrev S16x256x128 : Shape := ⟨3, ![16, 256, 128]⟩
abbrev S8x128 : Shape := ⟨2, ![8, 128]⟩
abbrev S16x256x8 : Shape := ⟨3, ![16, 256, 8]⟩
abbrev S1x8 : Shape := ⟨2, ![1, 8]⟩
abbrev S8 : Shape := ⟨1, ![8]⟩
abbrev S1x1x8 : Shape := ⟨3, ![1, 1, 8]⟩
abbrev S16x256x120 : Shape := ⟨3, ![16, 256, 120]⟩
abbrev S1x120 : Shape := ⟨2, ![1, 120]⟩
abbrev S120 : Shape := ⟨1, ![120]⟩
abbrev S1x1x120 : Shape := ⟨3, ![1, 1, 120]⟩
abbrev S_ : Shape := ⟨0, ![]⟩
abbrev S16x4x64x120 : Shape := ⟨4, ![16, 4, 64, 120]⟩
abbrev S64 : Shape := ⟨1, ![64]⟩
abbrev S1x64 : Shape := ⟨2, ![1, 64]⟩
abbrev S64x1 : Shape := ⟨2, ![64, 1]⟩
abbrev S64x64 : Shape := ⟨2, ![64, 64]⟩
abbrev S1x1x64x64x1 : Shape := ⟨5, ![1, 1, 64, 64, 1]⟩
abbrev S16x4x64x4 : Shape := ⟨4, ![16, 4, 64, 4]⟩
abbrev S16x4x1x64x4 : Shape := ⟨5, ![16, 4, 1, 64, 4]⟩
abbrev S16x4x64x64x4 : Shape := ⟨5, ![16, 4, 64, 64, 4]⟩
abbrev S16x256x4 : Shape := ⟨3, ![16, 256, 4]⟩
abbrev S16x256x112 : Shape := ⟨3, ![16, 256, 112]⟩
abbrev S16x256x16 : Shape := ⟨3, ![16, 256, 16]⟩
abbrev S16x4x64x16 : Shape := ⟨4, ![16, 4, 64, 16]⟩
abbrev S16x4x16x64 : Shape := ⟨4, ![16, 4, 16, 64]⟩

abbrev nBuf : Space → Nat
  | .hbm => 71
  | .vmem => 0
  | .smem => 0
  | _ => 0

abbrev bufTy : (tb : Table) → Fin (tcTables nBuf tb) → BufTy
  | .hbm, ⟨0, _⟩ => ⟨S16x256x128, .f32⟩
  | .hbm, ⟨1, _⟩ => ⟨S8x128, .f32⟩
  | .hbm, ⟨2, _⟩ => ⟨S16x256x8, .f32⟩
  | .hbm, ⟨3, _⟩ => ⟨S1x8, .f32⟩
  | .hbm, ⟨4, _⟩ => ⟨S8, .f32⟩
  | .hbm, ⟨5, _⟩ => ⟨S1x1x8, .f32⟩
  | .hbm, ⟨6, _⟩ => ⟨S16x256x8, .f32⟩
  | .hbm, ⟨7, _⟩ => ⟨S16x256x8, .f32⟩
  | .hbm, ⟨8, _⟩ => ⟨S16x256x120, .f32⟩
  | .hbm, ⟨9, _⟩ => ⟨S1x120, .f32⟩
  | .hbm, ⟨10, _⟩ => ⟨S120, .f32⟩
  | .hbm, ⟨11, _⟩ => ⟨S1x1x120, .f32⟩
  | .hbm, ⟨12, _⟩ => ⟨S16x256x120, .f32⟩
  | .hbm, ⟨13, _⟩ => ⟨S16x256x120, .f32⟩
  | .hbm, ⟨14, _⟩ => ⟨S16x256x120, .f32⟩
  | .hbm, ⟨15, _⟩ => ⟨S_, .f32⟩
  | .hbm, ⟨16, _⟩ => ⟨S16x256x120, .f32⟩
  | .hbm, ⟨17, _⟩ => ⟨S16x256x120, .f32⟩
  | .hbm, ⟨18, _⟩ => ⟨S16x256x120, .f32⟩
  | .hbm, ⟨19, _⟩ => ⟨S16x256x120, .f32⟩
  | .hbm, ⟨20, _⟩ => ⟨S16x256x120, .i1⟩
  | .hbm, ⟨21, _⟩ => ⟨S16x256x120, .f32⟩
  | .hbm, ⟨22, _⟩ => ⟨S16x256x120, .f32⟩
  | .hbm, ⟨23, _⟩ => ⟨S16x256x120, .f32⟩
  | .hbm, ⟨24, _⟩ => ⟨S16x256x120, .f32⟩
  | .hbm, ⟨25, _⟩ => ⟨S16x256x120, .f32⟩
  | .hbm, ⟨26, _⟩ => ⟨S16x256x120, .f32⟩
  | .hbm, ⟨27, _⟩ => ⟨S16x256x120, .f32⟩
  | .hbm, ⟨28, _⟩ => ⟨S16x256x120, .f32⟩
  | .hbm, ⟨29, _⟩ => ⟨S16x256x120, .f32⟩
  | .hbm, ⟨30, _⟩ => ⟨S16x4x64x120, .f32⟩
  | .hbm, ⟨31, _⟩ => ⟨S64, .i32⟩
  | .hbm, ⟨32, _⟩ => ⟨S1x64, .i32⟩
  | .hbm, ⟨33, _⟩ => ⟨S64x1, .i32⟩
  | .hbm, ⟨34, _⟩ => ⟨S64x64, .i32⟩
  | .hbm, ⟨35, _⟩ => ⟨S64x64, .i32⟩
  | .hbm, ⟨36, _⟩ => ⟨S64x64, .i1⟩
  | .hbm, ⟨37, _⟩ => ⟨S1x1x64x64x1, .i1⟩
  | .hbm, ⟨38, _⟩ => ⟨S1x64, .i32⟩
  | .hbm, ⟨39, _⟩ => ⟨S64x1, .i32⟩
  | .hbm, ⟨40, _⟩ => ⟨S64x64, .i32⟩
  | .hbm, ⟨41, _⟩ => ⟨S64x64, .i32⟩
  | .hbm, ⟨42, _⟩ => ⟨S64x64, .i1⟩
  | .hbm, ⟨43, _⟩ => ⟨S1x1x64x64x1, .i1⟩
  | .hbm, ⟨44, _⟩ => ⟨S16x4x64x4, .f32⟩
  | .hbm, ⟨45, _⟩ => ⟨S16x4x1x64x4, .f32⟩
  | .hbm, ⟨46, _⟩ => ⟨S_, .f32⟩
  | .hbm, ⟨47, _⟩ => ⟨S_, .f32⟩
  | .hbm, ⟨48, _⟩ => ⟨S16x4x64x64x4, .i1⟩
  | .hbm, ⟨49, _⟩ => ⟨S16x4x64x64x4, .f32⟩
  | .hbm, ⟨50, _⟩ => ⟨S16x4x64x64x4, .f32⟩
  | .hbm, ⟨51, _⟩ => ⟨S16x4x64x64x4, .f32⟩
  | .hbm, ⟨52, _⟩ => ⟨S_, .f32⟩
  | .hbm, ⟨53, _⟩ => ⟨S16x4x64x4, .f32⟩
  | .hbm, ⟨54, _⟩ => ⟨S16x256x4, .f32⟩
  | .hbm, ⟨55, _⟩ => ⟨S16x4x64x4, .f32⟩
  | .hbm, ⟨56, _⟩ => ⟨S16x4x1x64x4, .f32⟩
  | .hbm, ⟨57, _⟩ => ⟨S_, .f32⟩
  | .hbm, ⟨58, _⟩ => ⟨S_, .f32⟩
  | .hbm, ⟨59, _⟩ => ⟨S16x4x64x64x4, .i1⟩
  | .hbm, ⟨60, _⟩ => ⟨S16x4x64x64x4, .f32⟩
  | .hbm, ⟨61, _⟩ => ⟨S16x4x64x64x4, .f32⟩
  | .hbm, ⟨62, _⟩ => ⟨S16x4x64x64x4, .f32⟩
  | .hbm, ⟨63, _⟩ => ⟨S_, .f32⟩
  | .hbm, ⟨64, _⟩ => ⟨S16x4x64x4, .f32⟩
  | .hbm, ⟨65, _⟩ => ⟨S16x256x4, .f32⟩
  | .hbm, ⟨66, _⟩ => ⟨S16x256x112, .f32⟩
  | .hbm, ⟨67, _⟩ => ⟨S16x256x128, .f32⟩
  | .hbm, ⟨68, _⟩ => ⟨S16x256x16, .f32⟩
  | .hbm, ⟨69, _⟩ => ⟨S16x4x64x16, .f32⟩
  | .hbm, ⟨70, _⟩ => ⟨S16x4x16x64, .f32⟩
  | _, _ => ⟨S16x256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_call0_v0 : Ref sig .tc := ⟨.hbm, 14, rfl⟩
abbrev main_call0_call0_cst : Ref sig .tc := ⟨.hbm, 15, rfl⟩
abbrev main_call0_call0_v0 : Ref sig .tc := ⟨.hbm, 16, rfl⟩
abbrev main_call0_call0_v1 : Ref sig .tc := ⟨.hbm, 17, rfl⟩
abbrev main_call0_call0_v2 : Ref sig .tc := ⟨.hbm, 18, rfl⟩
abbrev main_call0_call0_v3 : Ref sig .tc := ⟨.hbm, 19, rfl⟩
abbrev main_call0_call0_v4 : Ref sig .tc := ⟨.hbm, 20, rfl⟩
abbrev main_call0_call0_v5 : Ref sig .tc := ⟨.hbm, 21, rfl⟩
abbrev main_call0_call0_v6 : Ref sig .tc := ⟨.hbm, 22, rfl⟩
abbrev main_call0_call0_v7 : Ref sig .tc := ⟨.hbm, 23, rfl⟩
abbrev main_call0_call0_v8 : Ref sig .tc := ⟨.hbm, 24, rfl⟩
abbrev main_call0_call0_v9 : Ref sig .tc := ⟨.hbm, 25, rfl⟩
abbrev main_call0_call0_v10 : Ref sig .tc := ⟨.hbm, 26, rfl⟩
abbrev main_call0_call0_v11 : Ref sig .tc := ⟨.hbm, 27, rfl⟩
abbrev main_call0_v1 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_call1_v3 : Ref sig .tc := ⟨.hbm, 50, rfl⟩
abbrev main_v29 : Ref sig .tc := ⟨.hbm, 51, rfl⟩
abbrev main_cst_0 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_1 : Ref sig .tc := ⟨.hbm, 57, rfl⟩
abbrev main_call2_v0 : Ref sig .tc := ⟨.hbm, 58, rfl⟩
abbrev main_call2_v1 : Ref sig .tc := ⟨.hbm, 59, rfl⟩
abbrev main_call2_v2 : Ref sig .tc := ⟨.hbm, 60, rfl⟩
abbrev main_call2_v3 : Ref sig .tc := ⟨.hbm, 61, rfl⟩
abbrev main_v34 : Ref sig .tc := ⟨.hbm, 62, rfl⟩
abbrev main_cst_2 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩

abbrev nD : Nat := 1
abbrev τ : Topo := Topo.v7x

variable {F : FTy → Type} [FloatOps F]
-- ==== Kernel10.lean ====
abbrev S16x2048x128 : Shape := ⟨3, ![16, 2048, 128]⟩
abbrev S8x128 : Shape := ⟨2, ![8, 128]⟩
abbrev S16x32x16x64 : Shape := ⟨4, ![16, 32, 16, 64]⟩
abbrev S1x2048x128 : Shape := ⟨3, ![1, 2048, 128]⟩
abbrev S1x32x16x64 : Shape := ⟨4, ![1, 32, 16, 64]⟩
abbrev S64x64 : Shape := ⟨2, ![64, 64]⟩
abbrev S64x128 : Shape := ⟨2, ![64, 128]⟩
abbrev S128x64 : Shape := ⟨2, ![128, 64]⟩
abbrev S1x128 : Shape := ⟨2, ![1, 128]⟩
abbrev S1x64x128 : Shape := ⟨3, ![1, 64, 128]⟩
abbrev S16x64 : Shape := ⟨2, ![16, 64]⟩
abbrev S1x1x16x64 : Shape := ⟨4, ![1, 1, 16, 64]⟩

abbrev nBuf : Space → Nat
  | .hbm => 4
  | .vmem => 7
  | .smem => 0
  | _ => 0

abbrev bufTy : (tb : Table) → Fin (tcTables nBuf tb) → BufTy
  | .hbm, ⟨0, _⟩ => ⟨S16x2048x128, .f32⟩
  | .hbm, ⟨1, _⟩ => ⟨S8x128, .f32⟩
  | .hbm, ⟨2, _⟩ => ⟨S16x2048x128, .f32⟩
  | .hbm, ⟨3, _⟩ => ⟨S16x32x16x64, .f32⟩
  | .local _ .vmem, ⟨0, _⟩ => ⟨S1x2048x128, .f32⟩
  | .local _ .vmem, ⟨1, _⟩ => ⟨S1x2048x128, .f32⟩
  | .local _ .vmem, ⟨2, _⟩ => ⟨S8x128, .f32⟩
  | .local _ .vmem, ⟨3, _⟩ => ⟨S1x2048x128, .f32⟩
  | .local _ .vmem, ⟨4, _⟩ => ⟨S1x2048x128, .f32⟩
  | .local _ .vmem, ⟨5, _⟩ => ⟨S1x32x16x64, .f32⟩
  | .local _ .vmem, ⟨6, _⟩ => ⟨S1x32x16x64, .f32⟩
  | _, _ => ⟨S16x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c32_i32 : BitVec 32 := 32#32
  let v18 : BitVec 32 := Scalar.addi c0_i32 c32_i32
  let c1_i32 : BitVec 32 := 1#32
  ⟨c0_i32, v18, c1_i32⟩
def k0_mult1 (k0_t1 : Fin k0_t1_loop.trips) : BitVec 32 :=
  let c0_i32 : BitVec 32 := 0#32
  let c1_i32 : BitVec 32 := 1#32
  let arg5 : BitVec 32 := Scf.iv c0_i32 c1_i32 k0_t1
  let c64_i32 : BitVec 32 := 64#32
  let v19 : BitVec 32 := Scalar.muli arg5 c64_i32
  v19
def k0_off1 (k0_t1 : Fin k0_t1_loop.trips) : Fin 3 → Nat :=
  let c0_3 : Index := 0#32
  let c0_i32 : BitVec 32 := 0#32
  let c1_i32 : BitVec 32 := 1#32
  let arg5 : BitVec 32 := Scf.iv c0_i32 c1_i32 k0_t1
  let c64_i32 : BitVec 32 := 64#32
  let v19 : BitVec 32 := Scalar.muli arg5 c64_i32
  let v20 : BitVec 32 := v19
  let v21 : Index := Scalar.indexCast v20
  let c0_4 : Index := 0#32
  ![0, v21.toNat, 0]
def k0_off2 (k0_t1 : Fin k0_t1_loop.trips) : Fin 4 → Nat :=
  let c0_31 : Index := 0#32
  let c0_i32 : BitVec 32 := 0#32
  let c1_i32 : BitVec 32 := 1#32
  let arg5 : BitVec 32 := Scf.iv c0_i32 c1_i32 k0_t1
  let v132 : Index := Scalar.indexCast arg5
  let c0_32 : Index := 0#32
  let c0_33 : Index := 0#32
  ![0, v132.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x32x16x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference10Ideal.lean ====
abbrev S16x2048x128 : Shape := ⟨3, ![16, 2048, 128]⟩
abbrev S8x128 : Shape := ⟨2, ![8, 128]⟩
abbrev S16x2048x8 : Shape := ⟨3, ![16, 2048, 8]⟩
abbrev S1x8 : Shape := ⟨2, ![1, 8]⟩
abbrev S8 : Shape := ⟨1, ![8]⟩
abbrev S1x1x8 : Shape := ⟨3, ![1, 1, 8]⟩
abbrev S16x2048x120 : Shape := ⟨3, ![16, 2048, 120]⟩
abbrev S1x120 : Shape := ⟨2, ![1, 120]⟩
abbrev S120 : Shape := ⟨1, ![120]⟩
abbrev S1x1x120 : Shape := ⟨3, ![1, 1, 120]⟩
abbrev S_ : Shape := ⟨0, ![]⟩
abbrev S16x32x64x120 : Shape := ⟨4, ![16, 32, 64, 120]⟩
abbrev S64 : Shape := ⟨1, ![64]⟩
abbrev S1x64 : Shape := ⟨2, ![1, 64]⟩
abbrev S64x1 : Shape := ⟨2, ![64, 1]⟩
abbrev S64x64 : Shape := ⟨2, ![64, 64]⟩
abbrev S1x1x64x64x1 : Shape := ⟨5, ![1, 1, 64, 64, 1]⟩
abbrev S16x32x64x4 : Shape := ⟨4, ![16, 32, 64, 4]⟩
abbrev S16x32x1x64x4 : Shape := ⟨5, ![16, 32, 1, 64, 4]⟩
abbrev S16x32x64x64x4 : Shape := ⟨5, ![16, 32, 64, 64, 4]⟩
abbrev S16x2048x4 : Shape := ⟨3, ![16, 2048, 4]⟩
abbrev S16x2048x112 : Shape := ⟨3, ![16, 2048, 112]⟩
abbrev S16x2048x16 : Shape := ⟨3, ![16, 2048, 16]⟩
abbrev S16x32x64x16 : Shape := ⟨4, ![16, 32, 64, 16]⟩
abbrev S16x32x16x64 : Shape := ⟨4, ![16, 32, 16, 64]⟩

abbrev nBuf : Space → Nat
  | .hbm => 71
  | .vmem => 0
  | .smem => 0
  | _ => 0

abbrev bufTy : (tb : Table) → Fin (tcTables nBuf tb) → BufTy
  | .hbm, ⟨0, _⟩ => ⟨S16x2048x128, .f32⟩
  | .hbm, ⟨1, _⟩ => ⟨S8x128, .f32⟩
  | .hbm, ⟨2, _⟩ => ⟨S16x2048x8, .f32⟩
  | .hbm, ⟨3, _⟩ => ⟨S1x8, .f32⟩
  | .hbm, ⟨4, _⟩ => ⟨S8, .f32⟩
  | .hbm, ⟨5, _⟩ => ⟨S1x1x8, .f32⟩
  | .hbm, ⟨6, _⟩ => ⟨S16x2048x8, .f32⟩
  | .hbm, ⟨7, _⟩ => ⟨S16x2048x8, .f32⟩
  | .hbm, ⟨8, _⟩ => ⟨S16x2048x120, .f32⟩
  | .hbm, ⟨9, _⟩ => ⟨S1x120, .f32⟩
  | .hbm, ⟨10, _⟩ => ⟨S120, .f32⟩
  | .hbm, ⟨11, _⟩ => ⟨S1x1x120, .f32⟩
  | .hbm, ⟨12, _⟩ => ⟨S16x2048x120, .f32⟩
  | .hbm, ⟨13, _⟩ => ⟨S16x2048x120, .f32⟩
  | .hbm, ⟨14, _⟩ => ⟨S16x2048x120, .f32⟩
  | .hbm, ⟨15, _⟩ => ⟨S_, .f32⟩
  | .hbm, ⟨16, _⟩ => ⟨S16x2048x120, .f32⟩
  | .hbm, ⟨17, _⟩ => ⟨S16x2048x120, .f32⟩
  | .hbm, ⟨18, _⟩ => ⟨S16x2048x120, .f32⟩
  | .hbm, ⟨19, _⟩ => ⟨S16x2048x120, .f32⟩
  | .hbm, ⟨20, _⟩ => ⟨S16x2048x120, .i1⟩
  | .hbm, ⟨21, _⟩ => ⟨S16x2048x120, .f32⟩
  | .hbm, ⟨22, _⟩ => ⟨S16x2048x120, .f32⟩
  | .hbm, ⟨23, _⟩ => ⟨S16x2048x120, .f32⟩
  | .hbm, ⟨24, _⟩ => ⟨S16x2048x120, .f32⟩
  | .hbm, ⟨25, _⟩ => ⟨S16x2048x120, .f32⟩
  | .hbm, ⟨26, _⟩ => ⟨S16x2048x120, .f32⟩
  | .hbm, ⟨27, _⟩ => ⟨S16x2048x120, .f32⟩
  | .hbm, ⟨28, _⟩ => ⟨S16x2048x120, .f32⟩
  | .hbm, ⟨29, _⟩ => ⟨S16x2048x120, .f32⟩
  | .hbm, ⟨30, _⟩ => ⟨S16x32x64x120, .f32⟩
  | .hbm, ⟨31, _⟩ => ⟨S64, .i32⟩
  | .hbm, ⟨32, _⟩ => ⟨S1x64, .i32⟩
  | .hbm, ⟨33, _⟩ => ⟨S64x1, .i32⟩
  | .hbm, ⟨34, _⟩ => ⟨S64x64, .i32⟩
  | .hbm, ⟨35, _⟩ => ⟨S64x64, .i32⟩
  | .hbm, ⟨36, _⟩ => ⟨S64x64, .i1⟩
  | .hbm, ⟨37, _⟩ => ⟨S1x1x64x64x1, .i1⟩
  | .hbm, ⟨38, _⟩ => ⟨S1x64, .i32⟩
  | .hbm, ⟨39, _⟩ => ⟨S64x1, .i32⟩
  | .hbm, ⟨40, _⟩ => ⟨S64x64, .i32⟩
  | .hbm, ⟨41, _⟩ => ⟨S64x64, .i32⟩
  | .hbm, ⟨42, _⟩ => ⟨S64x64, .i1⟩
  | .hbm, ⟨43, _⟩ => ⟨S1x1x64x64x1, .i1⟩
  | .hbm, ⟨44, _⟩ => ⟨S16x32x64x4, .f32⟩
  | .hbm, ⟨45, _⟩ => ⟨S16x32x1x64x4, .f32⟩
  | .hbm, ⟨46, _⟩ => ⟨S_, .f32⟩
  | .hbm, ⟨47, _⟩ => ⟨S_, .f32⟩
  | .hbm, ⟨48, _⟩ => ⟨S16x32x64x64x4, .i1⟩
  | .hbm, ⟨49, _⟩ => ⟨S16x32x64x64x4, .f32⟩
  | .hbm, ⟨50, _⟩ => ⟨S16x32x64x64x4, .f32⟩
  | .hbm, ⟨51, _⟩ => ⟨S16x32x64x64x4, .f32⟩
  | .hbm, ⟨52, _⟩ => ⟨S_, .f32⟩
  | .hbm, ⟨53, _⟩ => ⟨S16x32x64x4, .f32⟩
  | .hbm, ⟨54, _⟩ => ⟨S16x2048x4, .f32⟩
  | .hbm, ⟨55, _⟩ => ⟨S16x32x64x4, .f32⟩
  | .hbm, ⟨56, _⟩ => ⟨S16x32x1x64x4, .f32⟩
  | .hbm, ⟨57, _⟩ => ⟨S_, .f32⟩
  | .hbm, ⟨58, _⟩ => ⟨S_, .f32⟩
  | .hbm, ⟨59, _⟩ => ⟨S16x32x64x64x4, .i1⟩
  | .hbm, ⟨60, _⟩ => ⟨S16x32x64x64x4, .f32⟩
  | .hbm, ⟨61, _⟩ => ⟨S16x32x64x64x4, .f32⟩
  | .hbm, ⟨62, _⟩ => ⟨S16x32x64x64x4, .f32⟩
  | .hbm, ⟨63, _⟩ => ⟨S_, .f32⟩
  | .hbm, ⟨64, _⟩ => ⟨S16x32x64x4, .f32⟩
  | .hbm, ⟨65, _⟩ => ⟨S16x2048x4, .f32⟩
  | .hbm, ⟨66, _⟩ => ⟨S16x2048x112, .f32⟩
  | .hbm, ⟨67, _⟩ => ⟨S16x2048x128, .f32⟩
  | .hbm, ⟨68, _⟩ => ⟨S16x2048x16, .f32⟩
  | .hbm, ⟨69, _⟩ => ⟨S16x32x64x16, .f32⟩
  | .hbm, ⟨70, _⟩ => ⟨S16x32x16x64, .f32⟩
  | _, _ => ⟨S16x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_call0_v0 : Ref sig .tc := ⟨.hbm, 14, rfl⟩
abbrev main_call0_call0_cst : Ref sig .tc := ⟨.hbm, 15, rfl⟩
abbrev main_call0_call0_v0 : Ref sig .tc := ⟨.hbm, 16, rfl⟩
abbrev main_call0_call0_v1 : Ref sig .tc := ⟨.hbm, 17, rfl⟩
abbrev main_call0_call0_v2 : Ref sig .tc := ⟨.hbm, 18, rfl⟩
abbrev main_call0_call0_v3 : Ref sig .tc := ⟨.hbm, 19, rfl⟩
abbrev main_call0_call0_v4 : Ref sig .tc := ⟨.hbm, 20, rfl⟩
abbrev main_call0_call0_v5 : Ref sig .tc := ⟨.hbm, 21, rfl⟩
abbrev main_call0_call0_v6 : Ref sig .tc := ⟨.hbm, 22, rfl⟩
abbrev main_call0_call0_v7 : Ref sig .tc := ⟨.hbm, 23, rfl⟩
abbrev main_call0_call0_v8 : Ref sig .tc := ⟨.hbm, 24, rfl⟩
abbrev main_call0_call0_v9 : Ref sig .tc := ⟨.hbm, 25, rfl⟩
abbrev main_call0_call0_v10 : Ref sig .tc := ⟨.hbm, 26, rfl⟩
abbrev main_call0_call0_v11 : Ref sig .tc := ⟨.hbm, 27, rfl⟩
abbrev main_call0_v1 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_call1_v3 : Ref sig .tc := ⟨.hbm, 50, rfl⟩
abbrev main_v29 : Ref sig .tc := ⟨.hbm, 51, rfl⟩
abbrev main_cst_0 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_1 : Ref sig .tc := ⟨.hbm, 57, rfl⟩
abbrev main_call2_v0 : Ref sig .tc := ⟨.hbm, 58, rfl⟩
abbrev main_call2_v1 : Ref sig .tc := ⟨.hbm, 59, rfl⟩
abbrev main_call2_v2 : Ref sig .tc := ⟨.hbm, 60, rfl⟩
abbrev main_call2_v3 : Ref sig .tc := ⟨.hbm, 61, rfl⟩
abbrev main_v34 : Ref sig .tc := ⟨.hbm, 62, rfl⟩
abbrev main_cst_2 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩

abbrev nD : Nat := 1
abbrev τ : Topo := Topo.v7x

variable {F : FTy → Type} [FloatOps F]
-- ==== Kernel11.lean ====
abbrev S16x2304x128 : Shape := ⟨3, ![16, 2304, 128]⟩
abbrev S8x128 : Shape := ⟨2, ![8, 128]⟩
abbrev S16x36x16x64 : Shape := ⟨4, ![16, 36, 16, 64]⟩
abbrev S1x2304x128 : Shape := ⟨3, ![1, 2304, 128]⟩
abbrev S1x36x16x64 : Shape := ⟨4, ![1, 36, 16, 64]⟩
abbrev S64x64 : Shape := ⟨2, ![64, 64]⟩
abbrev S64x128 : Shape := ⟨2, ![64, 128]⟩
abbrev S128x64 : Shape := ⟨2, ![128, 64]⟩
abbrev S1x128 : Shape := ⟨2, ![1, 128]⟩
abbrev S1x64x128 : Shape := ⟨3, ![1, 64, 128]⟩
abbrev S16x64 : Shape := ⟨2, ![16, 64]⟩
abbrev S1x1x16x64 : Shape := ⟨4, ![1, 1, 16, 64]⟩

abbrev nBuf : Space → Nat
  | .hbm => 4
  | .vmem => 7
  | .smem => 0
  | _ => 0

abbrev bufTy : (tb : Table) → Fin (tcTables nBuf tb) → BufTy
  | .hbm, ⟨0, _⟩ => ⟨S16x2304x128, .f32⟩
  | .hbm, ⟨1, _⟩ => ⟨S8x128, .f32⟩
  | .hbm, ⟨2, _⟩ => ⟨S16x2304x128, .f32⟩
  | .hbm, ⟨3, _⟩ => ⟨S16x36x16x64, .f32⟩
  | .local _ .vmem, ⟨0, _⟩ => ⟨S1x2304x128, .f32⟩
  | .local _ .vmem, ⟨1, _⟩ => ⟨S1x2304x128, .f32⟩
  | .local _ .vmem, ⟨2, _⟩ => ⟨S8x128, .f32⟩
  | .local _ .vmem, ⟨3, _⟩ => ⟨S1x2304x128, .f32⟩
  | .local _ .vmem, ⟨4, _⟩ => ⟨S1x2304x128, .f32⟩
  | .local _ .vmem, ⟨5, _⟩ => ⟨S1x36x16x64, .f32⟩
  | .local _ .vmem, ⟨6, _⟩ => ⟨S1x36x16x64, .f32⟩
  | _, _ => ⟨S16x2304x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c36_i32 : BitVec 32 := 36#32
  let v18 : BitVec 32 := Scalar.addi c0_i32 c36_i32
  let c1_i32 : BitVec 32 := 1#32
  ⟨c0_i32, v18, c1_i32⟩
def k0_mult1 (k0_t1 : Fin k0_t1_loop.trips) : BitVec 32 :=
  let c0_i32 : BitVec 32 := 0#32
  let c1_i32 : BitVec 32 := 1#32
  let arg5 : BitVec 32 := Scf.iv c0_i32 c1_i32 k0_t1
  let c64_i32 : BitVec 32 := 64#32
  let v19 : BitVec 32 := Scalar.muli arg5 c64_i32
  v19
def k0_off1 (k0_t1 : Fin k0_t1_loop.trips) : Fin 3 → Nat :=
  let c0_3 : Index := 0#32
  let c0_i32 : BitVec 32 := 0#32
  let c1_i32 : BitVec 32 := 1#32
  let arg5 : BitVec 32 := Scf.iv c0_i32 c1_i32 k0_t1
  let c64_i32 : BitVec 32 := 64#32
  let v19 : BitVec 32 := Scalar.muli arg5 c64_i32
  let v20 : BitVec 32 := v19
  let v21 : Index := Scalar.indexCast v20
  let c0_4 : Index := 0#32
  ![0, v21.toNat, 0]
def k0_off2 (k0_t1 : Fin k0_t1_loop.trips) : Fin 4 → Nat :=
  let c0_31 : Index := 0#32
  let c0_i32 : BitVec 32 := 0#32
  let c1_i32 : BitVec 32 := 1#32
  let arg5 : BitVec 32 := Scf.iv c0_i32 c1_i32 k0_t1
  let v132 : Index := Scalar.indexCast arg5
  let c0_32 : Index := 0#32
  let c0_33 : Index := 0#32
  ![0, v132.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x2304x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x2304x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x36x16x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference11Ideal.lean ====
abbrev S16x2304x128 : Shape := ⟨3, ![16, 2304, 128]⟩
abbrev S8x128 : Shape := ⟨2, ![8, 128]⟩
abbrev S1x8 : Shape := ⟨2, ![1, 8]⟩
abbrev S8 : Shape := ⟨1, ![8]⟩
abbrev S16x2304x8 : Shape := ⟨3, ![16, 2304, 8]⟩
abbrev S1x1x8 : Shape := ⟨3, ![1, 1, 8]⟩
abbrev S_ : Shape := ⟨0, ![]⟩
abbrev S16x2304x120 : Shape := ⟨3, ![16, 2304, 120]⟩
abbrev S16x36x64x8 : Shape := ⟨4, ![16, 36, 64, 8]⟩
abbrev S64 : Shape := ⟨1, ![64]⟩
abbrev S1x64 : Shape := ⟨2, ![1, 64]⟩
abbrev S64x1 : Shape := ⟨2, ![64, 1]⟩
abbrev S64x64 : Shape := ⟨2, ![64, 64]⟩
abbrev S1x1x64x64x1 : Shape := ⟨5, ![1, 1, 64, 64, 1]⟩
abbrev S16x36x64x4 : Shape := ⟨4, ![16, 36, 64, 4]⟩
abbrev S16x36x1x64x4 : Shape := ⟨5, ![16, 36, 1, 64, 4]⟩
abbrev S16x36x64x64x4 : Shape := ⟨5, ![16, 36, 64, 64, 4]⟩
abbrev S16x2304x4 : Shape := ⟨3, ![16, 2304, 4]⟩
abbrev S16x2304x16 : Shape := ⟨3, ![16, 2304, 16]⟩
abbrev S16x36x64x16 : Shape := ⟨4, ![16, 36, 64, 16]⟩
abbrev S16x36x16x64 : Shape := ⟨4, ![16, 36, 16, 64]⟩

abbrev nBuf : Space → Nat
  | .hbm => 78
  | .vmem => 0
  | .smem => 0
  | _ => 0

abbrev bufTy : (tb : Table) → Fin (tcTables nBuf tb) → BufTy
  | .hbm, ⟨0, _⟩ => ⟨S16x2304x128, .f32⟩
  | .hbm, ⟨1, _⟩ => ⟨S8x128, .f32⟩
  | .hbm, ⟨2, _⟩ => ⟨S1x8, .f32⟩
  | .hbm, ⟨3, _⟩ => ⟨S8, .f32⟩
  | .hbm, ⟨4, _⟩ => ⟨S8, .f32⟩
  | .hbm, ⟨5, _⟩ => ⟨S8, .f32⟩
  | .hbm, ⟨6, _⟩ => ⟨S16x2304x8, .f32⟩
  | .hbm, ⟨7, _⟩ => ⟨S1x8, .f32⟩
  | .hbm, ⟨8, _⟩ => ⟨S8, .f32⟩
  | .hbm, ⟨9, _⟩ => ⟨S1x1x8, .f32⟩
  | .hbm, ⟨10, _⟩ => ⟨S16x2304x8, .f32⟩
  | .hbm, ⟨11, _⟩ => ⟨S16x2304x8, .f32⟩
  | .hbm, ⟨12, _⟩ => ⟨S_, .f32⟩
  | .hbm, ⟨13, _⟩ => ⟨S16x2304x8, .f32⟩
  | .hbm, ⟨14, _⟩ => ⟨S16x2304x8, .f32⟩
  | .hbm, ⟨15, _⟩ => ⟨S16x2304x8, .f32⟩
  | .hbm, ⟨16, _⟩ => ⟨S16x2304x8, .f32⟩
  | .hbm, ⟨17, _⟩ => ⟨S16x2304x8, .i1⟩
  | .hbm, ⟨18, _⟩ => ⟨S16x2304x8, .f32⟩
  | .hbm, ⟨19, _⟩ => ⟨S16x2304x8, .f32⟩
  | .hbm, ⟨20, _⟩ => ⟨S16x2304x8, .f32⟩
  | .hbm, ⟨21, _⟩ => ⟨S16x2304x8, .f32⟩
  | .hbm, ⟨22, _⟩ => ⟨S16x2304x8, .f32⟩
  | .hbm, ⟨23, _⟩ => ⟨S16x2304x8, .f32⟩
  | .hbm, ⟨24, _⟩ => ⟨S16x2304x8, .f32⟩
  | .hbm, ⟨25, _⟩ => ⟨S16x2304x8, .f32⟩
  | .hbm, ⟨26, _⟩ => ⟨S1x1x8, .f32⟩
  | .hbm, ⟨27, _⟩ => ⟨S16x2304x8, .f32⟩
  | .hbm, ⟨28, _⟩ => ⟨S16x2304x8, .f32⟩
  | .hbm, ⟨29, _⟩ => ⟨S16x2304x120, .f32⟩
  | .hbm, ⟨30, _⟩ => ⟨S16x2304x120, .f32⟩
  | .hbm, ⟨31, _⟩ => ⟨S16x2304x120, .f32⟩
  | .hbm, ⟨32, _⟩ => ⟨S_, .f32⟩
  | .hbm, ⟨33, _⟩ => ⟨S16x2304x120, .f32⟩
  | .hbm, ⟨34, _⟩ => ⟨S16x2304x120, .f32⟩
  | .hbm, ⟨35, _⟩ => ⟨S_, .f32⟩
  | .hbm, ⟨36, _⟩ => ⟨S16x2304x120, .f32⟩
  | .hbm, ⟨37, _⟩ => ⟨S16x2304x120, .f32⟩
  | .hbm, ⟨38, _⟩ => ⟨S16x36x64x8, .f32⟩
  | .hbm, ⟨39, _⟩ => ⟨S64, .i32⟩
  | .hbm, ⟨40, _⟩ => ⟨S1x64, .i32⟩
  | .hbm, ⟨41, _⟩ => ⟨S64x1, .i32⟩
  | .hbm, ⟨42, _⟩ => ⟨S64x64, .i32⟩
  | .hbm, ⟨43, _⟩ => ⟨S64x64, .i32⟩
  | .hbm, ⟨44, _⟩ => ⟨S64x64, .i1⟩
  | .hbm, ⟨45, _⟩ => ⟨S1x1x64x64x1, .i1⟩
  | .hbm, ⟨46, _⟩ => ⟨S1x64, .i32⟩
  | .hbm, ⟨47, _⟩ => ⟨S64x1, .i32⟩
  | .hbm, ⟨48, _⟩ => ⟨S64x64, .i32⟩
  | .hbm, ⟨49, _⟩ => ⟨S64x64, .i32⟩
  | .hbm, ⟨50, _⟩ => ⟨S64x64, .i1⟩
  | .hbm, ⟨51, _⟩ => ⟨S1x1x64x64x1, .i1⟩
  | .hbm, ⟨52, _⟩ => ⟨S16x36x64x4, .f32⟩
  | .hbm, ⟨53, _⟩ => ⟨S16x36x1x64x4, .f32⟩
  | .hbm, ⟨54, _⟩ => ⟨S_, .f32⟩
  | .hbm, ⟨55, _⟩ => ⟨S_, .f32⟩
  | .hbm, ⟨56, _⟩ => ⟨S16x36x64x64x4, .i1⟩
  | .hbm, ⟨57, _⟩ => ⟨S16x36x64x64x4, .f32⟩
  | .hbm, ⟨58, _⟩ => ⟨S16x36x64x64x4, .f32⟩
  | .hbm, ⟨59, _⟩ => ⟨S16x36x64x64x4, .f32⟩
  | .hbm, ⟨60, _⟩ => ⟨S_, .f32⟩
  | .hbm, ⟨61, _⟩ => ⟨S16x36x64x4, .f32⟩
  | .hbm, ⟨62, _⟩ => ⟨S16x2304x4, .f32⟩
  | .hbm, ⟨63, _⟩ => ⟨S16x36x64x4, .f32⟩
  | .hbm, ⟨64, _⟩ => ⟨S16x36x1x64x4, .f32⟩
  | .hbm, ⟨65, _⟩ => ⟨S_, .f32⟩
  | .hbm, ⟨66, _⟩ => ⟨S_, .f32⟩
  | .hbm, ⟨67, _⟩ => ⟨S16x36x64x64x4, .i1⟩
  | .hbm, ⟨68, _⟩ => ⟨S16x36x64x64x4, .f32⟩
  | .hbm, ⟨69, _⟩ => ⟨S16x36x64x64x4, .f32⟩
  | .hbm, ⟨70, _⟩ => ⟨S16x36x64x64x4, .f32⟩
  | .hbm, ⟨71, _⟩ => ⟨S_, .f32⟩
  | .hbm, ⟨72, _⟩ => ⟨S16x36x64x4, .f32⟩
  | .hbm, ⟨73, _⟩ => ⟨S16x2304x4, .f32⟩
  | .hbm, ⟨74, _⟩ => ⟨S16x2304x128, .f32⟩
  | .hbm, ⟨75, _⟩ => ⟨S16x2304x16, .f32⟩
  | .hbm, ⟨76, _⟩ => ⟨S16x36x64x16, .f32⟩
  | .hbm, ⟨77, _⟩ => ⟨S16x36x16x64, .f32⟩
  | _, _ => ⟨S16x2304x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_call0_cst : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst : Ref sig .tc := ⟨.hbm, 32, rfl⟩
abbrev main_v17 : Ref sig .tc := ⟨.hbm, 33, rfl⟩
abbrev main_v18 : Ref sig .tc := ⟨.hbm, 34, rfl⟩
abbrev main_cst_0 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_1 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_call1_v3 : Ref sig .tc := ⟨.hbm, 58, rfl⟩
abbrev main_v37 : Ref sig .tc := ⟨.hbm, 59, rfl⟩
abbrev main_cst_2 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_3 : Ref sig .tc := ⟨.hbm, 65, rfl⟩
abbrev main_call2_v0 : Ref sig .tc := ⟨.hbm, 66, rfl⟩
abbrev main_call2_v1 : Ref sig .tc := ⟨.hbm, 67, rfl⟩
abbrev main_call2_v2 : Ref sig .tc := ⟨.hbm, 68, rfl⟩
abbrev main_call2_v3 : Ref sig .tc := ⟨.hbm, 69, rfl⟩
abbrev main_v42 : Ref sig .tc := ⟨.hbm, 70, rfl⟩
abbrev main_cst_4 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩

abbrev nD : Nat := 1
abbrev τ : Topo := Topo.v7x

variable {F : FTy → Type} [FloatOps F]
-- ==== Proof.Ideal.Base.lean ====
/- What the runs of the kernel's body share: the body's conditions and offsets in closed form over the grid's
   points, the scratch and the two hand-driven rings of transfers (the rows of `u` and the blocks of the transposed
   `v`), with what the launch hands each ring and takes back. -/
module

public import proofs.«01_k».proof.Proof.Gen.KernelIdeal.Frame
public import proofs.«01_k».proof.Proof.Gen.KernelIdeal.Skeleton

@[expose] public section

set_option maxRecDepth 16384

noncomputable section

namespace Cert.KernelIdeal.Pd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-! ## The launch kit over the resources of a body with transfers of its own -/

set_option maxHeartbeats 800000 in
theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

theorem beforeD0 {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem beforeD1 {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem beforeD2 {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem beforeD3 {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem beforeD4 {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem beforeD5 {c : Dev nD} (dat : Dat τ (Elt F) Unit ℕ (Pipeline.UD sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

theorem beforeD6 {c : Dev nD} (dat : Dat τ (Elt F) Unit ℕ (Pipeline.UD sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

theorem beforeD7 {c : Dev nD} (dat : Dat τ (Elt F) Unit ℕ (Pipeline.UD sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

theorem beforeD8 {c : Dev nD} (dat : Dat τ (Elt F) Unit ℕ (Pipeline.UD sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

theorem frame_ofD (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).1 0).trans (((dats 0 c).arrAt_in 0 rfl _).trans ((hA c 0).trans (V_main_arg0 m c))),
      ((h c).1 5).trans (((dats 0 c).arrAt_in 5 rfl _).trans ((hA c 5).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 1).trans (((dats 0 c).arrAt_in 1 rfl _).trans ((hA c 1).trans (V_main_arg4 m c))),
      ((h c).1 2).trans (((dats 0 c).arrAt_in 2 rfl _).trans ((hA c 2).trans (V_main_arg5 m c))),
      ((h c).1 3).trans (((dats 0 c).arrAt_in 3 rfl _).trans ((hA c 3).trans (V_main_arg6 m c))),
      ((h c).1 4).trans (((dats 0 c).arrAt_in 4 rfl _).trans ((hA c 4).trans (V_main_arg7 m c))),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩) h

/-! ## The body's conditions -/

/-- The step of the `u` ring, and of the `v` ring, that a point's block is. -/
def ku (n : ℕ) : ℕ := 8 * (n / 9) + n % 9
def kv (n : ℕ) : ℕ := 8 * (n / 9) + (n % 9 - 1)

theorem hcond1 : ∀ t : Fin grid0.N, k0_cond1 (grid0.coords t) = 1#1 ↔ t.val = 0 := by decide +kernel
theorem hcond2 : ∀ t : Fin grid0.N, k0_cond2 (grid0.coords t) = 1#1 ↔ t.val % 9 < 8 := by decide +kernel
theorem hcond3 : ∀ t : Fin grid0.N, k0_cond3 (grid0.coords t) = 1#1 ↔ ku t.val + 2 < 512 := by decide +kernel
theorem hcond4 : ∀ t : Fin grid0.N, k0_cond4 (grid0.coords t) = 1#1 ↔ 1 ≤ t.val % 9 := by decide +kernel
theorem hcond5 : ∀ t : Fin grid0.N, 1 ≤ t.val % 9 → (k0_cond5 (grid0.coords t) = 1#1 ↔ kv t.val + 2 < 512) := by decide +kernel
theorem hcond6 : ∀ t : Fin grid0.N, k0_cond6 (grid0.coords t) = 1#1 ↔ t.val % 9 = 0 := by decide +kernel
theorem hcond7 : ∀ t : Fin grid0.N, k0_cond7 (grid0.coords t) = 1#1 ↔ 1 ≤ t.val % 9 ∧ t.val % 9 < 8 := by decide +kernel
theorem hcond8 : ∀ t : Fin grid0.N, k0_cond8 (grid0.coords t) = 1#1 ↔ t.val % 9 = 8 := by decide +kernel
theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem live3 : ∀ t : Fin cfg0.N, cfg0.idle 3 (grid0.coords t) = false := fun _ => rfl
theorem live4 : ∀ t : Fin cfg0.N, cfg0.idle 4 (grid0.coords t) = false := fun _ => rfl
theorem live5 : ∀ t : Fin cfg0.N, cfg0.idle 5 (grid0.coords t) = false := fun _ => rfl
theorem live6 : ∀ t : Fin cfg0.N, cfg0.idle 6 (grid0.coords t) = false := fun _ => rfl
theorem live7 : ∀ t : Fin cfg0.N, cfg0.idle 7 (grid0.coords t) = false := fun _ => rfl
theorem live8 : ∀ t : Fin cfg0.N, cfg0.idle 8 (grid0.coords t) = false := fun _ => rfl
theorem idle9 (t : Fin cfg0.N) : cfg0.idle 9 (grid0.coords t) = !(k0_cond8 (grid0.coords t) == 1#1) := rfl
abbrev ms0 (t : Fin cfg0.N) : Memref sig .tc .vmem S512x1024 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S8x128x512 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S8x128x512 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S8x128x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S8x128x512 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S512x1024 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x1x1024 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x1x1024 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x1024 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S512x1024 .f32 := win0_9.stage (cfg0.slots t 9)
abbrev hs9 (t : Fin cfg0.N) : (ms9 t).IsWhole := hstage0_9 ((cfg0.slots t 9).cast nbuf0_9)
/-- The scratch: the sum over the experts so far, the weighted activations of two blocks of experts, the two rings. -/
abbrev accM : Memref sig .tc .vmem S1024x512 .f32 := Memref.whole cc0_scratch0
abbrev actM : Memref sig .tc .vmem S2x2048x512 .bf16 := Memref.whole cc0_scratch1
abbrev bufU : Memref sig .tc .vmem S3x2048x1024 .bf16 := Memref.whole cc0_scratch2
abbrev bufV : Memref sig .tc .vmem S3x1024x2048 .bf16 := Memref.whole cc0_scratch3
/-- The tables left in HBM. -/
abbrev tabU : Memref sig .tc .hbm S16384x1024 .bf16 := Memref.whole main_v12
abbrev tabV : Memref sig .tc .hbm S8x1024x2048 .bf16 := Memref.whole main_v11
abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f

abbrev osem0 : Fin 6 → SemLoc sig := fun j => (![SemLoc.dma 19, SemLoc.dma 20, SemLoc.dma 21, SemLoc.dma 22, SemLoc.dma 23, SemLoc.dma 24] : Fin 6 → SemLoc sig) j
theorem ownSemFacts0 : Pipeline.OwnSemFacts spec0 osem0 := by decide
abbrev zs (c : Dev nD) (k : SemLoc sig) : sProp 𝕄 := semVal ((c : Thread nD τ), k) 0
theorem ownSems00_eq (c : Dev nD) :
    (Pipeline.ownSems0 (Ix := Unit) (Name := ℕ) (U := Pipeline.UD sig nD τ) (Lvl := ℕ) (Val := Elt F) (τ := τ) osem0 c : sProp 𝕄)
      = iprop(zs c (SemLoc.dma 19) ∗ zs c (SemLoc.dma 20) ∗ zs c (SemLoc.dma 21) ∗ zs c (SemLoc.dma 22) ∗ zs c (SemLoc.dma 23) ∗ zs c (SemLoc.dma 24)) := by
  rw [Pipeline.ownSems0_eq_of_list c osem0 [0, 1, 2, 3, 4, 5] (by decide) (by decide)]; rfl
def H0 : Finset (Ref sig .tc) := {main_v12, main_v11}
theorem H0_sub : H0 ⊆ Pipeline.restRefs sig spec0 := by decide
theorem hbmPts0_eq (c : Dev nD) :
    (bigSep H0 (fun b => ((c : Thread nD τ).loc b) ↦{fullShare} V m c b) : sProp 𝕄) = iprop(hbPt c tabU (V m c main_v12) ∗ hbPt c tabV (V m c main_v11)) := by
  rw [BI.bigSep_eq_bigSepL_of_eq [main_v12, main_v11] (by decide) (by decide)]; rfl

/-- What the launch hands the body's invariant: the scratch, the generator register, the cells at zero, the tables. -/
theorem PhiD0_eq (c : Dev nD) :
    (Pipeline.ΦD osem0 spec0 H0 (V m) c : sProp 𝕄)
      = iprop(iprop((∃ d, owns (c : Thread nD τ) accM fullShare d) ∗ (∃ d, owns (c : Thread nD τ) actM fullShare d) ∗ (∃ d, owns (c : Thread nD τ) bufU fullShare d) ∗ (∃ d, owns (c : Thread nD τ) bufV fullShare d)) ∗ (∃ r, prngReg c r)
        ∗ iprop(zs c (SemLoc.dma 19) ∗ zs c (SemLoc.dma 20) ∗ zs c (SemLoc.dma 21) ∗ zs c (SemLoc.dma 22) ∗ zs c (SemLoc.dma 23) ∗ zs c (SemLoc.dma 24))
        ∗ iprop(hbPt c tabU (V m c main_v12) ∗ hbPt c tabV (V m c main_v11))) := by
  rw [Pipeline.ΦD_eq, scopedRest0_eq, ownSems00_eq, hbmPts0_eq]; simp only [accM, actM, bufU, bufV, owns_whole]; try rfl

/-! ## The ring of `main_v12` -/

theorem inb_slotU (s : Fin 3) : ∀ a, (![s.val, 0, 0] : Fin 3 → Nat) a + S1x2048x1024.size a ≤ S3x2048x1024.size a := by
  have := s.isLt; intro a; fin_cases a <;> simp <;> omega
theorem inb_srcU (b : Fin 512) : ∀ a, (![2048 * (b.val % 8), 0] : Fin 2 → Nat) a + S2048x1024.size a ≤ S16384x1024.size a := by
  have := b.isLt; intro a; fin_cases a <;> simp <;> omega
theorem inb_cellU (s : Fin 3) : ∀ a, (![s.val] : Fin 1 → Nat) a + S1.size a ≤ S3.size a := by
  have := s.isLt; intro a; fin_cases a <;> simp <;> omega
/-- Slot `s`, block `b` of the table, cell `s`. -/
def rslotU (s : Fin 3) : Memref sig .tc .vmem S2048x1024 .bf16 :=
  (bufU.slice (Rect.unit (s := S3x2048x1024) ![s.val, 0, 0] S1x2048x1024.size (inb_slotU s)) (fun _ => rfl)).squeeze S2048x1024 squeezes_S1x2048x1024_S2048x1024
def srcU (b : Fin 512) : Memref sig .tc .hbm S2048x1024 .bf16 :=
  tabU.slice (Rect.unit (s := S16384x1024) ![2048 * (b.val % 8), 0] S2048x1024.size (inb_srcU b)) (fun _ => rfl)
def cellAU (s : Fin 3) : DmaSems sig S_ := (cc0_scratch4.slice (Rect.unit (s := S3) ![s.val] S1.size (inb_cellU s))).squeeze S_ squeezes_S1_S_
abbrev cellRU (s : Fin 3) : SemLoc sig := SemLoc.dma (cellAU s).sem
theorem cellRU_0 : cellRU 0 = SemLoc.dma 19 := by decide
theorem cellRU_1 : cellRU 1 = SemLoc.dma 20 := by decide
theorem cellRU_2 : cellRU 2 = SemLoc.dma 21 := by decide

section RingU
variable (c : Dev nD) (W : HbBuf (F := F) c tabU)
/-- The table is lent by share, one read-share copy per slot. -/
abbrev qsU (s : Fin 3) : PosShare TreeShare := if s.val = 0 then fullShare.left else if s.val = 1 then fullShare.right.left else fullShare.right.right
abbrev slotPU (s : Fin 3) (f : HbBuf (F := F) c (rslotU s)) : sProp 𝕄 := (rslotU s).view.loc (c : Thread nD τ) ↦[(rslotU s).view.set]{fullShare} f
abbrev cellPU (s : Fin 3) : sProp 𝕄 := semVal ((c : Thread nD τ), cellRU s) 0
abbrev srcPU (s : Fin 3) (b : Fin 512) : sProp 𝕄 := (srcU b).view.loc (c : Thread nD τ) ↦[(srcU b).view.set]{qsU s} W
def restPU (s : Fin 3) (b : Fin 512) : sProp 𝕄 := ((c : Thread nD τ).loc main_v12) ↦[Finset.univ \ (srcU b).view.set]{qsU s} W
abbrev wholePU (s : Fin 3) : sProp 𝕄 := ((c : Thread nD τ).loc main_v12) ↦[Finset.univ]{qsU s} W
abbrev landedU (s : Fin 3) (b : Fin 512) (f : HbBuf (F := F) c (rslotU s)) : HbBuf (F := F) c (rslotU s) :=
  (rslotU s).view.writes (Elt F) f [⟨Rect.whole S2048x1024, ReadAs.same.apply ((srcU b).view.read (Elt F) W)⟩]
abbrev flightPU (s : Fin 3) (b : Fin 512) (f : HbBuf (F := F) c (rslotU s)) : sProp 𝕄 :=
  Transfers.Flight countersEmb (c : Thread nD τ) (cellRU s) default ((rslotU s).view.amount (cellRU s))
    iprop(slotPU c s (landedU c W s b f) ∗ srcPU c W s b)
abbrev slotWU (s : Fin 3) (f : HbBuf (F := F) c (rslotU s)) : sProp 𝕄 := iprop(slotPU c s f ∗ wholePU c W s)
abbrev flightWU (s : Fin 3) (b : Fin 512) (f : HbBuf (F := F) c (rslotU s)) : sProp 𝕄 := iprop(flightPU c W s b f ∗ restPU c W s b)
/-- Slot `s` free, and block `b` on its way into slot `s`. -/
abbrev freeU (s : Fin 3) : sProp 𝕄 := Ring.free (cellPU c) (slotWU c W) s
abbrev inflU (s : Fin 3) (b : Fin 512) : sProp 𝕄 := Ring.inflight (flightWU c W) s b
/-- Block `k` on its way while there is one, else its slot free. -/
def flU (k : ℕ) : sProp 𝕄 := if k < 512 then inflU c W (Ring.sl 3 k) (Ring.bk 512 k) else freeU c W (Ring.sl 3 k)
/-- The ring before its step `k`. -/
def ringU (k : ℕ) : sProp 𝕄 := iprop(flU c W k ∗ flU c W (k + 1) ∗ freeU c W (Ring.sl 3 (k + 2)))
/-- The ring before anything was started. -/
def ringU₀ : sProp 𝕄 := iprop(freeU c W (Ring.sl 3 0) ∗ freeU c W (Ring.sl 3 1) ∗ freeU c W (Ring.sl 3 2))
theorem flU_lt {k : ℕ} (h : k < 512) : flU (F := F) c W k = inflU c W (Ring.sl 3 k) (Ring.bk 512 k) := if_pos h
theorem flU_ge {k : ℕ} (h : ¬ k < 512) : flU (F := F) c W k = freeU c W (Ring.sl 3 k) := if_neg h
omit [FloatOps F] [Named F] in
theorem cellPU_0 : cellPU (F := F) c 0 = semVal ((c : Thread nD τ), SemLoc.dma 19) 0 := congrArg (fun x => (semVal ((c : Thread nD τ), x) 0 : sProp 𝕄)) cellRU_0
omit [FloatOps F] [Named F] in
theorem cellPU_1 : cellPU (F := F) c 1 = semVal ((c : Thread nD τ), SemLoc.dma 20) 0 := congrArg (fun x => (semVal ((c : Thread nD τ), x) 0 : sProp 𝕄)) cellRU_1
omit [FloatOps F] [Named F] in
theorem cellPU_2 : cellPU (F := F) c 2 = semVal ((c : Thread nD τ), SemLoc.dma 21) 0 := congrArg (fun x => (semVal ((c : Thread nD τ), x) 0 : sProp 𝕄)) cellRU_2
end RingU

abbrev slotSetU (s : Fin 3) : Finset S3x2048x1024.Idx := (Rect.unit (s := S3x2048x1024) ![s.val, 0, 0] S1x2048x1024.size (inb_slotU s)).set
theorem slotSetU_eq (s : Fin 3) : (rslotU s).view.set = slotSetU s := by
  simp only [rslotU, Memref.view_squeeze, View.set_reshape]; exact View.set_slice_whole _ _
theorem slotsU_disjoint (s s' : Fin 3) (h : s ≠ s') : Disjoint (slotSetU s) (slotSetU s') :=
  Ring.lead_disjoint (s := S3x2048x1024) (0 : Fin 3) 1 (fun s : Fin 3 => (![s.val, 0, 0] : Fin 3 → Nat)) S1x2048x1024.size inb_slotU (fun s => by simp) rfl s s' h
theorem slotsU_cover : Finset.univ.biUnion slotSetU = Finset.univ :=
  Ring.lead_cover (s := S3x2048x1024) (0 : Fin 3) 1 (fun s : Fin 3 => (![s.val, 0, 0] : Fin 3 → Nat)) S1x2048x1024.size inb_slotU (fun s => by simp)
    (fun s a ha => by fin_cases a <;> first | exact absurd rfl ha | rfl) rfl (fun a ha => by fin_cases a <;> first | exact absurd rfl ha | rfl) rfl

section InOutU
variable (c : Dev nD) (W : HbBuf (F := F) c tabU)
theorem slotPU_eq (s : Fin 3) (f) : slotPU (F := F) c s f = (((c : Thread nD τ).loc cc0_scratch2) ↦[slotSetU s]{fullShare} f : sProp 𝕄) := by
  unfold slotPU; rw [slotSetU_eq]; rfl
theorem srcU_split (s : Fin 3) (b : Fin 512) : wholePU (F := F) c W s ⊣⊢ iprop(srcPU c W s b ∗ restPU c W s b) := by
  unfold restPU; exact pointsTo_split_subset (Finset.subset_univ _)
theorem wholeU_split : (hbPt c tabU W : sProp 𝕄) ⊣⊢ iprop(wholePU c W 0 ∗ wholePU c W 1 ∗ wholePU c W 2) := by
  refine ⟨?_, ?_⟩
  · iintro H
    ihave H' := (pointsTo_share (PosShare.mem_left_op_right fullShare)).1 $$ H
    icases H' with ⟨H0, H12⟩
    ihave H'' := (pointsTo_share (PosShare.mem_left_op_right fullShare.right)).1 $$ H12
    icases H'' with ⟨H1, H2⟩
    isplitl [H0]; · iexact H0
    isplitl [H1]; · iexact H1
    iexact H2
  · iintro ⟨H0, H1, H2⟩
    iapply (pointsTo_share (PosShare.mem_left_op_right fullShare)).2
    isplitl [H0]; · iexact H0
    iapply (pointsTo_share (PosShare.mem_left_op_right fullShare.right)).2
    isplitl [H1]; · iexact H1
    iexact H2
set_option maxHeartbeats 1000000 in
theorem slotsU_in : iprop(∃ d, owns (c : Thread nD τ) bufU fullShare d) ⊢ (iprop((∃ f, slotPU (F := F) c 0 f) ∗ (∃ f, slotPU (F := F) c 1 f) ∗ ∃ f, slotPU (F := F) c 2 f) : sProp 𝕄) := by
  simp only [bufU, owns_whole]
  exact Ring.slots3_split (U := Pipeline.UD sig nD τ) (ℓ := (c : Thread nD τ).loc cc0_scratch2) (q := fullShare) slotSetU slotsU_disjoint slotsU_cover
    (slotPU c 0) (slotPU c 1) (slotPU c 2) (slotPU_eq c 0) (slotPU_eq c 1) (slotPU_eq c 2)
set_option maxHeartbeats 1000000 in
theorem slotsU_out : (iprop((∃ f, slotPU (F := F) c 0 f) ∗ (∃ f, slotPU (F := F) c 1 f) ∗ ∃ f, slotPU (F := F) c 2 f) : sProp 𝕄) ⊢ iprop(∃ d, owns (c : Thread nD τ) bufU fullShare d) := by
  simp only [bufU, owns_whole]
  exact Ring.slots3_join (U := Pipeline.UD sig nD τ) (ℓ := (c : Thread nD τ).loc cc0_scratch2) (q := fullShare) slotSetU slotsU_disjoint slotsU_cover
    (slotPU c 0) (slotPU c 1) (slotPU c 2) (slotPU_eq c 0) (slotPU_eq c 1) (slotPU_eq c 2)

theorem ringU_in :
    iprop((∃ d, owns (c : Thread nD τ) bufU fullShare d) ∗ (zs c (SemLoc.dma 19) ∗ zs c (SemLoc.dma 20) ∗ zs c (SemLoc.dma 21)) ∗ hbPt c tabU W)
      ⊢ (ringU₀ c W : sProp 𝕄) := by
  unfold ringU₀
  rw [show Ring.sl 3 0 = (0 : Fin 3) from rfl, show Ring.sl 3 1 = (1 : Fin 3) from rfl, show Ring.sl 3 2 = (2 : Fin 3) from rfl]
  simp only [freeU, Ring.free, cellPU_0, cellPU_1, cellPU_2]
  iintro ⟨HS, Hc, HW⟩
  icases Hc with ⟨H0, H1, H2⟩
  ihave HS' := (slotsU_in (F := F) c) $$ HS
  icases HS' with ⟨⟨%d0, HS0⟩, ⟨%d1, HS1⟩, ⟨%d2, HS2⟩⟩
  ihave HW' := (wholeU_split (F := F) c W).1 $$ HW
  icases HW' with ⟨HW0, HW1, HW2⟩
  isplitl [H0 HS0 HW0]
  · isplitl [H0]; · iexact H0
    iexists d0; isplitl [HS0]; · iexact HS0
    iexact HW0
  isplitl [H1 HS1 HW1]
  · isplitl [H1]; · iexact H1
    iexists d1; isplitl [HS1]; · iexact HS1
    iexact HW1
  · isplitl [H2]; · iexact H2
    iexists d2; isplitl [HS2]; · iexact HS2
    iexact HW2
theorem ringU_out :
    (ringU c W 512 : sProp 𝕄)
      ⊢ iprop((∃ d, owns (c : Thread nD τ) bufU fullShare d) ∗ (zs c (SemLoc.dma 19) ∗ zs c (SemLoc.dma 20) ∗ zs c (SemLoc.dma 21)) ∗ hbPt c tabU W) := by
  unfold ringU
  rw [flU_ge c W (by decide), flU_ge c W (by decide), show Ring.sl 3 512 = (2 : Fin 3) from rfl, show Ring.sl 3 (512 + 1) = (0 : Fin 3) from rfl, show Ring.sl 3 (512 + 2) = (1 : Fin 3) from rfl]
  simp only [freeU, Ring.free, cellPU_0, cellPU_1, cellPU_2]
  iintro ⟨⟨H2, ⟨%f2, HS2, HW2⟩⟩, ⟨H0, ⟨%f0, HS0, HW0⟩⟩, ⟨H1, ⟨%f1, HS1, HW1⟩⟩⟩
  isplitl [HS0 HS1 HS2]
  · iapply (slotsU_out (F := F) c); isplitl [HS0]; · iexists f0; iexact HS0
    isplitl [HS1]; · iexists f1; iexact HS1
    iexists f2; iexact HS2
  isplitl [H0 H1 H2]
  · isplitl [H0]; · iexact H0
    isplitl [H1]; · iexact H1
    iexact H2
  · iapply (wholeU_split (F := F) c W).2; isplitl [HW0]; · iexact HW0
    isplitl [HW1]; · iexact HW1
    iexact HW2
end InOutU

/-! ## The ring of `main_v11` -/

theorem inb_slotV (s : Fin 3) : ∀ a, (![s.val, 0, 0] : Fin 3 → Nat) a + S1x1024x2048.size a ≤ S3x1024x2048.size a := by
  have := s.isLt; intro a; fin_cases a <;> simp <;> omega
theorem inb_srcV (b : Fin 512) : ∀ a, (![b.val % 8, 0, 0] : Fin 3 → Nat) a + S1x1024x2048.size a ≤ S8x1024x2048.size a := by
  have := b.isLt; intro a; fin_cases a <;> simp <;> omega
theorem inb_cellV (s : Fin 3) : ∀ a, (![s.val] : Fin 1 → Nat) a + S1.size a ≤ S3.size a := by
  have := s.isLt; intro a; fin_cases a <;> simp <;> omega
/-- Slot `s`, block `b` of the table, cell `s`. -/
def rslotV (s : Fin 3) : Memref sig .tc .vmem S1024x2048 .bf16 :=
  (bufV.slice (Rect.unit (s := S3x1024x2048) ![s.val, 0, 0] S1x1024x2048.size (inb_slotV s)) (fun _ => rfl)).squeeze S1024x2048 squeezes_S1x1024x2048_S1024x2048
def srcV (b : Fin 512) : Memref sig .tc .hbm S1024x2048 .bf16 :=
  (tabV.slice (Rect.unit (s := S8x1024x2048) ![b.val % 8, 0, 0] S1x1024x2048.size (inb_srcV b)) (fun _ => rfl)).squeeze S1024x2048 squeezes_S1x1024x2048_S1024x2048
def cellAV (s : Fin 3) : DmaSems sig S_ := (cc0_scratch5.slice (Rect.unit (s := S3) ![s.val] S1.size (inb_cellV s))).squeeze S_ squeezes_S1_S_
abbrev cellRV (s : Fin 3) : SemLoc sig := SemLoc.dma (cellAV s).sem
theorem cellRV_0 : cellRV 0 = SemLoc.dma 22 := by decide
theorem cellRV_1 : cellRV 1 = SemLoc.dma 23 := by decide
theorem cellRV_2 : cellRV 2 = SemLoc.dma 24 := by decide

section RingV
variable (c : Dev nD) (W : HbBuf (F := F) c tabV)
/-- The table is lent by share, one read-share copy per slot. -/
abbrev qsV (s : Fin 3) : PosShare TreeShare := if s.val = 0 then fullShare.left else if s.val = 1 then fullShare.right.left else fullShare.right.right
abbrev slotPV (s : Fin 3) (f : HbBuf (F := F) c (rslotV s)) : sProp 𝕄 := (rslotV s).view.loc (c : Thread nD τ) ↦[(rslotV s).view.set]{fullShare} f
abbrev cellPV (s : Fin 3) : sProp 𝕄 := semVal ((c : Thread nD τ), cellRV s) 0
abbrev srcPV (s : Fin 3) (b : Fin 512) : sProp 𝕄 := (srcV b).view.loc (c : Thread nD τ) ↦[(srcV b).view.set]{qsV s} W
def restPV (s : Fin 3) (b : Fin 512) : sProp 𝕄 := ((c : Thread nD τ).loc main_v11) ↦[Finset.univ \ (srcV b).view.set]{qsV s} W
abbrev wholePV (s : Fin 3) : sProp 𝕄 := ((c : Thread nD τ).loc main_v11) ↦[Finset.univ]{qsV s} W
abbrev landedV (s : Fin 3) (b : Fin 512) (f : HbBuf (F := F) c (rslotV s)) : HbBuf (F := F) c (rslotV s) :=
  (rslotV s).view.writes (Elt F) f [⟨Rect.whole S1024x2048, ReadAs.same.apply ((srcV b).view.read (Elt F) W)⟩]
abbrev flightPV (s : Fin 3) (b : Fin 512) (f : HbBuf (F := F) c (rslotV s)) : sProp 𝕄 :=
  Transfers.Flight countersEmb (c : Thread nD τ) (cellRV s) default ((rslotV s).view.amount (cellRV s))
    iprop(slotPV c s (landedV c W s b f) ∗ srcPV c W s b)
abbrev slotWV (s : Fin 3) (f : HbBuf (F := F) c (rslotV s)) : sProp 𝕄 := iprop(slotPV c s f ∗ wholePV c W s)
abbrev flightWV (s : Fin 3) (b : Fin 512) (f : HbBuf (F := F) c (rslotV s)) : sProp 𝕄 := iprop(flightPV c W s b f ∗ restPV c W s b)
/-- Slot `s` free, and block `b` on its way into slot `s`. -/
abbrev freeV (s : Fin 3) : sProp 𝕄 := Ring.free (cellPV c) (slotWV c W) s
abbrev inflV (s : Fin 3) (b : Fin 512) : sProp 𝕄 := Ring.inflight (flightWV c W) s b
/-- Block `k` on its way while there is one, else its slot free. -/
def flV (k : ℕ) : sProp 𝕄 := if k < 512 then inflV c W (Ring.sl 3 k) (Ring.bk 512 k) else freeV c W (Ring.sl 3 k)
/-- The ring before its step `k`. -/
def ringV (k : ℕ) : sProp 𝕄 := iprop(flV c W k ∗ flV c W (k + 1) ∗ freeV c W (Ring.sl 3 (k + 2)))
/-- The ring before anything was started. -/
def ringV₀ : sProp 𝕄 := iprop(freeV c W (Ring.sl 3 0) ∗ freeV c W (Ring.sl 3 1) ∗ freeV c W (Ring.sl 3 2))
theorem flV_lt {k : ℕ} (h : k < 512) : flV (F := F) c W k = inflV c W (Ring.sl 3 k) (Ring.bk 512 k) := if_pos h
theorem flV_ge {k : ℕ} (h : ¬ k < 512) : flV (F := F) c W k = freeV c W (Ring.sl 3 k) := if_neg h
omit [FloatOps F] [Named F] in
theorem cellPV_0 : cellPV (F := F) c 0 = semVal ((c : Thread nD τ), SemLoc.dma 22) 0 := congrArg (fun x => (semVal ((c : Thread nD τ), x) 0 : sProp 𝕄)) cellRV_0
omit [FloatOps F] [Named F] in
theorem cellPV_1 : cellPV (F := F) c 1 = semVal ((c : Thread nD τ), SemLoc.dma 23) 0 := congrArg (fun x => (semVal ((c : Thread nD τ), x) 0 : sProp 𝕄)) cellRV_1
omit [FloatOps F] [Named F] in
theorem cellPV_2 : cellPV (F := F) c 2 = semVal ((c : Thread nD τ), SemLoc.dma 24) 0 := congrArg (fun x => (semVal ((c : Thread nD τ), x) 0 : sProp 𝕄)) cellRV_2
end RingV

abbrev slotSetV (s : Fin 3) : Finset S3x1024x2048.Idx := (Rect.unit (s := S3x1024x2048) ![s.val, 0, 0] S1x1024x2048.size (inb_slotV s)).set
theorem slotSetV_eq (s : Fin 3) : (rslotV s).view.set = slotSetV s := by
  simp only [rslotV, Memref.view_squeeze, View.set_reshape]; exact View.set_slice_whole _ _
theorem slotsV_disjoint (s s' : Fin 3) (h : s ≠ s') : Disjoint (slotSetV s) (slotSetV s') :=
  Ring.lead_disjoint (s := S3x1024x2048) (0 : Fin 3) 1 (fun s : Fin 3 => (![s.val, 0, 0] : Fin 3 → Nat)) S1x1024x2048.size inb_slotV (fun s => by simp) rfl s s' h
theorem slotsV_cover : Finset.univ.biUnion slotSetV = Finset.univ :=
  Ring.lead_cover (s := S3x1024x2048) (0 : Fin 3) 1 (fun s : Fin 3 => (![s.val, 0, 0] : Fin 3 → Nat)) S1x1024x2048.size inb_slotV (fun s => by simp)
    (fun s a ha => by fin_cases a <;> first | exact absurd rfl ha | rfl) rfl (fun a ha => by fin_cases a <;> first | exact absurd rfl ha | rfl) rfl

section InOutV
variable (c : Dev nD) (W : HbBuf (F := F) c tabV)
theorem slotPV_eq (s : Fin 3) (f) : slotPV (F := F) c s f = (((c : Thread nD τ).loc cc0_scratch3) ↦[slotSetV s]{fullShare} f : sProp 𝕄) := by
  unfold slotPV; rw [slotSetV_eq]; rfl
theorem srcV_split (s : Fin 3) (b : Fin 512) : wholePV (F := F) c W s ⊣⊢ iprop(srcPV c W s b ∗ restPV c W s b) := by
  unfold restPV; exact pointsTo_split_subset (Finset.subset_univ _)
theorem wholeV_split : (hbPt c tabV W : sProp 𝕄) ⊣⊢ iprop(wholePV c W 0 ∗ wholePV c W 1 ∗ wholePV c W 2) := by
  refine ⟨?_, ?_⟩
  · iintro H
    ihave H' := (pointsTo_share (PosShare.mem_left_op_right fullShare)).1 $$ H
    icases H' with ⟨H0, H12⟩
    ihave H'' := (pointsTo_share (PosShare.mem_left_op_right fullShare.right)).1 $$ H12
    icases H'' with ⟨H1, H2⟩
    isplitl [H0]; · iexact H0
    isplitl [H1]; · iexact H1
    iexact H2
  · iintro ⟨H0, H1, H2⟩
    iapply (pointsTo_share (PosShare.mem_left_op_right fullShare)).2
    isplitl [H0]; · iexact H0
    iapply (pointsTo_share (PosShare.mem_left_op_right fullShare.right)).2
    isplitl [H1]; · iexact H1
    iexact H2
set_option maxHeartbeats 1000000 in
theorem slotsV_in : iprop(∃ d, owns (c : Thread nD τ) bufV fullShare d) ⊢ (iprop((∃ f, slotPV (F := F) c 0 f) ∗ (∃ f, slotPV (F := F) c 1 f) ∗ ∃ f, slotPV (F := F) c 2 f) : sProp 𝕄) := by
  simp only [bufV, owns_whole]
  exact Ring.slots3_split (U := Pipeline.UD sig nD τ) (ℓ := (c : Thread nD τ).loc cc0_scratch3) (q := fullShare) slotSetV slotsV_disjoint slotsV_cover
    (slotPV c 0) (slotPV c 1) (slotPV c 2) (slotPV_eq c 0) (slotPV_eq c 1) (slotPV_eq c 2)
set_option maxHeartbeats 1000000 in
theorem slotsV_out : (iprop((∃ f, slotPV (F := F) c 0 f) ∗ (∃ f, slotPV (F := F) c 1 f) ∗ ∃ f, slotPV (F := F) c 2 f) : sProp 𝕄) ⊢ iprop(∃ d, owns (c : Thread nD τ) bufV fullShare d) := by
  simp only [bufV, owns_whole]
  exact Ring.slots3_join (U := Pipeline.UD sig nD τ) (ℓ := (c : Thread nD τ).loc cc0_scratch3) (q := fullShare) slotSetV slotsV_disjoint slotsV_cover
    (slotPV c 0) (slotPV c 1) (slotPV c 2) (slotPV_eq c 0) (slotPV_eq c 1) (slotPV_eq c 2)

theorem ringV_in :
    iprop((∃ d, owns (c : Thread nD τ) bufV fullShare d) ∗ (zs c (SemLoc.dma 22) ∗ zs c (SemLoc.dma 23) ∗ zs c (SemLoc.dma 24)) ∗ hbPt c tabV W)
      ⊢ (ringV₀ c W : sProp 𝕄) := by
  unfold ringV₀
  rw [show Ring.sl 3 0 = (0 : Fin 3) from rfl, show Ring.sl 3 1 = (1 : Fin 3) from rfl, show Ring.sl 3 2 = (2 : Fin 3) from rfl]
  simp only [freeV, Ring.free, cellPV_0, cellPV_1, cellPV_2]
  iintro ⟨HS, Hc, HW⟩
  icases Hc with ⟨H0, H1, H2⟩
  ihave HS' := (slotsV_in (F := F) c) $$ HS
  icases HS' with ⟨⟨%d0, HS0⟩, ⟨%d1, HS1⟩, ⟨%d2, HS2⟩⟩
  ihave HW' := (wholeV_split (F := F) c W).1 $$ HW
  icases HW' with ⟨HW0, HW1, HW2⟩
  isplitl [H0 HS0 HW0]
  · isplitl [H0]; · iexact H0
    iexists d0; isplitl [HS0]; · iexact HS0
    iexact HW0
  isplitl [H1 HS1 HW1]
  · isplitl [H1]; · iexact H1
    iexists d1; isplitl [HS1]; · iexact HS1
    iexact HW1
  · isplitl [H2]; · iexact H2
    iexists d2; isplitl [HS2]; · iexact HS2
    iexact HW2
theorem ringV_out :
    (ringV c W 512 : sProp 𝕄)
      ⊢ iprop((∃ d, owns (c : Thread nD τ) bufV fullShare d) ∗ (zs c (SemLoc.dma 22) ∗ zs c (SemLoc.dma 23) ∗ zs c (SemLoc.dma 24)) ∗ hbPt c tabV W) := by
  unfold ringV
  rw [flV_ge c W (by decide), flV_ge c W (by decide), show Ring.sl 3 512 = (2 : Fin 3) from rfl, show Ring.sl 3 (512 + 1) = (0 : Fin 3) from rfl, show Ring.sl 3 (512 + 2) = (1 : Fin 3) from rfl]
  simp only [freeV, Ring.free, cellPV_0, cellPV_1, cellPV_2]
  iintro ⟨⟨H2, ⟨%f2, HS2, HW2⟩⟩, ⟨H0, ⟨%f0, HS0, HW0⟩⟩, ⟨H1, ⟨%f1, HS1, HW1⟩⟩⟩
  isplitl [HS0 HS1 HS2]
  · iapply (slotsV_out (F := F) c); isplitl [HS0]; · iexists f0; iexact HS0
    isplitl [HS1]; · iexists f1; iexact HS1
    iexists f2; iexact HS2
  isplitl [H0 H1 H2]
  · isplitl [H0]; · iexact H0
    isplitl [H1]; · iexact H1
    iexact H2
  · iapply (wholeV_split (F := F) c W).2; isplitl [HW0]; · iexact HW0
    isplitl [HW1]; · iexact HW1
    iexact HW2
end InOutV

/-! ## The body's own names for slots, blocks and cells -/

section Canon
omit [FloatOps F] [Named F]
set_option synthInstance.maxSize 4096 in
theorem coff1 : ∀ t : Fin grid0.N, k0_cond1 (grid0.coords t) = 1#1 → k0_off1 0#32 = ![(Ring.sl 3 (ku t.val)).val] := by decide +kernel
@[sl_canon] theorem canon1 (t : Fin grid0.N) (h1 : k0_cond1 (grid0.coords t) = 1#1) :
    (cc0_scratch4.slice (Rect.unit (s := S3) (k0_off1 0#32) S1.size (k0_off1_inb (grid0.coords t) h1 0))).squeeze S_ squeezes_S1_S_ = cellAU (Ring.sl 3 (ku t.val)) :=
  congrArg (fun A : DmaSems sig S1 => A.squeeze S_ squeezes_S1_S_) (SemArray.slice_unit_congr _ (coff1 t h1) _ _)
set_option synthInstance.maxSize 4096 in
theorem coff2 : ∀ t : Fin grid0.N, k0_cond1 (grid0.coords t) = 1#1 → k0_off2 0#32 = ![(Ring.sl 3 (ku t.val)).val, 0, 0] := by decide +kernel
@[sl_canon] theorem canon2 (t : Fin grid0.N) (h1 : k0_cond1 (grid0.coords t) = 1#1) :
    (bufU.slice (Rect.unit (s := S3x2048x1024) (k0_off2 0#32) S1x2048x1024.size (k0_off2_inb (grid0.coords t) h1 0)) (fun _ => rfl)).squeeze S2048x1024 squeezes_S1x2048x1024_S2048x1024 = rslotU (Ring.sl 3 (ku t.val)) :=
  congrArg (fun M : Memref sig .tc .vmem S1x2048x1024 .bf16 => M.squeeze S2048x1024 squeezes_S1x2048x1024_S2048x1024) (Memref.slice_unit_congr _ (coff2 t h1) _ _ (fun _ => rfl) (fun _ => rfl))
set_option synthInstance.maxSize 4096 in
theorem coff3 : ∀ t : Fin grid0.N, k0_cond1 (grid0.coords t) = 1#1 → k0_off3 0#32 = ![2048 * ((Ring.bk 512 (ku t.val)).val % 8), 0] := by decide +kernel
@[sl_canon] theorem canon3 (t : Fin grid0.N) (h1 : k0_cond1 (grid0.coords t) = 1#1) :
    tabU.slice (Rect.unit (s := S16384x1024) (k0_off3 0#32) S2048x1024.size (k0_off3_inb (grid0.coords t) h1 0)) (fun _ => rfl) = srcU (Ring.bk 512 (ku t.val)) :=
  congrArg (fun M : Memref sig .tc .hbm S2048x1024 .bf16 => M) (Memref.slice_unit_congr _ (coff3 t h1) _ _ (fun _ => rfl) (fun _ => rfl))
set_option synthInstance.maxSize 4096 in
theorem coff4 : ∀ t : Fin grid0.N, k0_cond1 (grid0.coords t) = 1#1 → k0_off1 0#32 = ![(Ring.sl 3 (kv t.val)).val] := by decide +kernel
@[sl_canon] theorem canon4 (t : Fin grid0.N) (h1 : k0_cond1 (grid0.coords t) = 1#1) :
    (cc0_scratch5.slice (Rect.unit (s := S3) (k0_off1 0#32) S1.size (k0_off1_inb (grid0.coords t) h1 0))).squeeze S_ squeezes_S1_S_ = cellAV (Ring.sl 3 (kv t.val)) :=
  congrArg (fun A : DmaSems sig S1 => A.squeeze S_ squeezes_S1_S_) (SemArray.slice_unit_congr _ (coff4 t h1) _ _)
set_option synthInstance.maxSize 4096 in
theorem coff5 : ∀ t : Fin grid0.N, k0_cond1 (grid0.coords t) = 1#1 → k0_off4 0#32 = ![(Ring.sl 3 (kv t.val)).val, 0, 0] := by decide +kernel
@[sl_canon] theorem canon5 (t : Fin grid0.N) (h1 : k0_cond1 (grid0.coords t) = 1#1) :
    (bufV.slice (Rect.unit (s := S3x1024x2048) (k0_off4 0#32) S1x1024x2048.size (k0_off4_inb (grid0.coords t) h1 0)) (fun _ => rfl)).squeeze S1024x2048 squeezes_S1x1024x2048_S1024x2048 = rslotV (Ring.sl 3 (kv t.val)) :=
  congrArg (fun M : Memref sig .tc .vmem S1x1024x2048 .bf16 => M.squeeze S1024x2048 squeezes_S1x1024x2048_S1024x2048) (Memref.slice_unit_congr _ (coff5 t h1) _ _ (fun _ => rfl) (fun _ => rfl))
set_option synthInstance.maxSize 4096 in
theorem coff6 : ∀ t : Fin grid0.N, k0_cond1 (grid0.coords t) = 1#1 → k0_off5 0#32 = ![(Ring.bk 512 (kv t.val)).val % 8, 0, 0] := by decide +kernel
@[sl_canon] theorem canon6 (t : Fin grid0.N) (h1 : k0_cond1 (grid0.coords t) = 1#1) :
    (tabV.slice (Rect.unit (s := S8x1024x2048) (k0_off5 0#32) S1x1024x2048.size (k0_off5_inb (grid0.coords t) h1 0)) (fun _ => rfl)).squeeze S1024x2048 squeezes_S1x1024x2048_S1024x2048 = srcV (Ring.bk 512 (kv t.val)) :=
  congrArg (fun M : Memref sig .tc .hbm S1x1024x2048 .bf16 => M.squeeze S1024x2048 squeezes_S1x1024x2048_S1024x2048) (Memref.slice_unit_congr _ (coff6 t h1) _ _ (fun _ => rfl) (fun _ => rfl))
set_option synthInstance.maxSize 4096 in
theorem coff7 : ∀ t : Fin grid0.N, k0_cond1 (grid0.coords t) = 1#1 → k0_off1 1#32 = ![(Ring.sl 3 (ku t.val + 1)).val] := by decide +kernel
@[sl_canon] theorem canon7 (t : Fin grid0.N) (h1 : k0_cond1 (grid0.coords t) = 1#1) :
    (cc0_scratch4.slice (Rect.unit (s := S3) (k0_off1 1#32) S1.size (k0_off1_inb (grid0.coords t) h1 1))).squeeze S_ squeezes_S1_S_ = cellAU (Ring.sl 3 (ku t.val + 1)) :=
  congrArg (fun A : DmaSems sig S1 => A.squeeze S_ squeezes_S1_S_) (SemArray.slice_unit_congr _ (coff7 t h1) _ _)
set_option synthInstance.maxSize 4096 in
theorem coff8 : ∀ t : Fin grid0.N, k0_cond1 (grid0.coords t) = 1#1 → k0_off2 1#32 = ![(Ring.sl 3 (ku t.val + 1)).val, 0, 0] := by decide +kernel
@[sl_canon] theorem canon8 (t : Fin grid0.N) (h1 : k0_cond1 (grid0.coords t) = 1#1) :
    (bufU.slice (Rect.unit (s := S3x2048x1024) (k0_off2 1#32) S1x2048x1024.size (k0_off2_inb (grid0.coords t) h1 1)) (fun _ => rfl)).squeeze S2048x1024 squeezes_S1x2048x1024_S2048x1024 = rslotU (Ring.sl 3 (ku t.val + 1)) :=
  congrArg (fun M : Memref sig .tc .vmem S1x2048x1024 .bf16 => M.squeeze S2048x1024 squeezes_S1x2048x1024_S2048x1024) (Memref.slice_unit_congr _ (coff8 t h1) _ _ (fun _ => rfl) (fun _ => rfl))
set_option synthInstance.maxSize 4096 in
theorem coff9 : ∀ t : Fin grid0.N, k0_cond1 (grid0.coords t) = 1#1 → k0_off3 1#32 = ![2048 * ((Ring.bk 512 (ku t.val + 1)).val % 8), 0] := by decide +kernel
@[sl_canon] theorem canon9 (t : Fin grid0.N) (h1 : k0_cond1 (grid0.coords t) = 1#1) :
    tabU.slice (Rect.unit (s := S16384x1024) (k0_off3 1#32) S2048x1024.size (k0_off3_inb (grid0.coords t) h1 1)) (fun _ => rfl) = srcU (Ring.bk 512 (ku t.val + 1)) :=
  congrArg (fun M : Memref sig .tc .hbm S2048x1024 .bf16 => M) (Memref.slice_unit_congr _ (coff9 t h1) _ _ (fun _ => rfl) (fun _ => rfl))
set_option synthInstance.maxSize 4096 in
theorem coff10 : ∀ t : Fin grid0.N, k0_cond1 (grid0.coords t) = 1#1 → k0_off1 1#32 = ![(Ring.sl 3 (kv t.val + 1)).val] := by decide +kernel
@[sl_canon] theorem canon10 (t : Fin grid0.N) (h1 : k0_cond1 (grid0.coords t) = 1#1) :
    (cc0_scratch5.slice (Rect.unit (s := S3) (k0_off1 1#32) S1.size (k0_off1_inb (grid0.coords t) h1 1))).squeeze S_ squeezes_S1_S_ = cellAV (Ring.sl 3 (kv t.val + 1)) :=
  congrArg (fun A : DmaSems sig S1 => A.squeeze S_ squeezes_S1_S_) (SemArray.slice_unit_congr _ (coff10 t h1) _ _)
set_option synthInstance.maxSize 4096 in
theorem coff11 : ∀ t : Fin grid0.N, k0_cond1 (grid0.coords t) = 1#1 → k0_off4 1#32 = ![(Ring.sl 3 (kv t.val + 1)).val, 0, 0] := by decide +kernel
@[sl_canon] theorem canon11 (t : Fin grid0.N) (h1 : k0_cond1 (grid0.coords t) = 1#1) :
    (bufV.slice (Rect.unit (s := S3x1024x2048) (k0_off4 1#32) S1x1024x2048.size (k0_off4_inb (grid0.coords t) h1 1)) (fun _ => rfl)).squeeze S1024x2048 squeezes_S1x1024x2048_S1024x2048 = rslotV (Ring.sl 3 (kv t.val + 1)) :=
  congrArg (fun M : Memref sig .tc .vmem S1x1024x2048 .bf16 => M.squeeze S1024x2048 squeezes_S1x1024x2048_S1024x2048) (Memref.slice_unit_congr _ (coff11 t h1) _ _ (fun _ => rfl) (fun _ => rfl))
set_option synthInstance.maxSize 4096 in
theorem coff12 : ∀ t : Fin grid0.N, k0_cond1 (grid0.coords t) = 1#1 → k0_off5 1#32 = ![(Ring.bk 512 (kv t.val + 1)).val % 8, 0, 0] := by decide +kernel
@[sl_canon] theorem canon12 (t : Fin grid0.N) (h1 : k0_cond1 (grid0.coords t) = 1#1) :
    (tabV.slice (Rect.unit (s := S8x1024x2048) (k0_off5 1#32) S1x1024x2048.size (k0_off5_inb (grid0.coords t) h1 1)) (fun _ => rfl)).squeeze S1024x2048 squeezes_S1x1024x2048_S1024x2048 = srcV (Ring.bk 512 (kv t.val + 1)) :=
  congrArg (fun M : Memref sig .tc .hbm S1x1024x2048 .bf16 => M.squeeze S1024x2048 squeezes_S1x1024x2048_S1024x2048) (Memref.slice_unit_congr _ (coff12 t h1) _ _ (fun _ => rfl) (fun _ => rfl))
set_option synthInstance.maxSize 4096 in
theorem coff13 : ∀ t : Fin grid0.N, k0_cond2 (grid0.coords t) = 1#1 → k0_off6 (grid0.coords t) = ![(Ring.sl 3 (ku t.val)).val] := by decide +kernel
@[sl_canon] theorem canon13 (t : Fin grid0.N) (h2 : k0_cond2 (grid0.coords t) = 1#1) :
    (cc0_scratch4.slice (Rect.unit (s := S3) (k0_off6 (grid0.coords t)) S1.size (k0_off6_inb (grid0.coords t) h2 ))).squeeze S_ squeezes_S1_S_ = cellAU (Ring.sl 3 (ku t.val)) :=
  congrArg (fun A : DmaSems sig S1 => A.squeeze S_ squeezes_S1_S_) (SemArray.slice_unit_congr _ (coff13 t h2) _ _)
set_option synthInstance.maxSize 4096 in
theorem coff14 : ∀ t : Fin grid0.N, k0_cond2 (grid0.coords t) = 1#1 → k0_off7 (grid0.coords t) = ![(Ring.sl 3 (ku t.val)).val, 0, 0] := by decide +kernel
@[sl_canon] theorem canon14 (t : Fin grid0.N) (h2 : k0_cond2 (grid0.coords t) = 1#1) :
    (bufU.slice (Rect.unit (s := S3x2048x1024) (k0_off7 (grid0.coords t)) S1x2048x1024.size (k0_off7_inb (grid0.coords t) h2 )) (fun _ => rfl)).squeeze S2048x1024 squeezes_S1x2048x1024_S2048x1024 = rslotU (Ring.sl 3 (ku t.val)) :=
  congrArg (fun M : Memref sig .tc .vmem S1x2048x1024 .bf16 => M.squeeze S2048x1024 squeezes_S1x2048x1024_S2048x1024) (Memref.slice_unit_congr _ (coff14 t h2) _ _ (fun _ => rfl) (fun _ => rfl))
set_option synthInstance.maxSize 4096 in
theorem coff15 : ∀ t : Fin grid0.N, k0_cond2 (grid0.coords t) = 1#1 → k0_off8 (grid0.coords t) = ![2048 * ((Ring.bk 512 (ku t.val)).val % 8), 0] := by decide +kernel
@[sl_canon] theorem canon15 (t : Fin grid0.N) (h2 : k0_cond2 (grid0.coords t) = 1#1) :
    tabU.slice (Rect.unit (s := S16384x1024) (k0_off8 (grid0.coords t)) S2048x1024.size (k0_off8_inb (grid0.coords t) h2 )) (fun _ => rfl) = srcU (Ring.bk 512 (ku t.val)) :=
  congrArg (fun M : Memref sig .tc .hbm S2048x1024 .bf16 => M) (Memref.slice_unit_congr _ (coff15 t h2) _ _ (fun _ => rfl) (fun _ => rfl))
set_option synthInstance.maxSize 4096 in
theorem coff16 : ∀ t : Fin grid0.N, k0_cond2 (grid0.coords t) = 1#1 → k0_cond3 (grid0.coords t) = 1#1 → k0_off9 (grid0.coords t) = ![(Ring.sl 3 (ku t.val + 2)).val] := by decide +kernel
@[sl_canon] theorem canon16 (t : Fin grid0.N) (h2 : k0_cond2 (grid0.coords t) = 1#1) (h3 : k0_cond3 (grid0.coords t) = 1#1) :
    (cc0_scratch4.slice (Rect.unit (s := S3) (k0_off9 (grid0.coords t)) S1.size (k0_off9_inb (grid0.coords t) h2 h3 ))).squeeze S_ squeezes_S1_S_ = cellAU (Ring.sl 3 (ku t.val + 2)) :=
  congrArg (fun A : DmaSems sig S1 => A.squeeze S_ squeezes_S1_S_) (SemArray.slice_unit_congr _ (coff16 t h2 h3) _ _)
set_option synthInstance.maxSize 4096 in
theorem coff17 : ∀ t : Fin grid0.N, k0_cond2 (grid0.coords t) = 1#1 → k0_cond3 (grid0.coords t) = 1#1 → k0_off10 (grid0.coords t) = ![(Ring.sl 3 (ku t.val + 2)).val, 0, 0] := by decide +kernel
@[sl_canon] theorem canon17 (t : Fin grid0.N) (h2 : k0_cond2 (grid0.coords t) = 1#1) (h3 : k0_cond3 (grid0.coords t) = 1#1) :
    (bufU.slice (Rect.unit (s := S3x2048x1024) (k0_off10 (grid0.coords t)) S1x2048x1024.size (k0_off10_inb (grid0.coords t) h2 h3 )) (fun _ => rfl)).squeeze S2048x1024 squeezes_S1x2048x1024_S2048x1024 = rslotU (Ring.sl 3 (ku t.val + 2)) :=
  congrArg (fun M : Memref sig .tc .vmem S1x2048x1024 .bf16 => M.squeeze S2048x1024 squeezes_S1x2048x1024_S2048x1024) (Memref.slice_unit_congr _ (coff17 t h2 h3) _ _ (fun _ => rfl) (fun _ => rfl))
set_option synthInstance.maxSize 4096 in
theorem coff18 : ∀ t : Fin grid0.N, k0_cond2 (grid0.coords t) = 1#1 → k0_cond3 (grid0.coords t) = 1#1 → k0_off11 (grid0.coords t) = ![2048 * ((Ring.bk 512 (ku t.val + 2)).val % 8), 0] := by decide +kernel
@[sl_canon] theorem canon18 (t : Fin grid0.N) (h2 : k0_cond2 (grid0.coords t) = 1#1) (h3 : k0_cond3 (grid0.coords t) = 1#1) :
    tabU.slice (Rect.unit (s := S16384x1024) (k0_off11 (grid0.coords t)) S2048x1024.size (k0_off11_inb (grid0.coords t) h2 h3 )) (fun _ => rfl) = srcU (Ring.bk 512 (ku t.val + 2)) :=
  congrArg (fun M : Memref sig .tc .hbm S2048x1024 .bf16 => M) (Memref.slice_unit_congr _ (coff18 t h2 h3) _ _ (fun _ => rfl) (fun _ => rfl))
set_option synthInstance.maxSize 4096 in
theorem coff19 : ∀ t : Fin grid0.N, k0_cond4 (grid0.coords t) = 1#1 → k0_off12 (grid0.coords t) = ![(Ring.sl 3 (kv t.val)).val] := by decide +kernel
@[sl_canon] theorem canon19 (t : Fin grid0.N) (h4 : k0_cond4 (grid0.coords t) = 1#1) :
    (cc0_scratch5.slice (Rect.unit (s := S3) (k0_off12 (grid0.coords t)) S1.size (k0_off12_inb (grid0.coords t) h4 ))).squeeze S_ squeezes_S1_S_ = cellAV (Ring.sl 3 (kv t.val)) :=
  congrArg (fun A : DmaSems sig S1 => A.squeeze S_ squeezes_S1_S_) (SemArray.slice_unit_congr _ (coff19 t h4) _ _)
set_option synthInstance.maxSize 4096 in
theorem coff20 : ∀ t : Fin grid0.N, k0_cond4 (grid0.coords t) = 1#1 → k0_off13 (grid0.coords t) = ![(Ring.sl 3 (kv t.val)).val, 0, 0] := by decide +kernel
@[sl_canon] theorem canon20 (t : Fin grid0.N) (h4 : k0_cond4 (grid0.coords t) = 1#1) :
    (bufV.slice (Rect.unit (s := S3x1024x2048) (k0_off13 (grid0.coords t)) S1x1024x2048.size (k0_off13_inb (grid0.coords t) h4 )) (fun _ => rfl)).squeeze S1024x2048 squeezes_S1x1024x2048_S1024x2048 = rslotV (Ring.sl 3 (kv t.val)) :=
  congrArg (fun M : Memref sig .tc .vmem S1x1024x2048 .bf16 => M.squeeze S1024x2048 squeezes_S1x1024x2048_S1024x2048) (Memref.slice_unit_congr _ (coff20 t h4) _ _ (fun _ => rfl) (fun _ => rfl))
set_option synthInstance.maxSize 4096 in
theorem coff21 : ∀ t : Fin grid0.N, k0_cond4 (grid0.coords t) = 1#1 → k0_off14 (grid0.coords t) = ![(Ring.bk 512 (kv t.val)).val % 8, 0, 0] := by decide +kernel
@[sl_canon] theorem canon21 (t : Fin grid0.N) (h4 : k0_cond4 (grid0.coords t) = 1#1) :
    (tabV.slice (Rect.unit (s := S8x1024x2048) (k0_off14 (grid0.coords t)) S1x1024x2048.size (k0_off14_inb (grid0.coords t) h4 )) (fun _ => rfl)).squeeze S1024x2048 squeezes_S1x1024x2048_S1024x2048 = srcV (Ring.bk 512 (kv t.val)) :=
  congrArg (fun M : Memref sig .tc .hbm S1x1024x2048 .bf16 => M.squeeze S1024x2048 squeezes_S1x1024x2048_S1024x2048) (Memref.slice_unit_congr _ (coff21 t h4) _ _ (fun _ => rfl) (fun _ => rfl))
set_option synthInstance.maxSize 4096 in
theorem coff22 : ∀ t : Fin grid0.N, k0_cond4 (grid0.coords t) = 1#1 → k0_cond5 (grid0.coords t) = 1#1 → k0_off15 (grid0.coords t) = ![(Ring.sl 3 (kv t.val + 2)).val] := by decide +kernel
@[sl_canon] theorem canon22 (t : Fin grid0.N) (h4 : k0_cond4 (grid0.coords t) = 1#1) (h5 : k0_cond5 (grid0.coords t) = 1#1) :
    (cc0_scratch5.slice (Rect.unit (s := S3) (k0_off15 (grid0.coords t)) S1.size (k0_off15_inb (grid0.coords t) h4 h5 ))).squeeze S_ squeezes_S1_S_ = cellAV (Ring.sl 3 (kv t.val + 2)) :=
  congrArg (fun A : DmaSems sig S1 => A.squeeze S_ squeezes_S1_S_) (SemArray.slice_unit_congr _ (coff22 t h4 h5) _ _)
set_option synthInstance.maxSize 4096 in
theorem coff23 : ∀ t : Fin grid0.N, k0_cond4 (grid0.coords t) = 1#1 → k0_cond5 (grid0.coords t) = 1#1 → k0_off16 (grid0.coords t) = ![(Ring.sl 3 (kv t.val + 2)).val, 0, 0] := by decide +kernel
@[sl_canon] theorem canon23 (t : Fin grid0.N) (h4 : k0_cond4 (grid0.coords t) = 1#1) (h5 : k0_cond5 (grid0.coords t) = 1#1) :
    (bufV.slice (Rect.unit (s := S3x1024x2048) (k0_off16 (grid0.coords t)) S1x1024x2048.size (k0_off16_inb (grid0.coords t) h4 h5 )) (fun _ => rfl)).squeeze S1024x2048 squeezes_S1x1024x2048_S1024x2048 = rslotV (Ring.sl 3 (kv t.val + 2)) :=
  congrArg (fun M : Memref sig .tc .vmem S1x1024x2048 .bf16 => M.squeeze S1024x2048 squeezes_S1x1024x2048_S1024x2048) (Memref.slice_unit_congr _ (coff23 t h4 h5) _ _ (fun _ => rfl) (fun _ => rfl))
set_option synthInstance.maxSize 4096 in
theorem coff24 : ∀ t : Fin grid0.N, k0_cond4 (grid0.coords t) = 1#1 → k0_cond5 (grid0.coords t) = 1#1 → k0_off17 (grid0.coords t) = ![(Ring.bk 512 (kv t.val + 2)).val % 8, 0, 0] := by decide +kernel
@[sl_canon] theorem canon24 (t : Fin grid0.N) (h4 : k0_cond4 (grid0.coords t) = 1#1) (h5 : k0_cond5 (grid0.coords t) = 1#1) :
    (tabV.slice (Rect.unit (s := S8x1024x2048) (k0_off17 (grid0.coords t)) S1x1024x2048.size (k0_off17_inb (grid0.coords t) h4 h5 )) (fun _ => rfl)).squeeze S1024x2048 squeezes_S1x1024x2048_S1024x2048 = srcV (Ring.bk 512 (kv t.val + 2)) :=
  congrArg (fun M : Memref sig .tc .hbm S1x1024x2048 .bf16 => M.squeeze S1024x2048 squeezes_S1x1024x2048_S1024x2048) (Memref.slice_unit_congr _ (coff24 t h4 h5) _ _ (fun _ => rfl) (fun _ => rfl))
set_option synthInstance.maxSize 4096 in
theorem c_k0_off18 : ∀ t : Fin grid0.N, k0_off18 (grid0.coords t) = ![(Ring.sl 3 (ku t.val)).val, 0, 0] := by decide +kernel
instance (priority := high) closed_k0_off18 (t : Fin grid0.N) : ClosedOff (k0_off18 (grid0.coords t)) := ⟨![(Ring.sl 3 (ku t.val)).val, 0, 0], c_k0_off18 t⟩
set_option synthInstance.maxSize 4096 in
theorem c_k0_off50 : ∀ t : Fin grid0.N, k0_off50 (grid0.coords t) = ![(Ring.sl 3 (ku t.val)).val, 0, 0] := by decide +kernel
instance (priority := high) closed_k0_off50 (t : Fin grid0.N) : ClosedOff (k0_off50 (grid0.coords t)) := ⟨![(Ring.sl 3 (ku t.val)).val, 0, 0], c_k0_off50 t⟩
set_option synthInstance.maxSize 4096 in
theorem c_k0_off26 : ∀ t : Fin grid0.N, k0_off26 (grid0.coords t) = ![0, 16 * (t.val % 9), 0] := by decide +kernel
instance (priority := high) closed_k0_off26 (t : Fin grid0.N) : ClosedOff (k0_off26 (grid0.coords t)) := ⟨![0, 16 * (t.val % 9), 0], c_k0_off26 t⟩
set_option synthInstance.maxSize 4096 in
theorem c_k0_off60 : ∀ t : Fin grid0.N, k0_off60 (grid0.coords t) = ![0, 16 * (t.val % 9), 0] := by decide +kernel
instance (priority := high) closed_k0_off60 (t : Fin grid0.N) : ClosedOff (k0_off60 (grid0.coords t)) := ⟨![0, 16 * (t.val % 9), 0], c_k0_off60 t⟩
set_option synthInstance.maxSize 4096 in
theorem c_k0_off19 : ∀ t : Fin grid0.N, k0_off19 (grid0.coords t) = ![(Ring.sl 3 (ku t.val)).val, 256, 0] := by decide +kernel
instance (priority := high) closed_k0_off19 (t : Fin grid0.N) : ClosedOff (k0_off19 (grid0.coords t)) := ⟨![(Ring.sl 3 (ku t.val)).val, 256, 0], c_k0_off19 t⟩
set_option synthInstance.maxSize 4096 in
theorem c_k0_off51 : ∀ t : Fin grid0.N, k0_off51 (grid0.coords t) = ![(Ring.sl 3 (ku t.val)).val, 256, 0] := by decide +kernel
instance (priority := high) closed_k0_off51 (t : Fin grid0.N) : ClosedOff (k0_off51 (grid0.coords t)) := ⟨![(Ring.sl 3 (ku t.val)).val, 256, 0], c_k0_off51 t⟩
set_option synthInstance.maxSize 4096 in
theorem c_k0_off27 : ∀ t : Fin grid0.N, k0_off27 (grid0.coords t) = ![1, 16 * (t.val % 9), 0] := by decide +kernel
instance (priority := high) closed_k0_off27 (t : Fin grid0.N) : ClosedOff (k0_off27 (grid0.coords t)) := ⟨![1, 16 * (t.val % 9), 0], c_k0_off27 t⟩
set_option synthInstance.maxSize 4096 in
theorem c_k0_off61 : ∀ t : Fin grid0.N, k0_off61 (grid0.coords t) = ![1, 16 * (t.val % 9), 0] := by decide +kernel
instance (priority := high) closed_k0_off61 (t : Fin grid0.N) : ClosedOff (k0_off61 (grid0.coords t)) := ⟨![1, 16 * (t.val % 9), 0], c_k0_off61 t⟩
set_option synthInstance.maxSize 4096 in
theorem c_k0_off20 : ∀ t : Fin grid0.N, k0_off20 (grid0.coords t) = ![(Ring.sl 3 (ku t.val)).val, 512, 0] := by decide +kernel
instance (priority := high) closed_k0_off20 (t : Fin grid0.N) : ClosedOff (k0_off20 (grid0.coords t)) := ⟨![(Ring.sl 3 (ku t.val)).val, 512, 0], c_k0_off20 t⟩
set_option synthInstance.maxSize 4096 in
theorem c_k0_off52 : ∀ t : Fin grid0.N, k0_off52 (grid0.coords t) = ![(Ring.sl 3 (ku t.val)).val, 512, 0] := by decide +kernel
instance (priority := high) closed_k0_off52 (t : Fin grid0.N) : ClosedOff (k0_off52 (grid0.coords t)) := ⟨![(Ring.sl 3 (ku t.val)).val, 512, 0], c_k0_off52 t⟩
set_option synthInstance.maxSize 4096 in
theorem c_k0_off28 : ∀ t : Fin grid0.N, k0_off28 (grid0.coords t) = ![2, 16 * (t.val % 9), 0] := by decide +kernel
instance (priority := high) closed_k0_off28 (t : Fin grid0.N) : ClosedOff (k0_off28 (grid0.coords t)) := ⟨![2, 16 * (t.val % 9), 0], c_k0_off28 t⟩
set_option synthInstance.maxSize 4096 in
theorem c_k0_off62 : ∀ t : Fin grid0.N, k0_off62 (grid0.coords t) = ![2, 16 * (t.val % 9), 0] := by decide +kernel
instance (priority := high) closed_k0_off62 (t : Fin grid0.N) : ClosedOff (k0_off62 (grid0.coords t)) := ⟨![2, 16 * (t.val % 9), 0], c_k0_off62 t⟩
set_option synthInstance.maxSize 4096 in
theorem c_k0_off21 : ∀ t : Fin grid0.N, k0_off21 (grid0.coords t) = ![(Ring.sl 3 (ku t.val)).val, 768, 0] := by decide +kernel
instance (priority := high) closed_k0_off21 (t : Fin grid0.N) : ClosedOff (k0_off21 (grid0.coords t)) := ⟨![(Ring.sl 3 (ku t.val)).val, 768, 0], c_k0_off21 t⟩
set_option synthInstance.maxSize 4096 in
theorem c_k0_off53 : ∀ t : Fin grid0.N, k0_off53 (grid0.coords t) = ![(Ring.sl 3 (ku t.val)).val, 768, 0] := by decide +kernel
instance (priority := high) closed_k0_off53 (t : Fin grid0.N) : ClosedOff (k0_off53 (grid0.coords t)) := ⟨![(Ring.sl 3 (ku t.val)).val, 768, 0], c_k0_off53 t⟩
set_option synthInstance.maxSize 4096 in
theorem c_k0_off29 : ∀ t : Fin grid0.N, k0_off29 (grid0.coords t) = ![3, 16 * (t.val % 9), 0] := by decide +kernel
instance (priority := high) closed_k0_off29 (t : Fin grid0.N) : ClosedOff (k0_off29 (grid0.coords t)) := ⟨![3, 16 * (t.val % 9), 0], c_k0_off29 t⟩
set_option synthInstance.maxSize 4096 in
theorem c_k0_off63 : ∀ t : Fin grid0.N, k0_off63 (grid0.coords t) = ![3, 16 * (t.val % 9), 0] := by decide +kernel
instance (priority := high) closed_k0_off63 (t : Fin grid0.N) : ClosedOff (k0_off63 (grid0.coords t)) := ⟨![3, 16 * (t.val % 9), 0], c_k0_off63 t⟩
set_option synthInstance.maxSize 4096 in
theorem c_k0_off22 : ∀ t : Fin grid0.N, k0_off22 (grid0.coords t) = ![(Ring.sl 3 (ku t.val)).val, 1024, 0] := by decide +kernel
instance (priority := high) closed_k0_off22 (t : Fin grid0.N) : ClosedOff (k0_off22 (grid0.coords t)) := ⟨![(Ring.sl 3 (ku t.val)).val, 1024, 0], c_k0_off22 t⟩
set_option synthInstance.maxSize 4096 in
theorem c_k0_off54 : ∀ t : Fin grid0.N, k0_off54 (grid0.coords t) = ![(Ring.sl 3 (ku t.val)).val, 1024, 0] := by decide +kernel
instance (priority := high) closed_k0_off54 (t : Fin grid0.N) : ClosedOff (k0_off54 (grid0.coords t)) := ⟨![(Ring.sl 3 (ku t.val)).val, 1024, 0], c_k0_off54 t⟩
set_option synthInstance.maxSize 4096 in
theorem c_k0_off30 : ∀ t : Fin grid0.N, k0_off30 (grid0.coords t) = ![4, 16 * (t.val % 9), 0] := by decide +kernel
instance (priority := high) closed_k0_off30 (t : Fin grid0.N) : ClosedOff (k0_off30 (grid0.coords t)) := ⟨![4, 16 * (t.val % 9), 0], c_k0_off30 t⟩
set_option synthInstance.maxSize 4096 in
theorem c_k0_off64 : ∀ t : Fin grid0.N, k0_off64 (grid0.coords t) = ![4, 16 * (t.val % 9), 0] := by decide +kernel
instance (priority := high) closed_k0_off64 (t : Fin grid0.N) : ClosedOff (k0_off64 (grid0.coords t)) := ⟨![4, 16 * (t.val % 9), 0], c_k0_off64 t⟩
set_option synthInstance.maxSize 4096 in
theorem c_k0_off23 : ∀ t : Fin grid0.N, k0_off23 (grid0.coords t) = ![(Ring.sl 3 (ku t.val)).val, 1280, 0] := by decide +kernel
instance (priority := high) closed_k0_off23 (t : Fin grid0.N) : ClosedOff (k0_off23 (grid0.coords t)) := ⟨![(Ring.sl 3 (ku t.val)).val, 1280, 0], c_k0_off23 t⟩
set_option synthInstance.maxSize 4096 in
theorem c_k0_off55 : ∀ t : Fin grid0.N, k0_off55 (grid0.coords t) = ![(Ring.sl 3 (ku t.val)).val, 1280, 0] := by decide +kernel
instance (priority := high) closed_k0_off55 (t : Fin grid0.N) : ClosedOff (k0_off55 (grid0.coords t)) := ⟨![(Ring.sl 3 (ku t.val)).val, 1280, 0], c_k0_off55 t⟩
set_option synthInstance.maxSize 4096 in
theorem c_k0_off31 : ∀ t : Fin grid0.N, k0_off31 (grid0.coords t) = ![5, 16 * (t.val % 9), 0] := by decide +kernel
instance (priority := high) closed_k0_off31 (t : Fin grid0.N) : ClosedOff (k0_off31 (grid0.coords t)) := ⟨![5, 16 * (t.val % 9), 0], c_k0_off31 t⟩
set_option synthInstance.maxSize 4096 in
theorem c_k0_off65 : ∀ t : Fin grid0.N, k0_off65 (grid0.coords t) = ![5, 16 * (t.val % 9), 0] := by decide +kernel
instance (priority := high) closed_k0_off65 (t : Fin grid0.N) : ClosedOff (k0_off65 (grid0.coords t)) := ⟨![5, 16 * (t.val % 9), 0], c_k0_off65 t⟩
set_option synthInstance.maxSize 4096 in
theorem c_k0_off24 : ∀ t : Fin grid0.N, k0_off24 (grid0.coords t) = ![(Ring.sl 3 (ku t.val)).val, 1536, 0] := by decide +kernel
instance (priority := high) closed_k0_off24 (t : Fin grid0.N) : ClosedOff (k0_off24 (grid0.coords t)) := ⟨![(Ring.sl 3 (ku t.val)).val, 1536, 0], c_k0_off24 t⟩
set_option synthInstance.maxSize 4096 in
theorem c_k0_off56 : ∀ t : Fin grid0.N, k0_off56 (grid0.coords t) = ![(Ring.sl 3 (ku t.val)).val, 1536, 0] := by decide +kernel
instance (priority := high) closed_k0_off56 (t : Fin grid0.N) : ClosedOff (k0_off56 (grid0.coords t)) := ⟨![(Ring.sl 3 (ku t.val)).val, 1536, 0], c_k0_off56 t⟩
set_option synthInstance.maxSize 4096 in
theorem c_k0_off32 : ∀ t : Fin grid0.N, k0_off32 (grid0.coords t) = ![6, 16 * (t.val % 9), 0] := by decide +kernel
instance (priority := high) closed_k0_off32 (t : Fin grid0.N) : ClosedOff (k0_off32 (grid0.coords t)) := ⟨![6, 16 * (t.val % 9), 0], c_k0_off32 t⟩
set_option synthInstance.maxSize 4096 in
theorem c_k0_off66 : ∀ t : Fin grid0.N, k0_off66 (grid0.coords t) = ![6, 16 * (t.val % 9), 0] := by decide +kernel
instance (priority := high) closed_k0_off66 (t : Fin grid0.N) : ClosedOff (k0_off66 (grid0.coords t)) := ⟨![6, 16 * (t.val % 9), 0], c_k0_off66 t⟩
set_option synthInstance.maxSize 4096 in
theorem c_k0_off25 : ∀ t : Fin grid0.N, k0_off25 (grid0.coords t) = ![(Ring.sl 3 (ku t.val)).val, 1792, 0] := by decide +kernel
instance (priority := high) closed_k0_off25 (t : Fin grid0.N) : ClosedOff (k0_off25 (grid0.coords t)) := ⟨![(Ring.sl 3 (ku t.val)).val, 1792, 0], c_k0_off25 t⟩
set_option synthInstance.maxSize 4096 in
theorem c_k0_off57 : ∀ t : Fin grid0.N, k0_off57 (grid0.coords t) = ![(Ring.sl 3 (ku t.val)).val, 1792, 0] := by decide +kernel
instance (priority := high) closed_k0_off57 (t : Fin grid0.N) : ClosedOff (k0_off57 (grid0.coords t)) := ⟨![(Ring.sl 3 (ku t.val)).val, 1792, 0], c_k0_off57 t⟩
set_option synthInstance.maxSize 4096 in
theorem c_k0_off33 : ∀ t : Fin grid0.N, k0_off33 (grid0.coords t) = ![7, 16 * (t.val % 9), 0] := by decide +kernel
instance (priority := high) closed_k0_off33 (t : Fin grid0.N) : ClosedOff (k0_off33 (grid0.coords t)) := ⟨![7, 16 * (t.val % 9), 0], c_k0_off33 t⟩
set_option synthInstance.maxSize 4096 in
theorem c_k0_off67 : ∀ t : Fin grid0.N, k0_off67 (grid0.coords t) = ![7, 16 * (t.val % 9), 0] := by decide +kernel
instance (priority := high) closed_k0_off67 (t : Fin grid0.N) : ClosedOff (k0_off67 (grid0.coords t)) := ⟨![7, 16 * (t.val % 9), 0], c_k0_off67 t⟩
set_option synthInstance.maxSize 4096 in
theorem c_k0_off34 : ∀ t : Fin grid0.N, k0_off34 (grid0.coords t) = ![t.val % 9 % 2, 0, 0] := by decide +kernel
instance (priority := high) closed_k0_off34 (t : Fin grid0.N) : ClosedOff (k0_off34 (grid0.coords t)) := ⟨![t.val % 9 % 2, 0, 0], c_k0_off34 t⟩
set_option synthInstance.maxSize 4096 in
theorem c_k0_off68 : ∀ t : Fin grid0.N, k0_off68 (grid0.coords t) = ![t.val % 9 % 2, 0, 0] := by decide +kernel
instance (priority := high) closed_k0_off68 (t : Fin grid0.N) : ClosedOff (k0_off68 (grid0.coords t)) := ⟨![t.val % 9 % 2, 0, 0], c_k0_off68 t⟩
set_option synthInstance.maxSize 4096 in
theorem c_k0_off35 : ∀ t : Fin grid0.N, k0_off35 (grid0.coords t) = ![t.val % 9 % 2, 128, 0] := by decide +kernel
instance (priority := high) closed_k0_off35 (t : Fin grid0.N) : ClosedOff (k0_off35 (grid0.coords t)) := ⟨![t.val % 9 % 2, 128, 0], c_k0_off35 t⟩
set_option synthInstance.maxSize 4096 in
theorem c_k0_off69 : ∀ t : Fin grid0.N, k0_off69 (grid0.coords t) = ![t.val % 9 % 2, 128, 0] := by decide +kernel
instance (priority := high) closed_k0_off69 (t : Fin grid0.N) : ClosedOff (k0_off69 (grid0.coords t)) := ⟨![t.val % 9 % 2, 128, 0], c_k0_off69 t⟩
set_option synthInstance.maxSize 4096 in
theorem c_k0_off36 : ∀ t : Fin grid0.N, k0_off36 (grid0.coords t) = ![t.val % 9 % 2, 256, 0] := by decide +kernel
instance (priority := high) closed_k0_off36 (t : Fin grid0.N) : ClosedOff (k0_off36 (grid0.coords t)) := ⟨![t.val % 9 % 2, 256, 0], c_k0_off36 t⟩
set_option synthInstance.maxSize 4096 in
theorem c_k0_off70 : ∀ t : Fin grid0.N, k0_off70 (grid0.coords t) = ![t.val % 9 % 2, 256, 0] := by decide +kernel
instance (priority := high) closed_k0_off70 (t : Fin grid0.N) : ClosedOff (k0_off70 (grid0.coords t)) := ⟨![t.val % 9 % 2, 256, 0], c_k0_off70 t⟩
set_option synthInstance.maxSize 4096 in
theorem c_k0_off37 : ∀ t : Fin grid0.N, k0_off37 (grid0.coords t) = ![t.val % 9 % 2, 384, 0] := by decide +kernel
instance (priority := high) closed_k0_off37 (t : Fin grid0.N) : ClosedOff (k0_off37 (grid0.coords t)) := ⟨![t.val % 9 % 2, 384, 0], c_k0_off37 t⟩
set_option synthInstance.maxSize 4096 in
theorem c_k0_off71 : ∀ t : Fin grid0.N, k0_off71 (grid0.coords t) = ![t.val % 9 % 2, 384, 0] := by decide +kernel
instance (priority := high) closed_k0_off71 (t : Fin grid0.N) : ClosedOff (k0_off71 (grid0.coords t)) := ⟨![t.val % 9 % 2, 384, 0], c_k0_off71 t⟩
set_option synthInstance.maxSize 4096 in
theorem c_k0_off38 : ∀ t : Fin grid0.N, k0_off38 (grid0.coords t) = ![t.val % 9 % 2, 512, 0] := by decide +kernel
instance (priority := high) closed_k0_off38 (t : Fin grid0.N) : ClosedOff (k0_off38 (grid0.coords t)) := ⟨![t.val % 9 % 2, 512, 0], c_k0_off38 t⟩
set_option synthInstance.maxSize 4096 in
theorem c_k0_off72 : ∀ t : Fin grid0.N, k0_off72 (grid0.coords t) = ![t.val % 9 % 2, 512, 0] := by decide +kernel
instance (priority := high) closed_k0_off72 (t : Fin grid0.N) : ClosedOff (k0_off72 (grid0.coords t)) := ⟨![t.val % 9 % 2, 512, 0], c_k0_off72 t⟩
set_option synthInstance.maxSize 4096 in
theorem c_k0_off39 : ∀ t : Fin grid0.N, k0_off39 (grid0.coords t) = ![t.val % 9 % 2, 640, 0] := by decide +kernel
instance (priority := high) closed_k0_off39 (t : Fin grid0.N) : ClosedOff (k0_off39 (grid0.coords t)) := ⟨![t.val % 9 % 2, 640, 0], c_k0_off39 t⟩
set_option synthInstance.maxSize 4096 in
theorem c_k0_off73 : ∀ t : Fin grid0.N, k0_off73 (grid0.coords t) = ![t.val % 9 % 2, 640, 0] := by decide +kernel
instance (priority := high) closed_k0_off73 (t : Fin grid0.N) : ClosedOff (k0_off73 (grid0.coords t)) := ⟨![t.val % 9 % 2, 640, 0], c_k0_off73 t⟩
set_option synthInstance.maxSize 4096 in
theorem c_k0_off40 : ∀ t : Fin grid0.N, k0_off40 (grid0.coords t) = ![t.val % 9 % 2, 768, 0] := by decide +kernel
instance (priority := high) closed_k0_off40 (t : Fin grid0.N) : ClosedOff (k0_off40 (grid0.coords t)) := ⟨![t.val % 9 % 2, 768, 0], c_k0_off40 t⟩
set_option synthInstance.maxSize 4096 in
theorem c_k0_off74 : ∀ t : Fin grid0.N, k0_off74 (grid0.coords t) = ![t.val % 9 % 2, 768, 0] := by decide +kernel
instance (priority := high) closed_k0_off74 (t : Fin grid0.N) : ClosedOff (k0_off74 (grid0.coords t)) := ⟨![t.val % 9 % 2, 768, 0], c_k0_off74 t⟩
set_option synthInstance.maxSize 4096 in
theorem c_k0_off41 : ∀ t : Fin grid0.N, k0_off41 (grid0.coords t) = ![t.val % 9 % 2, 896, 0] := by decide +kernel
instance (priority := high) closed_k0_off41 (t : Fin grid0.N) : ClosedOff (k0_off41 (grid0.coords t)) := ⟨![t.val % 9 % 2, 896, 0], c_k0_off41 t⟩
set_option synthInstance.maxSize 4096 in
theorem c_k0_off75 : ∀ t : Fin grid0.N, k0_off75 (grid0.coords t) = ![t.val % 9 % 2, 896, 0] := by decide +kernel
instance (priority := high) closed_k0_off75 (t : Fin grid0.N) : ClosedOff (k0_off75 (grid0.coords t)) := ⟨![t.val % 9 % 2, 896, 0], c_k0_off75 t⟩
set_option synthInstance.maxSize 4096 in
theorem c_k0_off42 : ∀ t : Fin grid0.N, k0_off42 (grid0.coords t) = ![t.val % 9 % 2, 1024, 0] := by decide +kernel
instance (priority := high) closed_k0_off42 (t : Fin grid0.N) : ClosedOff (k0_off42 (grid0.coords t)) := ⟨![t.val % 9 % 2, 1024, 0], c_k0_off42 t⟩
set_option synthInstance.maxSize 4096 in
theorem c_k0_off76 : ∀ t : Fin grid0.N, k0_off76 (grid0.coords t) = ![t.val % 9 % 2, 1024, 0] := by decide +kernel
instance (priority := high) closed_k0_off76 (t : Fin grid0.N) : ClosedOff (k0_off76 (grid0.coords t)) := ⟨![t.val % 9 % 2, 1024, 0], c_k0_off76 t⟩
set_option synthInstance.maxSize 4096 in
theorem c_k0_off43 : ∀ t : Fin grid0.N, k0_off43 (grid0.coords t) = ![t.val % 9 % 2, 1152, 0] := by decide +kernel
instance (priority := high) closed_k0_off43 (t : Fin grid0.N) : ClosedOff (k0_off43 (grid0.coords t)) := ⟨![t.val % 9 % 2, 1152, 0], c_k0_off43 t⟩
set_option synthInstance.maxSize 4096 in
theorem c_k0_off77 : ∀ t : Fin grid0.N, k0_off77 (grid0.coords t) = ![t.val % 9 % 2, 1152, 0] := by decide +kernel
instance (priority := high) closed_k0_off77 (t : Fin grid0.N) : ClosedOff (k0_off77 (grid0.coords t)) := ⟨![t.val % 9 % 2, 1152, 0], c_k0_off77 t⟩
set_option synthInstance.maxSize 4096 in
theorem c_k0_off44 : ∀ t : Fin grid0.N, k0_off44 (grid0.coords t) = ![t.val % 9 % 2, 1280, 0] := by decide +kernel
instance (priority := high) closed_k0_off44 (t : Fin grid0.N) : ClosedOff (k0_off44 (grid0.coords t)) := ⟨![t.val % 9 % 2, 1280, 0], c_k0_off44 t⟩
set_option synthInstance.maxSize 4096 in
theorem c_k0_off78 : ∀ t : Fin grid0.N, k0_off78 (grid0.coords t) = ![t.val % 9 % 2, 1280, 0] := by decide +kernel
instance (priority := high) closed_k0_off78 (t : Fin grid0.N) : ClosedOff (k0_off78 (grid0.coords t)) := ⟨![t.val % 9 % 2, 1280, 0], c_k0_off78 t⟩
set_option synthInstance.maxSize 4096 in
theorem c_k0_off45 : ∀ t : Fin grid0.N, k0_off45 (grid0.coords t) = ![t.val % 9 % 2, 1408, 0] := by decide +kernel
instance (priority := high) closed_k0_off45 (t : Fin grid0.N) : ClosedOff (k0_off45 (grid0.coords t)) := ⟨![t.val % 9 % 2, 1408, 0], c_k0_off45 t⟩
set_option synthInstance.maxSize 4096 in
theorem c_k0_off79 : ∀ t : Fin grid0.N, k0_off79 (grid0.coords t) = ![t.val % 9 % 2, 1408, 0] := by decide +kernel
instance (priority := high) closed_k0_off79 (t : Fin grid0.N) : ClosedOff (k0_off79 (grid0.coords t)) := ⟨![t.val % 9 % 2, 1408, 0], c_k0_off79 t⟩
set_option synthInstance.maxSize 4096 in
theorem c_k0_off46 : ∀ t : Fin grid0.N, k0_off46 (grid0.coords t) = ![t.val % 9 % 2, 1536, 0] := by decide +kernel
instance (priority := high) closed_k0_off46 (t : Fin grid0.N) : ClosedOff (k0_off46 (grid0.coords t)) := ⟨![t.val % 9 % 2, 1536, 0], c_k0_off46 t⟩
set_option synthInstance.maxSize 4096 in
theorem c_k0_off80 : ∀ t : Fin grid0.N, k0_off80 (grid0.coords t) = ![t.val % 9 % 2, 1536, 0] := by decide +kernel
instance (priority := high) closed_k0_off80 (t : Fin grid0.N) : ClosedOff (k0_off80 (grid0.coords t)) := ⟨![t.val % 9 % 2, 1536, 0], c_k0_off80 t⟩
set_option synthInstance.maxSize 4096 in
theorem c_k0_off47 : ∀ t : Fin grid0.N, k0_off47 (grid0.coords t) = ![t.val % 9 % 2, 1664, 0] := by decide +kernel
instance (priority := high) closed_k0_off47 (t : Fin grid0.N) : ClosedOff (k0_off47 (grid0.coords t)) := ⟨![t.val % 9 % 2, 1664, 0], c_k0_off47 t⟩
set_option synthInstance.maxSize 4096 in
theorem c_k0_off81 : ∀ t : Fin grid0.N, k0_off81 (grid0.coords t) = ![t.val % 9 % 2, 1664, 0] := by decide +kernel
instance (priority := high) closed_k0_off81 (t : Fin grid0.N) : ClosedOff (k0_off81 (grid0.coords t)) := ⟨![t.val % 9 % 2, 1664, 0], c_k0_off81 t⟩
set_option synthInstance.maxSize 4096 in
theorem c_k0_off48 : ∀ t : Fin grid0.N, k0_off48 (grid0.coords t) = ![t.val % 9 % 2, 1792, 0] := by decide +kernel
instance (priority := high) closed_k0_off48 (t : Fin grid0.N) : ClosedOff (k0_off48 (grid0.coords t)) := ⟨![t.val % 9 % 2, 1792, 0], c_k0_off48 t⟩
set_option synthInstance.maxSize 4096 in
theorem c_k0_off82 : ∀ t : Fin grid0.N, k0_off82 (grid0.coords t) = ![t.val % 9 % 2, 1792, 0] := by decide +kernel
instance (priority := high) closed_k0_off82 (t : Fin grid0.N) : ClosedOff (k0_off82 (grid0.coords t)) := ⟨![t.val % 9 % 2, 1792, 0], c_k0_off82 t⟩
set_option synthInstance.maxSize 4096 in
theorem c_k0_off49 : ∀ t : Fin grid0.N, k0_off49 (grid0.coords t) = ![t.val % 9 % 2, 1920, 0] := by decide +kernel
instance (priority := high) closed_k0_off49 (t : Fin grid0.N) : ClosedOff (k0_off49 (grid0.coords t)) := ⟨![t.val % 9 % 2, 1920, 0], c_k0_off49 t⟩
set_option synthInstance.maxSize 4096 in
theorem c_k0_off83 : ∀ t : Fin grid0.N, k0_off83 (grid0.coords t) = ![t.val % 9 % 2, 1920, 0] := by decide +kernel
instance (priority := high) closed_k0_off83 (t : Fin grid0.N) : ClosedOff (k0_off83 (grid0.coords t)) := ⟨![t.val % 9 % 2, 1920, 0], c_k0_off83 t⟩
set_option synthInstance.maxSize 4096 in
theorem c_k0_off59 : ∀ t : Fin grid0.N, k0_off59 (grid0.coords t) = ![1 - t.val % 9 % 2, 0, 0] := by decide +kernel
instance (priority := high) closed_k0_off59 (t : Fin grid0.N) : ClosedOff (k0_off59 (grid0.coords t)) := ⟨![1 - t.val % 9 % 2, 0, 0], c_k0_off59 t⟩
set_option synthInstance.maxSize 4096 in
theorem c_k0_off85 : ∀ t : Fin grid0.N, k0_off85 (grid0.coords t) = ![1 - t.val % 9 % 2, 0, 0] := by decide +kernel
instance (priority := high) closed_k0_off85 (t : Fin grid0.N) : ClosedOff (k0_off85 (grid0.coords t)) := ⟨![1 - t.val % 9 % 2, 0, 0], c_k0_off85 t⟩
set_option synthInstance.maxSize 4096 in
theorem c_k0_off58 : ∀ t : Fin grid0.N, 1 ≤ t.val % 9 → k0_off58 (grid0.coords t) = ![(Ring.sl 3 (kv t.val)).val, 0, 0] := by decide +kernel
instance (priority := high) closed_k0_off58 (t : Fin grid0.N) [h : Fact (1 ≤ t.val % 9)] : ClosedOff (k0_off58 (grid0.coords t)) := ⟨![(Ring.sl 3 (kv t.val)).val, 0, 0], c_k0_off58 t h.out⟩
set_option synthInstance.maxSize 4096 in
theorem c_k0_off84 : ∀ t : Fin grid0.N, 1 ≤ t.val % 9 → k0_off84 (grid0.coords t) = ![(Ring.sl 3 (kv t.val)).val, 0, 0] := by decide +kernel
instance (priority := high) closed_k0_off84 (t : Fin grid0.N) [h : Fact (1 ≤ t.val % 9)] : ClosedOff (k0_off84 (grid0.coords t)) := ⟨![(Ring.sl 3 (kv t.val)).val, 0, 0], c_k0_off84 t h.out⟩
end Canon

end Cert.KernelIdeal.Pd

end
-- ==== Proof.Ideal.Spec.lean ====
/- What the kernel's body computes at one point, in terms of its operands: the weighted activations of a block of
   experts, the sum over the experts carried from point to point, and the rows of the result. -/
module

public import proofs.«01_k».proof.Proof.Ideal.Base
public import Idealize.ShloMosaic.Lib.PointwiseCore
public import Idealize.ShloMosaic.Lib.WholeRead
public import Idealize.ShloMosaic.Lib.VecWindow

@[expose] public section

set_option maxRecDepth 16384

noncomputable section

namespace Cert.KernelIdeal.Pd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-! ## One block of experts -/

/-- The two constants of gelu's polynomial. -/
def cub : F .bf16 := Named.named κ "gelu_cubic" 0x3D37#16
def scl : F .bf16 := Named.named κ "gelu_scale" 0x3F4C#16
/-- gelu of one activation. -/
def geluS (a : F .bf16) : F .bf16 :=
  FloatOps.mulf (FloatOps.mulf (Scalar.ofBits .bf16 0x3F00#16) a)
    (FloatOps.addf (Scalar.ofBits .bf16 0x3F80#16) (FloatOps.tanh (FloatOps.mulf scl (FloatOps.addf a (FloatOps.mulf cub (FloatOps.mulf (FloatOps.mulf a a) a))))))
/-- One head's gate of one expert for one token. -/
def termS (r2 e2 : F .bf16) (n1 e1 : F .f32) : F .bf16 :=
  FloatOps.mulf (Scalar.select (FloatOps.cmpf .olt r2 (FloatOps.truncf .bf16 bitsLt_bf16_f32 n1)) e2 (Scalar.ofBits .bf16 0x0000#16)) (FloatOps.truncf .bf16 bitsLt_bf16_f32 e1)
def gateT (x5 x6 : Vec F S8x128x512 .bf16) (x7 x8 : Vec F S8x128x512 .f32) (i1 i2 : Fin 128) (τ : Fin 512) (h : Fin 8) : F .bf16 :=
  termS (x5 (ix3 h i2 τ)) (x6 (ix3 h i2 τ)) (x7 (ix3 h i1 τ)) (x8 (ix3 h i1 τ))
/-- The heads' gates of expert `(i1, i2)` summed. -/
def gateS (x5 x6 : Vec F S8x128x512 .bf16) (x7 x8 : Vec F S8x128x512 .f32) (i1 i2 : Fin 128) (τ : Fin 512) : F .bf16 :=
  FloatOps.addf (FloatOps.addf (FloatOps.addf (FloatOps.addf (FloatOps.addf (FloatOps.addf (FloatOps.addf
    (gateT x5 x6 x7 x8 i1 i2 τ 0) (gateT x5 x6 x7 x8 i1 i2 τ 1)) (gateT x5 x6 x7 x8 i1 i2 τ 2)) (gateT x5 x6 x7 x8 i1 i2 τ 3))
    (gateT x5 x6 x7 x8 i1 i2 τ 4)) (gateT x5 x6 x7 x8 i1 i2 τ 5)) (gateT x5 x6 x7 x8 i1 i2 τ 6)) (gateT x5 x6 x7 x8 i1 i2 τ 7)
/-- The activations of 256 of a block's experts, before gelu. -/
def actP (ub : Vec F S2048x1024 .bf16) (x2 : Vec F S512x1024 .bf16) (p : Fin 8) : FVec F S256x512 .f32 :=
  matmul dot_S256x1024_S512x1024_S256x512_1_1_0_0_n_n none
    (fun j : S256x1024.Idx => ub (ix2 (⟨256 * p.val + (j 0).val, by have := (j 0).isLt; have := p.isLt; simp at *; omega⟩ : Fin 2048) (j 1))) x2 (constant S256x512 .f32 0#32)
/-- The weighted activation of expert `e` of block `eb` for token `τ`. -/
def actG (ub : Vec F S2048x1024 .bf16) (x2 : Vec F S512x1024 .bf16) (x5 x6 : Vec F S8x128x512 .bf16) (x7 x8 : Vec F S8x128x512 .f32)
    (eb : Fin 8) (e : Fin 2048) (τ : Fin 512) : F .bf16 :=
  FloatOps.mulf (geluS (FloatOps.truncf .bf16 bitsLt_bf16_f32 (actP ub x2 ⟨e.val / 256, by omega⟩ (ix2 (⟨e.val % 256, by omega⟩ : Fin 256) τ))))
    (gateS x5 x6 x7 x8 ⟨16 * eb.val + e.val / 128, by omega⟩ ⟨e.val % 128, by omega⟩ τ)
/-- One point's term of the sum over the experts. -/
def updN (vb : Vec F S1024x2048 .bf16) (a : Vec F S2048x512 .bf16) : FVec F S1024x512 .f32 :=
  matmul dot_S1024x2048_S2048x512_S1024x512_1_0_0_1_n_n none vb a (constant S1024x512 .f32 0#32)
def accN (d : Vec F S1024x512 .f32) (vb : Vec F S1024x2048 .bf16) (a : Vec F S2048x512 .bf16) : FVec F S1024x512 .f32 := addf d (updN vb a)
/-- The rows of the result at the last point of a tile. -/
def outG (x9 : Vec F S512x1024 .f32) (x10 x11 : Vec F S1x1x1024 .f32) (x12 : Vec F S1x1024 .f32) (acc : Vec F S1024x512 .f32) : Vec F S512x1024 .f32 :=
  fun j => if h : (j 0).val < 256 then
      k0_pay1 (fun i : S256x1024.Idx => x9 (ix2 (⟨(i 0).val, by have := (i 0).isLt; simp at *; omega⟩ : Fin 512) (i 1))) x10
        (fun i : S1024x256.Idx => acc (ix2 (i 0) (⟨(i 1).val, by have := (i 1).isLt; simp at *; omega⟩ : Fin 512))) x12 (ix2 (⟨(j 0).val, h⟩ : Fin 256) (j 1))
    else
      k0_pay1 (fun i : S256x1024.Idx => x9 (ix2 (⟨256 + (i 0).val, by have := (i 0).isLt; simp at *; omega⟩ : Fin 512) (i 1))) x11
        (fun i : S1024x256.Idx => acc (ix2 (i 0) (⟨256 + (i 1).val, by have := (i 1).isLt; simp at *; omega⟩ : Fin 512))) x12 (ix2 (⟨(j 0).val - 256, by have := (j 0).isLt; simp at *; omega⟩ : Fin 256) (j 1))

/-! ## The body's vectors -/

/-- A row of a tile of the selector spread over the 128 keys it multiplies. -/
def bc (r : ℕ) (hs : S16x512.Slices ![r, 0] S1x512) (n : Vec F S1x16x512 .f32) : FVec F S128x512 .bf16 :=
  truncf .bf16 (broadcastTo S128x512 (shapeCast S1x512 (extractStridedSlice S1x512 ![r, 0] (shapeCast S16x512 n shapeCasts_S1x16x512_S16x512) hs) shapeCasts_S1x512_S1x512) broadcasts_S1x512_S128x512) bitsLt_bf16_f32
def wterm (r : ℕ) (hs : S16x512.Slices ![r, 0] S1x512) (R E : Vec F S1x128x512 .bf16) (N G : Vec F S1x16x512 .f32) : FVec F S128x512 .bf16 :=
  mulf (select (cmpf .olt (shapeCast S128x512 R shapeCasts_S1x128x512_S128x512) (bc r hs N)) (shapeCast S128x512 E shapeCasts_S1x128x512_S128x512) (broadcast S128x512 (Scalar.ofBits .bf16 0x0000#16))) (bc r hs G)
def wgelu (a : FVec F S128x512 .bf16) : FVec F S128x512 .bf16 :=
  mulf (mulf (broadcast S128x512 (Scalar.ofBits .bf16 0x3F00#16)) a)
    (addf (broadcast S128x512 (Scalar.ofBits .bf16 0x3F80#16)) (tanh (mulf (broadcast S128x512 scl) (addf a (mulf (broadcast S128x512 cub) (mulf (mulf a a) a))))))
/-- What one of a block's sixteen stores writes. -/
def wrow (r : ℕ) (hs : S16x512.Slices ![r, 0] S1x512) (o : ℕ) (ho : S256x512.Slices ![o, 0] S128x512) (A : FVec F S256x512 .f32)
    (R E : Fin 8 → Vec F S1x128x512 .bf16) (N G : Fin 8 → Vec F S1x16x512 .f32) : FVec F S1x128x512 .bf16 :=
  shapeCast S1x128x512 (mulf (wgelu (truncf .bf16 (extractStridedSlice S128x512 ![o, 0] A ho) bitsLt_bf16_f32))
    (addf (addf (addf (addf (addf (addf (addf (wterm r hs (R 0) (E 0) (N 0) (G 0)) (wterm r hs (R 1) (E 1) (N 1) (G 1))) (wterm r hs (R 2) (E 2) (N 2) (G 2)))
      (wterm r hs (R 3) (E 3) (N 3) (G 3))) (wterm r hs (R 4) (E 4) (N 4) (G 4))) (wterm r hs (R 5) (E 5) (N 5) (G 5))) (wterm r hs (R 6) (E 6) (N 6) (G 6))) (wterm r hs (R 7) (E 7) (N 7) (G 7))))
    shapeCasts_S128x512_S1x128x512

theorem shapeCast3_apply (R : Vec F S1x128x512 .bf16) (a : Fin 128) (b : Fin 512) :
    shapeCast S128x512 R shapeCasts_S1x128x512_S128x512 (ix2 a b) = R (ix3 0 a b) := by
  refine (shapeCast_dropUnit_apply ![128, 512] R _ _).trans (congrArg R ?_)
  funext i; match i with | ⟨0, _⟩ => rfl | ⟨1, _⟩ => rfl | ⟨2, _⟩ => rfl
theorem bc_apply (r : ℕ) (hr : r < 16) (hs) (n : Vec F S1x16x512 .f32) (a : Fin 128) (b : Fin 512) :
    bc r hs n (ix2 a b) = FloatOps.truncf .bf16 bitsLt_bf16_f32 (n (ix3 0 (⟨r, hr⟩ : Fin 16) b)) := by
  unfold bc
  rw [shapeCast_self]
  show FloatOps.truncf .bf16 bitsLt_bf16_f32 (shapeCast S16x512 n shapeCasts_S1x16x512_S16x512 _) = _
  congr 1
  refine (shapeCast_dropUnit_apply ![16, 512] n _ _).trans (congrArg n ?_)
  funext i; match i with | ⟨0, _⟩ => rfl | ⟨1, _⟩ => exact Fin.ext (by show r + 0 = r; rfl) | ⟨2, _⟩ => exact Fin.ext (Nat.zero_add _)
theorem wterm_apply (r : ℕ) (hr : r < 16) (hs) (R E : Vec F S1x128x512 .bf16) (N G : Vec F S1x16x512 .f32) (a : Fin 128) (b : Fin 512) :
    wterm r hs R E N G (ix2 a b) = termS (R (ix3 0 a b)) (E (ix3 0 a b)) (N (ix3 0 (⟨r, hr⟩ : Fin 16) b)) (G (ix3 0 (⟨r, hr⟩ : Fin 16) b)) := by
  show FloatOps.mulf (Scalar.select (FloatOps.cmpf .olt (shapeCast S128x512 R shapeCasts_S1x128x512_S128x512 (ix2 a b)) (bc r hs N (ix2 a b))) (shapeCast S128x512 E shapeCasts_S1x128x512_S128x512 (ix2 a b)) (Scalar.ofBits .bf16 0x0000#16)) (bc r hs G (ix2 a b)) = _
  rw [shapeCast3_apply, shapeCast3_apply, bc_apply r hr, bc_apply r hr]; rfl
theorem wrow_apply (r : ℕ) (hr : r < 16) (hs) (o : ℕ) (ho) (A : FVec F S256x512 .f32) (R E : Fin 8 → Vec F S1x128x512 .bf16) (N G : Fin 8 → Vec F S1x16x512 .f32)
    (ho' : o ≤ 128) (a : Fin 128) (b : Fin 512) :
    wrow r hs o ho A R E N G (ix3 0 a b) = FloatOps.mulf (geluS (FloatOps.truncf .bf16 bitsLt_bf16_f32 (A (ix2 (⟨o + a.val, by omega⟩ : Fin 256) b))))
      (FloatOps.addf (FloatOps.addf (FloatOps.addf (FloatOps.addf (FloatOps.addf (FloatOps.addf (FloatOps.addf
        (wterm r hs (R 0) (E 0) (N 0) (G 0) (ix2 a b)) (wterm r hs (R 1) (E 1) (N 1) (G 1) (ix2 a b))) (wterm r hs (R 2) (E 2) (N 2) (G 2) (ix2 a b))) (wterm r hs (R 3) (E 3) (N 3) (G 3) (ix2 a b)))
        (wterm r hs (R 4) (E 4) (N 4) (G 4) (ix2 a b))) (wterm r hs (R 5) (E 5) (N 5) (G 5) (ix2 a b))) (wterm r hs (R 6) (E 6) (N 6) (G 6) (ix2 a b))) (wterm r hs (R 7) (E 7) (N 7) (G 7) (ix2 a b))) := by
  unfold wrow
  refine (shapeCast_addUnit_apply ![128, 512] _ _ _).trans ?_
  rw [show ((fun a_1 => ix3 (0 : Fin 1) a b a_1.succ) : (⟨2, ![128, 512]⟩ : Shape).Idx) = ix2 a b from by
    funext i; match i with | ⟨0, _⟩ => rfl | ⟨1, _⟩ => rfl]
  show FloatOps.mulf (wgelu (truncf .bf16 (extractStridedSlice S128x512 ![o, 0] A ho) bitsLt_bf16_f32) (ix2 a b)) _ = _
  have hA : extractStridedSlice S128x512 ![o, 0] A ho (ix2 a b) = A (ix2 (⟨o + a.val, by omega⟩ : Fin 256) b) :=
    congrArg A (by funext i; match i with | ⟨0, _⟩ => rfl | ⟨1, _⟩ => exact Fin.ext (Nat.zero_add _))
  rw [show wgelu (truncf .bf16 (extractStridedSlice S128x512 ![o, 0] A ho) bitsLt_bf16_f32) (ix2 a b)
      = geluS (FloatOps.truncf .bf16 bitsLt_bf16_f32 (extractStridedSlice S128x512 ![o, 0] A ho (ix2 a b))) from rfl, hA]
  rfl
/-- A store's payload is the block's weighted activations at its rows. -/
theorem wrow_val {ub : Vec F S2048x1024 .bf16} {x2 : Vec F S512x1024 .bf16} {x5 x6 : Vec F S8x128x512 .bf16} {x7 x8 : Vec F S8x128x512 .f32}
    (eb : Fin 8) (r : Fin 16) (hs) (o : ℕ) (ho) (hor : o = 128 * (r.val % 2)) (A : FVec F S256x512 .f32) (hA : A = actP ub x2 ⟨r.val / 2, by omega⟩)
    (R E : Fin 8 → Vec F S1x128x512 .bf16) (N G : Fin 8 → Vec F S1x16x512 .f32)
    (hR : ∀ h a b, R h (ix3 0 a b) = x5 (ix3 h a b)) (hE : ∀ h a b, E h (ix3 0 a b) = x6 (ix3 h a b))
    (hN : ∀ h (a : Fin 16) b, N h (ix3 0 a b) = x7 (ix3 h (⟨16 * eb.val + a.val, by omega⟩ : Fin 128) b))
    (hG : ∀ h (a : Fin 16) b, G h (ix3 0 a b) = x8 (ix3 h (⟨16 * eb.val + a.val, by omega⟩ : Fin 128) b)) (a : Fin 128) (b : Fin 512) :
    wrow r.val hs o ho A R E N G (ix3 0 a b) = actG ub x2 x5 x6 x7 x8 eb ⟨128 * r.val + a.val, by omega⟩ b := by
  rw [wrow_apply r.val r.isLt hs o ho A R E N G (by omega) a b]
  simp only [wterm_apply r.val r.isLt, hR, hE, hN, hG]
  subst hA hor
  have e1 : (⟨(128 * r.val + a.val) / 256, by omega⟩ : Fin 8) = ⟨r.val / 2, by omega⟩ := Fin.ext (by show (128 * r.val + a.val) / 256 = r.val / 2; omega)
  have e2 : (⟨(128 * r.val + a.val) % 256, by omega⟩ : Fin 256) = ⟨128 * (r.val % 2) + a.val, by omega⟩ := Fin.ext (by show (128 * r.val + a.val) % 256 = 128 * (r.val % 2) + a.val; omega)
  have e3 : (⟨16 * eb.val + (128 * r.val + a.val) / 128, by omega⟩ : Fin 128) = ⟨16 * eb.val + r.val, by omega⟩ := Fin.ext (by show 16 * eb.val + (128 * r.val + a.val) / 128 = 16 * eb.val + r.val; omega)
  have e4 : (⟨(128 * r.val + a.val) % 128, by omega⟩ : Fin 128) = a := Fin.ext (by show (128 * r.val + a.val) % 128 = a.val; omega)
  unfold actG
  simp only [e1, e2, e3, e4]
  rfl

/-! ## Loads and stores -/

theorem inb_ldA (h : Fin 8) : ∀ a, (![h.val, 0, 0] : Fin 3 → ℕ) a + S1x128x512.size a ≤ S8x128x512.size a := by
  have := h.isLt; intro a; fin_cases a <;> simp <;> omega
/-- Head `h` of a selector's tile, loaded. -/
def ldA (m : Memref sig .tc .vmem S8x128x512 .bf16) (hm : m.IsWhole) (x : Vec F S8x128x512 .bf16) (h : Fin 8) : Vec F S1x128x512 .bf16 :=
  View.readAt (Elt F) m.view (Rect.unit (s := S8x128x512) ![h.val, 0, 0] S1x128x512.size (inb_ldA h)).toLoadRect (hm.unread x)
theorem ldA_apply (m : Memref sig .tc .vmem S8x128x512 .bf16) (hm : m.IsWhole) (x : Vec F S8x128x512 .bf16) (h : Fin 8) (a : Fin 128) (b : Fin 512) :
    ldA m hm x h (ix3 0 a b) = x (ix3 h a b) := by
  refine (hm.readAt_unread x _ _).trans (congrArg x ?_)
  funext i; match i with
    | ⟨0, _⟩ => exact Fin.ext (by show h.val + 1 * 0 = h.val; omega)
    | ⟨1, _⟩ => exact Fin.ext (by show 0 + 1 * a.val = a.val; omega)
    | ⟨2, _⟩ => exact Fin.ext (by show 0 + 1 * b.val = b.val; omega)
/-- Sixteen rows of a head of a selector's tile, loaded. -/
def ldN (m : Memref sig .tc .vmem S8x128x512 .f32) (hm : m.IsWhole) (x : Vec F S8x128x512 .f32) (off : Fin 8 → Fin 3 → ℕ)
    (inb : ∀ h a, off h a + S1x16x512.size a ≤ S8x128x512.size a) (h : Fin 8) : Vec F S1x16x512 .f32 :=
  View.readAt (Elt F) m.view (Rect.unit (s := S8x128x512) (off h) S1x16x512.size (inb h)).toLoadRect (hm.unread x)
theorem ldN_apply (m : Memref sig .tc .vmem S8x128x512 .f32) (hm : m.IsWhole) (x : Vec F S8x128x512 .f32) (off inb) (eb : Fin 8)
    (ho : ∀ h : Fin 8, off h = ![h.val, 16 * eb.val, 0]) (h : Fin 8) (a : Fin 16) (b : Fin 512) :
    ldN m hm x off inb h (ix3 0 a b) = x (ix3 h (⟨16 * eb.val + a.val, by omega⟩ : Fin 128) b) := by
  refine (hm.readAt_unread x _ _).trans (congrArg x ?_)
  have h0 := congrFun (ho h) 0; have h1 := congrFun (ho h) 1; have h2 := congrFun (ho h) 2
  funext i; match i with
    | ⟨0, _⟩ => exact Fin.ext (by show off h 0 + 1 * 0 = h.val; rw [h0]; simp)
    | ⟨1, _⟩ => exact Fin.ext (by show off h 1 + 1 * a.val = 16 * eb.val + a.val; rw [h1]; simp)
    | ⟨2, _⟩ => exact Fin.ext (by show off h 2 + 1 * b.val = b.val; rw [h2]; simp)
/-- A part of a slot of the `u` ring after a block landed there. -/
theorem readU (s : Fin 3) (p : Fin 8) (f g) (off : Fin 3 → ℕ) (ho : off = ![s.val, 256 * p.val, 0]) (inb) (a : Fin 256) (b : Fin 1024) :
    View.readAt (Elt F) bufU.view (Rect.unit (s := S3x2048x1024) off S1x256x1024.size inb).toLoadRect
      ((rslotU s).view.writes (Elt F) f [⟨Rect.whole S2048x1024, g⟩]) (ix3 0 a b) = g (ix2 (⟨256 * p.val + a.val, by omega⟩ : Fin 2048) b) := by
  subst ho
  have h := congrFun (View.read_writes_full (Val := Elt F) (rslotU s).view f (off := fun _ => 0) (fun _ => by omega) g []) (ix2 (⟨256 * p.val + a.val, by omega⟩ : Fin 2048) b)
  refine Eq.trans ?_ h
  refine Eq.trans ?_ (congrFun (Memref.read_squeeze_slice bufU (Rect.unit (s := S3x2048x1024) ![s.val, 0, 0] S1x2048x1024.size (inb_slotU s)) (fun _ => rfl)
    squeezes_S1x2048x1024_S2048x1024 (show S1x2048x1024.ShapeCasts S2048x1024 from by decide) _).symm _)
  refine Eq.trans ?_ (shapeCast_dropUnit_apply ![2048, 1024] _ _ _).symm
  refine congrArg (View.read (Elt F) bufU.view _) ?_
  funext i; match i with
    | ⟨0, _⟩ => exact Fin.ext (by show s.val + 1 * 0 = s.val + 1 * 0; rfl)
    | ⟨1, _⟩ => exact Fin.ext (by show 256 * p.val + 1 * a.val = 0 + 1 * (256 * p.val + a.val); omega)
    | ⟨2, _⟩ => exact Fin.ext (by show 0 + 1 * b.val = 0 + 1 * b.val; rfl)
/-- A slot of the `v` ring after a block landed there. -/
theorem readV (s : Fin 3) (f g) (off : Fin 3 → ℕ) (ho : off = ![s.val, 0, 0]) (inb) (a : Fin 1024) (b : Fin 2048) :
    View.readAt (Elt F) bufV.view (Rect.unit (s := S3x1024x2048) off S1x1024x2048.size inb).toLoadRect
      ((rslotV s).view.writes (Elt F) f [⟨Rect.whole S1024x2048, g⟩]) (ix3 0 a b) = g (ix2 a b) := by
  subst ho
  have h := congrFun (View.read_writes_full (Val := Elt F) (rslotV s).view f (off := fun _ => 0) (fun _ => by omega) g []) (ix2 a b)
  refine Eq.trans ?_ h
  refine Eq.trans ?_ (congrFun (Memref.read_squeeze_slice bufV (Rect.unit (s := S3x1024x2048) ![s.val, 0, 0] S1x1024x2048.size (inb_slotV s)) (fun _ => rfl)
    squeezes_S1x1024x2048_S1024x2048 (show S1x1024x2048.ShapeCasts S1024x2048 from by decide) _).symm _)
  refine Eq.trans ?_ (shapeCast_dropUnit_apply ![1024, 2048] _ _ _).symm
  refine congrArg (View.read (Elt F) bufV.view _) ?_
  funext i; match i with
    | ⟨0, _⟩ => rfl
    | ⟨1, _⟩ => rfl
    | ⟨2, _⟩ => rfl
/-- The blocks of the tables that a ring's step moves. -/
def ublk {c : Dev nD} (wU : HbBuf (F := F) c tabU) (k : ℕ) : Vec F S2048x1024 .bf16 := (srcU (Ring.bk 512 k)).view.read (Elt F) wU
def vblk {c : Dev nD} (wV : HbBuf (F := F) c tabV) (k : ℕ) : Vec F S1024x2048 .bf16 := (srcV (Ring.bk 512 k)).view.read (Elt F) wV
/-- The activations of a part of the block that landed. -/
theorem actP_of (s : Fin 3) (p : Fin 8) (f) (g : Vec F S2048x1024 .bf16) (off : Fin 3 → ℕ) (ho : off = ![s.val, 256 * p.val, 0]) (inb)
    (arg2 : Memref sig .tc .vmem S512x1024 .bf16) (harg2 : arg2.IsWhole) (x2 : Vec F S512x1024 .bf16) (inb2) (hc) :
    matmul dot_S256x1024_S512x1024_S256x512_1_1_0_0_n_n none
      (shapeCast S256x1024 (View.readAt (Elt F) bufU.view (Rect.unit (s := S3x2048x1024) off S1x256x1024.size inb).toLoadRect
        ((rslotU s).view.writes (Elt F) f [⟨Rect.whole S2048x1024, g⟩]) : Vec F S1x256x1024 .bf16) hc)
      (View.readAt (Elt F) arg2.view (Rect.unit (s := S512x1024) ![0, 0] S512x1024.size inb2).toLoadRect (harg2.unread x2)) (constant S256x512 .f32 0#32) = actP g x2 p := by
  unfold actP
  refine congrArg₂ (fun (A : Vec F S256x1024 .bf16) (B : Vec F S512x1024 .bf16) => matmul dot_S256x1024_S512x1024_S256x512_1_1_0_0_n_n none A B (constant S256x512 .f32 0#32)) ?_ ?_
  · funext j
    refine (shapeCast_dropUnit_apply ![256, 1024] _ _ _).trans ?_
    refine Eq.trans ?_ (readU s p f g off ho inb (j 0) (j 1))
    refine congrArg _ ?_
    funext i; match i with | ⟨0, _⟩ => rfl | ⟨1, _⟩ => rfl | ⟨2, _⟩ => rfl
  · rw [View.readAt_full]; exact harg2.read_unread x2
/-- The point's term of the sum, from what landed and the block the point before left. -/
theorem updN_of (s : Fin 3) (f) (g : Vec F S1024x2048 .bf16) (off : Fin 3 → ℕ) (ho : off = ![s.val, 0, 0]) (inb) (hc)
    (f15 : BufTy.Contents (Elt F) actM.view.ty) (q : Fin 2) (off' : Fin 3 → ℕ) (ho' : off' = ![q.val, 0, 0]) (inb') (hc')
    (a : Vec F S2048x512 .bf16) (ha : ∀ e τ, actM.view.read (Elt F) f15 (ix3 q e τ) = a (ix2 e τ)) :
    matmul dot_S1024x2048_S2048x512_S1024x512_1_0_0_1_n_n none
      (shapeCast S1024x2048 (View.readAt (Elt F) bufV.view (Rect.unit (s := S3x1024x2048) off S1x1024x2048.size inb).toLoadRect
        ((rslotV s).view.writes (Elt F) f [⟨Rect.whole S1024x2048, g⟩]) : Vec F S1x1024x2048 .bf16) hc)
      (shapeCast S2048x512 (View.readAt (Elt F) actM.view (Rect.unit (s := S2x2048x512) off' S1x2048x512.size inb').toLoadRect f15 : Vec F S1x2048x512 .bf16) hc')
      (constant S1024x512 .f32 0#32) = updN g a := by
  unfold updN
  refine congrArg₂ (fun (A : Vec F S1024x2048 .bf16) (B : Vec F S2048x512 .bf16) => matmul dot_S1024x2048_S2048x512_S1024x512_1_0_0_1_n_n none A B (constant S1024x512 .f32 0#32)) ?_ ?_
  · funext j
    refine (shapeCast_dropUnit_apply ![1024, 2048] _ _ _).trans ?_
    refine Eq.trans ?_ ((readV s f g off ho inb (j 0) (j 1)).trans (congrArg g (ix2_eta j)))
    refine congrArg _ ?_
    funext i; match i with | ⟨0, _⟩ => rfl | ⟨1, _⟩ => rfl | ⟨2, _⟩ => rfl
  · funext j
    refine (shapeCast_dropUnit_apply ![2048, 512] _ _ _).trans ?_
    refine Eq.trans ?_ ((ha (j 0) (j 1)).trans (congrArg a (ix2_eta j)))
    subst ho'
    refine congrArg (View.read (Elt F) actM.view f15) ?_
    funext i; match i with
      | ⟨0, _⟩ => exact Fin.ext (by show q.val + 1 * 0 = q.val; omega)
      | ⟨1, _⟩ => exact Fin.ext (by show 0 + 1 * (j 0).val = (j 0).val; omega)
      | ⟨2, _⟩ => exact Fin.ext (by show 0 + 1 * (j 1).val = (j 1).val; omega)
/-- Sixteen stores of 128 rows leave the block. -/
theorem act_piece (p : Fin 2) (r : Fin 16) (G : Fin 2048 → Fin 512 → F .bf16) (o : Fin 3 → ℕ) (ho : o = ![p.val, 128 * r.val, 0]) (inb)
    (w : (Rect.unit (s := S2x2048x512) o S1x128x512.size inb).shape.Idx → F .bf16) (hw : ∀ (a : Fin 128) (b : Fin 512), w (ix3 0 a b) = G ⟨128 * r.val + a.val, by omega⟩ b) (x) :
    w x = G (((Rect.unit (s := S2x2048x512) o S1x128x512.size inb).emb x) 1) (((Rect.unit (s := S2x2048x512) o S1x128x512.size inb).emb x) 2) := by
  subst ho
  have hx : x = ix3 (0 : Fin 1) (x 1 : Fin 128) (x 2 : Fin 512) := by
    funext i; match i with | ⟨0, _⟩ => exact Subsingleton.elim (α := Fin 1) _ _ | ⟨1, _⟩ => rfl | ⟨2, _⟩ => rfl
  refine (congrArg w hx).trans ((hw (x 1) (x 2)).trans ?_)
  congr 1
  · exact Fin.ext (by show 128 * r.val + (x 1).val = 128 * r.val + 1 * (x 1).val; omega)
  · exact Fin.ext (by show (x 2).val = 0 + 1 * (x 2).val; omega)
theorem mem_piece (p : Fin 2) (r : Fin 16) (o : Fin 3 → ℕ) (ho : o = ![p.val, 128 * r.val, 0]) (inb) (e : Fin 2048) (τ : Fin 512) (he : r.val = e.val / 128) :
    (ix3 p e τ : S2x2048x512.Idx) ∈ (Rect.unit (s := S2x2048x512) o S1x128x512.size inb).set := by
  subst ho
  refine Rect.mem_set_unit.2 fun a => ?_
  match a with
    | ⟨0, _⟩ => exact ⟨by show p.val ≤ p.val; omega, by show p.val < p.val + 1; omega⟩
    | ⟨1, _⟩ => exact ⟨by show 128 * r.val ≤ e.val; omega, by show e.val < 128 * r.val + 128; omega⟩
    | ⟨2, _⟩ => exact ⟨by show 0 ≤ τ.val; omega, by show τ.val < 0 + 512; omega⟩
set_option maxHeartbeats 2000000 in
theorem act_of_pieces (p : Fin 2) (f : BufTy.Contents (Elt F) actM.view.ty) (G : Fin 2048 → Fin 512 → F .bf16) (o0 : Fin 3 → ℕ) (ho0 : o0 = ![p.val, 0, 0]) (inb0) (w0 : (Rect.unit (s := S2x2048x512) o0 S1x128x512.size inb0).shape.Idx → F .bf16) (hw0 : ∀ (a : Fin 128) (b : Fin 512), w0 (ix3 0 a b) = G ⟨0 + a.val, by omega⟩ b) (o1 : Fin 3 → ℕ) (ho1 : o1 = ![p.val, 128, 0]) (inb1) (w1 : (Rect.unit (s := S2x2048x512) o1 S1x128x512.size inb1).shape.Idx → F .bf16) (hw1 : ∀ (a : Fin 128) (b : Fin 512), w1 (ix3 0 a b) = G ⟨128 + a.val, by omega⟩ b) (o2 : Fin 3 → ℕ) (ho2 : o2 = ![p.val, 256, 0]) (inb2) (w2 : (Rect.unit (s := S2x2048x512) o2 S1x128x512.size inb2).shape.Idx → F .bf16) (hw2 : ∀ (a : Fin 128) (b : Fin 512), w2 (ix3 0 a b) = G ⟨256 + a.val, by omega⟩ b) (o3 : Fin 3 → ℕ) (ho3 : o3 = ![p.val, 384, 0]) (inb3) (w3 : (Rect.unit (s := S2x2048x512) o3 S1x128x512.size inb3).shape.Idx → F .bf16) (hw3 : ∀ (a : Fin 128) (b : Fin 512), w3 (ix3 0 a b) = G ⟨384 + a.val, by omega⟩ b) (o4 : Fin 3 → ℕ) (ho4 : o4 = ![p.val, 512, 0]) (inb4) (w4 : (Rect.unit (s := S2x2048x512) o4 S1x128x512.size inb4).shape.Idx → F .bf16) (hw4 : ∀ (a : Fin 128) (b : Fin 512), w4 (ix3 0 a b) = G ⟨512 + a.val, by omega⟩ b) (o5 : Fin 3 → ℕ) (ho5 : o5 = ![p.val, 640, 0]) (inb5) (w5 : (Rect.unit (s := S2x2048x512) o5 S1x128x512.size inb5).shape.Idx → F .bf16) (hw5 : ∀ (a : Fin 128) (b : Fin 512), w5 (ix3 0 a b) = G ⟨640 + a.val, by omega⟩ b) (o6 : Fin 3 → ℕ) (ho6 : o6 = ![p.val, 768, 0]) (inb6) (w6 : (Rect.unit (s := S2x2048x512) o6 S1x128x512.size inb6).shape.Idx → F .bf16) (hw6 : ∀ (a : Fin 128) (b : Fin 512), w6 (ix3 0 a b) = G ⟨768 + a.val, by omega⟩ b) (o7 : Fin 3 → ℕ) (ho7 : o7 = ![p.val, 896, 0]) (inb7) (w7 : (Rect.unit (s := S2x2048x512) o7 S1x128x512.size inb7).shape.Idx → F .bf16) (hw7 : ∀ (a : Fin 128) (b : Fin 512), w7 (ix3 0 a b) = G ⟨896 + a.val, by omega⟩ b) (o8 : Fin 3 → ℕ) (ho8 : o8 = ![p.val, 1024, 0]) (inb8) (w8 : (Rect.unit (s := S2x2048x512) o8 S1x128x512.size inb8).shape.Idx → F .bf16) (hw8 : ∀ (a : Fin 128) (b : Fin 512), w8 (ix3 0 a b) = G ⟨1024 + a.val, by omega⟩ b) (o9 : Fin 3 → ℕ) (ho9 : o9 = ![p.val, 1152, 0]) (inb9) (w9 : (Rect.unit (s := S2x2048x512) o9 S1x128x512.size inb9).shape.Idx → F .bf16) (hw9 : ∀ (a : Fin 128) (b : Fin 512), w9 (ix3 0 a b) = G ⟨1152 + a.val, by omega⟩ b) (o10 : Fin 3 → ℕ) (ho10 : o10 = ![p.val, 1280, 0]) (inb10) (w10 : (Rect.unit (s := S2x2048x512) o10 S1x128x512.size inb10).shape.Idx → F .bf16) (hw10 : ∀ (a : Fin 128) (b : Fin 512), w10 (ix3 0 a b) = G ⟨1280 + a.val, by omega⟩ b) (o11 : Fin 3 → ℕ) (ho11 : o11 = ![p.val, 1408, 0]) (inb11) (w11 : (Rect.unit (s := S2x2048x512) o11 S1x128x512.size inb11).shape.Idx → F .bf16) (hw11 : ∀ (a : Fin 128) (b : Fin 512), w11 (ix3 0 a b) = G ⟨1408 + a.val, by omega⟩ b) (o12 : Fin 3 → ℕ) (ho12 : o12 = ![p.val, 1536, 0]) (inb12) (w12 : (Rect.unit (s := S2x2048x512) o12 S1x128x512.size inb12).shape.Idx → F .bf16) (hw12 : ∀ (a : Fin 128) (b : Fin 512), w12 (ix3 0 a b) = G ⟨1536 + a.val, by omega⟩ b) (o13 : Fin 3 → ℕ) (ho13 : o13 = ![p.val, 1664, 0]) (inb13) (w13 : (Rect.unit (s := S2x2048x512) o13 S1x128x512.size inb13).shape.Idx → F .bf16) (hw13 : ∀ (a : Fin 128) (b : Fin 512), w13 (ix3 0 a b) = G ⟨1664 + a.val, by omega⟩ b) (o14 : Fin 3 → ℕ) (ho14 : o14 = ![p.val, 1792, 0]) (inb14) (w14 : (Rect.unit (s := S2x2048x512) o14 S1x128x512.size inb14).shape.Idx → F .bf16) (hw14 : ∀ (a : Fin 128) (b : Fin 512), w14 (ix3 0 a b) = G ⟨1792 + a.val, by omega⟩ b) (o15 : Fin 3 → ℕ) (ho15 : o15 = ![p.val, 1920, 0]) (inb15) (w15 : (Rect.unit (s := S2x2048x512) o15 S1x128x512.size inb15).shape.Idx → F .bf16) (hw15 : ∀ (a : Fin 128) (b : Fin 512), w15 (ix3 0 a b) = G ⟨1920 + a.val, by omega⟩ b) (e : Fin 2048) (τ : Fin 512) :
    actM.view.read (Elt F) (actM.view.writes (Elt F) f [(⟨Rect.unit (s := S2x2048x512) o15 S1x128x512.size inb15, w15⟩ : View.Piece (Elt F) S2x2048x512 .bf16), (⟨Rect.unit (s := S2x2048x512) o14 S1x128x512.size inb14, w14⟩ : View.Piece (Elt F) S2x2048x512 .bf16), (⟨Rect.unit (s := S2x2048x512) o13 S1x128x512.size inb13, w13⟩ : View.Piece (Elt F) S2x2048x512 .bf16), (⟨Rect.unit (s := S2x2048x512) o12 S1x128x512.size inb12, w12⟩ : View.Piece (Elt F) S2x2048x512 .bf16), (⟨Rect.unit (s := S2x2048x512) o11 S1x128x512.size inb11, w11⟩ : View.Piece (Elt F) S2x2048x512 .bf16), (⟨Rect.unit (s := S2x2048x512) o10 S1x128x512.size inb10, w10⟩ : View.Piece (Elt F) S2x2048x512 .bf16), (⟨Rect.unit (s := S2x2048x512) o9 S1x128x512.size inb9, w9⟩ : View.Piece (Elt F) S2x2048x512 .bf16), (⟨Rect.unit (s := S2x2048x512) o8 S1x128x512.size inb8, w8⟩ : View.Piece (Elt F) S2x2048x512 .bf16), (⟨Rect.unit (s := S2x2048x512) o7 S1x128x512.size inb7, w7⟩ : View.Piece (Elt F) S2x2048x512 .bf16), (⟨Rect.unit (s := S2x2048x512) o6 S1x128x512.size inb6, w6⟩ : View.Piece (Elt F) S2x2048x512 .bf16), (⟨Rect.unit (s := S2x2048x512) o5 S1x128x512.size inb5, w5⟩ : View.Piece (Elt F) S2x2048x512 .bf16), (⟨Rect.unit (s := S2x2048x512) o4 S1x128x512.size inb4, w4⟩ : View.Piece (Elt F) S2x2048x512 .bf16), (⟨Rect.unit (s := S2x2048x512) o3 S1x128x512.size inb3, w3⟩ : View.Piece (Elt F) S2x2048x512 .bf16), (⟨Rect.unit (s := S2x2048x512) o2 S1x128x512.size inb2, w2⟩ : View.Piece (Elt F) S2x2048x512 .bf16), (⟨Rect.unit (s := S2x2048x512) o1 S1x128x512.size inb1, w1⟩ : View.Piece (Elt F) S2x2048x512 .bf16), (⟨Rect.unit (s := S2x2048x512) o0 S1x128x512.size inb0, w0⟩ : View.Piece (Elt F) S2x2048x512 .bf16)]) (ix3 p e τ) = G e τ := by
  refine View.read_writes_apply_of_pieces (v := actM.view) (f := f) (fun y : S2x2048x512.Idx => G (y 1) (y 2)) _ ?_ (ix3 p e τ) ?_
  · intro q hq
    simp only [List.mem_cons, List.not_mem_nil, or_false] at hq
    rcases hq with rfl | rfl | rfl | rfl | rfl | rfl | rfl | rfl | rfl | rfl | rfl | rfl | rfl | rfl | rfl | rfl
    · exact act_piece p 15 G o15 ho15 inb15 w15 hw15
    · exact act_piece p 14 G o14 ho14 inb14 w14 hw14
    · exact act_piece p 13 G o13 ho13 inb13 w13 hw13
    · exact act_piece p 12 G o12 ho12 inb12 w12 hw12
    · exact act_piece p 11 G o11 ho11 inb11 w11 hw11
    · exact act_piece p 10 G o10 ho10 inb10 w10 hw10
    · exact act_piece p 9 G o9 ho9 inb9 w9 hw9
    · exact act_piece p 8 G o8 ho8 inb8 w8 hw8
    · exact act_piece p 7 G o7 ho7 inb7 w7 hw7
    · exact act_piece p 6 G o6 ho6 inb6 w6 hw6
    · exact act_piece p 5 G o5 ho5 inb5 w5 hw5
    · exact act_piece p 4 G o4 ho4 inb4 w4 hw4
    · exact act_piece p 3 G o3 ho3 inb3 w3 hw3
    · exact act_piece p 2 G o2 ho2 inb2 w2 hw2
    · exact act_piece p 1 G o1 ho1 inb1 w1 hw1
    · exact act_piece p 0 G o0 ho0 inb0 w0 hw0
  · have he : e.val / 128 < 16 := by omega
    obtain ⟨k, hk⟩ : ∃ k, k = e.val / 128 := ⟨_, rfl⟩
    rw [← hk] at he
    interval_cases k
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))), mem_piece p 0 o0 ho0 inb0 e τ hk⟩
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))), mem_piece p 1 o1 ho1 inb1 e τ hk⟩
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))), mem_piece p 2 o2 ho2 inb2 e τ hk⟩
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))), mem_piece p 3 o3 ho3 inb3 e τ hk⟩
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))), mem_piece p 4 o4 ho4 inb4 e τ hk⟩
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))), mem_piece p 5 o5 ho5 inb5 e τ hk⟩
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))), mem_piece p 6 o6 ho6 inb6 e τ hk⟩
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))), mem_piece p 7 o7 ho7 inb7 e τ hk⟩
    · exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), mem_piece p 8 o8 ho8 inb8 e τ hk⟩
    · exact ⟨_, (List.mem_cons_of_mem _ (List.mem_cons_of_mem _ (List.mem_cons_of_mem _ (List.mem_cons_of_mem _ (List.mem_cons_of_mem _ (List.mem_cons_of_mem _ List.mem_cons_self)))))), mem_piece p 9 o9 ho9 inb9 e τ hk⟩
    · exact ⟨_, (List.mem_cons_of_mem _ (List.mem_cons_of_mem _ (List.mem_cons_of_mem _ (List.mem_cons_of_mem _ (List.mem_cons_of_mem _ List.mem_cons_self))))), mem_piece p 10 o10 ho10 inb10 e τ hk⟩
    · exact ⟨_, (List.mem_cons_of_mem _ (List.mem_cons_of_mem _ (List.mem_cons_of_mem _ (List.mem_cons_of_mem _ List.mem_cons_self)))), mem_piece p 11 o11 ho11 inb11 e τ hk⟩
    · exact ⟨_, (List.mem_cons_of_mem _ (List.mem_cons_of_mem _ (List.mem_cons_of_mem _ List.mem_cons_self))), mem_piece p 12 o12 ho12 inb12 e τ hk⟩
    · exact ⟨_, (List.mem_cons_of_mem _ (List.mem_cons_of_mem _ List.mem_cons_self)), mem_piece p 13 o13 ho13 inb13 e τ hk⟩
    · exact ⟨_, (List.mem_cons_of_mem _ List.mem_cons_self), mem_piece p 14 o14 ho14 inb14 e τ hk⟩
    · exact ⟨_, List.mem_cons_self, mem_piece p 15 o15 ho15 inb15 e τ hk⟩

/-! ## The points of the grid -/

/-- A point's block of experts, the half of the ring of activations it fills, and the half it takes from. -/
def ebF (n : ℕ) : Fin 8 := ⟨n % 9 % 8, by omega⟩
def curF (n : ℕ) : Fin 2 := ⟨n % 9 % 2, by omega⟩
def prvF (n : ℕ) : Fin 2 := ⟨1 - n % 9 % 2, by omega⟩
theorem ebF_val (n : ℕ) (h : n % 9 < 8) : (ebF n).val = n % 9 := by show n % 9 % 8 = n % 9; omega

def offN6 (t : Fin cfg0.N) : Fin 8 → Fin 3 → ℕ := ![k0_off26 (grid0.coords t), k0_off27 (grid0.coords t), k0_off28 (grid0.coords t), k0_off29 (grid0.coords t), k0_off30 (grid0.coords t), k0_off31 (grid0.coords t), k0_off32 (grid0.coords t), k0_off33 (grid0.coords t)]
theorem offN6_eq (t : Fin cfg0.N) (h9 : t.val % 9 < 8) : ∀ h : Fin 8, offN6 t h = ![h.val, 16 * (ebF t.val).val, 0] := by
  rw [ebF_val _ h9]
  intro h
  match h with
    | ⟨0, _⟩ => exact c_k0_off26 t
    | ⟨1, _⟩ => exact c_k0_off27 t
    | ⟨2, _⟩ => exact c_k0_off28 t
    | ⟨3, _⟩ => exact c_k0_off29 t
    | ⟨4, _⟩ => exact c_k0_off30 t
    | ⟨5, _⟩ => exact c_k0_off31 t
    | ⟨6, _⟩ => exact c_k0_off32 t
    | ⟨7, _⟩ => exact c_k0_off33 t
theorem offN6_inb (t : Fin cfg0.N) (h9 : t.val % 9 < 8) : ∀ h a, offN6 t h a + S1x16x512.size a ≤ S8x128x512.size a := by
  intro h a
  rw [offN6_eq t h9 h, ebF_val _ h9]
  have := h.isLt
  fin_cases a <;> simp <;> omega
def offN7 (t : Fin cfg0.N) : Fin 8 → Fin 3 → ℕ := ![k0_off60 (grid0.coords t), k0_off61 (grid0.coords t), k0_off62 (grid0.coords t), k0_off63 (grid0.coords t), k0_off64 (grid0.coords t), k0_off65 (grid0.coords t), k0_off66 (grid0.coords t), k0_off67 (grid0.coords t)]
theorem offN7_eq (t : Fin cfg0.N) (h9 : t.val % 9 < 8) : ∀ h : Fin 8, offN7 t h = ![h.val, 16 * (ebF t.val).val, 0] := by
  rw [ebF_val _ h9]
  intro h
  match h with
    | ⟨0, _⟩ => exact c_k0_off60 t
    | ⟨1, _⟩ => exact c_k0_off61 t
    | ⟨2, _⟩ => exact c_k0_off62 t
    | ⟨3, _⟩ => exact c_k0_off63 t
    | ⟨4, _⟩ => exact c_k0_off64 t
    | ⟨5, _⟩ => exact c_k0_off65 t
    | ⟨6, _⟩ => exact c_k0_off66 t
    | ⟨7, _⟩ => exact c_k0_off67 t
theorem offN7_inb (t : Fin cfg0.N) (h9 : t.val % 9 < 8) : ∀ h a, offN7 t h a + S1x16x512.size a ≤ S8x128x512.size a := by
  intro h a
  rw [offN7_eq t h9 h, ebF_val _ h9]
  have := h.isLt
  fin_cases a <;> simp <;> omega
/-- The sum after a point's addition. -/
theorem accN_of (f14 : BufTy.Contents (Elt F) accM.view.ty) (d14 : Vec F S1024x512 .f32) (h : accM.view.read (Elt F) f14 = d14) (U : FVec F S1024x512 .f32) (vb : Vec F S1024x2048 .bf16) (a : Vec F S2048x512 .bf16)
    (hU : U = updN vb a) (inb inb') : accM.view.read (Elt F) (accM.view.writes (Elt F) f14 [⟨Rect.unit (s := S1024x512) ![0, 0] S1024x512.size inb,
      k0_pay425 U (View.readAt (Elt F) accM.view (Rect.unit (s := S1024x512) ![0, 0] S1024x512.size inb').toLoadRect f14)⟩]) = accN d14 vb a := by
  refine (View.read_writes_full _ _ _ _ _).trans ?_
  unfold k0_pay425
  refine (shapeCast_self _ _).trans ?_
  rw [View.readAt_full, h, hU]; rfl
theorem zeroN_of (f14 : BufTy.Contents (Elt F) accM.view.ty) (inb) : accM.view.read (Elt F) (accM.view.writes (Elt F) f14 [⟨Rect.unit (s := S1024x512) ![0, 0] S1024x512.size inb, k0_pay423⟩]) = (k0_pay423 : FVec F S1024x512 .f32) :=
  View.read_writes_full _ _ _ _ _
theorem pay_congr {A A' : Vec F S256x1024 .f32} {B B' : Vec F S1x1x1024 .f32} {C C' : Vec F S1024x256 .f32} {D D' : Vec F S1x1024 .f32} {x x' : S256x1024.Idx}
    (hA : A = A') (hB : B = B') (hC : C = C') (hD : D = D') (hx : x = x') : k0_pay1 A B C D x = k0_pay1 A' B' C' D' x' := by subst hA hB hC hD hx; rfl
/-- The result's rows are two stores. -/
theorem outG_of (arg13 : Memref sig .tc .vmem S512x1024 .f32) (f13 : BufTy.Contents (Elt F) arg13.view.ty)
    (arg9 : Memref sig .tc .vmem S512x1024 .f32) (harg9 : arg9.IsWhole) (x9 : Vec F S512x1024 .f32)
    (arg10 : Memref sig .tc .vmem S1x1x1024 .f32) (harg10 : arg10.IsWhole) (x10 : Vec F S1x1x1024 .f32)
    (arg11 : Memref sig .tc .vmem S1x1x1024 .f32) (harg11 : arg11.IsWhole) (x11 : Vec F S1x1x1024 .f32)
    (arg12 : Memref sig .tc .vmem S1x1024 .f32) (harg12 : arg12.IsWhole) (x12 : Vec F S1x1024 .f32)
    (f14 : BufTy.Contents (Elt F) accM.view.ty) (d14 : Vec F S1024x512 .f32) (h : accM.view.read (Elt F) f14 = d14) (U : FVec F S1024x512 .f32) (vb : Vec F S1024x2048 .bf16) (a : Vec F S2048x512 .bf16)
    (hU : U = updN vb a) (j0 j1 j2 j3 j4 j5 j6 j7 j8 j9 j10 j11) :
    arg13.view.read (Elt F) (arg13.view.writes (Elt F) f13
      [⟨Rect.unit (s := S512x1024) ![256, 0] S256x1024.size j0, k0_pay1 (View.readAt (Elt F) arg9.view (Rect.unit (s := S512x1024) ![256, 0] S256x1024.size j1).toLoadRect (harg9.unread x9))
          (View.readAt (Elt F) arg11.view (Rect.unit (s := S1x1x1024) ![0, 0, 0] S1x1x1024.size j2).toLoadRect (harg11.unread x11))
          (accM.view.readCov [⟨Rect.unit (s := S1024x512) ![0, 0] S1024x512.size j3, k0_pay425 U (View.readAt (Elt F) accM.view (Rect.unit (s := S1024x512) ![0, 0] S1024x512.size j4).toLoadRect f14)⟩] (Rect.unit (s := S1024x512) ![0, 256] S1024x256.size j5).toLoadRect)
          (View.readAt (Elt F) arg12.view (Rect.unit (s := S1x1024) ![0, 0] S1x1024.size j6).toLoadRect (harg12.unread x12))⟩,
       ⟨Rect.unit (s := S512x1024) ![0, 0] S256x1024.size j7, k0_pay1 (View.readAt (Elt F) arg9.view (Rect.unit (s := S512x1024) ![0, 0] S256x1024.size j8).toLoadRect (harg9.unread x9))
          (View.readAt (Elt F) arg10.view (Rect.unit (s := S1x1x1024) ![0, 0, 0] S1x1x1024.size j9).toLoadRect (harg10.unread x10))
          (accM.view.readCov [⟨Rect.unit (s := S1024x512) ![0, 0] S1024x512.size j3, k0_pay425 U (View.readAt (Elt F) accM.view (Rect.unit (s := S1024x512) ![0, 0] S1024x512.size j4).toLoadRect f14)⟩] (Rect.unit (s := S1024x512) ![0, 0] S1024x256.size j10).toLoadRect)
          (View.readAt (Elt F) arg12.view (Rect.unit (s := S1x1024) ![0, 0] S1x1024.size j11).toLoadRect (harg12.unread x12))⟩]) = outG x9 x10 x11 x12 (accN d14 vb a) := by
  have hP : k0_pay425 U (View.readAt (Elt F) accM.view (Rect.unit (s := S1024x512) ![0, 0] S1024x512.size j4).toLoadRect f14) = accN d14 vb a := by
    unfold k0_pay425
    refine (shapeCast_self _ _).trans ?_
    rw [View.readAt_full, h, hU]; rfl
  rw [hP]
  have hacc : ∀ r : LoadRect S1024x512, ∀ y, accM.view.readCov (Val := Elt F) [⟨Rect.unit (s := S1024x512) ![0, 0] S1024x512.size j3, accN d14 vb a⟩] r y = accN d14 vb a (r.idx y) := by
    intro r y
    unfold View.readCov
    rw [View.readAt_apply, View.read_writes_full]
  have hx9 : ∀ r y, View.readAt (Elt F) arg9.view r (harg9.unread x9) y = x9 (r.idx y) := fun r y => harg9.readAt_unread x9 r y
  have hx10 : View.readAt (Elt F) arg10.view (Rect.unit (s := S1x1x1024) ![0, 0, 0] S1x1x1024.size j9).toLoadRect (harg10.unread x10) = x10 := by rw [View.readAt_full]; exact harg10.read_unread x10
  have hx11 : View.readAt (Elt F) arg11.view (Rect.unit (s := S1x1x1024) ![0, 0, 0] S1x1x1024.size j2).toLoadRect (harg11.unread x11) = x11 := by rw [View.readAt_full]; exact harg11.read_unread x11
  have hx12 : View.readAt (Elt F) arg12.view (Rect.unit (s := S1x1024) ![0, 0] S1x1024.size j6).toLoadRect (harg12.unread x12) = x12 := by rw [View.readAt_full]; exact harg12.read_unread x12
  have hx12' : View.readAt (Elt F) arg12.view (Rect.unit (s := S1x1024) ![0, 0] S1x1024.size j11).toLoadRect (harg12.unread x12) = x12 := hx12
  rw [hx10, hx11, hx12]
  funext j
  refine View.read_writes_apply_of_pieces (v := arg13.view) (f := f13) (outG x9 x10 x11 x12 (accN d14 vb a)) _ ?_ j ?_
  · intro q hq
    simp only [List.mem_cons, List.not_mem_nil, or_false] at hq
    rcases hq with rfl | rfl
    · intro x
      have hlt : ¬ (((Rect.unit (s := S512x1024) ![256, 0] S256x1024.size j0).emb x) 0).val < 256 := by show ¬ (256 + 1 * (x 0).val < 256); omega
      unfold outG
      rw [dif_neg hlt]
      exact pay_congr (by
          funext i; rw [hx9]; refine congrArg x9 ?_
          funext k; match k with
            | ⟨0, _⟩ => exact Fin.ext (by show 256 + 1 * (i 0).val = 256 + (i 0).val; omega)
            | ⟨1, _⟩ => exact Fin.ext (by show 0 + 1 * (i 1).val = (i 1).val; omega)) rfl (by
          funext i; rw [hacc]; refine congrArg (accN d14 vb a) ?_
          funext k; match k with
            | ⟨0, _⟩ => exact Fin.ext (by show 0 + 1 * (i 0).val = (i 0).val; omega)
            | ⟨1, _⟩ => exact Fin.ext (by show 256 + 1 * (i 1).val = 256 + (i 1).val; omega)) rfl (by
          funext k; match k with
            | ⟨0, _⟩ => exact Fin.ext (by show (x 0).val = 256 + 1 * (x 0).val - 256; omega)
            | ⟨1, _⟩ => exact Fin.ext (by show (x 1).val = 0 + 1 * (x 1).val; omega))
    · intro x
      have hlt : (((Rect.unit (s := S512x1024) ![0, 0] S256x1024.size j7).emb x) 0).val < 256 := by
        have h1 : (x 0).val < 256 := (x 0).isLt
        show 0 + 1 * (x 0).val < 256; omega
      unfold outG
      rw [dif_pos hlt]
      exact pay_congr (by
          funext i; rw [hx9]; refine congrArg x9 ?_
          funext k; match k with
            | ⟨0, _⟩ => exact Fin.ext (by show 0 + 1 * (i 0).val = (i 0).val; omega)
            | ⟨1, _⟩ => exact Fin.ext (by show 0 + 1 * (i 1).val = (i 1).val; omega)) rfl (by
          funext i; rw [hacc]; refine congrArg (accN d14 vb a) ?_
          funext k; match k with
            | ⟨0, _⟩ => exact Fin.ext (by show 0 + 1 * (i 0).val = (i 0).val; omega)
            | ⟨1, _⟩ => exact Fin.ext (by show 0 + 1 * (i 1).val = (i 1).val; omega)) rfl (by
          funext k; match k with
            | ⟨0, _⟩ => exact Fin.ext (by show (x 0).val = 0 + 1 * (x 0).val; omega)
            | ⟨1, _⟩ => exact Fin.ext (by show (x 1).val = 0 + 1 * (x 1).val; omega))
  · by_cases hj : (j 0).val < 256
    · refine ⟨_, List.mem_cons_of_mem _ List.mem_cons_self, (?_ : j ∈ (Rect.unit (s := S512x1024) ![0, 0] S256x1024.size j7).set)⟩
      refine Rect.mem_set_unit.2 fun a => ?_
      match a with
        | ⟨0, _⟩ => exact ⟨Nat.zero_le _, by show (j 0).val < 0 + 256; omega⟩
        | ⟨1, _⟩ => exact ⟨Nat.zero_le _, by have := (j 1).isLt; show (j 1).val < 0 + 1024; simpa using this⟩
    · refine ⟨_, List.mem_cons_self, (?_ : j ∈ (Rect.unit (s := S512x1024) ![256, 0] S256x1024.size j0).set)⟩
      refine Rect.mem_set_unit.2 fun a => ?_
      match a with
        | ⟨0, _⟩ => exact ⟨by show 256 ≤ (j 0).val; omega, by have := (j 0).isLt; show (j 0).val < 256 + 256; simpa using this⟩
        | ⟨1, _⟩ => exact ⟨Nat.zero_le _, by have := (j 1).isLt; show (j 1).val < 0 + 1024; simpa using this⟩

end Cert.KernelIdeal.Pd

end
-- ==== Proof.Ideal.Data.lean ====
/- The proof data of the pipeline: what every point of the grid computes, the invariant between points, the steps of the rings. -/
module

public import proofs.«01_k».proof.Proof.Ideal.Spec

@[expose] public section

set_option maxRecDepth 16384

noncomputable section

namespace Cert.KernelIdeal.Pd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-! ## What the points compute -/

/-- A point of the grid by its number. -/
def pt (n : ℕ) : Fin cfg0.N := ⟨n % 576, lt_of_lt_of_eq (Nat.mod_lt n (by decide)) N_0.symm⟩
theorem pt_val (t : Fin cfg0.N) : pt t.val = t := Fin.ext (by
  have h : t.val < 576 := lt_of_lt_of_eq t.isLt N_0
  show t.val % 576 = t.val; omega)
/-- The weighted activations of the block of experts that point `n` computes. -/
def actAt (c : Dev nD) (n : ℕ) : Vec F S2048x512 .bf16 := fun j =>
  actG (ublk (c := c) (V m c main_v12) (ku n)) (iblk m c 0 (pt n)) (iblk m c 1 (pt n)) (iblk m c 2 (pt n)) (iblk m c 3 (pt n)) (iblk m c 4 (pt n)) (ebF n) (j 0) (j 1)
/-- The sum over the experts after point `n`: it starts anew at each tile, and takes in the block of the point before. -/
def accAt (c : Dev nD) : ℕ → Vec F S1024x512 .f32
  | 0 => k0_pay423
  | n + 1 => if (n + 1) % 9 = 0 then k0_pay423 else accN (accAt c n) (vblk (c := c) (V m c main_v11) (kv (n + 1))) (actAt m c n)
theorem accAt_zero (c : Dev nD) (n : ℕ) (h : n % 9 = 0) : accAt m c n = k0_pay423 := by
  match n with
  | 0 => rfl
  | n + 1 => exact if_pos h
theorem accAt_pos (c : Dev nD) (n : ℕ) (h : 1 ≤ n % 9) : accAt m c n = accN (accAt m c (n - 1)) (vblk (c := c) (V m c main_v11) (kv n)) (actAt m c (n - 1)) := by
  match n with
  | 0 => simp at h
  | n + 1 => exact if_neg (by omega)

/-- What the scratch holds before point `n`. -/
def scrAt (c : Dev nD) (n : ℕ) : sProp 𝕄 :=
  if n % 9 = 0 then iprop((∃ d, owns (c : Thread nD τ) accM fullShare d) ∗ (∃ d, owns (c : Thread nD τ) actM fullShare d))
  else iprop(owns (c : Thread nD τ) accM fullShare (accAt m c (n - 1))
    ∗ (∃ d, ⌜∀ (e : Fin 2048) (τ : Fin 512), d (ix3 (curF (n - 1)) e τ) = actAt m c (n - 1) (ix2 e τ)⌝ ∗ owns (c : Thread nD τ) actM fullShare d))
/-- The invariant before point `n`: the scratch, the generator register, the two rings. -/
def PhiR (c : Dev nD) (n : ℕ) : sProp 𝕄 :=
  iprop(scrAt m c n ∗ (∃ r, prngReg c r)
    ∗ (if n = 0 then ringU₀ c (V m c main_v12) else ringU c (V m c main_v12) (ku n))
    ∗ (if n = 0 then ringV₀ c (V m c main_v11) else ringV c (V m c main_v11) (kv n)))

/-- The proof data of the pipeline on core `c`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outG (iblk m c 5 t) (iblk m c 6 t) (iblk m c 7 t) (iblk m c 8 t) (accAt m c t.val)
  Φ t := PhiR m c t.val
  q w := Pipeline.shareOf spec0 w
  owed _ := 0
theorem A_eq (c : Dev nD) (w : Fin cfg0.W) : (dats m 0 c).A w = V m c (Pipeline.arrRef spec0 w) := by
  dsimp only [dats]
theorem PhiR_castSucc (c : Dev nD) (t : Fin cfg0.N) : (dats m 0 c).Φ t.castSucc = PhiR m c t.val := by
  dsimp only [dats]; simp only [Fin.coe_castSucc]
theorem PhiR_succ (c : Dev nD) (t : Fin cfg0.N) : (dats m 0 c).Φ t.succ = PhiR m c (t.val + 1) := by
  dsimp only [dats]; simp only [Fin.val_succ]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = outG (iblk m c 5 t) (iblk m c 6 t) (iblk m c 7 t) (iblk m c 8 t) (accAt m c t.val) := by dsimp only [dats]
theorem before0 (c : Dev nD) (t : Fin cfg0.N) (d) : (dats m 0 c).before 0 t d = iblk m c 0 t :=
  beforeD0 m (dats m 0 c) (A_eq m c 0) (after0 m c) t d
theorem before1 (c : Dev nD) (t : Fin cfg0.N) (d) : (dats m 0 c).before 1 t d = iblk m c 1 t :=
  beforeD1 m (dats m 0 c) (A_eq m c 1) (after1 m c) t d
theorem before2 (c : Dev nD) (t : Fin cfg0.N) (d) : (dats m 0 c).before 2 t d = iblk m c 2 t :=
  beforeD2 m (dats m 0 c) (A_eq m c 2) (after2 m c) t d
theorem before3 (c : Dev nD) (t : Fin cfg0.N) (d) : (dats m 0 c).before 3 t d = iblk m c 3 t :=
  beforeD3 m (dats m 0 c) (A_eq m c 3) (after3 m c) t d
theorem before4 (c : Dev nD) (t : Fin cfg0.N) (d) : (dats m 0 c).before 4 t d = iblk m c 4 t :=
  beforeD4 m (dats m 0 c) (A_eq m c 4) (after4 m c) t d
theorem before5 (c : Dev nD) (t : Fin cfg0.N) (d) : (dats m 0 c).before 5 t d = iblk m c 5 t :=
  beforeD5 m (dats m 0 c) (A_eq m c 5) (after5 m c) t d
theorem before6 (c : Dev nD) (t : Fin cfg0.N) (d) : (dats m 0 c).before 6 t d = iblk m c 6 t :=
  beforeD6 m (dats m 0 c) (A_eq m c 6) (after6 m c) t d
theorem before7 (c : Dev nD) (t : Fin cfg0.N) (d) : (dats m 0 c).before 7 t d = iblk m c 7 t :=
  beforeD7 m (dats m 0 c) (A_eq m c 7) (after7 m c) t d
theorem before8 (c : Dev nD) (t : Fin cfg0.N) (d) : (dats m 0 c).before 8 t d = iblk m c 8 t :=
  beforeD8 m (dats m 0 c) (A_eq m c 8) (after8 m c) t d
theorem leaves0 (c : Dev nD) (t : Fin cfg0.N) : (dats m 0 c).leavesExact 0 t = owns (c : Thread nD τ) (ms0 t) fullShare (iblk m c 0 t) := by
  rw [show (dats m 0 c).leavesExact 0 t = owns (c : Thread nD τ) (ms0 t) fullShare ((dats m 0 c).after 0 t) from by
    unfold Dat.leavesExact; rw [live0 t], after0]
theorem leaves1 (c : Dev nD) (t : Fin cfg0.N) : (dats m 0 c).leavesExact 1 t = owns (c : Thread nD τ) (ms1 t) fullShare (iblk m c 1 t) := by
  rw [show (dats m 0 c).leavesExact 1 t = owns (c : Thread nD τ) (ms1 t) fullShare ((dats m 0 c).after 1 t) from by
    unfold Dat.leavesExact; rw [live1 t], after1]
theorem leaves2 (c : Dev nD) (t : Fin cfg0.N) : (dats m 0 c).leavesExact 2 t = owns (c : Thread nD τ) (ms2 t) fullShare (iblk m c 2 t) := by
  rw [show (dats m 0 c).leavesExact 2 t = owns (c : Thread nD τ) (ms2 t) fullShare ((dats m 0 c).after 2 t) from by
    unfold Dat.leavesExact; rw [live2 t], after2]
theorem leaves3 (c : Dev nD) (t : Fin cfg0.N) : (dats m 0 c).leavesExact 3 t = owns (c : Thread nD τ) (ms3 t) fullShare (iblk m c 3 t) := by
  rw [show (dats m 0 c).leavesExact 3 t = owns (c : Thread nD τ) (ms3 t) fullShare ((dats m 0 c).after 3 t) from by
    unfold Dat.leavesExact; rw [live3 t], after3]
theorem leaves4 (c : Dev nD) (t : Fin cfg0.N) : (dats m 0 c).leavesExact 4 t = owns (c : Thread nD τ) (ms4 t) fullShare (iblk m c 4 t) := by
  rw [show (dats m 0 c).leavesExact 4 t = owns (c : Thread nD τ) (ms4 t) fullShare ((dats m 0 c).after 4 t) from by
    unfold Dat.leavesExact; rw [live4 t], after4]
theorem leaves5 (c : Dev nD) (t : Fin cfg0.N) : (dats m 0 c).leavesExact 5 t = owns (c : Thread nD τ) (ms5 t) fullShare (iblk m c 5 t) := by
  rw [show (dats m 0 c).leavesExact 5 t = owns (c : Thread nD τ) (ms5 t) fullShare ((dats m 0 c).after 5 t) from by
    unfold Dat.leavesExact; rw [live5 t], after5]
theorem leaves6 (c : Dev nD) (t : Fin cfg0.N) : (dats m 0 c).leavesExact 6 t = owns (c : Thread nD τ) (ms6 t) fullShare (iblk m c 6 t) := by
  rw [show (dats m 0 c).leavesExact 6 t = owns (c : Thread nD τ) (ms6 t) fullShare ((dats m 0 c).after 6 t) from by
    unfold Dat.leavesExact; rw [live6 t], after6]
theorem leaves7 (c : Dev nD) (t : Fin cfg0.N) : (dats m 0 c).leavesExact 7 t = owns (c : Thread nD τ) (ms7 t) fullShare (iblk m c 7 t) := by
  rw [show (dats m 0 c).leavesExact 7 t = owns (c : Thread nD τ) (ms7 t) fullShare ((dats m 0 c).after 7 t) from by
    unfold Dat.leavesExact; rw [live7 t], after7]
theorem leaves8 (c : Dev nD) (t : Fin cfg0.N) : (dats m 0 c).leavesExact 8 t = owns (c : Thread nD τ) (ms8 t) fullShare (iblk m c 8 t) := by
  rw [show (dats m 0 c).leavesExact 8 t = owns (c : Thread nD τ) (ms8 t) fullShare ((dats m 0 c).after 8 t) from by
    unfold Dat.leavesExact; rw [live8 t], after8]
theorem flush9 : ∀ t : Fin cfg0.N, t.val % 9 < 8 → (cfg0.win 9).flush t = false := by decide +kernel
theorem leaves9_idle (c : Dev nD) (t : Fin cfg0.N) (h : t.val % 9 < 8) :
    (dats m 0 c).leavesExact 9 t = iprop(∃ d, owns (c : Thread nD τ) (ms9 t) fullShare ((dats m 0 c).before 9 t d)) :=
  Dat.leavesExact_idle (dats m 0 c) 9 t (by
    rw [idle9]
    have : ¬ k0_cond8 (grid0.coords t) = 1#1 := fun h8 => by have := (hcond8 t).1 h8; omega
    simpa using this) (flush9 t h)
theorem leaves9_live (c : Dev nD) (t : Fin cfg0.N) (h : t.val % 9 = 8) :
    (dats m 0 c).leavesExact 9 t = owns (c : Thread nD τ) (ms9 t) fullShare (outG (iblk m c 5 t) (iblk m c 6 t) (iblk m c 7 t) (iblk m c 8 t) (accAt m c t.val)) := by
  rw [show (dats m 0 c).leavesExact 9 t = owns (c : Thread nD τ) (ms9 t) fullShare ((dats m 0 c).after 9 t) from by
    unfold Dat.leavesExact
    rw [show cfg0.idle 9 (grid0.coords t) = false from by rw [idle9, (hcond8 t).2 h]; rfl], after9]

/-! ## The rings' steps -/

theorem ringU_pre (c : Dev nD) (W : HbBuf (F := F) c tabU) (k : ℕ) (h : k < 512) :
    ringU c W k = iprop(inflU c W (Ring.sl 3 k) (Ring.bk 512 k) ∗ flU c W (k + 1) ∗ freeU c W (Ring.sl 3 (k + 2))) := by
  unfold ringU; rw [flU_lt c W h]
theorem ringU_wi (c : Dev nD) (W : HbBuf (F := F) c tabU) (k : ℕ) (h : k + 2 < 512) :
    ringU c W (k + 1) = iprop(flU c W (k + 1) ∗ inflU c W (Ring.sl 3 (k + 2)) (Ring.bk 512 (k + 2)) ∗ freeU c W (Ring.sl 3 k)) := by
  unfold ringU
  rw [show k + 1 + 1 = k + 2 from rfl, flU_lt c W h, show Ring.sl 3 (k + 1 + 2) = Ring.sl 3 k from Fin.ext (by show (k + 1 + 2) % 3 = k % 3; omega)]
theorem ringU_w (c : Dev nD) (W : HbBuf (F := F) c tabU) (k : ℕ) (h : ¬ k + 2 < 512) :
    ringU c W (k + 1) = iprop(flU c W (k + 1) ∗ freeU c W (Ring.sl 3 (k + 2)) ∗ freeU c W (Ring.sl 3 k)) := by
  unfold ringU
  rw [show k + 1 + 1 = k + 2 from rfl, flU_ge c W h, show Ring.sl 3 (k + 1 + 2) = Ring.sl 3 k from Fin.ext (by show (k + 1 + 2) % 3 = k % 3; omega)]
theorem ringU₀_eq (c : Dev nD) (W : HbBuf (F := F) c tabU) (k : ℕ) (h : k = 0) :
    ringU₀ c W = iprop(freeU c W (Ring.sl 3 k) ∗ freeU c W (Ring.sl 3 (k + 1)) ∗ freeU c W (Ring.sl 3 (k + 2))) := by
  subst h; rfl
theorem ringV_pre (c : Dev nD) (W : HbBuf (F := F) c tabV) (k : ℕ) (h : k < 512) :
    ringV c W k = iprop(inflV c W (Ring.sl 3 k) (Ring.bk 512 k) ∗ flV c W (k + 1) ∗ freeV c W (Ring.sl 3 (k + 2))) := by
  unfold ringV; rw [flV_lt c W h]
theorem ringV_wi (c : Dev nD) (W : HbBuf (F := F) c tabV) (k : ℕ) (h : k + 2 < 512) :
    ringV c W (k + 1) = iprop(flV c W (k + 1) ∗ inflV c W (Ring.sl 3 (k + 2)) (Ring.bk 512 (k + 2)) ∗ freeV c W (Ring.sl 3 k)) := by
  unfold ringV
  rw [show k + 1 + 1 = k + 2 from rfl, flV_lt c W h, show Ring.sl 3 (k + 1 + 2) = Ring.sl 3 k from Fin.ext (by show (k + 1 + 2) % 3 = k % 3; omega)]
theorem ringV_w (c : Dev nD) (W : HbBuf (F := F) c tabV) (k : ℕ) (h : ¬ k + 2 < 512) :
    ringV c W (k + 1) = iprop(flV c W (k + 1) ∗ freeV c W (Ring.sl 3 (k + 2)) ∗ freeV c W (Ring.sl 3 k)) := by
  unfold ringV
  rw [show k + 1 + 1 = k + 2 from rfl, flV_ge c W h, show Ring.sl 3 (k + 1 + 2) = Ring.sl 3 k from Fin.ext (by show (k + 1 + 2) % 3 = k % 3; omega)]
theorem ringV₀_eq (c : Dev nD) (W : HbBuf (F := F) c tabV) (k : ℕ) (h : k = 0) :
    ringV₀ c W = iprop(freeV c W (Ring.sl 3 k) ∗ freeV c W (Ring.sl 3 (k + 1)) ∗ freeV c W (Ring.sl 3 (k + 2))) := by
  subst h; rfl

theorem prv_cur (n : ℕ) (h : 1 ≤ n % 9) : prvF n = curF (n - 1) := Fin.ext (by show 1 - n % 9 % 2 = (n - 1) % 9 % 2; omega)
theorem scrAt_zero (c : Dev nD) (n : ℕ) (h : n % 9 = 0) :
    scrAt m c n = iprop((∃ d, owns (c : Thread nD τ) accM fullShare d) ∗ (∃ d, owns (c : Thread nD τ) actM fullShare d)) := if_pos h
theorem scrAt_pos (c : Dev nD) (n : ℕ) (h : 1 ≤ n % 9) :
    scrAt m c n = iprop(owns (c : Thread nD τ) accM fullShare (accAt m c (n - 1))
      ∗ (∃ d, ⌜∀ (e : Fin 2048) (τ : Fin 512), d (ix3 (prvF n) e τ) = actAt m c (n - 1) (ix2 e τ)⌝ ∗ owns (c : Thread nD τ) actM fullShare d)) := by
  rw [prv_cur n h]; exact if_neg (by omega)
theorem actAt_pt (c : Dev nD) (t : Fin cfg0.N) (e : Fin 2048) (τ : Fin 512) : actAt m c t.val (ix2 e τ)
    = actG (ublk (c := c) (V m c main_v12) (ku t.val)) (iblk m c 0 t) (iblk m c 1 t) (iblk m c 2 t) (iblk m c 3 t) (iblk m c 4 t) (ebF t.val) e τ := by
  unfold actAt; rw [pt_val]; rfl
theorem scrAt_succ (c : Dev nD) (t : Fin cfg0.N) (h : t.val % 9 < 8) :
    scrAt m c (t.val + 1) = iprop(owns (c : Thread nD τ) accM fullShare (accAt m c t.val)
      ∗ (∃ d, ⌜∀ (e : Fin 2048) (τ : Fin 512), d (ix3 (curF t.val) e τ) = actG (ublk (c := c) (V m c main_v12) (ku t.val)) (iblk m c 0 t) (iblk m c 1 t) (iblk m c 2 t) (iblk m c 3 t) (iblk m c 4 t) (ebF t.val) e τ⌝ ∗ owns (c : Thread nD τ) actM fullShare d)) := by
  have e : scrAt m c (t.val + 1) = iprop(owns (c : Thread nD τ) accM fullShare (accAt m c t.val)
      ∗ (∃ d, ⌜∀ (e : Fin 2048) (τ : Fin 512), d (ix3 (curF t.val) e τ) = actAt m c t.val (ix2 e τ)⌝ ∗ owns (c : Thread nD τ) actM fullShare d)) := if_neg (by omega)
  rw [e]
  simp only [actAt_pt]

/-! ## The body obligation's two sides -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d)))
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

end Cert.KernelIdeal.Pd

end
-- ==== Proof.Ideal.RunA.lean ====
/- The run of the kernel's body at the points of case A. -/
module

public import proofs.«01_k».proof.Proof.Ideal.Spec

@[expose] public section

set_option maxRecDepth 16384

noncomputable section

namespace Cert.KernelIdeal.Pd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

set_option maxHeartbeats 4000000 in
theorem runA (c : Dev nD) (t : Fin cfg0.N) (arg2 : Memref sig .tc .vmem S512x1024 .bf16) (harg2 : arg2.IsWhole) (arg5 : Memref sig .tc .vmem S8x128x512 .bf16) (harg5 : arg5.IsWhole) (arg6 : Memref sig .tc .vmem S8x128x512 .bf16) (harg6 : arg6.IsWhole) (arg7 : Memref sig .tc .vmem S8x128x512 .f32) (harg7 : arg7.IsWhole) (arg8 : Memref sig .tc .vmem S8x128x512 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S512x1024 .f32) (harg13 : arg13.IsWhole)
    (hc1 : k0_cond1 (grid0.coords t) = 1#1) (hc2 : k0_cond2 (grid0.coords t) = 1#1) (hc3 : k0_cond3 (grid0.coords t) = 1#1) (hc4 : ¬ k0_cond4 (grid0.coords t) = 1#1) (hc6 : k0_cond6 (grid0.coords t) = 1#1) (hc7 : ¬ k0_cond7 (grid0.coords t) = 1#1) (hc8 : ¬ k0_cond8 (grid0.coords t) = 1#1)
    (x2 : Vec F S512x1024 .bf16) (x5 : Vec F S8x128x512 .bf16) (x6 : Vec F S8x128x512 .bf16) (x7 : Vec F S8x128x512 .f32) (x8 : Vec F S8x128x512 .f32) (x9 : Vec F S512x1024 .f32) (x10 : Vec F S1x1x1024 .f32) (x11 : Vec F S1x1x1024 .f32) (x12 : Vec F S1x1024 .f32) (wU : HbBuf (F := F) c tabU) (wV : HbBuf (F := F) c tabV) (x13 : Vec F S512x1024 .f32) :
      ∀ (W : Waits sig Unit) (K : PUnit → sProp 𝕄),
        iprop(owns (c : Thread nD τ) arg2 fullShare x2 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∃ d, owns (c : Thread nD τ) accM fullShare d) ∗ (∃ d, owns (c : Thread nD τ) actM fullShare d) ∗ Ring.free (cellPU c) (slotWU c wU) (Ring.sl 3 (ku t.val)) ∗ Ring.free (cellPU c) (slotWU c wU) (Ring.sl 3 (ku t.val + 1)) ∗ Ring.free (cellPU c) (slotWU c wU) (Ring.sl 3 (ku t.val + 2)) ∗ Ring.free (cellPV c) (slotWV c wV) (Ring.sl 3 (kv t.val)) ∗ Ring.free (cellPV c) (slotWV c wV) (Ring.sl 3 (kv t.val + 1)) ∗ Ring.free (cellPV c) (slotWV c wV) (Ring.sl 3 (kv t.val + 2)) ∗ owes (c : Thread nD τ) 0 W
            ∗ (iprop(owns (c : Thread nD τ) arg2 fullShare x2 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) accM fullShare k0_pay423 ∗ (∃ d, ⌜∀ (e : Fin 2048) (τ : Fin 512), d (ix3 (curF t.val) e τ) = actG (ublk wU (ku t.val)) x2 x5 x6 x7 x8 (ebF t.val) e τ⌝ ∗ owns (c : Thread nD τ) actM fullShare d) ∗ Ring.free (cellPU c) (slotWU c wU) (Ring.sl 3 (ku t.val)) ∗ Ring.inflight (flightWU c wU) (Ring.sl 3 (ku t.val + 1)) (Ring.bk 512 (ku t.val + 1)) ∗ Ring.inflight (flightWU c wU) (Ring.sl 3 (ku t.val + 2)) (Ring.bk 512 (ku t.val + 2)) ∗ Ring.inflight (flightWV c wV) (Ring.sl 3 (kv t.val)) (Ring.bk 512 (kv t.val)) ∗ Ring.inflight (flightWV c wV) (Ring.sl 3 (kv t.val + 1)) (Ring.bk 512 (kv t.val + 1)) ∗ Ring.free (cellPV c) (slotWV c wV) (Ring.sl 3 (kv t.val + 2)) ∗ (∃ W', owes (c : Thread nD τ) 0 W')) -∗ K ⟨⟩))
          ⊢ wp frame (wpE (defs₀ (F := F)) Variants.none c none) Set.univ (cc0_peer_dense (grid0.coords t) arg2 harg2 tabU (Memref.isWhole_whole _) tabV (Memref.isWhole_whole _) arg5 harg5 arg6 harg6 arg7 harg7 arg8 harg8 arg9 harg9 arg10 harg10 arg11 harg11 arg12 harg12 arg13 harg13 accM (Memref.isWhole_whole _) actM (Memref.isWhole_whole _) bufU (Memref.isWhole_whole _) bufV (Memref.isWhole_whole _) cc0_scratch4 cc0_scratch5) K := by
    intro W K
    haveI : Fact (k0_cond1 (grid0.coords t) = 1#1) := ⟨hc1⟩
    haveI : Fact (k0_cond2 (grid0.coords t) = 1#1) := ⟨hc2⟩
    haveI : Fact (k0_cond3 (grid0.coords t) = 1#1) := ⟨hc3⟩
    haveI : Fact (¬ k0_cond4 (grid0.coords t) = 1#1) := ⟨hc4⟩
    haveI : Fact (k0_cond6 (grid0.coords t) = 1#1) := ⟨hc6⟩
    haveI : Fact (¬ k0_cond7 (grid0.coords t) = 1#1) := ⟨hc7⟩
    haveI : Fact (¬ k0_cond8 (grid0.coords t) = 1#1) := ⟨hc8⟩
    simp only [cc0_peer_dense_eq_skeleton]; unfold cc0_peer_dense_skel
    simp only [k0_part125_eq_skeleton]
    unfold owns  Ring.free Ring.inflight
    iintro ⟨⟨%f2, %hf2, H2⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨HcU0, ⟨%gU0, HsU0, HwU0⟩⟩, ⟨HcU1, ⟨%gU1, HsU1, HwU1⟩⟩, ⟨HcU2, ⟨%gU2, HsU2, HwU2⟩⟩, ⟨HcV0, ⟨%gV0, HsV0, HwV0⟩⟩, ⟨HcV1, ⟨%gV1, HsV1, HwV1⟩⟩, ⟨HcV2, ⟨%gV2, HsV2, HwV2⟩⟩, HW, Hk⟩
    ihave HspU0 := (srcU_split c wU (Ring.sl 3 (ku t.val)) (Ring.bk 512 (ku t.val))).1 $$ HwU0
    icases HspU0 with ⟨HhU0, HrU0⟩
    ihave HspU1 := (srcU_split c wU (Ring.sl 3 (ku t.val + 1)) (Ring.bk 512 (ku t.val + 1))).1 $$ HwU1
    icases HspU1 with ⟨HhU1, HrU1⟩
    ihave HspU2 := (srcU_split c wU (Ring.sl 3 (ku t.val + 2)) (Ring.bk 512 (ku t.val + 2))).1 $$ HwU2
    icases HspU2 with ⟨HhU2, HrU2⟩
    ihave HspV0 := (srcV_split c wV (Ring.sl 3 (kv t.val)) (Ring.bk 512 (kv t.val))).1 $$ HwV0
    icases HspV0 with ⟨HhV0, HrV0⟩
    ihave HspV1 := (srcV_split c wV (Ring.sl 3 (kv t.val + 1)) (Ring.bk 512 (kv t.val + 1))).1 $$ HwV1
    icases HspV1 with ⟨HhV1, HrV1⟩
    obtain rfl := harg2.eq_unread hf2; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
    sl_exec (disch := first | sl_exact hc1 | sl_exact hc2 | sl_exact hc3 | sl_exact hc4 | sl_exact hc6 | sl_exact hc7 | sl_exact hc8)
    sl_step
    iapply Hk
    isplitl [H2]
    · iexists _; isplitr; · ipureintro; exact harg2.read_unread _
      iexact H2
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; swap; · iexact H13
      ipureintro; exact hf13
    isplitl [H14]
    · iexists _; isplitr; swap; · iexact H14
      ipureintro
      exact zeroN_of _ _
    isplitl [H15]
    · iexists _; isplitr; swap
      · iexists _; isplitr; swap; · iexact H15
        ipureintro; rfl
      ipureintro
      have h9 : t.val % 9 < 8 := (by have h := (hcond2 t).1 hc2; omega)
      have hR : ∀ h (a : Fin 128) b, ldA arg5 harg5 x5 h (ix3 0 a b) = x5 (ix3 h a b) := ldA_apply arg5 harg5 x5
      have hE : ∀ h (a : Fin 128) b, ldA arg6 harg6 x6 h (ix3 0 a b) = x6 (ix3 h a b) := ldA_apply arg6 harg6 x6
      have hN := ldN_apply arg7 harg7 x7 (offN6 t) (offN6_inb t h9) (ebF t.val) (offN6_eq t h9)
      have hG := ldN_apply arg8 harg8 x8 (offN6 t) (offN6_inb t h9) (ebF t.val) (offN6_eq t h9)
      have hA0 : ∀ f inb inb2 hc, _ := fun f inb inb2 hc => actP_of (Ring.sl 3 (ku t.val)) 0 f (ublk wU (ku t.val)) (k0_off18 (grid0.coords t)) (c_k0_off18 t) inb arg2 harg2 x2 inb2 hc
      have hA1 : ∀ f inb inb2 hc, _ := fun f inb inb2 hc => actP_of (Ring.sl 3 (ku t.val)) 1 f (ublk wU (ku t.val)) (k0_off19 (grid0.coords t)) (c_k0_off19 t) inb arg2 harg2 x2 inb2 hc
      have hA2 : ∀ f inb inb2 hc, _ := fun f inb inb2 hc => actP_of (Ring.sl 3 (ku t.val)) 2 f (ublk wU (ku t.val)) (k0_off20 (grid0.coords t)) (c_k0_off20 t) inb arg2 harg2 x2 inb2 hc
      have hA3 : ∀ f inb inb2 hc, _ := fun f inb inb2 hc => actP_of (Ring.sl 3 (ku t.val)) 3 f (ublk wU (ku t.val)) (k0_off21 (grid0.coords t)) (c_k0_off21 t) inb arg2 harg2 x2 inb2 hc
      have hA4 : ∀ f inb inb2 hc, _ := fun f inb inb2 hc => actP_of (Ring.sl 3 (ku t.val)) 4 f (ublk wU (ku t.val)) (k0_off22 (grid0.coords t)) (c_k0_off22 t) inb arg2 harg2 x2 inb2 hc
      have hA5 : ∀ f inb inb2 hc, _ := fun f inb inb2 hc => actP_of (Ring.sl 3 (ku t.val)) 5 f (ublk wU (ku t.val)) (k0_off23 (grid0.coords t)) (c_k0_off23 t) inb arg2 harg2 x2 inb2 hc
      have hA6 : ∀ f inb inb2 hc, _ := fun f inb inb2 hc => actP_of (Ring.sl 3 (ku t.val)) 6 f (ublk wU (ku t.val)) (k0_off24 (grid0.coords t)) (c_k0_off24 t) inb arg2 harg2 x2 inb2 hc
      have hA7 : ∀ f inb inb2 hc, _ := fun f inb inb2 hc => actP_of (Ring.sl 3 (ku t.val)) 7 f (ublk wU (ku t.val)) (k0_off25 (grid0.coords t)) (c_k0_off25 t) inb arg2 harg2 x2 inb2 hc
      intro e τ
      exact act_of_pieces (curF t.val) _ (actG (ublk wU (ku t.val)) x2 x5 x6 x7 x8 (ebF t.val))
        _ (c_k0_off34 t) _ _ (fun a b => wrow_val (ebF t.val) 0 _ 0 _ rfl _ (by exact hA0 _ _ _ _) (ldA arg5 harg5 x5) (ldA arg6 harg6 x6) (ldN arg7 harg7 x7 (offN6 t) (offN6_inb t h9)) (ldN arg8 harg8 x8 (offN6 t) (offN6_inb t h9)) hR hE hN hG a b)
        _ (c_k0_off35 t) _ _ (fun a b => wrow_val (ebF t.val) 1 _ 128 _ rfl _ (by exact hA0 _ _ _ _) (ldA arg5 harg5 x5) (ldA arg6 harg6 x6) (ldN arg7 harg7 x7 (offN6 t) (offN6_inb t h9)) (ldN arg8 harg8 x8 (offN6 t) (offN6_inb t h9)) hR hE hN hG a b)
        _ (c_k0_off36 t) _ _ (fun a b => wrow_val (ebF t.val) 2 _ 0 _ rfl _ (by exact hA1 _ _ _ _) (ldA arg5 harg5 x5) (ldA arg6 harg6 x6) (ldN arg7 harg7 x7 (offN6 t) (offN6_inb t h9)) (ldN arg8 harg8 x8 (offN6 t) (offN6_inb t h9)) hR hE hN hG a b)
        _ (c_k0_off37 t) _ _ (fun a b => wrow_val (ebF t.val) 3 _ 128 _ rfl _ (by exact hA1 _ _ _ _) (ldA arg5 harg5 x5) (ldA arg6 harg6 x6) (ldN arg7 harg7 x7 (offN6 t) (offN6_inb t h9)) (ldN arg8 harg8 x8 (offN6 t) (offN6_inb t h9)) hR hE hN hG a b)
        _ (c_k0_off38 t) _ _ (fun a b => wrow_val (ebF t.val) 4 _ 0 _ rfl _ (by exact hA2 _ _ _ _) (ldA arg5 harg5 x5) (ldA arg6 harg6 x6) (ldN arg7 harg7 x7 (offN6 t) (offN6_inb t h9)) (ldN arg8 harg8 x8 (offN6 t) (offN6_inb t h9)) hR hE hN hG a b)
        _ (c_k0_off39 t) _ _ (fun a b => wrow_val (ebF t.val) 5 _ 128 _ rfl _ (by exact hA2 _ _ _ _) (ldA arg5 harg5 x5) (ldA arg6 harg6 x6) (ldN arg7 harg7 x7 (offN6 t) (offN6_inb t h9)) (ldN arg8 harg8 x8 (offN6 t) (offN6_inb t h9)) hR hE hN hG a b)
        _ (c_k0_off40 t) _ _ (fun a b => wrow_val (ebF t.val) 6 _ 0 _ rfl _ (by exact hA3 _ _ _ _) (ldA arg5 harg5 x5) (ldA arg6 harg6 x6) (ldN arg7 harg7 x7 (offN6 t) (offN6_inb t h9)) (ldN arg8 harg8 x8 (offN6 t) (offN6_inb t h9)) hR hE hN hG a b)
        _ (c_k0_off41 t) _ _ (fun a b => wrow_val (ebF t.val) 7 _ 128 _ rfl _ (by exact hA3 _ _ _ _) (ldA arg5 harg5 x5) (ldA arg6 harg6 x6) (ldN arg7 harg7 x7 (offN6 t) (offN6_inb t h9)) (ldN arg8 harg8 x8 (offN6 t) (offN6_inb t h9)) hR hE hN hG a b)
        _ (c_k0_off42 t) _ _ (fun a b => wrow_val (ebF t.val) 8 _ 0 _ rfl _ (by exact hA4 _ _ _ _) (ldA arg5 harg5 x5) (ldA arg6 harg6 x6) (ldN arg7 harg7 x7 (offN6 t) (offN6_inb t h9)) (ldN arg8 harg8 x8 (offN6 t) (offN6_inb t h9)) hR hE hN hG a b)
        _ (c_k0_off43 t) _ _ (fun a b => wrow_val (ebF t.val) 9 _ 128 _ rfl _ (by exact hA4 _ _ _ _) (ldA arg5 harg5 x5) (ldA arg6 harg6 x6) (ldN arg7 harg7 x7 (offN6 t) (offN6_inb t h9)) (ldN arg8 harg8 x8 (offN6 t) (offN6_inb t h9)) hR hE hN hG a b)
        _ (c_k0_off44 t) _ _ (fun a b => wrow_val (ebF t.val) 10 _ 0 _ rfl _ (by exact hA5 _ _ _ _) (ldA arg5 harg5 x5) (ldA arg6 harg6 x6) (ldN arg7 harg7 x7 (offN6 t) (offN6_inb t h9)) (ldN arg8 harg8 x8 (offN6 t) (offN6_inb t h9)) hR hE hN hG a b)
        _ (c_k0_off45 t) _ _ (fun a b => wrow_val (ebF t.val) 11 _ 128 _ rfl _ (by exact hA5 _ _ _ _) (ldA arg5 harg5 x5) (ldA arg6 harg6 x6) (ldN arg7 harg7 x7 (offN6 t) (offN6_inb t h9)) (ldN arg8 harg8 x8 (offN6 t) (offN6_inb t h9)) hR hE hN hG a b)
        _ (c_k0_off46 t) _ _ (fun a b => wrow_val (ebF t.val) 12 _ 0 _ rfl _ (by exact hA6 _ _ _ _) (ldA arg5 harg5 x5) (ldA arg6 harg6 x6) (ldN arg7 harg7 x7 (offN6 t) (offN6_inb t h9)) (ldN arg8 harg8 x8 (offN6 t) (offN6_inb t h9)) hR hE hN hG a b)
        _ (c_k0_off47 t) _ _ (fun a b => wrow_val (ebF t.val) 13 _ 128 _ rfl _ (by exact hA6 _ _ _ _) (ldA arg5 harg5 x5) (ldA arg6 harg6 x6) (ldN arg7 harg7 x7 (offN6 t) (offN6_inb t h9)) (ldN arg8 harg8 x8 (offN6 t) (offN6_inb t h9)) hR hE hN hG a b)
        _ (c_k0_off48 t) _ _ (fun a b => wrow_val (ebF t.val) 14 _ 0 _ rfl _ (by exact hA7 _ _ _ _) (ldA arg5 harg5 x5) (ldA arg6 harg6 x6) (ldN arg7 harg7 x7 (offN6 t) (offN6_inb t h9)) (ldN arg8 harg8 x8 (offN6 t) (offN6_inb t h9)) hR hE hN hG a b)
        _ (c_k0_off49 t) _ _ (fun a b => wrow_val (ebF t.val) 15 _ 128 _ rfl _ (by exact hA7 _ _ _ _) (ldA arg5 harg5 x5) (ldA arg6 harg6 x6) (ldN arg7 harg7 x7 (offN6 t) (offN6_inb t h9)) (ldN arg8 harg8 x8 (offN6 t) (offN6_inb t h9)) hR hE hN hG a b) e τ
    isplitl [HcU0 HsU0 HhU0 HrU0]
    · isplitl [HcU0]; · iexact HcU0
      iexists _; isplitl [HsU0]; · iexact HsU0
      iapply (srcU_split c wU (Ring.sl 3 (ku t.val)) (Ring.bk 512 (ku t.val))).2; isplitl [HhU0]; · iexact HhU0
      iexact HrU0
    isplitl [HcU1 HrU1]
    · iexists _; isplitl [HcU1]; · iexact HcU1
      iexact HrU1
    isplitl [HcU2 HrU2]
    · iexists _; isplitl [HcU2]; · iexact HcU2
      iexact HrU2
    isplitl [HcV0 HrV0]
    · iexists _; isplitl [HcV0]; · iexact HcV0
      iexact HrV0
    isplitl [HcV1 HrV1]
    · iexists _; isplitl [HcV1]; · iexact HcV1
      iexact HrV1
    isplitl [HcV2 HsV2 HwV2]
    · isplitl [HcV2]; · iexact HcV2
      iexists _; isplitl [HsV2]; · iexact HsV2
      iexact HwV2
    iexists _; iexact HW

end Cert.KernelIdeal.Pd

end
-- ==== Proof.Ideal.RunB.lean ====
/- The run of the kernel's body at the points of case B. -/
module

public import proofs.«01_k».proof.Proof.Ideal.Spec

@[expose] public section

set_option maxRecDepth 16384

noncomputable section

namespace Cert.KernelIdeal.Pd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

set_option maxHeartbeats 4000000 in
theorem runB (c : Dev nD) (t : Fin cfg0.N) (arg2 : Memref sig .tc .vmem S512x1024 .bf16) (harg2 : arg2.IsWhole) (arg5 : Memref sig .tc .vmem S8x128x512 .bf16) (harg5 : arg5.IsWhole) (arg6 : Memref sig .tc .vmem S8x128x512 .bf16) (harg6 : arg6.IsWhole) (arg7 : Memref sig .tc .vmem S8x128x512 .f32) (harg7 : arg7.IsWhole) (arg8 : Memref sig .tc .vmem S8x128x512 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S512x1024 .f32) (harg13 : arg13.IsWhole)
    (hc1 : ¬ k0_cond1 (grid0.coords t) = 1#1) (hc2 : k0_cond2 (grid0.coords t) = 1#1) (hc3 : k0_cond3 (grid0.coords t) = 1#1) (hc4 : ¬ k0_cond4 (grid0.coords t) = 1#1) (hc6 : k0_cond6 (grid0.coords t) = 1#1) (hc7 : ¬ k0_cond7 (grid0.coords t) = 1#1) (hc8 : ¬ k0_cond8 (grid0.coords t) = 1#1)
    (x2 : Vec F S512x1024 .bf16) (x5 : Vec F S8x128x512 .bf16) (x6 : Vec F S8x128x512 .bf16) (x7 : Vec F S8x128x512 .f32) (x8 : Vec F S8x128x512 .f32) (x9 : Vec F S512x1024 .f32) (x10 : Vec F S1x1x1024 .f32) (x11 : Vec F S1x1x1024 .f32) (x12 : Vec F S1x1024 .f32) (wU : HbBuf (F := F) c tabU) (wV : HbBuf (F := F) c tabV) (x13 : Vec F S512x1024 .f32) :
      ∀ (W : Waits sig Unit) (K : PUnit → sProp 𝕄),
        iprop(owns (c : Thread nD τ) arg2 fullShare x2 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∃ d, owns (c : Thread nD τ) accM fullShare d) ∗ (∃ d, owns (c : Thread nD τ) actM fullShare d) ∗ Ring.inflight (flightWU c wU) (Ring.sl 3 (ku t.val)) (Ring.bk 512 (ku t.val)) ∗ Ring.free (cellPU c) (slotWU c wU) (Ring.sl 3 (ku t.val + 2)) ∗ owes (c : Thread nD τ) 0 W
            ∗ (iprop(owns (c : Thread nD τ) arg2 fullShare x2 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) accM fullShare k0_pay423 ∗ (∃ d, ⌜∀ (e : Fin 2048) (τ : Fin 512), d (ix3 (curF t.val) e τ) = actG (ublk wU (ku t.val)) x2 x5 x6 x7 x8 (ebF t.val) e τ⌝ ∗ owns (c : Thread nD τ) actM fullShare d) ∗ Ring.free (cellPU c) (slotWU c wU) (Ring.sl 3 (ku t.val)) ∗ Ring.inflight (flightWU c wU) (Ring.sl 3 (ku t.val + 2)) (Ring.bk 512 (ku t.val + 2)) ∗ (∃ W', owes (c : Thread nD τ) 0 W')) -∗ K ⟨⟩))
          ⊢ wp frame (wpE (defs₀ (F := F)) Variants.none c none) Set.univ (cc0_peer_dense (grid0.coords t) arg2 harg2 tabU (Memref.isWhole_whole _) tabV (Memref.isWhole_whole _) arg5 harg5 arg6 harg6 arg7 harg7 arg8 harg8 arg9 harg9 arg10 harg10 arg11 harg11 arg12 harg12 arg13 harg13 accM (Memref.isWhole_whole _) actM (Memref.isWhole_whole _) bufU (Memref.isWhole_whole _) bufV (Memref.isWhole_whole _) cc0_scratch4 cc0_scratch5) K := by
    intro W K
    haveI : Fact (¬ k0_cond1 (grid0.coords t) = 1#1) := ⟨hc1⟩
    haveI : Fact (k0_cond2 (grid0.coords t) = 1#1) := ⟨hc2⟩
    haveI : Fact (k0_cond3 (grid0.coords t) = 1#1) := ⟨hc3⟩
    haveI : Fact (¬ k0_cond4 (grid0.coords t) = 1#1) := ⟨hc4⟩
    haveI : Fact (k0_cond6 (grid0.coords t) = 1#1) := ⟨hc6⟩
    haveI : Fact (¬ k0_cond7 (grid0.coords t) = 1#1) := ⟨hc7⟩
    haveI : Fact (¬ k0_cond8 (grid0.coords t) = 1#1) := ⟨hc8⟩
    simp only [cc0_peer_dense_eq_skeleton]; unfold cc0_peer_dense_skel
    simp only [k0_part125_eq_skeleton]
    unfold owns  Ring.free Ring.inflight
    iintro ⟨⟨%f2, %hf2, H2⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%gU0, HfU0, HrU0⟩, ⟨HcU2, ⟨%gU2, HsU2, HwU2⟩⟩, HW, Hk⟩
    ihave HspU2 := (srcU_split c wU (Ring.sl 3 (ku t.val + 2)) (Ring.bk 512 (ku t.val + 2))).1 $$ HwU2
    icases HspU2 with ⟨HhU2, HrU2⟩
    obtain rfl := harg2.eq_unread hf2; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
    sl_exec (disch := first | sl_exact hc1 | sl_exact hc2 | sl_exact hc3 | sl_exact hc4 | sl_exact hc6 | sl_exact hc7 | sl_exact hc8)
    sl_step
    iapply Hk
    isplitl [H2]
    · iexists _; isplitr; · ipureintro; exact harg2.read_unread _
      iexact H2
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; swap; · iexact H13
      ipureintro; exact hf13
    isplitl [H14]
    · iexists _; isplitr; swap; · iexact H14
      ipureintro
      exact zeroN_of _ _
    isplitl [H15]
    · iexists _; isplitr; swap
      · iexists _; isplitr; swap; · iexact H15
        ipureintro; rfl
      ipureintro
      have h9 : t.val % 9 < 8 := (by have h := (hcond2 t).1 hc2; omega)
      have hR : ∀ h (a : Fin 128) b, ldA arg5 harg5 x5 h (ix3 0 a b) = x5 (ix3 h a b) := ldA_apply arg5 harg5 x5
      have hE : ∀ h (a : Fin 128) b, ldA arg6 harg6 x6 h (ix3 0 a b) = x6 (ix3 h a b) := ldA_apply arg6 harg6 x6
      have hN := ldN_apply arg7 harg7 x7 (offN6 t) (offN6_inb t h9) (ebF t.val) (offN6_eq t h9)
      have hG := ldN_apply arg8 harg8 x8 (offN6 t) (offN6_inb t h9) (ebF t.val) (offN6_eq t h9)
      have hA0 : ∀ f inb inb2 hc, _ := fun f inb inb2 hc => actP_of (Ring.sl 3 (ku t.val)) 0 f (ublk wU (ku t.val)) (k0_off18 (grid0.coords t)) (c_k0_off18 t) inb arg2 harg2 x2 inb2 hc
      have hA1 : ∀ f inb inb2 hc, _ := fun f inb inb2 hc => actP_of (Ring.sl 3 (ku t.val)) 1 f (ublk wU (ku t.val)) (k0_off19 (grid0.coords t)) (c_k0_off19 t) inb arg2 harg2 x2 inb2 hc
      have hA2 : ∀ f inb inb2 hc, _ := fun f inb inb2 hc => actP_of (Ring.sl 3 (ku t.val)) 2 f (ublk wU (ku t.val)) (k0_off20 (grid0.coords t)) (c_k0_off20 t) inb arg2 harg2 x2 inb2 hc
      have hA3 : ∀ f inb inb2 hc, _ := fun f inb inb2 hc => actP_of (Ring.sl 3 (ku t.val)) 3 f (ublk wU (ku t.val)) (k0_off21 (grid0.coords t)) (c_k0_off21 t) inb arg2 harg2 x2 inb2 hc
      have hA4 : ∀ f inb inb2 hc, _ := fun f inb inb2 hc => actP_of (Ring.sl 3 (ku t.val)) 4 f (ublk wU (ku t.val)) (k0_off22 (grid0.coords t)) (c_k0_off22 t) inb arg2 harg2 x2 inb2 hc
      have hA5 : ∀ f inb inb2 hc, _ := fun f inb inb2 hc => actP_of (Ring.sl 3 (ku t.val)) 5 f (ublk wU (ku t.val)) (k0_off23 (grid0.coords t)) (c_k0_off23 t) inb arg2 harg2 x2 inb2 hc
      have hA6 : ∀ f inb inb2 hc, _ := fun f inb inb2 hc => actP_of (Ring.sl 3 (ku t.val)) 6 f (ublk wU (ku t.val)) (k0_off24 (grid0.coords t)) (c_k0_off24 t) inb arg2 harg2 x2 inb2 hc
      have hA7 : ∀ f inb inb2 hc, _ := fun f inb inb2 hc => actP_of (Ring.sl 3 (ku t.val)) 7 f (ublk wU (ku t.val)) (k0_off25 (grid0.coords t)) (c_k0_off25 t) inb arg2 harg2 x2 inb2 hc
      intro e τ
      exact act_of_pieces (curF t.val) _ (actG (ublk wU (ku t.val)) x2 x5 x6 x7 x8 (ebF t.val))
        _ (c_k0_off34 t) _ _ (fun a b => wrow_val (ebF t.val) 0 _ 0 _ rfl _ (by exact hA0 _ _ _ _) (ldA arg5 harg5 x5) (ldA arg6 harg6 x6) (ldN arg7 harg7 x7 (offN6 t) (offN6_inb t h9)) (ldN arg8 harg8 x8 (offN6 t) (offN6_inb t h9)) hR hE hN hG a b)
        _ (c_k0_off35 t) _ _ (fun a b => wrow_val (ebF t.val) 1 _ 128 _ rfl _ (by exact hA0 _ _ _ _) (ldA arg5 harg5 x5) (ldA arg6 harg6 x6) (ldN arg7 harg7 x7 (offN6 t) (offN6_inb t h9)) (ldN arg8 harg8 x8 (offN6 t) (offN6_inb t h9)) hR hE hN hG a b)
        _ (c_k0_off36 t) _ _ (fun a b => wrow_val (ebF t.val) 2 _ 0 _ rfl _ (by exact hA1 _ _ _ _) (ldA arg5 harg5 x5) (ldA arg6 harg6 x6) (ldN arg7 harg7 x7 (offN6 t) (offN6_inb t h9)) (ldN arg8 harg8 x8 (offN6 t) (offN6_inb t h9)) hR hE hN hG a b)
        _ (c_k0_off37 t) _ _ (fun a b => wrow_val (ebF t.val) 3 _ 128 _ rfl _ (by exact hA1 _ _ _ _) (ldA arg5 harg5 x5) (ldA arg6 harg6 x6) (ldN arg7 harg7 x7 (offN6 t) (offN6_inb t h9)) (ldN arg8 harg8 x8 (offN6 t) (offN6_inb t h9)) hR hE hN hG a b)
        _ (c_k0_off38 t) _ _ (fun a b => wrow_val (ebF t.val) 4 _ 0 _ rfl _ (by exact hA2 _ _ _ _) (ldA arg5 harg5 x5) (ldA arg6 harg6 x6) (ldN arg7 harg7 x7 (offN6 t) (offN6_inb t h9)) (ldN arg8 harg8 x8 (offN6 t) (offN6_inb t h9)) hR hE hN hG a b)
        _ (c_k0_off39 t) _ _ (fun a b => wrow_val (ebF t.val) 5 _ 128 _ rfl _ (by exact hA2 _ _ _ _) (ldA arg5 harg5 x5) (ldA arg6 harg6 x6) (ldN arg7 harg7 x7 (offN6 t) (offN6_inb t h9)) (ldN arg8 harg8 x8 (offN6 t) (offN6_inb t h9)) hR hE hN hG a b)
        _ (c_k0_off40 t) _ _ (fun a b => wrow_val (ebF t.val) 6 _ 0 _ rfl _ (by exact hA3 _ _ _ _) (ldA arg5 harg5 x5) (ldA arg6 harg6 x6) (ldN arg7 harg7 x7 (offN6 t) (offN6_inb t h9)) (ldN arg8 harg8 x8 (offN6 t) (offN6_inb t h9)) hR hE hN hG a b)
        _ (c_k0_off41 t) _ _ (fun a b => wrow_val (ebF t.val) 7 _ 128 _ rfl _ (by exact hA3 _ _ _ _) (ldA arg5 harg5 x5) (ldA arg6 harg6 x6) (ldN arg7 harg7 x7 (offN6 t) (offN6_inb t h9)) (ldN arg8 harg8 x8 (offN6 t) (offN6_inb t h9)) hR hE hN hG a b)
        _ (c_k0_off42 t) _ _ (fun a b => wrow_val (ebF t.val) 8 _ 0 _ rfl _ (by exact hA4 _ _ _ _) (ldA arg5 harg5 x5) (ldA arg6 harg6 x6) (ldN arg7 harg7 x7 (offN6 t) (offN6_inb t h9)) (ldN arg8 harg8 x8 (offN6 t) (offN6_inb t h9)) hR hE hN hG a b)
        _ (c_k0_off43 t) _ _ (fun a b => wrow_val (ebF t.val) 9 _ 128 _ rfl _ (by exact hA4 _ _ _ _) (ldA arg5 harg5 x5) (ldA arg6 harg6 x6) (ldN arg7 harg7 x7 (offN6 t) (offN6_inb t h9)) (ldN arg8 harg8 x8 (offN6 t) (offN6_inb t h9)) hR hE hN hG a b)
        _ (c_k0_off44 t) _ _ (fun a b => wrow_val (ebF t.val) 10 _ 0 _ rfl _ (by exact hA5 _ _ _ _) (ldA arg5 harg5 x5) (ldA arg6 harg6 x6) (ldN arg7 harg7 x7 (offN6 t) (offN6_inb t h9)) (ldN arg8 harg8 x8 (offN6 t) (offN6_inb t h9)) hR hE hN hG a b)
        _ (c_k0_off45 t) _ _ (fun a b => wrow_val (ebF t.val) 11 _ 128 _ rfl _ (by exact hA5 _ _ _ _) (ldA arg5 harg5 x5) (ldA arg6 harg6 x6) (ldN arg7 harg7 x7 (offN6 t) (offN6_inb t h9)) (ldN arg8 harg8 x8 (offN6 t) (offN6_inb t h9)) hR hE hN hG a b)
        _ (c_k0_off46 t) _ _ (fun a b => wrow_val (ebF t.val) 12 _ 0 _ rfl _ (by exact hA6 _ _ _ _) (ldA arg5 harg5 x5) (ldA arg6 harg6 x6) (ldN arg7 harg7 x7 (offN6 t) (offN6_inb t h9)) (ldN arg8 harg8 x8 (offN6 t) (offN6_inb t h9)) hR hE hN hG a b)
        _ (c_k0_off47 t) _ _ (fun a b => wrow_val (ebF t.val) 13 _ 128 _ rfl _ (by exact hA6 _ _ _ _) (ldA arg5 harg5 x5) (ldA arg6 harg6 x6) (ldN arg7 harg7 x7 (offN6 t) (offN6_inb t h9)) (ldN arg8 harg8 x8 (offN6 t) (offN6_inb t h9)) hR hE hN hG a b)
        _ (c_k0_off48 t) _ _ (fun a b => wrow_val (ebF t.val) 14 _ 0 _ rfl _ (by exact hA7 _ _ _ _) (ldA arg5 harg5 x5) (ldA arg6 harg6 x6) (ldN arg7 harg7 x7 (offN6 t) (offN6_inb t h9)) (ldN arg8 harg8 x8 (offN6 t) (offN6_inb t h9)) hR hE hN hG a b)
        _ (c_k0_off49 t) _ _ (fun a b => wrow_val (ebF t.val) 15 _ 128 _ rfl _ (by exact hA7 _ _ _ _) (ldA arg5 harg5 x5) (ldA arg6 harg6 x6) (ldN arg7 harg7 x7 (offN6 t) (offN6_inb t h9)) (ldN arg8 harg8 x8 (offN6 t) (offN6_inb t h9)) hR hE hN hG a b) e τ
    isplitl [HfU0 HfU0_dst HfU0_src HrU0]
    · isplitl [HfU0]; · iexact HfU0
      iexists _; isplitl [HfU0_dst]; · iexact HfU0_dst
      iapply (srcU_split c wU (Ring.sl 3 (ku t.val)) (Ring.bk 512 (ku t.val))).2; isplitl [HfU0_src]; · iexact HfU0_src
      iexact HrU0
    isplitl [HcU2 HrU2]
    · iexists _; isplitl [HcU2]; · iexact HcU2
      iexact HrU2
    iexists _; iexact HW

end Cert.KernelIdeal.Pd

end
-- ==== Proof.Ideal.RunC.lean ====
/- The run of the kernel's body at the points of case C. -/
module

public import proofs.«01_k».proof.Proof.Ideal.Spec

@[expose] public section

set_option maxRecDepth 16384

noncomputable section

namespace Cert.KernelIdeal.Pd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

set_option maxHeartbeats 4000000 in
theorem runC (c : Dev nD) (t : Fin cfg0.N) (arg2 : Memref sig .tc .vmem S512x1024 .bf16) (harg2 : arg2.IsWhole) (arg5 : Memref sig .tc .vmem S8x128x512 .bf16) (harg5 : arg5.IsWhole) (arg6 : Memref sig .tc .vmem S8x128x512 .bf16) (harg6 : arg6.IsWhole) (arg7 : Memref sig .tc .vmem S8x128x512 .f32) (harg7 : arg7.IsWhole) (arg8 : Memref sig .tc .vmem S8x128x512 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S512x1024 .f32) (harg13 : arg13.IsWhole)
    (hc1 : ¬ k0_cond1 (grid0.coords t) = 1#1) (hc2 : k0_cond2 (grid0.coords t) = 1#1) (hc3 : k0_cond3 (grid0.coords t) = 1#1) (hc4 : k0_cond4 (grid0.coords t) = 1#1) (hc5 : k0_cond5 (grid0.coords t) = 1#1) (hc6 : ¬ k0_cond6 (grid0.coords t) = 1#1) (hc7 : k0_cond7 (grid0.coords t) = 1#1) (hc8 : ¬ k0_cond8 (grid0.coords t) = 1#1)
    (x2 : Vec F S512x1024 .bf16) (x5 : Vec F S8x128x512 .bf16) (x6 : Vec F S8x128x512 .bf16) (x7 : Vec F S8x128x512 .f32) (x8 : Vec F S8x128x512 .f32) (x9 : Vec F S512x1024 .f32) (x10 : Vec F S1x1x1024 .f32) (x11 : Vec F S1x1x1024 .f32) (x12 : Vec F S1x1024 .f32) (wU : HbBuf (F := F) c tabU) (wV : HbBuf (F := F) c tabV) (x13 : Vec F S512x1024 .f32) (d14 : Vec F S1024x512 .f32) (d15 : Vec F S2x2048x512 .bf16) (a : Vec F S2048x512 .bf16) (ha : ∀ (e : Fin 2048) (τ : Fin 512), d15 (ix3 (prvF t.val) e τ) = a (ix2 e τ)) :
      ∀ (W : Waits sig Unit) (K : PUnit → sProp 𝕄),
        iprop(owns (c : Thread nD τ) arg2 fullShare x2 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) accM fullShare d14 ∗ owns (c : Thread nD τ) actM fullShare d15 ∗ Ring.inflight (flightWU c wU) (Ring.sl 3 (ku t.val)) (Ring.bk 512 (ku t.val)) ∗ Ring.free (cellPU c) (slotWU c wU) (Ring.sl 3 (ku t.val + 2)) ∗ Ring.inflight (flightWV c wV) (Ring.sl 3 (kv t.val)) (Ring.bk 512 (kv t.val)) ∗ Ring.free (cellPV c) (slotWV c wV) (Ring.sl 3 (kv t.val + 2)) ∗ owes (c : Thread nD τ) 0 W
            ∗ (iprop(owns (c : Thread nD τ) arg2 fullShare x2 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) accM fullShare (accN d14 (vblk wV (kv t.val)) a) ∗ (∃ d, ⌜∀ (e : Fin 2048) (τ : Fin 512), d (ix3 (curF t.val) e τ) = actG (ublk wU (ku t.val)) x2 x5 x6 x7 x8 (ebF t.val) e τ⌝ ∗ owns (c : Thread nD τ) actM fullShare d) ∗ Ring.free (cellPU c) (slotWU c wU) (Ring.sl 3 (ku t.val)) ∗ Ring.inflight (flightWU c wU) (Ring.sl 3 (ku t.val + 2)) (Ring.bk 512 (ku t.val + 2)) ∗ Ring.free (cellPV c) (slotWV c wV) (Ring.sl 3 (kv t.val)) ∗ Ring.inflight (flightWV c wV) (Ring.sl 3 (kv t.val + 2)) (Ring.bk 512 (kv t.val + 2)) ∗ (∃ W', owes (c : Thread nD τ) 0 W')) -∗ K ⟨⟩))
          ⊢ wp frame (wpE (defs₀ (F := F)) Variants.none c none) Set.univ (cc0_peer_dense (grid0.coords t) arg2 harg2 tabU (Memref.isWhole_whole _) tabV (Memref.isWhole_whole _) arg5 harg5 arg6 harg6 arg7 harg7 arg8 harg8 arg9 harg9 arg10 harg10 arg11 harg11 arg12 harg12 arg13 harg13 accM (Memref.isWhole_whole _) actM (Memref.isWhole_whole _) bufU (Memref.isWhole_whole _) bufV (Memref.isWhole_whole _) cc0_scratch4 cc0_scratch5) K := by
    intro W K
    haveI : Fact (¬ k0_cond1 (grid0.coords t) = 1#1) := ⟨hc1⟩
    haveI : Fact (k0_cond2 (grid0.coords t) = 1#1) := ⟨hc2⟩
    haveI : Fact (k0_cond3 (grid0.coords t) = 1#1) := ⟨hc3⟩
    haveI : Fact (k0_cond4 (grid0.coords t) = 1#1) := ⟨hc4⟩
    haveI : Fact (k0_cond5 (grid0.coords t) = 1#1) := ⟨hc5⟩
    haveI : Fact (¬ k0_cond6 (grid0.coords t) = 1#1) := ⟨hc6⟩
    haveI : Fact (k0_cond7 (grid0.coords t) = 1#1) := ⟨hc7⟩
    haveI : Fact (¬ k0_cond8 (grid0.coords t) = 1#1) := ⟨hc8⟩
    haveI : Fact (1 ≤ t.val % 9) := ⟨(hcond4 t).1 hc4⟩
    simp only [cc0_peer_dense_eq_skeleton]; unfold cc0_peer_dense_skel
    simp only [k0_part125_eq_skeleton]
    unfold owns  Ring.free Ring.inflight
    iintro ⟨⟨%f2, %hf2, H2⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%gU0, HfU0, HrU0⟩, ⟨HcU2, ⟨%gU2, HsU2, HwU2⟩⟩, ⟨%gV0, HfV0, HrV0⟩, ⟨HcV2, ⟨%gV2, HsV2, HwV2⟩⟩, HW, Hk⟩
    ihave HspU2 := (srcU_split c wU (Ring.sl 3 (ku t.val + 2)) (Ring.bk 512 (ku t.val + 2))).1 $$ HwU2
    icases HspU2 with ⟨HhU2, HrU2⟩
    ihave HspV2 := (srcV_split c wV (Ring.sl 3 (kv t.val + 2)) (Ring.bk 512 (kv t.val + 2))).1 $$ HwV2
    icases HspV2 with ⟨HhV2, HrV2⟩
    obtain rfl := harg2.eq_unread hf2; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
    sl_exec (disch := first | sl_exact hc1 | sl_exact hc2 | sl_exact hc3 | sl_exact hc4 | sl_exact hc5 | sl_exact hc6 | sl_exact hc7 | sl_exact hc8)
    sl_step
    iapply Hk
    isplitl [H2]
    · iexists _; isplitr; · ipureintro; exact harg2.read_unread _
      iexact H2
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; swap; · iexact H13
      ipureintro; exact hf13
    isplitl [H14]
    · iexists _; isplitr; swap; · iexact H14
      ipureintro
      refine accN_of f14 d14 hf14 _ (vblk wV (kv t.val)) a ?_ _ _
      exact updN_of (Ring.sl 3 (kv t.val)) _ (vblk wV (kv t.val)) _ (c_k0_off58 t ((hcond4 t).1 hc4)) _ _ f15 (prvF t.val) _ (c_k0_off59 t) _ _ a (fun e τ => by rw [hf15]; exact ha e τ)
    isplitl [H15]
    · iexists _; isplitr; swap
      · iexists _; isplitr; swap; · iexact H15
        ipureintro; rfl
      ipureintro
      have h9 : t.val % 9 < 8 := (by have h := (hcond2 t).1 hc2; omega)
      have hR : ∀ h (a : Fin 128) b, ldA arg5 harg5 x5 h (ix3 0 a b) = x5 (ix3 h a b) := ldA_apply arg5 harg5 x5
      have hE : ∀ h (a : Fin 128) b, ldA arg6 harg6 x6 h (ix3 0 a b) = x6 (ix3 h a b) := ldA_apply arg6 harg6 x6
      have hN := ldN_apply arg7 harg7 x7 (offN7 t) (offN7_inb t h9) (ebF t.val) (offN7_eq t h9)
      have hG := ldN_apply arg8 harg8 x8 (offN7 t) (offN7_inb t h9) (ebF t.val) (offN7_eq t h9)
      have hA0 : ∀ f inb inb2 hc, _ := fun f inb inb2 hc => actP_of (Ring.sl 3 (ku t.val)) 0 f (ublk wU (ku t.val)) (k0_off50 (grid0.coords t)) (c_k0_off50 t) inb arg2 harg2 x2 inb2 hc
      have hA1 : ∀ f inb inb2 hc, _ := fun f inb inb2 hc => actP_of (Ring.sl 3 (ku t.val)) 1 f (ublk wU (ku t.val)) (k0_off51 (grid0.coords t)) (c_k0_off51 t) inb arg2 harg2 x2 inb2 hc
      have hA2 : ∀ f inb inb2 hc, _ := fun f inb inb2 hc => actP_of (Ring.sl 3 (ku t.val)) 2 f (ublk wU (ku t.val)) (k0_off52 (grid0.coords t)) (c_k0_off52 t) inb arg2 harg2 x2 inb2 hc
      have hA3 : ∀ f inb inb2 hc, _ := fun f inb inb2 hc => actP_of (Ring.sl 3 (ku t.val)) 3 f (ublk wU (ku t.val)) (k0_off53 (grid0.coords t)) (c_k0_off53 t) inb arg2 harg2 x2 inb2 hc
      have hA4 : ∀ f inb inb2 hc, _ := fun f inb inb2 hc => actP_of (Ring.sl 3 (ku t.val)) 4 f (ublk wU (ku t.val)) (k0_off54 (grid0.coords t)) (c_k0_off54 t) inb arg2 harg2 x2 inb2 hc
      have hA5 : ∀ f inb inb2 hc, _ := fun f inb inb2 hc => actP_of (Ring.sl 3 (ku t.val)) 5 f (ublk wU (ku t.val)) (k0_off55 (grid0.coords t)) (c_k0_off55 t) inb arg2 harg2 x2 inb2 hc
      have hA6 : ∀ f inb inb2 hc, _ := fun f inb inb2 hc => actP_of (Ring.sl 3 (ku t.val)) 6 f (ublk wU (ku t.val)) (k0_off56 (grid0.coords t)) (c_k0_off56 t) inb arg2 harg2 x2 inb2 hc
      have hA7 : ∀ f inb inb2 hc, _ := fun f inb inb2 hc => actP_of (Ring.sl 3 (ku t.val)) 7 f (ublk wU (ku t.val)) (k0_off57 (grid0.coords t)) (c_k0_off57 t) inb arg2 harg2 x2 inb2 hc
      intro e τ
      exact act_of_pieces (curF t.val) _ (actG (ublk wU (ku t.val)) x2 x5 x6 x7 x8 (ebF t.val))
        _ (c_k0_off68 t) _ _ (fun a b => wrow_val (ebF t.val) 0 _ 0 _ rfl _ (by exact hA0 _ _ _ _) (ldA arg5 harg5 x5) (ldA arg6 harg6 x6) (ldN arg7 harg7 x7 (offN7 t) (offN7_inb t h9)) (ldN arg8 harg8 x8 (offN7 t) (offN7_inb t h9)) hR hE hN hG a b)
        _ (c_k0_off69 t) _ _ (fun a b => wrow_val (ebF t.val) 1 _ 128 _ rfl _ (by exact hA0 _ _ _ _) (ldA arg5 harg5 x5) (ldA arg6 harg6 x6) (ldN arg7 harg7 x7 (offN7 t) (offN7_inb t h9)) (ldN arg8 harg8 x8 (offN7 t) (offN7_inb t h9)) hR hE hN hG a b)
        _ (c_k0_off70 t) _ _ (fun a b => wrow_val (ebF t.val) 2 _ 0 _ rfl _ (by exact hA1 _ _ _ _) (ldA arg5 harg5 x5) (ldA arg6 harg6 x6) (ldN arg7 harg7 x7 (offN7 t) (offN7_inb t h9)) (ldN arg8 harg8 x8 (offN7 t) (offN7_inb t h9)) hR hE hN hG a b)
        _ (c_k0_off71 t) _ _ (fun a b => wrow_val (ebF t.val) 3 _ 128 _ rfl _ (by exact hA1 _ _ _ _) (ldA arg5 harg5 x5) (ldA arg6 harg6 x6) (ldN arg7 harg7 x7 (offN7 t) (offN7_inb t h9)) (ldN arg8 harg8 x8 (offN7 t) (offN7_inb t h9)) hR hE hN hG a b)
        _ (c_k0_off72 t) _ _ (fun a b => wrow_val (ebF t.val) 4 _ 0 _ rfl _ (by exact hA2 _ _ _ _) (ldA arg5 harg5 x5) (ldA arg6 harg6 x6) (ldN arg7 harg7 x7 (offN7 t) (offN7_inb t h9)) (ldN arg8 harg8 x8 (offN7 t) (offN7_inb t h9)) hR hE hN hG a b)
        _ (c_k0_off73 t) _ _ (fun a b => wrow_val (ebF t.val) 5 _ 128 _ rfl _ (by exact hA2 _ _ _ _) (ldA arg5 harg5 x5) (ldA arg6 harg6 x6) (ldN arg7 harg7 x7 (offN7 t) (offN7_inb t h9)) (ldN arg8 harg8 x8 (offN7 t) (offN7_inb t h9)) hR hE hN hG a b)
        _ (c_k0_off74 t) _ _ (fun a b => wrow_val (ebF t.val) 6 _ 0 _ rfl _ (by exact hA3 _ _ _ _) (ldA arg5 harg5 x5) (ldA arg6 harg6 x6) (ldN arg7 harg7 x7 (offN7 t) (offN7_inb t h9)) (ldN arg8 harg8 x8 (offN7 t) (offN7_inb t h9)) hR hE hN hG a b)
        _ (c_k0_off75 t) _ _ (fun a b => wrow_val (ebF t.val) 7 _ 128 _ rfl _ (by exact hA3 _ _ _ _) (ldA arg5 harg5 x5) (ldA arg6 harg6 x6) (ldN arg7 harg7 x7 (offN7 t) (offN7_inb t h9)) (ldN arg8 harg8 x8 (offN7 t) (offN7_inb t h9)) hR hE hN hG a b)
        _ (c_k0_off76 t) _ _ (fun a b => wrow_val (ebF t.val) 8 _ 0 _ rfl _ (by exact hA4 _ _ _ _) (ldA arg5 harg5 x5) (ldA arg6 harg6 x6) (ldN arg7 harg7 x7 (offN7 t) (offN7_inb t h9)) (ldN arg8 harg8 x8 (offN7 t) (offN7_inb t h9)) hR hE hN hG a b)
        _ (c_k0_off77 t) _ _ (fun a b => wrow_val (ebF t.val) 9 _ 128 _ rfl _ (by exact hA4 _ _ _ _) (ldA arg5 harg5 x5) (ldA arg6 harg6 x6) (ldN arg7 harg7 x7 (offN7 t) (offN7_inb t h9)) (ldN arg8 harg8 x8 (offN7 t) (offN7_inb t h9)) hR hE hN hG a b)
        _ (c_k0_off78 t) _ _ (fun a b => wrow_val (ebF t.val) 10 _ 0 _ rfl _ (by exact hA5 _ _ _ _) (ldA arg5 harg5 x5) (ldA arg6 harg6 x6) (ldN arg7 harg7 x7 (offN7 t) (offN7_inb t h9)) (ldN arg8 harg8 x8 (offN7 t) (offN7_inb t h9)) hR hE hN hG a b)
        _ (c_k0_off79 t) _ _ (fun a b => wrow_val (ebF t.val) 11 _ 128 _ rfl _ (by exact hA5 _ _ _ _) (ldA arg5 harg5 x5) (ldA arg6 harg6 x6) (ldN arg7 harg7 x7 (offN7 t) (offN7_inb t h9)) (ldN arg8 harg8 x8 (offN7 t) (offN7_inb t h9)) hR hE hN hG a b)
        _ (c_k0_off80 t) _ _ (fun a b => wrow_val (ebF t.val) 12 _ 0 _ rfl _ (by exact hA6 _ _ _ _) (ldA arg5 harg5 x5) (ldA arg6 harg6 x6) (ldN arg7 harg7 x7 (offN7 t) (offN7_inb t h9)) (ldN arg8 harg8 x8 (offN7 t) (offN7_inb t h9)) hR hE hN hG a b)
        _ (c_k0_off81 t) _ _ (fun a b => wrow_val (ebF t.val) 13 _ 128 _ rfl _ (by exact hA6 _ _ _ _) (ldA arg5 harg5 x5) (ldA arg6 harg6 x6) (ldN arg7 harg7 x7 (offN7 t) (offN7_inb t h9)) (ldN arg8 harg8 x8 (offN7 t) (offN7_inb t h9)) hR hE hN hG a b)
        _ (c_k0_off82 t) _ _ (fun a b => wrow_val (ebF t.val) 14 _ 0 _ rfl _ (by exact hA7 _ _ _ _) (ldA arg5 harg5 x5) (ldA arg6 harg6 x6) (ldN arg7 harg7 x7 (offN7 t) (offN7_inb t h9)) (ldN arg8 harg8 x8 (offN7 t) (offN7_inb t h9)) hR hE hN hG a b)
        _ (c_k0_off83 t) _ _ (fun a b => wrow_val (ebF t.val) 15 _ 128 _ rfl _ (by exact hA7 _ _ _ _) (ldA arg5 harg5 x5) (ldA arg6 harg6 x6) (ldN arg7 harg7 x7 (offN7 t) (offN7_inb t h9)) (ldN arg8 harg8 x8 (offN7 t) (offN7_inb t h9)) hR hE hN hG a b) e τ
    isplitl [HfU0 HfU0_dst HfU0_src HrU0]
    · isplitl [HfU0]; · iexact HfU0
      iexists _; isplitl [HfU0_dst]; · iexact HfU0_dst
      iapply (srcU_split c wU (Ring.sl 3 (ku t.val)) (Ring.bk 512 (ku t.val))).2; isplitl [HfU0_src]; · iexact HfU0_src
      iexact HrU0
    isplitl [HcU2 HrU2]
    · iexists _; isplitl [HcU2]; · iexact HcU2
      iexact HrU2
    isplitl [HfV0 HfV0_dst HfV0_src HrV0]
    · isplitl [HfV0]; · iexact HfV0
      iexists _; isplitl [HfV0_dst]; · iexact HfV0_dst
      iapply (srcV_split c wV (Ring.sl 3 (kv t.val)) (Ring.bk 512 (kv t.val))).2; isplitl [HfV0_src]; · iexact HfV0_src
      iexact HrV0
    isplitl [HcV2 HrV2]
    · iexists _; isplitl [HcV2]; · iexact HcV2
      iexact HrV2
    iexists _; iexact HW

end Cert.KernelIdeal.Pd

end
-- ==== Proof.Ideal.RunD.lean ====
/- The run of the kernel's body at the points of case D. -/
module

public import proofs.«01_k».proof.Proof.Ideal.Spec

@[expose] public section

set_option maxRecDepth 16384

noncomputable section

namespace Cert.KernelIdeal.Pd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

set_option maxHeartbeats 4000000 in
theorem runD (c : Dev nD) (t : Fin cfg0.N) (arg2 : Memref sig .tc .vmem S512x1024 .bf16) (harg2 : arg2.IsWhole) (arg5 : Memref sig .tc .vmem S8x128x512 .bf16) (harg5 : arg5.IsWhole) (arg6 : Memref sig .tc .vmem S8x128x512 .bf16) (harg6 : arg6.IsWhole) (arg7 : Memref sig .tc .vmem S8x128x512 .f32) (harg7 : arg7.IsWhole) (arg8 : Memref sig .tc .vmem S8x128x512 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S512x1024 .f32) (harg13 : arg13.IsWhole)
    (hc1 : ¬ k0_cond1 (grid0.coords t) = 1#1) (hc2 : k0_cond2 (grid0.coords t) = 1#1) (hc3 : ¬ k0_cond3 (grid0.coords t) = 1#1) (hc4 : k0_cond4 (grid0.coords t) = 1#1) (hc5 : k0_cond5 (grid0.coords t) = 1#1) (hc6 : ¬ k0_cond6 (grid0.coords t) = 1#1) (hc7 : k0_cond7 (grid0.coords t) = 1#1) (hc8 : ¬ k0_cond8 (grid0.coords t) = 1#1)
    (x2 : Vec F S512x1024 .bf16) (x5 : Vec F S8x128x512 .bf16) (x6 : Vec F S8x128x512 .bf16) (x7 : Vec F S8x128x512 .f32) (x8 : Vec F S8x128x512 .f32) (x9 : Vec F S512x1024 .f32) (x10 : Vec F S1x1x1024 .f32) (x11 : Vec F S1x1x1024 .f32) (x12 : Vec F S1x1024 .f32) (wU : HbBuf (F := F) c tabU) (wV : HbBuf (F := F) c tabV) (x13 : Vec F S512x1024 .f32) (d14 : Vec F S1024x512 .f32) (d15 : Vec F S2x2048x512 .bf16) (a : Vec F S2048x512 .bf16) (ha : ∀ (e : Fin 2048) (τ : Fin 512), d15 (ix3 (prvF t.val) e τ) = a (ix2 e τ)) :
      ∀ (W : Waits sig Unit) (K : PUnit → sProp 𝕄),
        iprop(owns (c : Thread nD τ) arg2 fullShare x2 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) accM fullShare d14 ∗ owns (c : Thread nD τ) actM fullShare d15 ∗ Ring.inflight (flightWU c wU) (Ring.sl 3 (ku t.val)) (Ring.bk 512 (ku t.val)) ∗ Ring.inflight (flightWV c wV) (Ring.sl 3 (kv t.val)) (Ring.bk 512 (kv t.val)) ∗ Ring.free (cellPV c) (slotWV c wV) (Ring.sl 3 (kv t.val + 2)) ∗ owes (c : Thread nD τ) 0 W
            ∗ (iprop(owns (c : Thread nD τ) arg2 fullShare x2 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) accM fullShare (accN d14 (vblk wV (kv t.val)) a) ∗ (∃ d, ⌜∀ (e : Fin 2048) (τ : Fin 512), d (ix3 (curF t.val) e τ) = actG (ublk wU (ku t.val)) x2 x5 x6 x7 x8 (ebF t.val) e τ⌝ ∗ owns (c : Thread nD τ) actM fullShare d) ∗ Ring.free (cellPU c) (slotWU c wU) (Ring.sl 3 (ku t.val)) ∗ Ring.free (cellPV c) (slotWV c wV) (Ring.sl 3 (kv t.val)) ∗ Ring.inflight (flightWV c wV) (Ring.sl 3 (kv t.val + 2)) (Ring.bk 512 (kv t.val + 2)) ∗ (∃ W', owes (c : Thread nD τ) 0 W')) -∗ K ⟨⟩))
          ⊢ wp frame (wpE (defs₀ (F := F)) Variants.none c none) Set.univ (cc0_peer_dense (grid0.coords t) arg2 harg2 tabU (Memref.isWhole_whole _) tabV (Memref.isWhole_whole _) arg5 harg5 arg6 harg6 arg7 harg7 arg8 harg8 arg9 harg9 arg10 harg10 arg11 harg11 arg12 harg12 arg13 harg13 accM (Memref.isWhole_whole _) actM (Memref.isWhole_whole _) bufU (Memref.isWhole_whole _) bufV (Memref.isWhole_whole _) cc0_scratch4 cc0_scratch5) K := by
    intro W K
    haveI : Fact (¬ k0_cond1 (grid0.coords t) = 1#1) := ⟨hc1⟩
    haveI : Fact (k0_cond2 (grid0.coords t) = 1#1) := ⟨hc2⟩
    haveI : Fact (¬ k0_cond3 (grid0.coords t) = 1#1) := ⟨hc3⟩
    haveI : Fact (k0_cond4 (grid0.coords t) = 1#1) := ⟨hc4⟩
    haveI : Fact (k0_cond5 (grid0.coords t) = 1#1) := ⟨hc5⟩
    haveI : Fact (¬ k0_cond6 (grid0.coords t) = 1#1) := ⟨hc6⟩
    haveI : Fact (k0_cond7 (grid0.coords t) = 1#1) := ⟨hc7⟩
    haveI : Fact (¬ k0_cond8 (grid0.coords t) = 1#1) := ⟨hc8⟩
    haveI : Fact (1 ≤ t.val % 9) := ⟨(hcond4 t).1 hc4⟩
    simp only [cc0_peer_dense_eq_skeleton]; unfold cc0_peer_dense_skel
    simp only [k0_part125_eq_skeleton]
    unfold owns  Ring.free Ring.inflight
    iintro ⟨⟨%f2, %hf2, H2⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%gU0, HfU0, HrU0⟩, ⟨%gV0, HfV0, HrV0⟩, ⟨HcV2, ⟨%gV2, HsV2, HwV2⟩⟩, HW, Hk⟩
    ihave HspV2 := (srcV_split c wV (Ring.sl 3 (kv t.val + 2)) (Ring.bk 512 (kv t.val + 2))).1 $$ HwV2
    icases HspV2 with ⟨HhV2, HrV2⟩
    obtain rfl := harg2.eq_unread hf2; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
    sl_exec (disch := first | sl_exact hc1 | sl_exact hc2 | sl_exact hc3 | sl_exact hc4 | sl_exact hc5 | sl_exact hc6 | sl_exact hc7 | sl_exact hc8)
    sl_step
    iapply Hk
    isplitl [H2]
    · iexists _; isplitr; · ipureintro; exact harg2.read_unread _
      iexact H2
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; swap; · iexact H13
      ipureintro; exact hf13
    isplitl [H14]
    · iexists _; isplitr; swap; · iexact H14
      ipureintro
      refine accN_of f14 d14 hf14 _ (vblk wV (kv t.val)) a ?_ _ _
      exact updN_of (Ring.sl 3 (kv t.val)) _ (vblk wV (kv t.val)) _ (c_k0_off58 t ((hcond4 t).1 hc4)) _ _ f15 (prvF t.val) _ (c_k0_off59 t) _ _ a (fun e τ => by rw [hf15]; exact ha e τ)
    isplitl [H15]
    · iexists _; isplitr; swap
      · iexists _; isplitr; swap; · iexact H15
        ipureintro; rfl
      ipureintro
      have h9 : t.val % 9 < 8 := (by have h := (hcond2 t).1 hc2; omega)
      have hR : ∀ h (a : Fin 128) b, ldA arg5 harg5 x5 h (ix3 0 a b) = x5 (ix3 h a b) := ldA_apply arg5 harg5 x5
      have hE : ∀ h (a : Fin 128) b, ldA arg6 harg6 x6 h (ix3 0 a b) = x6 (ix3 h a b) := ldA_apply arg6 harg6 x6
      have hN := ldN_apply arg7 harg7 x7 (offN7 t) (offN7_inb t h9) (ebF t.val) (offN7_eq t h9)
      have hG := ldN_apply arg8 harg8 x8 (offN7 t) (offN7_inb t h9) (ebF t.val) (offN7_eq t h9)
      have hA0 : ∀ f inb inb2 hc, _ := fun f inb inb2 hc => actP_of (Ring.sl 3 (ku t.val)) 0 f (ublk wU (ku t.val)) (k0_off50 (grid0.coords t)) (c_k0_off50 t) inb arg2 harg2 x2 inb2 hc
      have hA1 : ∀ f inb inb2 hc, _ := fun f inb inb2 hc => actP_of (Ring.sl 3 (ku t.val)) 1 f (ublk wU (ku t.val)) (k0_off51 (grid0.coords t)) (c_k0_off51 t) inb arg2 harg2 x2 inb2 hc
      have hA2 : ∀ f inb inb2 hc, _ := fun f inb inb2 hc => actP_of (Ring.sl 3 (ku t.val)) 2 f (ublk wU (ku t.val)) (k0_off52 (grid0.coords t)) (c_k0_off52 t) inb arg2 harg2 x2 inb2 hc
      have hA3 : ∀ f inb inb2 hc, _ := fun f inb inb2 hc => actP_of (Ring.sl 3 (ku t.val)) 3 f (ublk wU (ku t.val)) (k0_off53 (grid0.coords t)) (c_k0_off53 t) inb arg2 harg2 x2 inb2 hc
      have hA4 : ∀ f inb inb2 hc, _ := fun f inb inb2 hc => actP_of (Ring.sl 3 (ku t.val)) 4 f (ublk wU (ku t.val)) (k0_off54 (grid0.coords t)) (c_k0_off54 t) inb arg2 harg2 x2 inb2 hc
      have hA5 : ∀ f inb inb2 hc, _ := fun f inb inb2 hc => actP_of (Ring.sl 3 (ku t.val)) 5 f (ublk wU (ku t.val)) (k0_off55 (grid0.coords t)) (c_k0_off55 t) inb arg2 harg2 x2 inb2 hc
      have hA6 : ∀ f inb inb2 hc, _ := fun f inb inb2 hc => actP_of (Ring.sl 3 (ku t.val)) 6 f (ublk wU (ku t.val)) (k0_off56 (grid0.coords t)) (c_k0_off56 t) inb arg2 harg2 x2 inb2 hc
      have hA7 : ∀ f inb inb2 hc, _ := fun f inb inb2 hc => actP_of (Ring.sl 3 (ku t.val)) 7 f (ublk wU (ku t.val)) (k0_off57 (grid0.coords t)) (c_k0_off57 t) inb arg2 harg2 x2 inb2 hc
      intro e τ
      exact act_of_pieces (curF t.val) _ (actG (ublk wU (ku t.val)) x2 x5 x6 x7 x8 (ebF t.val))
        _ (c_k0_off68 t) _ _ (fun a b => wrow_val (ebF t.val) 0 _ 0 _ rfl _ (by exact hA0 _ _ _ _) (ldA arg5 harg5 x5) (ldA arg6 harg6 x6) (ldN arg7 harg7 x7 (offN7 t) (offN7_inb t h9)) (ldN arg8 harg8 x8 (offN7 t) (offN7_inb t h9)) hR hE hN hG a b)
        _ (c_k0_off69 t) _ _ (fun a b => wrow_val (ebF t.val) 1 _ 128 _ rfl _ (by exact hA0 _ _ _ _) (ldA arg5 harg5 x5) (ldA arg6 harg6 x6) (ldN arg7 harg7 x7 (offN7 t) (offN7_inb t h9)) (ldN arg8 harg8 x8 (offN7 t) (offN7_inb t h9)) hR hE hN hG a b)
        _ (c_k0_off70 t) _ _ (fun a b => wrow_val (ebF t.val) 2 _ 0 _ rfl _ (by exact hA1 _ _ _ _) (ldA arg5 harg5 x5) (ldA arg6 harg6 x6) (ldN arg7 harg7 x7 (offN7 t) (offN7_inb t h9)) (ldN arg8 harg8 x8 (offN7 t) (offN7_inb t h9)) hR hE hN hG a b)
        _ (c_k0_off71 t) _ _ (fun a b => wrow_val (ebF t.val) 3 _ 128 _ rfl _ (by exact hA1 _ _ _ _) (ldA arg5 harg5 x5) (ldA arg6 harg6 x6) (ldN arg7 harg7 x7 (offN7 t) (offN7_inb t h9)) (ldN arg8 harg8 x8 (offN7 t) (offN7_inb t h9)) hR hE hN hG a b)
        _ (c_k0_off72 t) _ _ (fun a b => wrow_val (ebF t.val) 4 _ 0 _ rfl _ (by exact hA2 _ _ _ _) (ldA arg5 harg5 x5) (ldA arg6 harg6 x6) (ldN arg7 harg7 x7 (offN7 t) (offN7_inb t h9)) (ldN arg8 harg8 x8 (offN7 t) (offN7_inb t h9)) hR hE hN hG a b)
        _ (c_k0_off73 t) _ _ (fun a b => wrow_val (ebF t.val) 5 _ 128 _ rfl _ (by exact hA2 _ _ _ _) (ldA arg5 harg5 x5) (ldA arg6 harg6 x6) (ldN arg7 harg7 x7 (offN7 t) (offN7_inb t h9)) (ldN arg8 harg8 x8 (offN7 t) (offN7_inb t h9)) hR hE hN hG a b)
        _ (c_k0_off74 t) _ _ (fun a b => wrow_val (ebF t.val) 6 _ 0 _ rfl _ (by exact hA3 _ _ _ _) (ldA arg5 harg5 x5) (ldA arg6 harg6 x6) (ldN arg7 harg7 x7 (offN7 t) (offN7_inb t h9)) (ldN arg8 harg8 x8 (offN7 t) (offN7_inb t h9)) hR hE hN hG a b)
        _ (c_k0_off75 t) _ _ (fun a b => wrow_val (ebF t.val) 7 _ 128 _ rfl _ (by exact hA3 _ _ _ _) (ldA arg5 harg5 x5) (ldA arg6 harg6 x6) (ldN arg7 harg7 x7 (offN7 t) (offN7_inb t h9)) (ldN arg8 harg8 x8 (offN7 t) (offN7_inb t h9)) hR hE hN hG a b)
        _ (c_k0_off76 t) _ _ (fun a b => wrow_val (ebF t.val) 8 _ 0 _ rfl _ (by exact hA4 _ _ _ _) (ldA arg5 harg5 x5) (ldA arg6 harg6 x6) (ldN arg7 harg7 x7 (offN7 t) (offN7_inb t h9)) (ldN arg8 harg8 x8 (offN7 t) (offN7_inb t h9)) hR hE hN hG a b)
        _ (c_k0_off77 t) _ _ (fun a b => wrow_val (ebF t.val) 9 _ 128 _ rfl _ (by exact hA4 _ _ _ _) (ldA arg5 harg5 x5) (ldA arg6 harg6 x6) (ldN arg7 harg7 x7 (offN7 t) (offN7_inb t h9)) (ldN arg8 harg8 x8 (offN7 t) (offN7_inb t h9)) hR hE hN hG a b)
        _ (c_k0_off78 t) _ _ (fun a b => wrow_val (ebF t.val) 10 _ 0 _ rfl _ (by exact hA5 _ _ _ _) (ldA arg5 harg5 x5) (ldA arg6 harg6 x6) (ldN arg7 harg7 x7 (offN7 t) (offN7_inb t h9)) (ldN arg8 harg8 x8 (offN7 t) (offN7_inb t h9)) hR hE hN hG a b)
        _ (c_k0_off79 t) _ _ (fun a b => wrow_val (ebF t.val) 11 _ 128 _ rfl _ (by exact hA5 _ _ _ _) (ldA arg5 harg5 x5) (ldA arg6 harg6 x6) (ldN arg7 harg7 x7 (offN7 t) (offN7_inb t h9)) (ldN arg8 harg8 x8 (offN7 t) (offN7_inb t h9)) hR hE hN hG a b)
        _ (c_k0_off80 t) _ _ (fun a b => wrow_val (ebF t.val) 12 _ 0 _ rfl _ (by exact hA6 _ _ _ _) (ldA arg5 harg5 x5) (ldA arg6 harg6 x6) (ldN arg7 harg7 x7 (offN7 t) (offN7_inb t h9)) (ldN arg8 harg8 x8 (offN7 t) (offN7_inb t h9)) hR hE hN hG a b)
        _ (c_k0_off81 t) _ _ (fun a b => wrow_val (ebF t.val) 13 _ 128 _ rfl _ (by exact hA6 _ _ _ _) (ldA arg5 harg5 x5) (ldA arg6 harg6 x6) (ldN arg7 harg7 x7 (offN7 t) (offN7_inb t h9)) (ldN arg8 harg8 x8 (offN7 t) (offN7_inb t h9)) hR hE hN hG a b)
        _ (c_k0_off82 t) _ _ (fun a b => wrow_val (ebF t.val) 14 _ 0 _ rfl _ (by exact hA7 _ _ _ _) (ldA arg5 harg5 x5) (ldA arg6 harg6 x6) (ldN arg7 harg7 x7 (offN7 t) (offN7_inb t h9)) (ldN arg8 harg8 x8 (offN7 t) (offN7_inb t h9)) hR hE hN hG a b)
        _ (c_k0_off83 t) _ _ (fun a b => wrow_val (ebF t.val) 15 _ 128 _ rfl _ (by exact hA7 _ _ _ _) (ldA arg5 harg5 x5) (ldA arg6 harg6 x6) (ldN arg7 harg7 x7 (offN7 t) (offN7_inb t h9)) (ldN arg8 harg8 x8 (offN7 t) (offN7_inb t h9)) hR hE hN hG a b) e τ
    isplitl [HfU0 HfU0_dst HfU0_src HrU0]
    · isplitl [HfU0]; · iexact HfU0
      iexists _; isplitl [HfU0_dst]; · iexact HfU0_dst
      iapply (srcU_split c wU (Ring.sl 3 (ku t.val)) (Ring.bk 512 (ku t.val))).2; isplitl [HfU0_src]; · iexact HfU0_src
      iexact HrU0
    isplitl [HfV0 HfV0_dst HfV0_src HrV0]
    · isplitl [HfV0]; · iexact HfV0
      iexists _; isplitl [HfV0_dst]; · iexact HfV0_dst
      iapply (srcV_split c wV (Ring.sl 3 (kv t.val)) (Ring.bk 512 (kv t.val))).2; isplitl [HfV0_src]; · iexact HfV0_src
      iexact HrV0
    isplitl [HcV2 HrV2]
    · iexists _; isplitl [HcV2]; · iexact HcV2
      iexact HrV2
    iexists _; iexact HW

end Cert.KernelIdeal.Pd

end
-- ==== Proof.Ideal.RunE.lean ====
/- The run of the kernel's body at the points of case E. -/
module

public import proofs.«01_k».proof.Proof.Ideal.Spec

@[expose] public section

set_option maxRecDepth 16384

noncomputable section

namespace Cert.KernelIdeal.Pd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

set_option maxHeartbeats 4000000 in
theorem runE (c : Dev nD) (t : Fin cfg0.N) (arg2 : Memref sig .tc .vmem S512x1024 .bf16) (harg2 : arg2.IsWhole) (arg5 : Memref sig .tc .vmem S8x128x512 .bf16) (harg5 : arg5.IsWhole) (arg6 : Memref sig .tc .vmem S8x128x512 .bf16) (harg6 : arg6.IsWhole) (arg7 : Memref sig .tc .vmem S8x128x512 .f32) (harg7 : arg7.IsWhole) (arg8 : Memref sig .tc .vmem S8x128x512 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S512x1024 .f32) (harg13 : arg13.IsWhole)
    (hc1 : ¬ k0_cond1 (grid0.coords t) = 1#1) (hc2 : k0_cond2 (grid0.coords t) = 1#1) (hc3 : ¬ k0_cond3 (grid0.coords t) = 1#1) (hc4 : k0_cond4 (grid0.coords t) = 1#1) (hc5 : ¬ k0_cond5 (grid0.coords t) = 1#1) (hc6 : ¬ k0_cond6 (grid0.coords t) = 1#1) (hc7 : k0_cond7 (grid0.coords t) = 1#1) (hc8 : ¬ k0_cond8 (grid0.coords t) = 1#1)
    (x2 : Vec F S512x1024 .bf16) (x5 : Vec F S8x128x512 .bf16) (x6 : Vec F S8x128x512 .bf16) (x7 : Vec F S8x128x512 .f32) (x8 : Vec F S8x128x512 .f32) (x9 : Vec F S512x1024 .f32) (x10 : Vec F S1x1x1024 .f32) (x11 : Vec F S1x1x1024 .f32) (x12 : Vec F S1x1024 .f32) (wU : HbBuf (F := F) c tabU) (wV : HbBuf (F := F) c tabV) (x13 : Vec F S512x1024 .f32) (d14 : Vec F S1024x512 .f32) (d15 : Vec F S2x2048x512 .bf16) (a : Vec F S2048x512 .bf16) (ha : ∀ (e : Fin 2048) (τ : Fin 512), d15 (ix3 (prvF t.val) e τ) = a (ix2 e τ)) :
      ∀ (W : Waits sig Unit) (K : PUnit → sProp 𝕄),
        iprop(owns (c : Thread nD τ) arg2 fullShare x2 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) accM fullShare d14 ∗ owns (c : Thread nD τ) actM fullShare d15 ∗ Ring.inflight (flightWU c wU) (Ring.sl 3 (ku t.val)) (Ring.bk 512 (ku t.val)) ∗ Ring.inflight (flightWV c wV) (Ring.sl 3 (kv t.val)) (Ring.bk 512 (kv t.val)) ∗ owes (c : Thread nD τ) 0 W
            ∗ (iprop(owns (c : Thread nD τ) arg2 fullShare x2 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) accM fullShare (accN d14 (vblk wV (kv t.val)) a) ∗ (∃ d, ⌜∀ (e : Fin 2048) (τ : Fin 512), d (ix3 (curF t.val) e τ) = actG (ublk wU (ku t.val)) x2 x5 x6 x7 x8 (ebF t.val) e τ⌝ ∗ owns (c : Thread nD τ) actM fullShare d) ∗ Ring.free (cellPU c) (slotWU c wU) (Ring.sl 3 (ku t.val)) ∗ Ring.free (cellPV c) (slotWV c wV) (Ring.sl 3 (kv t.val)) ∗ (∃ W', owes (c : Thread nD τ) 0 W')) -∗ K ⟨⟩))
          ⊢ wp frame (wpE (defs₀ (F := F)) Variants.none c none) Set.univ (cc0_peer_dense (grid0.coords t) arg2 harg2 tabU (Memref.isWhole_whole _) tabV (Memref.isWhole_whole _) arg5 harg5 arg6 harg6 arg7 harg7 arg8 harg8 arg9 harg9 arg10 harg10 arg11 harg11 arg12 harg12 arg13 harg13 accM (Memref.isWhole_whole _) actM (Memref.isWhole_whole _) bufU (Memref.isWhole_whole _) bufV (Memref.isWhole_whole _) cc0_scratch4 cc0_scratch5) K := by
    intro W K
    haveI : Fact (¬ k0_cond1 (grid0.coords t) = 1#1) := ⟨hc1⟩
    haveI : Fact (k0_cond2 (grid0.coords t) = 1#1) := ⟨hc2⟩
    haveI : Fact (¬ k0_cond3 (grid0.coords t) = 1#1) := ⟨hc3⟩
    haveI : Fact (k0_cond4 (grid0.coords t) = 1#1) := ⟨hc4⟩
    haveI : Fact (¬ k0_cond5 (grid0.coords t) = 1#1) := ⟨hc5⟩
    haveI : Fact (¬ k0_cond6 (grid0.coords t) = 1#1) := ⟨hc6⟩
    haveI : Fact (k0_cond7 (grid0.coords t) = 1#1) := ⟨hc7⟩
    haveI : Fact (¬ k0_cond8 (grid0.coords t) = 1#1) := ⟨hc8⟩
    haveI : Fact (1 ≤ t.val % 9) := ⟨(hcond4 t).1 hc4⟩
    simp only [cc0_peer_dense_eq_skeleton]; unfold cc0_peer_dense_skel
    simp only [k0_part125_eq_skeleton]
    unfold owns  Ring.free Ring.inflight
    iintro ⟨⟨%f2, %hf2, H2⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%gU0, HfU0, HrU0⟩, ⟨%gV0, HfV0, HrV0⟩, HW, Hk⟩
    obtain rfl := harg2.eq_unread hf2; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
    sl_exec (disch := first | sl_exact hc1 | sl_exact hc2 | sl_exact hc3 | sl_exact hc4 | sl_exact hc5 | sl_exact hc6 | sl_exact hc7 | sl_exact hc8)
    sl_step
    iapply Hk
    isplitl [H2]
    · iexists _; isplitr; · ipureintro; exact harg2.read_unread _
      iexact H2
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; swap; · iexact H13
      ipureintro; exact hf13
    isplitl [H14]
    · iexists _; isplitr; swap; · iexact H14
      ipureintro
      refine accN_of f14 d14 hf14 _ (vblk wV (kv t.val)) a ?_ _ _
      exact updN_of (Ring.sl 3 (kv t.val)) _ (vblk wV (kv t.val)) _ (c_k0_off58 t ((hcond4 t).1 hc4)) _ _ f15 (prvF t.val) _ (c_k0_off59 t) _ _ a (fun e τ => by rw [hf15]; exact ha e τ)
    isplitl [H15]
    · iexists _; isplitr; swap
      · iexists _; isplitr; swap; · iexact H15
        ipureintro; rfl
      ipureintro
      have h9 : t.val % 9 < 8 := (by have h := (hcond2 t).1 hc2; omega)
      have hR : ∀ h (a : Fin 128) b, ldA arg5 harg5 x5 h (ix3 0 a b) = x5 (ix3 h a b) := ldA_apply arg5 harg5 x5
      have hE : ∀ h (a : Fin 128) b, ldA arg6 harg6 x6 h (ix3 0 a b) = x6 (ix3 h a b) := ldA_apply arg6 harg6 x6
      have hN := ldN_apply arg7 harg7 x7 (offN7 t) (offN7_inb t h9) (ebF t.val) (offN7_eq t h9)
      have hG := ldN_apply arg8 harg8 x8 (offN7 t) (offN7_inb t h9) (ebF t.val) (offN7_eq t h9)
      have hA0 : ∀ f inb inb2 hc, _ := fun f inb inb2 hc => actP_of (Ring.sl 3 (ku t.val)) 0 f (ublk wU (ku t.val)) (k0_off50 (grid0.coords t)) (c_k0_off50 t) inb arg2 harg2 x2 inb2 hc
      have hA1 : ∀ f inb inb2 hc, _ := fun f inb inb2 hc => actP_of (Ring.sl 3 (ku t.val)) 1 f (ublk wU (ku t.val)) (k0_off51 (grid0.coords t)) (c_k0_off51 t) inb arg2 harg2 x2 inb2 hc
      have hA2 : ∀ f inb inb2 hc, _ := fun f inb inb2 hc => actP_of (Ring.sl 3 (ku t.val)) 2 f (ublk wU (ku t.val)) (k0_off52 (grid0.coords t)) (c_k0_off52 t) inb arg2 harg2 x2 inb2 hc
      have hA3 : ∀ f inb inb2 hc, _ := fun f inb inb2 hc => actP_of (Ring.sl 3 (ku t.val)) 3 f (ublk wU (ku t.val)) (k0_off53 (grid0.coords t)) (c_k0_off53 t) inb arg2 harg2 x2 inb2 hc
      have hA4 : ∀ f inb inb2 hc, _ := fun f inb inb2 hc => actP_of (Ring.sl 3 (ku t.val)) 4 f (ublk wU (ku t.val)) (k0_off54 (grid0.coords t)) (c_k0_off54 t) inb arg2 harg2 x2 inb2 hc
      have hA5 : ∀ f inb inb2 hc, _ := fun f inb inb2 hc => actP_of (Ring.sl 3 (ku t.val)) 5 f (ublk wU (ku t.val)) (k0_off55 (grid0.coords t)) (c_k0_off55 t) inb arg2 harg2 x2 inb2 hc
      have hA6 : ∀ f inb inb2 hc, _ := fun f inb inb2 hc => actP_of (Ring.sl 3 (ku t.val)) 6 f (ublk wU (ku t.val)) (k0_off56 (grid0.coords t)) (c_k0_off56 t) inb arg2 harg2 x2 inb2 hc
      have hA7 : ∀ f inb inb2 hc, _ := fun f inb inb2 hc => actP_of (Ring.sl 3 (ku t.val)) 7 f (ublk wU (ku t.val)) (k0_off57 (grid0.coords t)) (c_k0_off57 t) inb arg2 harg2 x2 inb2 hc
      intro e τ
      exact act_of_pieces (curF t.val) _ (actG (ublk wU (ku t.val)) x2 x5 x6 x7 x8 (ebF t.val))
        _ (c_k0_off68 t) _ _ (fun a b => wrow_val (ebF t.val) 0 _ 0 _ rfl _ (by exact hA0 _ _ _ _) (ldA arg5 harg5 x5) (ldA arg6 harg6 x6) (ldN arg7 harg7 x7 (offN7 t) (offN7_inb t h9)) (ldN arg8 harg8 x8 (offN7 t) (offN7_inb t h9)) hR hE hN hG a b)
        _ (c_k0_off69 t) _ _ (fun a b => wrow_val (ebF t.val) 1 _ 128 _ rfl _ (by exact hA0 _ _ _ _) (ldA arg5 harg5 x5) (ldA arg6 harg6 x6) (ldN arg7 harg7 x7 (offN7 t) (offN7_inb t h9)) (ldN arg8 harg8 x8 (offN7 t) (offN7_inb t h9)) hR hE hN hG a b)
        _ (c_k0_off70 t) _ _ (fun a b => wrow_val (ebF t.val) 2 _ 0 _ rfl _ (by exact hA1 _ _ _ _) (ldA arg5 harg5 x5) (ldA arg6 harg6 x6) (ldN arg7 harg7 x7 (offN7 t) (offN7_inb t h9)) (ldN arg8 harg8 x8 (offN7 t) (offN7_inb t h9)) hR hE hN hG a b)
        _ (c_k0_off71 t) _ _ (fun a b => wrow_val (ebF t.val) 3 _ 128 _ rfl _ (by exact hA1 _ _ _ _) (ldA arg5 harg5 x5) (ldA arg6 harg6 x6) (ldN arg7 harg7 x7 (offN7 t) (offN7_inb t h9)) (ldN arg8 harg8 x8 (offN7 t) (offN7_inb t h9)) hR hE hN hG a b)
        _ (c_k0_off72 t) _ _ (fun a b => wrow_val (ebF t.val) 4 _ 0 _ rfl _ (by exact hA2 _ _ _ _) (ldA arg5 harg5 x5) (ldA arg6 harg6 x6) (ldN arg7 harg7 x7 (offN7 t) (offN7_inb t h9)) (ldN arg8 harg8 x8 (offN7 t) (offN7_inb t h9)) hR hE hN hG a b)
        _ (c_k0_off73 t) _ _ (fun a b => wrow_val (ebF t.val) 5 _ 128 _ rfl _ (by exact hA2 _ _ _ _) (ldA arg5 harg5 x5) (ldA arg6 harg6 x6) (ldN arg7 harg7 x7 (offN7 t) (offN7_inb t h9)) (ldN arg8 harg8 x8 (offN7 t) (offN7_inb t h9)) hR hE hN hG a b)
        _ (c_k0_off74 t) _ _ (fun a b => wrow_val (ebF t.val) 6 _ 0 _ rfl _ (by exact hA3 _ _ _ _) (ldA arg5 harg5 x5) (ldA arg6 harg6 x6) (ldN arg7 harg7 x7 (offN7 t) (offN7_inb t h9)) (ldN arg8 harg8 x8 (offN7 t) (offN7_inb t h9)) hR hE hN hG a b)
        _ (c_k0_off75 t) _ _ (fun a b => wrow_val (ebF t.val) 7 _ 128 _ rfl _ (by exact hA3 _ _ _ _) (ldA arg5 harg5 x5) (ldA arg6 harg6 x6) (ldN arg7 harg7 x7 (offN7 t) (offN7_inb t h9)) (ldN arg8 harg8 x8 (offN7 t) (offN7_inb t h9)) hR hE hN hG a b)
        _ (c_k0_off76 t) _ _ (fun a b => wrow_val (ebF t.val) 8 _ 0 _ rfl _ (by exact hA4 _ _ _ _) (ldA arg5 harg5 x5) (ldA arg6 harg6 x6) (ldN arg7 harg7 x7 (offN7 t) (offN7_inb t h9)) (ldN arg8 harg8 x8 (offN7 t) (offN7_inb t h9)) hR hE hN hG a b)
        _ (c_k0_off77 t) _ _ (fun a b => wrow_val (ebF t.val) 9 _ 128 _ rfl _ (by exact hA4 _ _ _ _) (ldA arg5 harg5 x5) (ldA arg6 harg6 x6) (ldN arg7 harg7 x7 (offN7 t) (offN7_inb t h9)) (ldN arg8 harg8 x8 (offN7 t) (offN7_inb t h9)) hR hE hN hG a b)
        _ (c_k0_off78 t) _ _ (fun a b => wrow_val (ebF t.val) 10 _ 0 _ rfl _ (by exact hA5 _ _ _ _) (ldA arg5 harg5 x5) (ldA arg6 harg6 x6) (ldN arg7 harg7 x7 (offN7 t) (offN7_inb t h9)) (ldN arg8 harg8 x8 (offN7 t) (offN7_inb t h9)) hR hE hN hG a b)
        _ (c_k0_off79 t) _ _ (fun a b => wrow_val (ebF t.val) 11 _ 128 _ rfl _ (by exact hA5 _ _ _ _) (ldA arg5 harg5 x5) (ldA arg6 harg6 x6) (ldN arg7 harg7 x7 (offN7 t) (offN7_inb t h9)) (ldN arg8 harg8 x8 (offN7 t) (offN7_inb t h9)) hR hE hN hG a b)
        _ (c_k0_off80 t) _ _ (fun a b => wrow_val (ebF t.val) 12 _ 0 _ rfl _ (by exact hA6 _ _ _ _) (ldA arg5 harg5 x5) (ldA arg6 harg6 x6) (ldN arg7 harg7 x7 (offN7 t) (offN7_inb t h9)) (ldN arg8 harg8 x8 (offN7 t) (offN7_inb t h9)) hR hE hN hG a b)
        _ (c_k0_off81 t) _ _ (fun a b => wrow_val (ebF t.val) 13 _ 128 _ rfl _ (by exact hA6 _ _ _ _) (ldA arg5 harg5 x5) (ldA arg6 harg6 x6) (ldN arg7 harg7 x7 (offN7 t) (offN7_inb t h9)) (ldN arg8 harg8 x8 (offN7 t) (offN7_inb t h9)) hR hE hN hG a b)
        _ (c_k0_off82 t) _ _ (fun a b => wrow_val (ebF t.val) 14 _ 0 _ rfl _ (by exact hA7 _ _ _ _) (ldA arg5 harg5 x5) (ldA arg6 harg6 x6) (ldN arg7 harg7 x7 (offN7 t) (offN7_inb t h9)) (ldN arg8 harg8 x8 (offN7 t) (offN7_inb t h9)) hR hE hN hG a b)
        _ (c_k0_off83 t) _ _ (fun a b => wrow_val (ebF t.val) 15 _ 128 _ rfl _ (by exact hA7 _ _ _ _) (ldA arg5 harg5 x5) (ldA arg6 harg6 x6) (ldN arg7 harg7 x7 (offN7 t) (offN7_inb t h9)) (ldN arg8 harg8 x8 (offN7 t) (offN7_inb t h9)) hR hE hN hG a b) e τ
    isplitl [HfU0 HfU0_dst HfU0_src HrU0]
    · isplitl [HfU0]; · iexact HfU0
      iexists _; isplitl [HfU0_dst]; · iexact HfU0_dst
      iapply (srcU_split c wU (Ring.sl 3 (ku t.val)) (Ring.bk 512 (ku t.val))).2; isplitl [HfU0_src]; · iexact HfU0_src
      iexact HrU0
    isplitl [HfV0 HfV0_dst HfV0_src HrV0]
    · isplitl [HfV0]; · iexact HfV0
      iexists _; isplitl [HfV0_dst]; · iexact HfV0_dst
      iapply (srcV_split c wV (Ring.sl 3 (kv t.val)) (Ring.bk 512 (kv t.val))).2; isplitl [HfV0_src]; · iexact HfV0_src
      iexact HrV0
    iexists _; iexact HW

end Cert.KernelIdeal.Pd

end
-- ==== Proof.Ideal.RunF.lean ====
/- The run of the kernel's body at the points of case F. -/
module

public import proofs.«01_k».proof.Proof.Ideal.Spec

@[expose] public section

set_option maxRecDepth 16384

noncomputable section

namespace Cert.KernelIdeal.Pd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

set_option maxHeartbeats 4000000 in
theorem runF (c : Dev nD) (t : Fin cfg0.N) (arg2 : Memref sig .tc .vmem S512x1024 .bf16) (harg2 : arg2.IsWhole) (arg5 : Memref sig .tc .vmem S8x128x512 .bf16) (harg5 : arg5.IsWhole) (arg6 : Memref sig .tc .vmem S8x128x512 .bf16) (harg6 : arg6.IsWhole) (arg7 : Memref sig .tc .vmem S8x128x512 .f32) (harg7 : arg7.IsWhole) (arg8 : Memref sig .tc .vmem S8x128x512 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S512x1024 .f32) (harg13 : arg13.IsWhole)
    (hc1 : ¬ k0_cond1 (grid0.coords t) = 1#1) (hc2 : ¬ k0_cond2 (grid0.coords t) = 1#1) (hc4 : k0_cond4 (grid0.coords t) = 1#1) (hc5 : k0_cond5 (grid0.coords t) = 1#1) (hc6 : ¬ k0_cond6 (grid0.coords t) = 1#1) (hc7 : ¬ k0_cond7 (grid0.coords t) = 1#1) (hc8 : k0_cond8 (grid0.coords t) = 1#1)
    (x2 : Vec F S512x1024 .bf16) (x5 : Vec F S8x128x512 .bf16) (x6 : Vec F S8x128x512 .bf16) (x7 : Vec F S8x128x512 .f32) (x8 : Vec F S8x128x512 .f32) (x9 : Vec F S512x1024 .f32) (x10 : Vec F S1x1x1024 .f32) (x11 : Vec F S1x1x1024 .f32) (x12 : Vec F S1x1024 .f32) (wU : HbBuf (F := F) c tabU) (wV : HbBuf (F := F) c tabV) (d14 : Vec F S1024x512 .f32) (d15 : Vec F S2x2048x512 .bf16) (a : Vec F S2048x512 .bf16) (ha : ∀ (e : Fin 2048) (τ : Fin 512), d15 (ix3 (prvF t.val) e τ) = a (ix2 e τ)) :
      ∀ (W : Waits sig Unit) (K : PUnit → sProp 𝕄),
        iprop(owns (c : Thread nD τ) arg2 fullShare x2 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ d, owns (c : Thread nD τ) arg13 fullShare d) ∗ owns (c : Thread nD τ) accM fullShare d14 ∗ owns (c : Thread nD τ) actM fullShare d15 ∗ Ring.inflight (flightWV c wV) (Ring.sl 3 (kv t.val)) (Ring.bk 512 (kv t.val)) ∗ Ring.free (cellPV c) (slotWV c wV) (Ring.sl 3 (kv t.val + 2)) ∗ owes (c : Thread nD τ) 0 W
            ∗ (iprop(owns (c : Thread nD τ) arg2 fullShare x2 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare (outG x9 x10 x11 x12 (accN d14 (vblk wV (kv t.val)) a)) ∗ (∃ d, owns (c : Thread nD τ) accM fullShare d) ∗ (∃ d, owns (c : Thread nD τ) actM fullShare d) ∗ Ring.free (cellPV c) (slotWV c wV) (Ring.sl 3 (kv t.val)) ∗ Ring.inflight (flightWV c wV) (Ring.sl 3 (kv t.val + 2)) (Ring.bk 512 (kv t.val + 2)) ∗ (∃ W', owes (c : Thread nD τ) 0 W')) -∗ K ⟨⟩))
          ⊢ wp frame (wpE (defs₀ (F := F)) Variants.none c none) Set.univ (cc0_peer_dense (grid0.coords t) arg2 harg2 tabU (Memref.isWhole_whole _) tabV (Memref.isWhole_whole _) arg5 harg5 arg6 harg6 arg7 harg7 arg8 harg8 arg9 harg9 arg10 harg10 arg11 harg11 arg12 harg12 arg13 harg13 accM (Memref.isWhole_whole _) actM (Memref.isWhole_whole _) bufU (Memref.isWhole_whole _) bufV (Memref.isWhole_whole _) cc0_scratch4 cc0_scratch5) K := by
    intro W K
    haveI : Fact (¬ k0_cond1 (grid0.coords t) = 1#1) := ⟨hc1⟩
    haveI : Fact (¬ k0_cond2 (grid0.coords t) = 1#1) := ⟨hc2⟩
    haveI : Fact (k0_cond4 (grid0.coords t) = 1#1) := ⟨hc4⟩
    haveI : Fact (k0_cond5 (grid0.coords t) = 1#1) := ⟨hc5⟩
    haveI : Fact (¬ k0_cond6 (grid0.coords t) = 1#1) := ⟨hc6⟩
    haveI : Fact (¬ k0_cond7 (grid0.coords t) = 1#1) := ⟨hc7⟩
    haveI : Fact (k0_cond8 (grid0.coords t) = 1#1) := ⟨hc8⟩
    haveI : Fact (1 ≤ t.val % 9) := ⟨(hcond4 t).1 hc4⟩
    simp only [cc0_peer_dense_eq_skeleton]; unfold cc0_peer_dense_skel
    simp only [k0_part125_eq_skeleton]
    unfold owns  Ring.free Ring.inflight
    iintro ⟨⟨%f2, %hf2, H2⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%f14, %hf14, H14⟩, ⟨%f15, %hf15, H15⟩, ⟨%gV0, HfV0, HrV0⟩, ⟨HcV2, ⟨%gV2, HsV2, HwV2⟩⟩, HW, Hk⟩
    ihave HspV2 := (srcV_split c wV (Ring.sl 3 (kv t.val + 2)) (Ring.bk 512 (kv t.val + 2))).1 $$ HwV2
    icases HspV2 with ⟨HhV2, HrV2⟩
    obtain rfl := harg2.eq_unread hf2; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
    sl_exec (disch := first | sl_exact hc1 | sl_exact hc2 | sl_exact hc4 | sl_exact hc5 | sl_exact hc6 | sl_exact hc7 | sl_exact hc8)
    sl_step
    iapply Hk
    isplitl [H2]
    · iexists _; isplitr; · ipureintro; exact harg2.read_unread _
      iexact H2
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; swap; · iexact H13
      ipureintro
      refine outG_of arg13 _ arg9 harg9 x9 arg10 harg10 x10 arg11 harg11 x11 arg12 harg12 x12 f14 d14 hf14 _ (vblk wV (kv t.val)) a ?_ _ _ _ _ _ _ _ _ _ _ _ _
      exact updN_of (Ring.sl 3 (kv t.val)) _ (vblk wV (kv t.val)) _ (c_k0_off84 t ((hcond4 t).1 hc4)) _ _ f15 (prvF t.val) _ (c_k0_off85 t) _ _ a (fun e τ => by rw [hf15]; exact ha e τ)
    isplitl [H14]
    · iexists _, _; isplitr; swap; · iexact H14
      ipureintro; rfl
    isplitl [H15]
    · iexists _, _; isplitr; swap; · iexact H15
      ipureintro; rfl
    isplitl [HfV0 HfV0_dst HfV0_src HrV0]
    · isplitl [HfV0]; · iexact HfV0
      iexists _; isplitl [HfV0_dst]; · iexact HfV0_dst
      iapply (srcV_split c wV (Ring.sl 3 (kv t.val)) (Ring.bk 512 (kv t.val))).2; isplitl [HfV0_src]; · iexact HfV0_src
      iexact HrV0
    isplitl [HcV2 HrV2]
    · iexists _; isplitl [HcV2]; · iexact HcV2
      iexact HrV2
    iexists _; iexact HW

end Cert.KernelIdeal.Pd

end
-- ==== Proof.Ideal.RunG.lean ====
/- The run of the kernel's body at the points of case G. -/
module

public import proofs.«01_k».proof.Proof.Ideal.Spec

@[expose] public section

set_option maxRecDepth 16384

noncomputable section

namespace Cert.KernelIdeal.Pd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

set_option maxHeartbeats 4000000 in
theorem runG (c : Dev nD) (t : Fin cfg0.N) (arg2 : Memref sig .tc .vmem S512x1024 .bf16) (harg2 : arg2.IsWhole) (arg5 : Memref sig .tc .vmem S8x128x512 .bf16) (harg5 : arg5.IsWhole) (arg6 : Memref sig .tc .vmem S8x128x512 .bf16) (harg6 : arg6.IsWhole) (arg7 : Memref sig .tc .vmem S8x128x512 .f32) (harg7 : arg7.IsWhole) (arg8 : Memref sig .tc .vmem S8x128x512 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S512x1024 .f32) (harg13 : arg13.IsWhole)
    (hc1 : ¬ k0_cond1 (grid0.coords t) = 1#1) (hc2 : ¬ k0_cond2 (grid0.coords t) = 1#1) (hc4 : k0_cond4 (grid0.coords t) = 1#1) (hc5 : ¬ k0_cond5 (grid0.coords t) = 1#1) (hc6 : ¬ k0_cond6 (grid0.coords t) = 1#1) (hc7 : ¬ k0_cond7 (grid0.coords t) = 1#1) (hc8 : k0_cond8 (grid0.coords t) = 1#1)
    (x2 : Vec F S512x1024 .bf16) (x5 : Vec F S8x128x512 .bf16) (x6 : Vec F S8x128x512 .bf16) (x7 : Vec F S8x128x512 .f32) (x8 : Vec F S8x128x512 .f32) (x9 : Vec F S512x1024 .f32) (x10 : Vec F S1x1x1024 .f32) (x11 : Vec F S1x1x1024 .f32) (x12 : Vec F S1x1024 .f32) (wU : HbBuf (F := F) c tabU) (wV : HbBuf (F := F) c tabV) (d14 : Vec F S1024x512 .f32) (d15 : Vec F S2x2048x512 .bf16) (a : Vec F S2048x512 .bf16) (ha : ∀ (e : Fin 2048) (τ : Fin 512), d15 (ix3 (prvF t.val) e τ) = a (ix2 e τ)) :
      ∀ (W : Waits sig Unit) (K : PUnit → sProp 𝕄),
        iprop(owns (c : Thread nD τ) arg2 fullShare x2 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ d, owns (c : Thread nD τ) arg13 fullShare d) ∗ owns (c : Thread nD τ) accM fullShare d14 ∗ owns (c : Thread nD τ) actM fullShare d15 ∗ Ring.inflight (flightWV c wV) (Ring.sl 3 (kv t.val)) (Ring.bk 512 (kv t.val)) ∗ owes (c : Thread nD τ) 0 W
            ∗ (iprop(owns (c : Thread nD τ) arg2 fullShare x2 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare (outG x9 x10 x11 x12 (accN d14 (vblk wV (kv t.val)) a)) ∗ (∃ d, owns (c : Thread nD τ) accM fullShare d) ∗ (∃ d, owns (c : Thread nD τ) actM fullShare d) ∗ Ring.free (cellPV c) (slotWV c wV) (Ring.sl 3 (kv t.val)) ∗ (∃ W', owes (c : Thread nD τ) 0 W')) -∗ K ⟨⟩))
          ⊢ wp frame (wpE (defs₀ (F := F)) Variants.none c none) Set.univ (cc0_peer_dense (grid0.coords t) arg2 harg2 tabU (Memref.isWhole_whole _) tabV (Memref.isWhole_whole _) arg5 harg5 arg6 harg6 arg7 harg7 arg8 harg8 arg9 harg9 arg10 harg10 arg11 harg11 arg12 harg12 arg13 harg13 accM (Memref.isWhole_whole _) actM (Memref.isWhole_whole _) bufU (Memref.isWhole_whole _) bufV (Memref.isWhole_whole _) cc0_scratch4 cc0_scratch5) K := by
    intro W K
    haveI : Fact (¬ k0_cond1 (grid0.coords t) = 1#1) := ⟨hc1⟩
    haveI : Fact (¬ k0_cond2 (grid0.coords t) = 1#1) := ⟨hc2⟩
    haveI : Fact (k0_cond4 (grid0.coords t) = 1#1) := ⟨hc4⟩
    haveI : Fact (¬ k0_cond5 (grid0.coords t) = 1#1) := ⟨hc5⟩
    haveI : Fact (¬ k0_cond6 (grid0.coords t) = 1#1) := ⟨hc6⟩
    haveI : Fact (¬ k0_cond7 (grid0.coords t) = 1#1) := ⟨hc7⟩
    haveI : Fact (k0_cond8 (grid0.coords t) = 1#1) := ⟨hc8⟩
    haveI : Fact (1 ≤ t.val % 9) := ⟨(hcond4 t).1 hc4⟩
    simp only [cc0_peer_dense_eq_skeleton]; unfold cc0_peer_dense_skel
    simp only [k0_part125_eq_skeleton]
    unfold owns  Ring.free Ring.inflight
    iintro ⟨⟨%f2, %hf2, H2⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%f14, %hf14, H14⟩, ⟨%f15, %hf15, H15⟩, ⟨%gV0, HfV0, HrV0⟩, HW, Hk⟩
    obtain rfl := harg2.eq_unread hf2; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
    sl_exec (disch := first | sl_exact hc1 | sl_exact hc2 | sl_exact hc4 | sl_exact hc5 | sl_exact hc6 | sl_exact hc7 | sl_exact hc8)
    sl_step
    iapply Hk
    isplitl [H2]
    · iexists _; isplitr; · ipureintro; exact harg2.read_unread _
      iexact H2
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; swap; · iexact H13
      ipureintro
      refine outG_of arg13 _ arg9 harg9 x9 arg10 harg10 x10 arg11 harg11 x11 arg12 harg12 x12 f14 d14 hf14 _ (vblk wV (kv t.val)) a ?_ _ _ _ _ _ _ _ _ _ _ _ _
      exact updN_of (Ring.sl 3 (kv t.val)) _ (vblk wV (kv t.val)) _ (c_k0_off84 t ((hcond4 t).1 hc4)) _ _ f15 (prvF t.val) _ (c_k0_off85 t) _ _ a (fun e τ => by rw [hf15]; exact ha e τ)
    isplitl [H14]
    · iexists _, _; isplitr; swap; · iexact H14
      ipureintro; rfl
    isplitl [H15]
    · iexists _, _; isplitr; swap; · iexact H15
      ipureintro; rfl
    isplitl [HfV0 HfV0_dst HfV0_src HrV0]
    · isplitl [HfV0]; · iexact HfV0
      iexists _; isplitl [HfV0_dst]; · iexact HfV0_dst
      iapply (srcV_split c wV (Ring.sl 3 (kv t.val)) (Ring.bk 512 (kv t.val))).2; isplitl [HfV0_src]; · iexact HfV0_src
      iexact HrV0
    iexists _; iexact HW

end Cert.KernelIdeal.Pd

end
-- ==== Proof.Ideal.Body.lean ====
/- The body at every point, and the frame. -/
module

public import proofs.«01_k».proof.Proof.Ideal.Data
public import proofs.«01_k».proof.Proof.Ideal.RunA
public import proofs.«01_k».proof.Proof.Ideal.RunB
public import proofs.«01_k».proof.Proof.Ideal.RunC
public import proofs.«01_k».proof.Proof.Ideal.RunD
public import proofs.«01_k».proof.Proof.Ideal.RunE
public import proofs.«01_k».proof.Proof.Ideal.RunF
public import proofs.«01_k».proof.Proof.Ideal.RunG
public import Idealize.ShloMosaic.Lib.Claim

@[expose] public section

set_option maxRecDepth 16384

noncomputable section

namespace Cert.KernelIdeal.Pd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

set_option maxHeartbeats 4000000 in
theorem soundA (c : Dev nD) (t : Fin cfg0.N) (h0 : t.val = 0) :
    bodyPre m c t ⊢ wp frame (wpE (defs₀ (F := F)) Variants.none c none) Set.univ (bodyAt0 t) (fun _ => bodyPost m c t) := by
  have hN : t.val < 576 := lt_of_lt_of_eq t.isLt N_0
  have eku : ku t.val = 8 * (t.val / 9) + t.val % 9 := rfl
  have ekv : kv t.val = 8 * (t.val / 9) + (t.val % 9 - 1) := rfl
  have eku' : ku (t.val + 1) = 8 * ((t.val + 1) / 9) + (t.val + 1) % 9 := rfl
  have ekv' : kv (t.val + 1) = 8 * ((t.val + 1) / 9) + ((t.val + 1) % 9 - 1) := rfl
  have hc1 : k0_cond1 (grid0.coords t) = 1#1 := (hcond1 t).2 (by omega)
  have hc2 : k0_cond2 (grid0.coords t) = 1#1 := (hcond2 t).2 (by omega)
  have hc3 : k0_cond3 (grid0.coords t) = 1#1 := (hcond3 t).2 (by omega)
  have hc4 : ¬ k0_cond4 (grid0.coords t) = 1#1 := fun h => by have h2 := (hcond4 t).1 h; omega
  have hc6 : k0_cond6 (grid0.coords t) = 1#1 := (hcond6 t).2 (by omega)
  have hc7 : ¬ k0_cond7 (grid0.coords t) = 1#1 := fun h => by have h2 := (hcond7 t).1 h; omega
  have hc8 : ¬ k0_cond8 (grid0.coords t) = 1#1 := fun h => by have h2 := (hcond8 t).1 h; omega
  unfold bodyPre bodyPost bodyAt0
  simp only [before0, before1, before2, before3, before4, before5, before6, before7, before8]
  rw [PhiR_castSucc m c t, PhiR_succ m c t]
  rw [leaves0, leaves1, leaves2, leaves3, leaves4, leaves5, leaves6, leaves7, leaves8, leaves9_idle m c t (by omega)]
  unfold Dat.owesAt Pipeline.owesWithin
  rw [show (dats m 0 c).owed t.castSucc = 0 from rfl, show (dats m 0 c).owed t.succ = 0 from rfl]
  unfold PhiR
  rw [if_pos h0, if_pos h0, if_neg (Nat.succ_ne_zero _), if_neg (Nat.succ_ne_zero _)]
  rw [scrAt_zero m c t.val (by omega)]
  rw [scrAt_succ m c t (by omega)]
  rw [accAt_zero m c t.val (by omega)]
  rw [show ku (t.val + 1) = ku t.val + 1 by omega, show kv (t.val + 1) = kv t.val by omega]
  rw [ringU₀_eq c (V m c main_v12) (ku t.val) (by omega)]
  rw [ringU_wi c (V m c main_v12) (ku t.val) (by omega), flU_lt c (V m c main_v12) (show ku t.val + 1 < 512 by omega)]
  rw [ringV₀_eq c (V m c main_v11) (kv t.val) (by omega)]
  rw [ringV_pre c (V m c main_v11) (kv t.val) (by omega), flV_lt c (V m c main_v11) (show kv t.val + 1 < 512 by omega)]
  iintro ⟨⟨⟨HA, HB⟩, Hg, ⟨HrU0, HrU1, HrU2⟩, ⟨HrV0, HrV1, HrV2⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (runA c t (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) hc1 hc2 hc3 hc4 hc6 hc7 hc8 (iblk m c 0 t) (iblk m c 1 t) (iblk m c 2 t) (iblk m c 3 t) (iblk m c 4 t) (iblk m c 5 t) (iblk m c 6 t) (iblk m c 7 t) (iblk m c 8 t) (V m c main_v12) (V m c main_v11) ((dats m 0 c).before 9 t d9) W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HA]; · iexact HA
  isplitl [HB]; · iexact HB
  isplitl [HrU0]; · iexact HrU0
  isplitl [HrU1]; · iexact HrU1
  isplitl [HrU2]; · iexact HrU2
  isplitl [HrV0]; · iexact HrV0
  isplitl [HrV1]; · iexact HrV1
  isplitl [HrV2]; · iexact HrV2
  isplitl [HW]; · iexact HW
  iintro ⟨H0, H1, H2, H3, H4, H5, H6, H7, H8, H9, HA, HB, HrU0, HrU1, HrU2, HrV0, HrV1, HrV2, ⟨%W', HW'⟩⟩
  isplitl [HA HB Hg HrU1 HrU2 HrU0 HrV0 HrV1 HrV2]
  · isplitl [HA HB]
    · isplitl [HA]; · iexact HA
      iexact HB
    isplitl [Hg]; · iexact Hg
    isplitl [HrU1 HrU2 HrU0]
    · isplitl [HrU1]; · iexact HrU1
      isplitl [HrU2]; · iexact HrU2
      iexact HrU0
    isplitl [HrV0]; · iexact HrV0
    isplitl [HrV1]; · iexact HrV1
    iexact HrV2
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexists d9; iexact H9
set_option maxHeartbeats 4000000 in
theorem soundB (c : Dev nD) (t : Fin cfg0.N) (h0 : ¬ t.val = 0) (h9 : t.val % 9 = 0) :
    bodyPre m c t ⊢ wp frame (wpE (defs₀ (F := F)) Variants.none c none) Set.univ (bodyAt0 t) (fun _ => bodyPost m c t) := by
  have hN : t.val < 576 := lt_of_lt_of_eq t.isLt N_0
  have eku : ku t.val = 8 * (t.val / 9) + t.val % 9 := rfl
  have ekv : kv t.val = 8 * (t.val / 9) + (t.val % 9 - 1) := rfl
  have eku' : ku (t.val + 1) = 8 * ((t.val + 1) / 9) + (t.val + 1) % 9 := rfl
  have ekv' : kv (t.val + 1) = 8 * ((t.val + 1) / 9) + ((t.val + 1) % 9 - 1) := rfl
  have hc1 : ¬ k0_cond1 (grid0.coords t) = 1#1 := fun h => by have h2 := (hcond1 t).1 h; omega
  have hc2 : k0_cond2 (grid0.coords t) = 1#1 := (hcond2 t).2 (by omega)
  have hc3 : k0_cond3 (grid0.coords t) = 1#1 := (hcond3 t).2 (by omega)
  have hc4 : ¬ k0_cond4 (grid0.coords t) = 1#1 := fun h => by have h2 := (hcond4 t).1 h; omega
  have hc6 : k0_cond6 (grid0.coords t) = 1#1 := (hcond6 t).2 (by omega)
  have hc7 : ¬ k0_cond7 (grid0.coords t) = 1#1 := fun h => by have h2 := (hcond7 t).1 h; omega
  have hc8 : ¬ k0_cond8 (grid0.coords t) = 1#1 := fun h => by have h2 := (hcond8 t).1 h; omega
  unfold bodyPre bodyPost bodyAt0
  simp only [before0, before1, before2, before3, before4, before5, before6, before7, before8]
  rw [PhiR_castSucc m c t, PhiR_succ m c t]
  rw [leaves0, leaves1, leaves2, leaves3, leaves4, leaves5, leaves6, leaves7, leaves8, leaves9_idle m c t (by omega)]
  unfold Dat.owesAt Pipeline.owesWithin
  rw [show (dats m 0 c).owed t.castSucc = 0 from rfl, show (dats m 0 c).owed t.succ = 0 from rfl]
  unfold PhiR
  rw [if_neg (show ¬ t.val = 0 by omega), if_neg (show ¬ t.val = 0 by omega), if_neg (Nat.succ_ne_zero _), if_neg (Nat.succ_ne_zero _)]
  rw [scrAt_zero m c t.val (by omega)]
  rw [scrAt_succ m c t (by omega)]
  rw [accAt_zero m c t.val (by omega)]
  rw [show ku (t.val + 1) = ku t.val + 1 by omega, show kv (t.val + 1) = kv t.val by omega]
  rw [ringU_wi c (V m c main_v12) (ku t.val) (by omega), ringU_pre c (V m c main_v12) (ku t.val) (by omega)]
  iintro ⟨⟨⟨HA, HB⟩, Hg, ⟨HrU0, HrU1, HrU2⟩, HrV⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (runB c t (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) hc1 hc2 hc3 hc4 hc6 hc7 hc8 (iblk m c 0 t) (iblk m c 1 t) (iblk m c 2 t) (iblk m c 3 t) (iblk m c 4 t) (iblk m c 5 t) (iblk m c 6 t) (iblk m c 7 t) (iblk m c 8 t) (V m c main_v12) (V m c main_v11) ((dats m 0 c).before 9 t d9) W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HA]; · iexact HA
  isplitl [HB]; · iexact HB
  isplitl [HrU0]; · iexact HrU0
  isplitl [HrU2]; · iexact HrU2
  isplitl [HW]; · iexact HW
  iintro ⟨H0, H1, H2, H3, H4, H5, H6, H7, H8, H9, HA, HB, HrU0, HrU2, ⟨%W', HW'⟩⟩
  isplitl [HA HB Hg HrU1 HrU2 HrU0 HrV]
  · isplitl [HA HB]
    · isplitl [HA]; · iexact HA
      iexact HB
    isplitl [Hg]; · iexact Hg
    isplitl [HrU1 HrU2 HrU0]
    · isplitl [HrU1]; · iexact HrU1
      isplitl [HrU2]; · iexact HrU2
      iexact HrU0
    iexact HrV
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexists d9; iexact H9
set_option maxHeartbeats 4000000 in
theorem soundC (c : Dev nD) (t : Fin cfg0.N) (h9 : 1 ≤ t.val % 9) (h8 : t.val % 9 < 8) (hu : ku t.val + 2 < 512) :
    bodyPre m c t ⊢ wp frame (wpE (defs₀ (F := F)) Variants.none c none) Set.univ (bodyAt0 t) (fun _ => bodyPost m c t) := by
  have hN : t.val < 576 := lt_of_lt_of_eq t.isLt N_0
  have eku : ku t.val = 8 * (t.val / 9) + t.val % 9 := rfl
  have ekv : kv t.val = 8 * (t.val / 9) + (t.val % 9 - 1) := rfl
  have eku' : ku (t.val + 1) = 8 * ((t.val + 1) / 9) + (t.val + 1) % 9 := rfl
  have ekv' : kv (t.val + 1) = 8 * ((t.val + 1) / 9) + ((t.val + 1) % 9 - 1) := rfl
  have hc1 : ¬ k0_cond1 (grid0.coords t) = 1#1 := fun h => by have h2 := (hcond1 t).1 h; omega
  have hc2 : k0_cond2 (grid0.coords t) = 1#1 := (hcond2 t).2 (by omega)
  have hc3 : k0_cond3 (grid0.coords t) = 1#1 := (hcond3 t).2 (by omega)
  have hc4 : k0_cond4 (grid0.coords t) = 1#1 := (hcond4 t).2 (by omega)
  have hc5 : k0_cond5 (grid0.coords t) = 1#1 := (hcond5 t (by omega)).2 (by omega)
  have hc6 : ¬ k0_cond6 (grid0.coords t) = 1#1 := fun h => by have h2 := (hcond6 t).1 h; omega
  have hc7 : k0_cond7 (grid0.coords t) = 1#1 := (hcond7 t).2 (by omega)
  have hc8 : ¬ k0_cond8 (grid0.coords t) = 1#1 := fun h => by have h2 := (hcond8 t).1 h; omega
  unfold bodyPre bodyPost bodyAt0
  simp only [before0, before1, before2, before3, before4, before5, before6, before7, before8]
  rw [PhiR_castSucc m c t, PhiR_succ m c t]
  rw [leaves0, leaves1, leaves2, leaves3, leaves4, leaves5, leaves6, leaves7, leaves8, leaves9_idle m c t (by omega)]
  unfold Dat.owesAt Pipeline.owesWithin
  rw [show (dats m 0 c).owed t.castSucc = 0 from rfl, show (dats m 0 c).owed t.succ = 0 from rfl]
  unfold PhiR
  rw [if_neg (show ¬ t.val = 0 by omega), if_neg (show ¬ t.val = 0 by omega), if_neg (Nat.succ_ne_zero _), if_neg (Nat.succ_ne_zero _)]
  rw [scrAt_pos m c t.val (by omega)]
  rw [scrAt_succ m c t (by omega)]
  rw [accAt_pos m c t.val (by omega)]
  rw [show ku (t.val + 1) = ku t.val + 1 by omega, show kv (t.val + 1) = kv t.val + 1 by omega]
  rw [ringU_wi c (V m c main_v12) (ku t.val) (by omega), ringU_pre c (V m c main_v12) (ku t.val) (by omega)]
  rw [ringV_wi c (V m c main_v11) (kv t.val) (by omega), ringV_pre c (V m c main_v11) (kv t.val) (by omega)]
  iintro ⟨⟨⟨HA, ⟨%d15, %ha, HB⟩⟩, Hg, ⟨HrU0, HrU1, HrU2⟩, ⟨HrV0, HrV1, HrV2⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (runC c t (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) hc1 hc2 hc3 hc4 hc5 hc6 hc7 hc8 (iblk m c 0 t) (iblk m c 1 t) (iblk m c 2 t) (iblk m c 3 t) (iblk m c 4 t) (iblk m c 5 t) (iblk m c 6 t) (iblk m c 7 t) (iblk m c 8 t) (V m c main_v12) (V m c main_v11) ((dats m 0 c).before 9 t d9) (accAt m c (t.val - 1)) d15 (actAt m c (t.val - 1)) ha W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HA]; · iexact HA
  isplitl [HB]; · iexact HB
  isplitl [HrU0]; · iexact HrU0
  isplitl [HrU2]; · iexact HrU2
  isplitl [HrV0]; · iexact HrV0
  isplitl [HrV2]; · iexact HrV2
  isplitl [HW]; · iexact HW
  iintro ⟨H0, H1, H2, H3, H4, H5, H6, H7, H8, H9, HA, HB, HrU0, HrU2, HrV0, HrV2, ⟨%W', HW'⟩⟩
  isplitl [HA HB Hg HrU1 HrU2 HrU0 HrV1 HrV2 HrV0]
  · isplitl [HA HB]
    · isplitl [HA]; · iexact HA
      iexact HB
    isplitl [Hg]; · iexact Hg
    isplitl [HrU1 HrU2 HrU0]
    · isplitl [HrU1]; · iexact HrU1
      isplitl [HrU2]; · iexact HrU2
      iexact HrU0
    isplitl [HrV1]; · iexact HrV1
    isplitl [HrV2]; · iexact HrV2
    iexact HrV0
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexists d9; iexact H9
set_option maxHeartbeats 4000000 in
theorem soundD (c : Dev nD) (t : Fin cfg0.N) (h9 : 1 ≤ t.val % 9) (h8 : t.val % 9 < 8) (hu : ¬ ku t.val + 2 < 512) (hv : kv t.val + 2 < 512) :
    bodyPre m c t ⊢ wp frame (wpE (defs₀ (F := F)) Variants.none c none) Set.univ (bodyAt0 t) (fun _ => bodyPost m c t) := by
  have hN : t.val < 576 := lt_of_lt_of_eq t.isLt N_0
  have eku : ku t.val = 8 * (t.val / 9) + t.val % 9 := rfl
  have ekv : kv t.val = 8 * (t.val / 9) + (t.val % 9 - 1) := rfl
  have eku' : ku (t.val + 1) = 8 * ((t.val + 1) / 9) + (t.val + 1) % 9 := rfl
  have ekv' : kv (t.val + 1) = 8 * ((t.val + 1) / 9) + ((t.val + 1) % 9 - 1) := rfl
  have hc1 : ¬ k0_cond1 (grid0.coords t) = 1#1 := fun h => by have h2 := (hcond1 t).1 h; omega
  have hc2 : k0_cond2 (grid0.coords t) = 1#1 := (hcond2 t).2 (by omega)
  have hc3 : ¬ k0_cond3 (grid0.coords t) = 1#1 := fun h => by have h2 := (hcond3 t).1 h; omega
  have hc4 : k0_cond4 (grid0.coords t) = 1#1 := (hcond4 t).2 (by omega)
  have hc5 : k0_cond5 (grid0.coords t) = 1#1 := (hcond5 t (by omega)).2 (by omega)
  have hc6 : ¬ k0_cond6 (grid0.coords t) = 1#1 := fun h => by have h2 := (hcond6 t).1 h; omega
  have hc7 : k0_cond7 (grid0.coords t) = 1#1 := (hcond7 t).2 (by omega)
  have hc8 : ¬ k0_cond8 (grid0.coords t) = 1#1 := fun h => by have h2 := (hcond8 t).1 h; omega
  unfold bodyPre bodyPost bodyAt0
  simp only [before0, before1, before2, before3, before4, before5, before6, before7, before8]
  rw [PhiR_castSucc m c t, PhiR_succ m c t]
  rw [leaves0, leaves1, leaves2, leaves3, leaves4, leaves5, leaves6, leaves7, leaves8, leaves9_idle m c t (by omega)]
  unfold Dat.owesAt Pipeline.owesWithin
  rw [show (dats m 0 c).owed t.castSucc = 0 from rfl, show (dats m 0 c).owed t.succ = 0 from rfl]
  unfold PhiR
  rw [if_neg (show ¬ t.val = 0 by omega), if_neg (show ¬ t.val = 0 by omega), if_neg (Nat.succ_ne_zero _), if_neg (Nat.succ_ne_zero _)]
  rw [scrAt_pos m c t.val (by omega)]
  rw [scrAt_succ m c t (by omega)]
  rw [accAt_pos m c t.val (by omega)]
  rw [show ku (t.val + 1) = ku t.val + 1 by omega, show kv (t.val + 1) = kv t.val + 1 by omega]
  rw [ringU_w c (V m c main_v12) (ku t.val) (by omega), ringU_pre c (V m c main_v12) (ku t.val) (by omega)]
  rw [ringV_wi c (V m c main_v11) (kv t.val) (by omega), ringV_pre c (V m c main_v11) (kv t.val) (by omega)]
  iintro ⟨⟨⟨HA, ⟨%d15, %ha, HB⟩⟩, Hg, ⟨HrU0, HrU1, HrU2⟩, ⟨HrV0, HrV1, HrV2⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (runD c t (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) hc1 hc2 hc3 hc4 hc5 hc6 hc7 hc8 (iblk m c 0 t) (iblk m c 1 t) (iblk m c 2 t) (iblk m c 3 t) (iblk m c 4 t) (iblk m c 5 t) (iblk m c 6 t) (iblk m c 7 t) (iblk m c 8 t) (V m c main_v12) (V m c main_v11) ((dats m 0 c).before 9 t d9) (accAt m c (t.val - 1)) d15 (actAt m c (t.val - 1)) ha W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HA]; · iexact HA
  isplitl [HB]; · iexact HB
  isplitl [HrU0]; · iexact HrU0
  isplitl [HrV0]; · iexact HrV0
  isplitl [HrV2]; · iexact HrV2
  isplitl [HW]; · iexact HW
  iintro ⟨H0, H1, H2, H3, H4, H5, H6, H7, H8, H9, HA, HB, HrU0, HrV0, HrV2, ⟨%W', HW'⟩⟩
  isplitl [HA HB Hg HrU1 HrU2 HrU0 HrV1 HrV2 HrV0]
  · isplitl [HA HB]
    · isplitl [HA]; · iexact HA
      iexact HB
    isplitl [Hg]; · iexact Hg
    isplitl [HrU1 HrU2 HrU0]
    · isplitl [HrU1]; · iexact HrU1
      isplitl [HrU2]; · iexact HrU2
      iexact HrU0
    isplitl [HrV1]; · iexact HrV1
    isplitl [HrV2]; · iexact HrV2
    iexact HrV0
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexists d9; iexact H9
set_option maxHeartbeats 4000000 in
theorem soundE (c : Dev nD) (t : Fin cfg0.N) (h9 : 1 ≤ t.val % 9) (h8 : t.val % 9 < 8) (hu : ¬ ku t.val + 2 < 512) (hv : ¬ kv t.val + 2 < 512) :
    bodyPre m c t ⊢ wp frame (wpE (defs₀ (F := F)) Variants.none c none) Set.univ (bodyAt0 t) (fun _ => bodyPost m c t) := by
  have hN : t.val < 576 := lt_of_lt_of_eq t.isLt N_0
  have eku : ku t.val = 8 * (t.val / 9) + t.val % 9 := rfl
  have ekv : kv t.val = 8 * (t.val / 9) + (t.val % 9 - 1) := rfl
  have eku' : ku (t.val + 1) = 8 * ((t.val + 1) / 9) + (t.val + 1) % 9 := rfl
  have ekv' : kv (t.val + 1) = 8 * ((t.val + 1) / 9) + ((t.val + 1) % 9 - 1) := rfl
  have hc1 : ¬ k0_cond1 (grid0.coords t) = 1#1 := fun h => by have h2 := (hcond1 t).1 h; omega
  have hc2 : k0_cond2 (grid0.coords t) = 1#1 := (hcond2 t).2 (by omega)
  have hc3 : ¬ k0_cond3 (grid0.coords t) = 1#1 := fun h => by have h2 := (hcond3 t).1 h; omega
  have hc4 : k0_cond4 (grid0.coords t) = 1#1 := (hcond4 t).2 (by omega)
  have hc5 : ¬ k0_cond5 (grid0.coords t) = 1#1 := fun h => by have h2 := (hcond5 t (by omega)).1 h; omega
  have hc6 : ¬ k0_cond6 (grid0.coords t) = 1#1 := fun h => by have h2 := (hcond6 t).1 h; omega
  have hc7 : k0_cond7 (grid0.coords t) = 1#1 := (hcond7 t).2 (by omega)
  have hc8 : ¬ k0_cond8 (grid0.coords t) = 1#1 := fun h => by have h2 := (hcond8 t).1 h; omega
  unfold bodyPre bodyPost bodyAt0
  simp only [before0, before1, before2, before3, before4, before5, before6, before7, before8]
  rw [PhiR_castSucc m c t, PhiR_succ m c t]
  rw [leaves0, leaves1, leaves2, leaves3, leaves4, leaves5, leaves6, leaves7, leaves8, leaves9_idle m c t (by omega)]
  unfold Dat.owesAt Pipeline.owesWithin
  rw [show (dats m 0 c).owed t.castSucc = 0 from rfl, show (dats m 0 c).owed t.succ = 0 from rfl]
  unfold PhiR
  rw [if_neg (show ¬ t.val = 0 by omega), if_neg (show ¬ t.val = 0 by omega), if_neg (Nat.succ_ne_zero _), if_neg (Nat.succ_ne_zero _)]
  rw [scrAt_pos m c t.val (by omega)]
  rw [scrAt_succ m c t (by omega)]
  rw [accAt_pos m c t.val (by omega)]
  rw [show ku (t.val + 1) = ku t.val + 1 by omega, show kv (t.val + 1) = kv t.val + 1 by omega]
  rw [ringU_w c (V m c main_v12) (ku t.val) (by omega), ringU_pre c (V m c main_v12) (ku t.val) (by omega)]
  rw [ringV_w c (V m c main_v11) (kv t.val) (by omega), ringV_pre c (V m c main_v11) (kv t.val) (by omega)]
  iintro ⟨⟨⟨HA, ⟨%d15, %ha, HB⟩⟩, Hg, ⟨HrU0, HrU1, HrU2⟩, ⟨HrV0, HrV1, HrV2⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (runE c t (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) hc1 hc2 hc3 hc4 hc5 hc6 hc7 hc8 (iblk m c 0 t) (iblk m c 1 t) (iblk m c 2 t) (iblk m c 3 t) (iblk m c 4 t) (iblk m c 5 t) (iblk m c 6 t) (iblk m c 7 t) (iblk m c 8 t) (V m c main_v12) (V m c main_v11) ((dats m 0 c).before 9 t d9) (accAt m c (t.val - 1)) d15 (actAt m c (t.val - 1)) ha W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HA]; · iexact HA
  isplitl [HB]; · iexact HB
  isplitl [HrU0]; · iexact HrU0
  isplitl [HrV0]; · iexact HrV0
  isplitl [HW]; · iexact HW
  iintro ⟨H0, H1, H2, H3, H4, H5, H6, H7, H8, H9, HA, HB, HrU0, HrV0, ⟨%W', HW'⟩⟩
  isplitl [HA HB Hg HrU1 HrU2 HrU0 HrV1 HrV2 HrV0]
  · isplitl [HA HB]
    · isplitl [HA]; · iexact HA
      iexact HB
    isplitl [Hg]; · iexact Hg
    isplitl [HrU1 HrU2 HrU0]
    · isplitl [HrU1]; · iexact HrU1
      isplitl [HrU2]; · iexact HrU2
      iexact HrU0
    isplitl [HrV1]; · iexact HrV1
    isplitl [HrV2]; · iexact HrV2
    iexact HrV0
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexists d9; iexact H9
set_option maxHeartbeats 4000000 in
theorem soundF (c : Dev nD) (t : Fin cfg0.N) (h9 : t.val % 9 = 8) (hv : kv t.val + 2 < 512) :
    bodyPre m c t ⊢ wp frame (wpE (defs₀ (F := F)) Variants.none c none) Set.univ (bodyAt0 t) (fun _ => bodyPost m c t) := by
  have hN : t.val < 576 := lt_of_lt_of_eq t.isLt N_0
  have eku : ku t.val = 8 * (t.val / 9) + t.val % 9 := rfl
  have ekv : kv t.val = 8 * (t.val / 9) + (t.val % 9 - 1) := rfl
  have eku' : ku (t.val + 1) = 8 * ((t.val + 1) / 9) + (t.val + 1) % 9 := rfl
  have ekv' : kv (t.val + 1) = 8 * ((t.val + 1) / 9) + ((t.val + 1) % 9 - 1) := rfl
  have hc1 : ¬ k0_cond1 (grid0.coords t) = 1#1 := fun h => by have h2 := (hcond1 t).1 h; omega
  have hc2 : ¬ k0_cond2 (grid0.coords t) = 1#1 := fun h => by have h2 := (hcond2 t).1 h; omega
  have hc4 : k0_cond4 (grid0.coords t) = 1#1 := (hcond4 t).2 (by omega)
  have hc5 : k0_cond5 (grid0.coords t) = 1#1 := (hcond5 t (by omega)).2 (by omega)
  have hc6 : ¬ k0_cond6 (grid0.coords t) = 1#1 := fun h => by have h2 := (hcond6 t).1 h; omega
  have hc7 : ¬ k0_cond7 (grid0.coords t) = 1#1 := fun h => by have h2 := (hcond7 t).1 h; omega
  have hc8 : k0_cond8 (grid0.coords t) = 1#1 := (hcond8 t).2 (by omega)
  unfold bodyPre bodyPost bodyAt0
  simp only [before0, before1, before2, before3, before4, before5, before6, before7, before8]
  rw [PhiR_castSucc m c t, PhiR_succ m c t]
  rw [leaves0, leaves1, leaves2, leaves3, leaves4, leaves5, leaves6, leaves7, leaves8, leaves9_live m c t h9]
  unfold Dat.owesAt Pipeline.owesWithin
  rw [show (dats m 0 c).owed t.castSucc = 0 from rfl, show (dats m 0 c).owed t.succ = 0 from rfl]
  unfold PhiR
  rw [if_neg (show ¬ t.val = 0 by omega), if_neg (show ¬ t.val = 0 by omega), if_neg (Nat.succ_ne_zero _), if_neg (Nat.succ_ne_zero _)]
  rw [scrAt_pos m c t.val (by omega)]
  rw [scrAt_zero m c (t.val + 1) (by omega)]
  rw [accAt_pos m c t.val (by omega)]
  rw [show ku (t.val + 1) = ku t.val by omega, show kv (t.val + 1) = kv t.val + 1 by omega]
  rw [ringV_wi c (V m c main_v11) (kv t.val) (by omega), ringV_pre c (V m c main_v11) (kv t.val) (by omega)]
  iintro ⟨⟨⟨HA, ⟨%d15, %ha, HB⟩⟩, Hg, HrU, ⟨HrV0, HrV1, HrV2⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (runF c t (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) hc1 hc2 hc4 hc5 hc6 hc7 hc8 (iblk m c 0 t) (iblk m c 1 t) (iblk m c 2 t) (iblk m c 3 t) (iblk m c 4 t) (iblk m c 5 t) (iblk m c 6 t) (iblk m c 7 t) (iblk m c 8 t) (V m c main_v12) (V m c main_v11) (accAt m c (t.val - 1)) d15 (actAt m c (t.val - 1)) ha W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [HA]; · iexact HA
  isplitl [HB]; · iexact HB
  isplitl [HrV0]; · iexact HrV0
  isplitl [HrV2]; · iexact HrV2
  isplitl [HW]; · iexact HW
  iintro ⟨H0, H1, H2, H3, H4, H5, H6, H7, H8, H9, HA, HB, HrV0, HrV2, ⟨%W', HW'⟩⟩
  isplitl [HA HB Hg HrU HrV1 HrV2 HrV0]
  · isplitl [HA HB]
    · isplitl [HA]; · iexact HA
      iexact HB
    isplitl [Hg]; · iexact Hg
    isplitl [HrU]
    · iexact HrU
    isplitl [HrV1]; · iexact HrV1
    isplitl [HrV2]; · iexact HrV2
    iexact HrV0
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9
set_option maxHeartbeats 4000000 in
theorem soundG (c : Dev nD) (t : Fin cfg0.N) (h9 : t.val % 9 = 8) (hv : ¬ kv t.val + 2 < 512) :
    bodyPre m c t ⊢ wp frame (wpE (defs₀ (F := F)) Variants.none c none) Set.univ (bodyAt0 t) (fun _ => bodyPost m c t) := by
  have hN : t.val < 576 := lt_of_lt_of_eq t.isLt N_0
  have eku : ku t.val = 8 * (t.val / 9) + t.val % 9 := rfl
  have ekv : kv t.val = 8 * (t.val / 9) + (t.val % 9 - 1) := rfl
  have eku' : ku (t.val + 1) = 8 * ((t.val + 1) / 9) + (t.val + 1) % 9 := rfl
  have ekv' : kv (t.val + 1) = 8 * ((t.val + 1) / 9) + ((t.val + 1) % 9 - 1) := rfl
  have hc1 : ¬ k0_cond1 (grid0.coords t) = 1#1 := fun h => by have h2 := (hcond1 t).1 h; omega
  have hc2 : ¬ k0_cond2 (grid0.coords t) = 1#1 := fun h => by have h2 := (hcond2 t).1 h; omega
  have hc4 : k0_cond4 (grid0.coords t) = 1#1 := (hcond4 t).2 (by omega)
  have hc5 : ¬ k0_cond5 (grid0.coords t) = 1#1 := fun h => by have h2 := (hcond5 t (by omega)).1 h; omega
  have hc6 : ¬ k0_cond6 (grid0.coords t) = 1#1 := fun h => by have h2 := (hcond6 t).1 h; omega
  have hc7 : ¬ k0_cond7 (grid0.coords t) = 1#1 := fun h => by have h2 := (hcond7 t).1 h; omega
  have hc8 : k0_cond8 (grid0.coords t) = 1#1 := (hcond8 t).2 (by omega)
  unfold bodyPre bodyPost bodyAt0
  simp only [before0, before1, before2, before3, before4, before5, before6, before7, before8]
  rw [PhiR_castSucc m c t, PhiR_succ m c t]
  rw [leaves0, leaves1, leaves2, leaves3, leaves4, leaves5, leaves6, leaves7, leaves8, leaves9_live m c t h9]
  unfold Dat.owesAt Pipeline.owesWithin
  rw [show (dats m 0 c).owed t.castSucc = 0 from rfl, show (dats m 0 c).owed t.succ = 0 from rfl]
  unfold PhiR
  rw [if_neg (show ¬ t.val = 0 by omega), if_neg (show ¬ t.val = 0 by omega), if_neg (Nat.succ_ne_zero _), if_neg (Nat.succ_ne_zero _)]
  rw [scrAt_pos m c t.val (by omega)]
  rw [scrAt_zero m c (t.val + 1) (by omega)]
  rw [accAt_pos m c t.val (by omega)]
  rw [show ku (t.val + 1) = ku t.val by omega, show kv (t.val + 1) = kv t.val + 1 by omega]
  rw [ringV_w c (V m c main_v11) (kv t.val) (by omega), ringV_pre c (V m c main_v11) (kv t.val) (by omega)]
  iintro ⟨⟨⟨HA, ⟨%d15, %ha, HB⟩⟩, Hg, HrU, ⟨HrV0, HrV1, HrV2⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (runG c t (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) hc1 hc2 hc4 hc5 hc6 hc7 hc8 (iblk m c 0 t) (iblk m c 1 t) (iblk m c 2 t) (iblk m c 3 t) (iblk m c 4 t) (iblk m c 5 t) (iblk m c 6 t) (iblk m c 7 t) (iblk m c 8 t) (V m c main_v12) (V m c main_v11) (accAt m c (t.val - 1)) d15 (actAt m c (t.val - 1)) ha W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [HA]; · iexact HA
  isplitl [HB]; · iexact HB
  isplitl [HrV0]; · iexact HrV0
  isplitl [HW]; · iexact HW
  iintro ⟨H0, H1, H2, H3, H4, H5, H6, H7, H8, H9, HA, HB, HrV0, ⟨%W', HW'⟩⟩
  isplitl [HA HB Hg HrU HrV1 HrV2 HrV0]
  · isplitl [HA HB]
    · isplitl [HA]; · iexact HA
      iexact HB
    isplitl [Hg]; · iexact Hg
    isplitl [HrU]
    · iexact HrU
    isplitl [HrV1]; · iexact HrV1
    isplitl [HrV2]; · iexact HrV2
    iexact HrV0
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9
/-- The body's triple at any point. -/
theorem sound_body (c : Dev nD) (t : Fin cfg0.N) :
    bodyPre m c t ⊢ wp frame (wpE (defs₀ (F := F)) Variants.none c none) Set.univ (bodyAt0 t) (fun _ => bodyPost m c t) := by
  have hN : t.val < 576 := lt_of_lt_of_eq t.isLt N_0
  have eku : ku t.val = 8 * (t.val / 9) + t.val % 9 := rfl
  have ekv : kv t.val = 8 * (t.val / 9) + (t.val % 9 - 1) := rfl
  by_cases h0 : t.val = 0
  · exact soundA m c t h0
  by_cases h9 : t.val % 9 = 0
  · exact soundB m c t h0 h9
  by_cases hv : kv t.val + 2 < 512
  · by_cases h8 : t.val % 9 = 8
    · exact soundF m c t h8 hv
    by_cases hu : ku t.val + 2 < 512
    · exact soundC m c t (by omega) (by omega) hu
    · exact soundD m c t (by omega) (by omega) hu hv
  · by_cases h8 : t.val % 9 = 8
    · exact soundG m c t h8 hv
    · exact soundE m c t (by omega) (by omega) (by omega) hv
theorem defs₀_row (t : Fin cfg0.N) : defs₀ (F := F) .tc cfg0.body (cfg0.bodyArgs t (cfg0.slots t)) = bodyAt0 t := by
  unfold defs₀; rw [Defs.onTc_tc]
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

theorem hin (c : Dev nD) : Pipeline.ΦD osem0 spec0 H0 (V m) c ⊢ (dats m 0 c).Φ 0 := by
  rw [PhiD0_eq, show (dats m 0 c).Φ 0 = PhiR m c 0 from rfl]
  unfold PhiR
  rw [if_pos rfl, if_pos rfl, scrAt_zero m c 0 rfl]
  iintro ⟨⟨HS0, HS1, HS2, HS3⟩, Hg, ⟨Hq0, Hq1, Hq2, Hq3, Hq4, Hq5⟩, ⟨Hh0, Hh1⟩⟩
  isplitl [HS0 HS1]
  · isplitl [HS0]; · iexact HS0
    iexact HS1
  isplitl [Hg]; · iexact Hg
  isplitl [HS2 Hq0 Hq1 Hq2 Hh0]
  · iapply (ringU_in (F := F) c (V m c main_v12))
    isplitl [HS2]; · iexact HS2
    isplitl [Hq0 Hq1 Hq2]
    · isplitl [Hq0]; · iexact Hq0
      isplitl [Hq1]; · iexact Hq1
      iexact Hq2
    iexact Hh0
  iapply (ringV_in (F := F) c (V m c main_v11))
  isplitl [HS3]; · iexact HS3
  isplitl [Hq3 Hq4 Hq5]
  · isplitl [Hq3]; · iexact Hq3
    isplitl [Hq4]; · iexact Hq4
    iexact Hq5
  iexact Hh1
theorem hout (c : Dev nD) : (dats m 0 c).Φ (Fin.last cfg0.N) ⊢ Pipeline.ΦD osem0 spec0 H0 (V m) c := by
  rw [PhiD0_eq, show (dats m 0 c).Φ (Fin.last cfg0.N) = PhiR m c grid0.N from rfl]
  unfold PhiR
  rw [show grid0.N = 576 by rw [N_0], if_neg (by decide), if_neg (by decide), scrAt_zero m c 576 rfl, show ku 576 = 512 from rfl, show kv 576 = 512 from rfl]
  iintro ⟨⟨HS0, HS1⟩, Hg, HU, HV⟩
  ihave HU' := (ringU_out (F := F) c (V m c main_v12)) $$ HU
  icases HU' with ⟨HS2, ⟨Hq0, Hq1, Hq2⟩, Hh0⟩
  ihave HV' := (ringV_out (F := F) c (V m c main_v11)) $$ HV
  icases HV' with ⟨HS3, ⟨Hq3, Hq4, Hq5⟩, Hh1⟩
  isplitl [HS0 HS1 HS2 HS3]
  · isplitl [HS0]; · iexact HS0
    isplitl [HS1]; · iexact HS1
    isplitl [HS2]; · iexact HS2
    iexact HS3
  isplitl [Hg]
  · iexact Hg
  isplitl [Hq0 Hq1 Hq2 Hq3 Hq4 Hq5]
  · isplitl [Hq0]; · iexact Hq0
    isplitl [Hq1]; · iexact Hq1
    isplitl [Hq2]; · iexact Hq2
    isplitl [Hq3]; · iexact Hq3
    isplitl [Hq4]; · iexact Hq4
    iexact Hq5
  isplitl [Hh0]; · iexact Hh0
  iexact Hh1

set_option backward.isDefEq.respectTransparency.types false in
/-- Every fair execution ends, with the pipeline's arrays at what the proof data computes and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_dma_shared (Q' := _) cfgs (dats m) (0 : Fin 1) launch₀0 osem0 defs₀ Variants.none ownSemFacts0 H0 H0_sub m ρ main
    (hbody := fun c => (body_obligation m c).loose) (hq := fun _ _ _ => rfl)
    (howed := fun _ _ => rfl) (V := V m) (hmain := hmainD m Variants.none) (hA := A_eq m) (hin := hin m) (hout := hout m)
theorem run_main : θ_run defs (onTc (τ := τ) (main (F := F))) (s₀ m ρ) (Pipeline.FramePost cfgs (dats m) 0 (V m)) :=
  (θ_run defs _ _).mono (fun _ h => h.1) (run_main_quiescent m ρ)
/-- The arguments end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (frame_ofD m ρ (dats m) (A_eq m) (run_main m ρ)) ((θ_run defs _ _).mono (fun _ h => h.2) (run_main_quiescent m ρ))

end Cert.KernelIdeal.Pd

end
-- ==== Proof.AtBits.lean ====
/- The frame of the kernel read at bits, from the one proof of the frame for any reading of its numbers. -/
module

public import proofs.«01_k».proof.Defs
public import proofs.«01_k».proof.Proof.Gen.Kernel
public import proofs.«01_k».proof.Proof.Ideal.Body

@[expose] public section

noncomputable section

namespace Cert.Proof

open Idealize.ShloMosaic Idealize.SL.Sem

/-- Read at its bits, a named constant is the literal it names. -/
@[reducible] def namedBits : Named Bits := ⟨fun _ _ {φ} bits => FloatOps.ofBits φ bits⟩

attribute [local instance] namedBits

/-- So read, the kernel with named constants is the kernel itself. -/
theorem bodies_eq : Cert.KernelIdeal.defs₀ (F := Bits) = Cert.Kernel.defs₀ (F := Bits) := by
  funext p l a
  match p, l, a with
  | .tc, ⟨0, _⟩, (t, s) => rfl
  | .tc, ⟨_ + 1, h⟩, _ => exact absurd h (Nat.not_lt.2 (Nat.le_add_left _ _))
  | .scScalar _, _, _ => rfl
  | .scVector _ _, _, _ => rfl

/-- The same of the whole table of bodies. -/
theorem defs_eq : Cert.KernelIdeal.defs (F := Bits) = Cert.Kernel.defs (F := Bits) :=
  congrArg (Pipeline.defs (Cert.Kernel.pcfgs (F := Bits))) bodies_eq

/-- The same of the host program. -/
theorem main_eq : Cert.KernelIdeal.main (F := Bits) = Cert.Kernel.main (F := Bits) := rfl

/-- Every run of the kernel ends and leaves its arguments as they were. -/
theorem frame_k : Cert.quiescent_Kernel := by
  intro m ρ _
  have h := Cert.KernelIdeal.Pd.frame (F := Bits) m ρ
  rw [defs_eq, main_eq] at h
  exact h

end Cert.Proof

end
-- ==== Proof.Value.Spec.lean ====
/- The mathematics that kernel and reference share: a mixture of 16384 rank-one experts, its gated residual, the norm. -/
module

public import Idealize.ShloMosaic.Lib.Pointwise

@[expose] public section

noncomputable section

namespace Cert.Peer

open Idealize.ShloMosaic

/-- The ten argument arrays over the extended reals. -/
structure Args where
  H : (⟨2, ![32768, 1024]⟩ : Shape).Idx → EReal
  X : (⟨2, ![32768, 1024]⟩ : Shape).Idx → EReal
  U : (⟨2, ![16384, 1024]⟩ : Shape).Idx → EReal
  V : (⟨2, ![16384, 1024]⟩ : Shape).Idx → EReal
  R2 : (⟨3, ![8, 128, 32768]⟩ : Shape).Idx → EReal
  E2 : (⟨3, ![8, 128, 32768]⟩ : Shape).Idx → EReal
  N1 : (⟨3, ![8, 128, 32768]⟩ : Shape).Idx → EReal
  E1 : (⟨3, ![8, 128, 32768]⟩ : Shape).Idx → EReal
  M : (⟨2, ![24, 6144]⟩ : Shape).Idx → EReal
  G : (⟨1, ![1024]⟩ : Shape).Idx → EReal

/-- The tanh gelu. -/
def gelu (a : EReal) : EReal :=
  a * (Ideal.ofBits .f32 0x3F000000#32 * (1 + Ideal.tanh (Ideal.ofBits .f32 0x3F4C422A#32 * (a + Ideal.ofBits .f32 0x3D372713#32 * ((a * a) * a)))))

variable (A : Args)

/-- The product of expert `e`'s first row and token `t`'s input. -/
def pre (e : Fin 16384) (t : Fin 32768) : EReal := ∑ d : Fin 1024, A.U (ix2 e d) * A.H (ix2 t d)
/-- The gate of expert `e = (e / 128, e % 128)` for token `t`, summed over the heads. -/
def gate (e : Fin 16384) (t : Fin 32768) : EReal :=
  ∑ h : Fin 8, (if A.R2 (ix3 h (⟨e.val % 128, by omega⟩ : Fin 128) t) < A.N1 (ix3 h (⟨e.val / 128, by omega⟩ : Fin 128) t)
    then A.E2 (ix3 h (⟨e.val % 128, by omega⟩ : Fin 128) t) else 0) * A.E1 (ix3 h (⟨e.val / 128, by omega⟩ : Fin 128) t)
/-- The mixture of the experts. -/
def mix (t : Fin 32768) (d : Fin 1024) : EReal := ∑ e : Fin 16384, (gate A e t * gelu (pre A e t)) * A.V (ix2 e d)
/-- The gated residual. -/
def res (t : Fin 32768) (d : Fin 1024) : EReal :=
  A.X (ix2 t d) + A.M (ix2 (⟨t.val / 2048, by omega⟩ : Fin 24) (⟨5120 + d.val, by omega⟩ : Fin 6144)) * mix A t d
/-- The result: the residual over its root mean square, times the gain. -/
def out (t : Fin 32768) (d : Fin 1024) : EReal :=
  res A t d * Ideal.rsqrt (Ideal.div (∑ d' : Fin 1024, res A t d' * res A t d') (Ideal.ofBits .f32 0x44800000#32) + Ideal.ofBits .f32 0x358637BD#32) * A.G (ix1 d)

end Cert.Peer

end
-- ==== Proof.Value.Block.lean ====
/- What the kernel's blocks hold over the extended reals. -/
module

public import proofs.«01_k».proof.Proof.Ideal.Spec
public import proofs.«01_k».proof.Proof.Value.Spec

@[expose] public section

set_option maxRecDepth 16384

noncomputable section

namespace Cert.KernelIdeal.Pd

open Cert.KernelIdeal.Gen
open Idealize.ShloMosaic Idealize.ShloMosaic.TcCoe

theorem half_eq : Ideal.ofBits .bf16 0x3F00#16 = Ideal.ofBits .f32 0x3F000000#32 := by
  simp [Ideal.ofBits, Ideal.ieee, -EReal.coe_mul]; norm_num
theorem cub_eq : cub (F := Ideal) = Ideal.ofBits .f32 0x3D372713#32 :=
  (IdealRules.named_const.ideal_named_scalar _ _ _ _ rfl : cub (F := Ideal) = ((12003091 / 268435456 : ℝ) : EReal)).trans (by
    simp [Ideal.ofBits, Ideal.ieee, -EReal.coe_mul]; norm_num)
theorem scl_eq : scl (F := Ideal) = Ideal.ofBits .f32 0x3F4C422A#32 :=
  (IdealRules.named_const.ideal_named_scalar _ _ _ _ rfl : scl (F := Ideal) = ((6693141 / 8388608 : ℝ) : EReal)).trans (by
    simp [Ideal.ofBits, Ideal.ieee, -EReal.coe_mul]; norm_num)

/-- The kernel's gelu is the shared one. -/
theorem geluS_eq (a : EReal) : geluS (F := Ideal) a = Peer.gelu a := by
  unfold geluS Peer.gelu
  rw [cub_eq, scl_eq]
  pointwise []
  rw [half_eq, mul_comm (Ideal.ofBits .f32 0x3F000000#32) a, mul_assoc]

/-- The kernel's gate of one expert for one token, as a sum over the heads. -/
theorem gateS_eq (x5 x6 : Vec Ideal S8x128x512 .bf16) (x7 x8 : Vec Ideal S8x128x512 .f32) (i1 i2 : Fin 128) (τ : Fin 512) :
    gateS x5 x6 x7 x8 i1 i2 τ = ∑ h : Fin 8, (if x5 (ix3 h i2 τ) < x7 (ix3 h i1 τ) then x6 (ix3 h i2 τ) else (0 : EReal)) * x8 (ix3 h i1 τ) := by
  rw [Fin.sum_univ_eight]
  pointwise [gateS, gateT, termS]

/-- One weighted activation. -/
theorem actG_eq (ub : Vec Ideal S2048x1024 .bf16) (x2 : Vec Ideal S512x1024 .bf16) (x5 x6 : Vec Ideal S8x128x512 .bf16) (x7 x8 : Vec Ideal S8x128x512 .f32)
    (eb : Fin 8) (e : Fin 2048) (τ : Fin 512) :
    actG ub x2 x5 x6 x7 x8 eb e τ = Peer.gelu (∑ d : Fin 1024, ub (ix2 e d) * x2 (ix2 τ d))
      * ∑ h : Fin 8, (if x5 (ix3 h (⟨e.val % 128, by omega⟩ : Fin 128) τ) < x7 (ix3 h (⟨16 * eb.val + e.val / 128, by omega⟩ : Fin 128) τ)
          then x6 (ix3 h (⟨e.val % 128, by omega⟩ : Fin 128) τ) else (0 : EReal)) * x8 (ix3 h (⟨16 * eb.val + e.val / 128, by omega⟩ : Fin 128) τ) := by
  unfold actG
  rw [gateS_eq]
  have h : actP ub x2 ⟨e.val / 256, by omega⟩ (ix2 (⟨e.val % 256, by omega⟩ : Fin 256) τ) = ∑ d : Fin 1024, ub (ix2 e d) * x2 (ix2 τ d) := by
    pointwise [actP, constant]
    refine Finset.sum_congr rfl fun d _ => congrArg₂ (· * ·) (congrArg ub ?_) rfl
    exact congrArg (fun e' : Fin 2048 => ix2 e' d) (Fin.ext (Nat.div_add_mod e.val 256))
  rw [h]
  exact congrArg₂ (· * ·) (geluS_eq _) rfl

/-- One block of experts added to the sum. -/
theorem accN_eq (a : Vec Ideal S1024x512 .f32) (vb : Vec Ideal S1024x2048 .bf16) (w : Vec Ideal S2048x512 .bf16) (d : Fin 1024) (τ : Fin 512) :
    accN a vb w (ix2 d τ) = (a (ix2 d τ) + ∑ e : Fin 2048, vb (ix2 d e) * w (ix2 e τ) : EReal) := by
  pointwise [accN, updN, constant]

/-- The rows of the result, from a half of a tile. -/
theorem pay1_eq (x : Vec Ideal S256x1024 .f32) (g : Vec Ideal S1x1x1024 .f32) (f : Vec Ideal S1024x256 .f32) (n : Vec Ideal S1x1024 .f32) (r : Fin 256) (d : Fin 1024) :
    k0_pay1 x g f n (ix2 r d) = ((x (ix2 r d) + g (ix3 0 0 d) * f (ix2 d r))
      * Ideal.rsqrt (Ideal.div (∑ d' : Fin 1024, (x (ix2 r d') + g (ix3 0 0 d') * f (ix2 d' r)) * (x (ix2 r d') + g (ix3 0 0 d') * f (ix2 d' r))) (Ideal.ofBits .f32 0x44800000#32) + Ideal.ofBits .f32 0x358637BD#32)
      * n (ix2 0 d) : EReal) := by
  pointwise [k0_pay1]

theorem pay423_eq (d : Fin 1024) (τ : Fin 512) : (k0_pay423 (F := Ideal)) (ix2 d τ) = (0 : EReal) := by
  pointwise [k0_pay423]

/-- The rows of the result at the last point of a tile. -/
theorem outG_eq (x9 : Vec Ideal S512x1024 .f32) (x10 x11 : Vec Ideal S1x1x1024 .f32) (x12 : Vec Ideal S1x1024 .f32) (acc : Vec Ideal S1024x512 .f32)
    (M : Fin 1024 → EReal) (τ : Fin 512) (d : Fin 1024)
    (hM : ∀ d', (if τ.val < 256 then x10 (ix3 0 0 d') else x11 (ix3 0 0 d')) = M d') :
    outG x9 x10 x11 x12 acc (ix2 τ d) = ((x9 (ix2 τ d) + M d * acc (ix2 d τ))
      * Ideal.rsqrt (Ideal.div (∑ d' : Fin 1024, (x9 (ix2 τ d') + M d' * acc (ix2 d' τ)) * (x9 (ix2 τ d') + M d' * acc (ix2 d' τ))) (Ideal.ofBits .f32 0x44800000#32) + Ideal.ofBits .f32 0x358637BD#32)
      * x12 (ix2 0 d) : EReal) := by
  unfold outG
  split
  · rename_i h
    have h' : τ.val < 256 := h
    have hM' : ∀ d', x10 (ix3 0 0 d') = M d' := fun d' => (if_pos h').symm.trans (hM d')
    obtain rfl : M = fun d' => x10 (ix3 0 0 d') := funext fun d' => (hM' d').symm
    exact pay1_eq _ _ _ _ _ _
  · rename_i h
    have h' : ¬ τ.val < 256 := h
    have hM' : ∀ d', x11 (ix3 0 0 d') = M d' := fun d' => (if_neg h').symm.trans (hM d')
    obtain rfl : M = fun d' => x11 (ix3 0 0 d') := funext fun d' => (hM' d').symm
    have hτ : (⟨256 + (τ.val - 256), by omega⟩ : Fin 512) = τ := Fin.ext (by show 256 + (τ.val - 256) = τ.val; omega)
    have hx : ∀ d', x9 (ix2 (⟨256 + (τ.val - 256), by omega⟩ : Fin 512) d') = x9 (ix2 τ d') := fun d' => by rw [hτ]
    have ha : ∀ d', acc (ix2 d' (⟨256 + (τ.val - 256), by omega⟩ : Fin 512)) = acc (ix2 d' τ) := fun d' => by rw [hτ]
    simp only [← hx, ← ha]
    exact pay1_eq _ _ _ _ _ _

/-- A block of the first table. -/
theorem ublk_eq {c : Dev nD} (wU : HbBuf (F := Ideal) c tabU) (k : ℕ) (e : Fin 2048) (d : Fin 1024) :
    ublk (c := c) wU k (ix2 e d) = wU (ix2 (⟨2048 * (k % 8) + e.val, by omega⟩ : Fin 16384) d) := by
  unfold ublk
  refine congrArg wU ?_
  funext a
  match a with
  | ⟨0, _⟩ => exact Fin.ext (by show 2048 * (k % 512 % 8) + 1 * e.val = 2048 * (k % 8) + e.val; omega)
  | ⟨1, _⟩ => exact Fin.ext (by show 0 + 1 * d.val = d.val; omega)
/-- A block of the second table. -/
theorem vblk_eq {c : Dev nD} (wV : HbBuf (F := Ideal) c tabV) (k : ℕ) (d : Fin 1024) (e : Fin 2048) :
    vblk (c := c) wV k (ix2 d e) = wV (ix3 (⟨k % 8, by omega⟩ : Fin 8) d e) := by
  unfold vblk srcV
  rw [Memref.read_squeeze_slice _ _ _ _ (show S1x1024x2048.ShapeCasts S1024x2048 from by decide)]
  refine (shapeCast_dropUnit_apply ![1024, 2048] _ _ _).trans (congrArg wV ?_)
  funext a
  match a with
  | ⟨0, _⟩ => exact Fin.ext (by show k % 512 % 8 + 1 * 0 = k % 8; omega)
  | ⟨1, _⟩ => exact Fin.ext (by show 0 + 1 * d.val = d.val; omega)
  | ⟨2, _⟩ => exact Fin.ext (by show 0 + 1 * e.val = e.val; omega)

end Cert.KernelIdeal.Pd

end
-- ==== Proof.Value.Host.lean ====
/- What the kernel's blocks read of its arguments. -/
module

public import proofs.«01_k».proof.Proof.Gen.KernelIdeal.Frame
public import Idealize.ShloMosaic.Lib.Pipeline.ValueKit.Point
public import proofs.«01_k».proof.Proof.Value.Spec

@[expose] public section

set_option maxRecDepth 16384

noncomputable section

namespace Cert.KernelIdeal.Pd

open Cert.KernelIdeal.Gen
open Idealize.ShloMosaic Idealize.ShloMosaic.TcCoe

variable (m : (ℓ : Loc nD τ sig) → Buf (Elt Ideal) ℓ) (c : Dev nD)

/-- The kernel's arguments. -/
def argsK : Peer.Args where
  H := m ((c : Thread nD τ).loc main_arg0)
  X := m ((c : Thread nD τ).loc main_arg1)
  U := m ((c : Thread nD τ).loc main_arg2)
  V := m ((c : Thread nD τ).loc main_arg3)
  R2 := m ((c : Thread nD τ).loc main_arg4)
  E2 := m ((c : Thread nD τ).loc main_arg5)
  N1 := m ((c : Thread nD τ).loc main_arg6)
  E1 := m ((c : Thread nD τ).loc main_arg7)
  M := m ((c : Thread nD τ).loc main_arg8)
  G := m ((c : Thread nD τ).loc main_arg9)

/-- The first table as the region finds it. -/
theorem V12_eq (e : Fin 16384) (d : Fin 1024) : V m c main_v12 (ix2 e d) = (argsK m c).U (ix2 e d) := by
  entry_read
  pointwise
  rfl
/-- The second table, transposed block by block. -/
theorem V11_eq (j : Fin 8) (d : Fin 1024) (e : Fin 2048) :
    V m c main_v11 (ix3 j d e) = (argsK m c).V (ix2 (⟨2048 * j.val + e.val, by omega⟩ : Fin 16384) d) := by
  entry_read
  pointwise
  have h : (⟨j.val * 2048 + e.val, by omega⟩ : Fin 16384) = ⟨2048 * j.val + e.val, by omega⟩ := Fin.ext (by show j.val * 2048 + e.val = 2048 * j.val + e.val; omega)
  exact congrArg (fun x => m ((c : Thread nD τ).loc main_arg3) (ix2 x d)) h
theorem V13_eq (d : Fin 1024) : V m c main_v13 (ix2 0 d) = (argsK m c).G (ix1 d) := by
  entry_read
  pointwise
  rfl
/-- The modulation table's last part, of a latent sequence. -/
theorem V8_eq (b : Fin 16) (d : Fin 1024) :
    V m c main_v8 (ix3 (⟨(b.val * 2 + 1) * 6 + 5, by omega⟩ : Fin 192) 0 d) = (argsK m c).M (ix2 (⟨b.val, by omega⟩ : Fin 24) (⟨5120 + d.val, by omega⟩ : Fin 6144)) := by
  entry_read
  pointwise
  have hb := b.isLt
  have h0 : ¬ ((b.val * 2 + 1) * 6 + 5) / 6 % 2 < 1 := by omega
  have h : (⟨((b.val * 2 + 1) * 6 + 5) % 6 * 1024 + d.val, by omega⟩ : Fin 6144) = ⟨5120 + d.val, by omega⟩ :=
    Fin.ext (by show ((b.val * 2 + 1) * 6 + 5) % 6 * 1024 + d.val = 5120 + d.val; omega)
  refine (dif_neg h0).trans ?_
  exact congrArg (fun x => m ((c : Thread nD τ).loc main_arg8) (ix2 (⟨b.val, by omega⟩ : Fin 24) x)) h

theorem idx0 : ∀ t : Fin cfg0.N, win0_0.index t = ![t.val / 9, 0] := (by decide +kernel : ∀ t : Fin grid0.N, _)
theorem idx1 : ∀ t : Fin cfg0.N, win0_1.index t = ![0, 0, t.val / 9] := (by decide +kernel : ∀ t : Fin grid0.N, _)
theorem idx2 : ∀ t : Fin cfg0.N, win0_2.index t = ![0, 0, t.val / 9] := (by decide +kernel : ∀ t : Fin grid0.N, _)
theorem idx3 : ∀ t : Fin cfg0.N, win0_3.index t = ![0, 0, t.val / 9] := (by decide +kernel : ∀ t : Fin grid0.N, _)
theorem idx4 : ∀ t : Fin cfg0.N, win0_4.index t = ![0, 0, t.val / 9] := (by decide +kernel : ∀ t : Fin grid0.N, _)
theorem idx5 : ∀ t : Fin cfg0.N, win0_5.index t = ![t.val / 9, 0] := (by decide +kernel : ∀ t : Fin grid0.N, _)
theorem idx6 : ∀ t : Fin cfg0.N, win0_6.index t = ![(2 * (t.val / 9) / 8 * 2 + 1) * 6 + 5, 0, 0] := (by decide +kernel : ∀ t : Fin grid0.N, _)
theorem idx7 : ∀ t : Fin cfg0.N, win0_7.index t = ![((2 * (t.val / 9) + 1) / 8 * 2 + 1) * 6 + 5, 0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![t.val / 9, 0] := (by decide +kernel : ∀ t : Fin grid0.N, _)

theorem lt576 (t : Fin cfg0.N) : t.val < 576 := lt_of_lt_of_eq t.isLt N_0

/-- A tile's token as a token of the whole array. -/
def tok (t : Fin cfg0.N) (τ : Fin 512) : Fin 32768 := ⟨512 * (t.val / 9) + τ.val, by have := lt576 t; omega⟩

theorem blk0 (t : Fin cfg0.N) (τ : Fin 512) (d : Fin 1024) : iblk m c 0 t (ix2 τ d) = (argsK m c).H (ix2 (tok t τ) d) := by
  unfold argsK tok; blk_ext [iblk, V_main_arg0, idx0]
theorem blk5 (t : Fin cfg0.N) (τ : Fin 512) (d : Fin 1024) : iblk m c 5 t (ix2 τ d) = (argsK m c).X (ix2 (tok t τ) d) := by
  unfold argsK tok; blk_ext [iblk, V_main_arg1, idx5]
theorem blk1 (t : Fin cfg0.N) (h : Fin 8) (i : Fin 128) (τ : Fin 512) : iblk m c 1 t (ix3 h i τ) = (argsK m c).R2 (ix3 h i (tok t τ)) := by
  unfold argsK tok; blk_ext [iblk, V_main_arg4, idx1]
theorem blk2 (t : Fin cfg0.N) (h : Fin 8) (i : Fin 128) (τ : Fin 512) : iblk m c 2 t (ix3 h i τ) = (argsK m c).E2 (ix3 h i (tok t τ)) := by
  unfold argsK tok; blk_ext [iblk, V_main_arg5, idx2]
theorem blk3 (t : Fin cfg0.N) (h : Fin 8) (i : Fin 128) (τ : Fin 512) : iblk m c 3 t (ix3 h i τ) = (argsK m c).N1 (ix3 h i (tok t τ)) := by
  unfold argsK tok; blk_ext [iblk, V_main_arg6, idx3]
theorem blk4 (t : Fin cfg0.N) (h : Fin 8) (i : Fin 128) (τ : Fin 512) : iblk m c 4 t (ix3 h i τ) = (argsK m c).E1 (ix3 h i (tok t τ)) := by
  unfold argsK tok; blk_ext [iblk, V_main_arg7, idx4]
theorem blk8 (t : Fin cfg0.N) (d : Fin 1024) : iblk m c 8 t (ix2 0 d) = (argsK m c).G (ix1 d) := by
  refine Eq.trans ?_ (V13_eq m c d)
  blk_ext [iblk, idx8]
theorem blk6 (t : Fin cfg0.N) (τ : Fin 512) (h : τ.val < 256) (d : Fin 1024) :
    iblk m c 6 t (ix3 0 0 d) = (argsK m c).M (ix2 (⟨(tok t τ).val / 2048, by have := (tok t τ).isLt; omega⟩ : Fin 24) (⟨5120 + d.val, by omega⟩ : Fin 6144)) := by
  have ht := lt576 t
  have hb : (tok t τ).val / 2048 < 16 := by have := (tok t τ).isLt; omega
  refine Eq.trans ?_ (V8_eq m c ⟨(tok t τ).val / 2048, hb⟩ d)
  have hd : (tok t τ).val / 2048 = 2 * (t.val / 9) / 8 := by show (512 * (t.val / 9) + τ.val) / 2048 = _; omega
  simp only [hd]
  blk_ext [iblk, idx6]
theorem blk7 (t : Fin cfg0.N) (τ : Fin 512) (h : ¬ τ.val < 256) (d : Fin 1024) :
    iblk m c 7 t (ix3 0 0 d) = (argsK m c).M (ix2 (⟨(tok t τ).val / 2048, by have := (tok t τ).isLt; omega⟩ : Fin 24) (⟨5120 + d.val, by omega⟩ : Fin 6144)) := by
  have ht := lt576 t
  have hb : (tok t τ).val / 2048 < 16 := by have := (tok t τ).isLt; omega
  refine Eq.trans ?_ (V8_eq m c ⟨(tok t τ).val / 2048, hb⟩ d)
  have hd : (tok t τ).val / 2048 = (2 * (t.val / 9) + 1) / 8 := by have := τ.isLt; show (512 * (t.val / 9) + τ.val) / 2048 = _; omega
  simp only [hd]
  blk_ext [iblk, idx7]

end Cert.KernelIdeal.Pd

end
-- ==== Proof.Value.Tile.lean ====
/- The kernel's result array over the extended reals: the shared function of its arguments. -/
module

public import proofs.«01_k».proof.Proof.Ideal.Data
public import proofs.«01_k».proof.Proof.Value.Block
public import proofs.«01_k».proof.Proof.Value.Host

@[expose] public section

set_option maxRecDepth 16384

noncomputable section

namespace Cert.KernelIdeal.Pd

open Cert.KernelIdeal.Gen
open Idealize.ShloMosaic Idealize.ShloMosaic.TcCoe

variable (m : (ℓ : Loc nD τ sig) → Buf (Elt Ideal) ℓ) (c : Dev nD)

/-- Expert `e` of block `j`. -/
def xp (j : Fin 8) (e : Fin 2048) : Fin 16384 := ⟨j.val * 2048 + e.val, by omega⟩

/-- The term of one expert in the mixture. -/
def trm (t : Fin 32768) (d : Fin 1024) (e : Fin 16384) : EReal :=
  (Peer.gate (argsK m c) e t * Peer.gelu (Peer.pre (argsK m c) e t)) * (argsK m c).V (ix2 e d)

/-- The weighted activations that a point computes, at a tile's token. -/
theorem actAt_eq (i : Fin 64) (j : Fin 8) (s : Fin cfg0.N) (hs : s.val = 9 * i.val + j.val) (e : Fin 2048) (τ : Fin 512) (t : Fin 32768) (ht : t.val = 512 * i.val + τ.val) :
    actAt m c s.val (ix2 e τ) = (Peer.gelu (Peer.pre (argsK m c) (xp j e) t) * Peer.gate (argsK m c) (xp j e) t : EReal) := by
  have hj := j.isLt
  have hi := i.isLt
  have htk : tok s τ = t := Fin.ext (by show 512 * (s.val / 9) + τ.val = t.val; omega)
  have hu : ∀ d : Fin 1024, ublk (c := c) (V m c main_v12) (ku s.val) (ix2 e d) = (argsK m c).U (ix2 (xp j e) d) := fun d => by
    refine (ublk_eq _ _ _ _).trans ((V12_eq m c _ _).trans (congrArg (fun x => (argsK m c).U (ix2 x d)) (Fin.ext ?_)))
    show 2048 * ((8 * (s.val / 9) + s.val % 9) % 8) + e.val = j.val * 2048 + e.val
    omega
  have heb : (ebF s.val).val = j.val := by show s.val % 9 % 8 = j.val; omega
  have h1 : (⟨16 * (ebF s.val).val + e.val / 128, by omega⟩ : Fin 128) = ⟨(xp j e).val / 128, by have := (xp j e).isLt; omega⟩ :=
    Fin.ext (by show 16 * (ebF s.val).val + e.val / 128 = (j.val * 2048 + e.val) / 128; omega)
  have h2 : (⟨e.val % 128, by omega⟩ : Fin 128) = ⟨(xp j e).val % 128, by omega⟩ :=
    Fin.ext (by show e.val % 128 = (j.val * 2048 + e.val) % 128; omega)
  refine (actG_eq _ _ _ _ _ _ _ e τ).trans ?_
  rw [pt_val]
  refine congrArg₂ (· * ·) (congrArg Peer.gelu (Finset.sum_congr rfl fun d _ => ?_)) (Finset.sum_congr rfl fun h _ => ?_)
  · rw [hu, blk0, htk]
  · rw [blk1, blk2, blk3, blk4, htk, h1, h2]

/-- One step of the sum over the experts. -/
theorem accAt_step (i : Fin 64) (j : Fin 8) (d : Fin 1024) (τ : Fin 512) (t : Fin 32768) (ht : t.val = 512 * i.val + τ.val) :
    accAt m c (9 * i.val + j.val + 1) (ix2 d τ)
      = (accAt m c (9 * i.val + j.val) (ix2 d τ) + ∑ e : Fin 2048, trm m c t d (xp j e) : EReal) := by
  have hj := j.isLt
  have hi := i.isLt
  rw [accAt_pos m c _ (by omega)]
  refine (accN_eq _ _ _ d τ).trans (congrArg₂ (· + ·) rfl (Finset.sum_congr rfl fun e _ => ?_))
  have hv : vblk (c := c) (V m c main_v11) (kv (9 * i.val + j.val + 1)) (ix2 d e) = (argsK m c).V (ix2 (xp j e) d) := by
    refine (vblk_eq _ _ _ _).trans ((V11_eq m c _ _ _).trans (congrArg (fun x => (argsK m c).V (ix2 x d)) (Fin.ext ?_)))
    show 2048 * ((8 * ((9 * i.val + j.val + 1) / 9) + ((9 * i.val + j.val + 1) % 9 - 1)) % 8) + e.val = j.val * 2048 + e.val
    omega
  have ha := actAt_eq m c i j ⟨9 * i.val + j.val, lt_of_lt_of_eq (show 9 * i.val + j.val < 576 by omega) N_0.symm⟩ rfl e τ t ht
  rw [hv]
  show (argsK m c).V (ix2 (xp j e) d) * actAt m c (9 * i.val + j.val) (ix2 e τ) = _
  refine (congrArg _ ha).trans ?_
  unfold trm
  rw [mul_comm, mul_comm (Peer.gelu _)]

/-- At a tile's last point the sum is the mixture of all experts. -/
theorem accAt_last (i : Fin 64) (d : Fin 1024) (τ : Fin 512) (t : Fin 32768) (ht : t.val = 512 * i.val + τ.val) :
    accAt m c (9 * i.val + 8) (ix2 d τ) = (Peer.mix (argsK m c) t d : EReal) := by
  have h0 : accAt m c (9 * i.val) (ix2 d τ) = (0 : EReal) := by
    rw [accAt_zero m c _ (by omega)]; exact pay423_eq d τ
  have hs := fun j : Fin 8 => accAt_step m c i j d τ t ht
  have e : Peer.mix (argsK m c) t d = ∑ j : Fin 8, ∑ e : Fin 2048, trm m c t d (xp j e) :=
    Fin.sum_univ_tiles 8 2048 rfl (trm m c t d)
  rw [e, Fin.sum_univ_eight]
  refine (hs 7).trans (congrArg₂ (· + ·) ?_ rfl)
  refine (hs 6).trans (congrArg₂ (· + ·) ?_ rfl)
  refine (hs 5).trans (congrArg₂ (· + ·) ?_ rfl)
  refine (hs 4).trans (congrArg₂ (· + ·) ?_ rfl)
  refine (hs 3).trans (congrArg₂ (· + ·) ?_ rfl)
  refine (hs 2).trans (congrArg₂ (· + ·) ?_ rfl)
  refine (hs 1).trans (congrArg₂ (· + ·) ?_ rfl)
  refine (hs 0).trans ?_
  show accAt m c (9 * i.val) (ix2 d τ) + _ = _
  exact (congrArg₂ (· + ·) h0 rfl).trans (zero_add _)

/-- What a tile's last point leaves in the result's window. -/
theorem after9_eq (s : Fin cfg0.N) (hs : s.val % 9 = 8) (τ : Fin 512) (d : Fin 1024) :
    (dats m 0 c).after 9 s (ix2 τ d) = (Peer.out (argsK m c) (tok s τ) d : EReal) := by
  have hN := lt576 s
  have hacc : ∀ d' : Fin 1024, accAt m c s.val (ix2 d' τ) = (Peer.mix (argsK m c) (tok s τ) d' : EReal) := fun d' => by
    have h := accAt_last m c ⟨s.val / 9, by omega⟩ d' τ (tok s τ) rfl
    have e : 9 * (s.val / 9) + 8 = s.val := by omega
    rw [← h]
    show _ = accAt m c (9 * (s.val / 9) + 8) (ix2 d' τ)
    rw [e]
  rw [after9]
  refine (outG_eq _ _ _ _ _ (fun d' => (argsK m c).M (ix2 (⟨(tok s τ).val / 2048, by have := (tok s τ).isLt; omega⟩ : Fin 24) (⟨5120 + d'.val, by omega⟩ : Fin 6144))) τ d ?_).trans ?_
  · intro d'
    by_cases h : τ.val < 256
    · rw [if_pos h]; exact blk6 m c s τ h d'
    · rw [if_neg h]; exact blk7 m c s τ h d'
  · simp only [hacc, blk5, blk8]
    rfl

/-- The result array as the region leaves it. -/
theorem final (c : Dev nD) : (dats m 0 c).arrAt 9 cfg0.N = fun i => Peer.out (argsK m c) (i 0) (i 1) := by
  refine (dats m 0 c).arrAt_eq_of_covers 9 _ (by decide +kernel) fun s hf y => ?_
  have hs : s.val % 9 = 8 := by
    by_contra h
    rw [flush9 s (by omega)] at hf
    exact absurd hf (by decide)
  blk_simp
  have hy : y = (ix2 (y 0) (y 1) : S512x1024.Idx) := eq_ix2 (n0 := 512) (n1 := 1024) y
  have e0 : (win0_9.blk s).view.emb y 0 = tok s (y 0) := Fin.ext (by blk_simp [idx9]; show s.val / 9 * 512 + _ = 512 * (s.val / 9) + _; omega)
  have e1 : (win0_9.blk s).view.emb y 1 = y 1 := Fin.ext (by blk_simp [idx9])
  rw [e0, e1]
  exact (congrArg ((dats m 0 c).after 9 s) hy).trans (after9_eq m c s hs (y 0) (y 1))

end Cert.KernelIdeal.Pd

end
-- ==== Proof.Value.Ref.lean ====
/- What the reference computes, element by element. -/
module

public import proofs.«01_k».proof.Proof.Gen.ReferenceIdeal.Run
public import proofs.«01_k».proof.Proof.Value.Spec

@[expose] public section

set_option maxRecDepth 16384

noncomputable section

namespace Cert.Peer

open Cert.ReferenceIdeal Cert.ReferenceIdeal.Gen
open Idealize.ShloMosaic Idealize.ShloMosaic.TcCoe

variable (m : (ℓ : Loc nD τ sig) → Buf (Elt Ideal) ℓ) (c : Dev nD)

/-- The reference's arguments. -/
def argsR : Args where
  H := m ((c.tc : Thread nD τ).loc main_arg0)
  X := m ((c.tc : Thread nD τ).loc main_arg1)
  U := m ((c.tc : Thread nD τ).loc main_arg2)
  V := m ((c.tc : Thread nD τ).loc main_arg3)
  R2 := m ((c.tc : Thread nD τ).loc main_arg4)
  E2 := m ((c.tc : Thread nD τ).loc main_arg5)
  N1 := m ((c.tc : Thread nD τ).loc main_arg6)
  E1 := m ((c.tc : Thread nD τ).loc main_arg7)
  M := m ((c.tc : Thread nD τ).loc main_arg8)
  G := m ((c.tc : Thread nD τ).loc main_arg9)

/-- The reference's result is the shared function of its arguments. -/
theorem res_apply (t : Fin 32768) (d : Fin 1024) :
    Cert.ReferenceIdeal.Value.res_main_v56 m c (ix2 t d) = out (argsR m c) t d := by
  pointwise [Cert.ReferenceIdeal.Value.res_main_v56, id, constant]
  rfl

end Cert.Peer

end
-- ==== Proof.Value.Equal.lean ====
/- The kernel's result array is the reference's. -/
module

public import proofs.«01_k».proof.Defs
public import proofs.«01_k».proof.Proof.Ideal.Body
public import proofs.«01_k».proof.Proof.Value.Tile
public import proofs.«01_k».proof.Proof.Value.Ref

@[expose] public section

noncomputable section

namespace Cert.Peer

open Idealize.ShloMosaic Idealize.SL.Sem

/-- The kernel ends with the shared function of its arguments in its result array. -/
theorem kernel_value (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v14) = (fun i => out (Cert.KernelIdeal.Pd.argsK m c) (i 0) (i 1))) :=
  (θ_run Cert.KernelIdeal.defs _ _).mono (fun r h c => ((h c).1 9).trans (Cert.KernelIdeal.Pd.final m c)) (Cert.KernelIdeal.Pd.run_main (F := Ideal) m ρ)

/-- The reference's result array is the same function of its arguments. -/
theorem reference_value (m : (ℓ : Loc Cert.ReferenceIdeal.nD Cert.ReferenceIdeal.τ Cert.ReferenceIdeal.sig) → Buf (Elt Ideal) ℓ) (c : Dev Cert.ReferenceIdeal.nD) :
    Cert.ReferenceIdeal.Value.res_main_v56 m c = (fun i => out (argsR m c) (i 0) (i 1)) :=
  funext fun i => (congrArg (Cert.ReferenceIdeal.Value.res_main_v56 m c) (eq_ix2 (n0 := 32768) (n1 := 1024) i)).trans (res_apply m c (i 0) (i 1))

end Cert.Peer

end
-- ==== Proof.In.Spec.lean ====
/- The mathematics that kernel and reference share: the norm and the modulation of a token, and the projections of the even layer. -/
module

public import Idealize.ShloMosaic.Lib.Pointwise

@[expose] public section

noncomputable section

namespace Cert.Proj

open Idealize.ShloMosaic

/-- A token over its root mean square, times the gain, modulated by a scale and a shift. -/
def hid (x g sh sc : Fin 1024 → EReal) (d : Fin 1024) : EReal :=
  x d * Ideal.rsqrt (Ideal.div (∑ d' : Fin 1024, x d' * x d') (Ideal.ofBits .f32 0x44800000#32) + Ideal.ofBits .f32 0x358637BD#32) * g d * (1 + sc d) + sh d

/-- The argument arrays of the projection into the even layer's mixers: latent tokens, context tokens, gain, modulations, weights. -/
structure Even where
  X : (⟨3, ![16, 2048, 1024]⟩ : Shape).Idx → EReal
  C : (⟨3, ![16, 256, 1024]⟩ : Shape).Idx → EReal
  G : (⟨1, ![1024]⟩ : Shape).Idx → EReal
  M : (⟨2, ![24, 6144]⟩ : Shape).Idx → EReal
  W : (⟨2, ![1024, 3088]⟩ : Shape).Idx → EReal

namespace Even

variable (A : Even)

/-- Token `r` of the list of all tokens, a sample's context tokens before its latent tokens. -/
def row (r : Fin 36864) (d : Fin 1024) : EReal :=
  if h : r.val % 2304 < 256 then A.C (ix3 (⟨r.val / 2304, by omega⟩ : Fin 16) (⟨r.val % 2304, h⟩ : Fin 256) d)
  else A.X (ix3 (⟨r.val / 2304, by omega⟩ : Fin 16) (⟨r.val % 2304 - 256, by omega⟩ : Fin 2048) d)
/-- The row of the modulations that token `r` takes: row 16 for the context, its sample's row for a latent token. -/
def smp (r : Fin 36864) : Fin 24 := if r.val % 2304 < 256 then 16 else ⟨r.val / 2304, by omega⟩
/-- Token `r` after the norm and the modulation. -/
def mod (r : Fin 36864) (d : Fin 1024) : EReal :=
  hid (A.row r) (fun d => A.G (ix1 d)) (fun d => A.M (ix2 (smp r) (⟨d.val, by omega⟩ : Fin 6144)))
    (fun d => A.M (ix2 (smp r) (⟨1024 + d.val, by omega⟩ : Fin 6144))) d
/-- Column `n` of the projection of token `r`. -/
def proj (r : Fin 36864) (n : Fin 3088) : EReal := ∑ d : Fin 1024, A.mod r d * A.W (ix2 d n)

/-- A column of the projection, with the context tokens and the latent tokens apart. -/
theorem proj_split (r : Fin 36864) (n : Fin 3088) : A.proj r n =
    if h : r.val % 2304 < 256 then
      ∑ d : Fin 1024, hid (fun d => A.C (ix3 (⟨r.val / 2304, by omega⟩ : Fin 16) (⟨r.val % 2304, h⟩ : Fin 256) d)) (fun d => A.G (ix1 d))
        (fun d => A.M (ix2 (16 : Fin 24) (⟨d.val, by omega⟩ : Fin 6144))) (fun d => A.M (ix2 (16 : Fin 24) (⟨1024 + d.val, by omega⟩ : Fin 6144))) d * A.W (ix2 d n)
    else
      ∑ d : Fin 1024, hid (fun d => A.X (ix3 (⟨r.val / 2304, by omega⟩ : Fin 16) (⟨r.val % 2304 - 256, by omega⟩ : Fin 2048) d)) (fun d => A.G (ix1 d))
        (fun d => A.M (ix2 (⟨r.val / 2304, by omega⟩ : Fin 24) (⟨d.val, by omega⟩ : Fin 6144)))
        (fun d => A.M (ix2 (⟨r.val / 2304, by omega⟩ : Fin 24) (⟨1024 + d.val, by omega⟩ : Fin 6144))) d * A.W (ix2 d n) := by
  by_cases h : r.val % 2304 < 256
  · have e : A.row r = fun d => A.C (ix3 (⟨r.val / 2304, by omega⟩ : Fin 16) (⟨r.val % 2304, h⟩ : Fin 256) d) := funext fun d => dif_pos h
    have e' : smp r = 16 := if_pos h
    rw [dif_pos h]
    unfold proj mod
    rw [e, e']
  · have e : A.row r = fun d => A.X (ix3 (⟨r.val / 2304, by omega⟩ : Fin 16) (⟨r.val % 2304 - 256, by omega⟩ : Fin 2048) d) := funext fun d => dif_neg h
    have e' : smp r = ⟨r.val / 2304, by omega⟩ := if_neg h
    rw [dif_neg h]
    unfold proj mod
    rw [e, e']

/-- The queries, keys and values of the delta rule. -/
def qkv (r : Fin 36864) (n : Fin 1536) : EReal := A.proj r ⟨n.val, by omega⟩
/-- The output gate of the delta rule. -/
def z (r : Fin 36864) (n : Fin 512) : EReal := A.proj r ⟨1536 + n.val, by omega⟩
/-- The input of the linear recurrence. -/
def xb (r : Fin 36864) (n : Fin 512) : EReal := A.proj r ⟨2064 + n.val, by omega⟩
/-- The gate of the linear recurrence. -/
def gate (r : Fin 36864) (n : Fin 512) : EReal := A.proj r ⟨2576 + n.val, by omega⟩
/-- The decays and the write strengths of the delta rule, in 128 columns. -/
def ab (r : Fin 36864) (n : Fin 128) : EReal := if h : n.val < 16 then A.proj r ⟨2048 + n.val, by omega⟩ else 0

end Even

end Cert.Proj

end
-- ==== Proof.In.Kernel.lean ====
/- What the kernel of the projection into the even layer's mixers leaves in its result arrays. -/
module

public import proofs.«01_k».proof.Proof.Gen.Kernel2Ideal.Value
public import Idealize.ShloMosaic.Lib.Pipeline.ValueKit.Point
public import Idealize.ShloMosaic.Lib.StableHlo.ReadAt
public import proofs.«01_k».proof.Proof.In.Spec

@[expose] public section

set_option maxRecDepth 16384

noncomputable section

namespace Cert.Kernel2Ideal.Pv

open Cert.Kernel2Ideal Cert.Kernel2Ideal.Gen Cert.Proj
open Idealize.ShloMosaic Idealize.ShloMosaic.TcCoe

variable (m : (ℓ : Loc nD τ sig) → Buf (Elt Ideal) ℓ) (c : Dev nD)

/-- The kernel's arguments. -/
def argsK : Even where
  X := m ((c : Thread nD τ).loc main_arg0)
  C := m ((c : Thread nD τ).loc main_arg1)
  G := m ((c : Thread nD τ).loc main_arg2)
  M := m ((c : Thread nD τ).loc main_arg3)
  W := m ((c : Thread nD τ).loc main_arg4)

/-- The list of all tokens. -/
theorem V10_eq (r : Fin 36864) (d : Fin 1024) : V m c main_v10 (ix2 r d) = (argsK m c).row r d := by
  show StableHlo.after (List.flatten [hostOps0, hostOps0_1, hostOps0_2]) (fun b => m (c, b)) _ _ = _
  simp only [hostOps0, hostOps0_1, hostOps0_2, List.flatten_cons, List.flatten_nil, List.append_nil, List.cons_append, List.nil_append]
  after_reads_at
  rfl
/-- The gain as a row. -/
theorem V19_eq (d : Fin 1024) : V m c main_v19 (ix2 0 d) = (argsK m c).G (ix1 d) := by
  show StableHlo.after (List.flatten [hostOps0, hostOps0_1, hostOps0_2]) (fun b => m (c, b)) _ _ = _
  simp only [hostOps0, hostOps0_1, hostOps0_2, List.flatten_cons, List.flatten_nil, List.append_nil, List.cons_append, List.nil_append]
  after_reads_at
  rfl
/-- Part `k` of the modulation table for a context row (`s = 0`) or a latent row (`s = 1`). -/
theorem V8_eq (b : Fin 16) (s : Fin 2) (k : Fin 2) (d : Fin 1024) :
    V m c main_v8 (ix3 (⟨(b.val * 2 + s.val) * 6 + k.val, by omega⟩ : Fin 192) 0 d)
      = (argsK m c).M (ix2 (if s.val < 1 then 16 else ⟨b.val, by omega⟩ : Fin 24) (⟨k.val * 1024 + d.val, by omega⟩ : Fin 6144)) := by
  show StableHlo.after (List.flatten [hostOps0, hostOps0_1, hostOps0_2]) (fun b => m (c, b)) _ _ = _
  simp only [hostOps0, hostOps0_1, hostOps0_2, List.flatten_cons, List.flatten_nil, List.append_nil, List.cons_append, List.nil_append]
  after_reads_at
  after_reads_at
  by_cases h : s.val < 1
  · simp only [h, if_true]
    refine (dif_pos trivial).trans ?_
    exact congrArg (fun n : Fin 6144 => (argsK m c).M (ix2 _ n)) (Fin.ext (by show ((b.val * 2 + s.val) * 6 + k.val) % 6 * 1024 + d.val = k.val * 1024 + d.val; omega))
  · simp only [h, if_false]
    refine (dif_neg not_false).trans ?_
    exact congrArg (fun n : Fin 6144 => (argsK m c).M (ix2 _ n)) (Fin.ext (by show ((b.val * 2 + s.val) * 6 + k.val) % 6 * 1024 + d.val = k.val * 1024 + d.val; omega))
/-- The kernel's weight columns of the queries, keys and values. -/
theorem W5_eq (d : Fin 1024) (n : Fin 1536) :
    V m c main_v18 (ix2 d (⟨n.val, by omega⟩ : Fin 3200)) = (argsK m c).W (ix2 d (⟨n.val, by omega⟩ : Fin 3088)) := by
  show StableHlo.after (List.flatten [hostOps0, hostOps0_1, hostOps0_2]) (fun b => m (c, b)) _ _ = _
  simp only [hostOps0, hostOps0_1, hostOps0_2, List.flatten_cons, List.flatten_nil, List.append_nil, List.cons_append, List.nil_append]
  after_reads_at
  after_reads_at
  have hn := n.isLt
  rfl
/-- Those of the output gate. -/
theorem W6_eq (d : Fin 1024) (n : Fin 512) :
    V m c main_v18 (ix2 d (⟨1536 + n.val, by omega⟩ : Fin 3200)) = (argsK m c).W (ix2 d (⟨1536 + n.val, by omega⟩ : Fin 3088)) := by
  show StableHlo.after (List.flatten [hostOps0, hostOps0_1, hostOps0_2]) (fun b => m (c, b)) _ _ = _
  simp only [hostOps0, hostOps0_1, hostOps0_2, List.flatten_cons, List.flatten_nil, List.append_nil, List.cons_append, List.nil_append]
  after_reads_at
  after_reads_at
  have hn := n.isLt
  rfl
/-- Those of the recurrence's input. -/
theorem W7_eq (d : Fin 1024) (n : Fin 512) :
    V m c main_v18 (ix2 d (⟨2048 + n.val, by omega⟩ : Fin 3200)) = (argsK m c).W (ix2 d (⟨2064 + n.val, by omega⟩ : Fin 3088)) := by
  show StableHlo.after (List.flatten [hostOps0, hostOps0_1, hostOps0_2]) (fun b => m (c, b)) _ _ = _
  simp only [hostOps0, hostOps0_1, hostOps0_2, List.flatten_cons, List.flatten_nil, List.append_nil, List.cons_append, List.nil_append]
  after_reads_at
  after_reads_at
  have hn := n.isLt
  refine (dif_neg (show ¬ 2048 + n.val < 1536 by omega)).trans ?_
  refine (dif_neg (show ¬ 2048 + n.val - 1536 < 512 by omega)).trans ?_
  refine (dif_pos (show 2048 + n.val - 1536 - 512 < 512 by omega)).trans ?_
  exact congrArg (fun k : Fin 3088 => (argsK m c).W (ix2 d k)) (Fin.ext (by show 2064 + (2048 + n.val - 1536 - 512) = 2064 + n.val; omega))
/-- Those of the recurrence's gate. -/
theorem W8_eq (d : Fin 1024) (n : Fin 512) :
    V m c main_v18 (ix2 d (⟨2560 + n.val, by omega⟩ : Fin 3200)) = (argsK m c).W (ix2 d (⟨2576 + n.val, by omega⟩ : Fin 3088)) := by
  show StableHlo.after (List.flatten [hostOps0, hostOps0_1, hostOps0_2]) (fun b => m (c, b)) _ _ = _
  simp only [hostOps0, hostOps0_1, hostOps0_2, List.flatten_cons, List.flatten_nil, List.append_nil, List.cons_append, List.nil_append]
  after_reads_at
  after_reads_at
  have hn := n.isLt
  refine (dif_neg (show ¬ 2560 + n.val < 1536 by omega)).trans ?_
  refine (dif_neg (show ¬ 2560 + n.val - 1536 < 512 by omega)).trans ?_
  refine (dif_neg (show ¬ 2560 + n.val - 1536 - 512 < 512 by omega)).trans ?_
  refine (dif_pos (show 2560 + n.val - 1536 - 512 - 512 < 512 by omega)).trans ?_
  exact congrArg (fun k : Fin 3088 => (argsK m c).W (ix2 d k)) (Fin.ext (by show 2576 + (2560 + n.val - 1536 - 512 - 512) = 2576 + n.val; omega))
theorem sitofp_zero : (FloatOps.sitofp (F := Ideal) FTy.f32 0#32 : EReal) = 0 := by
  show (((0#32 : BitVec 32).toInt : ℝ) : EReal) = 0
  simp
/-- Those of the decays and write strengths, with columns of zeros after them. -/
theorem W9_eq (d : Fin 1024) (n : Fin 128) :
    V m c main_v18 (ix2 d (⟨3072 + n.val, by omega⟩ : Fin 3200)) = (if h : n.val < 16 then (argsK m c).W (ix2 d (⟨2048 + n.val, by omega⟩ : Fin 3088)) else 0 : EReal) := by
  show StableHlo.after (List.flatten [hostOps0, hostOps0_1, hostOps0_2]) (fun b => m (c, b)) _ _ = _
  simp only [hostOps0, hostOps0_1, hostOps0_2, List.flatten_cons, List.flatten_nil, List.append_nil, List.cons_append, List.nil_append]
  after_reads_at
  after_reads_at
  have hn := n.isLt
  refine (dif_neg (show ¬ 3072 + n.val < 1536 by omega)).trans ?_
  refine (dif_neg (show ¬ 3072 + n.val - 1536 < 512 by omega)).trans ?_
  refine (dif_neg (show ¬ 3072 + n.val - 1536 - 512 < 512 by omega)).trans ?_
  refine (dif_neg (show ¬ 3072 + n.val - 1536 - 512 - 512 < 512 by omega)).trans ?_
  by_cases h : n.val < 16
  · refine (dif_pos (show 3072 + n.val - 1536 - 512 - 512 - 512 < 16 by omega)).trans (Eq.trans ?_ (dif_pos h).symm)
    exact congrArg (fun k : Fin 3088 => (argsK m c).W (ix2 d k)) (Fin.ext (by show 2048 + (3072 + n.val - 1536 - 512 - 512 - 512) = 2048 + n.val; omega))
  · refine (dif_neg (show ¬ 3072 + n.val - 1536 - 512 - 512 - 512 < 16 by omega)).trans (Eq.trans ?_ (dif_neg h).symm)
    exact sitofp_zero

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![(t.val / 9 * 2 + min (t.val % 9) 1) * 6, 0, 0] := (by decide +kernel : ∀ t : Fin grid0.N, _)
theorem idx3 : ∀ t : Fin cfg0.N, win0_3.index t = ![(t.val / 9 * 2 + min (t.val % 9) 1) * 6 + 1, 0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![t.val, 0] := (by decide +kernel : ∀ t : Fin grid0.N, _)
theorem idx9 : ∀ t : Fin cfg0.N, win0_9.index t = ![t.val, 0] := (by decide +kernel : ∀ t : Fin grid0.N, _)

theorem lt144 (t : Fin cfg0.N) : t.val < 144 := lt_of_lt_of_eq t.isLt N_0

/-- A tile's token as a token of the whole list. -/
def tok (t : Fin cfg0.N) (i : Fin 256) : Fin 36864 := ⟨256 * t.val + i.val, by have := lt144 t; omega⟩

theorem blk0 (t : Fin cfg0.N) (i : Fin 256) (d : Fin 1024) : iblk m c 0 t (ix2 i d) = (argsK m c).row (tok t i) d := by
  refine Eq.trans ?_ (V10_eq m c _ d)
  unfold tok
  blk_ext [iblk, idx0]
theorem blk1 (t : Fin cfg0.N) (d : Fin 1024) : iblk m c 1 t (ix2 0 d) = (argsK m c).G (ix1 d) := by
  refine Eq.trans ?_ (V19_eq m c d)
  blk_ext [iblk, idx1]
theorem smp_eq (t : Fin cfg0.N) (i : Fin 256) :
    (if min (t.val % 9) 1 < 1 then 16 else ⟨t.val / 9, by have := lt144 t; omega⟩ : Fin 24) = Even.smp (tok t i) := by
  unfold Even.smp
  have hi := i.isLt
  have e1 : (tok t i).val = 256 * t.val + i.val := rfl
  by_cases h : t.val % 9 = 0
  · rw [if_pos (by omega), if_pos (by omega)]
  · rw [if_neg (by omega), if_neg (by omega)]
    exact Fin.ext (by show t.val / 9 = (tok t i).val / 2304; omega)
theorem blk2 (t : Fin cfg0.N) (i : Fin 256) (d : Fin 1024) :
    iblk m c 2 t (ix3 0 0 d) = (argsK m c).M (ix2 (Even.smp (tok t i)) (⟨d.val, by omega⟩ : Fin 6144)) := by
  have ht := lt144 t
  have h := V8_eq m c ⟨t.val / 9, by omega⟩ ⟨min (t.val % 9) 1, by omega⟩ 0 d
  rw [← smp_eq t i]
  have e : (⟨d.val, by omega⟩ : Fin 6144) = ⟨(0 : Fin 2).val * 1024 + d.val, by omega⟩ := Fin.ext (by show d.val = 0 * 1024 + d.val; omega)
  rw [e]
  refine Eq.trans ?_ h
  blk_ext [iblk, idx2]
theorem blk3 (t : Fin cfg0.N) (i : Fin 256) (d : Fin 1024) :
    iblk m c 3 t (ix3 0 0 d) = (argsK m c).M (ix2 (Even.smp (tok t i)) (⟨1024 + d.val, by omega⟩ : Fin 6144)) := by
  have ht := lt144 t
  have h := V8_eq m c ⟨t.val / 9, by omega⟩ ⟨min (t.val % 9) 1, by omega⟩ 1 d
  rw [← smp_eq t i]
  have e : (⟨1024 + d.val, by omega⟩ : Fin 6144) = ⟨(1 : Fin 2).val * 1024 + d.val, by omega⟩ := Fin.ext (by show 1024 + d.val = 1 * 1024 + d.val; omega)
  rw [e]
  refine Eq.trans ?_ h
  blk_ext [iblk, idx3]
theorem blk4 (t : Fin cfg0.N) (d : Fin 1024) (n : Fin 3200) : iblk m c 4 t (ix2 d n) = V m c main_v18 (ix2 d n) := by
  blk_ext [iblk, idx4]

/-- A tile's token after the norm and the modulation, from its blocks. -/
theorem pay4_eq (x : Vec Ideal S256x1024 .f32) (g : Vec Ideal S1x1024 .f32) (sc sh : Vec Ideal S1x1x1024 .f32) (i : Fin 256) (d : Fin 1024) :
    k0_pay4 x g sc sh (ix2 i d) = (hid (fun d => x (ix2 i d)) (fun d => g (ix2 0 d)) (fun d => sh (ix3 0 0 d)) (fun d => sc (ix3 0 0 d)) d : EReal) := by
  pointwise [k0_pay4, hid]

/-- The tile's tokens after the norm and the modulation. -/
theorem mod_eq (t : Fin cfg0.N) (i : Fin 256) (d : Fin 1024) :
    k0_pay7 (iblk m c 0 t) (iblk m c 1 t) (iblk m c 2 t) (iblk m c 3 t) (iblk m c 4 t) (ix2 i d) = ((argsK m c).mod (tok t i) d : EReal) := by
  unfold k0_pay7
  rw [View.ld_unit_zero (by funext a; fin_cases a <;> rfl), View.ld_unit_zero (by funext a; fin_cases a <;> rfl),
    View.ld_unit_zero (by funext a; fin_cases a <;> rfl), View.ld_unit_zero (by funext a; fin_cases a <;> rfl)]
  refine (pay4_eq _ _ _ _ i d).trans ?_
  unfold Even.mod
  congr 1
  · funext d'; exact blk0 m c t i d'
  · funext d'; exact blk1 m c t d'
  · funext d'; exact blk2 m c t i d'
  · funext d'; exact blk3 m c t i d'

/-- The weights of the queries, keys and values. -/
theorem ld3_eq (x : Vec Ideal S1024x3200 .bf16) (d : Fin 1024) (n : Fin 1536) : View.ld x r0_3 (ix2 d n) = x (ix2 d (⟨n.val, by omega⟩ : Fin 3200)) := by
  refine congrArg x (funext fun a => Fin.ext ?_)
  fin_cases a <;> (show _ + _ * _ = _; simp)
theorem ld5_eq (x : Vec Ideal S1024x3200 .bf16) (d : Fin 1024) (n : Fin 512) : View.ld x r0_5 (ix2 d n) = x (ix2 d (⟨1536 + n.val, by omega⟩ : Fin 3200)) := by
  refine congrArg x (funext fun a => Fin.ext ?_)
  fin_cases a <;> (show _ + _ * _ = _; simp)
theorem ld7_eq (x : Vec Ideal S1024x3200 .bf16) (d : Fin 1024) (n : Fin 512) : View.ld x r0_7 (ix2 d n) = x (ix2 d (⟨2048 + n.val, by omega⟩ : Fin 3200)) := by
  refine congrArg x (funext fun a => Fin.ext ?_)
  fin_cases a <;> (show _ + _ * _ = _; simp)
theorem ld8_eq (x : Vec Ideal S1024x3200 .bf16) (d : Fin 1024) (n : Fin 512) : View.ld x r0_8 (ix2 d n) = x (ix2 d (⟨2560 + n.val, by omega⟩ : Fin 3200)) := by
  refine congrArg x (funext fun a => Fin.ext ?_)
  fin_cases a <;> (show _ + _ * _ = _; simp)
theorem ld9_eq (x : Vec Ideal S1024x3200 .bf16) (d : Fin 1024) (n : Fin 128) : View.ld x r0_9 (ix2 d n) = x (ix2 d (⟨3072 + n.val, by omega⟩ : Fin 3200)) := by
  refine congrArg x (funext fun a => Fin.ext ?_)
  fin_cases a <;> (show _ + _ * _ = _; simp)
theorem pay1_eq (h : FVec Ideal S256x1024 .bf16) (w : Vec Ideal S1024x512 .bf16) (i : Fin 256) (n : Fin 512) :
    k0_pay1 h w (ix2 i n) = (∑ d : Fin 1024, h (ix2 i d) * w (ix2 d n) : EReal) := by
  pointwise [k0_pay1]
theorem pay2_eq (h : FVec Ideal S256x1024 .bf16) (w : Vec Ideal S1024x512 .bf16) (i : Fin 256) (n : Fin 512) :
    k0_pay2 h w (ix2 i n) = (∑ d : Fin 1024, h (ix2 i d) * w (ix2 d n) : EReal) := by
  pointwise [k0_pay2]
theorem pay3_eq (h : FVec Ideal S256x1024 .bf16) (w : Vec Ideal S1024x128 .bf16) (i : Fin 256) (n : Fin 128) :
    k0_pay3 h w (ix2 i n) = (∑ d : Fin 1024, h (ix2 i d) * w (ix2 d n) : EReal) := by
  pointwise [k0_pay3]
theorem pay5_eq (x : Vec Ideal S256x1024 .f32) (g : Vec Ideal S1x1024 .f32) (sc sh : Vec Ideal S1x1x1024 .f32) (w : Vec Ideal S1024x1536 .bf16) (i : Fin 256) (n : Fin 1536) :
    k0_pay5 x g sc sh w (ix2 i n) = (∑ d : Fin 1024, k0_pay4 x g sc sh (ix2 i d) * w (ix2 d n) : EReal) := by
  pointwise [k0_pay5]
theorem pay6_eq (x : Vec Ideal S256x1024 .f32) (g : Vec Ideal S1x1024 .f32) (sc sh : Vec Ideal S1x1x1024 .f32) (w : Vec Ideal S1024x512 .bf16) (i : Fin 256) (n : Fin 512) :
    k0_pay6 x g sc sh w (ix2 i n) = (∑ d : Fin 1024, k0_pay4 x g sc sh (ix2 i d) * w (ix2 d n) : EReal) := by
  pointwise [k0_pay6]

/-- What a point leaves in its block of result 0. -/
theorem out5_eq (t : Fin cfg0.N) (i : Fin 256) (n : Fin 1536) :
    out0_5 (iblk m c 0 t) (iblk m c 1 t) (iblk m c 2 t) (iblk m c 3 t) (iblk m c 4 t) (ix2 i n) = ((argsK m c).qkv (tok t i) n : EReal) := by
  unfold out0_5
  rw [View.canon_unit_zero (by funext a; fin_cases a <;> rfl)]
  refine (pay5_eq _ _ _ _ _ i n).trans ?_
  unfold Even.qkv Even.proj
  refine Finset.sum_congr rfl fun d _ => congrArg₂ (· * ·) (mod_eq m c t i d) ?_
  exact (ld3_eq _ d n).trans ((blk4 m c t d _).trans (W5_eq m c d n))
/-- Result 0 as the region leaves it. -/
theorem final5 : (dats m 0 c).arrAt 5 cfg0.N = fun i => (argsK m c).qkv (i 0) (i 1) := by
  refine (dats m 0 c).arrAt_eq_of_covers 5 _ (by decide +kernel) fun s hf y => ?_
  blk_simp
  have hy : y = (ix2 (y 0) (y 1) : S256x1536.Idx) := eq_ix2 (n0 := 256) (n1 := 1536) y
  have e0 : (win0_5.blk s).view.emb y 0 = tok s (y 0) := Fin.ext (by blk_simp [idx5]; show s.val * 256 + _ = 256 * s.val + _; omega)
  have e1 : (win0_5.blk s).view.emb y 1 = y 1 := Fin.ext (by blk_simp [idx5])
  rw [e0, e1]
  refine (congrArg ((dats m 0 c).after 5 s) hy).trans ?_
  rw [after0_5]
  exact out5_eq m c s (y 0) (y 1)

/-- What a point leaves in its block of result 1. -/
theorem out6_eq (t : Fin cfg0.N) (i : Fin 256) (n : Fin 512) :
    out0_6 (iblk m c 0 t) (iblk m c 1 t) (iblk m c 2 t) (iblk m c 3 t) (iblk m c 4 t) (ix2 i n) = ((argsK m c).z (tok t i) n : EReal) := by
  unfold out0_6
  rw [View.canon_unit_zero (by funext a; fin_cases a <;> rfl)]
  refine (pay6_eq _ _ _ _ _ i n).trans ?_
  unfold Even.z Even.proj
  refine Finset.sum_congr rfl fun d _ => congrArg₂ (· * ·) (mod_eq m c t i d) ?_
  exact (ld5_eq _ d n).trans ((blk4 m c t d _).trans (W6_eq m c d n))
/-- Result 1 as the region leaves it. -/
theorem final6 : (dats m 0 c).arrAt 6 cfg0.N = fun i => (argsK m c).z (i 0) (i 1) := by
  refine (dats m 0 c).arrAt_eq_of_covers 6 _ (by decide +kernel) fun s hf y => ?_
  blk_simp
  have hy : y = (ix2 (y 0) (y 1) : S256x512.Idx) := eq_ix2 (n0 := 256) (n1 := 512) y
  have e0 : (win0_6.blk s).view.emb y 0 = tok s (y 0) := Fin.ext (by blk_simp [idx6]; show s.val * 256 + _ = 256 * s.val + _; omega)
  have e1 : (win0_6.blk s).view.emb y 1 = y 1 := Fin.ext (by blk_simp [idx6])
  rw [e0, e1]
  refine (congrArg ((dats m 0 c).after 6 s) hy).trans ?_
  rw [after0_6]
  exact out6_eq m c s (y 0) (y 1)

/-- What a point leaves in its block of result 2. -/
theorem out7_eq (t : Fin cfg0.N) (i : Fin 256) (n : Fin 512) :
    out0_7 (iblk m c 0 t) (iblk m c 1 t) (iblk m c 2 t) (iblk m c 3 t) (iblk m c 4 t) (ix2 i n) = ((argsK m c).xb (tok t i) n : EReal) := by
  unfold out0_7
  rw [View.canon_unit_zero (by funext a; fin_cases a <;> rfl)]
  refine (pay1_eq _ _ i n).trans ?_
  unfold Even.xb Even.proj
  refine Finset.sum_congr rfl fun d _ => congrArg₂ (· * ·) (mod_eq m c t i d) ?_
  exact (ld7_eq _ d n).trans ((blk4 m c t d _).trans (W7_eq m c d n))
/-- Result 2 as the region leaves it. -/
theorem final7 : (dats m 0 c).arrAt 7 cfg0.N = fun i => (argsK m c).xb (i 0) (i 1) := by
  refine (dats m 0 c).arrAt_eq_of_covers 7 _ (by decide +kernel) fun s hf y => ?_
  blk_simp
  have hy : y = (ix2 (y 0) (y 1) : S256x512.Idx) := eq_ix2 (n0 := 256) (n1 := 512) y
  have e0 : (win0_7.blk s).view.emb y 0 = tok s (y 0) := Fin.ext (by blk_simp [idx7]; show s.val * 256 + _ = 256 * s.val + _; omega)
  have e1 : (win0_7.blk s).view.emb y 1 = y 1 := Fin.ext (by blk_simp [idx7])
  rw [e0, e1]
  refine (congrArg ((dats m 0 c).after 7 s) hy).trans ?_
  rw [after0_7]
  exact out7_eq m c s (y 0) (y 1)

/-- What a point leaves in its block of result 3. -/
theorem out8_eq (t : Fin cfg0.N) (i : Fin 256) (n : Fin 512) :
    out0_8 (iblk m c 0 t) (iblk m c 1 t) (iblk m c 2 t) (iblk m c 3 t) (iblk m c 4 t) (ix2 i n) = ((argsK m c).gate (tok t i) n : EReal) := by
  unfold out0_8
  rw [View.canon_unit_zero (by funext a; fin_cases a <;> rfl)]
  refine (pay2_eq _ _ i n).trans ?_
  unfold Even.gate Even.proj
  refine Finset.sum_congr rfl fun d _ => congrArg₂ (· * ·) (mod_eq m c t i d) ?_
  exact (ld8_eq _ d n).trans ((blk4 m c t d _).trans (W8_eq m c d n))
/-- Result 3 as the region leaves it. -/
theorem final8 : (dats m 0 c).arrAt 8 cfg0.N = fun i => (argsK m c).gate (i 0) (i 1) := by
  refine (dats m 0 c).arrAt_eq_of_covers 8 _ (by decide +kernel) fun s hf y => ?_
  blk_simp
  have hy : y = (ix2 (y 0) (y 1) : S256x512.Idx) := eq_ix2 (n0 := 256) (n1 := 512) y
  have e0 : (win0_8.blk s).view.emb y 0 = tok s (y 0) := Fin.ext (by blk_simp [idx8]; show s.val * 256 + _ = 256 * s.val + _; omega)
  have e1 : (win0_8.blk s).view.emb y 1 = y 1 := Fin.ext (by blk_simp [idx8])
  rw [e0, e1]
  refine (congrArg ((dats m 0 c).after 8 s) hy).trans ?_
  rw [after0_8]
  exact out8_eq m c s (y 0) (y 1)

/-- What a point leaves in its block of result 4. -/
theorem out9_eq (t : Fin cfg0.N) (i : Fin 256) (n : Fin 128) :
    out0_9 (iblk m c 0 t) (iblk m c 1 t) (iblk m c 2 t) (iblk m c 3 t) (iblk m c 4 t) (ix2 i n) = ((argsK m c).ab (tok t i) n : EReal) := by
  unfold out0_9
  rw [View.canon_unit_zero (by funext a; fin_cases a <;> rfl)]
  refine (pay3_eq _ _ i n).trans ?_
  have hw : ∀ d : Fin 1024, View.ld (iblk m c 4 t) r0_9 (ix2 d n) = (if h : n.val < 16 then (argsK m c).W (ix2 d ⟨2048 + n.val, by omega⟩) else 0 : EReal) := fun d =>
    (ld9_eq _ d n).trans ((blk4 m c t d _).trans (W9_eq m c d n))
  unfold Even.ab Even.proj
  by_cases h : n.val < 16
  · rw [dif_pos h]
    exact Finset.sum_congr rfl fun d _ => congrArg₂ (· * ·) (mod_eq m c t i d) ((hw d).trans (dif_pos h))
  · rw [dif_neg h]
    refine (Finset.sum_congr rfl fun d _ => (congrArg₂ (· * ·) rfl ((hw d).trans (dif_neg h))).trans (mul_zero _)).trans Finset.sum_const_zero
/-- Result 4 as the region leaves it. -/
theorem final9 : (dats m 0 c).arrAt 9 cfg0.N = fun i => (argsK m c).ab (i 0) (i 1) := by
  refine (dats m 0 c).arrAt_eq_of_covers 9 _ (by decide +kernel) fun s hf y => ?_
  blk_simp
  have hy : y = (ix2 (y 0) (y 1) : S256x128.Idx) := eq_ix2 (n0 := 256) (n1 := 128) y
  have e0 : (win0_9.blk s).view.emb y 0 = tok s (y 0) := Fin.ext (by blk_simp [idx9]; show s.val * 256 + _ = 256 * s.val + _; omega)
  have e1 : (win0_9.blk s).view.emb y 1 = y 1 := Fin.ext (by blk_simp [idx9])
  rw [e0, e1]
  refine (congrArg ((dats m 0 c).after 9 s) hy).trans ?_
  rw [after0_9]
  exact out9_eq m c s (y 0) (y 1)

end Cert.Kernel2Ideal.Pv

end
-- ==== Proof.In.Ref.lean ====
/- What the reference of the projection into the even layer's mixers computes, element by element. -/
module

public import proofs.«01_k».proof.Proof.Gen.Reference2Ideal.Run
public import proofs.«01_k».proof.Proof.In.Spec

@[expose] public section

set_option maxRecDepth 16384

noncomputable section

namespace Cert.Reference2Ideal.Pv

open Cert.Reference2Ideal Cert.Reference2Ideal.Gen Cert.Proj
open Idealize.ShloMosaic Idealize.ShloMosaic.TcCoe

variable (m : (ℓ : Loc nD τ sig) → Buf (Elt Ideal) ℓ) (ρ : Dev nD → PrngReg)

/-- The reference's arguments. -/
def argsR (c : Dev nD) : Even where
  X := m ((c.tc : Thread nD τ).loc main_arg0)
  C := m ((c.tc : Thread nD τ).loc main_arg1)
  G := m ((c.tc : Thread nD τ).loc main_arg2)
  M := m ((c.tc : Thread nD τ).loc main_arg3)
  W := m ((c.tc : Thread nD τ).loc main_arg4)

/-- The reference's results are the shared functions of its arguments. -/
theorem run_spec : θ_run defs (onTc (τ := τ) (main (F := Ideal))) ⟨m, fun _ => 0, ρ⟩ fun r => ∀ c : Dev nD,
      r.2.mem ((c.tc : Thread nD τ).loc main_v58) = (fun i => (argsR m c).qkv (i 0) (i 1))
      ∧ r.2.mem ((c.tc : Thread nD τ).loc main_v59) = (fun i => (argsR m c).z (i 0) (i 1))
      ∧ r.2.mem ((c.tc : Thread nD τ).loc main_v61) = (fun i => (argsR m c).xb (i 0) (i 1))
      ∧ r.2.mem ((c.tc : Thread nD τ).loc main_v62) = (fun i => (argsR m c).gate (i 0) (i 1))
      ∧ r.2.mem ((c.tc : Thread nD τ).loc main_v63) = (fun i => (argsR m c).ab (i 0) (i 1)) := by
  refine (θ_run defs _ _).mono (fun r h c => ?_) (Cert.Reference2Ideal.Value.run m ρ)
  obtain ⟨h0, h1, h2, h3, h4, -⟩ := h c
  refine ⟨h0.trans (funext fun i => ?_), h1.trans (funext fun i => ?_), h2.trans (funext fun i => ?_), h3.trans (funext fun i => ?_), h4.trans (funext fun i => ?_)⟩
  · clear h h0 h1 h2 h3 h4
    rw [eq_ix2 (n0 := 36864) (n1 := 1536) i]
    obtain ⟨r, hr⟩ : ∃ r : Fin 36864, r = i 0 := ⟨_, rfl⟩
    obtain ⟨n, hn⟩ : ∃ n : Fin 1536, n = i 1 := ⟨_, rfl⟩
    rw [← hr, ← hn]
    pointwise [id, constant]
    exact ((argsR m c).proj_split r ⟨n.val, by omega⟩).symm
  · clear h h0 h1 h2 h3 h4
    rw [eq_ix2 (n0 := 36864) (n1 := 512) i]
    obtain ⟨r, hr⟩ : ∃ r : Fin 36864, r = i 0 := ⟨_, rfl⟩
    obtain ⟨n, hn⟩ : ∃ n : Fin 512, n = i 1 := ⟨_, rfl⟩
    rw [← hr, ← hn]
    pointwise [id, constant]
    exact ((argsR m c).proj_split r ⟨1536 + n.val, by omega⟩).symm
  · clear h h0 h1 h2 h3 h4
    rw [eq_ix2 (n0 := 36864) (n1 := 512) i]
    obtain ⟨r, hr⟩ : ∃ r : Fin 36864, r = i 0 := ⟨_, rfl⟩
    obtain ⟨n, hn⟩ : ∃ n : Fin 512, n = i 1 := ⟨_, rfl⟩
    rw [← hr, ← hn]
    pointwise [id, constant]
    exact ((argsR m c).proj_split r ⟨2064 + n.val, by omega⟩).symm
  · clear h h0 h1 h2 h3 h4
    rw [eq_ix2 (n0 := 36864) (n1 := 512) i]
    obtain ⟨r, hr⟩ : ∃ r : Fin 36864, r = i 0 := ⟨_, rfl⟩
    obtain ⟨n, hn⟩ : ∃ n : Fin 512, n = i 1 := ⟨_, rfl⟩
    rw [← hr, ← hn]
    pointwise [id, constant]
    exact ((argsR m c).proj_split r ⟨2576 + n.val, by omega⟩).symm
  · clear h h0 h1 h2 h3 h4
    rw [eq_ix2 (n0 := 36864) (n1 := 128) i]
    obtain ⟨r, hr⟩ : ∃ r : Fin 36864, r = i 0 := ⟨_, rfl⟩
    obtain ⟨n, hn⟩ : ∃ n : Fin 128, n = i 1 := ⟨_, rfl⟩
    rw [← hr, ← hn]
    pointwise [id, constant]
    show _ = (argsR m c).ab r n
    unfold Even.ab
    by_cases h : n.val < 16
    · refine (dif_pos h).trans (Eq.trans ?_ (dif_pos h).symm)
      exact ((argsR m c).proj_split r ⟨2048 + n.val, by omega⟩).symm
    · refine (dif_neg h).trans (Eq.trans ?_ (dif_neg h).symm)
      show (((0#32 : BitVec 32).toInt : ℝ) : EReal) = 0
      simp

end Cert.Reference2Ideal.Pv

end
-- ==== Proof.Out.Spec.lean ====
/- The mathematics that kernel and reference share: the projection out of the even layer's mixers, its residual, norm and modulation. -/
module

public import proofs.«01_k».proof.Proof.In.Spec

@[expose] public section

noncomputable section

namespace Cert.Proj

open Idealize.ShloMosaic

/-- A token with the projection of the mixers' outputs, by a gate, added to it. -/
def res (x g : Fin 1024 → EReal) (a b : Fin 512 → EReal) (wa wb : Fin 512 → Fin 1024 → EReal) (d : Fin 1024) : EReal :=
  x d + g d * (∑ k : Fin 512, a k * wa k d + ∑ k : Fin 512, b k * wb k d)

/-- The argument arrays of the projection out of the mixers: latent tokens, context tokens, the mixers' outputs, weights, gain, modulations. -/
structure Back where
  X : (⟨3, ![16, 2048, 1024]⟩ : Shape).Idx → EReal
  C : (⟨3, ![16, 256, 1024]⟩ : Shape).Idx → EReal
  YA : (⟨3, ![16, 2304, 512]⟩ : Shape).Idx → EReal
  YB : (⟨3, ![16, 2304, 512]⟩ : Shape).Idx → EReal
  W : (⟨2, ![1024, 1024]⟩ : Shape).Idx → EReal
  G : (⟨1, ![1024]⟩ : Shape).Idx → EReal
  M : (⟨2, ![24, 6144]⟩ : Shape).Idx → EReal

namespace Back

variable (A : Back)

/-- Token `r` of the list of all tokens, a sample's context tokens before its latent tokens. -/
def row (r : Fin 36864) (d : Fin 1024) : EReal :=
  if h : r.val % 2304 < 256 then A.C (ix3 (⟨r.val / 2304, by omega⟩ : Fin 16) (⟨r.val % 2304, h⟩ : Fin 256) d)
  else A.X (ix3 (⟨r.val / 2304, by omega⟩ : Fin 16) (⟨r.val % 2304 - 256, by omega⟩ : Fin 2048) d)
/-- Token `r` with its residual `x` and its row `b` of the modulations. -/
def tokOf (x : Fin 1024 → EReal) (b : Fin 24) (r : Fin 36864) : Fin 1024 → EReal :=
  res x (fun d => A.M (ix2 b (⟨2048 + d.val, by omega⟩ : Fin 6144)))
    (fun k => A.YA (ix3 (⟨r.val / 2304, by omega⟩ : Fin 16) (⟨r.val % 2304, by omega⟩ : Fin 2304) k))
    (fun k => A.YB (ix3 (⟨r.val / 2304, by omega⟩ : Fin 16) (⟨r.val % 2304, by omega⟩ : Fin 2304) k))
    (fun k d => A.W (ix2 (⟨k.val, by omega⟩ : Fin 1024) d)) (fun k d => A.W (ix2 (⟨512 + k.val, by omega⟩ : Fin 1024) d))
/-- The same after the norm and the modulation. -/
def modOf (x : Fin 1024 → EReal) (b : Fin 24) (r : Fin 36864) : Fin 1024 → EReal :=
  hid (A.tokOf x b r) (fun d => A.G (ix1 d)) (fun d => A.M (ix2 b (⟨3072 + d.val, by omega⟩ : Fin 6144)))
    (fun d => A.M (ix2 b (⟨4096 + d.val, by omega⟩ : Fin 6144)))
/-- The tokens after the mixers. -/
def x1 (r : Fin 36864) (d : Fin 1024) : EReal := A.tokOf (A.row r) (Even.smp r) r d
/-- The same after the norm and the modulation. -/
def h1 (r : Fin 36864) (d : Fin 1024) : EReal := A.modOf (A.row r) (Even.smp r) r d

/-- The two results, with the context tokens and the latent tokens apart. -/
theorem split (P : (Fin 1024 → EReal) → Fin 24 → EReal) (r : Fin 36864) : P (A.row r) (Even.smp r) =
    if h : r.val % 2304 < 256 then P (fun d => A.C (ix3 (⟨r.val / 2304, by omega⟩ : Fin 16) (⟨r.val % 2304, h⟩ : Fin 256) d)) 16
    else P (fun d => A.X (ix3 (⟨r.val / 2304, by omega⟩ : Fin 16) (⟨r.val % 2304 - 256, by omega⟩ : Fin 2048) d)) ⟨r.val / 2304, by omega⟩ := by
  by_cases h : r.val % 2304 < 256
  · have e : A.row r = fun d => A.C (ix3 (⟨r.val / 2304, by omega⟩ : Fin 16) (⟨r.val % 2304, h⟩ : Fin 256) d) := funext fun d => dif_pos h
    have e' : Even.smp r = 16 := if_pos h
    rw [dif_pos h, e, e']
  · have e : A.row r = fun d => A.X (ix3 (⟨r.val / 2304, by omega⟩ : Fin 16) (⟨r.val % 2304 - 256, by omega⟩ : Fin 2048) d) := funext fun d => dif_neg h
    have e' : Even.smp r = ⟨r.val / 2304, by omega⟩ := if_neg h
    rw [dif_neg h, e, e']

end Back

end Cert.Proj

end
-- ==== Proof.Out.Kernel.lean ====
/- What the kernel of the projection out of the even layer's mixers leaves in its result arrays. -/
module

public import proofs.«01_k».proof.Proof.Gen.Kernel3Ideal.Value
public import Idealize.ShloMosaic.Lib.Pipeline.ValueKit.Point
public import Idealize.ShloMosaic.Lib.StableHlo.ReadAt
public import proofs.«01_k».proof.Proof.Out.Spec

@[expose] public section

set_option maxRecDepth 16384

noncomputable section

namespace Cert.Kernel3Ideal.Pv

open Cert.Kernel3Ideal Cert.Kernel3Ideal.Gen Cert.Proj
open Idealize.ShloMosaic Idealize.ShloMosaic.TcCoe

variable (m : (ℓ : Loc nD τ sig) → Buf (Elt Ideal) ℓ) (c : Dev nD)

/-- The kernel's arguments. -/
def argsK : Back where
  X := m ((c : Thread nD τ).loc main_arg0)
  C := m ((c : Thread nD τ).loc main_arg1)
  YA := m ((c : Thread nD τ).loc main_arg2)
  YB := m ((c : Thread nD τ).loc main_arg3)
  W := m ((c : Thread nD τ).loc main_arg4)
  G := m ((c : Thread nD τ).loc main_arg5)
  M := m ((c : Thread nD τ).loc main_arg6)

/-- The list of all tokens. -/
theorem V10_eq (r : Fin 36864) (d : Fin 1024) : V m c main_v10 (ix2 r d) = (argsK m c).row r d := by
  entry_read
  pointwise
  rfl
/-- The mixers' outputs as lists of tokens. -/
theorem V11_eq (r : Fin 36864) (k : Fin 512) :
    V m c main_v11 (ix2 r k) = (argsK m c).YA (ix3 (⟨r.val / 2304, by omega⟩ : Fin 16) (⟨r.val % 2304, by omega⟩ : Fin 2304) k) := by
  entry_read
  pointwise
  rfl
theorem V12_eq (r : Fin 36864) (k : Fin 512) :
    V m c main_v12 (ix2 r k) = (argsK m c).YB (ix3 (⟨r.val / 2304, by omega⟩ : Fin 16) (⟨r.val % 2304, by omega⟩ : Fin 2304) k) := by
  entry_read
  pointwise
  rfl
/-- The two halves of the weights. -/
theorem V14_eq (k : Fin 512) (d : Fin 1024) : V m c main_v14 (ix2 k d) = (argsK m c).W (ix2 (⟨k.val, by omega⟩ : Fin 1024) d) := by
  entry_read
  pointwise
  rfl
theorem V15_eq (k : Fin 512) (d : Fin 1024) : V m c main_v15 (ix2 k d) = (argsK m c).W (ix2 (⟨512 + k.val, by omega⟩ : Fin 1024) d) := by
  entry_read
  pointwise
  rfl
/-- The gain as a row. -/
theorem V16_eq (d : Fin 1024) : V m c main_v16 (ix2 0 d) = (argsK m c).G (ix1 d) := by
  entry_read
  pointwise
  rfl
/-- Part `k` of the modulation table for a context row (`s = 0`) or a latent row (`s = 1`). -/
theorem V8_eq (b : Fin 16) (s : Fin 2) (k : Fin 6) (d : Fin 1024) :
    V m c main_v8 (ix3 (⟨(b.val * 2 + s.val) * 6 + k.val, by omega⟩ : Fin 192) 0 d)
      = (argsK m c).M (ix2 (if s.val < 1 then 16 else ⟨b.val, by omega⟩ : Fin 24) (⟨k.val * 1024 + d.val, by omega⟩ : Fin 6144)) := by
  entry_read
  pointwise
  by_cases h : s.val < 1
  · simp only [h, if_true]
    refine (dif_pos trivial).trans ?_
    rfl
  · simp only [h, if_false]
    refine (dif_neg not_false).trans ?_
    rfl

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![(t.val / 9 * 2 + min (t.val % 9) 1) * 6 + 2, 0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![(t.val / 9 * 2 + min (t.val % 9) 1) * 6 + 3, 0, 0] := (by decide +kernel : ∀ t : Fin grid0.N, _)
theorem idx8 : ∀ t : Fin cfg0.N, win0_8.index t = ![(t.val / 9 * 2 + min (t.val % 9) 1) * 6 + 4, 0, 0] := (by decide +kernel : ∀ t : Fin grid0.N, _)
theorem idx9 : ∀ t : Fin cfg0.N, win0_9.index t = ![t.val, 0] := (by decide +kernel : ∀ t : Fin grid0.N, _)
theorem idx10 : ∀ t : Fin cfg0.N, win0_10.index t = ![t.val, 0] := (by decide +kernel : ∀ t : Fin grid0.N, _)

theorem lt144 (t : Fin cfg0.N) : t.val < 144 := lt_of_lt_of_eq t.isLt N_0

/-- A tile's token as a token of the whole list. -/
def tok (t : Fin cfg0.N) (i : Fin 256) : Fin 36864 := ⟨256 * t.val + i.val, by have := lt144 t; omega⟩

theorem blk0 (t : Fin cfg0.N) (i : Fin 256) (d : Fin 1024) : iblk m c 0 t (ix2 i d) = (argsK m c).row (tok t i) d := by
  refine Eq.trans ?_ (V10_eq m c _ d)
  unfold tok
  blk_ext [iblk, idx0]
theorem blk1 (t : Fin cfg0.N) (i : Fin 256) (k : Fin 512) : iblk m c 1 t (ix2 i k)
    = (argsK m c).YA (ix3 (⟨(tok t i).val / 2304, by omega⟩ : Fin 16) (⟨(tok t i).val % 2304, by omega⟩ : Fin 2304) k) := by
  refine Eq.trans ?_ (V11_eq m c _ k)
  unfold tok
  blk_ext [iblk, idx1]
theorem blk2 (t : Fin cfg0.N) (i : Fin 256) (k : Fin 512) : iblk m c 2 t (ix2 i k)
    = (argsK m c).YB (ix3 (⟨(tok t i).val / 2304, by omega⟩ : Fin 16) (⟨(tok t i).val % 2304, by omega⟩ : Fin 2304) k) := by
  refine Eq.trans ?_ (V12_eq m c _ k)
  unfold tok
  blk_ext [iblk, idx2]
theorem blk3 (t : Fin cfg0.N) (k : Fin 512) (d : Fin 1024) : iblk m c 3 t (ix2 k d) = (argsK m c).W (ix2 (⟨k.val, by omega⟩ : Fin 1024) d) := by
  refine Eq.trans ?_ (V14_eq m c k d)
  blk_ext [iblk, idx3]
theorem blk4 (t : Fin cfg0.N) (k : Fin 512) (d : Fin 1024) : iblk m c 4 t (ix2 k d) = (argsK m c).W (ix2 (⟨512 + k.val, by omega⟩ : Fin 1024) d) := by
  refine Eq.trans ?_ (V15_eq m c k d)
  blk_ext [iblk, idx4]
theorem blk6 (t : Fin cfg0.N) (d : Fin 1024) : iblk m c 6 t (ix2 0 d) = (argsK m c).G (ix1 d) := by
  refine Eq.trans ?_ (V16_eq m c d)
  blk_ext [iblk, idx6]
theorem smp_eq (t : Fin cfg0.N) (i : Fin 256) :
    (if min (t.val % 9) 1 < 1 then 16 else ⟨t.val / 9, by have := lt144 t; omega⟩ : Fin 24) = Even.smp (tok t i) := by
  unfold Even.smp
  have hi := i.isLt
  have e1 : (tok t i).val = 256 * t.val + i.val := rfl
  by_cases h : t.val % 9 = 0
  · rw [if_pos (by omega), if_pos (by omega)]
  · rw [if_neg (by omega), if_neg (by omega)]
    exact Fin.ext (by show t.val / 9 = (tok t i).val / 2304; omega)
theorem blk5 (t : Fin cfg0.N) (i : Fin 256) (d : Fin 1024) :
    iblk m c 5 t (ix3 0 0 d) = (argsK m c).M (ix2 (Even.smp (tok t i)) (⟨2048 + d.val, by omega⟩ : Fin 6144)) := by
  have ht := lt144 t
  have h := V8_eq m c ⟨t.val / 9, by omega⟩ ⟨min (t.val % 9) 1, by omega⟩ 2 d
  rw [← smp_eq t i]
  have e : (⟨2048 + d.val, by omega⟩ : Fin 6144) = ⟨(2 : Fin 6).val * 1024 + d.val, by omega⟩ := Fin.ext (by show 2048 + d.val = 2 * 1024 + d.val; omega)
  rw [e]
  refine Eq.trans ?_ h
  blk_ext [iblk, idx5]
theorem blk7 (t : Fin cfg0.N) (i : Fin 256) (d : Fin 1024) :
    iblk m c 7 t (ix3 0 0 d) = (argsK m c).M (ix2 (Even.smp (tok t i)) (⟨3072 + d.val, by omega⟩ : Fin 6144)) := by
  have ht := lt144 t
  have h := V8_eq m c ⟨t.val / 9, by omega⟩ ⟨min (t.val % 9) 1, by omega⟩ 3 d
  rw [← smp_eq t i]
  have e : (⟨3072 + d.val, by omega⟩ : Fin 6144) = ⟨(3 : Fin 6).val * 1024 + d.val, by omega⟩ := Fin.ext (by show 3072 + d.val = 3 * 1024 + d.val; omega)
  rw [e]
  refine Eq.trans ?_ h
  blk_ext [iblk, idx7]
theorem blk8 (t : Fin cfg0.N) (i : Fin 256) (d : Fin 1024) :
    iblk m c 8 t (ix3 0 0 d) = (argsK m c).M (ix2 (Even.smp (tok t i)) (⟨4096 + d.val, by omega⟩ : Fin 6144)) := by
  have ht := lt144 t
  have h := V8_eq m c ⟨t.val / 9, by omega⟩ ⟨min (t.val % 9) 1, by omega⟩ 4 d
  rw [← smp_eq t i]
  have e : (⟨4096 + d.val, by omega⟩ : Fin 6144) = ⟨(4 : Fin 6).val * 1024 + d.val, by omega⟩ := Fin.ext (by show 4096 + d.val = 4 * 1024 + d.val; omega)
  rw [e]
  refine Eq.trans ?_ h
  blk_ext [iblk, idx8]

/-- A tile's token after the mixers, from its blocks. -/
theorem pay2_eq (ya yb : Vec Ideal S256x512 .f32) (wa wb : Vec Ideal S512x1024 .bf16) (x : Vec Ideal S256x1024 .f32) (gt : Vec Ideal S1x1x1024 .f32) (i : Fin 256) (d : Fin 1024) :
    k0_pay2 ya wa yb wb x gt (ix2 i d) = (res (fun d => x (ix2 i d)) (fun d => gt (ix3 0 0 d)) (fun k => ya (ix2 i k)) (fun k => yb (ix2 i k)) (fun k d => wa (ix2 k d)) (fun k d => wb (ix2 k d)) d : EReal) := by
  pointwise [k0_pay2, res]
/-- The same after the norm. -/
theorem pay3_eq (ya yb : Vec Ideal S256x512 .f32) (wa wb : Vec Ideal S512x1024 .bf16) (x : Vec Ideal S256x1024 .f32) (gt : Vec Ideal S1x1x1024 .f32) (g : Vec Ideal S1x1024 .f32) (i : Fin 256) (d : Fin 1024) :
    k0_pay3 ya wa yb wb x gt g (ix2 i d) = (k0_pay2 ya wa yb wb x gt (ix2 i d)
      * Ideal.rsqrt (Ideal.div (∑ d' : Fin 1024, k0_pay2 ya wa yb wb x gt (ix2 i d') * k0_pay2 ya wa yb wb x gt (ix2 i d')) (Ideal.ofBits .f32 0x44800000#32) + Ideal.ofBits .f32 0x358637BD#32)
      * g (ix2 0 d) : EReal) := by
  pointwise [k0_pay3]
theorem pay1_eq (y : FVec Ideal S256x1024 .f32) (sc sh : Vec Ideal S1x1x1024 .f32) (i : Fin 256) (d : Fin 1024) :
    k0_pay1 y sc sh (ix2 i d) = (y (ix2 i d) * (1 + sc (ix3 0 0 d)) + sh (ix3 0 0 d) : EReal) := by
  pointwise [k0_pay1]

/-- A point's tokens after the mixers. -/
theorem tok_eq (t : Fin cfg0.N) (i : Fin 256) (d : Fin 1024) :
    k0_pay2 (iblk m c 1 t) (iblk m c 3 t) (iblk m c 2 t) (iblk m c 4 t) (iblk m c 0 t) (iblk m c 5 t) (ix2 i d) = ((argsK m c).x1 (tok t i) d : EReal) := by
  refine (pay2_eq _ _ _ _ _ _ i d).trans ?_
  unfold Back.x1 Back.tokOf
  congr 1
  · funext d'; exact blk0 m c t i d'
  · funext d'; exact blk5 m c t i d'
  · funext k; exact blk1 m c t i k
  · funext k; exact blk2 m c t i k
  · funext k d'; exact blk3 m c t k d'
  · funext k d'; exact blk4 m c t k d'
theorem out9_eq (t : Fin cfg0.N) (i : Fin 256) (d : Fin 1024) :
    out0_9 (iblk m c 0 t) (iblk m c 1 t) (iblk m c 2 t) (iblk m c 3 t) (iblk m c 4 t) (iblk m c 5 t) (iblk m c 6 t) (iblk m c 7 t) (iblk m c 8 t) (ix2 i d) = ((argsK m c).x1 (tok t i) d : EReal) := by
  unfold out0_9
  rw [View.canon_unit_zero (by funext a; fin_cases a <;> rfl), View.ld_unit_zero (by funext a; fin_cases a <;> rfl), View.ld_unit_zero (by funext a; fin_cases a <;> rfl), View.ld_unit_zero (by funext a; fin_cases a <;> rfl), View.ld_unit_zero (by funext a; fin_cases a <;> rfl),
    View.ld_unit_zero (by funext a; fin_cases a <;> rfl), View.ld_unit_zero (by funext a; fin_cases a <;> rfl)]
  exact tok_eq m c t i d
theorem out10_eq (t : Fin cfg0.N) (i : Fin 256) (d : Fin 1024) :
    out0_10 (iblk m c 0 t) (iblk m c 1 t) (iblk m c 2 t) (iblk m c 3 t) (iblk m c 4 t) (iblk m c 5 t) (iblk m c 6 t) (iblk m c 7 t) (iblk m c 8 t) (ix2 i d) = ((argsK m c).h1 (tok t i) d : EReal) := by
  unfold out0_10
  rw [View.canon_unit_zero (by funext a; fin_cases a <;> rfl), View.ld_unit_zero (by funext a; fin_cases a <;> rfl), View.ld_unit_zero (by funext a; fin_cases a <;> rfl), View.ld_unit_zero (by funext a; fin_cases a <;> rfl), View.ld_unit_zero (by funext a; fin_cases a <;> rfl),
    View.ld_unit_zero (by funext a; fin_cases a <;> rfl), View.ld_unit_zero (by funext a; fin_cases a <;> rfl), View.ld_unit_zero (by funext a; fin_cases a <;> rfl), View.ld_unit_zero (by funext a; fin_cases a <;> rfl), View.ld_unit_zero (by funext a; fin_cases a <;> rfl)]
  refine (pay1_eq _ _ _ i d).trans ?_
  rw [pay3_eq, blk6, blk7 m c t i, blk8 m c t i]
  simp only [tok_eq m c t i]
  rfl
/-- Result 0 as the region leaves it. -/
theorem final9 : (dats m 0 c).arrAt 9 cfg0.N = fun i => (argsK m c).x1 (i 0) (i 1) := by
  refine (dats m 0 c).arrAt_eq_of_covers 9 _ (by decide +kernel) fun s hf y => ?_
  blk_simp
  have hy : y = (ix2 (y 0) (y 1) : S256x1024.Idx) := eq_ix2 (n0 := 256) (n1 := 1024) y
  have e0 : (win0_9.blk s).view.emb y 0 = tok s (y 0) := Fin.ext (by blk_simp [idx9]; show s.val * 256 + _ = 256 * s.val + _; omega)
  have e1 : (win0_9.blk s).view.emb y 1 = y 1 := Fin.ext (by blk_simp [idx9])
  rw [e0, e1]
  refine (congrArg ((dats m 0 c).after 9 s) hy).trans ?_
  rw [after0_9]
  exact out9_eq m c s (y 0) (y 1)
/-- Result 1 as the region leaves it. -/
theorem final10 : (dats m 0 c).arrAt 10 cfg0.N = fun i => (argsK m c).h1 (i 0) (i 1) := by
  refine (dats m 0 c).arrAt_eq_of_covers 10 _ (by decide +kernel) fun s hf y => ?_
  blk_simp
  have hy : y = (ix2 (y 0) (y 1) : S256x1024.Idx) := eq_ix2 (n0 := 256) (n1 := 1024) y
  have e0 : (win0_10.blk s).view.emb y 0 = tok s (y 0) := Fin.ext (by blk_simp [idx10]; show s.val * 256 + _ = 256 * s.val + _; omega)
  have e1 : (win0_10.blk s).view.emb y 1 = y 1 := Fin.ext (by blk_simp [idx10])
  rw [e0, e1]
  refine (congrArg ((dats m 0 c).after 10 s) hy).trans ?_
  rw [after0_10]
  exact out10_eq m c s (y 0) (y 1)

end Cert.Kernel3Ideal.Pv

end
-- ==== Proof.Out.Ref.lean ====
/- What the reference of the projection out of the even layer's mixers computes, element by element. -/
module

public import proofs.«01_k».proof.Proof.Gen.Reference3Ideal.Run
public import proofs.«01_k».proof.Proof.Out.Spec

@[expose] public section

set_option maxRecDepth 16384

noncomputable section

namespace Cert.Reference3Ideal.Pv

open Cert.Reference3Ideal Cert.Reference3Ideal.Gen Cert.Proj
open Idealize.ShloMosaic Idealize.ShloMosaic.TcCoe

variable (m : (ℓ : Loc nD τ sig) → Buf (Elt Ideal) ℓ) (ρ : Dev nD → PrngReg)

/-- The reference's arguments. -/
def argsR (c : Dev nD) : Back where
  X := m ((c.tc : Thread nD τ).loc main_arg0)
  C := m ((c.tc : Thread nD τ).loc main_arg1)
  YA := m ((c.tc : Thread nD τ).loc main_arg2)
  YB := m ((c.tc : Thread nD τ).loc main_arg3)
  W := m ((c.tc : Thread nD τ).loc main_arg4)
  G := m ((c.tc : Thread nD τ).loc main_arg5)
  M := m ((c.tc : Thread nD τ).loc main_arg6)

/-- The reference's results are the shared functions of its arguments. -/
theorem run_spec : θ_run defs (onTc (τ := τ) (main (F := Ideal))) ⟨m, fun _ => 0, ρ⟩ fun r => ∀ c : Dev nD,
      r.2.mem ((c.tc : Thread nD τ).loc main_v71) = (fun i => (argsR m c).x1 (i 0) (i 1))
      ∧ r.2.mem ((c.tc : Thread nD τ).loc main_v74) = (fun i => (argsR m c).h1 (i 0) (i 1)) := by
  refine (θ_run defs _ _).mono (fun r h c => ?_) (Cert.Reference3Ideal.Value.run m ρ)
  obtain ⟨h0, h1, -⟩ := h c
  refine ⟨h0.trans (funext fun i => ?_), h1.trans (funext fun i => ?_)⟩
  · clear h h0 h1
    rw [eq_ix2 (n0 := 36864) (n1 := 1024) i]
    obtain ⟨r, hr⟩ : ∃ r : Fin 36864, r = i 0 := ⟨_, rfl⟩
    obtain ⟨n, hn⟩ : ∃ n : Fin 1024, n = i 1 := ⟨_, rfl⟩
    rw [← hr, ← hn]
    pointwise [id, constant]
    refine Eq.trans ?_ ((argsR m c).split (fun x b => (argsR m c).tokOf x b r n) r).symm
    by_cases h : r.val % 2304 < 256
    · refine (dif_pos h).trans (Eq.trans ?_ (dif_pos h).symm)
      rfl
    · refine (dif_neg h).trans (Eq.trans ?_ (dif_neg h).symm)
      simp only [show 256 + (r.val % 2304 - 256) = r.val % 2304 by omega]
      rfl
  · clear h h0 h1
    rw [eq_ix2 (n0 := 36864) (n1 := 1024) i]
    obtain ⟨r, hr⟩ : ∃ r : Fin 36864, r = i 0 := ⟨_, rfl⟩
    obtain ⟨n, hn⟩ : ∃ n : Fin 1024, n = i 1 := ⟨_, rfl⟩
    rw [← hr, ← hn]
    pointwise [Cert.Reference3Ideal.Value.res_main_v74, id, constant]
    refine Eq.trans ?_ ((argsR m c).split (fun x b => (argsR m c).modOf x b r n) r).symm
    by_cases h : r.val % 2304 < 256
    · refine (dif_pos h).trans (Eq.trans ?_ (dif_pos h).symm)
      rfl
    · refine (dif_neg h).trans (Eq.trans ?_ (dif_neg h).symm)
      simp only [show 256 + (r.val % 2304 - 256) = r.val % 2304 by omega]
      rfl

end Cert.Reference3Ideal.Pv

end
-- ==== Proof.Odd.Spec.lean ====
/- The mathematics that kernel and reference share: the projections of the odd layer's latent tokens. -/
module

public import proofs.«01_k».proof.Proof.In.Spec

@[expose] public section

noncomputable section

namespace Cert.Proj

open Idealize.ShloMosaic

/-- The argument arrays of the projection into the odd layer's mixers: latent tokens, gain, modulations, weights. -/
structure Odd where
  X : (⟨3, ![16, 2048, 1024]⟩ : Shape).Idx → EReal
  G : (⟨1, ![1024]⟩ : Shape).Idx → EReal
  M : (⟨2, ![24, 6144]⟩ : Shape).Idx → EReal
  W : (⟨2, ![1024, 2064]⟩ : Shape).Idx → EReal

/-- The zero that fills columns up. -/
theorem sitofp_zero : (FloatOps.sitofp (F := Ideal) FTy.f32 0#32 : EReal) = 0 := by
  show (((0#32 : BitVec 32).toInt : ℝ) : EReal) = 0
  simp

namespace Odd

variable (A : Odd)

/-- Token `r` of the list that takes each sample's grid column by column. -/
def row (r : Fin 32768) (d : Fin 1024) : EReal :=
  A.X (ix3 (⟨r.val / 2048, by omega⟩ : Fin 16) (⟨r.val % 32 * 64 + r.val / 32 % 64, by omega⟩ : Fin 2048) d)
/-- Token `r` after the norm and the modulation. -/
def mod (r : Fin 32768) (d : Fin 1024) : EReal :=
  hid (A.row r) (fun d => A.G (ix1 d)) (fun d => A.M (ix2 (⟨r.val / 2048, by omega⟩ : Fin 24) (⟨d.val, by omega⟩ : Fin 6144)))
    (fun d => A.M (ix2 (⟨r.val / 2048, by omega⟩ : Fin 24) (⟨1024 + d.val, by omega⟩ : Fin 6144))) d
/-- Column `n` of the projection of token `r`. -/
def proj (r : Fin 32768) (n : Fin 2064) : EReal := ∑ d : Fin 1024, A.mod r d * A.W (ix2 d n)

/-- The queries, a head's 64 columns in 128 columns. -/
def q (r : Fin 32768) (n : Fin 512) : EReal := if h : n.val % 128 < 64 then A.proj r ⟨n.val / 128 * 64 + n.val % 128, by omega⟩ else 0
/-- The keys, a head's 64 columns in 128 columns. -/
def k (r : Fin 32768) (n : Fin 512) : EReal := if h : n.val % 128 < 64 then A.proj r ⟨256 + (n.val / 128 * 64 + n.val % 128), by omega⟩ else 0
/-- The values. -/
def v (r : Fin 32768) (n : Fin 512) : EReal := A.proj r ⟨512 + n.val, by omega⟩
/-- The output gate. -/
def o (r : Fin 32768) (n : Fin 512) : EReal := A.proj r ⟨1040 + n.val, by omega⟩
/-- The input of the pooling mixer. -/
def dd (r : Fin 32768) (n : Fin 512) : EReal := A.proj r ⟨1552 + n.val, by omega⟩
/-- The gates, in 128 columns. -/
def gates (r : Fin 32768) (n : Fin 128) : EReal := if h : n.val < 16 then A.proj r ⟨1024 + n.val, by omega⟩ else 0

end Odd

end Cert.Proj

end
-- ==== Proof.Odd.Kernel.lean ====
/- What the kernel of the projection into the odd layer's mixers leaves in its result arrays. -/
module

public import proofs.«01_k».proof.Proof.Gen.Kernel4Ideal.Value
public import Idealize.ShloMosaic.Lib.Pipeline.ValueKit.Point
public import Idealize.ShloMosaic.Lib.StableHlo.ReadAt
public import proofs.«01_k».proof.Proof.Odd.Spec

@[expose] public section

set_option maxRecDepth 16384

noncomputable section

namespace Cert.Kernel4Ideal.Pv

open Cert.Kernel4Ideal Cert.Kernel4Ideal.Gen Cert.Proj
open Idealize.ShloMosaic Idealize.ShloMosaic.TcCoe

variable (m : (ℓ : Loc nD τ sig) → Buf (Elt Ideal) ℓ) (c : Dev nD)

/-- The kernel's arguments. -/
def argsK : Odd where
  X := m ((c : Thread nD τ).loc main_arg0)
  G := m ((c : Thread nD τ).loc main_arg1)
  M := m ((c : Thread nD τ).loc main_arg2)
  W := m ((c : Thread nD τ).loc main_arg3)

/-- The list of the latent tokens, column by column. -/
theorem V11_eq (r : Fin 32768) (d : Fin 1024) : V m c main_v11 (ix2 r d) = (argsK m c).row r d := by
  show StableHlo.after (List.flatten [hostOps0, hostOps0_1, hostOps0_2, hostOps0_3, hostOps0_4, hostOps0_5, hostOps0_6]) (fun b => m (c, b)) _ _ = _
  simp only [hostOps0, hostOps0_1, hostOps0_2, hostOps0_3, hostOps0_4, hostOps0_5, hostOps0_6, List.flatten_cons, List.flatten_nil, List.append_nil, List.cons_append, List.nil_append]
  after_reads_at
  rfl
/-- The gain as a row. -/
theorem V27_eq (d : Fin 1024) : V m c main_v27 (ix2 0 d) = (argsK m c).G (ix1 d) := by
  show StableHlo.after (List.flatten [hostOps0, hostOps0_1, hostOps0_2, hostOps0_3, hostOps0_4, hostOps0_5, hostOps0_6]) (fun b => m (c, b)) _ _ = _
  simp only [hostOps0, hostOps0_1, hostOps0_2, hostOps0_3, hostOps0_4, hostOps0_5, hostOps0_6, List.flatten_cons, List.flatten_nil, List.append_nil, List.cons_append, List.nil_append]
  after_reads_at
  rfl
/-- Part `k` of the modulation table for a latent row. -/
theorem V8_eq (b : Fin 16) (k : Fin 2) (d : Fin 1024) :
    V m c main_v8 (ix3 (⟨(b.val * 2 + 1) * 6 + k.val, by omega⟩ : Fin 192) 0 d)
      = (argsK m c).M (ix2 (⟨b.val, by omega⟩ : Fin 24) (⟨k.val * 1024 + d.val, by omega⟩ : Fin 6144)) := by
  show StableHlo.after (List.flatten [hostOps0, hostOps0_1, hostOps0_2, hostOps0_3, hostOps0_4, hostOps0_5, hostOps0_6]) (fun b => m (c, b)) _ _ = _
  simp only [hostOps0, hostOps0_1, hostOps0_2, hostOps0_3, hostOps0_4, hostOps0_5, hostOps0_6, List.flatten_cons, List.flatten_nil, List.append_nil, List.cons_append, List.nil_append]
  after_reads_at
  after_reads_at
  refine (dif_neg (show ¬ ((b.val * 2 + 1) * 6 + k.val) / 6 % 2 < 1 by omega)).trans ?_
  exact congrArg (fun n : Fin 6144 => (argsK m c).M (ix2 _ n)) (Fin.ext (by show ((b.val * 2 + 1) * 6 + k.val) % 6 * 1024 + d.val = k.val * 1024 + d.val; omega))
/-- The kernel's weight columns of the queries. -/
theorem W5_eq (d : Fin 1024) (n : Fin 512) :
    V m c main_v26 (ix2 d (⟨n.val, by omega⟩ : Fin 2688)) = (if h : n.val % 128 < 64 then (argsK m c).W (ix2 d (⟨n.val / 128 * 64 + n.val % 128, by omega⟩ : Fin 2064)) else 0 : EReal) := by
  show StableHlo.after (List.flatten [hostOps0, hostOps0_1, hostOps0_2, hostOps0_3, hostOps0_4, hostOps0_5, hostOps0_6]) (fun b => m (c, b)) _ _ = _
  simp only [hostOps0, hostOps0_1, hostOps0_2, hostOps0_3, hostOps0_4, hostOps0_5, hostOps0_6, List.flatten_cons, List.flatten_nil, List.append_nil, List.cons_append, List.nil_append]
  after_reads_at
  after_reads_at
  have hn := n.isLt
  by_cases h : n.val % 128 < 64
  · refine (dif_pos ⟨by omega, h⟩).trans (Eq.trans ?_ (dif_pos h).symm)
    rfl
  · refine (dif_neg fun h' => h h'.2).trans (Eq.trans ?_ (dif_neg h).symm)
    exact sitofp_zero
/-- Those of the keys. -/
theorem W6_eq (d : Fin 1024) (n : Fin 512) :
    V m c main_v26 (ix2 d (⟨512 + n.val, by omega⟩ : Fin 2688)) = (if h : n.val % 128 < 64 then (argsK m c).W (ix2 d (⟨256 + (n.val / 128 * 64 + n.val % 128), by omega⟩ : Fin 2064)) else 0 : EReal) := by
  show StableHlo.after (List.flatten [hostOps0, hostOps0_1, hostOps0_2, hostOps0_3, hostOps0_4, hostOps0_5, hostOps0_6]) (fun b => m (c, b)) _ _ = _
  simp only [hostOps0, hostOps0_1, hostOps0_2, hostOps0_3, hostOps0_4, hostOps0_5, hostOps0_6, List.flatten_cons, List.flatten_nil, List.append_nil, List.cons_append, List.nil_append]
  after_reads_at
  after_reads_at
  have hn := n.isLt
  by_cases h : n.val % 128 < 64
  · refine (dif_pos ⟨by omega, h⟩).trans (Eq.trans ?_ (dif_pos h).symm)
    rfl
  · refine (dif_neg fun h' => h h'.2).trans (Eq.trans ?_ (dif_neg h).symm)
    exact sitofp_zero
/-- Those of the values. -/
theorem W7_eq (d : Fin 1024) (n : Fin 512) :
    V m c main_v26 (ix2 d (⟨1024 + n.val, by omega⟩ : Fin 2688)) = (argsK m c).W (ix2 d (⟨512 + n.val, by omega⟩ : Fin 2064)) := by
  show StableHlo.after (List.flatten [hostOps0, hostOps0_1, hostOps0_2, hostOps0_3, hostOps0_4, hostOps0_5, hostOps0_6]) (fun b => m (c, b)) _ _ = _
  simp only [hostOps0, hostOps0_1, hostOps0_2, hostOps0_3, hostOps0_4, hostOps0_5, hostOps0_6, List.flatten_cons, List.flatten_nil, List.append_nil, List.cons_append, List.nil_append]
  after_reads_at
  after_reads_at
  have hn := n.isLt
  refine (dif_neg (show ¬ 1024 + n.val < 512 by omega)).trans ?_
  refine (dif_neg (show ¬ 1024 + n.val - 512 < 512 by omega)).trans ?_
  refine (dif_pos (show 1024 + n.val - 512 - 512 < 512 by omega)).trans ?_
  exact congrArg (fun k : Fin 2064 => (argsK m c).W (ix2 d k)) (Fin.ext (by show 512 + (1024 + n.val - 512 - 512) = 512 + n.val; omega))
/-- Those of the output gate. -/
theorem W8_eq (d : Fin 1024) (n : Fin 512) :
    V m c main_v26 (ix2 d (⟨1536 + n.val, by omega⟩ : Fin 2688)) = (argsK m c).W (ix2 d (⟨1040 + n.val, by omega⟩ : Fin 2064)) := by
  show StableHlo.after (List.flatten [hostOps0, hostOps0_1, hostOps0_2, hostOps0_3, hostOps0_4, hostOps0_5, hostOps0_6]) (fun b => m (c, b)) _ _ = _
  simp only [hostOps0, hostOps0_1, hostOps0_2, hostOps0_3, hostOps0_4, hostOps0_5, hostOps0_6, List.flatten_cons, List.flatten_nil, List.append_nil, List.cons_append, List.nil_append]
  after_reads_at
  after_reads_at
  have hn := n.isLt
  refine (dif_neg (show ¬ 1536 + n.val < 512 by omega)).trans ?_
  refine (dif_neg (show ¬ 1536 + n.val - 512 < 512 by omega)).trans ?_
  refine (dif_neg (show ¬ 1536 + n.val - 512 - 512 < 512 by omega)).trans ?_
  refine (dif_pos (show 1536 + n.val - 512 - 512 - 512 < 512 by omega)).trans ?_
  exact congrArg (fun k : Fin 2064 => (argsK m c).W (ix2 d k)) (Fin.ext (by show 1040 + (1536 + n.val - 512 - 512 - 512) = 1040 + n.val; omega))
/-- Those of the pooling mixer. -/
theorem W9_eq (d : Fin 1024) (n : Fin 512) :
    V m c main_v26 (ix2 d (⟨2048 + n.val, by omega⟩ : Fin 2688)) = (argsK m c).W (ix2 d (⟨1552 + n.val, by omega⟩ : Fin 2064)) := by
  show StableHlo.after (List.flatten [hostOps0, hostOps0_1, hostOps0_2, hostOps0_3, hostOps0_4, hostOps0_5, hostOps0_6]) (fun b => m (c, b)) _ _ = _
  simp only [hostOps0, hostOps0_1, hostOps0_2, hostOps0_3, hostOps0_4, hostOps0_5, hostOps0_6, List.flatten_cons, List.flatten_nil, List.append_nil, List.cons_append, List.nil_append]
  after_reads_at
  after_reads_at
  have hn := n.isLt
  refine (dif_neg (show ¬ 2048 + n.val < 512 by omega)).trans ?_
  refine (dif_neg (show ¬ 2048 + n.val - 512 < 512 by omega)).trans ?_
  refine (dif_neg (show ¬ 2048 + n.val - 512 - 512 < 512 by omega)).trans ?_
  refine (dif_neg (show ¬ 2048 + n.val - 512 - 512 - 512 < 512 by omega)).trans ?_
  refine (dif_pos (show 2048 + n.val - 512 - 512 - 512 - 512 < 512 by omega)).trans ?_
  exact congrArg (fun k : Fin 2064 => (argsK m c).W (ix2 d k)) (Fin.ext (by show 1552 + (2048 + n.val - 512 - 512 - 512 - 512) = 1552 + n.val; omega))
/-- Those of the gates, with columns of zeros after them. -/
theorem W10_eq (d : Fin 1024) (n : Fin 128) :
    V m c main_v26 (ix2 d (⟨2560 + n.val, by omega⟩ : Fin 2688)) = (if h : n.val < 16 then (argsK m c).W (ix2 d (⟨1024 + n.val, by omega⟩ : Fin 2064)) else 0 : EReal) := by
  show StableHlo.after (List.flatten [hostOps0, hostOps0_1, hostOps0_2, hostOps0_3, hostOps0_4, hostOps0_5, hostOps0_6]) (fun b => m (c, b)) _ _ = _
  simp only [hostOps0, hostOps0_1, hostOps0_2, hostOps0_3, hostOps0_4, hostOps0_5, hostOps0_6, List.flatten_cons, List.flatten_nil, List.append_nil, List.cons_append, List.nil_append]
  after_reads_at
  after_reads_at
  have hn := n.isLt
  refine (dif_neg (show ¬ 2560 + n.val < 512 by omega)).trans ?_
  refine (dif_neg (show ¬ 2560 + n.val - 512 < 512 by omega)).trans ?_
  refine (dif_neg (show ¬ 2560 + n.val - 512 - 512 < 512 by omega)).trans ?_
  refine (dif_neg (show ¬ 2560 + n.val - 512 - 512 - 512 < 512 by omega)).trans ?_
  refine (dif_neg (show ¬ 2560 + n.val - 512 - 512 - 512 - 512 < 512 by omega)).trans ?_
  by_cases h : n.val < 16
  · refine (dif_pos (show 2560 + n.val - 512 - 512 - 512 - 512 - 512 < 16 by omega)).trans (Eq.trans ?_ (dif_pos h).symm)
    exact congrArg (fun k : Fin 2064 => (argsK m c).W (ix2 d k)) (Fin.ext (by show 1024 + (2560 + n.val - 512 - 512 - 512 - 512 - 512) = 1024 + n.val; omega))
  · refine (dif_neg (show ¬ 2560 + n.val - 512 - 512 - 512 - 512 - 512 < 16 by omega)).trans (Eq.trans ?_ (dif_neg h).symm)
    exact sitofp_zero

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![(t.val / 8 * 2 + 1) * 6, 0, 0] := (by decide +kernel : ∀ t : Fin grid0.N, _)
theorem idx3 : ∀ t : Fin cfg0.N, win0_3.index t = ![(t.val / 8 * 2 + 1) * 6 + 1, 0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![t.val, 0] := (by decide +kernel : ∀ t : Fin grid0.N, _)
theorem idx9 : ∀ t : Fin cfg0.N, win0_9.index t = ![t.val, 0] := (by decide +kernel : ∀ t : Fin grid0.N, _)
theorem idx10 : ∀ t : Fin cfg0.N, win0_10.index t = ![t.val, 0] := (by decide +kernel : ∀ t : Fin grid0.N, _)

theorem lt128 (t : Fin cfg0.N) : t.val < 128 := lt_of_lt_of_eq t.isLt N_0

/-- A tile's token as a token of the whole list. -/
def tok (t : Fin cfg0.N) (i : Fin 256) : Fin 32768 := ⟨256 * t.val + i.val, by have := lt128 t; omega⟩

theorem blk0 (t : Fin cfg0.N) (i : Fin 256) (d : Fin 1024) : iblk m c 0 t (ix2 i d) = (argsK m c).row (tok t i) d := by
  refine Eq.trans ?_ (V11_eq m c _ d)
  unfold tok
  blk_ext [iblk, idx0]
theorem blk1 (t : Fin cfg0.N) (d : Fin 1024) : iblk m c 1 t (ix2 0 d) = (argsK m c).G (ix1 d) := by
  refine Eq.trans ?_ (V27_eq m c d)
  blk_ext [iblk, idx1]
theorem smp_eq (t : Fin cfg0.N) (i : Fin 256) :
    (⟨t.val / 8, by have := lt128 t; omega⟩ : Fin 24) = ⟨(tok t i).val / 2048, by have := (tok t i).isLt; omega⟩ :=
  Fin.ext (by show t.val / 8 = (256 * t.val + i.val) / 2048; omega)
theorem blk2 (t : Fin cfg0.N) (i : Fin 256) (d : Fin 1024) :
    iblk m c 2 t (ix3 0 0 d) = (argsK m c).M (ix2 (⟨(tok t i).val / 2048, by have := (tok t i).isLt; omega⟩ : Fin 24) (⟨d.val, by omega⟩ : Fin 6144)) := by
  have ht := lt128 t
  have h := V8_eq m c ⟨t.val / 8, by omega⟩ 0 d
  rw [← smp_eq t i]
  have e : (⟨d.val, by omega⟩ : Fin 6144) = ⟨(0 : Fin 2).val * 1024 + d.val, by omega⟩ := Fin.ext (by show d.val = 0 * 1024 + d.val; omega)
  rw [e]
  refine Eq.trans ?_ h
  blk_ext [iblk, idx2]
theorem blk3 (t : Fin cfg0.N) (i : Fin 256) (d : Fin 1024) :
    iblk m c 3 t (ix3 0 0 d) = (argsK m c).M (ix2 (⟨(tok t i).val / 2048, by have := (tok t i).isLt; omega⟩ : Fin 24) (⟨1024 + d.val, by omega⟩ : Fin 6144)) := by
  have ht := lt128 t
  have h := V8_eq m c ⟨t.val / 8, by omega⟩ 1 d
  rw [← smp_eq t i]
  have e : (⟨1024 + d.val, by omega⟩ : Fin 6144) = ⟨(1 : Fin 2).val * 1024 + d.val, by omega⟩ := Fin.ext (by show 1024 + d.val = 1 * 1024 + d.val; omega)
  rw [e]
  refine Eq.trans ?_ h
  blk_ext [iblk, idx3]
theorem blk4 (t : Fin cfg0.N) (d : Fin 1024) (n : Fin 2688) : iblk m c 4 t (ix2 d n) = V m c main_v26 (ix2 d n) := by
  blk_ext [iblk, idx4]

/-- A tile's token after the norm and the modulation, from its blocks. -/
theorem pay5_eq (x : Vec Ideal S256x1024 .f32) (g : Vec Ideal S1x1024 .f32) (sc sh : Vec Ideal S1x1x1024 .f32) (i : Fin 256) (d : Fin 1024) :
    k0_pay5 x g sc sh (ix2 i d) = (hid (fun d => x (ix2 i d)) (fun d => g (ix2 0 d)) (fun d => sh (ix3 0 0 d)) (fun d => sc (ix3 0 0 d)) d : EReal) := by
  pointwise [k0_pay5, hid]

/-- The tile's tokens after the norm and the modulation. -/
theorem mod_eq (t : Fin cfg0.N) (i : Fin 256) (d : Fin 1024) :
    k0_pay8 (iblk m c 0 t) (iblk m c 1 t) (iblk m c 2 t) (iblk m c 3 t) (iblk m c 4 t) (ix2 i d) = ((argsK m c).mod (tok t i) d : EReal) := by
  unfold k0_pay8
  rw [View.ld_unit_zero (by funext a; fin_cases a <;> rfl), View.ld_unit_zero (by funext a; fin_cases a <;> rfl),
    View.ld_unit_zero (by funext a; fin_cases a <;> rfl), View.ld_unit_zero (by funext a; fin_cases a <;> rfl)]
  refine (pay5_eq _ _ _ _ i d).trans ?_
  unfold Odd.mod
  congr 1
  · funext d'; exact blk0 m c t i d'
  · funext d'; exact blk1 m c t d'
  · funext d'; exact blk2 m c t i d'
  · funext d'; exact blk3 m c t i d'

/-- The weights of one result. -/
theorem ld3_eq (x : Vec Ideal S1024x2688 .bf16) (d : Fin 1024) (n : Fin 512) : View.ld x r0_3 (ix2 d n) = x (ix2 d (⟨n.val, by omega⟩ : Fin 2688)) := by
  refine congrArg x (funext fun a => Fin.ext ?_)
  fin_cases a <;> (show _ + _ * _ = _; simp)
theorem ld5_eq (x : Vec Ideal S1024x2688 .bf16) (d : Fin 1024) (n : Fin 512) : View.ld x r0_5 (ix2 d n) = x (ix2 d (⟨512 + n.val, by omega⟩ : Fin 2688)) := by
  refine congrArg x (funext fun a => Fin.ext ?_)
  fin_cases a <;> (show _ + _ * _ = _; simp)
theorem ld6_eq (x : Vec Ideal S1024x2688 .bf16) (d : Fin 1024) (n : Fin 512) : View.ld x r0_6 (ix2 d n) = x (ix2 d (⟨1024 + n.val, by omega⟩ : Fin 2688)) := by
  refine congrArg x (funext fun a => Fin.ext ?_)
  fin_cases a <;> (show _ + _ * _ = _; simp)
theorem ld7_eq (x : Vec Ideal S1024x2688 .bf16) (d : Fin 1024) (n : Fin 512) : View.ld x r0_7 (ix2 d n) = x (ix2 d (⟨1536 + n.val, by omega⟩ : Fin 2688)) := by
  refine congrArg x (funext fun a => Fin.ext ?_)
  fin_cases a <;> (show _ + _ * _ = _; simp)
theorem ld8_eq (x : Vec Ideal S1024x2688 .bf16) (d : Fin 1024) (n : Fin 512) : View.ld x r0_8 (ix2 d n) = x (ix2 d (⟨2048 + n.val, by omega⟩ : Fin 2688)) := by
  refine congrArg x (funext fun a => Fin.ext ?_)
  fin_cases a <;> (show _ + _ * _ = _; simp)
theorem ld9_eq (x : Vec Ideal S1024x2688 .bf16) (d : Fin 1024) (n : Fin 128) : View.ld x r0_9 (ix2 d n) = x (ix2 d (⟨2560 + n.val, by omega⟩ : Fin 2688)) := by
  refine congrArg x (funext fun a => Fin.ext ?_)
  fin_cases a <;> (show _ + _ * _ = _; simp)
theorem pay1_eq (h : FVec Ideal S256x1024 .bf16) (w : Vec Ideal S1024x512 .bf16) (i : Fin 256) (n : Fin 512) :
    k0_pay1 h w (ix2 i n) = (∑ d : Fin 1024, h (ix2 i d) * w (ix2 d n) : EReal) := by
  pointwise [k0_pay1]
theorem pay2_eq (h : FVec Ideal S256x1024 .bf16) (w : Vec Ideal S1024x512 .bf16) (i : Fin 256) (n : Fin 512) :
    k0_pay2 h w (ix2 i n) = (∑ d : Fin 1024, h (ix2 i d) * w (ix2 d n) : EReal) := by
  pointwise [k0_pay2]
theorem pay3_eq (h : FVec Ideal S256x1024 .bf16) (w : Vec Ideal S1024x512 .bf16) (i : Fin 256) (n : Fin 512) :
    k0_pay3 h w (ix2 i n) = (∑ d : Fin 1024, h (ix2 i d) * w (ix2 d n) : EReal) := by
  pointwise [k0_pay3]
theorem pay4_eq (h : FVec Ideal S256x1024 .bf16) (w : Vec Ideal S1024x128 .bf16) (i : Fin 256) (n : Fin 128) :
    k0_pay4 h w (ix2 i n) = (∑ d : Fin 1024, h (ix2 i d) * w (ix2 d n) : EReal) := by
  pointwise [k0_pay4]
theorem pay6_eq (x : Vec Ideal S256x1024 .f32) (g : Vec Ideal S1x1024 .f32) (sc sh : Vec Ideal S1x1x1024 .f32) (w : Vec Ideal S1024x512 .bf16) (i : Fin 256) (n : Fin 512) :
    k0_pay6 x g sc sh w (ix2 i n) = (∑ d : Fin 1024, k0_pay5 x g sc sh (ix2 i d) * w (ix2 d n) : EReal) := by
  pointwise [k0_pay6]
theorem pay7_eq (x : Vec Ideal S256x1024 .f32) (g : Vec Ideal S1x1024 .f32) (sc sh : Vec Ideal S1x1x1024 .f32) (w : Vec Ideal S1024x512 .bf16) (i : Fin 256) (n : Fin 512) :
    k0_pay7 x g sc sh w (ix2 i n) = (∑ d : Fin 1024, k0_pay5 x g sc sh (ix2 i d) * w (ix2 d n) : EReal) := by
  pointwise [k0_pay7]

/-- What a point leaves in its block of result 0. -/
theorem out5_eq (t : Fin cfg0.N) (i : Fin 256) (n : Fin 512) :
    out0_5 (iblk m c 0 t) (iblk m c 1 t) (iblk m c 2 t) (iblk m c 3 t) (iblk m c 4 t) (ix2 i n) = ((argsK m c).q (tok t i) n : EReal) := by
  unfold out0_5
  rw [View.canon_unit_zero (by funext a; fin_cases a <;> rfl)]
  refine (pay6_eq _ _ _ _ _ i n).trans ?_
  unfold Odd.q Odd.proj
  have hw := fun d : Fin 1024 => (ld3_eq (iblk m c 4 t) d n).trans ((blk4 m c t d _).trans (W5_eq m c d n))
  by_cases h : n.val % 128 < 64
  · refine Eq.trans ?_ (dif_pos h).symm
    exact Finset.sum_congr rfl fun d _ => congrArg₂ (· * ·) (mod_eq m c t i d) ((hw d).trans (dif_pos h))
  · refine Eq.trans ?_ (dif_neg h).symm
    exact (Finset.sum_congr rfl fun d _ => (congrArg₂ (· * ·) rfl ((hw d).trans (dif_neg h))).trans (mul_zero _)).trans Finset.sum_const_zero
/-- Result 0 as the region leaves it. -/
theorem final5 : (dats m 0 c).arrAt 5 cfg0.N = fun i => (argsK m c).q (i 0) (i 1) := by
  refine (dats m 0 c).arrAt_eq_of_covers 5 _ (by decide +kernel) fun s hf y => ?_
  blk_simp
  have hy : y = (ix2 (y 0) (y 1) : S256x512.Idx) := eq_ix2 (n0 := 256) (n1 := 512) y
  have e0 : (win0_5.blk s).view.emb y 0 = tok s (y 0) := Fin.ext (by blk_simp [idx5]; show s.val * 256 + _ = 256 * s.val + _; omega)
  have e1 : (win0_5.blk s).view.emb y 1 = y 1 := Fin.ext (by blk_simp [idx5])
  rw [e0, e1]
  refine (congrArg ((dats m 0 c).after 5 s) hy).trans ?_
  rw [after0_5]
  exact out5_eq m c s (y 0) (y 1)

/-- What a point leaves in its block of result 1. -/
theorem out6_eq (t : Fin cfg0.N) (i : Fin 256) (n : Fin 512) :
    out0_6 (iblk m c 0 t) (iblk m c 1 t) (iblk m c 2 t) (iblk m c 3 t) (iblk m c 4 t) (ix2 i n) = ((argsK m c).k (tok t i) n : EReal) := by
  unfold out0_6
  rw [View.canon_unit_zero (by funext a; fin_cases a <;> rfl)]
  refine (pay7_eq _ _ _ _ _ i n).trans ?_
  unfold Odd.k Odd.proj
  have hw := fun d : Fin 1024 => (ld5_eq (iblk m c 4 t) d n).trans ((blk4 m c t d _).trans (W6_eq m c d n))
  by_cases h : n.val % 128 < 64
  · refine Eq.trans ?_ (dif_pos h).symm
    exact Finset.sum_congr rfl fun d _ => congrArg₂ (· * ·) (mod_eq m c t i d) ((hw d).trans (dif_pos h))
  · refine Eq.trans ?_ (dif_neg h).symm
    exact (Finset.sum_congr rfl fun d _ => (congrArg₂ (· * ·) rfl ((hw d).trans (dif_neg h))).trans (mul_zero _)).trans Finset.sum_const_zero
/-- Result 1 as the region leaves it. -/
theorem final6 : (dats m 0 c).arrAt 6 cfg0.N = fun i => (argsK m c).k (i 0) (i 1) := by
  refine (dats m 0 c).arrAt_eq_of_covers 6 _ (by decide +kernel) fun s hf y => ?_
  blk_simp
  have hy : y = (ix2 (y 0) (y 1) : S256x512.Idx) := eq_ix2 (n0 := 256) (n1 := 512) y
  have e0 : (win0_6.blk s).view.emb y 0 = tok s (y 0) := Fin.ext (by blk_simp [idx6]; show s.val * 256 + _ = 256 * s.val + _; omega)
  have e1 : (win0_6.blk s).view.emb y 1 = y 1 := Fin.ext (by blk_simp [idx6])
  rw [e0, e1]
  refine (congrArg ((dats m 0 c).after 6 s) hy).trans ?_
  rw [after0_6]
  exact out6_eq m c s (y 0) (y 1)

/-- What a point leaves in its block of result 2. -/
theorem out7_eq (t : Fin cfg0.N) (i : Fin 256) (n : Fin 512) :
    out0_7 (iblk m c 0 t) (iblk m c 1 t) (iblk m c 2 t) (iblk m c 3 t) (iblk m c 4 t) (ix2 i n) = ((argsK m c).v (tok t i) n : EReal) := by
  unfold out0_7
  rw [View.canon_unit_zero (by funext a; fin_cases a <;> rfl)]
  refine (pay1_eq _ _ i n).trans ?_
  unfold Odd.v Odd.proj
  have hw := fun d : Fin 1024 => (ld6_eq (iblk m c 4 t) d n).trans ((blk4 m c t d _).trans (W7_eq m c d n))
  exact Finset.sum_congr rfl fun d _ => congrArg₂ (· * ·) (mod_eq m c t i d) (hw d)
/-- Result 2 as the region leaves it. -/
theorem final7 : (dats m 0 c).arrAt 7 cfg0.N = fun i => (argsK m c).v (i 0) (i 1) := by
  refine (dats m 0 c).arrAt_eq_of_covers 7 _ (by decide +kernel) fun s hf y => ?_
  blk_simp
  have hy : y = (ix2 (y 0) (y 1) : S256x512.Idx) := eq_ix2 (n0 := 256) (n1 := 512) y
  have e0 : (win0_7.blk s).view.emb y 0 = tok s (y 0) := Fin.ext (by blk_simp [idx7]; show s.val * 256 + _ = 256 * s.val + _; omega)
  have e1 : (win0_7.blk s).view.emb y 1 = y 1 := Fin.ext (by blk_simp [idx7])
  rw [e0, e1]
  refine (congrArg ((dats m 0 c).after 7 s) hy).trans ?_
  rw [after0_7]
  exact out7_eq m c s (y 0) (y 1)

/-- What a point leaves in its block of result 3. -/
theorem out8_eq (t : Fin cfg0.N) (i : Fin 256) (n : Fin 512) :
    out0_8 (iblk m c 0 t) (iblk m c 1 t) (iblk m c 2 t) (iblk m c 3 t) (iblk m c 4 t) (ix2 i n) = ((argsK m c).o (tok t i) n : EReal) := by
  unfold out0_8
  rw [View.canon_unit_zero (by funext a; fin_cases a <;> rfl)]
  refine (pay2_eq _ _ i n).trans ?_
  unfold Odd.o Odd.proj
  have hw := fun d : Fin 1024 => (ld7_eq (iblk m c 4 t) d n).trans ((blk4 m c t d _).trans (W8_eq m c d n))
  exact Finset.sum_congr rfl fun d _ => congrArg₂ (· * ·) (mod_eq m c t i d) (hw d)
/-- Result 3 as the region leaves it. -/
theorem final8 : (dats m 0 c).arrAt 8 cfg0.N = fun i => (argsK m c).o (i 0) (i 1) := by
  refine (dats m 0 c).arrAt_eq_of_covers 8 _ (by decide +kernel) fun s hf y => ?_
  blk_simp
  have hy : y = (ix2 (y 0) (y 1) : S256x512.Idx) := eq_ix2 (n0 := 256) (n1 := 512) y
  have e0 : (win0_8.blk s).view.emb y 0 = tok s (y 0) := Fin.ext (by blk_simp [idx8]; show s.val * 256 + _ = 256 * s.val + _; omega)
  have e1 : (win0_8.blk s).view.emb y 1 = y 1 := Fin.ext (by blk_simp [idx8])
  rw [e0, e1]
  refine (congrArg ((dats m 0 c).after 8 s) hy).trans ?_
  rw [after0_8]
  exact out8_eq m c s (y 0) (y 1)

/-- What a point leaves in its block of result 4. -/
theorem out9_eq (t : Fin cfg0.N) (i : Fin 256) (n : Fin 512) :
    out0_9 (iblk m c 0 t) (iblk m c 1 t) (iblk m c 2 t) (iblk m c 3 t) (iblk m c 4 t) (ix2 i n) = ((argsK m c).dd (tok t i) n : EReal) := by
  unfold out0_9
  rw [View.canon_unit_zero (by funext a; fin_cases a <;> rfl)]
  refine (pay3_eq _ _ i n).trans ?_
  unfold Odd.dd Odd.proj
  have hw := fun d : Fin 1024 => (ld8_eq (iblk m c 4 t) d n).trans ((blk4 m c t d _).trans (W9_eq m c d n))
  exact Finset.sum_congr rfl fun d _ => congrArg₂ (· * ·) (mod_eq m c t i d) (hw d)
/-- Result 4 as the region leaves it. -/
theorem final9 : (dats m 0 c).arrAt 9 cfg0.N = fun i => (argsK m c).dd (i 0) (i 1) := by
  refine (dats m 0 c).arrAt_eq_of_covers 9 _ (by decide +kernel) fun s hf y => ?_
  blk_simp
  have hy : y = (ix2 (y 0) (y 1) : S256x512.Idx) := eq_ix2 (n0 := 256) (n1 := 512) y
  have e0 : (win0_9.blk s).view.emb y 0 = tok s (y 0) := Fin.ext (by blk_simp [idx9]; show s.val * 256 + _ = 256 * s.val + _; omega)
  have e1 : (win0_9.blk s).view.emb y 1 = y 1 := Fin.ext (by blk_simp [idx9])
  rw [e0, e1]
  refine (congrArg ((dats m 0 c).after 9 s) hy).trans ?_
  rw [after0_9]
  exact out9_eq m c s (y 0) (y 1)

/-- What a point leaves in its block of result 5. -/
theorem out10_eq (t : Fin cfg0.N) (i : Fin 256) (n : Fin 128) :
    out0_10 (iblk m c 0 t) (iblk m c 1 t) (iblk m c 2 t) (iblk m c 3 t) (iblk m c 4 t) (ix2 i n) = ((argsK m c).gates (tok t i) n : EReal) := by
  unfold out0_10
  rw [View.canon_unit_zero (by funext a; fin_cases a <;> rfl)]
  refine (pay4_eq _ _ i n).trans ?_
  unfold Odd.gates Odd.proj
  have hw := fun d : Fin 1024 => (ld9_eq (iblk m c 4 t) d n).trans ((blk4 m c t d _).trans (W10_eq m c d n))
  by_cases h : n.val < 16
  · refine Eq.trans ?_ (dif_pos h).symm
    exact Finset.sum_congr rfl fun d _ => congrArg₂ (· * ·) (mod_eq m c t i d) ((hw d).trans (dif_pos h))
  · refine Eq.trans ?_ (dif_neg h).symm
    exact (Finset.sum_congr rfl fun d _ => (congrArg₂ (· * ·) rfl ((hw d).trans (dif_neg h))).trans (mul_zero _)).trans Finset.sum_const_zero
/-- Result 5 as the region leaves it. -/
theorem final10 : (dats m 0 c).arrAt 10 cfg0.N = fun i => (argsK m c).gates (i 0) (i 1) := by
  refine (dats m 0 c).arrAt_eq_of_covers 10 _ (by decide +kernel) fun s hf y => ?_
  blk_simp
  have hy : y = (ix2 (y 0) (y 1) : S256x128.Idx) := eq_ix2 (n0 := 256) (n1 := 128) y
  have e0 : (win0_10.blk s).view.emb y 0 = tok s (y 0) := Fin.ext (by blk_simp [idx10]; show s.val * 256 + _ = 256 * s.val + _; omega)
  have e1 : (win0_10.blk s).view.emb y 1 = y 1 := Fin.ext (by blk_simp [idx10])
  rw [e0, e1]
  refine (congrArg ((dats m 0 c).after 10 s) hy).trans ?_
  rw [after0_10]
  exact out10_eq m c s (y 0) (y 1)

end Cert.Kernel4Ideal.Pv

end
-- ==== Proof.Odd.Ref.lean ====
/- What the reference of the projection into the odd layer's mixers computes, element by element. -/
module

public import proofs.«01_k».proof.Proof.Gen.Reference4Ideal.Run
public import proofs.«01_k».proof.Proof.Odd.Spec

@[expose] public section

set_option maxRecDepth 16384

noncomputable section

namespace Cert.Reference4Ideal.Pv

open Cert.Reference4Ideal Cert.Reference4Ideal.Gen Cert.Proj
open Idealize.ShloMosaic Idealize.ShloMosaic.TcCoe

variable (m : (ℓ : Loc nD τ sig) → Buf (Elt Ideal) ℓ) (ρ : Dev nD → PrngReg)

/-- The reference's arguments. -/
def argsR (c : Dev nD) : Odd where
  X := m ((c.tc : Thread nD τ).loc main_arg0)
  G := m ((c.tc : Thread nD τ).loc main_arg1)
  M := m ((c.tc : Thread nD τ).loc main_arg2)
  W := m ((c.tc : Thread nD τ).loc main_arg3)

/-- The tokens after the norm and the modulation, in the grid's order. -/
def normed (c : Dev nD) : FVec Ideal S16x2048x1024 .f32 :=
  addf (mulf (mulf (mulf (m ((c.tc : Thread nD τ).loc main_arg0)) (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf (m ((c.tc : Thread nD τ).loc main_arg0)) (m ((c.tc : Thread nD τ).loc main_arg0))) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 (m ((c.tc : Thread nD τ).loc main_arg1))))) (broadcastInDim S16x2048x1024 ![0, 1, 2] bcast_S16x1x1024_S16x2048x1024_0_1_2 (addf (broadcastInDim S16x1x1024 ![] bcast_S_S16x1x1024 (constant S_ .f32 0x3F800000#32)) (extractStridedSlice S16x1x1024 ![0, 0, 1024] (broadcastInDim S16x1x6144 ![0, 2] bcast_S16x6144_S16x1x6144_0_2 (extractStridedSlice S16x6144 ![0, 0] (m ((c.tc : Thread nD τ).loc main_arg2)) slices_S24x6144_S16x6144_0_0)) slices_S16x1x6144_S16x1x1024_0_0_1024)))) (broadcastInDim S16x2048x1024 ![0, 1, 2] bcast_S16x1x1024_S16x2048x1024_0_1_2 (extractStridedSlice S16x1x1024 ![0, 0, 0] (broadcastInDim S16x1x6144 ![0, 2] bcast_S16x6144_S16x1x6144_0_2 (extractStridedSlice S16x6144 ![0, 0] (m ((c.tc : Thread nD τ).loc main_arg2)) slices_S24x6144_S16x6144_0_0)) slices_S16x1x6144_S16x1x1024_0_0_0))
/-- The same tokens column by column. -/
theorem token_eq (B : FVec Ideal S16x2048x1024 .f32) (r : Fin 32768) (d : Fin 1024) :
    shapeCast S32768x1024 (transpose S16x64x32x1024 [0, 2, 1, 3] (shapeCast S16x32x64x1024 B shapeCasts_S16x2048x1024_S16x32x64x1024) transposes_S16x32x64x1024_S16x64x32x1024_0_2_1_3) shapeCasts_S16x64x32x1024_S32768x1024 (ix2 r d)
      = B (ix3 (⟨r.val / 2048, by omega⟩ : Fin 16) (⟨r.val % 32 * 64 + r.val / 32 % 64, by omega⟩ : Fin 2048) d) := by
  pointwise
theorem normed_eq (c : Dev nD) (b : Fin 16) (k : Fin 2048) (d : Fin 1024) : normed m c (ix3 b k d)
    = hid (fun d => (argsR m c).X (ix3 b k d)) (fun d => (argsR m c).G (ix1 d)) (fun d => (argsR m c).M (ix2 (⟨b.val, by omega⟩ : Fin 24) (⟨d.val, by omega⟩ : Fin 6144)))
    (fun d => (argsR m c).M (ix2 (⟨b.val, by omega⟩ : Fin 24) (⟨1024 + d.val, by omega⟩ : Fin 6144))) d := by
  unfold normed
  pointwise [id, constant]
  rfl
/-- The product with the weights, column by column. -/
def projected (c : Dev nD) : FVec Ideal S32768x2064 .f32 :=
  Host.dotGeneral (F := Ideal) (φ₁ := .f32) (φ₂ := .f32) dot_S32768x1024_S1024x2064_S32768x2064_1_0_0_1_n_n none (shapeCast S32768x1024 (transpose S16x64x32x1024 [0, 2, 1, 3] (shapeCast S16x32x64x1024 (normed m c) shapeCasts_S16x2048x1024_S16x32x64x1024) transposes_S16x32x64x1024_S16x64x32x1024_0_2_1_3) shapeCasts_S16x64x32x1024_S32768x1024) (m ((c.tc : Thread nD τ).loc main_arg3))
theorem projected_eq (c : Dev nD) (r : Fin 32768) (n : Fin 2064) : projected m c (ix2 r n) = (argsR m c).proj r n := by
  have key := fun d => (token_eq (normed m c) r d).trans (normed_eq m c _ _ d)
  unfold projected
  generalize (shapeCast S32768x1024 (transpose S16x64x32x1024 [0, 2, 1, 3] (shapeCast S16x32x64x1024 (normed m c) shapeCasts_S16x2048x1024_S16x32x64x1024) transposes_S16x32x64x1024_S16x64x32x1024_0_2_1_3) shapeCasts_S16x64x32x1024_S32768x1024) = H at key ⊢
  pointwise
  exact Finset.sum_congr rfl fun d _ => congrArg (· * (argsR m c).W (ix2 d n)) (key d)

/-- Result 0 of the reference is the shared function of its arguments. -/
theorem run_q : θ_run defs (onTc (τ := τ) (main (F := Ideal))) ⟨m, fun _ => 0, ρ⟩ fun r => ∀ c : Dev nD,
      r.2.mem ((c.tc : Thread nD τ).loc main_v39) = (fun i => (argsR m c).q (i 0) (i 1)) := by
  refine (θ_run defs _ _).mono (fun r h c => ?_) (Cert.Reference4Ideal.Value.run m ρ)
  obtain ⟨h0, h1, h2, h3, h4, h5, -⟩ := h c
  refine h0.trans (funext fun i => ?_)
  clear h h0 h1 h2 h3 h4 h5
  rw [eq_ix2 (n0 := 32768) (n1 := 512) i]
  obtain ⟨r, hr⟩ : ∃ r : Fin 32768, r = i 0 := ⟨_, rfl⟩
  obtain ⟨n, hn⟩ : ∃ n : Fin 512, n = i 1 := ⟨_, rfl⟩
  rw [← hr, ← hn]
  have key : ∀ n : Fin 2064, projected m c (ix2 r n) = _ := projected_eq m c r
  unfold projected normed at key
  generalize Host.dotGeneral (F := Ideal) dot_S32768x1024_S1024x2064_S32768x2064_1_0_0_1_n_n none _ _ = P at key ⊢
  pointwise
  show _ = (argsR m c).q r n
  unfold Odd.q
  have hn := n.isLt
  by_cases h : n.val % 128 < 64
  · refine (dif_pos ⟨by omega, h⟩).trans (Eq.trans ?_ (dif_pos h).symm)
    exact key _
  · refine (dif_neg fun h' => h h'.2).trans (Eq.trans ?_ (dif_neg h).symm)
    exact sitofp_zero

/-- Result 1 of the reference is the shared function of its arguments. -/
theorem run_k : θ_run defs (onTc (τ := τ) (main (F := Ideal))) ⟨m, fun _ => 0, ρ⟩ fun r => ∀ c : Dev nD,
      r.2.mem ((c.tc : Thread nD τ).loc main_v42) = (fun i => (argsR m c).k (i 0) (i 1)) := by
  refine (θ_run defs _ _).mono (fun r h c => ?_) (Cert.Reference4Ideal.Value.run m ρ)
  obtain ⟨h0, h1, h2, h3, h4, h5, -⟩ := h c
  refine h1.trans (funext fun i => ?_)
  clear h h0 h1 h2 h3 h4 h5
  rw [eq_ix2 (n0 := 32768) (n1 := 512) i]
  obtain ⟨r, hr⟩ : ∃ r : Fin 32768, r = i 0 := ⟨_, rfl⟩
  obtain ⟨n, hn⟩ : ∃ n : Fin 512, n = i 1 := ⟨_, rfl⟩
  rw [← hr, ← hn]
  have key : ∀ n : Fin 2064, projected m c (ix2 r n) = _ := projected_eq m c r
  unfold projected normed at key
  generalize Host.dotGeneral (F := Ideal) dot_S32768x1024_S1024x2064_S32768x2064_1_0_0_1_n_n none _ _ = P at key ⊢
  pointwise
  show _ = (argsR m c).k r n
  unfold Odd.k
  have hn := n.isLt
  by_cases h : n.val % 128 < 64
  · refine (dif_pos ⟨by omega, h⟩).trans (Eq.trans ?_ (dif_pos h).symm)
    exact key _
  · refine (dif_neg fun h' => h h'.2).trans (Eq.trans ?_ (dif_neg h).symm)
    exact sitofp_zero

/-- Result 2 of the reference is the shared function of its arguments. -/
theorem run_v : θ_run defs (onTc (τ := τ) (main (F := Ideal))) ⟨m, fun _ => 0, ρ⟩ fun r => ∀ c : Dev nD,
      r.2.mem ((c.tc : Thread nD τ).loc main_v33) = (fun i => (argsR m c).v (i 0) (i 1)) := by
  refine (θ_run defs _ _).mono (fun r h c => ?_) (Cert.Reference4Ideal.Value.run m ρ)
  obtain ⟨h0, h1, h2, h3, h4, h5, -⟩ := h c
  refine h2.trans (funext fun i => ?_)
  clear h h0 h1 h2 h3 h4 h5
  rw [eq_ix2 (n0 := 32768) (n1 := 512) i]
  obtain ⟨r, hr⟩ : ∃ r : Fin 32768, r = i 0 := ⟨_, rfl⟩
  obtain ⟨n, hn⟩ : ∃ n : Fin 512, n = i 1 := ⟨_, rfl⟩
  rw [← hr, ← hn]
  have key : ∀ n : Fin 2064, projected m c (ix2 r n) = _ := projected_eq m c r
  unfold projected normed at key
  generalize Host.dotGeneral (F := Ideal) dot_S32768x1024_S1024x2064_S32768x2064_1_0_0_1_n_n none _ _ = P at key ⊢
  pointwise
  exact key _

/-- Result 3 of the reference is the shared function of its arguments. -/
theorem run_o : θ_run defs (onTc (τ := τ) (main (F := Ideal))) ⟨m, fun _ => 0, ρ⟩ fun r => ∀ c : Dev nD,
      r.2.mem ((c.tc : Thread nD τ).loc main_v35) = (fun i => (argsR m c).o (i 0) (i 1)) := by
  refine (θ_run defs _ _).mono (fun r h c => ?_) (Cert.Reference4Ideal.Value.run m ρ)
  obtain ⟨h0, h1, h2, h3, h4, h5, -⟩ := h c
  refine h3.trans (funext fun i => ?_)
  clear h h0 h1 h2 h3 h4 h5
  rw [eq_ix2 (n0 := 32768) (n1 := 512) i]
  obtain ⟨r, hr⟩ : ∃ r : Fin 32768, r = i 0 := ⟨_, rfl⟩
  obtain ⟨n, hn⟩ : ∃ n : Fin 512, n = i 1 := ⟨_, rfl⟩
  rw [← hr, ← hn]
  have key : ∀ n : Fin 2064, projected m c (ix2 r n) = _ := projected_eq m c r
  unfold projected normed at key
  generalize Host.dotGeneral (F := Ideal) dot_S32768x1024_S1024x2064_S32768x2064_1_0_0_1_n_n none _ _ = P at key ⊢
  pointwise
  exact key _

/-- Result 4 of the reference is the shared function of its arguments. -/
theorem run_dd : θ_run defs (onTc (τ := τ) (main (F := Ideal))) ⟨m, fun _ => 0, ρ⟩ fun r => ∀ c : Dev nD,
      r.2.mem ((c.tc : Thread nD τ).loc main_v36) = (fun i => (argsR m c).dd (i 0) (i 1)) := by
  refine (θ_run defs _ _).mono (fun r h c => ?_) (Cert.Reference4Ideal.Value.run m ρ)
  obtain ⟨h0, h1, h2, h3, h4, h5, -⟩ := h c
  refine h4.trans (funext fun i => ?_)
  clear h h0 h1 h2 h3 h4 h5
  rw [eq_ix2 (n0 := 32768) (n1 := 512) i]
  obtain ⟨r, hr⟩ : ∃ r : Fin 32768, r = i 0 := ⟨_, rfl⟩
  obtain ⟨n, hn⟩ : ∃ n : Fin 512, n = i 1 := ⟨_, rfl⟩
  rw [← hr, ← hn]
  have key : ∀ n : Fin 2064, projected m c (ix2 r n) = _ := projected_eq m c r
  unfold projected normed at key
  generalize Host.dotGeneral (F := Ideal) dot_S32768x1024_S1024x2064_S32768x2064_1_0_0_1_n_n none _ _ = P at key ⊢
  pointwise
  exact key _

/-- Result 5 of the reference is the shared function of its arguments. -/
theorem run_gates : θ_run defs (onTc (τ := τ) (main (F := Ideal))) ⟨m, fun _ => 0, ρ⟩ fun r => ∀ c : Dev nD,
      r.2.mem ((c.tc : Thread nD τ).loc main_v43) = (fun i => (argsR m c).gates (i 0) (i 1)) := by
  refine (θ_run defs _ _).mono (fun r h c => ?_) (Cert.Reference4Ideal.Value.run m ρ)
  obtain ⟨h0, h1, h2, h3, h4, h5, -⟩ := h c
  refine h5.trans (funext fun i => ?_)
  clear h h0 h1 h2 h3 h4 h5
  rw [eq_ix2 (n0 := 32768) (n1 := 128) i]
  obtain ⟨r, hr⟩ : ∃ r : Fin 32768, r = i 0 := ⟨_, rfl⟩
  obtain ⟨n, hn⟩ : ∃ n : Fin 128, n = i 1 := ⟨_, rfl⟩
  rw [← hr, ← hn]
  have key : ∀ n : Fin 2064, projected m c (ix2 r n) = _ := projected_eq m c r
  unfold projected normed at key
  generalize Host.dotGeneral (F := Ideal) dot_S32768x1024_S1024x2064_S32768x2064_1_0_0_1_n_n none _ _ = P at key ⊢
  pointwise
  show _ = (argsR m c).gates r n
  unfold Odd.gates
  by_cases h : n.val < 16
  · refine (dif_pos h).trans (Eq.trans ?_ (dif_pos h).symm)
    exact key _
  · refine (dif_neg h).trans (Eq.trans ?_ (dif_neg h).symm)
    exact sitofp_zero

end Cert.Reference4Ideal.Pv

end
-- ==== Proof.OddOut.Spec.lean ====
/- The mathematics that kernel and reference share: the projection out of the odd layer's mixers, its residual, norm and modulation. -/
module

public import proofs.«01_k».proof.Proof.Out.Spec

@[expose] public section

noncomputable section

namespace Cert.Proj

open Idealize.ShloMosaic

/-- The argument arrays of the projection out of the odd layer's mixers: tokens, the mixers' outputs, weights, gain, modulations. -/
structure OddBack where
  X : (⟨3, ![16, 2048, 1024]⟩ : Shape).Idx → EReal
  YA : (⟨3, ![16, 2048, 512]⟩ : Shape).Idx → EReal
  YB : (⟨2, ![32768, 512]⟩ : Shape).Idx → EReal
  W : (⟨2, ![1024, 1024]⟩ : Shape).Idx → EReal
  G : (⟨1, ![1024]⟩ : Shape).Idx → EReal
  M : (⟨2, ![24, 6144]⟩ : Shape).Idx → EReal

namespace OddBack

variable (A : OddBack)

/-- Token `r` of the list that takes each sample's grid column by column. -/
def row (r : Fin 32768) (d : Fin 1024) : EReal :=
  A.X (ix3 (⟨r.val / 2048, by omega⟩ : Fin 16) (⟨r.val % 32 * 64 + r.val / 32 % 64, by omega⟩ : Fin 2048) d)
/-- Part `k` of the modulations of token `r`. -/
def part (k : Fin 6) (r : Fin 32768) (d : Fin 1024) : EReal :=
  A.M (ix2 (⟨r.val / 2048, by omega⟩ : Fin 24) (⟨k.val * 1024 + d.val, by omega⟩ : Fin 6144))
/-- The tokens after the mixers. -/
def x1 (r : Fin 32768) : Fin 1024 → EReal :=
  res (A.row r) (A.part 2 r) (fun k => A.YA (ix3 (⟨r.val / 2048, by omega⟩ : Fin 16) (⟨r.val % 2048, by omega⟩ : Fin 2048) k))
    (fun k => A.YB (ix2 r k))
    (fun k d => A.W (ix2 (⟨k.val, by omega⟩ : Fin 1024) d)) (fun k d => A.W (ix2 (⟨512 + k.val, by omega⟩ : Fin 1024) d))
/-- The same after the norm and the modulation. -/
def h1 (r : Fin 32768) : Fin 1024 → EReal := hid (A.x1 r) (fun d => A.G (ix1 d)) (A.part 3 r) (A.part 4 r)

end OddBack

end Cert.Proj

end
-- ==== Proof.OddOut.Kernel.lean ====
/- What the kernel of the projection out of the odd layer's mixers leaves in its result arrays. -/
module

public import proofs.«01_k».proof.Proof.Gen.Kernel5Ideal.Value
public import Idealize.ShloMosaic.Lib.Pipeline.ValueKit.Point
public import Idealize.ShloMosaic.Lib.StableHlo.ReadAt
public import proofs.«01_k».proof.Proof.OddOut.Spec

@[expose] public section

set_option maxRecDepth 16384

noncomputable section

namespace Cert.Kernel5Ideal.Pv

open Cert.Kernel5Ideal Cert.Kernel5Ideal.Gen Cert.Proj
open Idealize.ShloMosaic Idealize.ShloMosaic.TcCoe

variable (m : (ℓ : Loc nD τ sig) → Buf (Elt Ideal) ℓ) (c : Dev nD)

/-- The kernel's arguments. -/
def argsK : OddBack where
  X := m ((c : Thread nD τ).loc main_arg0)
  YA := m ((c : Thread nD τ).loc main_arg1)
  YB := m ((c : Thread nD τ).loc main_arg2)
  W := m ((c : Thread nD τ).loc main_arg3)
  G := m ((c : Thread nD τ).loc main_arg4)
  M := m ((c : Thread nD τ).loc main_arg5)

/-- The list of the latent tokens, column by column. -/
theorem V11_eq (r : Fin 32768) (d : Fin 1024) : V m c main_v11 (ix2 r d) = (argsK m c).row r d := by
  entry_read
  pointwise
  rfl
/-- The first mixer's output as a list of tokens. -/
theorem V12_eq (r : Fin 32768) (k : Fin 512) :
    V m c main_v12 (ix2 r k) = (argsK m c).YA (ix3 (⟨r.val / 2048, by omega⟩ : Fin 16) (⟨r.val % 2048, by omega⟩ : Fin 2048) k) := by
  entry_read
  pointwise
  rfl
/-- The two halves of the weights. -/
theorem V14_eq (k : Fin 512) (d : Fin 1024) : V m c main_v14 (ix2 k d) = (argsK m c).W (ix2 (⟨k.val, by omega⟩ : Fin 1024) d) := by
  entry_read
  pointwise
  rfl
theorem V15_eq (k : Fin 512) (d : Fin 1024) : V m c main_v15 (ix2 k d) = (argsK m c).W (ix2 (⟨512 + k.val, by omega⟩ : Fin 1024) d) := by
  entry_read
  pointwise
  rfl
/-- The gain as a row. -/
theorem V16_eq (d : Fin 1024) : V m c main_v16 (ix2 0 d) = (argsK m c).G (ix1 d) := by
  entry_read
  pointwise
  rfl
/-- Part `k` of the modulation table for a latent row. -/
theorem V8_eq (b : Fin 16) (k : Fin 6) (d : Fin 1024) :
    V m c main_v8 (ix3 (⟨(b.val * 2 + 1) * 6 + k.val, by omega⟩ : Fin 192) 0 d)
      = (argsK m c).M (ix2 (⟨b.val, by omega⟩ : Fin 24) (⟨k.val * 1024 + d.val, by omega⟩ : Fin 6144)) := by
  entry_read
  pointwise
  refine (dif_neg (show ¬ ((b.val * 2 + 1) * 6 + k.val) / 6 % 2 < 1 by omega)).trans ?_
  rfl

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![(t.val / 8 * 2 + 1) * 6 + 2, 0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![(t.val / 8 * 2 + 1) * 6 + 3, 0, 0] := (by decide +kernel : ∀ t : Fin grid0.N, _)
theorem idx8 : ∀ t : Fin cfg0.N, win0_8.index t = ![(t.val / 8 * 2 + 1) * 6 + 4, 0, 0] := (by decide +kernel : ∀ t : Fin grid0.N, _)
theorem idx9 : ∀ t : Fin cfg0.N, win0_9.index t = ![t.val, 0] := (by decide +kernel : ∀ t : Fin grid0.N, _)
theorem idx10 : ∀ t : Fin cfg0.N, win0_10.index t = ![t.val, 0] := (by decide +kernel : ∀ t : Fin grid0.N, _)

theorem lt128 (t : Fin cfg0.N) : t.val < 128 := lt_of_lt_of_eq t.isLt N_0

/-- A tile's token as a token of the whole list. -/
def tok (t : Fin cfg0.N) (i : Fin 256) : Fin 32768 := ⟨256 * t.val + i.val, by have := lt128 t; omega⟩

theorem blk0 (t : Fin cfg0.N) (i : Fin 256) (d : Fin 1024) : iblk m c 0 t (ix2 i d) = (argsK m c).row (tok t i) d := by
  refine Eq.trans ?_ (V11_eq m c _ d)
  unfold tok
  blk_ext [iblk, idx0]
theorem blk1 (t : Fin cfg0.N) (i : Fin 256) (k : Fin 512) : iblk m c 1 t (ix2 i k)
    = (argsK m c).YA (ix3 (⟨(tok t i).val / 2048, by omega⟩ : Fin 16) (⟨(tok t i).val % 2048, by omega⟩ : Fin 2048) k) := by
  refine Eq.trans ?_ (V12_eq m c _ k)
  unfold tok
  blk_ext [iblk, idx1]
theorem blk2 (t : Fin cfg0.N) (i : Fin 256) (k : Fin 512) : iblk m c 2 t (ix2 i k) = (argsK m c).YB (ix2 (tok t i) k) := by
  refine Eq.trans ?_ (congrFun (V_main_arg2 m c) (ix2 (tok t i) k))
  unfold tok
  blk_ext [iblk, idx2]
theorem blk3 (t : Fin cfg0.N) (k : Fin 512) (d : Fin 1024) : iblk m c 3 t (ix2 k d) = (argsK m c).W (ix2 (⟨k.val, by omega⟩ : Fin 1024) d) := by
  refine Eq.trans ?_ (V14_eq m c k d)
  blk_ext [iblk, idx3]
theorem blk4 (t : Fin cfg0.N) (k : Fin 512) (d : Fin 1024) : iblk m c 4 t (ix2 k d) = (argsK m c).W (ix2 (⟨512 + k.val, by omega⟩ : Fin 1024) d) := by
  refine Eq.trans ?_ (V15_eq m c k d)
  blk_ext [iblk, idx4]
theorem blk6 (t : Fin cfg0.N) (d : Fin 1024) : iblk m c 6 t (ix2 0 d) = (argsK m c).G (ix1 d) := by
  refine Eq.trans ?_ (V16_eq m c d)
  blk_ext [iblk, idx6]
theorem smp_eq (t : Fin cfg0.N) (i : Fin 256) :
    (⟨t.val / 8, by have := lt128 t; omega⟩ : Fin 24) = ⟨(tok t i).val / 2048, by have := (tok t i).isLt; omega⟩ :=
  Fin.ext (by show t.val / 8 = (256 * t.val + i.val) / 2048; omega)
theorem blk5 (t : Fin cfg0.N) (i : Fin 256) (d : Fin 1024) : iblk m c 5 t (ix3 0 0 d) = (argsK m c).part 2 (tok t i) d := by
  have ht := lt128 t
  unfold OddBack.part
  rw [← smp_eq t i]
  refine Eq.trans ?_ (V8_eq m c ⟨t.val / 8, by omega⟩ 2 d)
  blk_ext [iblk, idx5]
theorem blk7 (t : Fin cfg0.N) (i : Fin 256) (d : Fin 1024) : iblk m c 7 t (ix3 0 0 d) = (argsK m c).part 3 (tok t i) d := by
  have ht := lt128 t
  unfold OddBack.part
  rw [← smp_eq t i]
  refine Eq.trans ?_ (V8_eq m c ⟨t.val / 8, by omega⟩ 3 d)
  blk_ext [iblk, idx7]
theorem blk8 (t : Fin cfg0.N) (i : Fin 256) (d : Fin 1024) : iblk m c 8 t (ix3 0 0 d) = (argsK m c).part 4 (tok t i) d := by
  have ht := lt128 t
  unfold OddBack.part
  rw [← smp_eq t i]
  refine Eq.trans ?_ (V8_eq m c ⟨t.val / 8, by omega⟩ 4 d)
  blk_ext [iblk, idx8]

/-- A tile's token after the mixers, from its blocks. -/
theorem pay2_eq (ya yb : Vec Ideal S256x512 .f32) (wa wb : Vec Ideal S512x1024 .bf16) (x : Vec Ideal S256x1024 .f32) (gt : Vec Ideal S1x1x1024 .f32) (i : Fin 256) (d : Fin 1024) :
    k0_pay2 ya wa yb wb x gt (ix2 i d) = (res (fun d => x (ix2 i d)) (fun d => gt (ix3 0 0 d)) (fun k => ya (ix2 i k)) (fun k => yb (ix2 i k)) (fun k d => wa (ix2 k d)) (fun k d => wb (ix2 k d)) d : EReal) := by
  pointwise [k0_pay2, res]
/-- The same after the norm. -/
theorem pay3_eq (ya yb : Vec Ideal S256x512 .f32) (wa wb : Vec Ideal S512x1024 .bf16) (x : Vec Ideal S256x1024 .f32) (gt : Vec Ideal S1x1x1024 .f32) (g : Vec Ideal S1x1024 .f32) (i : Fin 256) (d : Fin 1024) :
    k0_pay3 ya wa yb wb x gt g (ix2 i d) = (k0_pay2 ya wa yb wb x gt (ix2 i d)
      * Ideal.rsqrt (Ideal.div (∑ d' : Fin 1024, k0_pay2 ya wa yb wb x gt (ix2 i d') * k0_pay2 ya wa yb wb x gt (ix2 i d')) (Ideal.ofBits .f32 0x44800000#32) + Ideal.ofBits .f32 0x358637BD#32)
      * g (ix2 0 d) : EReal) := by
  pointwise [k0_pay3]
theorem pay1_eq (y : FVec Ideal S256x1024 .f32) (sc sh : Vec Ideal S1x1x1024 .f32) (i : Fin 256) (d : Fin 1024) :
    k0_pay1 y sc sh (ix2 i d) = (y (ix2 i d) * (1 + sc (ix3 0 0 d)) + sh (ix3 0 0 d) : EReal) := by
  pointwise [k0_pay1]

/-- A point's tokens after the mixers. -/
theorem tok_eq (t : Fin cfg0.N) (i : Fin 256) (d : Fin 1024) :
    k0_pay2 (iblk m c 1 t) (iblk m c 3 t) (iblk m c 2 t) (iblk m c 4 t) (iblk m c 0 t) (iblk m c 5 t) (ix2 i d) = ((argsK m c).x1 (tok t i) d : EReal) := by
  refine (pay2_eq _ _ _ _ _ _ i d).trans ?_
  unfold OddBack.x1
  congr 1
  · funext d'; exact blk0 m c t i d'
  · funext d'; exact blk5 m c t i d'
  · funext k; exact blk1 m c t i k
  · funext k; exact blk2 m c t i k
  · funext k d'; exact blk3 m c t k d'
  · funext k d'; exact blk4 m c t k d'
theorem out9_eq (t : Fin cfg0.N) (i : Fin 256) (d : Fin 1024) :
    out0_9 (iblk m c 0 t) (iblk m c 1 t) (iblk m c 2 t) (iblk m c 3 t) (iblk m c 4 t) (iblk m c 5 t) (iblk m c 6 t) (iblk m c 7 t) (iblk m c 8 t) (ix2 i d) = ((argsK m c).x1 (tok t i) d : EReal) := by
  unfold out0_9
  rw [View.canon_unit_zero (by funext a; fin_cases a <;> rfl), View.ld_unit_zero (by funext a; fin_cases a <;> rfl), View.ld_unit_zero (by funext a; fin_cases a <;> rfl), View.ld_unit_zero (by funext a; fin_cases a <;> rfl), View.ld_unit_zero (by funext a; fin_cases a <;> rfl),
    View.ld_unit_zero (by funext a; fin_cases a <;> rfl), View.ld_unit_zero (by funext a; fin_cases a <;> rfl)]
  exact tok_eq m c t i d
theorem out10_eq (t : Fin cfg0.N) (i : Fin 256) (d : Fin 1024) :
    out0_10 (iblk m c 0 t) (iblk m c 1 t) (iblk m c 2 t) (iblk m c 3 t) (iblk m c 4 t) (iblk m c 5 t) (iblk m c 6 t) (iblk m c 7 t) (iblk m c 8 t) (ix2 i d) = ((argsK m c).h1 (tok t i) d : EReal) := by
  unfold out0_10
  rw [View.canon_unit_zero (by funext a; fin_cases a <;> rfl), View.ld_unit_zero (by funext a; fin_cases a <;> rfl), View.ld_unit_zero (by funext a; fin_cases a <;> rfl), View.ld_unit_zero (by funext a; fin_cases a <;> rfl), View.ld_unit_zero (by funext a; fin_cases a <;> rfl),
    View.ld_unit_zero (by funext a; fin_cases a <;> rfl), View.ld_unit_zero (by funext a; fin_cases a <;> rfl), View.ld_unit_zero (by funext a; fin_cases a <;> rfl), View.ld_unit_zero (by funext a; fin_cases a <;> rfl), View.ld_unit_zero (by funext a; fin_cases a <;> rfl)]
  refine (pay1_eq _ _ _ i d).trans ?_
  rw [pay3_eq, blk6, blk7 m c t i, blk8 m c t i]
  simp only [tok_eq m c t i]
  rfl
/-- Result 0 as the region leaves it. -/
theorem final9 : (dats m 0 c).arrAt 9 cfg0.N = fun i => (argsK m c).x1 (i 0) (i 1) := by
  refine (dats m 0 c).arrAt_eq_of_covers 9 _ (by decide +kernel) fun s hf y => ?_
  blk_simp
  have hy : y = (ix2 (y 0) (y 1) : S256x1024.Idx) := eq_ix2 (n0 := 256) (n1 := 1024) y
  have e0 : (win0_9.blk s).view.emb y 0 = tok s (y 0) := Fin.ext (by blk_simp [idx9]; show s.val * 256 + _ = 256 * s.val + _; omega)
  have e1 : (win0_9.blk s).view.emb y 1 = y 1 := Fin.ext (by blk_simp [idx9])
  rw [e0, e1]
  refine (congrArg ((dats m 0 c).after 9 s) hy).trans ?_
  rw [after0_9]
  exact out9_eq m c s (y 0) (y 1)
/-- Result 1 as the region leaves it. -/
theorem final10 : (dats m 0 c).arrAt 10 cfg0.N = fun i => (argsK m c).h1 (i 0) (i 1) := by
  refine (dats m 0 c).arrAt_eq_of_covers 10 _ (by decide +kernel) fun s hf y => ?_
  blk_simp
  have hy : y = (ix2 (y 0) (y 1) : S256x1024.Idx) := eq_ix2 (n0 := 256) (n1 := 1024) y
  have e0 : (win0_10.blk s).view.emb y 0 = tok s (y 0) := Fin.ext (by blk_simp [idx10]; show s.val * 256 + _ = 256 * s.val + _; omega)
  have e1 : (win0_10.blk s).view.emb y 1 = y 1 := Fin.ext (by blk_simp [idx10])
  rw [e0, e1]
  refine (congrArg ((dats m 0 c).after 10 s) hy).trans ?_
  rw [after0_10]
  exact out10_eq m c s (y 0) (y 1)

end Cert.Kernel5Ideal.Pv

end
-- ==== Proof.OddOut.Ref.lean ====
/- What the reference of the projection out of the odd layer's mixers computes, element by element. -/
module

public import proofs.«01_k».proof.Proof.Gen.Reference5Ideal.Run
public import proofs.«01_k».proof.Proof.OddOut.Spec

@[expose] public section

set_option maxRecDepth 16384

noncomputable section

namespace Cert.Reference5Ideal.Pv

open Cert.Reference5Ideal Cert.Reference5Ideal.Gen Cert.Proj
open Idealize.ShloMosaic Idealize.ShloMosaic.TcCoe

variable (m : (ℓ : Loc nD τ sig) → Buf (Elt Ideal) ℓ) (ρ : Dev nD → PrngReg)

/-- The reference's arguments. -/
def argsR (c : Dev nD) : OddBack where
  X := m ((c.tc : Thread nD τ).loc main_arg0)
  YA := m ((c.tc : Thread nD τ).loc main_arg1)
  YB := m ((c.tc : Thread nD τ).loc main_arg2)
  W := m ((c.tc : Thread nD τ).loc main_arg3)
  G := m ((c.tc : Thread nD τ).loc main_arg4)
  M := m ((c.tc : Thread nD τ).loc main_arg5)

/-- The tokens column by column. -/
theorem cols_eq (B : FVec Ideal S16x2048x1024 .f32) (b : Fin 16) (k : Fin 2048) (d : Fin 1024) :
    shapeCast S16x2048x1024 (transpose S16x64x32x1024 [0, 2, 1, 3] (shapeCast S16x32x64x1024 B shapeCasts_S16x2048x1024_S16x32x64x1024) transposes_S16x32x64x1024_S16x64x32x1024_0_2_1_3) shapeCasts_S16x64x32x1024_S16x2048x1024 (ix3 b k d)
      = B (ix3 b (⟨k.val % 32 * 64 + k.val / 32, by omega⟩ : Fin 2048) d) := by
  pointwise
/-- The second mixer's outputs, sample by sample. -/
theorem second_eq (B : FVec Ideal S32768x512 .f32) (b : Fin 16) (k : Fin 2048) (d : Fin 512) :
    shapeCast S16x2048x512 B shapeCasts_S32768x512_S16x2048x512 (ix3 b k d) = B (ix2 (⟨b.val * 2048 + k.val, by omega⟩ : Fin 32768) d) := by
  pointwise

/-- The tokens after the mixers, sample by sample. -/
def mixed (c : Dev nD) : FVec Ideal S16x2048x1024 .f32 :=
  addf (shapeCast S16x2048x1024 (transpose S16x64x32x1024 [0, 2, 1, 3] (shapeCast S16x32x64x1024 (m ((c.tc : Thread nD τ).loc main_arg0)) shapeCasts_S16x2048x1024_S16x32x64x1024) transposes_S16x32x64x1024_S16x64x32x1024_0_2_1_3) shapeCasts_S16x64x32x1024_S16x2048x1024) (mulf (broadcastInDim S16x2048x1024 ![0, 1, 2] bcast_S16x1x1024_S16x2048x1024_0_1_2 (extractStridedSlice S16x1x1024 ![0, 0, 2048] (broadcastInDim S16x1x6144 ![0, 2] bcast_S16x6144_S16x1x6144_0_2 (extractStridedSlice S16x6144 ![0, 0] (m ((c.tc : Thread nD τ).loc main_arg5)) slices_S24x6144_S16x6144_0_0)) slices_S16x1x6144_S16x1x1024_0_0_2048)) (Host.dotGeneral (F := Ideal) (φ₁ := .f32) (φ₂ := .f32) dot_S16x2048x1024_S1024x1024_S16x2048x1024_2_0_01_1_n_n none (concatenate S16x2048x1024 2 [⟨S16x2048x512, (m ((c.tc : Thread nD τ).loc main_arg1))⟩, ⟨S16x2048x512, (shapeCast S16x2048x512 (m ((c.tc : Thread nD τ).loc main_arg2)) shapeCasts_S32768x512_S16x2048x512)⟩] concatenates_S16x2048x512_S16x2048x512_S16x2048x1024_d2) (m ((c.tc : Thread nD τ).loc main_arg3))))
/-- Its elements, of a token's place `r` in the list. -/
theorem mixed_eq (c : Dev nD) (r : Fin 32768) (d : Fin 1024) :
    mixed m c (ix3 (⟨r.val / 2048, by omega⟩ : Fin 16) (⟨r.val % 2048, by omega⟩ : Fin 2048) d) = (argsR m c).x1 r d := by
  have hx : ∀ d, (shapeCast S16x2048x1024 (transpose S16x64x32x1024 [0, 2, 1, 3] (shapeCast S16x32x64x1024 (m ((c.tc : Thread nD τ).loc main_arg0)) shapeCasts_S16x2048x1024_S16x32x64x1024) transposes_S16x32x64x1024_S16x64x32x1024_0_2_1_3) shapeCasts_S16x64x32x1024_S16x2048x1024) (ix3 (⟨r.val / 2048, by omega⟩ : Fin 16) (⟨r.val % 2048, by omega⟩ : Fin 2048) d) = (argsR m c).row r d := fun d =>
    (cols_eq _ _ _ d).trans (congrArg (fun k : Fin 2048 => (argsR m c).X (ix3 (⟨r.val / 2048, by omega⟩ : Fin 16) k d))
      (Fin.ext (by show r.val % 2048 % 32 * 64 + r.val % 2048 / 32 = r.val % 32 * 64 + r.val / 32 % 64; omega)))
  have hy : ∀ d, (shapeCast S16x2048x512 (m ((c.tc : Thread nD τ).loc main_arg2)) shapeCasts_S32768x512_S16x2048x512) (ix3 (⟨r.val / 2048, by omega⟩ : Fin 16) (⟨r.val % 2048, by omega⟩ : Fin 2048) d) = (argsR m c).YB (ix2 r d) := fun d =>
    (second_eq _ _ _ d).trans (congrArg (fun k : Fin 32768 => (argsR m c).YB (ix2 k d))
      (Fin.ext (by show r.val / 2048 * 2048 + r.val % 2048 = r.val; omega)))
  unfold mixed
  generalize (shapeCast S16x2048x1024 (transpose S16x64x32x1024 [0, 2, 1, 3] (shapeCast S16x32x64x1024 (m ((c.tc : Thread nD τ).loc main_arg0)) shapeCasts_S16x2048x1024_S16x32x64x1024) transposes_S16x32x64x1024_S16x64x32x1024_0_2_1_3) shapeCasts_S16x64x32x1024_S16x2048x1024) = X at hx ⊢
  generalize (shapeCast S16x2048x512 (m ((c.tc : Thread nD τ).loc main_arg2)) shapeCasts_S32768x512_S16x2048x512) = Y at hy ⊢
  pointwise
  unfold OddBack.x1 res
  rw [← hx d]
  simp only [← hy]
  rfl

/-- The reference's results are the shared functions of its arguments. -/
theorem run_spec : θ_run defs (onTc (τ := τ) (main (F := Ideal))) ⟨m, fun _ => 0, ρ⟩ fun r => ∀ c : Dev nD,
      r.2.mem ((c.tc : Thread nD τ).loc main_v36) = (fun i => (argsR m c).x1 (i 0) (i 1))
      ∧ r.2.mem ((c.tc : Thread nD τ).loc main_v38) = (fun i => (argsR m c).h1 (i 0) (i 1)) := by
  refine (θ_run defs _ _).mono (fun r h c => ?_) (Cert.Reference5Ideal.Value.run m ρ)
  obtain ⟨h0, h1, -⟩ := h c
  refine ⟨h0.trans (funext fun i => ?_), h1.trans (funext fun i => ?_)⟩
  · clear h h0 h1
    rw [eq_ix2 (n0 := 32768) (n1 := 1024) i]
    obtain ⟨r, hr⟩ : ∃ r : Fin 32768, r = i 0 := ⟨_, rfl⟩
    obtain ⟨n, hn⟩ : ∃ n : Fin 1024, n = i 1 := ⟨_, rfl⟩
    rw [← hr, ← hn]
    have key := mixed_eq m c r
    unfold mixed at key
    generalize addf (F := Ideal) (s := S16x2048x1024) (φ := .f32) (shapeCast _ (transpose _ _ _ _) _) _ = P at key ⊢
    pointwise
    exact key n
  · clear h h0 h1
    rw [eq_ix2 (n0 := 32768) (n1 := 1024) i]
    obtain ⟨r, hr⟩ : ∃ r : Fin 32768, r = i 0 := ⟨_, rfl⟩
    obtain ⟨n, hn⟩ : ∃ n : Fin 1024, n = i 1 := ⟨_, rfl⟩
    rw [← hr, ← hn]
    have key := mixed_eq m c r
    unfold Cert.Reference5Ideal.Value.res_main_v38
    unfold mixed at key
    generalize addf (F := Ideal) (s := S16x2048x1024) (φ := .f32) (shapeCast _ (transpose _ _ _ _) _) _ = P at key ⊢
    pointwise [id, constant]
    simp only [key]
    rfl

end Cert.Reference5Ideal.Pv

end
-- ==== Proof.OddCtx.Spec.lean ====
/- The mathematics that kernel and reference share: the projections of the odd layer's context tokens. -/
module

public import proofs.«01_k».proof.Proof.Odd.Spec

@[expose] public section

noncomputable section

namespace Cert.Proj

open Idealize.ShloMosaic

/-- The argument arrays of the projection of the odd layer's context tokens: context tokens, gain, modulations, weights. -/
structure OddCtx where
  X : (⟨3, ![16, 256, 1024]⟩ : Shape).Idx → EReal
  G : (⟨1, ![1024]⟩ : Shape).Idx → EReal
  M : (⟨2, ![24, 6144]⟩ : Shape).Idx → EReal
  W : (⟨2, ![1024, 2064]⟩ : Shape).Idx → EReal

namespace OddCtx

variable (A : OddCtx)

/-- Token `r` of the list of the samples' context tokens. -/
def row (r : Fin 4096) (d : Fin 1024) : EReal := A.X (ix3 (⟨r.val / 256, by omega⟩ : Fin 16) (⟨r.val % 256, by omega⟩ : Fin 256) d)
/-- Token `r` after the norm and the modulation, row 16 of the modulations for every context token. -/
def mod (r : Fin 4096) (d : Fin 1024) : EReal :=
  hid (A.row r) (fun d => A.G (ix1 d)) (fun d => A.M (ix2 (16 : Fin 24) (⟨d.val, by omega⟩ : Fin 6144)))
    (fun d => A.M (ix2 (16 : Fin 24) (⟨1024 + d.val, by omega⟩ : Fin 6144))) d
/-- Column `n` of the projection of token `r`. -/
def proj (r : Fin 4096) (n : Fin 2064) : EReal := ∑ d : Fin 1024, A.mod r d * A.W (ix2 d n)

/-- The queries, a head's 64 columns in 128 columns. -/
def q (r : Fin 4096) (n : Fin 512) : EReal := if h : n.val % 128 < 64 then A.proj r ⟨n.val / 128 * 64 + n.val % 128, by omega⟩ else 0
/-- The keys, a head's 64 columns in 128 columns. -/
def k (r : Fin 4096) (n : Fin 512) : EReal := if h : n.val % 128 < 64 then A.proj r ⟨256 + (n.val / 128 * 64 + n.val % 128), by omega⟩ else 0
/-- The values. -/
def v (r : Fin 4096) (n : Fin 512) : EReal := A.proj r ⟨512 + n.val, by omega⟩
/-- The output gate. -/
def o (r : Fin 4096) (n : Fin 512) : EReal := A.proj r ⟨1040 + n.val, by omega⟩
/-- The input of the pooling mixer. -/
def dd (r : Fin 4096) (n : Fin 512) : EReal := A.proj r ⟨1552 + n.val, by omega⟩
/-- The gates, in 128 columns. -/
def gates (r : Fin 4096) (n : Fin 128) : EReal := if h : n.val < 16 then A.proj r ⟨1024 + n.val, by omega⟩ else 0

end OddCtx

end Cert.Proj

end
-- ==== Proof.OddCtx.Kernel.lean ====
/- What the kernel of the projection of the odd layer's context tokens leaves in its result arrays. -/
module

public import proofs.«01_k».proof.Proof.Gen.Kernel6Ideal.Value
public import Idealize.ShloMosaic.Lib.Pipeline.ValueKit.Point
public import Idealize.ShloMosaic.Lib.StableHlo.ReadAt
public import proofs.«01_k».proof.Proof.OddCtx.Spec
public import proofs.«01_k».proof.Proof.Odd.Kernel

@[expose] public section

set_option maxRecDepth 16384

noncomputable section

namespace Cert.Kernel6Ideal.Pv

open Cert.Kernel6Ideal Cert.Kernel6Ideal.Gen Cert.Proj
open Idealize.ShloMosaic Idealize.ShloMosaic.TcCoe

variable (m : (ℓ : Loc nD τ sig) → Buf (Elt Ideal) ℓ) (c : Dev nD)

/-- The kernel's arguments. -/
def argsK : OddCtx where
  X := m ((c : Thread nD τ).loc main_arg0)
  G := m ((c : Thread nD τ).loc main_arg1)
  M := m ((c : Thread nD τ).loc main_arg2)
  W := m ((c : Thread nD τ).loc main_arg3)

/-- The list of the context tokens. -/
theorem V9_eq (r : Fin 4096) (d : Fin 1024) : V m c main_v9 (ix2 r d) = (argsK m c).row r d := by
  show StableHlo.after (List.flatten [hostOps0, hostOps0_1, hostOps0_2, hostOps0_3, hostOps0_4, hostOps0_5, hostOps0_6]) (fun b => m (c, b)) _ _ = _
  simp only [hostOps0, hostOps0_1, hostOps0_2, hostOps0_3, hostOps0_4, hostOps0_5, hostOps0_6, List.flatten_cons, List.flatten_nil, List.append_nil, List.cons_append, List.nil_append]
  after_reads_at
  rfl
/-- The gain as a row. -/
theorem V25_eq (d : Fin 1024) : V m c main_v25 (ix2 0 d) = (argsK m c).G (ix1 d) := by
  show StableHlo.after (List.flatten [hostOps0, hostOps0_1, hostOps0_2, hostOps0_3, hostOps0_4, hostOps0_5, hostOps0_6]) (fun b => m (c, b)) _ _ = _
  simp only [hostOps0, hostOps0_1, hostOps0_2, hostOps0_3, hostOps0_4, hostOps0_5, hostOps0_6, List.flatten_cons, List.flatten_nil, List.append_nil, List.cons_append, List.nil_append]
  after_reads_at
  rfl
/-- Part `k` of the modulation table for a context row. -/
theorem V8_eq (b : Fin 16) (k : Fin 2) (d : Fin 1024) :
    V m c main_v8 (ix3 (⟨b.val * 2 * 6 + k.val, by omega⟩ : Fin 192) 0 d)
      = (argsK m c).M (ix2 (16 : Fin 24) (⟨k.val * 1024 + d.val, by omega⟩ : Fin 6144)) := by
  show StableHlo.after (List.flatten [hostOps0, hostOps0_1, hostOps0_2, hostOps0_3, hostOps0_4, hostOps0_5, hostOps0_6]) (fun b => m (c, b)) _ _ = _
  simp only [hostOps0, hostOps0_1, hostOps0_2, hostOps0_3, hostOps0_4, hostOps0_5, hostOps0_6, List.flatten_cons, List.flatten_nil, List.append_nil, List.cons_append, List.nil_append]
  after_reads_at
  after_reads_at
  refine (dif_pos (show (b.val * 2 * 6 + k.val) / 6 % 2 < 1 by omega)).trans ?_
  exact congrArg (fun n : Fin 6144 => (argsK m c).M (ix2 _ n)) (Fin.ext (by show (b.val * 2 * 6 + k.val) % 6 * 1024 + d.val = k.val * 1024 + d.val; omega))
/-- The kernel's weight columns of the queries. -/
theorem W5_eq (d : Fin 1024) (n : Fin 512) :
    V m c main_v24 (ix2 d (⟨n.val, by omega⟩ : Fin 2688)) = (if h : n.val % 128 < 64 then (argsK m c).W (ix2 d (⟨n.val / 128 * 64 + n.val % 128, by omega⟩ : Fin 2064)) else 0 : EReal) := by
  show StableHlo.after (List.flatten [hostOps0, hostOps0_1, hostOps0_2, hostOps0_3, hostOps0_4, hostOps0_5, hostOps0_6]) (fun b => m (c, b)) _ _ = _
  simp only [hostOps0, hostOps0_1, hostOps0_2, hostOps0_3, hostOps0_4, hostOps0_5, hostOps0_6, List.flatten_cons, List.flatten_nil, List.append_nil, List.cons_append, List.nil_append]
  after_reads_at
  after_reads_at
  have hn := n.isLt
  by_cases h : n.val % 128 < 64
  · refine (dif_pos ⟨by omega, h⟩).trans (Eq.trans ?_ (dif_pos h).symm)
    rfl
  · refine (dif_neg fun h' => h h'.2).trans (Eq.trans ?_ (dif_neg h).symm)
    exact sitofp_zero
/-- Those of the keys. -/
theorem W6_eq (d : Fin 1024) (n : Fin 512) :
    V m c main_v24 (ix2 d (⟨512 + n.val, by omega⟩ : Fin 2688)) = (if h : n.val % 128 < 64 then (argsK m c).W (ix2 d (⟨256 + (n.val / 128 * 64 + n.val % 128), by omega⟩ : Fin 2064)) else 0 : EReal) := by
  show StableHlo.after (List.flatten [hostOps0, hostOps0_1, hostOps0_2, hostOps0_3, hostOps0_4, hostOps0_5, hostOps0_6]) (fun b => m (c, b)) _ _ = _
  simp only [hostOps0, hostOps0_1, hostOps0_2, hostOps0_3, hostOps0_4, hostOps0_5, hostOps0_6, List.flatten_cons, List.flatten_nil, List.append_nil, List.cons_append, List.nil_append]
  after_reads_at
  after_reads_at
  have hn := n.isLt
  by_cases h : n.val % 128 < 64
  · refine (dif_pos ⟨by omega, h⟩).trans (Eq.trans ?_ (dif_pos h).symm)
    rfl
  · refine (dif_neg fun h' => h h'.2).trans (Eq.trans ?_ (dif_neg h).symm)
    exact sitofp_zero
/-- Those of the values. -/
theorem W7_eq (d : Fin 1024) (n : Fin 512) :
    V m c main_v24 (ix2 d (⟨1024 + n.val, by omega⟩ : Fin 2688)) = (argsK m c).W (ix2 d (⟨512 + n.val, by omega⟩ : Fin 2064)) := by
  show StableHlo.after (List.flatten [hostOps0, hostOps0_1, hostOps0_2, hostOps0_3, hostOps0_4, hostOps0_5, hostOps0_6]) (fun b => m (c, b)) _ _ = _
  simp only [hostOps0, hostOps0_1, hostOps0_2, hostOps0_3, hostOps0_4, hostOps0_5, hostOps0_6, List.flatten_cons, List.flatten_nil, List.append_nil, List.cons_append, List.nil_append]
  after_reads_at
  after_reads_at
  have hn := n.isLt
  refine (dif_neg (show ¬ 1024 + n.val < 512 by omega)).trans ?_
  refine (dif_neg (show ¬ 1024 + n.val - 512 < 512 by omega)).trans ?_
  refine (dif_pos (show 1024 + n.val - 512 - 512 < 512 by omega)).trans ?_
  exact congrArg (fun k : Fin 2064 => (argsK m c).W (ix2 d k)) (Fin.ext (by show 512 + (1024 + n.val - 512 - 512) = 512 + n.val; omega))
/-- Those of the output gate. -/
theorem W8_eq (d : Fin 1024) (n : Fin 512) :
    V m c main_v24 (ix2 d (⟨1536 + n.val, by omega⟩ : Fin 2688)) = (argsK m c).W (ix2 d (⟨1040 + n.val, by omega⟩ : Fin 2064)) := by
  show StableHlo.after (List.flatten [hostOps0, hostOps0_1, hostOps0_2, hostOps0_3, hostOps0_4, hostOps0_5, hostOps0_6]) (fun b => m (c, b)) _ _ = _
  simp only [hostOps0, hostOps0_1, hostOps0_2, hostOps0_3, hostOps0_4, hostOps0_5, hostOps0_6, List.flatten_cons, List.flatten_nil, List.append_nil, List.cons_append, List.nil_append]
  after_reads_at
  after_reads_at
  have hn := n.isLt
  refine (dif_neg (show ¬ 1536 + n.val < 512 by omega)).trans ?_
  refine (dif_neg (show ¬ 1536 + n.val - 512 < 512 by omega)).trans ?_
  refine (dif_neg (show ¬ 1536 + n.val - 512 - 512 < 512 by omega)).trans ?_
  refine (dif_pos (show 1536 + n.val - 512 - 512 - 512 < 512 by omega)).trans ?_
  exact congrArg (fun k : Fin 2064 => (argsK m c).W (ix2 d k)) (Fin.ext (by show 1040 + (1536 + n.val - 512 - 512 - 512) = 1040 + n.val; omega))
/-- Those of the pooling mixer. -/
theorem W9_eq (d : Fin 1024) (n : Fin 512) :
    V m c main_v24 (ix2 d (⟨2048 + n.val, by omega⟩ : Fin 2688)) = (argsK m c).W (ix2 d (⟨1552 + n.val, by omega⟩ : Fin 2064)) := by
  show StableHlo.after (List.flatten [hostOps0, hostOps0_1, hostOps0_2, hostOps0_3, hostOps0_4, hostOps0_5, hostOps0_6]) (fun b => m (c, b)) _ _ = _
  simp only [hostOps0, hostOps0_1, hostOps0_2, hostOps0_3, hostOps0_4, hostOps0_5, hostOps0_6, List.flatten_cons, List.flatten_nil, List.append_nil, List.cons_append, List.nil_append]
  after_reads_at
  after_reads_at
  have hn := n.isLt
  refine (dif_neg (show ¬ 2048 + n.val < 512 by omega)).trans ?_
  refine (dif_neg (show ¬ 2048 + n.val - 512 < 512 by omega)).trans ?_
  refine (dif_neg (show ¬ 2048 + n.val - 512 - 512 < 512 by omega)).trans ?_
  refine (dif_neg (show ¬ 2048 + n.val - 512 - 512 - 512 < 512 by omega)).trans ?_
  refine (dif_pos (show 2048 + n.val - 512 - 512 - 512 - 512 < 512 by omega)).trans ?_
  exact congrArg (fun k : Fin 2064 => (argsK m c).W (ix2 d k)) (Fin.ext (by show 1552 + (2048 + n.val - 512 - 512 - 512 - 512) = 1552 + n.val; omega))
/-- Those of the gates, with columns of zeros after them. -/
theorem W10_eq (d : Fin 1024) (n : Fin 128) :
    V m c main_v24 (ix2 d (⟨2560 + n.val, by omega⟩ : Fin 2688)) = (if h : n.val < 16 then (argsK m c).W (ix2 d (⟨1024 + n.val, by omega⟩ : Fin 2064)) else 0 : EReal) := by
  show StableHlo.after (List.flatten [hostOps0, hostOps0_1, hostOps0_2, hostOps0_3, hostOps0_4, hostOps0_5, hostOps0_6]) (fun b => m (c, b)) _ _ = _
  simp only [hostOps0, hostOps0_1, hostOps0_2, hostOps0_3, hostOps0_4, hostOps0_5, hostOps0_6, List.flatten_cons, List.flatten_nil, List.append_nil, List.cons_append, List.nil_append]
  after_reads_at
  after_reads_at
  have hn := n.isLt
  refine (dif_neg (show ¬ 2560 + n.val < 512 by omega)).trans ?_
  refine (dif_neg (show ¬ 2560 + n.val - 512 < 512 by omega)).trans ?_
  refine (dif_neg (show ¬ 2560 + n.val - 512 - 512 < 512 by omega)).trans ?_
  refine (dif_neg (show ¬ 2560 + n.val - 512 - 512 - 512 < 512 by omega)).trans ?_
  refine (dif_neg (show ¬ 2560 + n.val - 512 - 512 - 512 - 512 < 512 by omega)).trans ?_
  by_cases h : n.val < 16
  · refine (dif_pos (show 2560 + n.val - 512 - 512 - 512 - 512 - 512 < 16 by omega)).trans (Eq.trans ?_ (dif_pos h).symm)
    exact congrArg (fun k : Fin 2064 => (argsK m c).W (ix2 d k)) (Fin.ext (by show 1024 + (2560 + n.val - 512 - 512 - 512 - 512 - 512) = 1024 + n.val; omega))
  · refine (dif_neg (show ¬ 2560 + n.val - 512 - 512 - 512 - 512 - 512 < 16 by omega)).trans (Eq.trans ?_ (dif_neg h).symm)
    exact sitofp_zero

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val * 2 * 6, 0, 0] := (by decide +kernel : ∀ t : Fin grid0.N, _)
theorem idx3 : ∀ t : Fin cfg0.N, win0_3.index t = ![t.val * 2 * 6 + 1, 0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![t.val, 0] := (by decide +kernel : ∀ t : Fin grid0.N, _)
theorem idx9 : ∀ t : Fin cfg0.N, win0_9.index t = ![t.val, 0] := (by decide +kernel : ∀ t : Fin grid0.N, _)
theorem idx10 : ∀ t : Fin cfg0.N, win0_10.index t = ![t.val, 0] := (by decide +kernel : ∀ t : Fin grid0.N, _)

theorem lt16 (t : Fin cfg0.N) : t.val < 16 := lt_of_lt_of_eq t.isLt N_0

/-- A tile's token as a token of the whole list. -/
def tok (t : Fin cfg0.N) (i : Fin 256) : Fin 4096 := ⟨256 * t.val + i.val, by have := lt16 t; omega⟩

theorem blk0 (t : Fin cfg0.N) (i : Fin 256) (d : Fin 1024) : iblk m c 0 t (ix2 i d) = (argsK m c).row (tok t i) d := by
  refine Eq.trans ?_ (V9_eq m c _ d)
  unfold tok
  blk_ext [iblk, idx0]
theorem blk1 (t : Fin cfg0.N) (d : Fin 1024) : iblk m c 1 t (ix2 0 d) = (argsK m c).G (ix1 d) := by
  refine Eq.trans ?_ (V25_eq m c d)
  blk_ext [iblk, idx1]
theorem blk2 (t : Fin cfg0.N) (d : Fin 1024) :
    iblk m c 2 t (ix3 0 0 d) = (argsK m c).M (ix2 (16 : Fin 24) (⟨d.val, by omega⟩ : Fin 6144)) := by
  have h := V8_eq m c ⟨t.val, lt16 t⟩ 0 d
  have e : (⟨d.val, by omega⟩ : Fin 6144) = ⟨(0 : Fin 2).val * 1024 + d.val, by omega⟩ := Fin.ext (by show d.val = 0 * 1024 + d.val; omega)
  rw [e]
  refine Eq.trans ?_ h
  blk_ext [iblk, idx2]
theorem blk3 (t : Fin cfg0.N) (d : Fin 1024) :
    iblk m c 3 t (ix3 0 0 d) = (argsK m c).M (ix2 (16 : Fin 24) (⟨1024 + d.val, by omega⟩ : Fin 6144)) := by
  have h := V8_eq m c ⟨t.val, lt16 t⟩ 1 d
  have e : (⟨1024 + d.val, by omega⟩ : Fin 6144) = ⟨(1 : Fin 2).val * 1024 + d.val, by omega⟩ := Fin.ext (by show 1024 + d.val = 1 * 1024 + d.val; omega)
  rw [e]
  refine Eq.trans ?_ h
  blk_ext [iblk, idx3]
theorem blk4 (t : Fin cfg0.N) (d : Fin 1024) (n : Fin 2688) : iblk m c 4 t (ix2 d n) = V m c main_v24 (ix2 d n) := by
  blk_ext [iblk, idx4]

/-- The tile's tokens after the norm and the modulation. -/
theorem mod_eq (t : Fin cfg0.N) (i : Fin 256) (d : Fin 1024) :
    k0_pay8 (iblk m c 0 t) (iblk m c 1 t) (iblk m c 2 t) (iblk m c 3 t) (iblk m c 4 t) (ix2 i d) = ((argsK m c).mod (tok t i) d : EReal) := by
  unfold k0_pay8
  rw [View.ld_unit_zero (by funext a; fin_cases a <;> rfl), View.ld_unit_zero (by funext a; fin_cases a <;> rfl),
    View.ld_unit_zero (by funext a; fin_cases a <;> rfl), View.ld_unit_zero (by funext a; fin_cases a <;> rfl)]
  refine (Cert.Kernel4Ideal.Pv.pay5_eq _ _ _ _ i d).trans ?_
  unfold OddCtx.mod
  congr 1
  · funext d'; exact blk0 m c t i d'
  · funext d'; exact blk1 m c t d'
  · funext d'; exact blk2 m c t d'
  · funext d'; exact blk3 m c t d'

/-- What a point leaves in its block of result 0. -/
theorem out5_eq (t : Fin cfg0.N) (i : Fin 256) (n : Fin 512) :
    out0_5 (iblk m c 0 t) (iblk m c 1 t) (iblk m c 2 t) (iblk m c 3 t) (iblk m c 4 t) (ix2 i n) = ((argsK m c).q (tok t i) n : EReal) := by
  unfold out0_5
  rw [View.canon_unit_zero (by funext a; fin_cases a <;> rfl)]
  refine (Cert.Kernel4Ideal.Pv.pay6_eq _ _ _ _ _ i n).trans ?_
  unfold OddCtx.q OddCtx.proj
  have hw := fun d : Fin 1024 => (Cert.Kernel4Ideal.Pv.ld3_eq (iblk m c 4 t) d n).trans ((blk4 m c t d _).trans (W5_eq m c d n))
  by_cases h : n.val % 128 < 64
  · refine Eq.trans ?_ (dif_pos h).symm
    exact Finset.sum_congr rfl fun d _ => congrArg₂ (· * ·) (mod_eq m c t i d) ((hw d).trans (dif_pos h))
  · refine Eq.trans ?_ (dif_neg h).symm
    exact (Finset.sum_congr rfl fun d _ => (congrArg₂ (· * ·) rfl ((hw d).trans (dif_neg h))).trans (mul_zero _)).trans Finset.sum_const_zero
/-- Result 0 as the region leaves it. -/
theorem final5 : (dats m 0 c).arrAt 5 cfg0.N = fun i => (argsK m c).q (i 0) (i 1) := by
  refine (dats m 0 c).arrAt_eq_of_covers 5 _ (by decide +kernel) fun s hf y => ?_
  blk_simp
  have hy : y = (ix2 (y 0) (y 1) : S256x512.Idx) := eq_ix2 (n0 := 256) (n1 := 512) y
  have e0 : (win0_5.blk s).view.emb y 0 = tok s (y 0) := Fin.ext (by blk_simp [idx5]; show s.val * 256 + _ = 256 * s.val + _; omega)
  have e1 : (win0_5.blk s).view.emb y 1 = y 1 := Fin.ext (by blk_simp [idx5])
  rw [e0, e1]
  refine (congrArg ((dats m 0 c).after 5 s) hy).trans ?_
  rw [after0_5]
  exact out5_eq m c s (y 0) (y 1)

/-- What a point leaves in its block of result 1. -/
theorem out6_eq (t : Fin cfg0.N) (i : Fin 256) (n : Fin 512) :
    out0_6 (iblk m c 0 t) (iblk m c 1 t) (iblk m c 2 t) (iblk m c 3 t) (iblk m c 4 t) (ix2 i n) = ((argsK m c).k (tok t i) n : EReal) := by
  unfold out0_6
  rw [View.canon_unit_zero (by funext a; fin_cases a <;> rfl)]
  refine (Cert.Kernel4Ideal.Pv.pay7_eq _ _ _ _ _ i n).trans ?_
  unfold OddCtx.k OddCtx.proj
  have hw := fun d : Fin 1024 => (Cert.Kernel4Ideal.Pv.ld5_eq (iblk m c 4 t) d n).trans ((blk4 m c t d _).trans (W6_eq m c d n))
  by_cases h : n.val % 128 < 64
  · refine Eq.trans ?_ (dif_pos h).symm
    exact Finset.sum_congr rfl fun d _ => congrArg₂ (· * ·) (mod_eq m c t i d) ((hw d).trans (dif_pos h))
  · refine Eq.trans ?_ (dif_neg h).symm
    exact (Finset.sum_congr rfl fun d _ => (congrArg₂ (· * ·) rfl ((hw d).trans (dif_neg h))).trans (mul_zero _)).trans Finset.sum_const_zero
/-- Result 1 as the region leaves it. -/
theorem final6 : (dats m 0 c).arrAt 6 cfg0.N = fun i => (argsK m c).k (i 0) (i 1) := by
  refine (dats m 0 c).arrAt_eq_of_covers 6 _ (by decide +kernel) fun s hf y => ?_
  blk_simp
  have hy : y = (ix2 (y 0) (y 1) : S256x512.Idx) := eq_ix2 (n0 := 256) (n1 := 512) y
  have e0 : (win0_6.blk s).view.emb y 0 = tok s (y 0) := Fin.ext (by blk_simp [idx6]; show s.val * 256 + _ = 256 * s.val + _; omega)
  have e1 : (win0_6.blk s).view.emb y 1 = y 1 := Fin.ext (by blk_simp [idx6])
  rw [e0, e1]
  refine (congrArg ((dats m 0 c).after 6 s) hy).trans ?_
  rw [after0_6]
  exact out6_eq m c s (y 0) (y 1)

/-- What a point leaves in its block of result 2. -/
theorem out7_eq (t : Fin cfg0.N) (i : Fin 256) (n : Fin 512) :
    out0_7 (iblk m c 0 t) (iblk m c 1 t) (iblk m c 2 t) (iblk m c 3 t) (iblk m c 4 t) (ix2 i n) = ((argsK m c).v (tok t i) n : EReal) := by
  unfold out0_7
  rw [View.canon_unit_zero (by funext a; fin_cases a <;> rfl)]
  refine (Cert.Kernel4Ideal.Pv.pay1_eq _ _ i n).trans ?_
  unfold OddCtx.v OddCtx.proj
  have hw := fun d : Fin 1024 => (Cert.Kernel4Ideal.Pv.ld6_eq (iblk m c 4 t) d n).trans ((blk4 m c t d _).trans (W7_eq m c d n))
  exact Finset.sum_congr rfl fun d _ => congrArg₂ (· * ·) (mod_eq m c t i d) (hw d)
/-- Result 2 as the region leaves it. -/
theorem final7 : (dats m 0 c).arrAt 7 cfg0.N = fun i => (argsK m c).v (i 0) (i 1) := by
  refine (dats m 0 c).arrAt_eq_of_covers 7 _ (by decide +kernel) fun s hf y => ?_
  blk_simp
  have hy : y = (ix2 (y 0) (y 1) : S256x512.Idx) := eq_ix2 (n0 := 256) (n1 := 512) y
  have e0 : (win0_7.blk s).view.emb y 0 = tok s (y 0) := Fin.ext (by blk_simp [idx7]; show s.val * 256 + _ = 256 * s.val + _; omega)
  have e1 : (win0_7.blk s).view.emb y 1 = y 1 := Fin.ext (by blk_simp [idx7])
  rw [e0, e1]
  refine (congrArg ((dats m 0 c).after 7 s) hy).trans ?_
  rw [after0_7]
  exact out7_eq m c s (y 0) (y 1)

/-- What a point leaves in its block of result 3. -/
theorem out8_eq (t : Fin cfg0.N) (i : Fin 256) (n : Fin 512) :
    out0_8 (iblk m c 0 t) (iblk m c 1 t) (iblk m c 2 t) (iblk m c 3 t) (iblk m c 4 t) (ix2 i n) = ((argsK m c).o (tok t i) n : EReal) := by
  unfold out0_8
  rw [View.canon_unit_zero (by funext a; fin_cases a <;> rfl)]
  refine (Cert.Kernel4Ideal.Pv.pay2_eq _ _ i n).trans ?_
  unfold OddCtx.o OddCtx.proj
  have hw := fun d : Fin 1024 => (Cert.Kernel4Ideal.Pv.ld7_eq (iblk m c 4 t) d n).trans ((blk4 m c t d _).trans (W8_eq m c d n))
  exact Finset.sum_congr rfl fun d _ => congrArg₂ (· * ·) (mod_eq m c t i d) (hw d)
/-- Result 3 as the region leaves it. -/
theorem final8 : (dats m 0 c).arrAt 8 cfg0.N = fun i => (argsK m c).o (i 0) (i 1) := by
  refine (dats m 0 c).arrAt_eq_of_covers 8 _ (by decide +kernel) fun s hf y => ?_
  blk_simp
  have hy : y = (ix2 (y 0) (y 1) : S256x512.Idx) := eq_ix2 (n0 := 256) (n1 := 512) y
  have e0 : (win0_8.blk s).view.emb y 0 = tok s (y 0) := Fin.ext (by blk_simp [idx8]; show s.val * 256 + _ = 256 * s.val + _; omega)
  have e1 : (win0_8.blk s).view.emb y 1 = y 1 := Fin.ext (by blk_simp [idx8])
  rw [e0, e1]
  refine (congrArg ((dats m 0 c).after 8 s) hy).trans ?_
  rw [after0_8]
  exact out8_eq m c s (y 0) (y 1)

/-- What a point leaves in its block of result 4. -/
theorem out9_eq (t : Fin cfg0.N) (i : Fin 256) (n : Fin 512) :
    out0_9 (iblk m c 0 t) (iblk m c 1 t) (iblk m c 2 t) (iblk m c 3 t) (iblk m c 4 t) (ix2 i n) = ((argsK m c).dd (tok t i) n : EReal) := by
  unfold out0_9
  rw [View.canon_unit_zero (by funext a; fin_cases a <;> rfl)]
  refine (Cert.Kernel4Ideal.Pv.pay3_eq _ _ i n).trans ?_
  unfold OddCtx.dd OddCtx.proj
  have hw := fun d : Fin 1024 => (Cert.Kernel4Ideal.Pv.ld8_eq (iblk m c 4 t) d n).trans ((blk4 m c t d _).trans (W9_eq m c d n))
  exact Finset.sum_congr rfl fun d _ => congrArg₂ (· * ·) (mod_eq m c t i d) (hw d)
/-- Result 4 as the region leaves it. -/
theorem final9 : (dats m 0 c).arrAt 9 cfg0.N = fun i => (argsK m c).dd (i 0) (i 1) := by
  refine (dats m 0 c).arrAt_eq_of_covers 9 _ (by decide +kernel) fun s hf y => ?_
  blk_simp
  have hy : y = (ix2 (y 0) (y 1) : S256x512.Idx) := eq_ix2 (n0 := 256) (n1 := 512) y
  have e0 : (win0_9.blk s).view.emb y 0 = tok s (y 0) := Fin.ext (by blk_simp [idx9]; show s.val * 256 + _ = 256 * s.val + _; omega)
  have e1 : (win0_9.blk s).view.emb y 1 = y 1 := Fin.ext (by blk_simp [idx9])
  rw [e0, e1]
  refine (congrArg ((dats m 0 c).after 9 s) hy).trans ?_
  rw [after0_9]
  exact out9_eq m c s (y 0) (y 1)

/-- What a point leaves in its block of result 5. -/
theorem out10_eq (t : Fin cfg0.N) (i : Fin 256) (n : Fin 128) :
    out0_10 (iblk m c 0 t) (iblk m c 1 t) (iblk m c 2 t) (iblk m c 3 t) (iblk m c 4 t) (ix2 i n) = ((argsK m c).gates (tok t i) n : EReal) := by
  unfold out0_10
  rw [View.canon_unit_zero (by funext a; fin_cases a <;> rfl)]
  refine (Cert.Kernel4Ideal.Pv.pay4_eq _ _ i n).trans ?_
  unfold OddCtx.gates OddCtx.proj
  have hw := fun d : Fin 1024 => (Cert.Kernel4Ideal.Pv.ld9_eq (iblk m c 4 t) d n).trans ((blk4 m c t d _).trans (W10_eq m c d n))
  by_cases h : n.val < 16
  · refine Eq.trans ?_ (dif_pos h).symm
    exact Finset.sum_congr rfl fun d _ => congrArg₂ (· * ·) (mod_eq m c t i d) ((hw d).trans (dif_pos h))
  · refine Eq.trans ?_ (dif_neg h).symm
    exact (Finset.sum_congr rfl fun d _ => (congrArg₂ (· * ·) rfl ((hw d).trans (dif_neg h))).trans (mul_zero _)).trans Finset.sum_const_zero
/-- Result 5 as the region leaves it. -/
theorem final10 : (dats m 0 c).arrAt 10 cfg0.N = fun i => (argsK m c).gates (i 0) (i 1) := by
  refine (dats m 0 c).arrAt_eq_of_covers 10 _ (by decide +kernel) fun s hf y => ?_
  blk_simp
  have hy : y = (ix2 (y 0) (y 1) : S256x128.Idx) := eq_ix2 (n0 := 256) (n1 := 128) y
  have e0 : (win0_10.blk s).view.emb y 0 = tok s (y 0) := Fin.ext (by blk_simp [idx10]; show s.val * 256 + _ = 256 * s.val + _; omega)
  have e1 : (win0_10.blk s).view.emb y 1 = y 1 := Fin.ext (by blk_simp [idx10])
  rw [e0, e1]
  refine (congrArg ((dats m 0 c).after 10 s) hy).trans ?_
  rw [after0_10]
  exact out10_eq m c s (y 0) (y 1)

end Cert.Kernel6Ideal.Pv

end
-- ==== Proof.OddCtx.Ref.lean ====
/- What the reference of the projection of the odd layer's context tokens computes, element by element. -/
module

public import proofs.«01_k».proof.Proof.Gen.Reference6Ideal.Run
public import proofs.«01_k».proof.Proof.OddCtx.Spec

@[expose] public section

set_option maxRecDepth 16384

noncomputable section

namespace Cert.Reference6Ideal.Pv

open Cert.Reference6Ideal Cert.Reference6Ideal.Gen Cert.Proj
open Idealize.ShloMosaic Idealize.ShloMosaic.TcCoe

variable (m : (ℓ : Loc nD τ sig) → Buf (Elt Ideal) ℓ) (ρ : Dev nD → PrngReg)

/-- The reference's arguments. -/
def argsR (c : Dev nD) : OddCtx where
  X := m ((c.tc : Thread nD τ).loc main_arg0)
  G := m ((c.tc : Thread nD τ).loc main_arg1)
  M := m ((c.tc : Thread nD τ).loc main_arg2)
  W := m ((c.tc : Thread nD τ).loc main_arg3)

/-- The tokens after the norm and the modulation, by sample. -/
def normed (c : Dev nD) : FVec Ideal S16x256x1024 .f32 :=
  addf (mulf (mulf (mulf (m ((c.tc : Thread nD τ).loc main_arg0)) (broadcastInDim S16x256x1024 ![0, 1, 2] bcast_S16x256x1_S16x256x1024_0_1_2 (Host.rsqrt (addf (Host.divf (broadcastInDim S16x256x1 ![0, 1] bcast_S16x256_S16x256x1_0_1 (Host.reduceAdd (mulf (m ((c.tc : Thread nD τ).loc main_arg0)) (m ((c.tc : Thread nD τ).loc main_arg0))) (constant S_ .f32 0x00000000#32) reducesTo_S16x256x1024_S16x256_d2 h_S_)) (broadcastInDim S16x256x1 ![] bcast_S_S16x256x1 (constant S_ .f32 0x44800000#32))) (broadcastInDim S16x256x1 ![] bcast_S_S16x256x1 (constant S_ .f32 0x358637BD#32)))))) (broadcastInDim S16x256x1024 ![0, 1, 2] bcast_S1x1x1024_S16x256x1024_0_1_2 (broadcastInDim S1x1x1024 ![2] bcast_S1024_S1x1x1024_2 (m ((c.tc : Thread nD τ).loc main_arg1))))) (broadcastInDim S16x256x1024 ![0, 1, 2] bcast_S1x1x1024_S16x256x1024_0_1_2 (broadcastInDim S1x1x1024 ![2] bcast_S1024_S1x1x1024_2 (addf (broadcastInDim S1024 ![] bcast_S_S1024 (constant S_ .f32 0x3F800000#32)) (extractStridedSlice S1024 ![1024] (shapeCast _ (extractStridedSlice S1x6144 ![16, 0] (m ((c.tc : Thread nD τ).loc main_arg2)) slices_S24x6144_S1x6144_16_0) shapeCasts_S1x6144_S6144) slices_S6144_S1024_1024))))) (broadcastInDim S16x256x1024 ![0, 1, 2] bcast_S1x1x1024_S16x256x1024_0_1_2 (broadcastInDim S1x1x1024 ![2] bcast_S1024_S1x1x1024_2 (extractStridedSlice S1024 ![0] (shapeCast _ (extractStridedSlice S1x6144 ![16, 0] (m ((c.tc : Thread nD τ).loc main_arg2)) slices_S24x6144_S1x6144_16_0) shapeCasts_S1x6144_S6144) slices_S6144_S1024_0)))
/-- The same tokens as a list. -/
theorem token_eq (B : FVec Ideal S16x256x1024 .f32) (r : Fin 4096) (d : Fin 1024) :
    shapeCast S4096x1024 B shapeCasts_S16x256x1024_S4096x1024 (ix2 r d)
      = B (ix3 (⟨r.val / 256, by omega⟩ : Fin 16) (⟨r.val % 256, by omega⟩ : Fin 256) d) := by
  pointwise
theorem normed_eq (c : Dev nD) (b : Fin 16) (k : Fin 256) (d : Fin 1024) : normed m c (ix3 b k d)
    = hid (fun d => (argsR m c).X (ix3 b k d)) (fun d => (argsR m c).G (ix1 d)) (fun d => (argsR m c).M (ix2 (16 : Fin 24) (⟨d.val, by omega⟩ : Fin 6144)))
    (fun d => (argsR m c).M (ix2 (16 : Fin 24) (⟨1024 + d.val, by omega⟩ : Fin 6144))) d := by
  unfold normed
  pointwise [id, constant]
  rfl
/-- The product with the weights. -/
def projected (c : Dev nD) : FVec Ideal S4096x2064 .f32 :=
  Host.dotGeneral (F := Ideal) (φ₁ := .f32) (φ₂ := .f32) dot_S4096x1024_S1024x2064_S4096x2064_1_0_0_1_n_n none (shapeCast S4096x1024 (normed m c) shapeCasts_S16x256x1024_S4096x1024) (m ((c.tc : Thread nD τ).loc main_arg3))
theorem projected_eq (c : Dev nD) (r : Fin 4096) (n : Fin 2064) : projected m c (ix2 r n) = (argsR m c).proj r n := by
  have key := fun d => (token_eq (normed m c) r d).trans (normed_eq m c _ _ d)
  unfold projected
  generalize (shapeCast S4096x1024 (normed m c) shapeCasts_S16x256x1024_S4096x1024) = H at key ⊢
  pointwise
  exact Finset.sum_congr rfl fun d _ => congrArg (· * (argsR m c).W (ix2 d n)) (key d)

/-- Result 0 of the reference is the shared function of its arguments. -/
theorem run_q : θ_run defs (onTc (τ := τ) (main (F := Ideal))) ⟨m, fun _ => 0, ρ⟩ fun r => ∀ c : Dev nD,
      r.2.mem ((c.tc : Thread nD τ).loc main_v39) = (fun i => (argsR m c).q (i 0) (i 1)) := by
  refine (θ_run defs _ _).mono (fun r h c => ?_) (Cert.Reference6Ideal.Value.run m ρ)
  obtain ⟨h0, h1, h2, h3, h4, h5, -⟩ := h c
  refine h0.trans (funext fun i => ?_)
  clear h h0 h1 h2 h3 h4 h5
  rw [eq_ix2 (n0 := 4096) (n1 := 512) i]
  obtain ⟨r, hr⟩ : ∃ r : Fin 4096, r = i 0 := ⟨_, rfl⟩
  obtain ⟨n, hn⟩ : ∃ n : Fin 512, n = i 1 := ⟨_, rfl⟩
  rw [← hr, ← hn]
  have key : ∀ n : Fin 2064, projected m c (ix2 r n) = _ := projected_eq m c r
  unfold projected normed at key
  generalize Host.dotGeneral (F := Ideal) dot_S4096x1024_S1024x2064_S4096x2064_1_0_0_1_n_n none _ _ = P at key ⊢
  pointwise
  show _ = (argsR m c).q r n
  unfold OddCtx.q
  have hn := n.isLt
  by_cases h : n.val % 128 < 64
  · refine (dif_pos ⟨by omega, h⟩).trans (Eq.trans ?_ (dif_pos h).symm)
    exact key _
  · refine (dif_neg fun h' => h h'.2).trans (Eq.trans ?_ (dif_neg h).symm)
    exact sitofp_zero

/-- Result 1 of the reference is the shared function of its arguments. -/
theorem run_k : θ_run defs (onTc (τ := τ) (main (F := Ideal))) ⟨m, fun _ => 0, ρ⟩ fun r => ∀ c : Dev nD,
      r.2.mem ((c.tc : Thread nD τ).loc main_v42) = (fun i => (argsR m c).k (i 0) (i 1)) := by
  refine (θ_run defs _ _).mono (fun r h c => ?_) (Cert.Reference6Ideal.Value.run m ρ)
  obtain ⟨h0, h1, h2, h3, h4, h5, -⟩ := h c
  refine h1.trans (funext fun i => ?_)
  clear h h0 h1 h2 h3 h4 h5
  rw [eq_ix2 (n0 := 4096) (n1 := 512) i]
  obtain ⟨r, hr⟩ : ∃ r : Fin 4096, r = i 0 := ⟨_, rfl⟩
  obtain ⟨n, hn⟩ : ∃ n : Fin 512, n = i 1 := ⟨_, rfl⟩
  rw [← hr, ← hn]
  have key : ∀ n : Fin 2064, projected m c (ix2 r n) = _ := projected_eq m c r
  unfold projected normed at key
  generalize Host.dotGeneral (F := Ideal) dot_S4096x1024_S1024x2064_S4096x2064_1_0_0_1_n_n none _ _ = P at key ⊢
  pointwise
  show _ = (argsR m c).k r n
  unfold OddCtx.k
  have hn := n.isLt
  by_cases h : n.val % 128 < 64
  · refine (dif_pos ⟨by omega, h⟩).trans (Eq.trans ?_ (dif_pos h).symm)
    exact key _
  · refine (dif_neg fun h' => h h'.2).trans (Eq.trans ?_ (dif_neg h).symm)
    exact sitofp_zero

/-- Result 2 of the reference is the shared function of its arguments. -/
theorem run_v : θ_run defs (onTc (τ := τ) (main (F := Ideal))) ⟨m, fun _ => 0, ρ⟩ fun r => ∀ c : Dev nD,
      r.2.mem ((c.tc : Thread nD τ).loc main_v33) = (fun i => (argsR m c).v (i 0) (i 1)) := by
  refine (θ_run defs _ _).mono (fun r h c => ?_) (Cert.Reference6Ideal.Value.run m ρ)
  obtain ⟨h0, h1, h2, h3, h4, h5, -⟩ := h c
  refine h2.trans (funext fun i => ?_)
  clear h h0 h1 h2 h3 h4 h5
  rw [eq_ix2 (n0 := 4096) (n1 := 512) i]
  obtain ⟨r, hr⟩ : ∃ r : Fin 4096, r = i 0 := ⟨_, rfl⟩
  obtain ⟨n, hn⟩ : ∃ n : Fin 512, n = i 1 := ⟨_, rfl⟩
  rw [← hr, ← hn]
  have key : ∀ n : Fin 2064, projected m c (ix2 r n) = _ := projected_eq m c r
  unfold projected normed at key
  generalize Host.dotGeneral (F := Ideal) dot_S4096x1024_S1024x2064_S4096x2064_1_0_0_1_n_n none _ _ = P at key ⊢
  pointwise
  exact key _

/-- Result 3 of the reference is the shared function of its arguments. -/
theorem run_o : θ_run defs (onTc (τ := τ) (main (F := Ideal))) ⟨m, fun _ => 0, ρ⟩ fun r => ∀ c : Dev nD,
      r.2.mem ((c.tc : Thread nD τ).loc main_v35) = (fun i => (argsR m c).o (i 0) (i 1)) := by
  refine (θ_run defs _ _).mono (fun r h c => ?_) (Cert.Reference6Ideal.Value.run m ρ)
  obtain ⟨h0, h1, h2, h3, h4, h5, -⟩ := h c
  refine h3.trans (funext fun i => ?_)
  clear h h0 h1 h2 h3 h4 h5
  rw [eq_ix2 (n0 := 4096) (n1 := 512) i]
  obtain ⟨r, hr⟩ : ∃ r : Fin 4096, r = i 0 := ⟨_, rfl⟩
  obtain ⟨n, hn⟩ : ∃ n : Fin 512, n = i 1 := ⟨_, rfl⟩
  rw [← hr, ← hn]
  have key : ∀ n : Fin 2064, projected m c (ix2 r n) = _ := projected_eq m c r
  unfold projected normed at key
  generalize Host.dotGeneral (F := Ideal) dot_S4096x1024_S1024x2064_S4096x2064_1_0_0_1_n_n none _ _ = P at key ⊢
  pointwise
  exact key _

/-- Result 4 of the reference is the shared function of its arguments. -/
theorem run_dd : θ_run defs (onTc (τ := τ) (main (F := Ideal))) ⟨m, fun _ => 0, ρ⟩ fun r => ∀ c : Dev nD,
      r.2.mem ((c.tc : Thread nD τ).loc main_v36) = (fun i => (argsR m c).dd (i 0) (i 1)) := by
  refine (θ_run defs _ _).mono (fun r h c => ?_) (Cert.Reference6Ideal.Value.run m ρ)
  obtain ⟨h0, h1, h2, h3, h4, h5, -⟩ := h c
  refine h4.trans (funext fun i => ?_)
  clear h h0 h1 h2 h3 h4 h5
  rw [eq_ix2 (n0 := 4096) (n1 := 512) i]
  obtain ⟨r, hr⟩ : ∃ r : Fin 4096, r = i 0 := ⟨_, rfl⟩
  obtain ⟨n, hn⟩ : ∃ n : Fin 512, n = i 1 := ⟨_, rfl⟩
  rw [← hr, ← hn]
  have key : ∀ n : Fin 2064, projected m c (ix2 r n) = _ := projected_eq m c r
  unfold projected normed at key
  generalize Host.dotGeneral (F := Ideal) dot_S4096x1024_S1024x2064_S4096x2064_1_0_0_1_n_n none _ _ = P at key ⊢
  pointwise
  exact key _

/-- Result 5 of the reference is the shared function of its arguments. -/
theorem run_gates : θ_run defs (onTc (τ := τ) (main (F := Ideal))) ⟨m, fun _ => 0, ρ⟩ fun r => ∀ c : Dev nD,
      r.2.mem ((c.tc : Thread nD τ).loc main_v43) = (fun i => (argsR m c).gates (i 0) (i 1)) := by
  refine (θ_run defs _ _).mono (fun r h c => ?_) (Cert.Reference6Ideal.Value.run m ρ)
  obtain ⟨h0, h1, h2, h3, h4, h5, -⟩ := h c
  refine h5.trans (funext fun i => ?_)
  clear h h0 h1 h2 h3 h4 h5
  rw [eq_ix2 (n0 := 4096) (n1 := 128) i]
  obtain ⟨r, hr⟩ : ∃ r : Fin 4096, r = i 0 := ⟨_, rfl⟩
  obtain ⟨n, hn⟩ : ∃ n : Fin 128, n = i 1 := ⟨_, rfl⟩
  rw [← hr, ← hn]
  have key : ∀ n : Fin 2064, projected m c (ix2 r n) = _ := projected_eq m c r
  unfold projected normed at key
  generalize Host.dotGeneral (F := Ideal) dot_S4096x1024_S1024x2064_S4096x2064_1_0_0_1_n_n none _ _ = P at key ⊢
  pointwise
  show _ = (argsR m c).gates r n
  unfold OddCtx.gates
  by_cases h : n.val < 16
  · refine (dif_pos h).trans (Eq.trans ?_ (dif_pos h).symm)
    exact key _
  · refine (dif_neg h).trans (Eq.trans ?_ (dif_neg h).symm)
    exact sitofp_zero

end Cert.Reference6Ideal.Pv

end
-- ==== Proof.Ada.Spec.lean ====
/- The mathematics that kernel and reference share: the modulations of a layer. -/
module

public import proofs.«01_k».proof.Proof.Out.Spec

@[expose] public section

noncomputable section

namespace Cert.Proj

open Idealize.ShloMosaic

/-- The argument arrays of the modulations: the samples' conditioning, the context's, weights, bias. -/
structure Ada where
  C : (⟨2, ![16, 1024]⟩ : Shape).Idx → EReal
  X : (⟨1, ![1024]⟩ : Shape).Idx → EReal
  W : (⟨2, ![1024, 6144]⟩ : Shape).Idx → EReal
  B : (⟨1, ![6144]⟩ : Shape).Idx → EReal

namespace Ada

variable (A : Ada)

/-- The rows of conditioning: one of each sample, one of the context, then zeros. -/
def row (r : Fin 24) (d : Fin 1024) : EReal :=
  if h : r.val < 16 then A.C (ix2 (⟨r.val, h⟩ : Fin 16) d) else if r.val = 16 then A.X (ix1 d) else 0
/-- A row's modulations. -/
def out (r : Fin 24) (n : Fin 6144) : EReal :=
  (∑ d : Fin 1024, A.row r d * Ideal.logistic (A.row r d) * A.W (ix2 d n)) + A.B (ix1 n)

end Ada

end Cert.Proj

end
-- ==== Proof.Ada.Kernel.lean ====
/- What the kernel of the modulations leaves in its result array. -/
module

public import proofs.«01_k».proof.Proof.Gen.Kernel7Ideal.Value
public import Idealize.ShloMosaic.Lib.Pipeline.ValueKit.Point
public import Idealize.ShloMosaic.Lib.StableHlo.ReadAt
public import Idealize.ShloMosaic.Lib.Routing.OpsSet
public import Idealize.ShloMosaic.Lib.Routing.OpsOne
public import proofs.«01_k».proof.Proof.Ada.Spec

@[expose] public section

set_option maxRecDepth 16384

noncomputable section

namespace Cert.Kernel7Ideal.Pv

open Cert.Kernel7Ideal Cert.Kernel7Ideal.Gen Cert.Proj
open Idealize.ShloMosaic Idealize.ShloMosaic.TcCoe

variable (m : (ℓ : Loc nD τ sig) → Buf (Elt Ideal) ℓ) (c : Dev nD)

/-- The kernel's arguments. -/
def argsK : Ada where
  C := m ((c : Thread nD τ).loc main_arg0)
  X := m ((c : Thread nD τ).loc main_arg1)
  W := m ((c : Thread nD τ).loc main_arg2)
  B := m ((c : Thread nD τ).loc main_arg3)

/-! ## The list of rows: two writes into zeros -/

/-- Where an entry of the samples' rows lands. -/
theorem lands_rows (idx : IVec S1 32) (h : idx (ix1 0) = 0#32) (j : S16x1024.Idx) (r : Fin 24) (d : Fin 1024) :
    scatter_S24x1024_S1_S16x1024_01_n_0_0.resultIdx? j idx = some (ix2 r d) ↔ (j 0).val = r.val ∧ (j 1).val = d.val := by
  have s0 : scatter_S24x1024_S1_S16x1024_01_n_0_0.start j idx 0 = (idx (ix1 0)).toInt :=
    congrArg (fun k => (idx k).toInt) (funext fun b => match b with | ⟨0, _⟩ => Subsingleton.elim (α := Fin 1) _ _)
  have s1 : scatter_S24x1024_S1_S16x1024_01_n_0_0.start j idx 1 = 0 := rfl
  have w0 : scatter_S24x1024_S1_S16x1024_01_n_0_0.window j 0 = (j 0).val := rfl
  have w1 : scatter_S24x1024_S1_S16x1024_01_n_0_0.window j 1 = (j 1).val := rfl
  have z : (0#32 : BitVec 32).toInt = 0 := rfl
  refine (Routing.resultIdx?_ix2 _ _ _ _ _).trans ?_
  rw [s0, s1, w0, w1, h, z]
  omega
/-- Where an entry of the context's row lands. -/
theorem lands_ctx (idx : IVec S1 32) (h : idx (ix1 0) = 16#32) (j : S1024.Idx) (r : Fin 24) (d : Fin 1024) :
    scatter_S24x1024_S1_S1024_0_0_0_0.resultIdx? j idx = some (ix2 r d) ↔ 16 = r.val ∧ (j 0).val = d.val := by
  have s0 : scatter_S24x1024_S1_S1024_0_0_0_0.start j idx 0 = (idx (ix1 0)).toInt :=
    congrArg (fun k => (idx k).toInt) (funext fun b => match b with | ⟨0, _⟩ => Subsingleton.elim (α := Fin 1) _ _)
  have s1 : scatter_S24x1024_S1_S1024_0_0_0_0.start j idx 1 = 0 := rfl
  have w0 : scatter_S24x1024_S1_S1024_0_0_0_0.window j 0 = 0 := rfl
  have w1 : scatter_S24x1024_S1_S1024_0_0_0_0.window j 1 = (j 0).val := rfl
  have z : (16#32 : BitVec 32).toInt = 16 := rfl
  refine (Routing.resultIdx?_ix2 _ _ _ _ _).trans ?_
  rw [s0, s1, w0, w1, h, z]
  omega
/-- The samples' rows written over the first of a list. -/
theorem rows_eq (x : S24x1024.Idx → EReal) (idx : IVec S1 32) (h : idx (ix1 0) = 0#32) (u : S16x1024.Idx → EReal) (r : Fin 24) (d : Fin 1024) :
    Host.scatter scatter_S24x1024_S1_S16x1024_01_n_0_0 (fun _ b => b) x idx u (ix2 r d)
      = if h : r.val < 16 then u (ix2 (⟨r.val, h⟩ : Fin 16) d) else x (ix2 r d) := by
  by_cases hr : r.val < 16
  · rw [dif_pos hr]
    refine Routing.scatter_set_hit _ x idx u _ _ (fun k hk => congrArg u ?_) (ix2 (⟨r.val, hr⟩ : Fin 16) d) ((lands_rows idx h _ r d).2 ⟨rfl, rfl⟩)
    obtain ⟨e0, e1⟩ := (lands_rows idx h k r d).1 hk
    refine (eq_ix2 (n0 := 16) (n1 := 1024) k).trans (congrArg₂ (ix2 (n0 := 16) (n1 := 1024)) (Fin.ext e0) (Fin.ext e1))
  · rw [dif_neg hr]
    refine Routing.scatter_set_miss _ x idx u _ fun k hk => hr ?_
    have := ((lands_rows idx h k r d).1 hk).1
    have hk0 : (k 0).val < 16 := (k 0).isLt
    omega
/-- The context's row written into a list. -/
theorem ctx_eq (x : S24x1024.Idx → EReal) (idx : IVec S1 32) (h : idx (ix1 0) = 16#32) (u : S1024.Idx → EReal) (r : Fin 24) (d : Fin 1024) :
    Host.scatter scatter_S24x1024_S1_S1024_0_0_0_0 (fun _ b => b) x idx u (ix2 r d) = if r.val = 16 then u (ix1 d) else x (ix2 r d) := by
  by_cases hr : r.val = 16
  · rw [if_pos hr]
    refine Routing.scatter_set_hit _ x idx u _ _ (fun k hk => congrArg u ?_) (ix1 d) ((lands_ctx idx h _ r d).2 ⟨hr.symm, rfl⟩)
    refine (eq_ix1 (n0 := 1024) k).trans (congrArg (ix1 (n0 := 1024)) (Fin.ext ((lands_ctx idx h k r d).1 hk).2))
  · rw [if_neg hr]
    exact Routing.scatter_set_miss _ x idx u _ fun k hk => hr ((lands_ctx idx h k r d).1 hk).1.symm

/-- The list of conditioning rows. -/
theorem V4_eq (r : Fin 24) (d : Fin 1024) : V m c main_v4 (ix2 r d) = (argsK m c).row r d := by
  entry_read
  refine (ctx_eq _ _ rfl _ r d).trans ?_
  unfold Ada.row
  by_cases h : r.val < 16
  · rw [if_neg (by omega), dif_pos h]
    exact (rows_eq _ _ rfl _ r d).trans (dif_pos h)
  · rw [dif_neg h]
    by_cases h' : r.val = 16
    · rw [if_pos h', if_pos h']
      rfl
    · rw [if_neg h', if_neg h']
      refine ((rows_eq _ _ rfl _ r d).trans (dif_neg h)).trans ?_
      pointwise
/-- The bias as a row. -/
theorem V5_eq (n : Fin 6144) : V m c main_v5 (ix2 0 n) = (argsK m c).B (ix1 n) := by
  entry_read
  pointwise
  rfl

theorem idx0 : ∀ t : Fin cfg0.N, win0_0.index t = ![0, 0] := (by decide +kernel : ∀ t : Fin grid0.N, _)
theorem idx1 : ∀ t : Fin cfg0.N, win0_1.index t = ![0, t.val] := (by decide +kernel : ∀ t : Fin grid0.N, _)
theorem idx2 : ∀ t : Fin cfg0.N, win0_2.index t = ![0, t.val] := (by decide +kernel : ∀ t : Fin grid0.N, _)
theorem idx3 : ∀ t : Fin cfg0.N, win0_3.index t = ![0, t.val] := (by decide +kernel : ∀ t : Fin grid0.N, _)

theorem lt4 (t : Fin cfg0.N) : t.val < 4 := lt_of_lt_of_eq t.isLt N_0

/-- A tile's column as a column of the whole table. -/
def col (t : Fin cfg0.N) (n : Fin 1536) : Fin 6144 := ⟨1536 * t.val + n.val, by have := lt4 t; omega⟩

theorem blk0 (t : Fin cfg0.N) (r : Fin 24) (d : Fin 1024) : iblk m c 0 t (ix2 r d) = (argsK m c).row r d := by
  refine Eq.trans ?_ (V4_eq m c r d)
  blk_ext [iblk, idx0]
theorem blk1 (t : Fin cfg0.N) (d : Fin 1024) (n : Fin 1536) : iblk m c 1 t (ix2 d n) = (argsK m c).W (ix2 d (col t n)) := by
  refine Eq.trans ?_ (congrFun (V_main_arg2 m c) (ix2 d (col t n)))
  unfold col
  blk_ext [iblk, idx1]
theorem blk2 (t : Fin cfg0.N) (n : Fin 1536) : iblk m c 2 t (ix2 0 n) = (argsK m c).B (ix1 (col t n)) := by
  refine Eq.trans ?_ (V5_eq m c (col t n))
  unfold col
  blk_ext [iblk, idx2]

/-- A tile's modulations, from its blocks. -/
theorem pay1_eq (x : Vec Ideal S24x1024 .f32) (w : Vec Ideal S1024x1536 .f32) (b : Vec Ideal S1x1536 .f32) (r : Fin 24) (n : Fin 1536) :
    k0_pay1 x w b (ix2 r n) = ((∑ d : Fin 1024, x (ix2 r d) * Ideal.logistic (x (ix2 r d)) * w (ix2 d n)) + b (ix2 0 n) : EReal) := by
  pointwise [k0_pay1]
theorem out3_eq (t : Fin cfg0.N) (r : Fin 24) (n : Fin 1536) :
    out0_3 (iblk m c 0 t) (iblk m c 1 t) (iblk m c 2 t) (ix2 r n) = ((argsK m c).out r (col t n) : EReal) := by
  unfold out0_3
  rw [View.canon_unit_zero (by funext a; fin_cases a <;> rfl), View.ld_unit_zero (by funext a; fin_cases a <;> rfl), View.ld_unit_zero (by funext a; fin_cases a <;> rfl), View.ld_unit_zero (by funext a; fin_cases a <;> rfl)]
  refine (pay1_eq _ _ _ r n).trans ?_
  rw [blk2]
  simp only [blk0, blk1]
  rfl
/-- The result as the region leaves it. -/
theorem final3 : (dats m 0 c).arrAt 3 cfg0.N = fun i => (argsK m c).out (i 0) (i 1) := by
  refine (dats m 0 c).arrAt_eq_of_covers 3 _ (by decide +kernel) fun s hf y => ?_
  blk_simp
  have hy : y = (ix2 (y 0) (y 1) : S24x1536.Idx) := eq_ix2 (n0 := 24) (n1 := 1536) y
  have e0 : (win0_3.blk s).view.emb y 0 = y 0 := Fin.ext (by blk_simp [idx3])
  have e1 : (win0_3.blk s).view.emb y 1 = col s (y 1) := Fin.ext (by blk_simp [idx3]; show s.val * 1536 + _ = 1536 * s.val + _; omega)
  rw [e0, e1]
  refine (congrArg ((dats m 0 c).after 3 s) hy).trans ?_
  rw [after0_3]
  exact out3_eq m c s (y 0) (y 1)

end Cert.Kernel7Ideal.Pv

end
-- ==== Proof.Ada.Ref.lean ====
/- What the reference of the modulations computes, element by element. -/
module

public import proofs.«01_k».proof.Proof.Gen.Reference7Ideal.Run
public import proofs.«01_k».proof.Proof.Ada.Spec

@[expose] public section

set_option maxRecDepth 16384

noncomputable section

namespace Cert.Reference7Ideal.Pv

open Cert.Reference7Ideal Cert.Reference7Ideal.Gen Cert.Proj
open Idealize.ShloMosaic Idealize.ShloMosaic.TcCoe

variable (m : (ℓ : Loc nD τ sig) → Buf (Elt Ideal) ℓ) (ρ : Dev nD → PrngReg)

/-- The reference's arguments. -/
def argsR (c : Dev nD) : Ada where
  C := m ((c.tc : Thread nD τ).loc main_arg0)
  X := m ((c.tc : Thread nD τ).loc main_arg1)
  W := m ((c.tc : Thread nD τ).loc main_arg2)
  B := m ((c.tc : Thread nD τ).loc main_arg3)

/-- The rows of conditioning as the reference joins them. -/
def rows (c : Dev nD) : FVec Ideal S24x1024 .f32 :=
  concatenate S24x1024 0 [⟨S16x1024, ((m ((c.tc : Thread nD τ).loc main_arg0)) : (⟨S16x1024, .f32⟩ : BufTy).Contents (Elt Ideal))⟩, ⟨S1x1024, ((broadcastInDim S1x1024 ![1] bcast_S1024_S1x1024_1 (m ((c.tc : Thread nD τ).loc main_arg1))) : (⟨S1x1024, .f32⟩ : BufTy).Contents (Elt Ideal))⟩, ⟨S7x1024, ((broadcastInDim S7x1024 ![] bcast_S_S7x1024 (constant (F := Ideal) S_ .f32 0x00000000#32)) : (⟨S7x1024, .f32⟩ : BufTy).Contents (Elt Ideal))⟩] concatenates_S16x1024_S1x1024_S7x1024_S24x1024_d0
theorem rows_eq (c : Dev nD) (r : Fin 24) (d : Fin 1024) : rows m c (ix2 r d) = (argsR m c).row r d := by
  unfold rows Ada.row
  pointwise
  by_cases h : r.val < 16
  · rw [dif_pos h, dif_pos h]
    rfl
  · rw [dif_neg h, dif_neg h]
    by_cases h' : r.val = 16
    · rw [dif_pos (by omega), if_pos h']
      rfl
    · rw [dif_neg (by omega), if_neg h']

/-- The reference's result is the shared function of its arguments. -/
theorem run_spec : θ_run defs (onTc (τ := τ) (main (F := Ideal))) ⟨m, fun _ => 0, ρ⟩ fun r => ∀ c : Dev nD,
      r.2.mem ((c.tc : Thread nD τ).loc main_v7) = (fun i => (argsR m c).out (i 0) (i 1)) := by
  refine (θ_run defs _ _).mono (fun r h c => ?_) (Cert.Reference7Ideal.Value.run m ρ)
  have h0 := (h c).1
  refine h0.trans (funext fun i => ?_)
  clear h h0
  rw [eq_ix2 (n0 := 24) (n1 := 6144) i]
  obtain ⟨r, hr⟩ : ∃ r : Fin 24, r = i 0 := ⟨_, rfl⟩
  obtain ⟨n, hn⟩ : ∃ n : Fin 6144, n = i 1 := ⟨_, rfl⟩
  rw [← hr, ← hn]
  have key := rows_eq m c r
  unfold rows at key
  generalize (concatenate S24x1024 0 _ _ : FVec Ideal S24x1024 .f32) = P at key ⊢
  pointwise [id, constant]
  simp only [key]
  rfl

end Cert.Reference7Ideal.Pv

end
-- ==== Proof.Pool.Spec.lean ====
/- The mathematics that kernel and reference share: the pooling mixer of the odd layer. -/
module

public import proofs.«01_k».proof.Proof.Out.Spec

@[expose] public section

noncomputable section

namespace Cert.Proj

open Idealize.ShloMosaic

/-- The argument arrays of the pooling mixer: tokens, the groups' matrices, scales. -/
structure Pool where
  X : (⟨2, ![32768, 512]⟩ : Shape).Idx → EReal
  W : (⟨3, ![4, 128, 128]⟩ : Shape).Idx → EReal
  S : (⟨1, ![512]⟩ : Shape).Idx → EReal

namespace Pool

/-- Half of a group's window. -/
abbrev half (g : Fin 4) : ℕ := 2 ^ g.val
/-- The first token of a token's window in its column of 32, and the first after it. -/
abbrev low (g : Fin 4) (t : ℕ) : ℕ := t - half g
abbrev high (g : Fin 4) (t : ℕ) : ℕ := min (t + half g) 32
/-- Token `s` lies in the window of token `t`. -/
abbrev near (g : Fin 4) (t s : ℕ) : Prop := low g t ≤ s ∧ s < high g t
/-- The size of a token's window. -/
abbrev size (g : Fin 4) (t : ℕ) : ℝ := ((high g t - low g t : ℕ) : ℝ)

theorem size_ne (g : Fin 4) (t : Fin 32) : size g t.val ≠ 0 :=
  Nat.cast_ne_zero.2 ((by decide +kernel : ∀ (g : Fin 4) (t : Fin 32), high g t.val - low g t.val ≠ 0) g t)

/-! ## The window's integers, read off 32-bit words -/

theorem low_bits : ∀ (g : Fin 4) (t : Fin 32),
    IntOp.maxsi (IntOp.subi (BitVec.ofNat 32 t.val) (BitVec.ofNat 32 (half g))) 0#32 = BitVec.ofNat 32 (low g t.val) := by decide +kernel
theorem high_bits : ∀ (g : Fin 4) (t : Fin 32),
    IntOp.minsi (IntOp.addi (IntOp.subi (BitVec.ofNat 32 t.val) (BitVec.ofNat 32 (half g))) (BitVec.ofNat 32 (2 * half g))) 32#32
      = BitVec.ofNat 32 (high g t.val) := by decide +kernel
theorem size_bits : ∀ (g : Fin 4) (t : Fin 32),
    (IntOp.subi (BitVec.ofNat 32 (high g t.val)) (BitVec.ofNat 32 (low g t.val))).toInt = ((high g t.val - low g t.val : ℕ) : ℤ) := by decide +kernel
theorem near_bits : ∀ (g : Fin 4) (t s : Fin 32),
    IntOp.andi (IntOp.cmpi .sge (BitVec.ofNat 32 s.val) (BitVec.ofNat 32 (low g t.val))) (IntOp.cmpi .slt (BitVec.ofNat 32 s.val) (BitVec.ofNat 32 (high g t.val)))
      = BitVec.ofBool (decide (near g t.val s.val)) := by decide +kernel
theorem size_real (g : Fin 4) (t : Fin 32) :
    (FloatOps.sitofp (F := Ideal) .f32 (IntOp.subi (BitVec.ofNat 32 (high g t.val)) (BitVec.ofNat 32 (low g t.val))) : EReal) = ((size g t.val : ℝ) : EReal) := by
  show ((((IntOp.subi (BitVec.ofNat 32 (high g t.val)) (BitVec.ofNat 32 (low g t.val))).toInt : ℤ) : ℝ) : EReal) = _
  rw [size_bits g t, Int.cast_natCast]
theorem part_bits : ∀ r : Fin 256, IntOp.andi (BitVec.ofNat 32 r.val) 31#32 = BitVec.ofNat 32 (r.val % 32) := by decide +kernel
theorem seg_bits : ∀ r : Fin 256, IntOp.shrui .vector (BitVec.ofNat 32 r.val) 5#32 = BitVec.ofNat 32 (r.val / 32) := by decide +kernel
theorem eq_bits (a b : ℕ) (ha : a < 256) (hb : b < 256) :
    IntOp.cmpi .eq (BitVec.ofNat 32 a) (BitVec.ofNat 32 b) = BitVec.ofBool (decide (a = b)) := by
  refine congrArg BitVec.ofBool ?_
  show (BitVec.ofNat 32 a == BitVec.ofNat 32 b) = _
  have h : BitVec.ofNat 32 a = BitVec.ofNat 32 b ↔ a = b := by
    constructor
    · intro e
      have := congrArg BitVec.toNat e
      simp only [BitVec.toNat_ofNat] at this
      omega
    · rintro rfl
      rfl
  by_cases e : a = b
  · simp [e]
  · rw [decide_eq_false e]
    exact beq_eq_false_iff_ne.2 fun q => e (h.1 q)
theorem select_bits {α : Type} (p : Prop) [Decidable p] (a b : α) : Scalar.select (BitVec.ofBool (decide p)) a b = if p then a else b := by
  unfold Scalar.select
  by_cases h : p
  · rw [if_pos h, decide_eq_true h]; rfl
  · rw [if_neg h, decide_eq_false h]; rfl
theorem and_bits (p q : Prop) [Decidable p] [Decidable q] :
    IntOp.andi (BitVec.ofBool (decide p)) (BitVec.ofBool (decide q)) = BitVec.ofBool (decide (p ∧ q)) := by
  by_cases hp : p <;> by_cases hq : q <;> simp [hp, hq, IntOp.andi]
theorem andi_assoc (x y z : BitVec 1) : IntOp.andi (IntOp.andi x y) z = IntOp.andi x (IntOp.andi y z) := BitVec.and_assoc x y z

/-! ## Pooling as a product with a matrix -/

/-- The pooling of 256 tokens, less the tokens themselves, as a matrix. -/
def mat (g : Fin 4) (r s : Fin 256) : ℝ :=
  (if r.val / 32 = s.val / 32 ∧ near g (r.val % 32) (s.val % 32) then 1 / size g (r.val % 32) else 0) - (if r.val = s.val then 1 else 0)

/-- The matrix's entries, read off 32-bit words. -/
theorem mat_bits (g : Fin 4) (h w : BitVec 32) (hh : h = BitVec.ofNat 32 (half g)) (hw : w = BitVec.ofNat 32 (2 * half g)) (r s : Fin 256) :
    (Scalar.select
        (IntOp.andi (IntOp.andi (IntOp.cmpi .eq (IntOp.shrui .vector (BitVec.ofNat 32 r.val) 5#32) (IntOp.shrui .vector (BitVec.ofNat 32 s.val) 5#32))
            (IntOp.cmpi .sge (IntOp.andi (BitVec.ofNat 32 s.val) 31#32) (IntOp.maxsi (IntOp.subi (IntOp.andi (BitVec.ofNat 32 r.val) 31#32) h) 0#32)))
          (IntOp.cmpi .slt (IntOp.andi (BitVec.ofNat 32 s.val) 31#32) (IntOp.minsi (IntOp.addi (IntOp.subi (IntOp.andi (BitVec.ofNat 32 r.val) 31#32) h) w) 32#32)))
        (Ideal.div 1 (FloatOps.sitofp (F := Ideal) .f32
          (IntOp.subi (IntOp.minsi (IntOp.addi (IntOp.subi (IntOp.andi (BitVec.ofNat 32 r.val) 31#32) h) w) 32#32)
            (IntOp.maxsi (IntOp.subi (IntOp.andi (BitVec.ofNat 32 r.val) 31#32) h) 0#32))))
        0 - Scalar.select (IntOp.cmpi .eq (BitVec.ofNat 32 r.val) (BitVec.ofNat 32 s.val)) 1 0 : EReal) = ((mat g r s : ℝ) : EReal) := by
  have hr : r.val % 32 < 32 := Nat.mod_lt _ (by norm_num)
  have hs : s.val % 32 < 32 := Nat.mod_lt _ (by norm_num)
  have hn := size_ne g ⟨r.val % 32, hr⟩
  rw [hh, hw, andi_assoc, part_bits, part_bits, seg_bits, seg_bits, low_bits g ⟨r.val % 32, hr⟩, high_bits g ⟨r.val % 32, hr⟩,
    near_bits g ⟨r.val % 32, hr⟩ ⟨s.val % 32, hs⟩, size_real g ⟨r.val % 32, hr⟩, eq_bits _ _ (by omega) (by omega), eq_bits _ _ r.isLt s.isLt, and_bits,
    select_bits, select_bits, Ideal.div_coe hn, one_mul]
  unfold mat
  rw [EReal.coe_sub]
  congr 1
  · split <;> rfl
  · split <;> rfl

/-- The product with the matrix, of numbers. -/
theorem mat_sum (g : Fin 4) (r : Fin 256) (y : Fin 256 → ℝ) :
    ∑ s, mat g r s * y s = (∑ s : Fin 32, if near g (r.val % 32) s.val then y ⟨r.val / 32 * 32 + s.val, by omega⟩ else 0) * (1 / size g (r.val % 32)) - y r := by
  have h1 : ∀ s, mat g r s * y s = (if r.val / 32 = s.val / 32 ∧ near g (r.val % 32) (s.val % 32) then y s * (1 / size g (r.val % 32)) else 0)
      - (if r = s then y s else 0) := fun s => by
    unfold mat
    rw [sub_mul, ite_mul, ite_mul, zero_mul, one_mul, mul_comm]
    simp only [Fin.ext_iff]
  rw [Finset.sum_congr rfl fun s _ => h1 s, Finset.sum_sub_distrib, Finset.sum_ite_eq, if_pos (Finset.mem_univ r), Finset.sum_mul]
  congr 1
  rw [← Equiv.sum_comp (finProdFinEquiv : Fin 8 × Fin 32 ≃ Fin 256), Fintype.sum_prod_type, Finset.sum_eq_single (⟨r.val / 32, by omega⟩ : Fin 8)]
  · refine Finset.sum_congr rfl fun t _ => ?_
    have e : (finProdFinEquiv ((⟨r.val / 32, by omega⟩ : Fin 8), t) : Fin 256) = ⟨r.val / 32 * 32 + t.val, by omega⟩ :=
      Fin.ext (by show t.val + 32 * (r.val / 32) = r.val / 32 * 32 + t.val; omega)
    rw [e]
    have e1 : (r.val / 32 * 32 + t.val) / 32 = r.val / 32 := by omega
    have e2 : (r.val / 32 * 32 + t.val) % 32 = t.val := by omega
    simp only [e1, e2, true_and, ite_mul, zero_mul]
  · intro q _ hq
    refine Finset.sum_eq_zero fun t _ => if_neg fun h => hq (Fin.ext ?_)
    have h := h.1
    have e : (finProdFinEquiv (q, t) : Fin 256).val = t.val + 32 * q.val := rfl
    rw [e] at h
    show q.val = r.val / 32
    omega
  · intro h
    exact absurd (Finset.mem_univ _) h

/-- A token's mean over its window, less the token. -/
def mean (g : Fin 4) (t : ℕ) (x : Fin 32 → EReal) (own : EReal) : EReal :=
  Ideal.div (∑ s : Fin 32, if near g t s.val then x s else 0) ((size g t : ℝ) : EReal) - own

theorem coe_sum {ι : Type} [Fintype ι] (f : ι → ℝ) : ((∑ i, f i : ℝ) : EReal) = ∑ i, (f i : EReal) := by
  classical
  refine Finset.induction_on (motive := fun S => ((∑ i ∈ S, f i : ℝ) : EReal) = ∑ i ∈ S, (f i : EReal)) Finset.univ (by simp) fun a S ha ih => ?_
  rw [Finset.sum_insert ha, Finset.sum_insert ha, EReal.coe_add, ih]

/-- The product in two parts each, of tokens that are numbers: the second parts are zeros. -/
theorem mat_mean (g : Fin 4) (r : Fin 256) (x : Fin 256 → EReal) (y : Fin 256 → ℝ) (h : ∀ s, x s = (y s : EReal)) :
    (∑ s, (mat g r s : EReal) * x s) + ((∑ s, (mat g r s : EReal) * (x s - x s)) + ∑ s, ((mat g r s : EReal) - (mat g r s : EReal)) * x s)
      = mean g (r.val % 32) (fun s => x ⟨r.val / 32 * 32 + s.val, by omega⟩) (x r) := by
  have z1 : ∀ s, (mat g r s : EReal) * (x s - x s) = 0 := fun s => by rw [h, ← EReal.coe_sub, sub_self, EReal.coe_zero, mul_zero]
  have z2 : ∀ s, ((mat g r s : EReal) - (mat g r s : EReal)) * x s = 0 := fun s => by rw [← EReal.coe_sub, sub_self, EReal.coe_zero, zero_mul]
  rw [Finset.sum_eq_zero fun s _ => z1 s, Finset.sum_eq_zero fun s _ => z2 s, add_zero, add_zero]
  unfold mean
  rw [Ideal.div_coe (size_ne g ⟨r.val % 32, Nat.mod_lt _ (by norm_num)⟩)]
  simp only [h]
  have e : ∀ s : Fin 32, (if near g (r.val % 32) s.val then ((y ⟨r.val / 32 * 32 + s.val, by omega⟩ : ℝ) : EReal) else 0)
      = ((if near g (r.val % 32) s.val then y ⟨r.val / 32 * 32 + s.val, by omega⟩ else 0 : ℝ) : EReal) := fun s => by split <;> rfl
  rw [Finset.sum_congr rfl fun s _ => e s, ← coe_sum, ← EReal.coe_mul, ← EReal.coe_sub, ← mat_sum, coe_sum]
  exact Finset.sum_congr rfl fun s _ => (EReal.coe_mul _ _).symm

/-- A token that is smaller than infinity in size is a number. -/
theorem real_of_lt (x : EReal) (h : Ideal.cmp .olt (max x (-x)) (Ideal.ofBits .f32 0x7F800000#32) = 1#1) : ∃ y : ℝ, x = (y : EReal) := by
  have t : Ideal.ofBits .f32 0x7F800000#32 = ⊤ := by simp [Ideal.ofBits, Ideal.ieee]
  rw [t] at h
  induction x using EReal.rec with
  | coe y => exact ⟨y, rfl⟩
  | bot => simp [Ideal.cmp] at h
  | top => simp [Ideal.cmp] at h

variable (A : Pool)

/-- A token's pooled channel. -/
def pooled (g : Fin 4) (r : Fin 32768) (d : Fin 128) : EReal :=
  mean g (r.val % 32) (fun s => A.X (ix2 (⟨r.val / 32 * 32 + s.val, by omega⟩ : Fin 32768) (⟨g.val * 128 + d.val, by omega⟩ : Fin 512)))
    (A.X (ix2 r (⟨g.val * 128 + d.val, by omega⟩ : Fin 512)))
/-- A token's result. -/
def out (r : Fin 32768) (n : Fin 512) : EReal :=
  (∑ d : Fin 128, A.pooled ⟨n.val / 128, by omega⟩ r d * A.W (ix3 (⟨n.val / 128, by omega⟩ : Fin 4) d (⟨n.val % 128, by omega⟩ : Fin 128))) * A.S (ix1 n)

end Pool

end Cert.Proj

end
-- ==== Proof.Pool.Kernel.lean ====
/- What the kernel of the odd layer's pooling mixer leaves in its result array. -/
module

public import proofs.«01_k».proof.Proof.Gen.Kernel8Ideal.Value
public import Idealize.ShloMosaic.Lib.Pipeline.ValueKit.Point
public import Idealize.ShloMosaic.Lib.StableHlo.ReadAt
public import proofs.«01_k».proof.Proof.Pool.Spec

@[expose] public section

set_option maxRecDepth 16384

noncomputable section

namespace Cert.Kernel8Ideal.Pv

open Cert.Kernel8Ideal Cert.Kernel8Ideal.Gen Cert.Proj
open Idealize.ShloMosaic Idealize.ShloMosaic.TcCoe

/-! ## A tile's four column blocks -/

/-- A group's stored columns, of its tokens' channels, its matrix and its scales. -/
def grp (g : Fin 4) (x : Vec Ideal S256x128 .f32) (w : Vec Ideal S1x128x128 .f32) (sc : Vec Ideal S1x128 .f32) (r : Fin 256) (e : Fin 128) : EReal :=
  (∑ d : Fin 128, ((∑ s, (Pool.mat g r s : EReal) * x (ix2 s d))
    + ((∑ s, (Pool.mat g r s : EReal) * (x (ix2 s d) - x (ix2 s d))) + ∑ s, ((Pool.mat g r s : EReal) - (Pool.mat g r s : EReal)) * x (ix2 s d)))
      * w (ix3 0 d e)) * sc (ix2 0 e)

variable (x0 : Vec Ideal S256x512 .f32) (x1 : Vec Ideal S4x128x128 .f32) (x2 : Vec Ideal S1x512 .f32)
  (x : Vec Ideal S256x128 .f32) (w : Vec Ideal S1x128x128 .f32) (sc : Vec Ideal S1x128 .f32) (r : Fin 256) (e : Fin 128)

theorem col0 : k0_pay9 k0_pay5 k0_pay6 (k0_pay7 x) (k0_pay8 x) w sc (ix2 r e) = grp 0 x w sc r e := by
  pointwise [k0_pay9, k0_pay5, k0_pay6, k0_pay7, k0_pay8, k0_pay4, k0_pay1, k0_pay2, k0_pay3]
  unfold grp
  simp only [Pool.mat_bits 0 1#32 2#32 rfl rfl]
theorem col1 : k0_pay14 (k0_pay10 (k0_pay25 x0 x1 x2) (k0_pay26 x0 x1 x2) (k0_pay27 x0 x1 x2)) (k0_pay11 (k0_pay23 x0 x1 x2) (k0_pay24 x0 x1 x2)) k0_pay12 k0_pay13
    x w sc (ix2 r e) = grp 1 x w sc r e := by
  pointwise [k0_pay14, k0_pay10, k0_pay11, k0_pay12, k0_pay13, k0_pay23, k0_pay24, k0_pay25, k0_pay26, k0_pay27, k0_pay1, k0_pay2, k0_pay3]
  unfold grp
  simp only [Pool.mat_bits 1 2#32 4#32 rfl rfl]
theorem col2 : k0_pay19 (k0_pay23 x0 x1 x2) (k0_pay24 x0 x1 x2) (k0_pay17 (k0_pay25 x0 x1 x2) (k0_pay26 x0 x1 x2) (k0_pay27 x0 x1 x2)) (k0_pay18 (k0_pay26 x0 x1 x2))
    x w sc (ix2 r e) = grp 2 x w sc r e := by
  pointwise [k0_pay19, k0_pay15, k0_pay16, k0_pay17, k0_pay18, k0_pay23, k0_pay24, k0_pay25, k0_pay26, k0_pay27, k0_pay1, k0_pay2, k0_pay3]
  unfold grp
  simp only [Pool.mat_bits 2 4#32 8#32 rfl rfl]
theorem col3 : k0_pay22 (k0_pay23 x0 x1 x2) (k0_pay24 x0 x1 x2) (k0_pay25 x0 x1 x2) (k0_pay26 x0 x1 x2) (k0_pay27 x0 x1 x2) (k0_pay20 (k0_pay26 x0 x1 x2)) k0_pay21
    x w sc (ix2 r e) = grp 3 x w sc r e := by
  pointwise [k0_pay22, k0_pay20, k0_pay21, k0_pay23, k0_pay24, k0_pay25, k0_pay26, k0_pay27, k0_pay1, k0_pay2, k0_pay3]
  unfold grp
  simp only [Pool.mat_bits 3 8#32 16#32 rfl rfl]

/-- The same columns, of the tile's blocks. -/
def all (g : Fin 4) (r : Fin 256) (e : Fin 128) : EReal :=
  (∑ d : Fin 128, ((∑ s, (Pool.mat g r s : EReal) * x0 (ix2 s (⟨g.val * 128 + d.val, by omega⟩ : Fin 512)))
    + ((∑ s, (Pool.mat g r s : EReal) * (x0 (ix2 s (⟨g.val * 128 + d.val, by omega⟩ : Fin 512)) - x0 (ix2 s (⟨g.val * 128 + d.val, by omega⟩ : Fin 512))))
      + ∑ s, ((Pool.mat g r s : EReal) - (Pool.mat g r s : EReal)) * x0 (ix2 s (⟨g.val * 128 + d.val, by omega⟩ : Fin 512))))
      * x1 (ix3 g d e)) * x2 (ix2 0 (⟨g.val * 128 + e.val, by omega⟩ : Fin 512))
theorem grp_all (g : Fin 4) (x : Vec Ideal S256x128 .f32) (w : Vec Ideal S1x128x128 .f32) (sc : Vec Ideal S1x128 .f32) (r : Fin 256) (e : Fin 128)
    (hx : ∀ (s : Fin 256) (d : Fin 128), x (ix2 s d) = x0 (ix2 s (⟨g.val * 128 + d.val, by omega⟩ : Fin 512)))
    (hw : ∀ d : Fin 128, w (ix3 0 d e) = x1 (ix3 g d e)) (hs : sc (ix2 0 e) = x2 (ix2 0 (⟨g.val * 128 + e.val, by omega⟩ : Fin 512))) :
    grp g x w sc r e = all x0 x1 x2 g r e := by
  unfold grp all
  simp only [hx, hw, hs]
theorem part0 : grp 0 (View.ld x0 r0_0) (View.ld x1 r0_1) (View.ld x2 r0_2) r e = all x0 x1 x2 0 r e := by
  refine grp_all x0 x1 x2 0 _ _ _ r e (fun s d => ?_) (fun d => ?_) ?_
  · refine View.ld_unit_apply_of _ _ _ _ _ _ fun a => ?_
    match a with
    | ⟨0, _⟩ => exact (Nat.zero_add _).symm
    | ⟨1, _⟩ => rfl
  · refine View.ld_unit_apply_of _ _ _ _ _ _ fun a => ?_
    match a with
    | ⟨0, _⟩ => rfl
    | ⟨1, _⟩ => exact (Nat.zero_add _).symm
    | ⟨2, _⟩ => exact (Nat.zero_add _).symm
  · refine View.ld_unit_apply_of _ _ _ _ _ _ fun a => ?_
    match a with
    | ⟨0, _⟩ => rfl
    | ⟨1, _⟩ => rfl
theorem part1 : grp 1 (View.ld x0 r0_3) (View.ld x1 r0_4) (View.ld x2 r0_5) r e = all x0 x1 x2 1 r e := by
  refine grp_all x0 x1 x2 1 _ _ _ r e (fun s d => ?_) (fun d => ?_) ?_
  · refine View.ld_unit_apply_of _ _ _ _ _ _ fun a => ?_
    match a with
    | ⟨0, _⟩ => exact (Nat.zero_add _).symm
    | ⟨1, _⟩ => rfl
  · refine View.ld_unit_apply_of _ _ _ _ _ _ fun a => ?_
    match a with
    | ⟨0, _⟩ => rfl
    | ⟨1, _⟩ => exact (Nat.zero_add _).symm
    | ⟨2, _⟩ => exact (Nat.zero_add _).symm
  · refine View.ld_unit_apply_of _ _ _ _ _ _ fun a => ?_
    match a with
    | ⟨0, _⟩ => rfl
    | ⟨1, _⟩ => rfl
theorem part2 : grp 2 (View.ld x0 r0_6) (View.ld x1 r0_7) (View.ld x2 r0_8) r e = all x0 x1 x2 2 r e := by
  refine grp_all x0 x1 x2 2 _ _ _ r e (fun s d => ?_) (fun d => ?_) ?_
  · refine View.ld_unit_apply_of _ _ _ _ _ _ fun a => ?_
    match a with
    | ⟨0, _⟩ => exact (Nat.zero_add _).symm
    | ⟨1, _⟩ => rfl
  · refine View.ld_unit_apply_of _ _ _ _ _ _ fun a => ?_
    match a with
    | ⟨0, _⟩ => rfl
    | ⟨1, _⟩ => exact (Nat.zero_add _).symm
    | ⟨2, _⟩ => exact (Nat.zero_add _).symm
  · refine View.ld_unit_apply_of _ _ _ _ _ _ fun a => ?_
    match a with
    | ⟨0, _⟩ => rfl
    | ⟨1, _⟩ => rfl
theorem part3 : grp 3 (View.ld x0 r0_9) (View.ld x1 r0_10) (View.ld x2 r0_11) r e = all x0 x1 x2 3 r e := by
  refine grp_all x0 x1 x2 3 _ _ _ r e (fun s d => ?_) (fun d => ?_) ?_
  · refine View.ld_unit_apply_of _ _ _ _ _ _ fun a => ?_
    match a with
    | ⟨0, _⟩ => exact (Nat.zero_add _).symm
    | ⟨1, _⟩ => rfl
  · refine View.ld_unit_apply_of _ _ _ _ _ _ fun a => ?_
    match a with
    | ⟨0, _⟩ => rfl
    | ⟨1, _⟩ => exact (Nat.zero_add _).symm
    | ⟨2, _⟩ => exact (Nat.zero_add _).symm
  · refine View.ld_unit_apply_of _ _ _ _ _ _ fun a => ?_
    match a with
    | ⟨0, _⟩ => rfl
    | ⟨1, _⟩ => rfl
/-- A tile's result, as a function of the index in it. -/
def cols (y : S256x512.Idx) : EReal :=
  all x0 x1 x2 ⟨(y 1).val / 128, by have h : (y 1).val < 512 := (y 1).isLt; omega⟩ (y 0) ⟨(y 1).val % 128, by omega⟩
theorem cols_at (g : Fin 4) (r : Fin 256) (e : Fin 128) (y : S256x512.Idx) (h0 : (y 0).val = r.val) (h1 : (y 1).val = g.val * 128 + e.val) :
    all x0 x1 x2 g r e = cols x0 x1 x2 y := by
  unfold cols
  have a : (⟨(y 1).val / 128, by have h : (y 1).val < 512 := (y 1).isLt; omega⟩ : Fin 4) = g := Fin.ext (by show (y 1).val / 128 = g.val; omega)
  have b : (⟨(y 1).val % 128, by omega⟩ : Fin 128) = e := Fin.ext (by show (y 1).val % 128 = e.val; omega)
  have c : (y 0 : Fin 256) = r := Fin.ext h0
  rw [a, b]
  exact congrArg (fun q => all x0 x1 x2 g q e) c.symm
theorem out3_eq (y : S256x512.Idx) : out0_3 x0 x1 x2 y = cols x0 x1 x2 y := by
  unfold out0_3
  refine View.canon_apply_of_pieces (Val := Elt Ideal) (e := .f32) (cols x0 x1 x2) _ ?_ y (cover0_3 _ _ _ _ y)
  simp only [List.forall_mem_cons, List.not_mem_nil, false_imp_iff, implies_true, and_true]
  refine ⟨?_, ?_, ?_, ?_⟩
  · intro x
    have hx : x = (ix2 (x 0) (x 1) : S256x128.Idx) := eq_ix2 (n0 := 256) (n1 := 128) x
    have hx1 : (x 1).val < 128 := (x 1).isLt
    refine (congrArg _ hx).trans ((col3 x0 x1 x2 _ _ _ (x 0) (x 1)).trans ((part3 x0 x1 x2 (x 0) (x 1)).trans ?_))
    exact cols_at x0 x1 x2 3 (x 0) (x 1) _ ((Rect.idx_unit_val _ _ _ x 0).trans (Nat.zero_add _)) ((Rect.idx_unit_val _ _ _ x 1).trans rfl)
  · intro x
    have hx : x = (ix2 (x 0) (x 1) : S256x128.Idx) := eq_ix2 (n0 := 256) (n1 := 128) x
    have hx1 : (x 1).val < 128 := (x 1).isLt
    refine (congrArg _ hx).trans ((col2 x0 x1 x2 _ _ _ (x 0) (x 1)).trans ((part2 x0 x1 x2 (x 0) (x 1)).trans ?_))
    exact cols_at x0 x1 x2 2 (x 0) (x 1) _ ((Rect.idx_unit_val _ _ _ x 0).trans (Nat.zero_add _)) ((Rect.idx_unit_val _ _ _ x 1).trans rfl)
  · intro x
    have hx : x = (ix2 (x 0) (x 1) : S256x128.Idx) := eq_ix2 (n0 := 256) (n1 := 128) x
    have hx1 : (x 1).val < 128 := (x 1).isLt
    refine (congrArg _ hx).trans ((col1 x0 x1 x2 _ _ _ (x 0) (x 1)).trans ((part1 x0 x1 x2 (x 0) (x 1)).trans ?_))
    exact cols_at x0 x1 x2 1 (x 0) (x 1) _ ((Rect.idx_unit_val _ _ _ x 0).trans (Nat.zero_add _)) ((Rect.idx_unit_val _ _ _ x 1).trans rfl)
  · intro x
    have hx : x = (ix2 (x 0) (x 1) : S256x128.Idx) := eq_ix2 (n0 := 256) (n1 := 128) x
    have hx1 : (x 1).val < 128 := (x 1).isLt
    refine (congrArg _ hx).trans ((col0 _ _ _ (x 0) (x 1)).trans ((part0 x0 x1 x2 (x 0) (x 1)).trans ?_))
    exact cols_at x0 x1 x2 0 (x 0) (x 1) _ ((Rect.idx_unit_val _ _ _ x 0).trans (Nat.zero_add _)) ((Rect.idx_unit_val _ _ _ x 1).trans rfl)

/-! ## The run -/

variable (m : (ℓ : Loc nD τ sig) → Buf (Elt Ideal) ℓ) (c : Dev nD)

/-- The kernel's arguments. -/
def argsK : Pool where
  X := m ((c : Thread nD τ).loc main_arg0)
  W := m ((c : Thread nD τ).loc main_arg1)
  S := m ((c : Thread nD τ).loc main_arg2)

/-- The scales as a row. -/
theorem V0_eq (n : Fin 512) : V m c main_v0 (ix2 0 n) = (argsK m c).S (ix1 n) := by
  entry_read
  pointwise
  rfl

theorem idx0 : ∀ t : Fin cfg0.N, win0_0.index t = ![t.val, 0] := (by decide +kernel : ∀ t : Fin grid0.N, _)
theorem idx1 : ∀ t : Fin cfg0.N, win0_1.index t = ![0, 0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val, 0] := (by decide +kernel : ∀ t : Fin grid0.N, _)

theorem lt128 (t : Fin cfg0.N) : t.val < 128 := lt_of_lt_of_eq t.isLt N_0

/-- A tile's token as a token of the whole list. -/
def tok (t : Fin cfg0.N) (i : Fin 256) : Fin 32768 := ⟨256 * t.val + i.val, by have := lt128 t; omega⟩

theorem blk0 (t : Fin cfg0.N) (i : Fin 256) (d : Fin 512) : iblk m c 0 t (ix2 i d) = (argsK m c).X (ix2 (tok t i) d) := by
  refine Eq.trans ?_ (congrFun (V_main_arg0 m c) _)
  unfold tok
  blk_ext [iblk, idx0]
theorem blk1 (t : Fin cfg0.N) (g : Fin 4) (d e : Fin 128) : iblk m c 1 t (ix3 g d e) = (argsK m c).W (ix3 g d e) := by
  refine Eq.trans ?_ (congrFun (V_main_arg1 m c) _)
  blk_ext [iblk, idx1]
theorem blk2 (t : Fin cfg0.N) (n : Fin 512) : iblk m c 2 t (ix2 0 n) = (argsK m c).S (ix1 n) := by
  refine Eq.trans ?_ (V0_eq m c n)
  blk_ext [iblk, idx2]

/-- A tile's result, of tokens that are numbers. -/
theorem all_eq (hX : ∀ i, ∃ y : ℝ, (argsK m c).X i = (y : EReal)) (t : Fin cfg0.N) (g : Fin 4) (r : Fin 256) (e : Fin 128) (n : Fin 512)
    (hg : n.val / 128 = g.val) (he : n.val % 128 = e.val) :
    all (iblk m c 0 t) (iblk m c 1 t) (iblk m c 2 t) g r e = (argsK m c).out (tok t r) n := by
  obtain ⟨Y, hY⟩ := Classical.axiomOfChoice hX
  have eg : (⟨n.val / 128, by omega⟩ : Fin 4) = g := Fin.ext hg
  have ee : (⟨n.val % 128, by omega⟩ : Fin 128) = e := Fin.ext he
  have en : (⟨g.val * 128 + e.val, by omega⟩ : Fin 512) = n := Fin.ext (by show g.val * 128 + e.val = n.val; omega)
  unfold all Pool.out
  rw [eg, ee, en, blk2]
  refine congrArg (· * _) (Finset.sum_congr rfl fun d _ => ?_)
  rw [blk1]
  refine congrArg (· * _) ?_
  simp only [blk0]
  refine (Pool.mat_mean g r (fun s => (argsK m c).X (ix2 (tok t s) (⟨g.val * 128 + d.val, by omega⟩ : Fin 512))) (fun s => Y _) (fun s => hY _)).trans ?_
  unfold Pool.pooled
  have e1 : (tok t r).val = 256 * t.val + r.val := rfl
  have e2 : (tok t r).val % 32 = r.val % 32 := by omega
  rw [e2]
  refine congrArg (fun f => Pool.mean g (r.val % 32) f _) (funext fun s => ?_)
  refine congrArg (fun q => (argsK m c).X (ix2 q _)) (Fin.ext ?_)
  show 256 * t.val + (r.val / 32 * 32 + s.val) = (tok t r).val / 32 * 32 + s.val
  omega

/-- The result as the region leaves it. -/
theorem final3 (hX : ∀ i, ∃ y : ℝ, (argsK m c).X i = (y : EReal)) :
    (dats m 0 c).arrAt 3 cfg0.N = fun i => (argsK m c).out (i 0) (i 1) := by
  refine (dats m 0 c).arrAt_eq_of_covers 3 _ (by decide +kernel) fun s hf y => ?_
  blk_simp
  have e0 : (win0_3.blk s).view.emb y 0 = tok s (y 0) := Fin.ext (by blk_simp [idx3]; show s.val * 256 + _ = 256 * s.val + _; omega)
  have e1 : (win0_3.blk s).view.emb y 1 = y 1 := Fin.ext (by blk_simp [idx3])
  rw [e0, e1, after0_3]
  refine (out3_eq _ _ _ y).trans ?_
  unfold cols
  exact all_eq m c hX s _ (y 0) _ (y 1) rfl rfl

end Cert.Kernel8Ideal.Pv

end
-- ==== Proof.Pool.Ref.lean ====
/- What the reference of the odd layer's pooling mixer computes, element by element. -/
module

public import proofs.«01_k».proof.Proof.Gen.Reference8Ideal.Run
public import proofs.«01_k».proof.Proof.Pool.Spec

@[expose] public section

set_option maxRecDepth 16384

noncomputable section

namespace Cert.Reference8Ideal.Pv

open Cert.Reference8Ideal Cert.Reference8Ideal.Gen Cert.Reference8Ideal.Value Cert.Proj
open Idealize.ShloMosaic Idealize.ShloMosaic.TcCoe Idealize.ShloMosaic.StableHlo

variable (m : (ℓ : Loc nD τ sig) → Buf (Elt Ideal) ℓ) (ρ : Dev nD → PrngReg)

/-- The reference's arguments. -/
def argsR (c : Dev nD) : Pool where
  X := m ((c.tc : Thread nD τ).loc main_arg0)
  W := m ((c.tc : Thread nD τ).loc main_arg1)
  S := m ((c.tc : Thread nD τ).loc main_arg2)

/-- A group's pooled channels, of the windows' bounds and the channels. -/
def grp (lo hi it : IVec S32 32) (x : FVec Ideal S1024x32x128 .f32) : FVec Ideal S1024x32x128 .f32 :=
  subf (Host.divf (Host.reduceAdd (select (broadcastInDim S1024x32x32x128 ![0, 1, 2, 3] bcast_S1x32x32x1_S1024x32x32x128_0_1_2_3 (broadcastInDim S1x32x32x1 ![1, 2] bcast_S32x32_S1x32x32x1_1_2 (andi (cmpi .sge (broadcastInDim S32x32 ![0, 1] bcast_S1x32_S32x32_0_1 (broadcastInDim S1x32 ![1] bcast_S32_S1x32_1 it)) (broadcastInDim S32x32 ![0, 1] bcast_S32x1_S32x32_0_1 (broadcastInDim S32x1 ![0] bcast_S32_S32x1_0 lo))) (cmpi .slt (broadcastInDim S32x32 ![0, 1] bcast_S1x32_S32x32_0_1 (broadcastInDim S1x32 ![1] bcast_S32_S1x32_1 it)) (broadcastInDim S32x32 ![0, 1] bcast_S32x1_S32x32_0_1 (broadcastInDim S32x1 ![0] bcast_S32_S32x1_0 hi)))))) (broadcastInDim S1024x32x32x128 ![0, 1, 2, 3] bcast_S1024x1x32x128_S1024x32x32x128_0_1_2_3 (broadcastInDim S1024x1x32x128 ![0, 2, 3] bcast_S1024x32x128_S1024x1x32x128_0_2_3 x)) (broadcastInDim S1024x32x32x128 ![] bcast_S_S1024x32x32x128 (id (constant (F := Ideal) S_ .f32 0x00000000#32)))) (constant (F := Ideal) S_ .f32 0x00000000#32) reducesTo_S1024x32x32x128_S1024x32x128_d2 h_S_) (broadcastInDim S1024x32x128 ![0, 1, 2] bcast_S1x32x1_S1024x32x128_0_1_2 (broadcastInDim S1x32x1 ![1, 2] bcast_S32x1_S1x32x1_1_2 (broadcastInDim S32x1 ![0] bcast_S32_S32x1_0 (sitofp .f32 (subi hi lo)))))) x

theorem grp_eq (g : Fin 4) (lo hi it : IVec S32 32) (x : FVec Ideal S1024x32x128 .f32)
    (hl : ∀ t : Fin 32, lo (ix1 t) = BitVec.ofNat 32 (Pool.low g t.val)) (hh : ∀ t : Fin 32, hi (ix1 t) = BitVec.ofNat 32 (Pool.high g t.val))
    (hi' : ∀ t : Fin 32, it (ix1 t) = BitVec.ofNat 32 t.val) (n : Fin 1024) (t : Fin 32) (d : Fin 128) :
    grp lo hi it x (ix3 n t d) = Pool.mean g t.val (fun s => x (ix3 n s d)) (x (ix3 n t d)) := by
  pointwise [grp, id, constant]
  simp only [hl, hh, hi', Pool.near_bits g t, Pool.select_bits]
  rw [Pool.size_real g t]
  rfl

/-- A group's channels. -/
def chan (g : Fin 4) (x : FVec Ideal S32768x512 .f32) : FVec Ideal S1024x32x128 .f32 := fun i =>
  x (ix2 (⟨(i 0).val * 32 + (i 1).val, by have h0 : (i 0).val < 1024 := (i 0).isLt; have h1 : (i 1).val < 32 := (i 1).isLt; omega⟩ : Fin 32768)
    (⟨g.val * 128 + (i 2).val, by have h2 : (i 2).val < 128 := (i 2).isLt; omega⟩ : Fin 512))

variable (V0 : Valuation τ sig (Elt Ideal))

/-- The groups' pooled channels, put together. -/
def put (u : Fin 4 → FVec Ideal S1024x32x128 .f32) : FVec Ideal S1024x32x4x128 .f32 :=
  fn_main_v150 (F := Ideal) (broadcastInDim S1024x32x1x128 ![0, 1, 3] bcast_S1024x32x128_S1024x32x1x128_0_1_3 (u 0)) (broadcastInDim S1024x32x1x128 ![0, 1, 3] bcast_S1024x32x128_S1024x32x1x128_0_1_3 (u 1))
    (broadcastInDim S1024x32x1x128 ![0, 1, 3] bcast_S1024x32x128_S1024x32x1x128_0_1_3 (u 2)) (broadcastInDim S1024x32x1x128 ![0, 1, 3] bcast_S1024x32x128_S1024x32x1x128_0_1_3 (u 3))
theorem put_eq (u : Fin 4 → FVec Ideal S1024x32x128 .f32) (n : Fin 1024) (t : Fin 32) (g : Fin 4) (d : Fin 128) :
    put u (ix4 n t g d) = u g (ix3 n t d) := by
  fin_cases g
  all_goals
    pointwise [put, fn_main_v150]

theorem low0 (t : Fin 32) : res_main_v5 V0 (ix1 t) = BitVec.ofNat 32 (Pool.low 0 t.val) := by
  rw [← Pool.low_bits 0 t]
  rfl
theorem low1 (t : Fin 32) : res_main_v41 V0 (ix1 t) = BitVec.ofNat 32 (Pool.low 1 t.val) := by
  rw [← Pool.low_bits 1 t]
  rfl
theorem low2 (t : Fin 32) : res_main_v77 V0 (ix1 t) = BitVec.ofNat 32 (Pool.low 2 t.val) := by
  rw [← Pool.low_bits 2 t]
  rfl
theorem low3 (t : Fin 32) : res_main_v113 V0 (ix1 t) = BitVec.ofNat 32 (Pool.low 3 t.val) := by
  rw [← Pool.low_bits 3 t]
  rfl
theorem high0 (t : Fin 32) : res_main_v11 V0 (ix1 t) = BitVec.ofNat 32 (Pool.high 0 t.val) := by
  rw [← Pool.high_bits 0 t]
  rfl
theorem high1 (t : Fin 32) : res_main_v47 V0 (ix1 t) = BitVec.ofNat 32 (Pool.high 1 t.val) := by
  rw [← Pool.high_bits 1 t]
  rfl
theorem high2 (t : Fin 32) : res_main_v83 V0 (ix1 t) = BitVec.ofNat 32 (Pool.high 2 t.val) := by
  rw [← Pool.high_bits 2 t]
  rfl
theorem high3 (t : Fin 32) : res_main_v119 V0 (ix1 t) = BitVec.ofNat 32 (Pool.high 3 t.val) := by
  rw [← Pool.high_bits 3 t]
  rfl
theorem iota (t : Fin 32) : res_main_v1 V0 (ix1 t) = BitVec.ofNat 32 t.val := rfl

/-- The four groups. -/
def four : Fin 4 → FVec Ideal S1024x32x128 .f32 := ![
  grp (res_main_v5 V0) (res_main_v11 V0) (res_main_v1 V0) (shapeCast _ (extractStridedSlice S1024x32x1x128 ![0, 0, 0, 0] (res_main_v0 V0) slices_S1024x32x4x128_S1024x32x1x128_0_0_0_0) shapeCasts_S1024x32x1x128_S1024x32x128),
  grp (res_main_v41 V0) (res_main_v47 V0) (res_main_v1 V0) (shapeCast _ (extractStridedSlice S1024x32x1x128 ![0, 0, 1, 0] (res_main_v0 V0) slices_S1024x32x4x128_S1024x32x1x128_0_0_1_0) shapeCasts_S1024x32x1x128_S1024x32x128),
  grp (res_main_v77 V0) (res_main_v83 V0) (res_main_v1 V0) (shapeCast _ (extractStridedSlice S1024x32x1x128 ![0, 0, 2, 0] (res_main_v0 V0) slices_S1024x32x4x128_S1024x32x1x128_0_0_2_0) shapeCasts_S1024x32x1x128_S1024x32x128),
  grp (res_main_v113 V0) (res_main_v119 V0) (res_main_v1 V0) (shapeCast _ (extractStridedSlice S1024x32x1x128 ![0, 0, 3, 0] (res_main_v0 V0) slices_S1024x32x4x128_S1024x32x1x128_0_0_3_0) shapeCasts_S1024x32x1x128_S1024x32x128)]
theorem v150_put : res_main_v150 V0 = put (four V0) := rfl

theorem chan0 (n : Fin 1024) (s : Fin 32) (d : Fin 128) :
    shapeCast S1024x32x128 (extractStridedSlice S1024x32x1x128 ![0, 0, 0, 0] (res_main_v0 V0) slices_S1024x32x4x128_S1024x32x1x128_0_0_0_0) shapeCasts_S1024x32x1x128_S1024x32x128 (ix3 n s d)
      = chan 0 (V0 (Proc.devRef .tc main_arg0)) (ix3 n s d) := by
  pointwise [res_main_v0, chan]
theorem chan1 (n : Fin 1024) (s : Fin 32) (d : Fin 128) :
    shapeCast S1024x32x128 (extractStridedSlice S1024x32x1x128 ![0, 0, 1, 0] (res_main_v0 V0) slices_S1024x32x4x128_S1024x32x1x128_0_0_1_0) shapeCasts_S1024x32x1x128_S1024x32x128 (ix3 n s d)
      = chan 1 (V0 (Proc.devRef .tc main_arg0)) (ix3 n s d) := by
  pointwise [res_main_v0, chan]
theorem chan2 (n : Fin 1024) (s : Fin 32) (d : Fin 128) :
    shapeCast S1024x32x128 (extractStridedSlice S1024x32x1x128 ![0, 0, 2, 0] (res_main_v0 V0) slices_S1024x32x4x128_S1024x32x1x128_0_0_2_0) shapeCasts_S1024x32x1x128_S1024x32x128 (ix3 n s d)
      = chan 2 (V0 (Proc.devRef .tc main_arg0)) (ix3 n s d) := by
  pointwise [res_main_v0, chan]
theorem chan3 (n : Fin 1024) (s : Fin 32) (d : Fin 128) :
    shapeCast S1024x32x128 (extractStridedSlice S1024x32x1x128 ![0, 0, 3, 0] (res_main_v0 V0) slices_S1024x32x4x128_S1024x32x1x128_0_0_3_0) shapeCasts_S1024x32x1x128_S1024x32x128 (ix3 n s d)
      = chan 3 (V0 (Proc.devRef .tc main_arg0)) (ix3 n s d) := by
  pointwise [res_main_v0, chan]

/-- The pooled channels at a token's place in its column of 32. -/
theorem v150_eq (n : Fin 1024) (t : Fin 32) (g : Fin 4) (d : Fin 128) :
    res_main_v150 V0 (ix4 n t g d)
      = Pool.mean g t.val (fun s => chan g (V0 (Proc.devRef .tc main_arg0)) (ix3 n s d)) (chan g (V0 (Proc.devRef .tc main_arg0)) (ix3 n t d)) := by
  rw [v150_put]
  refine (put_eq (four V0) n t g d).trans ?_
  fin_cases g
  · refine (grp_eq 0 _ _ _ _ (low0 V0) (high0 V0) (iota V0) n t d).trans ?_
    exact congrArg₂ (Pool.mean 0 t.val) (funext fun s => chan0 V0 n s d) (chan0 V0 n t d)
  · refine (grp_eq 1 _ _ _ _ (low1 V0) (high1 V0) (iota V0) n t d).trans ?_
    exact congrArg₂ (Pool.mean 1 t.val) (funext fun s => chan1 V0 n s d) (chan1 V0 n t d)
  · refine (grp_eq 2 _ _ _ _ (low2 V0) (high2 V0) (iota V0) n t d).trans ?_
    exact congrArg₂ (Pool.mean 2 t.val) (funext fun s => chan2 V0 n s d) (chan2 V0 n t d)
  · refine (grp_eq 3 _ _ _ _ (low3 V0) (high3 V0) (iota V0) n t d).trans ?_
    exact congrArg₂ (Pool.mean 3 t.val) (funext fun s => chan3 V0 n s d) (chan3 V0 n t d)

/-- The reference's result is the shared function of its arguments. -/
theorem run_spec : θ_run defs (onTc (τ := τ) (main (F := Ideal))) ⟨m, fun _ => 0, ρ⟩ fun r => ∀ c : Dev nD,
      r.2.mem ((c.tc : Thread nD τ).loc main_v156) = fun i => (argsR m c).out (i 0) (i 1) := by
  refine (θ_run defs _ _).mono (fun r h c => ?_) (Cert.Reference8Ideal.Value.run m ρ)
  refine (h c).1.trans (funext fun i => ?_)
  clear h
  rw [eq_ix2 (n0 := 32768) (n1 := 512) i]
  obtain ⟨r, hr⟩ : ∃ r : Fin 32768, r = i 0 := ⟨_, rfl⟩
  obtain ⟨n, hn⟩ : ∃ n : Fin 512, n = i 1 := ⟨_, rfl⟩
  rw [← hr, ← hn]
  pointwise
  simp only [v150_eq]
  unfold Pool.out Pool.pooled
  refine congrArg (· * _) (Finset.sum_congr rfl fun d _ => (mul_comm _ _).trans ?_)
  have e : (⟨r.val / 32 * 32 + r.val % 32, by omega⟩ : Fin 32768) = r := Fin.ext (by show r.val / 32 * 32 + r.val % 32 = r.val; omega)
  refine congrArg (· * _) (congrArg (Pool.mean _ _ _) ?_)
  exact congrArg (fun q => (argsR m c).X (ix2 q (⟨n.val / 128 * 128 + d.val, by omega⟩ : Fin 512))) e

end Cert.Reference8Ideal.Pv

end
-- ==== Proof.Gates.Spec.lean ====
/- The mathematics that kernel and reference share: the gates of the odd layer's mLSTM. -/
module

public import proofs.«01_k».proof.Proof.Pool.Spec

@[expose] public section

noncomputable section

namespace Cert.Proj

open Idealize.ShloMosaic

/-- The argument arrays of the gates of samples of `T` tokens, whole chunks of 64: the channels, and the biases by row. -/
structure Gates (T : ℕ) where
  G : (⟨3, ![16, T, 128]⟩ : Shape).Idx → EReal
  B : (⟨2, ![8, 128]⟩ : Shape).Idx → EReal
  whole : T % 64 = 0

namespace Gates

/-- The logarithm of the sigmoid. -/
def lsg (x : EReal) : EReal := -(max (-x) 0 + Ideal.log1p (Ideal.exp (-(max (-x) (- -x)))))

theorem lsg_coe (y : ℝ) : ∃ z : ℝ, lsg (y : EReal) = (z : EReal) := by
  unfold lsg
  have h1 : (-(y : EReal)) = ((-y : ℝ) : EReal) := rfl
  have h2 : (-((-y : ℝ) : EReal)) = ((- -y : ℝ) : EReal) := rfl
  have h3 : max ((-y : ℝ) : EReal) ((- -y : ℝ) : EReal) = ((max (-y) (- -y) : ℝ) : EReal) := (EReal.coe_strictMono.monotone.map_max).symm
  have h4 : max ((-y : ℝ) : EReal) 0 = ((max (-y) 0 : ℝ) : EReal) := (EReal.coe_strictMono.monotone.map_max).symm
  have h5 : -((max (-y) (- -y) : ℝ) : EReal) = ((-(max (-y) (- -y)) : ℝ) : EReal) := rfl
  rw [h1, h2, h3, h4, h5]
  have h6 : Ideal.exp ((-(max (-y) (- -y)) : ℝ) : EReal) = ((Real.exp (-(max (-y) (- -y))) : ℝ) : EReal) := rfl
  rw [h6]
  unfold Ideal.log1p
  have h7 : (1 : EReal) + ((Real.exp (-(max (-y) (- -y))) : ℝ) : EReal) = ((1 + Real.exp (-(max (-y) (- -y))) : ℝ) : EReal) := rfl
  rw [h7]
  have hp : 0 < 1 + Real.exp (-(max (-y) (- -y))) := by positivity
  have h8 : Ideal.log ((1 + Real.exp (-(max (-y) (- -y))) : ℝ) : EReal) = ((Real.log (1 + Real.exp (-(max (-y) (- -y)))) : ℝ) : EReal) := by
    show (if _ then _ else _) = _
    first | exact if_neg (not_le.2 hp) | exact if_pos hp
  rw [h8]
  exact ⟨_, rfl⟩

/-! ## Lanes and the masks' entries, read off 32-bit words -/

theorem lane8 (l : ℕ) (h : l < 128) : IntOp.cmpi .slt (BitVec.ofNat 32 l) 8#32 = BitVec.ofBool (decide (l < 8)) :=
  (by decide +kernel : ∀ l : Fin 128, IntOp.cmpi .slt (BitVec.ofNat 32 l.val) 8#32 = BitVec.ofBool (decide (l.val < 8))) ⟨l, h⟩
theorem lane12 (l : ℕ) (h : l < 128) : IntOp.andi (IntOp.cmpi .sge (BitVec.ofNat 32 l) 8#32) (IntOp.cmpi .slt (BitVec.ofNat 32 l) 12#32)
    = BitVec.ofBool (decide (8 ≤ l ∧ l < 12)) :=
  (by decide +kernel : ∀ l : Fin 128, IntOp.andi (IntOp.cmpi .sge (BitVec.ofNat 32 l.val) 8#32) (IntOp.cmpi .slt (BitVec.ofNat 32 l.val) 12#32)
    = BitVec.ofBool (decide (8 ≤ l.val ∧ l.val < 12))) ⟨l, h⟩
theorem lane16 (l : ℕ) (h : l < 128) : IntOp.andi (IntOp.cmpi .sge (BitVec.ofNat 32 l) 12#32) (IntOp.cmpi .slt (BitVec.ofNat 32 l) 16#32)
    = BitVec.ofBool (decide (12 ≤ l ∧ l < 16)) :=
  (by decide +kernel : ∀ l : Fin 128, IntOp.andi (IntOp.cmpi .sge (BitVec.ofNat 32 l.val) 12#32) (IntOp.cmpi .slt (BitVec.ofNat 32 l.val) 16#32)
    = BitVec.ofBool (decide (12 ≤ l.val ∧ l.val < 16))) ⟨l, h⟩
theorem ge_bits : ∀ r s : Fin 64, IntOp.cmpi .sge (BitVec.ofNat 32 r.val) (BitVec.ofNat 32 s.val) = BitVec.ofBool (decide (s.val ≤ r.val)) := by decide +kernel
theorem le_bits : ∀ r s : Fin 64, IntOp.cmpi .sle (BitVec.ofNat 32 r.val) (BitVec.ofNat 32 s.val) = BitVec.ofBool (decide (r.val ≤ s.val)) := by decide +kernel
theorem same_bits (r s : Fin 64) : IntOp.cmpi .eq (BitVec.ofNat 32 r.val) (BitVec.ofNat 32 s.val) = BitVec.ofBool (decide (r.val = s.val)) :=
  Pool.eq_bits _ _ (by omega) (by omega)
theorem bit_real (p : Prop) [Decidable p] : (FloatOps.sitofp (F := Ideal) .f32 (BitVec.setWidth 32 (BitVec.ofBool (decide p))) : EReal) = if p then 1 else 0 := by
  by_cases h : p
  · rw [if_pos h, decide_eq_true h]
    show (((BitVec.setWidth 32 (BitVec.ofBool true)).toInt : ℝ) : EReal) = 1
    have e : (BitVec.setWidth 32 (BitVec.ofBool true)).toInt = 1 := by decide
    rw [e]; simp
  · rw [if_neg h, decide_eq_false h]
    show (((BitVec.setWidth 32 (BitVec.ofBool false)).toInt : ℝ) : EReal) = 0
    have e : (BitVec.setWidth 32 (BitVec.ofBool false)).toInt = 0 := by decide
    rw [e]; simp

/-- A masked sum in three parts, of numbers: the second and the third part are zeros. -/
theorem mask_sum (p : Fin 64 → Prop) [DecidablePred p] (x : Fin 64 → EReal) (h : ∀ s, ∃ y : ℝ, x s = (y : EReal)) :
    (∑ s, (if p s then (1 : EReal) else 0) * x s) + ((∑ s, (if p s then (1 : EReal) else 0) * (x s - x s))
      + ∑ s, (if p s then (1 : EReal) else 0) * (x s - x s - (x s - x s))) = ∑ s, if p s then x s else 0 := by
  have z : ∀ s, x s - x s = 0 := fun s => by
    obtain ⟨y, hy⟩ := h s
    rw [hy, ← EReal.coe_sub, sub_self, EReal.coe_zero]
  simp only [z, sub_zero, mul_zero, Finset.sum_const_zero, add_zero, ite_mul, one_mul, zero_mul]
/-- The same with the masks on the right. -/
theorem mask_sum' (p : Fin 64 → Prop) [DecidablePred p] (x : Fin 64 → EReal) (h : ∀ s, ∃ y : ℝ, x s = (y : EReal)) :
    (∑ s, x s * (if p s then (1 : EReal) else 0)) + ((∑ s, (x s - x s) * (if p s then (1 : EReal) else 0))
      + ∑ s, (x s - x s - (x s - x s)) * (if p s then (1 : EReal) else 0)) = ∑ s, if p s then x s else 0 := by
  rw [← mask_sum p x h]
  simp only [mul_comm]

/-- The gates of a chunk of 64 tokens, those of the forget gates summed up: from the chunk's first token on, or to its last. -/
def sums (g : Fin 64 → EReal) (l : ℕ) (r : Fin 64) : EReal :=
  if 8 ≤ l ∧ l < 12 then ∑ s, (if s.val ≤ r.val then g s else 0)
  else if 12 ≤ l ∧ l < 16 then ∑ s, (if r.val ≤ s.val then g s else 0) else g r

variable {T : ℕ} (A : Gates T)

/-- A token's gate: the logarithm of the input gate, or of the sigmoid. -/
def gate (b : Fin 16) (t : Fin T) (l : Fin 128) : EReal :=
  if l.val < 8 then A.G (ix3 b t l) + A.B (ix2 0 l) else lsg (A.G (ix3 b t l) + A.B (ix2 1 l))
/-- The columns. -/
def col (b : Fin 16) (t : Fin T) (l : Fin 128) : EReal :=
  sums (fun s => A.gate b ⟨t.val / 64 * 64 + s.val, by have := A.whole; omega⟩ l) l.val ⟨t.val % 64, by omega⟩
/-- The rows: a chunk's first 16 columns. -/
def row (b : Fin 16) (k : Fin (T / 64)) (s : Fin 16) (r : Fin 64) : EReal :=
  A.col b ⟨k.val * 64 + r.val, by have := A.whole; omega⟩ ⟨s.val, by omega⟩

/-- Every gate that is summed up or split is a number before its function. -/
def Finite : Prop := ∀ (b : Fin 16) (t : Fin T) (l : Fin 8),
  (∃ y : ℝ, A.G (ix3 b t (⟨l.val, by omega⟩ : Fin 128)) + A.B (ix2 0 (⟨l.val, by omega⟩ : Fin 128)) = (y : EReal))
    ∧ ∃ y : ℝ, A.G (ix3 b t (⟨8 + l.val, by omega⟩ : Fin 128)) + A.B (ix2 1 (⟨8 + l.val, by omega⟩ : Fin 128)) = (y : EReal)

theorem gate_real (h : A.Finite) (b : Fin 16) (t : Fin T) (l : Fin 128) (hl : l.val < 16) : ∃ y : ℝ, A.gate b t l = (y : EReal) := by
  unfold gate
  by_cases h8 : l.val < 8
  · rw [if_pos h8]
    exact (h b t ⟨l.val, h8⟩).1
  · rw [if_neg h8]
    obtain ⟨y, hy⟩ := (h b t ⟨l.val - 8, by omega⟩).2
    have e : (⟨8 + (l.val - 8), by omega⟩ : Fin 128) = l := Fin.ext (by show 8 + (l.val - 8) = l.val; omega)
    have hy' : A.G (ix3 b t l) + A.B (ix2 1 l) = (y : EReal) := by rw [← e]; exact hy
    rw [hy']
    exact lsg_coe y

end Gates

end Cert.Proj

end
-- ==== Proof.Gates.Kernel.lean ====
/- What the kernel of the gates leaves in its result arrays. -/
module

public import proofs.«01_k».proof.Proof.Gen.Kernel9Ideal.Value
public import Idealize.ShloMosaic.Lib.Pipeline.ValueKit.Point
public import Idealize.ShloMosaic.Lib.StableHlo.ReadAt
public import Idealize.ShloMosaic.Lib.WholeRead
public import proofs.«01_k».proof.Proof.Gates.Spec

@[expose] public section

set_option maxRecDepth 16384

noncomputable section

namespace Cert.Kernel9Ideal.Pv

open Cert.Kernel9Ideal Cert.Kernel9Ideal.Gen Cert.Proj
open Idealize.ShloMosaic Idealize.ShloMosaic.TcCoe

/-- The lanes' numbers, along rows and down columns. -/
abbrev lanes : IVec S64x128 32 := iota .tc S64x128 32 [1] iota_S64x128_d1_w32
abbrev downs : IVec S128x64 32 := iota .tc S128x64 32 [0] iota_S128x64_d0_w32

variable (v16 v17 : Vec Ideal S1x128 .f32) (v22 : Vec Ideal S1x64x128 .f32)

/-- A chunk's gates before they are summed up. -/
abbrev gat : FVec Ideal S64x128 .f32 := k0_pay4 lanes v16 v17 v22

theorem gat_eq (r : Fin 64) (l : Fin 128) : gat v16 v17 v22 (ix2 r l)
    = if l.val < 8 then v22 (ix3 0 r l) + v16 (ix2 0 l) else Gates.lsg (v22 (ix3 0 r l) + v17 (ix2 0 l)) := by
  pointwise [gat, k0_pay4]
  rw [Gates.lane8 _ l.isLt, Pool.select_bits]
  simp only [zero_sub]
  rfl
/-- The chunk's columns that are stored. -/
abbrev colp : FVec Ideal S1x64x128 .f32 :=
  k0_pay13 k0_pay2 (gat v16 v17 v22) (k0_pay5 lanes) (k0_pay6 lanes) (k0_pay10 k0_pay1 lanes v16 v17 v22)
    (k0_pay11 k0_pay1 lanes v16 v17 v22) (k0_pay12 k0_pay1 lanes v16 v17 v22)
theorem colp_eq (r : Fin 64) (l : Fin 128) (h : l.val < 16 → ∀ s : Fin 64, ∃ y : ℝ, gat v16 v17 v22 (ix2 s l) = (y : EReal)) :
    colp v16 v17 v22 (ix3 0 r l) = Gates.sums (fun s => gat v16 v17 v22 (ix2 s l)) l.val r := by
  pointwise [colp, k0_pay13, k0_pay2, k0_pay5, k0_pay6, k0_pay10, k0_pay11, k0_pay12, k0_pay1, k0_pay7, k0_pay8, k0_pay9]
  rw [Gates.lane12 _ l.isLt, Gates.lane16 _ l.isLt, Pool.select_bits, Pool.select_bits]
  simp only [Gates.ge_bits, Gates.le_bits, Gates.bit_real]
  unfold Gates.sums
  by_cases h1 : 8 ≤ l.val ∧ l.val < 12
  · rw [if_pos h1, if_pos h1]
    exact Gates.mask_sum (fun s => s.val ≤ r.val) (fun s => gat v16 v17 v22 (ix2 s l)) (h (by omega))
  rw [if_neg h1, if_neg h1]
  by_cases h2 : 12 ≤ l.val ∧ l.val < 16
  · rw [if_pos h2, if_pos h2]
    exact Gates.mask_sum (fun s => r.val ≤ s.val) (fun s => gat v16 v17 v22 (ix2 s l)) (h (by omega))
  · rw [if_neg h2, if_neg h2]
/-- The chunk's rows that are stored. -/
abbrev rowp (g : FVec Ideal S64x128 .f32) : FVec Ideal S1x1x16x64 .f32 :=
  k0_pay3 g (k0_pay14 downs) (k0_pay15 downs) (k0_pay16 k0_pay2 g) (k0_pay17 g) (k0_pay18 g) (k0_pay19 g) (k0_pay20 g)
theorem rowp_eq (g : FVec Ideal S64x128 .f32) (s : Fin 16) (r : Fin 64)
    (h : ∀ x : Fin 64, ∃ y : ℝ, g (ix2 x (⟨s.val, by omega⟩ : Fin 128)) = (y : EReal)) :
    rowp g (ix4 0 0 s r) = Gates.sums (fun x => g (ix2 x (⟨s.val, by omega⟩ : Fin 128))) s.val r := by
  pointwise [rowp, k0_pay3, k0_pay2, k0_pay14, k0_pay15, k0_pay16, k0_pay17, k0_pay18, k0_pay19, k0_pay20, k0_pay1]
  rw [Gates.lane12 s.val (by omega), Gates.lane16 s.val (by omega), Pool.select_bits, Pool.select_bits]
  simp only [Gates.ge_bits, Gates.le_bits, Gates.same_bits, Gates.bit_real]
  unfold Gates.sums
  by_cases h1 : 8 ≤ s.val ∧ s.val < 12
  · rw [if_pos h1, if_pos h1]
    exact Gates.mask_sum' (fun x => x.val ≤ r.val) (fun x => g (ix2 x (⟨s.val, by omega⟩ : Fin 128))) h
  rw [if_neg h1, if_neg h1]
  by_cases h2 : 12 ≤ s.val ∧ s.val < 16
  · rw [if_pos h2, if_pos h2]
    exact Gates.mask_sum' (fun x => r.val ≤ x.val) (fun x => g (ix2 x (⟨s.val, by omega⟩ : Fin 128))) h
  rw [if_neg h2, if_neg h2]
  refine (Gates.mask_sum' (fun x => x.val = r.val) (fun x => g (ix2 x (⟨s.val, by omega⟩ : Fin 128))) h).trans ?_
  simp only [← Fin.ext_iff, Finset.sum_ite_eq', Finset.mem_univ, if_true]

/-! ## A point's blocks -/

variable (x0 : Vec Ideal S1x256x128 .f32) (x1 : Vec Ideal S8x128 .f32)

/-- A token's gate, of the point's blocks. -/
def one (t : Fin 256) (l : Fin 128) : EReal :=
  if l.val < 8 then x0 (ix3 0 t l) + x1 (ix2 0 l) else Gates.lsg (x0 (ix3 0 t l) + x1 (ix2 1 l))
/-- The columns, of the point's blocks. -/
def two (t : Fin 256) (l : Fin 128) : EReal :=
  Gates.sums (fun s => one x0 x1 ⟨t.val / 64 * 64 + s.val, by omega⟩ l) l.val ⟨t.val % 64, by omega⟩
/-- The columns and the rows, as functions of the index in the block. -/
def blkC (y : S1x256x128.Idx) : EReal := two x0 x1 (y 1) (y 2)
def blkR (y : S1x4x16x64.Idx) : EReal :=
  two x0 x1 ⟨(y 1).val * 64 + (y 3).val, by have h1 : (y 1).val < 4 := (y 1).isLt; have h3 : (y 3).val < 64 := (y 3).isLt; omega⟩
    ⟨(y 2).val, by have h2 : (y 2).val < 16 := (y 2).isLt; omega⟩

variable (c : Dev nD) (i : grid0.Coords) (arg1 : Memref sig .tc .vmem S1x256x128 .f32) (harg1 : arg1.IsWhole) (arg2 : Memref sig .tc .vmem S8x128 .f32) (harg2 : arg2.IsWhole)
  (arg3 : Memref sig .tc .vmem S1x256x128 .f32) (harg3 : arg3.IsWhole) (arg4 : Memref sig .tc .vmem S1x4x16x64 .f32) (harg4 : arg4.IsWhole)

/-- The biases' rows and a chunk's channels, as the kernel reads them. -/
abbrev ld16 : Vec Ideal S1x128 .f32 := View.readAt (Elt Ideal) arg2.view (Rect.unit (s := S8x128) ![0, 0] S1x128.size inb_S8x128_S1x128_0_0).toLoadRect (harg2.unread x1)
abbrev ld17 : Vec Ideal S1x128 .f32 := View.readAt (Elt Ideal) arg2.view (Rect.unit (s := S8x128) ![1, 0] S1x128.size inb_S8x128_S1x128_1_0).toLoadRect (harg2.unread x1)
abbrev ld22 (k : Fin k0_t1_loop.trips) : Vec Ideal S1x64x128 .f32 :=
  View.readAt (Elt Ideal) arg1.view (Rect.unit (s := S1x256x128) (k0_off1 k) S1x64x128.size (k0_off1_inb k)).toLoadRect (harg1.unread x0)

theorem ld16_eq (l : Fin 128) : ld16 x1 arg2 harg2 (ix2 0 l) = x1 (ix2 0 l) := by
  refine (harg2.readAt_unread _ _ _).trans (congrArg x1 (funext fun a => Fin.ext ?_))
  match a with
  | ⟨0, _⟩ => rfl
  | ⟨1, _⟩ => exact (Rect.idx_unit_val _ _ _ _ _).trans (Nat.zero_add _)
theorem ld17_eq (l : Fin 128) : ld17 x1 arg2 harg2 (ix2 0 l) = x1 (ix2 1 l) := by
  refine (harg2.readAt_unread _ _ _).trans (congrArg x1 (funext fun a => Fin.ext ?_))
  match a with
  | ⟨0, _⟩ => rfl
  | ⟨1, _⟩ => exact (Rect.idx_unit_val _ _ _ _ _).trans (Nat.zero_add _)
theorem lt4 (k : Fin k0_t1_loop.trips) : k.val < 4 := Nat.lt_of_lt_of_le k.isLt k0_t1_abs.2.1
theorem ld22_eq (k : Fin k0_t1_loop.trips) (r : Fin 64) (l : Fin 128) :
    ld22 x0 arg1 harg1 k (ix3 0 r l) = x0 (ix3 0 (⟨64 * k.val + r.val, by have := lt4 k; omega⟩ : Fin 256) l) := by
  refine (harg1.readAt_unread _ _ _).trans (congrArg x0 (funext fun a => Fin.ext ?_))
  refine (Rect.idx_unit_val _ _ _ _ _).trans ((congrArg (· + _) (congrFun (k0_off1_eq k) a)).trans ?_)
  match a with
  | ⟨0, _⟩ => rfl
  | ⟨1, _⟩ => rfl
  | ⟨2, _⟩ => exact Nat.zero_add _

/-- A chunk's gates are the block's. -/
theorem gat_one (k : Fin k0_t1_loop.trips) (r : Fin 64) (l : Fin 128) :
    gat (ld16 x1 arg2 harg2) (ld17 x1 arg2 harg2) (ld22 x0 arg1 harg1 k) (ix2 r l) = one x0 x1 ⟨64 * k.val + r.val, by have := lt4 k; omega⟩ l := by
  rw [gat_eq, ld16_eq, ld17_eq, ld22_eq]
  rfl
theorem two_at (k : Fin k0_t1_loop.trips) (r : Fin 64) (l : Fin 128) (t : Fin 256) (ht : t.val = 64 * k.val + r.val) :
    Gates.sums (fun s => one x0 x1 ⟨64 * k.val + s.val, by have := lt4 k; omega⟩ l) l.val r = two x0 x1 t l := by
  unfold two
  have e1 : (⟨t.val % 64, by omega⟩ : Fin 64) = r := Fin.ext (by show t.val % 64 = r.val; omega)
  rw [e1]
  refine congrArg (fun f => Gates.sums f l.val r) (funext fun s => congrArg (fun q => one x0 x1 q l) (Fin.ext ?_))
  show 64 * k.val + s.val = t.val / 64 * 64 + s.val
  omega

variable (hf : ∀ (t : Fin 256) (l : Fin 128), l.val < 16 → ∃ y : ℝ, one x0 x1 t l = (y : EReal))
include hf

theorem trip_col (k : Fin k0_t1_loop.trips) :
    ∀ p ∈ (trip_k0_t1 (F := Ideal) Variants.none c none i arg1 harg1 arg2 harg2 arg3 harg3 arg4 harg4 lanes downs (ld16 x1 arg2 harg2) (ld17 x1 arg2 harg2) (harg1.unread x0) k).1,
      ∀ x : p.1.shape.Idx, p.2 x = blkC x0 x1 (p.1.emb x) := by
  unfold trip_k0_t1
  dsimp only
  simp only [List.forall_mem_cons, List.not_mem_nil, false_imp_iff, implies_true, and_true]
  intro x
  obtain ⟨r, hr⟩ : ∃ r : Fin 64, r = x 1 := ⟨_, rfl⟩
  obtain ⟨l, hl⟩ : ∃ l : Fin 128, l = x 2 := ⟨_, rfl⟩
  have hx : x = (ix3 0 r l : S1x64x128.Idx) := by
    rw [hr, hl]
    exact (eq_ix3 (n0 := 1) (n1 := 64) (n2 := 128) x).trans (by congr 1; exact Subsingleton.elim (α := Fin 1) _ _)
  refine (congrArg _ hx).trans ((colp_eq _ _ (ld22 x0 arg1 harg1 k) r l fun h s => ?_).trans ?_)
  · rw [gat_one]
    exact hf _ _ h
  · have e := fun s : Fin 64 => gat_one x0 x1 arg1 harg1 arg2 harg2 k s l
    refine (congrArg (fun f => Gates.sums f l.val r) (funext e)).trans ?_
    refine (two_at x0 x1 k r l _ ?_).trans (congrArg (two x0 x1 _) (Fin.ext ?_))
    · exact (Rect.idx_unit_val _ _ _ x 1).trans (congrArg₂ (· + ·) (congrFun (k0_off1_eq k) 1) (congrArg Fin.val hr.symm))
    · exact ((Rect.idx_unit_val _ _ _ x 2).trans ((congrArg₂ (· + ·) (congrFun (k0_off1_eq k) 2) (congrArg Fin.val hl.symm)).trans (Nat.zero_add _))).symm
theorem trip_row (k : Fin k0_t1_loop.trips) :
    ∀ p ∈ (trip_k0_t1 (F := Ideal) Variants.none c none i arg1 harg1 arg2 harg2 arg3 harg3 arg4 harg4 lanes downs (ld16 x1 arg2 harg2) (ld17 x1 arg2 harg2) (harg1.unread x0) k).2.1,
      ∀ x : p.1.shape.Idx, p.2 x = blkR x0 x1 (p.1.emb x) := by
  unfold trip_k0_t1
  dsimp only
  simp only [List.forall_mem_cons, List.not_mem_nil, false_imp_iff, implies_true, and_true]
  intro x
  obtain ⟨s, hs⟩ : ∃ s : Fin 16, s = x 2 := ⟨_, rfl⟩
  obtain ⟨r, hr⟩ : ∃ r : Fin 64, r = x 3 := ⟨_, rfl⟩
  have hx : x = (ix4 0 0 s r : S1x1x16x64.Idx) := by
    rw [hs, hr]
    exact (eq_ix4 (n0 := 1) (n1 := 1) (n2 := 16) (n3 := 64) x).trans (by congr 1 <;> exact Subsingleton.elim (α := Fin 1) _ _)
  refine (congrArg _ hx).trans ((rowp_eq (gat (ld16 x1 arg2 harg2) (ld17 x1 arg2 harg2) (ld22 x0 arg1 harg1 k)) s r fun t => ?_).trans ?_)
  · rw [gat_one]
    exact hf _ _ s.isLt
  · have e := fun t : Fin 64 => gat_one x0 x1 arg1 harg1 arg2 harg2 k t (⟨s.val, by omega⟩ : Fin 128)
    refine (congrArg (fun f => Gates.sums f s.val r) (funext e)).trans ?_
    have e1 := (Rect.idx_unit_val _ _ (k0_off2_inb k) x 1).trans (congrArg₂ (· + ·) (congrFun (k0_off2_eq k) 1) (Nat.lt_one_iff.1 (x 1).isLt))
    have e2 := (Rect.idx_unit_val _ _ (k0_off2_inb k) x 2).trans (congrArg₂ (· + ·) (congrFun (k0_off2_eq k) 2) (congrArg Fin.val hs.symm))
    have e3 := (Rect.idx_unit_val _ _ (k0_off2_inb k) x 3).trans (congrArg₂ (· + ·) (congrFun (k0_off2_eq k) 3) (congrArg Fin.val hr.symm))
    refine (two_at x0 x1 k r (⟨s.val, by omega⟩ : Fin 128) _ ?_).trans (congrArg (two x0 x1 _) (Fin.ext (e2.trans (Nat.zero_add _)).symm))
    refine (congrArg₂ (fun a b => a * 64 + b) e1 e3).trans ?_
    show (k.val + 0) * 64 + (0 + r.val) = 64 * k.val + r.val
    omega

theorem all_col : ∀ n, ∀ p ∈ (pb_k0_t1 (F := Ideal) Variants.none c none i arg1 harg1 arg2 harg2 arg3 harg3 arg4 harg4 lanes downs (ld16 x1 arg2 harg2) (ld17 x1 arg2 harg2) (harg1.unread x0) n).1,
      ∀ x : p.1.shape.Idx, p.2 x = blkC x0 x1 (p.1.emb x)
  | 0 => fun p hp => by rw [pb_k0_t1.eq_1] at hp; exact absurd hp List.not_mem_nil
  | n + 1 => fun p hp => by
    by_cases hn : n < k0_t1_loop.trips
    · rw [pb_k0_t1_succ Variants.none c none i arg1 harg1 arg2 harg2 arg3 harg3 arg4 harg4 lanes downs _ _ _ ⟨n, hn⟩] at hp
      rcases List.mem_append.1 hp with h | h
      · exact trip_col x0 x1 c i arg1 harg1 arg2 harg2 arg3 harg3 arg4 harg4 hf ⟨n, hn⟩ p h
      · exact all_col n p h
    · rw [pb_k0_t1.eq_2] at hp
      unfold pb_k0_t1Step at hp
      rw [dif_neg hn] at hp
      exact all_col n p hp
theorem all_row : ∀ n, ∀ p ∈ (pb_k0_t1 (F := Ideal) Variants.none c none i arg1 harg1 arg2 harg2 arg3 harg3 arg4 harg4 lanes downs (ld16 x1 arg2 harg2) (ld17 x1 arg2 harg2) (harg1.unread x0) n).2,
      ∀ x : p.1.shape.Idx, p.2 x = blkR x0 x1 (p.1.emb x)
  | 0 => fun p hp => by rw [pb_k0_t1.eq_1] at hp; exact absurd hp List.not_mem_nil
  | n + 1 => fun p hp => by
    by_cases hn : n < k0_t1_loop.trips
    · rw [pb_k0_t1_succ Variants.none c none i arg1 harg1 arg2 harg2 arg3 harg3 arg4 harg4 lanes downs _ _ _ ⟨n, hn⟩] at hp
      rcases List.mem_append.1 hp with h | h
      · exact trip_row x0 x1 c i arg1 harg1 arg2 harg2 arg3 harg3 arg4 harg4 hf ⟨n, hn⟩ p h
      · exact all_row n p h
    · rw [pb_k0_t1.eq_2] at hp
      unfold pb_k0_t1Step at hp
      rw [dif_neg hn] at hp
      exact all_row n p hp

theorem out2_eq (y : S1x256x128.Idx) : out0_A_2 c i arg1 harg1 arg2 harg2 arg3 harg3 arg4 harg4 x0 x1 y = blkC x0 x1 y := by
  have hc := cover0_A_2 c i arg1 harg1 arg2 harg2 arg3 harg3 arg4 harg4 x0 x1 y
  refine (View.read_writes_apply_eq_canon (Val := Elt Ideal) VO0_2 _ y _ hc).trans
    (View.canon_apply_of_pieces (Val := Elt Ideal) (e := .f32) (blkC x0 x1) _ ?_ y hc)
  unfold kernelRun0_A
  exact all_col x0 x1 c i arg1 harg1 arg2 harg2 arg3 harg3 arg4 harg4 hf _
theorem out3_eq (y : S1x4x16x64.Idx) : out0_A_3 c i arg1 harg1 arg2 harg2 arg3 harg3 arg4 harg4 x0 x1 y = blkR x0 x1 y := by
  have hc := cover0_A_3 c i arg1 harg1 arg2 harg2 arg3 harg3 arg4 harg4 x0 x1 y
  refine (View.read_writes_apply_eq_canon (Val := Elt Ideal) VO0_3 _ y _ hc).trans
    (View.canon_apply_of_pieces (Val := Elt Ideal) (e := .f32) (blkR x0 x1) _ ?_ y hc)
  unfold kernelRun0_A
  exact all_row x0 x1 c i arg1 harg1 arg2 harg2 arg3 harg3 arg4 harg4 hf _

omit hf

/-! ## The run -/

variable (m : (ℓ : Loc nD τ sig) → Buf (Elt Ideal) ℓ)

/-- The kernel's arguments. -/
def argsK (c : Dev nD) : Gates 256 where
  G := m ((c : Thread nD τ).loc main_arg0)
  B := m ((c : Thread nD τ).loc main_arg1)
  whole := rfl

theorem idx0 : ∀ t : Fin cfg0.N, win0_0.index t = ![t.val, 0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0, 0] := (by decide +kernel : ∀ t : Fin grid0.N, _)
theorem idx3 : ∀ t : Fin cfg0.N, win0_3.index t = ![t.val, 0, 0, 0] := (by decide +kernel : ∀ t : Fin grid0.N, _)

theorem lt16 (t : Fin cfg0.N) : t.val < 16 := lt_of_lt_of_eq t.isLt N_0

theorem blk0 (t : Fin cfg0.N) (r : Fin 256) (l : Fin 128) : iblk m c 0 t (ix3 0 r l) = (argsK m c).G (ix3 (⟨t.val, lt16 t⟩ : Fin 16) r l) := by
  refine Eq.trans ?_ (congrFun (V_main_arg0 m c) _)
  blk_ext [iblk, idx0]
theorem blk1 (t : Fin cfg0.N) (a : Fin 8) (l : Fin 128) : iblk m c 1 t (ix2 a l) = (argsK m c).B (ix2 a l) := by
  refine Eq.trans ?_ (congrFun (V_main_arg1 m c) _)
  blk_ext [iblk, idx1]

theorem one_eq (t : Fin cfg0.N) (r : Fin 256) (l : Fin 128) : one (iblk m c 0 t) (iblk m c 1 t) r l = (argsK m c).gate ⟨t.val, lt16 t⟩ r l := by
  unfold one Gates.gate
  rw [blk0, blk1, blk1]
theorem two_eq (t : Fin cfg0.N) (r : Fin 256) (l : Fin 128) : two (iblk m c 0 t) (iblk m c 1 t) r l = (argsK m c).col ⟨t.val, lt16 t⟩ r l := by
  unfold two Gates.col
  simp only [one_eq]

/-- The columns as the region leaves them. -/
theorem final2 (h : (argsK m c).Finite) : (dats m 0 c).arrAt 2 cfg0.N = fun i => (argsK m c).col (i 0) (i 1) (i 2) := by
  refine (dats m 0 c).arrAt_eq_of_covers 2 _ (by decide +kernel) fun s hs y => ?_
  blk_simp
  have e0 : (win0_2.blk s).view.emb y 0 = (⟨s.val, lt16 s⟩ : Fin 16) := Fin.ext (by blk_simp [idx2])
  have e1 : (win0_2.blk s).view.emb y 1 = y 1 := Fin.ext (by blk_simp [idx2])
  have e2 : (win0_2.blk s).view.emb y 2 = y 2 := Fin.ext (by blk_simp [idx2])
  rw [e0, e1, e2, after0_2]
  refine (out2_eq _ _ _ _ _ _ _ _ _ _ _ _ (fun t l hl => ?_) y).trans (two_eq c m s _ _)
  rw [one_eq]
  exact (argsK m c).gate_real h _ t l hl
/-- The rows as the region leaves them. -/
theorem final3 (h : (argsK m c).Finite) : (dats m 0 c).arrAt 3 cfg0.N = fun i => (argsK m c).row (i 0) (i 1) (i 2) (i 3) := by
  refine (dats m 0 c).arrAt_eq_of_covers 3 _ (by decide +kernel) fun s hs y => ?_
  blk_simp
  have e0 : (win0_3.blk s).view.emb y 0 = (⟨s.val, lt16 s⟩ : Fin 16) := Fin.ext (by blk_simp [idx3])
  have e1 : (win0_3.blk s).view.emb y 1 = y 1 := Fin.ext (by blk_simp [idx3])
  have e2 : (win0_3.blk s).view.emb y 2 = y 2 := Fin.ext (by blk_simp [idx3])
  have e3 : (win0_3.blk s).view.emb y 3 = y 3 := Fin.ext (by blk_simp [idx3])
  rw [e0, e1, e2, e3, after0_3]
  refine (out3_eq _ _ _ _ _ _ _ _ _ _ _ _ (fun t l hl => ?_) y).trans (two_eq c m s _ _)
  rw [one_eq]
  exact (argsK m c).gate_real h _ t l hl

end Cert.Kernel9Ideal.Pv

end
-- ==== Proof.Gates.Ref.lean ====
/- What the reference of the mLSTM's gates computes, element by element. -/
module

public import proofs.«01_k».proof.Proof.Gen.Reference9Ideal.Run
public import proofs.«01_k».proof.Proof.Gates.Spec

@[expose] public section

set_option maxRecDepth 16384

noncomputable section

namespace Cert.Reference9Ideal.Pv

open Cert.Reference9Ideal Cert.Reference9Ideal.Gen Cert.Reference9Ideal.Value Cert.Proj
open Idealize.ShloMosaic Idealize.ShloMosaic.TcCoe Idealize.ShloMosaic.StableHlo

variable (m : (ℓ : Loc nD τ sig) → Buf (Elt Ideal) ℓ) (ρ : Dev nD → PrngReg) (c : Dev nD)

/-- The reference's arguments. -/
def argsR : Gates 256 where
  G := m ((c.tc : Thread nD τ).loc main_arg0)
  B := m ((c.tc : Thread nD τ).loc main_arg1)
  whole := rfl

/-- The logarithms of the input gates. -/
def logi : FVec Ideal S16x256x8 .f32 :=
  addf (extractStridedSlice S16x256x8 ![0, 0, 0] (m ((c.tc : Thread nD τ).loc main_arg0)) slices_S16x256x128_S16x256x8_0_0_0) (broadcastInDim S16x256x8 ![0, 1, 2] bcast_S1x1x8_S16x256x8_0_1_2 (broadcastInDim S1x1x8 ![2] bcast_S8_S1x1x8_2 (shapeCast _ (extractStridedSlice S1x8 ![0, 0] (m ((c.tc : Thread nD τ).loc main_arg1)) slices_S8x128_S1x8_0_0) shapeCasts_S1x8_S8)))
theorem logi_eq (b : Fin 16) (t : Fin 256) (l : Fin 8) :
    logi m c (ix3 b t l) = (argsR m c).G (ix3 b t (⟨l.val, by omega⟩ : Fin 128)) + (argsR m c).B (ix2 0 (⟨l.val, by omega⟩ : Fin 128)) := by
  pointwise [logi]
  rfl

/-- The other gates before the sigmoid. -/
def open8 : FVec Ideal S16x256x120 .f32 :=
  addf (extractStridedSlice S16x256x120 ![0, 0, 8] (m ((c.tc : Thread nD τ).loc main_arg0)) slices_S16x256x128_S16x256x120_0_0_8) (broadcastInDim S16x256x120 ![0, 1, 2] bcast_S1x1x120_S16x256x120_0_1_2 (broadcastInDim S1x1x120 ![2] bcast_S120_S1x1x120_2 (shapeCast _ (extractStridedSlice S1x120 ![1, 8] (m ((c.tc : Thread nD τ).loc main_arg1)) slices_S8x128_S1x120_1_8) shapeCasts_S1x120_S120)))
theorem open8_eq (b : Fin 16) (t : Fin 256) (l : Fin 120) :
    open8 m c (ix3 b t l) = (argsR m c).G (ix3 b t (⟨8 + l.val, by omega⟩ : Fin 128)) + (argsR m c).B (ix2 1 (⟨8 + l.val, by omega⟩ : Fin 128)) := by
  pointwise [open8]
  rfl

/-- The logarithm of the sigmoid of every gate. -/
def logsig (z : FVec Ideal S16x256x120 .f32) : FVec Ideal S16x256x120 .f32 :=
  Host.negf (select (cmpf .une (subf (Host.negf z) (broadcastInDim S16x256x120 ![] bcast_S_S16x256x120 (constant (F := Ideal) S_ .f32 0x00000000#32))) (subf (Host.negf z) (broadcastInDim S16x256x120 ![] bcast_S_S16x256x120 (constant (F := Ideal) S_ .f32 0x00000000#32)))) (addf (Host.negf z) (broadcastInDim S16x256x120 ![] bcast_S_S16x256x120 (constant (F := Ideal) S_ .f32 0x00000000#32))) (addf (maximumf (Host.negf z) (broadcastInDim S16x256x120 ![] bcast_S_S16x256x120 (constant (F := Ideal) S_ .f32 0x00000000#32))) (Host.log1p (Host.exp (Host.negf (Host.absf (subf (Host.negf z) (broadcastInDim S16x256x120 ![] bcast_S_S16x256x120 (constant (F := Ideal) S_ .f32 0x00000000#32)))))))))
theorem logsig_eq (z : FVec Ideal S16x256x120 .f32) (b : Fin 16) (t : Fin 256) (l : Fin 120) : logsig z (ix3 b t l) = Gates.lsg (z (ix3 b t l)) := by
  pointwise [logsig, constant]
  rw [if_neg (fun h => h rfl)]
  rfl

/-- The sums from the chunk's first token on. -/
def fwd (x : FVec Ideal S16x256x120 .f32) : FVec Ideal S16x256x4 .f32 :=
  shapeCast _ (Host.reduceAdd (select (broadcastInDim S16x4x64x64x4 ![0, 1, 2, 3, 4] bcast_S1x1x64x64x1_S16x4x64x64x4_0_1_2_3_4 (broadcastInDim S1x1x64x64x1 ![2, 3] bcast_S64x64_S1x1x64x64x1_2_3 (cmpi .sle (broadcastInDim S64x64 ![0, 1] bcast_S1x64_S64x64_0_1 (broadcastInDim S1x64 ![1] bcast_S64_S1x64_1 (iotaInDim S64 32 0))) (broadcastInDim S64x64 ![0, 1] bcast_S64x1_S64x64_0_1 (broadcastInDim S64x1 ![0] bcast_S64_S64x1_0 (iotaInDim S64 32 0)))))) (broadcastInDim S16x4x64x64x4 ![0, 1, 2, 3, 4] bcast_S16x4x1x64x4_S16x4x64x64x4_0_1_2_3_4 (broadcastInDim S16x4x1x64x4 ![0, 1, 3, 4] bcast_S16x4x64x4_S16x4x1x64x4_0_1_3_4 (extractStridedSlice S16x4x64x4 ![0, 0, 0, 0] (shapeCast _ x shapeCasts_S16x256x120_S16x4x64x120) slices_S16x4x64x120_S16x4x64x4_0_0_0_0))) (broadcastInDim S16x4x64x64x4 ![] bcast_S_S16x4x64x64x4 (id (constant (F := Ideal) S_ .f32 0x00000000#32)))) (constant (F := Ideal) S_ .f32 0x00000000#32) reducesTo_S16x4x64x64x4_S16x4x64x4_d3 h_S_) shapeCasts_S16x4x64x4_S16x256x4
theorem fwd_eq (x : FVec Ideal S16x256x120 .f32) (b : Fin 16) (t : Fin 256) (l : Fin 4) :
    fwd x (ix3 b t l) = ∑ s : Fin 64, if s.val ≤ t.val % 64 then x (ix3 b (⟨t.val / 64 * 64 + s.val, by omega⟩ : Fin 256) (⟨l.val, by omega⟩ : Fin 120)) else 0 := by
  pointwise [fwd, id, constant]
  exact Finset.sum_congr rfl fun s _ => by rw [Gates.le_bits s ⟨t.val % 64, by omega⟩, Pool.select_bits]
/-- The sums to the chunk's last token. -/
def bwd (x : FVec Ideal S16x256x120 .f32) : FVec Ideal S16x256x4 .f32 :=
  shapeCast _ (Host.reduceAdd (select (broadcastInDim S16x4x64x64x4 ![0, 1, 2, 3, 4] bcast_S1x1x64x64x1_S16x4x64x64x4_0_1_2_3_4 (broadcastInDim S1x1x64x64x1 ![2, 3] bcast_S64x64_S1x1x64x64x1_2_3 (cmpi .sge (broadcastInDim S64x64 ![0, 1] bcast_S1x64_S64x64_0_1 (broadcastInDim S1x64 ![1] bcast_S64_S1x64_1 (iotaInDim S64 32 0))) (broadcastInDim S64x64 ![0, 1] bcast_S64x1_S64x64_0_1 (broadcastInDim S64x1 ![0] bcast_S64_S64x1_0 (iotaInDim S64 32 0)))))) (broadcastInDim S16x4x64x64x4 ![0, 1, 2, 3, 4] bcast_S16x4x1x64x4_S16x4x64x64x4_0_1_2_3_4 (broadcastInDim S16x4x1x64x4 ![0, 1, 3, 4] bcast_S16x4x64x4_S16x4x1x64x4_0_1_3_4 (extractStridedSlice S16x4x64x4 ![0, 0, 0, 4] (shapeCast _ x shapeCasts_S16x256x120_S16x4x64x120) slices_S16x4x64x120_S16x4x64x4_0_0_0_4))) (broadcastInDim S16x4x64x64x4 ![] bcast_S_S16x4x64x64x4 (id (constant (F := Ideal) S_ .f32 0x00000000#32)))) (constant (F := Ideal) S_ .f32 0x00000000#32) reducesTo_S16x4x64x64x4_S16x4x64x4_d3 h_S_) shapeCasts_S16x4x64x4_S16x256x4
theorem bwd_eq (x : FVec Ideal S16x256x120 .f32) (b : Fin 16) (t : Fin 256) (l : Fin 4) :
    bwd x (ix3 b t l) = ∑ s : Fin 64, if t.val % 64 ≤ s.val then x (ix3 b (⟨t.val / 64 * 64 + s.val, by omega⟩ : Fin 256) (⟨4 + l.val, by omega⟩ : Fin 120)) else 0 := by
  pointwise [bwd, id, constant]
  exact Finset.sum_congr rfl fun s _ => by rw [Gates.ge_bits s ⟨t.val % 64, by omega⟩, Pool.select_bits]
/-- The gates that are handed on as they are. -/
def rest (x : FVec Ideal S16x256x120 .f32) : FVec Ideal S16x256x112 .f32 :=
  extractStridedSlice S16x256x112 ![0, 0, 8] x slices_S16x256x120_S16x256x112_0_0_8
theorem rest_eq (x : FVec Ideal S16x256x120 .f32) (b : Fin 16) (t : Fin 256) (l : Fin 112) : rest x (ix3 b t l) = x (ix3 b t (⟨8 + l.val, by omega⟩ : Fin 120)) := by
  pointwise [rest]

theorem put_eq (u0 : FVec Ideal S16x256x8 .f32) (u1 u2 : FVec Ideal S16x256x4 .f32) (u3 : FVec Ideal S16x256x112 .f32) (b : Fin 16) (t : Fin 256) (l : Fin 128) :
    fn_main_v38 (F := Ideal) u0 u1 u2 u3 (ix3 b t l)
      = if h : l.val < 8 then u0 (ix3 b t (⟨l.val, h⟩ : Fin 8))
        else if h1 : l.val - 8 < 4 then u1 (ix3 b t (⟨l.val - 8, h1⟩ : Fin 4))
        else if h2 : l.val - 8 - 4 < 4 then u2 (ix3 b t (⟨l.val - 8 - 4, h2⟩ : Fin 4)) else u3 (ix3 b t (⟨l.val - 8 - 4 - 4, by omega⟩ : Fin 112)) := by
  pointwise [fn_main_v38]

theorem v38_eq : res_main_v38 m c = fn_main_v38 (F := Ideal) (logi m c) (fwd (logsig (open8 m c))) (bwd (logsig (open8 m c))) (rest (logsig (open8 m c))) := rfl
theorem v41_eq (b : Fin 16) (k : Fin 4) (s : Fin 16) (r : Fin 64) :
    res_main_v41 m c (ix4 b k s r) = res_main_v38 m c (ix3 b (⟨k.val * 64 + r.val, by omega⟩ : Fin 256) (⟨s.val, by omega⟩ : Fin 128)) := by
  have e : res_main_v41 m c = transpose S16x4x16x64 [0, 1, 3, 2] (shapeCast S16x4x64x16 (extractStridedSlice S16x256x16 ![0, 0, 0] (res_main_v38 m c) slices_S16x256x128_S16x256x16_0_0_0) shapeCasts_S16x256x16_S16x4x64x16) transposes_S16x4x64x16_S16x4x16x64_0_1_3_2 := rfl
  rw [e]
  generalize res_main_v38 m c = w
  pointwise

theorem gate_low (b : Fin 16) (t : Fin 256) (l : Fin 128) (h : l.val < 8) : (argsR m c).gate b t l = logi m c (ix3 b t (⟨l.val, h⟩ : Fin 8)) := by
  rw [logi_eq]
  exact if_pos h
theorem gate_high (b : Fin 16) (t : Fin 256) (l : Fin 128) (q : Fin 120) (h : 8 + q.val = l.val) :
    (argsR m c).gate b t l = logsig (open8 m c) (ix3 b t q) := by
  rw [logsig_eq, open8_eq]
  have e : (⟨8 + q.val, by omega⟩ : Fin 128) = l := Fin.ext h
  rw [e]
  exact if_neg (by omega)

theorem col_eq (b : Fin 16) (t : Fin 256) (l : Fin 128) : res_main_v38 m c (ix3 b t l) = (argsR m c).col b t l := by
  have ht : (⟨t.val / 64 * 64 + t.val % 64, by omega⟩ : Fin 256) = t := Fin.ext (by show t.val / 64 * 64 + t.val % 64 = t.val; omega)
  rw [v38_eq, put_eq]
  unfold Gates.col Gates.sums
  by_cases h : l.val < 8
  · rw [dif_pos h, if_neg (by omega), if_neg (by omega), ← gate_low m c b t l h]
    exact congrArg (fun q => (argsR m c).gate b q l) ht.symm
  rw [dif_neg h]
  by_cases h1 : l.val - 8 < 4
  · rw [dif_pos h1, if_pos (by omega), fwd_eq]
    exact Finset.sum_congr (M := EReal) rfl fun s _ => if_congr Iff.rfl (gate_high m c b _ l _ (by show 8 + (l.val - 8) = l.val; omega)).symm rfl
  rw [dif_neg h1]
  by_cases h2 : l.val - 8 - 4 < 4
  · rw [dif_pos h2, if_neg (by omega), if_pos (by omega), bwd_eq]
    exact Finset.sum_congr (M := EReal) rfl fun s _ => if_congr Iff.rfl (gate_high m c b _ l _ (by show 8 + (4 + (l.val - 8 - 4)) = l.val; omega)).symm rfl
  · rw [dif_neg h2, if_neg (by omega), if_neg (by omega), rest_eq, ← gate_high m c b t l _ (by show 8 + (8 + (l.val - 8 - 4 - 4)) = l.val; omega)]
    exact congrArg (fun q => (argsR m c).gate b q l) ht.symm

/-- What the reference's run leaves: the columns and the rows. -/
theorem run_spec : θ_run defs (onTc (τ := τ) (main (F := Ideal))) ⟨m, fun _ => 0, ρ⟩ fun r => ∀ c : Dev nD,
      r.2.mem ((c.tc : Thread nD τ).loc main_v38) = (fun i => (argsR m c).col (i 0) (i 1) (i 2))
      ∧ r.2.mem ((c.tc : Thread nD τ).loc main_v41) = (fun i => (argsR m c).row (i 0) (i 1) (i 2) (i 3))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans (funext fun i => ?_), (h c).2.1.trans (funext fun i => ?_), (h c).2.2⟩)
    (Cert.Reference9Ideal.Value.run m ρ)
  · exact (congrArg _ (eq_ix3 (n0 := 16) (n1 := 256) (n2 := 128) i)).trans (col_eq m c (i 0) (i 1) (i 2))
  · exact (congrArg _ (eq_ix4 (n0 := 16) (n1 := 4) (n2 := 16) (n3 := 64) i)).trans
      ((v41_eq m c (i 0) (i 1) (i 2) (i 3)).trans (col_eq m c (i 0) _ _))

end Cert.Reference9Ideal.Pv

end
-- ==== Proof.Gates.KernelL.lean ====
/- What the kernel of the gates leaves in its result arrays, for the latent tokens: a chunk is worked on as for the context tokens. -/
module

public import proofs.«01_k».proof.Proof.Gen.Kernel10Ideal.Value
public import Idealize.ShloMosaic.Lib.Pipeline.ValueKit.Point
public import Idealize.ShloMosaic.Lib.StableHlo.ReadAt
public import Idealize.ShloMosaic.Lib.WholeRead
public import proofs.«01_k».proof.Proof.Gates.Kernel

@[expose] public section

set_option maxRecDepth 16384

noncomputable section

namespace Cert.Kernel10Ideal.Pv

open Cert.Kernel10Ideal Cert.Kernel10Ideal.Gen Cert.Proj
open Idealize.ShloMosaic Idealize.ShloMosaic.TcCoe

/-- The lanes' numbers, along rows and down columns. -/
abbrev lanes : IVec S64x128 32 := iota .tc S64x128 32 [1] iota_S64x128_d1_w32
abbrev downs : IVec S128x64 32 := iota .tc S128x64 32 [0] iota_S128x64_d0_w32

variable (v16 v17 : Vec Ideal S1x128 .f32) (v22 : Vec Ideal S1x64x128 .f32)

/-- A chunk's gates before they are summed up. -/
abbrev gat : FVec Ideal S64x128 .f32 := k0_pay4 lanes v16 v17 v22

theorem gat_eq (r : Fin 64) (l : Fin 128) : gat v16 v17 v22 (ix2 r l)
    = if l.val < 8 then v22 (ix3 0 r l) + v16 (ix2 0 l) else Gates.lsg (v22 (ix3 0 r l) + v17 (ix2 0 l)) :=
  Cert.Kernel9Ideal.Pv.gat_eq v16 v17 v22 r l
/-- The chunk's columns that are stored. -/
abbrev colp : FVec Ideal S1x64x128 .f32 :=
  k0_pay13 k0_pay2 (gat v16 v17 v22) (k0_pay5 lanes) (k0_pay6 lanes) (k0_pay10 k0_pay1 lanes v16 v17 v22)
    (k0_pay11 k0_pay1 lanes v16 v17 v22) (k0_pay12 k0_pay1 lanes v16 v17 v22)
theorem colp_eq (r : Fin 64) (l : Fin 128) (h : l.val < 16 → ∀ s : Fin 64, ∃ y : ℝ, gat v16 v17 v22 (ix2 s l) = (y : EReal)) :
    colp v16 v17 v22 (ix3 0 r l) = Gates.sums (fun s => gat v16 v17 v22 (ix2 s l)) l.val r :=
  Cert.Kernel9Ideal.Pv.colp_eq v16 v17 v22 r l h
/-- The chunk's rows that are stored. -/
abbrev rowp (g : FVec Ideal S64x128 .f32) : FVec Ideal S1x1x16x64 .f32 :=
  k0_pay3 g (k0_pay14 downs) (k0_pay15 downs) (k0_pay16 k0_pay2 g) (k0_pay17 g) (k0_pay18 g) (k0_pay19 g) (k0_pay20 g)
theorem rowp_eq (g : FVec Ideal S64x128 .f32) (s : Fin 16) (r : Fin 64)
    (h : ∀ x : Fin 64, ∃ y : ℝ, g (ix2 x (⟨s.val, by omega⟩ : Fin 128)) = (y : EReal)) :
    rowp g (ix4 0 0 s r) = Gates.sums (fun x => g (ix2 x (⟨s.val, by omega⟩ : Fin 128))) s.val r :=
  Cert.Kernel9Ideal.Pv.rowp_eq g s r h

/-! ## A point's blocks -/

variable (x0 : Vec Ideal S1x2048x128 .f32) (x1 : Vec Ideal S8x128 .f32)

/-- A token's gate, of the point's blocks. -/
def one (t : Fin 2048) (l : Fin 128) : EReal :=
  if l.val < 8 then x0 (ix3 0 t l) + x1 (ix2 0 l) else Gates.lsg (x0 (ix3 0 t l) + x1 (ix2 1 l))
/-- The columns, of the point's blocks. -/
def two (t : Fin 2048) (l : Fin 128) : EReal :=
  Gates.sums (fun s => one x0 x1 ⟨t.val / 64 * 64 + s.val, by omega⟩ l) l.val ⟨t.val % 64, by omega⟩
/-- The columns and the rows, as functions of the index in the block. -/
def blkC (y : S1x2048x128.Idx) : EReal := two x0 x1 (y 1) (y 2)
def blkR (y : S1x32x16x64.Idx) : EReal :=
  two x0 x1 ⟨(y 1).val * 64 + (y 3).val, by have h1 : (y 1).val < 32 := (y 1).isLt; have h3 : (y 3).val < 64 := (y 3).isLt; omega⟩
    ⟨(y 2).val, by have h2 : (y 2).val < 16 := (y 2).isLt; omega⟩

variable (c : Dev nD) (i : grid0.Coords) (arg1 : Memref sig .tc .vmem S1x2048x128 .f32) (harg1 : arg1.IsWhole) (arg2 : Memref sig .tc .vmem S8x128 .f32) (harg2 : arg2.IsWhole)
  (arg3 : Memref sig .tc .vmem S1x2048x128 .f32) (harg3 : arg3.IsWhole) (arg4 : Memref sig .tc .vmem S1x32x16x64 .f32) (harg4 : arg4.IsWhole)

/-- The biases' rows and a chunk's channels, as the kernel reads them. -/
abbrev ld16 : Vec Ideal S1x128 .f32 := View.readAt (Elt Ideal) arg2.view (Rect.unit (s := S8x128) ![0, 0] S1x128.size inb_S8x128_S1x128_0_0).toLoadRect (harg2.unread x1)
abbrev ld17 : Vec Ideal S1x128 .f32 := View.readAt (Elt Ideal) arg2.view (Rect.unit (s := S8x128) ![1, 0] S1x128.size inb_S8x128_S1x128_1_0).toLoadRect (harg2.unread x1)
abbrev ld22 (k : Fin k0_t1_loop.trips) : Vec Ideal S1x64x128 .f32 :=
  View.readAt (Elt Ideal) arg1.view (Rect.unit (s := S1x2048x128) (k0_off1 k) S1x64x128.size (k0_off1_inb k)).toLoadRect (harg1.unread x0)

theorem ld16_eq (l : Fin 128) : ld16 x1 arg2 harg2 (ix2 0 l) = x1 (ix2 0 l) := by
  refine (harg2.readAt_unread _ _ _).trans (congrArg x1 (funext fun a => Fin.ext ?_))
  match a with
  | ⟨0, _⟩ => rfl
  | ⟨1, _⟩ => exact (Rect.idx_unit_val _ _ _ _ _).trans (Nat.zero_add _)
theorem ld17_eq (l : Fin 128) : ld17 x1 arg2 harg2 (ix2 0 l) = x1 (ix2 1 l) := by
  refine (harg2.readAt_unread _ _ _).trans (congrArg x1 (funext fun a => Fin.ext ?_))
  match a with
  | ⟨0, _⟩ => rfl
  | ⟨1, _⟩ => exact (Rect.idx_unit_val _ _ _ _ _).trans (Nat.zero_add _)
theorem lt32 (k : Fin k0_t1_loop.trips) : k.val < 32 := Nat.lt_of_lt_of_le k.isLt k0_t1_abs.2.1
theorem ld22_eq (k : Fin k0_t1_loop.trips) (r : Fin 64) (l : Fin 128) :
    ld22 x0 arg1 harg1 k (ix3 0 r l) = x0 (ix3 0 (⟨64 * k.val + r.val, by have := lt32 k; omega⟩ : Fin 2048) l) := by
  refine (harg1.readAt_unread _ _ _).trans (congrArg x0 (funext fun a => Fin.ext ?_))
  refine (Rect.idx_unit_val _ _ _ _ _).trans ((congrArg (· + _) (congrFun (k0_off1_eq k) a)).trans ?_)
  match a with
  | ⟨0, _⟩ => rfl
  | ⟨1, _⟩ => rfl
  | ⟨2, _⟩ => exact Nat.zero_add _

/-- A chunk's gates are the block's. -/
theorem gat_one (k : Fin k0_t1_loop.trips) (r : Fin 64) (l : Fin 128) :
    gat (ld16 x1 arg2 harg2) (ld17 x1 arg2 harg2) (ld22 x0 arg1 harg1 k) (ix2 r l) = one x0 x1 ⟨64 * k.val + r.val, by have := lt32 k; omega⟩ l := by
  rw [gat_eq, ld16_eq, ld17_eq, ld22_eq]
  rfl
theorem two_at (k : Fin k0_t1_loop.trips) (r : Fin 64) (l : Fin 128) (t : Fin 2048) (ht : t.val = 64 * k.val + r.val) :
    Gates.sums (fun s => one x0 x1 ⟨64 * k.val + s.val, by have := lt32 k; omega⟩ l) l.val r = two x0 x1 t l := by
  unfold two
  have e1 : (⟨t.val % 64, by omega⟩ : Fin 64) = r := Fin.ext (by show t.val % 64 = r.val; omega)
  rw [e1]
  refine congrArg (fun f => Gates.sums f l.val r) (funext fun s => congrArg (fun q => one x0 x1 q l) (Fin.ext ?_))
  show 64 * k.val + s.val = t.val / 64 * 64 + s.val
  omega

variable (hf : ∀ (t : Fin 2048) (l : Fin 128), l.val < 16 → ∃ y : ℝ, one x0 x1 t l = (y : EReal))
include hf

theorem trip_col (k : Fin k0_t1_loop.trips) :
    ∀ p ∈ (trip_k0_t1 (F := Ideal) Variants.none c none i arg1 harg1 arg2 harg2 arg3 harg3 arg4 harg4 lanes downs (ld16 x1 arg2 harg2) (ld17 x1 arg2 harg2) (harg1.unread x0) k).1,
      ∀ x : p.1.shape.Idx, p.2 x = blkC x0 x1 (p.1.emb x) := by
  unfold trip_k0_t1
  dsimp only
  simp only [List.forall_mem_cons, List.not_mem_nil, false_imp_iff, implies_true, and_true]
  intro x
  obtain ⟨r, hr⟩ : ∃ r : Fin 64, r = x 1 := ⟨_, rfl⟩
  obtain ⟨l, hl⟩ : ∃ l : Fin 128, l = x 2 := ⟨_, rfl⟩
  have hx : x = (ix3 0 r l : S1x64x128.Idx) := by
    rw [hr, hl]
    exact (eq_ix3 (n0 := 1) (n1 := 64) (n2 := 128) x).trans (by congr 1; exact Subsingleton.elim (α := Fin 1) _ _)
  refine (congrArg _ hx).trans ((colp_eq _ _ (ld22 x0 arg1 harg1 k) r l fun h s => ?_).trans ?_)
  · rw [gat_one]
    exact hf _ _ h
  · have e := fun s : Fin 64 => gat_one x0 x1 arg1 harg1 arg2 harg2 k s l
    refine (congrArg (fun f => Gates.sums f l.val r) (funext e)).trans ?_
    refine (two_at x0 x1 k r l _ ?_).trans (congrArg (two x0 x1 _) (Fin.ext ?_))
    · exact (Rect.idx_unit_val _ _ _ x 1).trans (congrArg₂ (· + ·) (congrFun (k0_off1_eq k) 1) (congrArg Fin.val hr.symm))
    · exact ((Rect.idx_unit_val _ _ _ x 2).trans ((congrArg₂ (· + ·) (congrFun (k0_off1_eq k) 2) (congrArg Fin.val hl.symm)).trans (Nat.zero_add _))).symm
theorem trip_row (k : Fin k0_t1_loop.trips) :
    ∀ p ∈ (trip_k0_t1 (F := Ideal) Variants.none c none i arg1 harg1 arg2 harg2 arg3 harg3 arg4 harg4 lanes downs (ld16 x1 arg2 harg2) (ld17 x1 arg2 harg2) (harg1.unread x0) k).2.1,
      ∀ x : p.1.shape.Idx, p.2 x = blkR x0 x1 (p.1.emb x) := by
  unfold trip_k0_t1
  dsimp only
  simp only [List.forall_mem_cons, List.not_mem_nil, false_imp_iff, implies_true, and_true]
  intro x
  obtain ⟨s, hs⟩ : ∃ s : Fin 16, s = x 2 := ⟨_, rfl⟩
  obtain ⟨r, hr⟩ : ∃ r : Fin 64, r = x 3 := ⟨_, rfl⟩
  have hx : x = (ix4 0 0 s r : S1x1x16x64.Idx) := by
    rw [hs, hr]
    exact (eq_ix4 (n0 := 1) (n1 := 1) (n2 := 16) (n3 := 64) x).trans (by congr 1 <;> exact Subsingleton.elim (α := Fin 1) _ _)
  refine (congrArg _ hx).trans ((rowp_eq (gat (ld16 x1 arg2 harg2) (ld17 x1 arg2 harg2) (ld22 x0 arg1 harg1 k)) s r fun t => ?_).trans ?_)
  · rw [gat_one]
    exact hf _ _ s.isLt
  · have e := fun t : Fin 64 => gat_one x0 x1 arg1 harg1 arg2 harg2 k t (⟨s.val, by omega⟩ : Fin 128)
    refine (congrArg (fun f => Gates.sums f s.val r) (funext e)).trans ?_
    have e1 := (Rect.idx_unit_val _ _ (k0_off2_inb k) x 1).trans (congrArg₂ (· + ·) (congrFun (k0_off2_eq k) 1) (Nat.lt_one_iff.1 (x 1).isLt))
    have e2 := (Rect.idx_unit_val _ _ (k0_off2_inb k) x 2).trans (congrArg₂ (· + ·) (congrFun (k0_off2_eq k) 2) (congrArg Fin.val hs.symm))
    have e3 := (Rect.idx_unit_val _ _ (k0_off2_inb k) x 3).trans (congrArg₂ (· + ·) (congrFun (k0_off2_eq k) 3) (congrArg Fin.val hr.symm))
    refine (two_at x0 x1 k r (⟨s.val, by omega⟩ : Fin 128) _ ?_).trans (congrArg (two x0 x1 _) (Fin.ext (e2.trans (Nat.zero_add _)).symm))
    refine (congrArg₂ (fun a b => a * 64 + b) e1 e3).trans ?_
    show (k.val + 0) * 64 + (0 + r.val) = 64 * k.val + r.val
    omega

theorem all_col : ∀ n, ∀ p ∈ (pb_k0_t1 (F := Ideal) Variants.none c none i arg1 harg1 arg2 harg2 arg3 harg3 arg4 harg4 lanes downs (ld16 x1 arg2 harg2) (ld17 x1 arg2 harg2) (harg1.unread x0) n).1,
      ∀ x : p.1.shape.Idx, p.2 x = blkC x0 x1 (p.1.emb x)
  | 0 => fun p hp => by rw [pb_k0_t1.eq_1] at hp; exact absurd hp List.not_mem_nil
  | n + 1 => fun p hp => by
    by_cases hn : n < k0_t1_loop.trips
    · rw [pb_k0_t1_succ Variants.none c none i arg1 harg1 arg2 harg2 arg3 harg3 arg4 harg4 lanes downs _ _ _ ⟨n, hn⟩] at hp
      rcases List.mem_append.1 hp with h | h
      · exact trip_col x0 x1 c i arg1 harg1 arg2 harg2 arg3 harg3 arg4 harg4 hf ⟨n, hn⟩ p h
      · exact all_col n p h
    · rw [pb_k0_t1.eq_2] at hp
      unfold pb_k0_t1Step at hp
      rw [dif_neg hn] at hp
      exact all_col n p hp
theorem all_row : ∀ n, ∀ p ∈ (pb_k0_t1 (F := Ideal) Variants.none c none i arg1 harg1 arg2 harg2 arg3 harg3 arg4 harg4 lanes downs (ld16 x1 arg2 harg2) (ld17 x1 arg2 harg2) (harg1.unread x0) n).2,
      ∀ x : p.1.shape.Idx, p.2 x = blkR x0 x1 (p.1.emb x)
  | 0 => fun p hp => by rw [pb_k0_t1.eq_1] at hp; exact absurd hp List.not_mem_nil
  | n + 1 => fun p hp => by
    by_cases hn : n < k0_t1_loop.trips
    · rw [pb_k0_t1_succ Variants.none c none i arg1 harg1 arg2 harg2 arg3 harg3 arg4 harg4 lanes downs _ _ _ ⟨n, hn⟩] at hp
      rcases List.mem_append.1 hp with h | h
      · exact trip_row x0 x1 c i arg1 harg1 arg2 harg2 arg3 harg3 arg4 harg4 hf ⟨n, hn⟩ p h
      · exact all_row n p h
    · rw [pb_k0_t1.eq_2] at hp
      unfold pb_k0_t1Step at hp
      rw [dif_neg hn] at hp
      exact all_row n p hp

theorem out2_eq (y : S1x2048x128.Idx) : out0_A_2 c i arg1 harg1 arg2 harg2 arg3 harg3 arg4 harg4 x0 x1 y = blkC x0 x1 y := by
  have hc := cover0_A_2 c i arg1 harg1 arg2 harg2 arg3 harg3 arg4 harg4 x0 x1 y
  refine (View.read_writes_apply_eq_canon (Val := Elt Ideal) VO0_2 _ y _ hc).trans
    (View.canon_apply_of_pieces (Val := Elt Ideal) (e := .f32) (blkC x0 x1) _ ?_ y hc)
  unfold kernelRun0_A
  exact all_col x0 x1 c i arg1 harg1 arg2 harg2 arg3 harg3 arg4 harg4 hf _
theorem out3_eq (y : S1x32x16x64.Idx) : out0_A_3 c i arg1 harg1 arg2 harg2 arg3 harg3 arg4 harg4 x0 x1 y = blkR x0 x1 y := by
  have hc := cover0_A_3 c i arg1 harg1 arg2 harg2 arg3 harg3 arg4 harg4 x0 x1 y
  refine (View.read_writes_apply_eq_canon (Val := Elt Ideal) VO0_3 _ y _ hc).trans
    (View.canon_apply_of_pieces (Val := Elt Ideal) (e := .f32) (blkR x0 x1) _ ?_ y hc)
  unfold kernelRun0_A
  exact all_row x0 x1 c i arg1 harg1 arg2 harg2 arg3 harg3 arg4 harg4 hf _

omit hf

/-! ## The run -/

variable (m : (ℓ : Loc nD τ sig) → Buf (Elt Ideal) ℓ)

/-- The kernel's arguments. -/
def argsK (c : Dev nD) : Gates 2048 where
  G := m ((c : Thread nD τ).loc main_arg0)
  B := m ((c : Thread nD τ).loc main_arg1)
  whole := rfl

theorem idx0 : ∀ t : Fin cfg0.N, win0_0.index t = ![t.val, 0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0, 0] := (by decide +kernel : ∀ t : Fin grid0.N, _)
theorem idx3 : ∀ t : Fin cfg0.N, win0_3.index t = ![t.val, 0, 0, 0] := (by decide +kernel : ∀ t : Fin grid0.N, _)

theorem lt16 (t : Fin cfg0.N) : t.val < 16 := lt_of_lt_of_eq t.isLt N_0

theorem blk0 (t : Fin cfg0.N) (r : Fin 2048) (l : Fin 128) : iblk m c 0 t (ix3 0 r l) = (argsK m c).G (ix3 (⟨t.val, lt16 t⟩ : Fin 16) r l) := by
  refine Eq.trans ?_ (congrFun (V_main_arg0 m c) _)
  blk_ext [iblk, idx0]
theorem blk1 (t : Fin cfg0.N) (a : Fin 8) (l : Fin 128) : iblk m c 1 t (ix2 a l) = (argsK m c).B (ix2 a l) := by
  refine Eq.trans ?_ (congrFun (V_main_arg1 m c) _)
  blk_ext [iblk, idx1]

theorem one_eq (t : Fin cfg0.N) (r : Fin 2048) (l : Fin 128) : one (iblk m c 0 t) (iblk m c 1 t) r l = (argsK m c).gate ⟨t.val, lt16 t⟩ r l := by
  unfold one Gates.gate
  rw [blk0, blk1, blk1]
theorem two_eq (t : Fin cfg0.N) (r : Fin 2048) (l : Fin 128) : two (iblk m c 0 t) (iblk m c 1 t) r l = (argsK m c).col ⟨t.val, lt16 t⟩ r l := by
  unfold two Gates.col
  simp only [one_eq]

/-- The columns as the region leaves them. -/
theorem final2 (h : (argsK m c).Finite) : (dats m 0 c).arrAt 2 cfg0.N = fun i => (argsK m c).col (i 0) (i 1) (i 2) := by
  refine (dats m 0 c).arrAt_eq_of_covers 2 _ (by decide +kernel) fun s hs y => ?_
  blk_simp
  have e0 : (win0_2.blk s).view.emb y 0 = (⟨s.val, lt16 s⟩ : Fin 16) := Fin.ext (by blk_simp [idx2])
  have e1 : (win0_2.blk s).view.emb y 1 = y 1 := Fin.ext (by blk_simp [idx2])
  have e2 : (win0_2.blk s).view.emb y 2 = y 2 := Fin.ext (by blk_simp [idx2])
  rw [e0, e1, e2, after0_2]
  refine (out2_eq _ _ _ _ _ _ _ _ _ _ _ _ (fun t l hl => ?_) y).trans (two_eq c m s _ _)
  rw [one_eq]
  exact (argsK m c).gate_real h _ t l hl
/-- The rows as the region leaves them. -/
theorem final3 (h : (argsK m c).Finite) : (dats m 0 c).arrAt 3 cfg0.N = fun i => (argsK m c).row (i 0) (i 1) (i 2) (i 3) := by
  refine (dats m 0 c).arrAt_eq_of_covers 3 _ (by decide +kernel) fun s hs y => ?_
  blk_simp
  have e0 : (win0_3.blk s).view.emb y 0 = (⟨s.val, lt16 s⟩ : Fin 16) := Fin.ext (by blk_simp [idx3])
  have e1 : (win0_3.blk s).view.emb y 1 = y 1 := Fin.ext (by blk_simp [idx3])
  have e2 : (win0_3.blk s).view.emb y 2 = y 2 := Fin.ext (by blk_simp [idx3])
  have e3 : (win0_3.blk s).view.emb y 3 = y 3 := Fin.ext (by blk_simp [idx3])
  rw [e0, e1, e2, e3, after0_3]
  refine (out3_eq _ _ _ _ _ _ _ _ _ _ _ _ (fun t l hl => ?_) y).trans (two_eq c m s _ _)
  rw [one_eq]
  exact (argsK m c).gate_real h _ t l hl

end Cert.Kernel10Ideal.Pv

end
-- ==== Proof.Gates.RefL.lean ====
/- What the reference of the mLSTM's gates computes, element by element. -/
module

public import proofs.«01_k».proof.Proof.Gen.Reference10Ideal.Run
public import proofs.«01_k».proof.Proof.Gates.Spec

@[expose] public section

set_option maxRecDepth 16384

noncomputable section

namespace Cert.Reference10Ideal.Pv

open Cert.Reference10Ideal Cert.Reference10Ideal.Gen Cert.Reference10Ideal.Value Cert.Proj
open Idealize.ShloMosaic Idealize.ShloMosaic.TcCoe Idealize.ShloMosaic.StableHlo

variable (m : (ℓ : Loc nD τ sig) → Buf (Elt Ideal) ℓ) (ρ : Dev nD → PrngReg) (c : Dev nD)

/-- The reference's arguments. -/
def argsR : Gates 2048 where
  G := m ((c.tc : Thread nD τ).loc main_arg0)
  B := m ((c.tc : Thread nD τ).loc main_arg1)
  whole := rfl

/-- The logarithms of the input gates. -/
def logi : FVec Ideal S16x2048x8 .f32 :=
  addf (extractStridedSlice S16x2048x8 ![0, 0, 0] (m ((c.tc : Thread nD τ).loc main_arg0)) slices_S16x2048x128_S16x2048x8_0_0_0) (broadcastInDim S16x2048x8 ![0, 1, 2] bcast_S1x1x8_S16x2048x8_0_1_2 (broadcastInDim S1x1x8 ![2] bcast_S8_S1x1x8_2 (shapeCast _ (extractStridedSlice S1x8 ![0, 0] (m ((c.tc : Thread nD τ).loc main_arg1)) slices_S8x128_S1x8_0_0) shapeCasts_S1x8_S8)))
theorem logi_eq (b : Fin 16) (t : Fin 2048) (l : Fin 8) :
    logi m c (ix3 b t l) = (argsR m c).G (ix3 b t (⟨l.val, by omega⟩ : Fin 128)) + (argsR m c).B (ix2 0 (⟨l.val, by omega⟩ : Fin 128)) := by
  pointwise [logi]
  rfl

/-- The other gates before the sigmoid. -/
def open8 : FVec Ideal S16x2048x120 .f32 :=
  addf (extractStridedSlice S16x2048x120 ![0, 0, 8] (m ((c.tc : Thread nD τ).loc main_arg0)) slices_S16x2048x128_S16x2048x120_0_0_8) (broadcastInDim S16x2048x120 ![0, 1, 2] bcast_S1x1x120_S16x2048x120_0_1_2 (broadcastInDim S1x1x120 ![2] bcast_S120_S1x1x120_2 (shapeCast _ (extractStridedSlice S1x120 ![1, 8] (m ((c.tc : Thread nD τ).loc main_arg1)) slices_S8x128_S1x120_1_8) shapeCasts_S1x120_S120)))
theorem open8_eq (b : Fin 16) (t : Fin 2048) (l : Fin 120) :
    open8 m c (ix3 b t l) = (argsR m c).G (ix3 b t (⟨8 + l.val, by omega⟩ : Fin 128)) + (argsR m c).B (ix2 1 (⟨8 + l.val, by omega⟩ : Fin 128)) := by
  pointwise [open8]
  rfl

/-- The logarithm of the sigmoid of every gate. -/
def logsig (z : FVec Ideal S16x2048x120 .f32) : FVec Ideal S16x2048x120 .f32 :=
  Host.negf (select (cmpf .une (subf (Host.negf z) (broadcastInDim S16x2048x120 ![] bcast_S_S16x2048x120 (constant (F := Ideal) S_ .f32 0x00000000#32))) (subf (Host.negf z) (broadcastInDim S16x2048x120 ![] bcast_S_S16x2048x120 (constant (F := Ideal) S_ .f32 0x00000000#32)))) (addf (Host.negf z) (broadcastInDim S16x2048x120 ![] bcast_S_S16x2048x120 (constant (F := Ideal) S_ .f32 0x00000000#32))) (addf (maximumf (Host.negf z) (broadcastInDim S16x2048x120 ![] bcast_S_S16x2048x120 (constant (F := Ideal) S_ .f32 0x00000000#32))) (Host.log1p (Host.exp (Host.negf (Host.absf (subf (Host.negf z) (broadcastInDim S16x2048x120 ![] bcast_S_S16x2048x120 (constant (F := Ideal) S_ .f32 0x00000000#32)))))))))
theorem logsig_eq (z : FVec Ideal S16x2048x120 .f32) (b : Fin 16) (t : Fin 2048) (l : Fin 120) : logsig z (ix3 b t l) = Gates.lsg (z (ix3 b t l)) := by
  pointwise [logsig, constant]
  rw [if_neg (fun h => h rfl)]
  rfl

/-- The sums from the chunk's first token on. -/
def fwd (x : FVec Ideal S16x2048x120 .f32) : FVec Ideal S16x2048x4 .f32 :=
  shapeCast _ (Host.reduceAdd (select (broadcastInDim S16x32x64x64x4 ![0, 1, 2, 3, 4] bcast_S1x1x64x64x1_S16x32x64x64x4_0_1_2_3_4 (broadcastInDim S1x1x64x64x1 ![2, 3] bcast_S64x64_S1x1x64x64x1_2_3 (cmpi .sle (broadcastInDim S64x64 ![0, 1] bcast_S1x64_S64x64_0_1 (broadcastInDim S1x64 ![1] bcast_S64_S1x64_1 (iotaInDim S64 32 0))) (broadcastInDim S64x64 ![0, 1] bcast_S64x1_S64x64_0_1 (broadcastInDim S64x1 ![0] bcast_S64_S64x1_0 (iotaInDim S64 32 0)))))) (broadcastInDim S16x32x64x64x4 ![0, 1, 2, 3, 4] bcast_S16x32x1x64x4_S16x32x64x64x4_0_1_2_3_4 (broadcastInDim S16x32x1x64x4 ![0, 1, 3, 4] bcast_S16x32x64x4_S16x32x1x64x4_0_1_3_4 (extractStridedSlice S16x32x64x4 ![0, 0, 0, 0] (shapeCast _ x shapeCasts_S16x2048x120_S16x32x64x120) slices_S16x32x64x120_S16x32x64x4_0_0_0_0))) (broadcastInDim S16x32x64x64x4 ![] bcast_S_S16x32x64x64x4 (id (constant (F := Ideal) S_ .f32 0x00000000#32)))) (constant (F := Ideal) S_ .f32 0x00000000#32) reducesTo_S16x32x64x64x4_S16x32x64x4_d3 h_S_) shapeCasts_S16x32x64x4_S16x2048x4
theorem fwd_eq (x : FVec Ideal S16x2048x120 .f32) (b : Fin 16) (t : Fin 2048) (l : Fin 4) :
    fwd x (ix3 b t l) = ∑ s : Fin 64, if s.val ≤ t.val % 64 then x (ix3 b (⟨t.val / 64 * 64 + s.val, by omega⟩ : Fin 2048) (⟨l.val, by omega⟩ : Fin 120)) else 0 := by
  pointwise [fwd, id, constant]
  exact Finset.sum_congr rfl fun s _ => by rw [Gates.le_bits s ⟨t.val % 64, by omega⟩, Pool.select_bits]
/-- The sums to the chunk's last token. -/
def bwd (x : FVec Ideal S16x2048x120 .f32) : FVec Ideal S16x2048x4 .f32 :=
  shapeCast _ (Host.reduceAdd (select (broadcastInDim S16x32x64x64x4 ![0, 1, 2, 3, 4] bcast_S1x1x64x64x1_S16x32x64x64x4_0_1_2_3_4 (broadcastInDim S1x1x64x64x1 ![2, 3] bcast_S64x64_S1x1x64x64x1_2_3 (cmpi .sge (broadcastInDim S64x64 ![0, 1] bcast_S1x64_S64x64_0_1 (broadcastInDim S1x64 ![1] bcast_S64_S1x64_1 (iotaInDim S64 32 0))) (broadcastInDim S64x64 ![0, 1] bcast_S64x1_S64x64_0_1 (broadcastInDim S64x1 ![0] bcast_S64_S64x1_0 (iotaInDim S64 32 0)))))) (broadcastInDim S16x32x64x64x4 ![0, 1, 2, 3, 4] bcast_S16x32x1x64x4_S16x32x64x64x4_0_1_2_3_4 (broadcastInDim S16x32x1x64x4 ![0, 1, 3, 4] bcast_S16x32x64x4_S16x32x1x64x4_0_1_3_4 (extractStridedSlice S16x32x64x4 ![0, 0, 0, 4] (shapeCast _ x shapeCasts_S16x2048x120_S16x32x64x120) slices_S16x32x64x120_S16x32x64x4_0_0_0_4))) (broadcastInDim S16x32x64x64x4 ![] bcast_S_S16x32x64x64x4 (id (constant (F := Ideal) S_ .f32 0x00000000#32)))) (constant (F := Ideal) S_ .f32 0x00000000#32) reducesTo_S16x32x64x64x4_S16x32x64x4_d3 h_S_) shapeCasts_S16x32x64x4_S16x2048x4
theorem bwd_eq (x : FVec Ideal S16x2048x120 .f32) (b : Fin 16) (t : Fin 2048) (l : Fin 4) :
    bwd x (ix3 b t l) = ∑ s : Fin 64, if t.val % 64 ≤ s.val then x (ix3 b (⟨t.val / 64 * 64 + s.val, by omega⟩ : Fin 2048) (⟨4 + l.val, by omega⟩ : Fin 120)) else 0 := by
  pointwise [bwd, id, constant]
  exact Finset.sum_congr rfl fun s _ => by rw [Gates.ge_bits s ⟨t.val % 64, by omega⟩, Pool.select_bits]
/-- The gates that are handed on as they are. -/
def rest (x : FVec Ideal S16x2048x120 .f32) : FVec Ideal S16x2048x112 .f32 :=
  extractStridedSlice S16x2048x112 ![0, 0, 8] x slices_S16x2048x120_S16x2048x112_0_0_8
theorem rest_eq (x : FVec Ideal S16x2048x120 .f32) (b : Fin 16) (t : Fin 2048) (l : Fin 112) : rest x (ix3 b t l) = x (ix3 b t (⟨8 + l.val, by omega⟩ : Fin 120)) := by
  pointwise [rest]

theorem put_eq (u0 : FVec Ideal S16x2048x8 .f32) (u1 u2 : FVec Ideal S16x2048x4 .f32) (u3 : FVec Ideal S16x2048x112 .f32) (b : Fin 16) (t : Fin 2048) (l : Fin 128) :
    fn_main_v38 (F := Ideal) u0 u1 u2 u3 (ix3 b t l)
      = if h : l.val < 8 then u0 (ix3 b t (⟨l.val, h⟩ : Fin 8))
        else if h1 : l.val - 8 < 4 then u1 (ix3 b t (⟨l.val - 8, h1⟩ : Fin 4))
        else if h2 : l.val - 8 - 4 < 4 then u2 (ix3 b t (⟨l.val - 8 - 4, h2⟩ : Fin 4)) else u3 (ix3 b t (⟨l.val - 8 - 4 - 4, by omega⟩ : Fin 112)) := by
  pointwise [fn_main_v38]

theorem v38_eq : res_main_v38 m c = fn_main_v38 (F := Ideal) (logi m c) (fwd (logsig (open8 m c))) (bwd (logsig (open8 m c))) (rest (logsig (open8 m c))) := rfl
theorem v41_eq (b : Fin 16) (k : Fin 32) (s : Fin 16) (r : Fin 64) :
    res_main_v41 m c (ix4 b k s r) = res_main_v38 m c (ix3 b (⟨k.val * 64 + r.val, by omega⟩ : Fin 2048) (⟨s.val, by omega⟩ : Fin 128)) := by
  have e : res_main_v41 m c = transpose S16x32x16x64 [0, 1, 3, 2] (shapeCast S16x32x64x16 (extractStridedSlice S16x2048x16 ![0, 0, 0] (res_main_v38 m c) slices_S16x2048x128_S16x2048x16_0_0_0) shapeCasts_S16x2048x16_S16x32x64x16) transposes_S16x32x64x16_S16x32x16x64_0_1_3_2 := rfl
  rw [e]
  generalize res_main_v38 m c = w
  pointwise

theorem gate_low (b : Fin 16) (t : Fin 2048) (l : Fin 128) (h : l.val < 8) : (argsR m c).gate b t l = logi m c (ix3 b t (⟨l.val, h⟩ : Fin 8)) := by
  rw [logi_eq]
  exact if_pos h
theorem gate_high (b : Fin 16) (t : Fin 2048) (l : Fin 128) (q : Fin 120) (h : 8 + q.val = l.val) :
    (argsR m c).gate b t l = logsig (open8 m c) (ix3 b t q) := by
  rw [logsig_eq, open8_eq]
  have e : (⟨8 + q.val, by omega⟩ : Fin 128) = l := Fin.ext h
  rw [e]
  exact if_neg (by omega)

theorem col_eq (b : Fin 16) (t : Fin 2048) (l : Fin 128) : res_main_v38 m c (ix3 b t l) = (argsR m c).col b t l := by
  have ht : (⟨t.val / 64 * 64 + t.val % 64, by omega⟩ : Fin 2048) = t := Fin.ext (by show t.val / 64 * 64 + t.val % 64 = t.val; omega)
  rw [v38_eq, put_eq]
  unfold Gates.col Gates.sums
  by_cases h : l.val < 8
  · rw [dif_pos h, if_neg (by omega), if_neg (by omega), ← gate_low m c b t l h]
    exact congrArg (fun q => (argsR m c).gate b q l) ht.symm
  rw [dif_neg h]
  by_cases h1 : l.val - 8 < 4
  · rw [dif_pos h1, if_pos (by omega), fwd_eq]
    exact Finset.sum_congr (M := EReal) rfl fun s _ => if_congr Iff.rfl (gate_high m c b _ l _ (by show 8 + (l.val - 8) = l.val; omega)).symm rfl
  rw [dif_neg h1]
  by_cases h2 : l.val - 8 - 4 < 4
  · rw [dif_pos h2, if_neg (by omega), if_pos (by omega), bwd_eq]
    exact Finset.sum_congr (M := EReal) rfl fun s _ => if_congr Iff.rfl (gate_high m c b _ l _ (by show 8 + (4 + (l.val - 8 - 4)) = l.val; omega)).symm rfl
  · rw [dif_neg h2, if_neg (by omega), if_neg (by omega), rest_eq, ← gate_high m c b t l _ (by show 8 + (8 + (l.val - 8 - 4 - 4)) = l.val; omega)]
    exact congrArg (fun q => (argsR m c).gate b q l) ht.symm

/-- What the reference's run leaves: the columns and the rows. -/
theorem run_spec : θ_run defs (onTc (τ := τ) (main (F := Ideal))) ⟨m, fun _ => 0, ρ⟩ fun r => ∀ c : Dev nD,
      r.2.mem ((c.tc : Thread nD τ).loc main_v38) = (fun i => (argsR m c).col (i 0) (i 1) (i 2))
      ∧ r.2.mem ((c.tc : Thread nD τ).loc main_v41) = (fun i => (argsR m c).row (i 0) (i 1) (i 2) (i 3))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans (funext fun i => ?_), (h c).2.1.trans (funext fun i => ?_), (h c).2.2⟩)
    (Cert.Reference10Ideal.Value.run m ρ)
  · exact (congrArg _ (eq_ix3 (n0 := 16) (n1 := 2048) (n2 := 128) i)).trans (col_eq m c (i 0) (i 1) (i 2))
  · exact (congrArg _ (eq_ix4 (n0 := 16) (n1 := 32) (n2 := 16) (n3 := 64) i)).trans
      ((v41_eq m c (i 0) (i 1) (i 2) (i 3)).trans (col_eq m c (i 0) _ _))

end Cert.Reference10Ideal.Pv

end
-- ==== Proof.Decays.Spec.lean ====
/- The mathematics that kernel and reference share: the gates of the even layer's gated delta rule. -/
module

public import proofs.«01_k».proof.Proof.Gates.Spec

@[expose] public section

noncomputable section

namespace Cert.Proj

open Idealize.ShloMosaic

/-- The argument arrays of these gates: the channels, and by row the decays' logarithms and the steps' biases. -/
structure Decays where
  G : (⟨3, ![16, 2304, 128]⟩ : Shape).Idx → EReal
  B : (⟨2, ![8, 128]⟩ : Shape).Idx → EReal

namespace Decays

/-- The softplus. -/
def sp (x : EReal) : EReal := max x 0 + Ideal.log1p (Ideal.exp (-(max x (-x))))

/-- The sigmoid of anything is a number. -/
theorem sigmoid_real (x : EReal) : ∃ y : ℝ, Ideal.logistic x = (y : EReal) := by
  unfold Ideal.logistic
  induction x using EReal.rec with
  | bot =>
    refine ⟨0, ?_⟩
    have e : Ideal.exp (-(⊥ : EReal)) = ⊤ := rfl
    have e1 : (1 : EReal) + ⊤ = ⊤ := rfl
    rw [e, e1]
    unfold Ideal.div
    rw [if_neg (by simp)]
    simp
  | top =>
    refine ⟨1, ?_⟩
    have e : Ideal.exp (-(⊤ : EReal)) = 0 := rfl
    rw [e, add_zero]
    unfold Ideal.div
    rw [if_neg one_ne_zero]
    simp
  | coe r =>
    have e : Ideal.exp (-(r : EReal)) = ((Real.exp (-r) : ℝ) : EReal) := rfl
    have e1 : (1 : EReal) + ((Real.exp (-r) : ℝ) : EReal) = ((1 + Real.exp (-r) : ℝ) : EReal) := rfl
    rw [e, e1, Ideal.div_coe (by positivity)]
    exact ⟨_, (EReal.coe_mul 1 _).symm⟩

/-! ## Lanes, read off 32-bit words -/

theorem lane4 (l : ℕ) (h : l < 128) : IntOp.andi (IntOp.cmpi .sge (BitVec.ofNat 32 l) 0#32) (IntOp.cmpi .slt (BitVec.ofNat 32 l) 4#32)
    = BitVec.ofBool (decide (8 ≤ l + 8 ∧ l + 8 < 12)) :=
  (by decide +kernel : ∀ l : Fin 128, IntOp.andi (IntOp.cmpi .sge (BitVec.ofNat 32 l.val) 0#32) (IntOp.cmpi .slt (BitVec.ofNat 32 l.val) 4#32)
    = BitVec.ofBool (decide (8 ≤ l.val + 8 ∧ l.val + 8 < 12))) ⟨l, h⟩
theorem lane8 (l : ℕ) (h : l < 128) : IntOp.andi (IntOp.cmpi .sge (BitVec.ofNat 32 l) 4#32) (IntOp.cmpi .slt (BitVec.ofNat 32 l) 8#32)
    = BitVec.ofBool (decide (12 ≤ l + 8 ∧ l + 8 < 16)) :=
  (by decide +kernel : ∀ l : Fin 128, IntOp.andi (IntOp.cmpi .sge (BitVec.ofNat 32 l.val) 4#32) (IntOp.cmpi .slt (BitVec.ofNat 32 l.val) 8#32)
    = BitVec.ofBool (decide (12 ≤ l.val + 8 ∧ l.val + 8 < 16))) ⟨l, h⟩

variable (A : Decays)

/-- A token's gate: the logarithm of the decay, or the write strength. -/
def gate (b : Fin 16) (t : Fin 2304) (l : Fin 128) : EReal :=
  if l.val < 8 then -Ideal.exp (A.B (ix2 0 l)) * sp (A.G (ix3 b t l) + A.B (ix2 1 l)) else Ideal.logistic (A.G (ix3 b t l))
/-- The columns: the first eight are summed up. -/
def col (b : Fin 16) (t : Fin 2304) (l : Fin 128) : EReal :=
  Gates.sums (fun s => A.gate b ⟨t.val / 64 * 64 + s.val, by omega⟩ l) (l.val + 8) ⟨t.val % 64, by omega⟩
/-- The rows: a chunk's first 16 columns. -/
def row (b : Fin 16) (k : Fin 36) (s : Fin 16) (r : Fin 64) : EReal :=
  A.col b ⟨k.val * 64 + r.val, by omega⟩ ⟨s.val, by omega⟩

/-- Every decay's logarithm is a number. -/
def Finite : Prop := ∀ (b : Fin 16) (t : Fin 2304) (l : Fin 8),
  ∃ y : ℝ, Ideal.exp (A.B (ix2 0 (⟨l.val, by omega⟩ : Fin 128)))
    * sp (A.G (ix3 b t (⟨l.val, by omega⟩ : Fin 128)) + A.B (ix2 1 (⟨l.val, by omega⟩ : Fin 128))) = (y : EReal)

theorem gate_real (h : A.Finite) (b : Fin 16) (t : Fin 2304) (l : Fin 128) : ∃ y : ℝ, A.gate b t l = (y : EReal) := by
  unfold gate
  by_cases h8 : l.val < 8
  · rw [if_pos h8]
    obtain ⟨y, hy⟩ := h b t ⟨l.val, h8⟩
    refine ⟨-y, (EReal.neg_mul _ _).trans ?_⟩
    rw [EReal.coe_neg, ← hy]
  · rw [if_neg h8]
    exact sigmoid_real _

end Decays

end Cert.Proj

end
-- ==== Proof.Decays.Kernel.lean ====
/- What the kernel of the even layer's gates leaves in its result arrays. -/
module

public import proofs.«01_k».proof.Proof.Gen.Kernel11Ideal.Value
public import Idealize.ShloMosaic.Lib.Pipeline.ValueKit.Point
public import Idealize.ShloMosaic.Lib.StableHlo.ReadAt
public import Idealize.ShloMosaic.Lib.WholeRead
public import proofs.«01_k».proof.Proof.Decays.Spec

@[expose] public section

set_option maxRecDepth 16384

noncomputable section

namespace Cert.Kernel11Ideal.Pv

open Cert.Kernel11Ideal Cert.Kernel11Ideal.Gen Cert.Proj
open Idealize.ShloMosaic Idealize.ShloMosaic.TcCoe

/-- The lanes' numbers, along rows and down columns. -/
abbrev lanes : IVec S64x128 32 := iota .tc S64x128 32 [1] iota_S64x128_d1_w32
abbrev downs : IVec S128x64 32 := iota .tc S128x64 32 [0] iota_S128x64_d0_w32

variable (v16 v17 : Vec Ideal S1x128 .f32) (v22 : Vec Ideal S1x64x128 .f32)

/-- A chunk's gates before they are summed up. -/
abbrev gat : FVec Ideal S64x128 .f32 := k0_pay4 lanes v16 v17 v22

theorem gat_eq (r : Fin 64) (l : Fin 128) : gat v16 v17 v22 (ix2 r l)
    = if l.val < 8 then -Ideal.exp (v16 (ix2 0 l)) * Decays.sp (v22 (ix3 0 r l) + v17 (ix2 0 l)) else Ideal.logistic (v22 (ix3 0 r l)) := by
  pointwise [gat, k0_pay4]
  rw [Gates.lane8 _ l.isLt, Pool.select_bits]
  simp only [zero_sub]
  rfl
/-- The chunk's columns that are stored. -/
abbrev colp : FVec Ideal S1x64x128 .f32 :=
  k0_pay10 k0_pay2 (gat v16 v17 v22) (k0_pay5 lanes) (k0_pay6 lanes) (k0_pay8 k0_pay1 lanes v16 v17 v22) (k0_pay9 k0_pay1 lanes v16 v17 v22)
theorem colp_eq (r : Fin 64) (l : Fin 128) (h : ∀ s : Fin 64, ∃ y : ℝ, gat v16 v17 v22 (ix2 s l) = (y : EReal)) :
    colp v16 v17 v22 (ix3 0 r l) = Gates.sums (fun s => gat v16 v17 v22 (ix2 s l)) (l.val + 8) r := by
  pointwise [colp, k0_pay2, k0_pay5, k0_pay6, k0_pay10, k0_pay1, k0_pay7, k0_pay8, k0_pay9]
  rw [Decays.lane4 _ l.isLt, Decays.lane8 _ l.isLt, Pool.select_bits, Pool.select_bits]
  simp only [Gates.ge_bits, Gates.le_bits, Gates.bit_real]
  unfold Gates.sums
  by_cases h1 : 8 ≤ l.val + 8 ∧ l.val + 8 < 12
  · rw [if_pos h1, if_pos h1]
    exact Gates.mask_sum (fun s => s.val ≤ r.val) (fun s => gat v16 v17 v22 (ix2 s l)) h
  rw [if_neg h1, if_neg h1]
  by_cases h2 : 12 ≤ l.val + 8 ∧ l.val + 8 < 16
  · rw [if_pos h2, if_pos h2]
    exact Gates.mask_sum (fun s => r.val ≤ s.val) (fun s => gat v16 v17 v22 (ix2 s l)) h
  · rw [if_neg h2, if_neg h2]
/-- The chunk's rows that are stored. -/
abbrev rowp (g : FVec Ideal S64x128 .f32) : FVec Ideal S1x1x16x64 .f32 :=
  k0_pay3 g (k0_pay11 downs) (k0_pay12 downs) (k0_pay13 k0_pay2 g) (k0_pay14 g) (k0_pay16 g) (k0_pay17 g)
theorem rowp_eq (g : FVec Ideal S64x128 .f32) (s : Fin 16) (r : Fin 64)
    (h : ∀ x : Fin 64, ∃ y : ℝ, g (ix2 x (⟨s.val, by omega⟩ : Fin 128)) = (y : EReal)) :
    rowp g (ix4 0 0 s r) = Gates.sums (fun x => g (ix2 x (⟨s.val, by omega⟩ : Fin 128))) (s.val + 8) r := by
  pointwise [rowp, k0_pay3, k0_pay2, k0_pay11, k0_pay12, k0_pay13, k0_pay14, k0_pay15, k0_pay16, k0_pay17, k0_pay1]
  rw [Decays.lane4 s.val (by omega), Decays.lane8 s.val (by omega), Pool.select_bits, Pool.select_bits]
  simp only [Gates.ge_bits, Gates.le_bits, Gates.same_bits, Gates.bit_real]
  unfold Gates.sums
  by_cases h1 : 8 ≤ s.val + 8 ∧ s.val + 8 < 12
  · rw [if_pos h1, if_pos h1]
    exact Gates.mask_sum' (fun x => x.val ≤ r.val) (fun x => g (ix2 x (⟨s.val, by omega⟩ : Fin 128))) h
  rw [if_neg h1, if_neg h1]
  by_cases h2 : 12 ≤ s.val + 8 ∧ s.val + 8 < 16
  · rw [if_pos h2, if_pos h2]
    exact Gates.mask_sum' (fun x => r.val ≤ x.val) (fun x => g (ix2 x (⟨s.val, by omega⟩ : Fin 128))) h
  rw [if_neg h2, if_neg h2]
  refine (Gates.mask_sum' (fun x => x.val = r.val) (fun x => g (ix2 x (⟨s.val, by omega⟩ : Fin 128))) h).trans ?_
  simp only [← Fin.ext_iff, Finset.sum_ite_eq', Finset.mem_univ, if_true]

/-! ## A point's blocks -/

variable (x0 : Vec Ideal S1x2304x128 .f32) (x1 : Vec Ideal S8x128 .f32)

/-- A token's gate, of the point's blocks. -/
def one (t : Fin 2304) (l : Fin 128) : EReal :=
  if l.val < 8 then -Ideal.exp (x1 (ix2 0 l)) * Decays.sp (x0 (ix3 0 t l) + x1 (ix2 1 l)) else Ideal.logistic (x0 (ix3 0 t l))
/-- The columns, of the point's blocks. -/
def two (t : Fin 2304) (l : Fin 128) : EReal :=
  Gates.sums (fun s => one x0 x1 ⟨t.val / 64 * 64 + s.val, by omega⟩ l) (l.val + 8) ⟨t.val % 64, by omega⟩
/-- The columns and the rows, as functions of the index in the block. -/
def blkC (y : S1x2304x128.Idx) : EReal := two x0 x1 (y 1) (y 2)
def blkR (y : S1x36x16x64.Idx) : EReal :=
  two x0 x1 ⟨(y 1).val * 64 + (y 3).val, by have h1 : (y 1).val < 36 := (y 1).isLt; have h3 : (y 3).val < 64 := (y 3).isLt; omega⟩
    ⟨(y 2).val, by have h2 : (y 2).val < 16 := (y 2).isLt; omega⟩

variable (c : Dev nD) (i : grid0.Coords) (arg1 : Memref sig .tc .vmem S1x2304x128 .f32) (harg1 : arg1.IsWhole) (arg2 : Memref sig .tc .vmem S8x128 .f32) (harg2 : arg2.IsWhole)
  (arg3 : Memref sig .tc .vmem S1x2304x128 .f32) (harg3 : arg3.IsWhole) (arg4 : Memref sig .tc .vmem S1x36x16x64 .f32) (harg4 : arg4.IsWhole)

/-- The biases' rows and a chunk's channels, as the kernel reads them. -/
abbrev ld16 : Vec Ideal S1x128 .f32 := View.readAt (Elt Ideal) arg2.view (Rect.unit (s := S8x128) ![0, 0] S1x128.size inb_S8x128_S1x128_0_0).toLoadRect (harg2.unread x1)
abbrev ld17 : Vec Ideal S1x128 .f32 := View.readAt (Elt Ideal) arg2.view (Rect.unit (s := S8x128) ![1, 0] S1x128.size inb_S8x128_S1x128_1_0).toLoadRect (harg2.unread x1)
abbrev ld22 (k : Fin k0_t1_loop.trips) : Vec Ideal S1x64x128 .f32 :=
  View.readAt (Elt Ideal) arg1.view (Rect.unit (s := S1x2304x128) (k0_off1 k) S1x64x128.size (k0_off1_inb k)).toLoadRect (harg1.unread x0)

theorem ld16_eq (l : Fin 128) : ld16 x1 arg2 harg2 (ix2 0 l) = x1 (ix2 0 l) := by
  refine (harg2.readAt_unread _ _ _).trans (congrArg x1 (funext fun a => Fin.ext ?_))
  match a with
  | ⟨0, _⟩ => rfl
  | ⟨1, _⟩ => exact (Rect.idx_unit_val _ _ _ _ _).trans (Nat.zero_add _)
theorem ld17_eq (l : Fin 128) : ld17 x1 arg2 harg2 (ix2 0 l) = x1 (ix2 1 l) := by
  refine (harg2.readAt_unread _ _ _).trans (congrArg x1 (funext fun a => Fin.ext ?_))
  match a with
  | ⟨0, _⟩ => rfl
  | ⟨1, _⟩ => exact (Rect.idx_unit_val _ _ _ _ _).trans (Nat.zero_add _)
theorem lt36 (k : Fin k0_t1_loop.trips) : k.val < 36 := Nat.lt_of_lt_of_le k.isLt k0_t1_abs.2.1
theorem ld22_eq (k : Fin k0_t1_loop.trips) (r : Fin 64) (l : Fin 128) :
    ld22 x0 arg1 harg1 k (ix3 0 r l) = x0 (ix3 0 (⟨64 * k.val + r.val, by have := lt36 k; omega⟩ : Fin 2304) l) := by
  refine (harg1.readAt_unread _ _ _).trans (congrArg x0 (funext fun a => Fin.ext ?_))
  refine (Rect.idx_unit_val _ _ _ _ _).trans ((congrArg (· + _) (congrFun (k0_off1_eq k) a)).trans ?_)
  match a with
  | ⟨0, _⟩ => rfl
  | ⟨1, _⟩ => rfl
  | ⟨2, _⟩ => exact Nat.zero_add _

/-- A chunk's gates are the block's. -/
theorem gat_one (k : Fin k0_t1_loop.trips) (r : Fin 64) (l : Fin 128) :
    gat (ld16 x1 arg2 harg2) (ld17 x1 arg2 harg2) (ld22 x0 arg1 harg1 k) (ix2 r l) = one x0 x1 ⟨64 * k.val + r.val, by have := lt36 k; omega⟩ l := by
  rw [gat_eq, ld16_eq, ld17_eq, ld22_eq]
  rfl
theorem two_at (k : Fin k0_t1_loop.trips) (r : Fin 64) (l : Fin 128) (t : Fin 2304) (ht : t.val = 64 * k.val + r.val) :
    Gates.sums (fun s => one x0 x1 ⟨64 * k.val + s.val, by have := lt36 k; omega⟩ l) (l.val + 8) r = two x0 x1 t l := by
  unfold two
  have e1 : (⟨t.val % 64, by omega⟩ : Fin 64) = r := Fin.ext (by show t.val % 64 = r.val; omega)
  rw [e1]
  refine congrArg (fun f => Gates.sums f (l.val + 8) r) (funext fun s => congrArg (fun q => one x0 x1 q l) (Fin.ext ?_))
  show 64 * k.val + s.val = t.val / 64 * 64 + s.val
  omega

variable (hf : ∀ (t : Fin 2304) (l : Fin 128), ∃ y : ℝ, one x0 x1 t l = (y : EReal))
include hf

theorem trip_col (k : Fin k0_t1_loop.trips) :
    ∀ p ∈ (trip_k0_t1 (F := Ideal) Variants.none c none i arg1 harg1 arg2 harg2 arg3 harg3 arg4 harg4 lanes downs (ld16 x1 arg2 harg2) (ld17 x1 arg2 harg2) (harg1.unread x0) k).1,
      ∀ x : p.1.shape.Idx, p.2 x = blkC x0 x1 (p.1.emb x) := by
  unfold trip_k0_t1
  dsimp only
  simp only [List.forall_mem_cons, List.not_mem_nil, false_imp_iff, implies_true, and_true]
  intro x
  obtain ⟨r, hr⟩ : ∃ r : Fin 64, r = x 1 := ⟨_, rfl⟩
  obtain ⟨l, hl⟩ : ∃ l : Fin 128, l = x 2 := ⟨_, rfl⟩
  have hx : x = (ix3 0 r l : S1x64x128.Idx) := by
    rw [hr, hl]
    exact (eq_ix3 (n0 := 1) (n1 := 64) (n2 := 128) x).trans (by congr 1; exact Subsingleton.elim (α := Fin 1) _ _)
  refine (congrArg _ hx).trans ((colp_eq _ _ (ld22 x0 arg1 harg1 k) r l fun s => ?_).trans ?_)
  · rw [gat_one]
    exact hf _ _
  · have e := fun s : Fin 64 => gat_one x0 x1 arg1 harg1 arg2 harg2 k s l
    refine (congrArg (fun f => Gates.sums f (l.val + 8) r) (funext e)).trans ?_
    refine (two_at x0 x1 k r l _ ?_).trans (congrArg (two x0 x1 _) (Fin.ext ?_))
    · exact (Rect.idx_unit_val _ _ _ x 1).trans (congrArg₂ (· + ·) (congrFun (k0_off1_eq k) 1) (congrArg Fin.val hr.symm))
    · exact ((Rect.idx_unit_val _ _ _ x 2).trans ((congrArg₂ (· + ·) (congrFun (k0_off1_eq k) 2) (congrArg Fin.val hl.symm)).trans (Nat.zero_add _))).symm
theorem trip_row (k : Fin k0_t1_loop.trips) :
    ∀ p ∈ (trip_k0_t1 (F := Ideal) Variants.none c none i arg1 harg1 arg2 harg2 arg3 harg3 arg4 harg4 lanes downs (ld16 x1 arg2 harg2) (ld17 x1 arg2 harg2) (harg1.unread x0) k).2.1,
      ∀ x : p.1.shape.Idx, p.2 x = blkR x0 x1 (p.1.emb x) := by
  unfold trip_k0_t1
  dsimp only
  simp only [List.forall_mem_cons, List.not_mem_nil, false_imp_iff, implies_true, and_true]
  intro x
  obtain ⟨s, hs⟩ : ∃ s : Fin 16, s = x 2 := ⟨_, rfl⟩
  obtain ⟨r, hr⟩ : ∃ r : Fin 64, r = x 3 := ⟨_, rfl⟩
  have hx : x = (ix4 0 0 s r : S1x1x16x64.Idx) := by
    rw [hs, hr]
    exact (eq_ix4 (n0 := 1) (n1 := 1) (n2 := 16) (n3 := 64) x).trans (by congr 1 <;> exact Subsingleton.elim (α := Fin 1) _ _)
  refine (congrArg _ hx).trans ((rowp_eq (gat (ld16 x1 arg2 harg2) (ld17 x1 arg2 harg2) (ld22 x0 arg1 harg1 k)) s r fun t => ?_).trans ?_)
  · rw [gat_one]
    exact hf _ _
  · have e := fun t : Fin 64 => gat_one x0 x1 arg1 harg1 arg2 harg2 k t (⟨s.val, by omega⟩ : Fin 128)
    refine (congrArg (fun f => Gates.sums f (s.val + 8) r) (funext e)).trans ?_
    have e1 := (Rect.idx_unit_val _ _ (k0_off2_inb k) x 1).trans (congrArg₂ (· + ·) (congrFun (k0_off2_eq k) 1) (Nat.lt_one_iff.1 (x 1).isLt))
    have e2 := (Rect.idx_unit_val _ _ (k0_off2_inb k) x 2).trans (congrArg₂ (· + ·) (congrFun (k0_off2_eq k) 2) (congrArg Fin.val hs.symm))
    have e3 := (Rect.idx_unit_val _ _ (k0_off2_inb k) x 3).trans (congrArg₂ (· + ·) (congrFun (k0_off2_eq k) 3) (congrArg Fin.val hr.symm))
    refine (two_at x0 x1 k r (⟨s.val, by omega⟩ : Fin 128) _ ?_).trans (congrArg (two x0 x1 _) (Fin.ext (e2.trans (Nat.zero_add _)).symm))
    refine (congrArg₂ (fun a b => a * 64 + b) e1 e3).trans ?_
    show (k.val + 0) * 64 + (0 + r.val) = 64 * k.val + r.val
    omega

theorem all_col : ∀ n, ∀ p ∈ (pb_k0_t1 (F := Ideal) Variants.none c none i arg1 harg1 arg2 harg2 arg3 harg3 arg4 harg4 lanes downs (ld16 x1 arg2 harg2) (ld17 x1 arg2 harg2) (harg1.unread x0) n).1,
      ∀ x : p.1.shape.Idx, p.2 x = blkC x0 x1 (p.1.emb x)
  | 0 => fun p hp => by rw [pb_k0_t1.eq_1] at hp; exact absurd hp List.not_mem_nil
  | n + 1 => fun p hp => by
    by_cases hn : n < k0_t1_loop.trips
    · rw [pb_k0_t1_succ Variants.none c none i arg1 harg1 arg2 harg2 arg3 harg3 arg4 harg4 lanes downs _ _ _ ⟨n, hn⟩] at hp
      rcases List.mem_append.1 hp with h | h
      · exact trip_col x0 x1 c i arg1 harg1 arg2 harg2 arg3 harg3 arg4 harg4 hf ⟨n, hn⟩ p h
      · exact all_col n p h
    · rw [pb_k0_t1.eq_2] at hp
      unfold pb_k0_t1Step at hp
      rw [dif_neg hn] at hp
      exact all_col n p hp
theorem all_row : ∀ n, ∀ p ∈ (pb_k0_t1 (F := Ideal) Variants.none c none i arg1 harg1 arg2 harg2 arg3 harg3 arg4 harg4 lanes downs (ld16 x1 arg2 harg2) (ld17 x1 arg2 harg2) (harg1.unread x0) n).2,
      ∀ x : p.1.shape.Idx, p.2 x = blkR x0 x1 (p.1.emb x)
  | 0 => fun p hp => by rw [pb_k0_t1.eq_1] at hp; exact absurd hp List.not_mem_nil
  | n + 1 => fun p hp => by
    by_cases hn : n < k0_t1_loop.trips
    · rw [pb_k0_t1_succ Variants.none c none i arg1 harg1 arg2 harg2 arg3 harg3 arg4 harg4 lanes downs _ _ _ ⟨n, hn⟩] at hp
      rcases List.mem_append.1 hp with h | h
      · exact trip_row x0 x1 c i arg1 harg1 arg2 harg2 arg3 harg3 arg4 harg4 hf ⟨n, hn⟩ p h
      · exact all_row n p h
    · rw [pb_k0_t1.eq_2] at hp
      unfold pb_k0_t1Step at hp
      rw [dif_neg hn] at hp
      exact all_row n p hp

theorem out2_eq (y : S1x2304x128.Idx) : out0_A_2 c i arg1 harg1 arg2 harg2 arg3 harg3 arg4 harg4 x0 x1 y = blkC x0 x1 y := by
  have hc := cover0_A_2 c i arg1 harg1 arg2 harg2 arg3 harg3 arg4 harg4 x0 x1 y
  refine (View.read_writes_apply_eq_canon (Val := Elt Ideal) VO0_2 _ y _ hc).trans
    (View.canon_apply_of_pieces (Val := Elt Ideal) (e := .f32) (blkC x0 x1) _ ?_ y hc)
  unfold kernelRun0_A
  exact all_col x0 x1 c i arg1 harg1 arg2 harg2 arg3 harg3 arg4 harg4 hf _
theorem out3_eq (y : S1x36x16x64.Idx) : out0_A_3 c i arg1 harg1 arg2 harg2 arg3 harg3 arg4 harg4 x0 x1 y = blkR x0 x1 y := by
  have hc := cover0_A_3 c i arg1 harg1 arg2 harg2 arg3 harg3 arg4 harg4 x0 x1 y
  refine (View.read_writes_apply_eq_canon (Val := Elt Ideal) VO0_3 _ y _ hc).trans
    (View.canon_apply_of_pieces (Val := Elt Ideal) (e := .f32) (blkR x0 x1) _ ?_ y hc)
  unfold kernelRun0_A
  exact all_row x0 x1 c i arg1 harg1 arg2 harg2 arg3 harg3 arg4 harg4 hf _

omit hf

/-! ## The run -/

variable (m : (ℓ : Loc nD τ sig) → Buf (Elt Ideal) ℓ)

/-- The kernel's arguments. -/
def argsK (c : Dev nD) : Decays where
  G := m ((c : Thread nD τ).loc main_arg0)
  B := m ((c : Thread nD τ).loc main_arg1)

theorem idx0 : ∀ t : Fin cfg0.N, win0_0.index t = ![t.val, 0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0, 0] := (by decide +kernel : ∀ t : Fin grid0.N, _)
theorem idx3 : ∀ t : Fin cfg0.N, win0_3.index t = ![t.val, 0, 0, 0] := (by decide +kernel : ∀ t : Fin grid0.N, _)

theorem lt16 (t : Fin cfg0.N) : t.val < 16 := lt_of_lt_of_eq t.isLt N_0

theorem blk0 (t : Fin cfg0.N) (r : Fin 2304) (l : Fin 128) : iblk m c 0 t (ix3 0 r l) = (argsK m c).G (ix3 (⟨t.val, lt16 t⟩ : Fin 16) r l) := by
  refine Eq.trans ?_ (congrFun (V_main_arg0 m c) _)
  blk_ext [iblk, idx0]
theorem blk1 (t : Fin cfg0.N) (a : Fin 8) (l : Fin 128) : iblk m c 1 t (ix2 a l) = (argsK m c).B (ix2 a l) := by
  refine Eq.trans ?_ (congrFun (V_main_arg1 m c) _)
  blk_ext [iblk, idx1]

theorem one_eq (t : Fin cfg0.N) (r : Fin 2304) (l : Fin 128) : one (iblk m c 0 t) (iblk m c 1 t) r l = (argsK m c).gate ⟨t.val, lt16 t⟩ r l := by
  unfold one Decays.gate
  rw [blk0, blk1, blk1]
theorem two_eq (t : Fin cfg0.N) (r : Fin 2304) (l : Fin 128) : two (iblk m c 0 t) (iblk m c 1 t) r l = (argsK m c).col ⟨t.val, lt16 t⟩ r l := by
  unfold two Decays.col
  simp only [one_eq]

/-- The columns as the region leaves them. -/
theorem final2 (h : (argsK m c).Finite) : (dats m 0 c).arrAt 2 cfg0.N = fun i => (argsK m c).col (i 0) (i 1) (i 2) := by
  refine (dats m 0 c).arrAt_eq_of_covers 2 _ (by decide +kernel) fun s hs y => ?_
  blk_simp
  have e0 : (win0_2.blk s).view.emb y 0 = (⟨s.val, lt16 s⟩ : Fin 16) := Fin.ext (by blk_simp [idx2])
  have e1 : (win0_2.blk s).view.emb y 1 = y 1 := Fin.ext (by blk_simp [idx2])
  have e2 : (win0_2.blk s).view.emb y 2 = y 2 := Fin.ext (by blk_simp [idx2])
  rw [e0, e1, e2, after0_2]
  refine (out2_eq _ _ _ _ _ _ _ _ _ _ _ _ (fun t l => ?_) y).trans (two_eq c m s _ _)
  rw [one_eq]
  exact (argsK m c).gate_real h _ t l
/-- The rows as the region leaves them. -/
theorem final3 (h : (argsK m c).Finite) : (dats m 0 c).arrAt 3 cfg0.N = fun i => (argsK m c).row (i 0) (i 1) (i 2) (i 3) := by
  refine (dats m 0 c).arrAt_eq_of_covers 3 _ (by decide +kernel) fun s hs y => ?_
  blk_simp
  have e0 : (win0_3.blk s).view.emb y 0 = (⟨s.val, lt16 s⟩ : Fin 16) := Fin.ext (by blk_simp [idx3])
  have e1 : (win0_3.blk s).view.emb y 1 = y 1 := Fin.ext (by blk_simp [idx3])
  have e2 : (win0_3.blk s).view.emb y 2 = y 2 := Fin.ext (by blk_simp [idx3])
  have e3 : (win0_3.blk s).view.emb y 3 = y 3 := Fin.ext (by blk_simp [idx3])
  rw [e0, e1, e2, e3, after0_3]
  refine (out3_eq _ _ _ _ _ _ _ _ _ _ _ _ (fun t l => ?_) y).trans (two_eq c m s _ _)
  rw [one_eq]
  exact (argsK m c).gate_real h _ t l

end Cert.Kernel11Ideal.Pv

end
-- ==== Proof.Decays.Ref.lean ====
/- What the reference of the even layer's gates computes, element by element. -/
module

public import proofs.«01_k».proof.Proof.Gen.Reference11Ideal.Run
public import proofs.«01_k».proof.Proof.Decays.Spec

@[expose] public section

set_option maxRecDepth 16384

noncomputable section

namespace Cert.Reference11Ideal.Pv

open Cert.Reference11Ideal Cert.Reference11Ideal.Gen Cert.Reference11Ideal.Value Cert.Proj
open Idealize.ShloMosaic Idealize.ShloMosaic.TcCoe Idealize.ShloMosaic.StableHlo

variable (m : (ℓ : Loc nD τ sig) → Buf (Elt Ideal) ℓ) (ρ : Dev nD → PrngReg) (c : Dev nD)

/-- The reference's arguments. -/
def argsR : Decays where
  G := m ((c.tc : Thread nD τ).loc main_arg0)
  B := m ((c.tc : Thread nD τ).loc main_arg1)

/-- The softplus of every entry. -/
def softp (z : FVec Ideal S16x2304x8 .f32) : FVec Ideal S16x2304x8 .f32 :=
  select (cmpf .une (subf z (broadcastInDim S16x2304x8 ![] bcast_S_S16x2304x8 (constant (F := Ideal) S_ .f32 0x00000000#32))) (subf z (broadcastInDim S16x2304x8 ![] bcast_S_S16x2304x8 (constant (F := Ideal) S_ .f32 0x00000000#32)))) (addf z (broadcastInDim S16x2304x8 ![] bcast_S_S16x2304x8 (constant (F := Ideal) S_ .f32 0x00000000#32))) (addf (maximumf z (broadcastInDim S16x2304x8 ![] bcast_S_S16x2304x8 (constant (F := Ideal) S_ .f32 0x00000000#32))) (Host.log1p (Host.exp (Host.negf (Host.absf (subf z (broadcastInDim S16x2304x8 ![] bcast_S_S16x2304x8 (constant (F := Ideal) S_ .f32 0x00000000#32))))))))
theorem softp_eq (z : FVec Ideal S16x2304x8 .f32) (b : Fin 16) (t : Fin 2304) (l : Fin 8) : softp z (ix3 b t l) = Decays.sp (z (ix3 b t l)) := by
  pointwise [softp, constant]
  rw [if_neg (fun h => h rfl)]
  rfl

/-- The steps before the softplus. -/
def arg : FVec Ideal S16x2304x8 .f32 :=
  addf (extractStridedSlice S16x2304x8 ![0, 0, 0] (m ((c.tc : Thread nD τ).loc main_arg0)) slices_S16x2304x128_S16x2304x8_0_0_0) (broadcastInDim S16x2304x8 ![0, 1, 2] bcast_S1x1x8_S16x2304x8_0_1_2 (broadcastInDim S1x1x8 ![2] bcast_S8_S1x1x8_2 (shapeCast _ (extractStridedSlice S1x8 ![1, 0] (m ((c.tc : Thread nD τ).loc main_arg1)) slices_S8x128_S1x8_1_0) shapeCasts_S1x8_S8)))
/-- The decays' logarithms. -/
def decay : FVec Ideal S16x2304x8 .f32 :=
  mulf (broadcastInDim S16x2304x8 ![0, 1, 2] bcast_S1x1x8_S16x2304x8_0_1_2 (broadcastInDim S1x1x8 ![2] bcast_S8_S1x1x8_2 (Host.negf (Host.exp (shapeCast _ (extractStridedSlice S1x8 ![0, 0] (m ((c.tc : Thread nD τ).loc main_arg1)) slices_S8x128_S1x8_0_0) shapeCasts_S1x8_S8))))) (softp (arg m c))
theorem decay_eq (b : Fin 16) (t : Fin 2304) (l : Fin 8) (q : Fin 128) (h : q.val = l.val) : decay m c (ix3 b t l) = (argsR m c).gate b t q := by
  have hl : l.val < 128 := by omega
  have e : q = (⟨l.val, hl⟩ : Fin 128) := Fin.ext h
  subst e
  refine Eq.trans ?_ (if_pos l.isLt).symm
  pointwise [decay]
  rw [softp_eq]
  pointwise [arg]
  rfl
/-- The write strengths. -/
def beta : FVec Ideal S16x2304x120 .f32 :=
  Host.divf (broadcastInDim S16x2304x120 ![] bcast_S_S16x2304x120 (constant (F := Ideal) S_ .f32 0x3F800000#32)) (addf (broadcastInDim S16x2304x120 ![] bcast_S_S16x2304x120 (constant (F := Ideal) S_ .f32 0x3F800000#32)) (Host.exp (Host.negf (extractStridedSlice S16x2304x120 ![0, 0, 8] (m ((c.tc : Thread nD τ).loc main_arg0)) slices_S16x2304x128_S16x2304x120_0_0_8))))
theorem beta_eq (b : Fin 16) (t : Fin 2304) (l : Fin 120) (q : Fin 128) (h : q.val = 8 + l.val) : beta m c (ix3 b t l) = (argsR m c).gate b t q := by
  have hl : 8 + l.val < 128 := by omega
  have e : q = (⟨8 + l.val, hl⟩ : Fin 128) := Fin.ext h
  subst e
  refine Eq.trans ?_ (if_neg (by show ¬ 8 + l.val < 8; omega)).symm
  pointwise [beta, constant]
  rfl

/-- The sums from the chunk's first token on. -/
def fwd (x : FVec Ideal S16x2304x8 .f32) : FVec Ideal S16x2304x4 .f32 :=
  shapeCast _ (Host.reduceAdd (select (broadcastInDim S16x36x64x64x4 ![0, 1, 2, 3, 4] bcast_S1x1x64x64x1_S16x36x64x64x4_0_1_2_3_4 (broadcastInDim S1x1x64x64x1 ![2, 3] bcast_S64x64_S1x1x64x64x1_2_3 (cmpi .sle (broadcastInDim S64x64 ![0, 1] bcast_S1x64_S64x64_0_1 (broadcastInDim S1x64 ![1] bcast_S64_S1x64_1 (iotaInDim S64 32 0))) (broadcastInDim S64x64 ![0, 1] bcast_S64x1_S64x64_0_1 (broadcastInDim S64x1 ![0] bcast_S64_S64x1_0 (iotaInDim S64 32 0)))))) (broadcastInDim S16x36x64x64x4 ![0, 1, 2, 3, 4] bcast_S16x36x1x64x4_S16x36x64x64x4_0_1_2_3_4 (broadcastInDim S16x36x1x64x4 ![0, 1, 3, 4] bcast_S16x36x64x4_S16x36x1x64x4_0_1_3_4 (extractStridedSlice S16x36x64x4 ![0, 0, 0, 0] (shapeCast _ x shapeCasts_S16x2304x8_S16x36x64x8) slices_S16x36x64x8_S16x36x64x4_0_0_0_0))) (broadcastInDim S16x36x64x64x4 ![] bcast_S_S16x36x64x64x4 (id (constant (F := Ideal) S_ .f32 0x00000000#32)))) (constant (F := Ideal) S_ .f32 0x00000000#32) reducesTo_S16x36x64x64x4_S16x36x64x4_d3 h_S_) shapeCasts_S16x36x64x4_S16x2304x4
theorem fwd_eq (x : FVec Ideal S16x2304x8 .f32) (b : Fin 16) (t : Fin 2304) (l : Fin 4) :
    fwd x (ix3 b t l) = ∑ s : Fin 64, if s.val ≤ t.val % 64 then x (ix3 b (⟨t.val / 64 * 64 + s.val, by omega⟩ : Fin 2304) (⟨l.val, by omega⟩ : Fin 8)) else 0 := by
  pointwise [fwd, id, constant]
  exact Finset.sum_congr rfl fun s _ => by rw [Gates.le_bits s ⟨t.val % 64, by omega⟩, Pool.select_bits]
/-- The sums to the chunk's last token. -/
def bwd (x : FVec Ideal S16x2304x8 .f32) : FVec Ideal S16x2304x4 .f32 :=
  shapeCast _ (Host.reduceAdd (select (broadcastInDim S16x36x64x64x4 ![0, 1, 2, 3, 4] bcast_S1x1x64x64x1_S16x36x64x64x4_0_1_2_3_4 (broadcastInDim S1x1x64x64x1 ![2, 3] bcast_S64x64_S1x1x64x64x1_2_3 (cmpi .sge (broadcastInDim S64x64 ![0, 1] bcast_S1x64_S64x64_0_1 (broadcastInDim S1x64 ![1] bcast_S64_S1x64_1 (iotaInDim S64 32 0))) (broadcastInDim S64x64 ![0, 1] bcast_S64x1_S64x64_0_1 (broadcastInDim S64x1 ![0] bcast_S64_S64x1_0 (iotaInDim S64 32 0)))))) (broadcastInDim S16x36x64x64x4 ![0, 1, 2, 3, 4] bcast_S16x36x1x64x4_S16x36x64x64x4_0_1_2_3_4 (broadcastInDim S16x36x1x64x4 ![0, 1, 3, 4] bcast_S16x36x64x4_S16x36x1x64x4_0_1_3_4 (extractStridedSlice S16x36x64x4 ![0, 0, 0, 4] (shapeCast _ x shapeCasts_S16x2304x8_S16x36x64x8) slices_S16x36x64x8_S16x36x64x4_0_0_0_4))) (broadcastInDim S16x36x64x64x4 ![] bcast_S_S16x36x64x64x4 (id (constant (F := Ideal) S_ .f32 0x00000000#32)))) (constant (F := Ideal) S_ .f32 0x00000000#32) reducesTo_S16x36x64x64x4_S16x36x64x4_d3 h_S_) shapeCasts_S16x36x64x4_S16x2304x4
theorem bwd_eq (x : FVec Ideal S16x2304x8 .f32) (b : Fin 16) (t : Fin 2304) (l : Fin 4) :
    bwd x (ix3 b t l) = ∑ s : Fin 64, if t.val % 64 ≤ s.val then x (ix3 b (⟨t.val / 64 * 64 + s.val, by omega⟩ : Fin 2304) (⟨4 + l.val, by omega⟩ : Fin 8)) else 0 := by
  pointwise [bwd, id, constant]
  exact Finset.sum_congr rfl fun s _ => by rw [Gates.ge_bits s ⟨t.val % 64, by omega⟩, Pool.select_bits]

theorem put_eq (u0 u1 : FVec Ideal S16x2304x4 .f32) (u2 : FVec Ideal S16x2304x120 .f32) (b : Fin 16) (t : Fin 2304) (l : Fin 128) :
    fn_main_v45 (F := Ideal) u0 u1 u2 (ix3 b t l)
      = if h : l.val < 4 then u0 (ix3 b t (⟨l.val, h⟩ : Fin 4))
        else if h1 : l.val - 4 < 4 then u1 (ix3 b t (⟨l.val - 4, h1⟩ : Fin 4)) else u2 (ix3 b t (⟨l.val - 4 - 4, by omega⟩ : Fin 120)) := by
  pointwise [fn_main_v45]

theorem v45_eq : res_main_v45 m c = fn_main_v45 (F := Ideal) (fwd (decay m c)) (bwd (decay m c)) (beta m c) := rfl
theorem v48_eq (b : Fin 16) (k : Fin 36) (s : Fin 16) (r : Fin 64) :
    res_main_v48 m c (ix4 b k s r) = res_main_v45 m c (ix3 b (⟨k.val * 64 + r.val, by omega⟩ : Fin 2304) (⟨s.val, by omega⟩ : Fin 128)) := by
  have e : res_main_v48 m c = transpose S16x36x16x64 [0, 1, 3, 2] (shapeCast S16x36x64x16 (extractStridedSlice S16x2304x16 ![0, 0, 0] (res_main_v45 m c) slices_S16x2304x128_S16x2304x16_0_0_0) shapeCasts_S16x2304x16_S16x36x64x16) transposes_S16x36x64x16_S16x36x16x64_0_1_3_2 := rfl
  rw [e]
  generalize res_main_v45 m c = w
  pointwise

theorem col_eq (b : Fin 16) (t : Fin 2304) (l : Fin 128) : res_main_v45 m c (ix3 b t l) = (argsR m c).col b t l := by
  have ht : (⟨t.val / 64 * 64 + t.val % 64, by omega⟩ : Fin 2304) = t := Fin.ext (by show t.val / 64 * 64 + t.val % 64 = t.val; omega)
  rw [v45_eq, put_eq]
  unfold Decays.col Gates.sums
  by_cases h : l.val < 4
  · rw [dif_pos h, if_pos (by omega), fwd_eq]
    exact Finset.sum_congr (M := EReal) rfl fun s _ => if_congr Iff.rfl (decay_eq m c b _ _ l rfl) rfl
  rw [dif_neg h]
  by_cases h1 : l.val - 4 < 4
  · rw [dif_pos h1, if_neg (by omega), if_pos (by omega), bwd_eq]
    exact Finset.sum_congr (M := EReal) rfl fun s _ => if_congr Iff.rfl (decay_eq m c b _ _ l (by show l.val = 4 + (l.val - 4); omega)) rfl
  · rw [dif_neg h1, if_neg (by omega), if_neg (by omega), beta_eq m c b t _ l (by show l.val = 8 + (l.val - 4 - 4); omega)]
    exact congrArg (fun q => (argsR m c).gate b q l) ht.symm

/-- What the reference's run leaves: the columns and the rows. -/
theorem run_spec : θ_run defs (onTc (τ := τ) (main (F := Ideal))) ⟨m, fun _ => 0, ρ⟩ fun r => ∀ c : Dev nD,
      r.2.mem ((c.tc : Thread nD τ).loc main_v45) = (fun i => (argsR m c).col (i 0) (i 1) (i 2))
      ∧ r.2.mem ((c.tc : Thread nD τ).loc main_v48) = (fun i => (argsR m c).row (i 0) (i 1) (i 2) (i 3))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans (funext fun i => ?_), (h c).2.1.trans (funext fun i => ?_), (h c).2.2⟩)
    (Cert.Reference11Ideal.Value.run m ρ)
  · exact (congrArg _ (eq_ix3 (n0 := 16) (n1 := 2304) (n2 := 128) i)).trans (col_eq m c (i 0) (i 1) (i 2))
  · exact (congrArg _ (eq_ix4 (n0 := 16) (n1 := 36) (n2 := 16) (n3 := 64) i)).trans
      ((v48_eq m c (i 0) (i 1) (i 2) (i 3)).trans (col_eq m c (i 0) _ _))

end Cert.Reference11Ideal.Pv

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.AtBits
public import proofs.«01_k».proof.Proof.Ideal.Body
public import proofs.«01_k».proof.Proof.Value.Equal
public import proofs.«01_k».proof.Proof.In.Kernel
public import proofs.«01_k».proof.Proof.In.Ref
public import proofs.«01_k».proof.Proof.Out.Kernel
public import proofs.«01_k».proof.Proof.Out.Ref
public import proofs.«01_k».proof.Proof.Odd.Kernel
public import proofs.«01_k».proof.Proof.Odd.Ref
public import proofs.«01_k».proof.Proof.OddOut.Kernel
public import proofs.«01_k».proof.Proof.OddOut.Ref
public import proofs.«01_k».proof.Proof.OddCtx.Kernel
public import proofs.«01_k».proof.Proof.OddCtx.Ref
public import proofs.«01_k».proof.Proof.Ada.Kernel
public import proofs.«01_k».proof.Proof.Ada.Ref
public import proofs.«01_k».proof.Proof.Pool.Kernel
public import proofs.«01_k».proof.Proof.Pool.Ref
public import Idealize.ShloMosaic.Adequacy
public import Idealize.ShloMosaic.Init
public import proofs.«01_k».proof.Proof.Gates.Kernel
public import proofs.«01_k».proof.Proof.Gates.Ref
public import proofs.«01_k».proof.Proof.Gates.KernelL
public import proofs.«01_k».proof.Proof.Gates.RefL
public import proofs.«01_k».proof.Proof.Decays.Kernel
public import proofs.«01_k».proof.Proof.Decays.Ref

@[expose] public section

noncomputable section

namespace Cert.Proof

open Idealize.ShloMosaic Idealize.SL.Sem Cert.Kernel

theorem frame_i : Cert.quiescent_KernelIdeal := fun m ρ _ => Cert.KernelIdeal.Pd.frame (F := Ideal) m ρ

theorem frame_r : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem preserves : Cert.preserves_Kernel_KernelIdeal :=
  ⟨IdealRules.named_const.statement Cert.KernelIdeal.κ "gelu_cubic" .bf16 0x3D37#16 ((12003091 / 268435456 : ℝ) : EReal) rfl,
   IdealRules.named_const.statement Cert.KernelIdeal.κ "gelu_scale" .bf16 0x3F4C#16 ((6693141 / 8388608 : ℝ) : EReal) rfl⟩

theorem algebraic : Cert.algebraic_KernelIdeal_ReferenceIdeal := fun m g m' g' _ hargs => by
  refine ⟨fun c => fun i => Peer.out (Cert.KernelIdeal.Pd.argsK m c) (i 0) (i 1), ?_, ?_⟩
  · exact (θ_run Cert.KernelIdeal.defs _ _).mono (fun r h c => ⟨h.1 c, h.2.1 c⟩)
      (θ_run_and (Peer.kernel_value m g) (Cert.KernelIdeal.Pd.frame (F := Ideal) m g))
  · have e : ∀ c, Peer.argsR m' c = Cert.KernelIdeal.Pd.argsK m c := fun c => by
      obtain ⟨h0, h1, h2, h3, h4, h5, h6, h7, h8, h9⟩ := hargs c
      unfold Peer.argsR Cert.KernelIdeal.Pd.argsK
      rw [h0, h1, h2, h3, h4, h5, h6, h7, h8, h9]
    exact (θ_run Cert.ReferenceIdeal.defs _ _).mono
      (fun r h c => ⟨(h c).1.trans ((Peer.reference_value m' c).trans (by rw [e c]; rfl)), (h c).2⟩) (Cert.ReferenceIdeal.Value.run (F := Ideal) m' g')

/-! The projections around the layers' mixers: frames, rewrites and values, one program after the other. -/

theorem frame_k2 : Cert.quiescent_Kernel2 := fun m ρ _ => Cert.Kernel2.Gen.frame (F := Bits) m ρ

theorem frame_i2 : Cert.quiescent_Kernel2Ideal := fun m ρ _ => Cert.Kernel2Ideal.Gen.frame (F := Ideal) m ρ

theorem frame_r2 : Cert.quiescent_Reference2Ideal := fun m ρ _ =>
  (θ_run Cert.Reference2Ideal.defs _ _).mono (fun r h => ⟨fun c => (h c).2.2.2.2.2, sem_eq_zero_of_no_sems (by decide) r.2⟩)
    (Cert.Reference2Ideal.Value.run (F := Ideal) m ρ)

/-- The values of the projection into the even layer's mixers. -/
theorem algebraic2 : Cert.algebraic_Kernel2Ideal_Reference2Ideal := fun m g m' g' _ hargs => by
  refine ⟨fun c => fun i => (Cert.Kernel2Ideal.Pv.argsK m c).qkv (i 0) (i 1), fun c => fun i => (Cert.Kernel2Ideal.Pv.argsK m c).z (i 0) (i 1), fun c => fun i => (Cert.Kernel2Ideal.Pv.argsK m c).xb (i 0) (i 1), fun c => fun i => (Cert.Kernel2Ideal.Pv.argsK m c).gate (i 0) (i 1), fun c => fun i => (Cert.Kernel2Ideal.Pv.argsK m c).ab (i 0) (i 1), ?_, ?_⟩
  · exact (θ_run Cert.Kernel2Ideal.defs _ _).mono (fun r h c => ⟨((h c).1).trans (Cert.Kernel2Ideal.Pv.final5 m c), ((h c).2.1).trans (Cert.Kernel2Ideal.Pv.final6 m c), ((h c).2.2.1).trans (Cert.Kernel2Ideal.Pv.final7 m c), ((h c).2.2.2.1).trans (Cert.Kernel2Ideal.Pv.final8 m c), ((h c).2.2.2.2.1).trans (Cert.Kernel2Ideal.Pv.final9 m c), (h c).2.2.2.2.2⟩)
      (Cert.Kernel2Ideal.Value.run_blocks (F := Ideal) m g)
  · have e : ∀ c, Cert.Reference2Ideal.Pv.argsR m' c = Cert.Kernel2Ideal.Pv.argsK m c := fun c => by
      obtain ⟨h0, h1, h2, h3, h4⟩ := hargs c
      unfold Cert.Reference2Ideal.Pv.argsR Cert.Kernel2Ideal.Pv.argsK
      rw [h0, h1, h2, h3, h4]
    exact (θ_run Cert.Reference2Ideal.defs _ _).mono (fun r h c => ⟨((h.1 c).1).trans (by rw [e c]; rfl), ((h.1 c).2.1).trans (by rw [e c]; rfl), ((h.1 c).2.2.1).trans (by rw [e c]; rfl), ((h.1 c).2.2.2.1).trans (by rw [e c]; rfl), ((h.1 c).2.2.2.2).trans (by rw [e c]; rfl), (h.2 c).2.2.2.2.2⟩)
      (θ_run_and (Cert.Reference2Ideal.Pv.run_spec m' g') (Cert.Reference2Ideal.Value.run (F := Ideal) m' g'))

theorem frame_k3 : Cert.quiescent_Kernel3 := fun m ρ _ => Cert.Kernel3.Gen.frame (F := Bits) m ρ

theorem frame_i3 : Cert.quiescent_Kernel3Ideal := fun m ρ _ => Cert.Kernel3Ideal.Gen.frame (F := Ideal) m ρ

theorem frame_r3 : Cert.quiescent_Reference3Ideal := fun m ρ _ =>
  (θ_run Cert.Reference3Ideal.defs _ _).mono (fun r h => ⟨fun c => (h c).2.2, sem_eq_zero_of_no_sems (by decide) r.2⟩)
    (Cert.Reference3Ideal.Value.run (F := Ideal) m ρ)

/-- The values of the projection back from the even layer's mixers. -/
theorem algebraic3 : Cert.algebraic_Kernel3Ideal_Reference3Ideal := fun m g m' g' _ hargs => by
  refine ⟨fun c => fun i => (Cert.Kernel3Ideal.Pv.argsK m c).x1 (i 0) (i 1), fun c => fun i => (Cert.Kernel3Ideal.Pv.argsK m c).h1 (i 0) (i 1), ?_, ?_⟩
  · exact (θ_run Cert.Kernel3Ideal.defs _ _).mono (fun r h c => ⟨((h c).1).trans (Cert.Kernel3Ideal.Pv.final9 m c), ((h c).2.1).trans (Cert.Kernel3Ideal.Pv.final10 m c), (h c).2.2⟩)
      (Cert.Kernel3Ideal.Value.run_blocks (F := Ideal) m g)
  · have e : ∀ c, Cert.Reference3Ideal.Pv.argsR m' c = Cert.Kernel3Ideal.Pv.argsK m c := fun c => by
      obtain ⟨h0, h1, h2, h3, h4, h5, h6⟩ := hargs c
      unfold Cert.Reference3Ideal.Pv.argsR Cert.Kernel3Ideal.Pv.argsK
      rw [h0, h1, h2, h3, h4, h5, h6]
    exact (θ_run Cert.Reference3Ideal.defs _ _).mono (fun r h c => ⟨((h.1 c).1).trans (by rw [e c]; rfl), ((h.1 c).2).trans (by rw [e c]; rfl), (h.2 c).2.2⟩)
      (θ_run_and (Cert.Reference3Ideal.Pv.run_spec m' g') (Cert.Reference3Ideal.Value.run (F := Ideal) m' g'))

theorem frame_k4 : Cert.quiescent_Kernel4 := fun m ρ _ => Cert.Kernel4.Gen.frame (F := Bits) m ρ

theorem frame_i4 : Cert.quiescent_Kernel4Ideal := fun m ρ _ => Cert.Kernel4Ideal.Gen.frame (F := Ideal) m ρ

theorem frame_r4 : Cert.quiescent_Reference4Ideal := fun m ρ _ =>
  (θ_run Cert.Reference4Ideal.defs _ _).mono (fun r h => ⟨fun c => (h c).2.2.2.2.2.2, sem_eq_zero_of_no_sems (by decide) r.2⟩)
    (Cert.Reference4Ideal.Value.run (F := Ideal) m ρ)

/-- The values of the projection into the odd layer's mixers. -/
theorem algebraic4 : Cert.algebraic_Kernel4Ideal_Reference4Ideal := fun m g m' g' _ hargs => by
  refine ⟨fun c => fun i => (Cert.Kernel4Ideal.Pv.argsK m c).q (i 0) (i 1), fun c => fun i => (Cert.Kernel4Ideal.Pv.argsK m c).k (i 0) (i 1), fun c => fun i => (Cert.Kernel4Ideal.Pv.argsK m c).v (i 0) (i 1), fun c => fun i => (Cert.Kernel4Ideal.Pv.argsK m c).o (i 0) (i 1), fun c => fun i => (Cert.Kernel4Ideal.Pv.argsK m c).dd (i 0) (i 1), fun c => fun i => (Cert.Kernel4Ideal.Pv.argsK m c).gates (i 0) (i 1), ?_, ?_⟩
  · exact (θ_run Cert.Kernel4Ideal.defs _ _).mono (fun r h c => ⟨((h c).1).trans (Cert.Kernel4Ideal.Pv.final5 m c), ((h c).2.1).trans (Cert.Kernel4Ideal.Pv.final6 m c), ((h c).2.2.1).trans (Cert.Kernel4Ideal.Pv.final7 m c), ((h c).2.2.2.1).trans (Cert.Kernel4Ideal.Pv.final8 m c), ((h c).2.2.2.2.1).trans (Cert.Kernel4Ideal.Pv.final9 m c), ((h c).2.2.2.2.2.1).trans (Cert.Kernel4Ideal.Pv.final10 m c), (h c).2.2.2.2.2.2⟩)
      (Cert.Kernel4Ideal.Value.run_blocks (F := Ideal) m g)
  · have e : ∀ c, Cert.Reference4Ideal.Pv.argsR m' c = Cert.Kernel4Ideal.Pv.argsK m c := fun c => by
      obtain ⟨h0, h1, h2, h3⟩ := hargs c
      unfold Cert.Reference4Ideal.Pv.argsR Cert.Kernel4Ideal.Pv.argsK
      rw [h0, h1, h2, h3]
    exact (θ_run Cert.Reference4Ideal.defs _ _).mono (fun r h c => ⟨(h.1 c).trans (by rw [e c]; rfl), (h.2.1 c).trans (by rw [e c]; rfl), (h.2.2.1 c).trans (by rw [e c]; rfl), (h.2.2.2.1 c).trans (by rw [e c]; rfl), (h.2.2.2.2.1 c).trans (by rw [e c]; rfl), (h.2.2.2.2.2.1 c).trans (by rw [e c]; rfl), (h.2.2.2.2.2.2 c).2.2.2.2.2.2⟩)
      (θ_run_and (Cert.Reference4Ideal.Pv.run_q m' g') (θ_run_and (Cert.Reference4Ideal.Pv.run_k m' g') (θ_run_and (Cert.Reference4Ideal.Pv.run_v m' g') (θ_run_and (Cert.Reference4Ideal.Pv.run_o m' g') (θ_run_and (Cert.Reference4Ideal.Pv.run_dd m' g') (θ_run_and (Cert.Reference4Ideal.Pv.run_gates m' g') (Cert.Reference4Ideal.Value.run (F := Ideal) m' g')))))))

theorem frame_k5 : Cert.quiescent_Kernel5 := fun m ρ _ => Cert.Kernel5.Gen.frame (F := Bits) m ρ

theorem frame_i5 : Cert.quiescent_Kernel5Ideal := fun m ρ _ => Cert.Kernel5Ideal.Gen.frame (F := Ideal) m ρ

theorem frame_r5 : Cert.quiescent_Reference5Ideal := fun m ρ _ =>
  (θ_run Cert.Reference5Ideal.defs _ _).mono (fun r h => ⟨fun c => (h c).2.2, sem_eq_zero_of_no_sems (by decide) r.2⟩)
    (Cert.Reference5Ideal.Value.run (F := Ideal) m ρ)

/-- The values of the projection back from the odd layer's mixers. -/
theorem algebraic5 : Cert.algebraic_Kernel5Ideal_Reference5Ideal := fun m g m' g' _ hargs => by
  refine ⟨fun c => fun i => (Cert.Kernel5Ideal.Pv.argsK m c).x1 (i 0) (i 1), fun c => fun i => (Cert.Kernel5Ideal.Pv.argsK m c).h1 (i 0) (i 1), ?_, ?_⟩
  · exact (θ_run Cert.Kernel5Ideal.defs _ _).mono (fun r h c => ⟨((h c).1).trans (Cert.Kernel5Ideal.Pv.final9 m c), ((h c).2.1).trans (Cert.Kernel5Ideal.Pv.final10 m c), (h c).2.2⟩)
      (Cert.Kernel5Ideal.Value.run_blocks (F := Ideal) m g)
  · have e : ∀ c, Cert.Reference5Ideal.Pv.argsR m' c = Cert.Kernel5Ideal.Pv.argsK m c := fun c => by
      obtain ⟨h0, h1, h2, h3, h4, h5⟩ := hargs c
      unfold Cert.Reference5Ideal.Pv.argsR Cert.Kernel5Ideal.Pv.argsK
      rw [h0, h1, h2, h3, h4, h5]
    exact (θ_run Cert.Reference5Ideal.defs _ _).mono (fun r h c => ⟨((h.1 c).1).trans (by rw [e c]; rfl), ((h.1 c).2).trans (by rw [e c]; rfl), (h.2 c).2.2⟩)
      (θ_run_and (Cert.Reference5Ideal.Pv.run_spec m' g') (Cert.Reference5Ideal.Value.run (F := Ideal) m' g'))

theorem frame_k6 : Cert.quiescent_Kernel6 := fun m ρ _ => Cert.Kernel6.Gen.frame (F := Bits) m ρ

theorem frame_i6 : Cert.quiescent_Kernel6Ideal := fun m ρ _ => Cert.Kernel6Ideal.Gen.frame (F := Ideal) m ρ

theorem frame_r6 : Cert.quiescent_Reference6Ideal := fun m ρ _ =>
  (θ_run Cert.Reference6Ideal.defs _ _).mono (fun r h => ⟨fun c => (h c).2.2.2.2.2.2, sem_eq_zero_of_no_sems (by decide) r.2⟩)
    (Cert.Reference6Ideal.Value.run (F := Ideal) m ρ)

/-- The values of the projection of the odd layer's context tokens. -/
theorem algebraic6 : Cert.algebraic_Kernel6Ideal_Reference6Ideal := fun m g m' g' _ hargs => by
  refine ⟨fun c => fun i => (Cert.Kernel6Ideal.Pv.argsK m c).q (i 0) (i 1), fun c => fun i => (Cert.Kernel6Ideal.Pv.argsK m c).k (i 0) (i 1), fun c => fun i => (Cert.Kernel6Ideal.Pv.argsK m c).v (i 0) (i 1), fun c => fun i => (Cert.Kernel6Ideal.Pv.argsK m c).o (i 0) (i 1), fun c => fun i => (Cert.Kernel6Ideal.Pv.argsK m c).dd (i 0) (i 1), fun c => fun i => (Cert.Kernel6Ideal.Pv.argsK m c).gates (i 0) (i 1), ?_, ?_⟩
  · exact (θ_run Cert.Kernel6Ideal.defs _ _).mono (fun r h c => ⟨((h c).1).trans (Cert.Kernel6Ideal.Pv.final5 m c), ((h c).2.1).trans (Cert.Kernel6Ideal.Pv.final6 m c), ((h c).2.2.1).trans (Cert.Kernel6Ideal.Pv.final7 m c), ((h c).2.2.2.1).trans (Cert.Kernel6Ideal.Pv.final8 m c), ((h c).2.2.2.2.1).trans (Cert.Kernel6Ideal.Pv.final9 m c), ((h c).2.2.2.2.2.1).trans (Cert.Kernel6Ideal.Pv.final10 m c), (h c).2.2.2.2.2.2⟩)
      (Cert.Kernel6Ideal.Value.run_blocks (F := Ideal) m g)
  · have e : ∀ c, Cert.Reference6Ideal.Pv.argsR m' c = Cert.Kernel6Ideal.Pv.argsK m c := fun c => by
      obtain ⟨h0, h1, h2, h3⟩ := hargs c
      unfold Cert.Reference6Ideal.Pv.argsR Cert.Kernel6Ideal.Pv.argsK
      rw [h0, h1, h2, h3]
    exact (θ_run Cert.Reference6Ideal.defs _ _).mono (fun r h c => ⟨(h.1 c).trans (by rw [e c]; rfl), (h.2.1 c).trans (by rw [e c]; rfl), (h.2.2.1 c).trans (by rw [e c]; rfl), (h.2.2.2.1 c).trans (by rw [e c]; rfl), (h.2.2.2.2.1 c).trans (by rw [e c]; rfl), (h.2.2.2.2.2.1 c).trans (by rw [e c]; rfl), (h.2.2.2.2.2.2 c).2.2.2.2.2.2⟩)
      (θ_run_and (Cert.Reference6Ideal.Pv.run_q m' g') (θ_run_and (Cert.Reference6Ideal.Pv.run_k m' g') (θ_run_and (Cert.Reference6Ideal.Pv.run_v m' g') (θ_run_and (Cert.Reference6Ideal.Pv.run_o m' g') (θ_run_and (Cert.Reference6Ideal.Pv.run_dd m' g') (θ_run_and (Cert.Reference6Ideal.Pv.run_gates m' g') (Cert.Reference6Ideal.Value.run (F := Ideal) m' g')))))))

theorem frame_k7 : Cert.quiescent_Kernel7 := fun m ρ _ => Cert.Kernel7.Gen.frame (F := Bits) m ρ

theorem frame_i7 : Cert.quiescent_Kernel7Ideal := fun m ρ _ => Cert.Kernel7Ideal.Gen.frame (F := Ideal) m ρ

theorem frame_r7 : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- The values of the modulations of a layer. -/
theorem algebraic7 : Cert.algebraic_Kernel7Ideal_Reference7Ideal := fun m g m' g' _ hargs => by
  refine ⟨fun c => fun i => (Cert.Kernel7Ideal.Pv.argsK m c).out (i 0) (i 1), ?_, ?_⟩
  · exact (θ_run Cert.Kernel7Ideal.defs _ _).mono (fun r h c => ⟨((h c).1).trans (Cert.Kernel7Ideal.Pv.final3 m c), (h c).2⟩)
      (Cert.Kernel7Ideal.Value.run_blocks (F := Ideal) m g)
  · have e : ∀ c, Cert.Reference7Ideal.Pv.argsR m' c = Cert.Kernel7Ideal.Pv.argsK m c := fun c => by
      obtain ⟨h0, h1, h2, h3⟩ := hargs c
      unfold Cert.Reference7Ideal.Pv.argsR Cert.Kernel7Ideal.Pv.argsK
      rw [h0, h1, h2, h3]
    exact (θ_run Cert.Reference7Ideal.defs _ _).mono (fun r h c => ⟨((h.1 c)).trans (by rw [e c]; rfl), (h.2 c).2⟩)
      (θ_run_and (Cert.Reference7Ideal.Pv.run_spec m' g') (Cert.Reference7Ideal.Value.run (F := Ideal) m' g'))

theorem frame_k8 : Cert.quiescent_Kernel8 := fun m ρ _ => Cert.Kernel8.Gen.frame (F := Bits) m ρ

theorem frame_i8 : Cert.quiescent_Kernel8Ideal := fun m ρ _ => Cert.Kernel8Ideal.Gen.frame (F := Ideal) m ρ

theorem frame_r8 : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

/-- The facts the precondition's text takes. -/
instance facts_finite_tokens : Cert.Pre_finite_tokens.Facts where
  bcast_S_S32768x512 := by decide

theorem frame_i8_pre : Cert.quiescent_Kernel8Ideal_pre_finite_tokens := fun m ρ _ => Cert.Kernel8Ideal.Gen.frame (F := Ideal) m ρ

theorem frame_r8_pre : Cert.quiescent_Reference8Ideal_pre_finite_tokens := fun m ρ _ => frame_r8 m ρ trivial

/-- Under the precondition the tokens are numbers. -/
theorem finite_of_pre (m : (ℓ : Loc Cert.Kernel8Ideal.nD Cert.Kernel8Ideal.τ Cert.Kernel8Ideal.sig) → Buf (Elt Ideal) ℓ)
    (hp : Cert.Pre_Kernel8Ideal_finite_tokens m) (c : Dev Cert.Kernel8Ideal.nD) (i) : ∃ y : ℝ, (Cert.Kernel8Ideal.Pv.argsK m c).X i = (y : EReal) :=
  Cert.Proj.Pool.real_of_lt _ (congrFun (hp c) i)

/-- The values of the pooling mixer of the odd layer. -/
theorem algebraic8 : Cert.algebraic_Kernel8Ideal_Reference8Ideal_pre_finite_tokens := fun m g m' g' hp hargs => by
  refine ⟨fun c => fun i => (Cert.Kernel8Ideal.Pv.argsK m c).out (i 0) (i 1), ?_, ?_⟩
  · exact (θ_run Cert.Kernel8Ideal.defs _ _).mono (fun r h c => ⟨((h c).1).trans (Cert.Kernel8Ideal.Pv.final3 m c (finite_of_pre m hp c)), (h c).2⟩)
      (Cert.Kernel8Ideal.Value.run_blocks (F := Ideal) m g)
  · have e : ∀ c, Cert.Reference8Ideal.Pv.argsR m' c = Cert.Kernel8Ideal.Pv.argsK m c := fun c => by
      obtain ⟨h0, h1, h2⟩ := hargs c
      unfold Cert.Reference8Ideal.Pv.argsR Cert.Kernel8Ideal.Pv.argsK
      rw [h0, h1, h2]
    exact (θ_run Cert.Reference8Ideal.defs _ _).mono (fun r h c => ⟨((h.1 c)).trans (by rw [e c]; rfl), (h.2 c).2⟩)
      (θ_run_and (Cert.Reference8Ideal.Pv.run_spec m' g') (Cert.Reference8Ideal.Value.run (F := Ideal) m' g'))

theorem frame_k9 : Cert.quiescent_Kernel9 := fun m ρ _ => Cert.Kernel9.Gen.frame (F := Bits) m ρ

theorem frame_i9 : Cert.quiescent_Kernel9Ideal := fun m ρ _ => Cert.Kernel9Ideal.Gen.frame (F := Ideal) m ρ

theorem frame_r9 : Cert.quiescent_Reference9Ideal := fun m ρ _ =>
  (θ_run Cert.Reference9Ideal.defs _ _).mono (fun r h => ⟨fun c => (h c).2.2, sem_eq_zero_of_no_sems (by decide) r.2⟩)
    (Cert.Reference9Ideal.Pv.run_spec m ρ)

/-- The facts the gates' precondition takes. -/
instance facts_finite_gates : Cert.Pre_finite_gates.Facts where
  slices_S16x256x128_S16x256x8_0_0_0 := by decide
  slices_S8x128_S1x8_0_0 := by decide
  shapeCasts_S1x8_S8 := by decide
  bcast_S8_S1x1x8_2 := by decide
  bcast_S1x1x8_S16x256x8_0_1_2 := by decide
  bcast_S_S16x256x8 := by decide
  slices_S16x256x128_S16x256x8_0_0_8 := by decide
  slices_S8x128_S1x8_1_8 := by decide

theorem frame_i9_pre : Cert.quiescent_Kernel9Ideal_pre_finite_gates := fun m ρ _ => Cert.Kernel9Ideal.Gen.frame (F := Ideal) m ρ

theorem frame_r9_pre : Cert.quiescent_Reference9Ideal_pre_finite_gates := fun m ρ _ => frame_r9 m ρ trivial

/-- Two bits that are both set. -/
theorem both_set : ∀ a b : BitVec 1, IntOp.andi a b = 1#1 → a = 1#1 ∧ b = 1#1 := by decide

/-- What the gates' precondition says at one entry. -/
theorem gates_entry (x : FVec Ideal Cert.Pre_finite_gates.S16x256x128 .f32) (y : FVec Ideal Cert.Pre_finite_gates.S8x128 .f32)
    (b : Fin 16) (t : Fin 256) (l : Fin 8) :
    Cert.Pre_finite_gates.fn x y (ix3 b t l)
      = IntOp.andi (Ideal.cmp .olt (max (x (ix3 b t (⟨l.val, by omega⟩ : Fin 128)) + y (ix2 0 (⟨l.val, by omega⟩ : Fin 128))) (-(x (ix3 b t (⟨l.val, by omega⟩ : Fin 128)) + y (ix2 0 (⟨l.val, by omega⟩ : Fin 128))))) (Ideal.ofBits .f32 0x7F800000#32))
        (Ideal.cmp .olt (max (x (ix3 b t (⟨8 + l.val, by omega⟩ : Fin 128)) + y (ix2 1 (⟨8 + l.val, by omega⟩ : Fin 128))) (-(x (ix3 b t (⟨8 + l.val, by omega⟩ : Fin 128)) + y (ix2 1 (⟨8 + l.val, by omega⟩ : Fin 128))))) (Ideal.ofBits .f32 0x7F800000#32)) := by
  pointwise [Cert.Pre_finite_gates.fn, constant]
  rfl

/-- Under the precondition the gates are numbers. -/
theorem finite_of_gates (m : (ℓ : Loc Cert.Kernel9Ideal.nD Cert.Kernel9Ideal.τ Cert.Kernel9Ideal.sig) → Buf (Elt Ideal) ℓ)
    (hp : Cert.Pre_Kernel9Ideal_finite_gates m) (c : Dev Cert.Kernel9Ideal.nD) : (Cert.Kernel9Ideal.Pv.argsK m c).Finite := fun b t l => by
  have h := both_set _ _ ((gates_entry _ _ b t l).symm.trans (congrFun (hp c) (ix3 b t l)))
  exact ⟨Cert.Proj.Pool.real_of_lt _ h.1, Cert.Proj.Pool.real_of_lt _ h.2⟩

/-- The values of the mLSTM's gates over the context tokens. -/
theorem algebraic9 : Cert.algebraic_Kernel9Ideal_Reference9Ideal_pre_finite_gates := fun m g m' g' hp hargs => by
  refine ⟨fun c => fun i => (Cert.Kernel9Ideal.Pv.argsK m c).col (i 0) (i 1) (i 2), fun c => fun i => (Cert.Kernel9Ideal.Pv.argsK m c).row (i 0) (i 1) (i 2) (i 3), ?_, ?_⟩
  · exact (θ_run Cert.Kernel9Ideal.defs _ _).mono (fun r h c => ⟨((h c).1).trans (Cert.Kernel9Ideal.Pv.final2 c m (finite_of_gates m hp c)),
        ((h c).2.1).trans (Cert.Kernel9Ideal.Pv.final3 c m (finite_of_gates m hp c)), (h c).2.2⟩)
      (Cert.Kernel9Ideal.Value.run_blocks (F := Ideal) m g)
  · have e : ∀ c, Cert.Reference9Ideal.Pv.argsR m' c = Cert.Kernel9Ideal.Pv.argsK m c := fun c => by
      obtain ⟨h0, h1⟩ := hargs c
      unfold Cert.Reference9Ideal.Pv.argsR Cert.Kernel9Ideal.Pv.argsK
      rw [h0, h1]
    exact (θ_run Cert.Reference9Ideal.defs _ _).mono (fun r h c => ⟨((h c).1).trans (by rw [e c]; rfl), ((h c).2.1).trans (by rw [e c]; rfl), (h c).2.2⟩)
      (Cert.Reference9Ideal.Pv.run_spec m' g')

theorem frame_k10 : Cert.quiescent_Kernel10 := fun m ρ _ => Cert.Kernel10.Gen.frame (F := Bits) m ρ

theorem frame_i10 : Cert.quiescent_Kernel10Ideal := fun m ρ _ => Cert.Kernel10Ideal.Gen.frame (F := Ideal) m ρ

theorem frame_r10 : Cert.quiescent_Reference10Ideal := fun m ρ _ =>
  (θ_run Cert.Reference10Ideal.defs _ _).mono (fun r h => ⟨fun c => (h c).2.2, sem_eq_zero_of_no_sems (by decide) r.2⟩)
    (Cert.Reference10Ideal.Pv.run_spec m ρ)

/-- The facts the latent gates' precondition takes. -/
instance facts_finite_latent_gates : Cert.Pre_finite_latent_gates.Facts where
  slices_S16x2048x128_S16x2048x8_0_0_0 := by decide
  slices_S8x128_S1x8_0_0 := by decide
  shapeCasts_S1x8_S8 := by decide
  bcast_S8_S1x1x8_2 := by decide
  bcast_S1x1x8_S16x2048x8_0_1_2 := by decide
  bcast_S_S16x2048x8 := by decide
  slices_S16x2048x128_S16x2048x8_0_0_8 := by decide
  slices_S8x128_S1x8_1_8 := by decide

theorem frame_i10_pre : Cert.quiescent_Kernel10Ideal_pre_finite_latent_gates := fun m ρ _ => Cert.Kernel10Ideal.Gen.frame (F := Ideal) m ρ

theorem frame_r10_pre : Cert.quiescent_Reference10Ideal_pre_finite_latent_gates := fun m ρ _ => frame_r10 m ρ trivial

/-- What the latent gates' precondition says at one entry. -/
theorem latent_entry (x : FVec Ideal Cert.Pre_finite_latent_gates.S16x2048x128 .f32) (y : FVec Ideal Cert.Pre_finite_latent_gates.S8x128 .f32)
    (b : Fin 16) (t : Fin 2048) (l : Fin 8) :
    Cert.Pre_finite_latent_gates.fn x y (ix3 b t l)
      = IntOp.andi (Ideal.cmp .olt (max (x (ix3 b t (⟨l.val, by omega⟩ : Fin 128)) + y (ix2 0 (⟨l.val, by omega⟩ : Fin 128))) (-(x (ix3 b t (⟨l.val, by omega⟩ : Fin 128)) + y (ix2 0 (⟨l.val, by omega⟩ : Fin 128))))) (Ideal.ofBits .f32 0x7F800000#32))
        (Ideal.cmp .olt (max (x (ix3 b t (⟨8 + l.val, by omega⟩ : Fin 128)) + y (ix2 1 (⟨8 + l.val, by omega⟩ : Fin 128))) (-(x (ix3 b t (⟨8 + l.val, by omega⟩ : Fin 128)) + y (ix2 1 (⟨8 + l.val, by omega⟩ : Fin 128))))) (Ideal.ofBits .f32 0x7F800000#32)) := by
  pointwise [Cert.Pre_finite_latent_gates.fn, constant]
  rfl

/-- Under the precondition the latent gates are numbers. -/
theorem finite_of_latent (m : (ℓ : Loc Cert.Kernel10Ideal.nD Cert.Kernel10Ideal.τ Cert.Kernel10Ideal.sig) → Buf (Elt Ideal) ℓ)
    (hp : Cert.Pre_Kernel10Ideal_finite_latent_gates m) (c : Dev Cert.Kernel10Ideal.nD) : (Cert.Kernel10Ideal.Pv.argsK m c).Finite := fun b t l => by
  have h := both_set _ _ ((latent_entry _ _ b t l).symm.trans (congrFun (hp c) (ix3 b t l)))
  exact ⟨Cert.Proj.Pool.real_of_lt _ h.1, Cert.Proj.Pool.real_of_lt _ h.2⟩

/-- The values of the mLSTM's gates over the latent tokens. -/
theorem algebraic10 : Cert.algebraic_Kernel10Ideal_Reference10Ideal_pre_finite_latent_gates := fun m g m' g' hp hargs => by
  refine ⟨fun c => fun i => (Cert.Kernel10Ideal.Pv.argsK m c).col (i 0) (i 1) (i 2), fun c => fun i => (Cert.Kernel10Ideal.Pv.argsK m c).row (i 0) (i 1) (i 2) (i 3), ?_, ?_⟩
  · exact (θ_run Cert.Kernel10Ideal.defs _ _).mono (fun r h c => ⟨((h c).1).trans (Cert.Kernel10Ideal.Pv.final2 c m (finite_of_latent m hp c)),
        ((h c).2.1).trans (Cert.Kernel10Ideal.Pv.final3 c m (finite_of_latent m hp c)), (h c).2.2⟩)
      (Cert.Kernel10Ideal.Value.run_blocks (F := Ideal) m g)
  · have e : ∀ c, Cert.Reference10Ideal.Pv.argsR m' c = Cert.Kernel10Ideal.Pv.argsK m c := fun c => by
      obtain ⟨h0, h1⟩ := hargs c
      unfold Cert.Reference10Ideal.Pv.argsR Cert.Kernel10Ideal.Pv.argsK
      rw [h0, h1]
    exact (θ_run Cert.Reference10Ideal.defs _ _).mono (fun r h c => ⟨((h c).1).trans (by rw [e c]; rfl), ((h c).2.1).trans (by rw [e c]; rfl), (h c).2.2⟩)
      (Cert.Reference10Ideal.Pv.run_spec m' g')

theorem frame_k11 : Cert.quiescent_Kernel11 := fun m ρ _ => Cert.Kernel11.Gen.frame (F := Bits) m ρ

theorem frame_i11 : Cert.quiescent_Kernel11Ideal := fun m ρ _ => Cert.Kernel11Ideal.Gen.frame (F := Ideal) m ρ

theorem frame_r11 : Cert.quiescent_Reference11Ideal := fun m ρ _ =>
  (θ_run Cert.Reference11Ideal.defs _ _).mono (fun r h => ⟨fun c => (h c).2.2, sem_eq_zero_of_no_sems (by decide) r.2⟩)
    (Cert.Reference11Ideal.Pv.run_spec m ρ)

/-- The facts the decays' precondition takes. -/
instance facts_finite_decays : Cert.Pre_finite_decays.Facts where
  slices_S8x128_S1x8_0_0 := by decide
  shapeCasts_S1x8_S8 := by decide
  slices_S16x2304x128_S16x2304x8_0_0_0 := by decide
  slices_S8x128_S1x8_1_0 := by decide
  bcast_S8_S1x1x8_2 := by decide
  bcast_S1x1x8_S16x2304x8_0_1_2 := by decide
  bcast_S_S16x2304x8 := by decide

theorem frame_i11_pre : Cert.quiescent_Kernel11Ideal_pre_finite_decays := fun m ρ _ => Cert.Kernel11Ideal.Gen.frame (F := Ideal) m ρ

theorem frame_r11_pre : Cert.quiescent_Reference11Ideal_pre_finite_decays := fun m ρ _ => frame_r11 m ρ trivial

/-- The softplus that the precondition takes, at one entry. -/
theorem softplus_entry (z : FVec Ideal Cert.Pre_finite_decays.S16x2304x8 .f32) (b : Fin 16) (t : Fin 2304) (l : Fin 8) :
    Cert.Pre_finite_decays.fn_softplus z (ix3 b t l) = Cert.Proj.Decays.sp (z (ix3 b t l)) := by
  pointwise [Cert.Pre_finite_decays.fn_softplus, constant]
  rw [if_neg (fun h => h rfl)]
  rfl

/-- The decay's logarithm that the precondition takes the size of. -/
def size (x : FVec Ideal Cert.Pre_finite_decays.S16x2304x128 .f32) (y : FVec Ideal Cert.Pre_finite_decays.S8x128 .f32) (b : Fin 16) (t : Fin 2304) (l : Fin 8) : EReal :=
  Ideal.exp (y (ix2 0 (⟨l.val, by omega⟩ : Fin 128))) * Cert.Proj.Decays.sp (x (ix3 b t (⟨l.val, by omega⟩ : Fin 128)) + y (ix2 1 (⟨l.val, by omega⟩ : Fin 128)))

/-- What the decays' precondition says at one entry. -/
theorem decays_entry (x : FVec Ideal Cert.Pre_finite_decays.S16x2304x128 .f32) (y : FVec Ideal Cert.Pre_finite_decays.S8x128 .f32) (b : Fin 16) (t : Fin 2304) (l : Fin 8) :
    Cert.Pre_finite_decays.fn x y (ix3 b t l) = Ideal.cmp .olt (max (size x y b t l) (-size x y b t l)) (Ideal.ofBits .f32 0x7F800000#32) := by
  pointwise [Cert.Pre_finite_decays.fn, constant]
  rw [softplus_entry]
  pointwise
  rfl

/-- Under the precondition the decays' logarithms are numbers. -/
theorem finite_of_decays (m : (ℓ : Loc Cert.Kernel11Ideal.nD Cert.Kernel11Ideal.τ Cert.Kernel11Ideal.sig) → Buf (Elt Ideal) ℓ)
    (hp : Cert.Pre_Kernel11Ideal_finite_decays m) (c : Dev Cert.Kernel11Ideal.nD) : (Cert.Kernel11Ideal.Pv.argsK m c).Finite := fun b t l =>
  Cert.Proj.Pool.real_of_lt _ ((decays_entry _ _ b t l).symm.trans (congrFun (hp c) (ix3 b t l)))

/-- The values of the gated delta rule's gates. -/
theorem algebraic11 : Cert.algebraic_Kernel11Ideal_Reference11Ideal_pre_finite_decays := fun m g m' g' hp hargs => by
  refine ⟨fun c => fun i => (Cert.Kernel11Ideal.Pv.argsK m c).col (i 0) (i 1) (i 2), fun c => fun i => (Cert.Kernel11Ideal.Pv.argsK m c).row (i 0) (i 1) (i 2) (i 3), ?_, ?_⟩
  · exact (θ_run Cert.Kernel11Ideal.defs _ _).mono (fun r h c => ⟨((h c).1).trans (Cert.Kernel11Ideal.Pv.final2 c m (finite_of_decays m hp c)),
        ((h c).2.1).trans (Cert.Kernel11Ideal.Pv.final3 c m (finite_of_decays m hp c)), (h c).2.2⟩)
      (Cert.Kernel11Ideal.Value.run_blocks (F := Ideal) m g)
  · have e : ∀ c, Cert.Reference11Ideal.Pv.argsR m' c = Cert.Kernel11Ideal.Pv.argsK m c := fun c => by
      obtain ⟨h0, h1⟩ := hargs c
      unfold Cert.Reference11Ideal.Pv.argsR Cert.Kernel11Ideal.Pv.argsK
      rw [h0, h1]
    exact (θ_run Cert.Reference11Ideal.defs _ _).mono (fun r h c => ⟨((h c).1).trans (by rw [e c]; rfl), ((h c).2.1).trans (by rw [e c]; rfl), (h c).2.2⟩)
      (Cert.Reference11Ideal.Pv.run_spec m' g')

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, facts_finite_tokens, facts_finite_gates, facts_finite_latent_gates, facts_finite_decays,
  frame_k, frame_i, frame_r, frame_k2, frame_i2, frame_r2, frame_k3, frame_i3, frame_r3, frame_k4, frame_i4, frame_r4, frame_k5, frame_i5, frame_r5, frame_k6, frame_i6, frame_r6, frame_k7, frame_i7, frame_r7,
  frame_k8, frame_i8, frame_i8_pre, frame_r8, frame_r8_pre, frame_k9, frame_i9, frame_i9_pre, frame_r9, frame_r9_pre, frame_k10, frame_i10, frame_i10_pre, frame_r10, frame_r10_pre, frame_k11, frame_i11, frame_i11_pre, frame_r11, frame_r11_pre,
  preserves, algebraic, trivial, algebraic2, trivial, algebraic3, trivial, algebraic4, trivial, algebraic5, trivial, algebraic6, trivial, algebraic7, trivial, algebraic8, trivial, algebraic9, trivial, algebraic10, trivial, algebraic11⟩

end Cert.Proof

end
